-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.sign_bit.MaskStatement Cert.KernelIdeal.S32x8x256 .f32

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S64x3x1024 : Shape := ⟨3, ![64, 3, 1024]⟩
abbrev S10000x3x11 : Shape := ⟨3, ![10000, 3, 11]⟩
abbrev S10000 : Shape := ⟨1, ![10000]⟩
abbrev S10000x1x1 : Shape := ⟨3, ![10000, 1, 1]⟩
abbrev S11 : Shape := ⟨1, ![11]⟩
abbrev S1x1x11 : Shape := ⟨3, ![1, 1, 11]⟩
abbrev S10000x1x11 : Shape := ⟨3, ![10000, 1, 11]⟩
abbrev S_ : Shape := ⟨0, ![]⟩
abbrev S1x11x1 : Shape := ⟨3, ![1, 11, 1]⟩
abbrev S1024 : Shape := ⟨1, ![1024]⟩
abbrev S1x1x1024 : Shape := ⟨3, ![1, 1, 1024]⟩
abbrev S10000x11x1 : Shape := ⟨3, ![10000, 11, 1]⟩
abbrev S10000x11x1024 : Shape := ⟨3, ![10000, 11, 1024]⟩
abbrev S10000x11x1024x1 : Shape := ⟨4, ![10000, 11, 1024, 1]⟩
abbrev S64x3x10000x11x1024 : Shape := ⟨5, ![64, 3, 10000, 11, 1024]⟩
abbrev S3x10000x11 : Shape := ⟨3, ![3, 10000, 11]⟩
abbrev S1x3x10000x11x1 : Shape := ⟨5, ![1, 3, 10000, 11, 1]⟩
abbrev S64x10000x1024 : Shape := ⟨3, ![64, 10000, 1024]⟩
abbrev S1x10000x1 : Shape := ⟨3, ![1, 10000, 1]⟩

class Facts : Prop where
  bcast_S10000_S10000x1x1_0 : S10000.BroadcastsInDim S10000x1x1 (![0] : Fin 1 → Fin S10000x1x1.rank)
  bcast_S11_S1x1x11_2 : S11.BroadcastsInDim S1x1x11 (![2] : Fin 1 → Fin S1x1x11.rank)
  bcast_S1x1x11_S10000x1x11_0_1_2 : S1x1x11.BroadcastsInDim S10000x1x11 (![0, 1, 2] : Fin 3 → Fin S10000x1x11.rank)
  bcast_S10000x1x1_S10000x1x11_0_1_2 : S10000x1x1.BroadcastsInDim S10000x1x11 (![0, 1, 2] : Fin 3 → Fin S10000x1x11.rank)
  bcast_S_S10000x3x11 : S_.BroadcastsInDim S10000x3x11 (![] : Fin 0 → Fin S10000x3x11.rank)
  bcast_S10000x1x11_S10000x3x11_0_1_2 : S10000x1x11.BroadcastsInDim S10000x3x11 (![0, 1, 2] : Fin 3 → Fin S10000x3x11.rank)
  bcast_S11_S1x11x1_1 : S11.BroadcastsInDim S1x11x1 (![1] : Fin 1 → Fin S1x11x1.rank)
  bcast_S1024_S1x1x1024_2 : S1024.BroadcastsInDim S1x1x1024 (![2] : Fin 1 → Fin S1x1x1024.rank)
  bcast_S1x11x1_S10000x11x1_0_1_2 : S1x11x1.BroadcastsInDim S10000x11x1 (![0, 1, 2] : Fin 3 → Fin S10000x11x1.rank)
  bcast_S10000x1x1_S10000x11x1_0_1_2 : S10000x1x1.BroadcastsInDim S10000x11x1 (![0, 1, 2] : Fin 3 → Fin S10000x11x1.rank)
  bcast_S1x1x1024_S10000x11x1024_0_1_2 : S1x1x1024.BroadcastsInDim S10000x11x1024 (![0, 1, 2] : Fin 3 → Fin S10000x11x1024.rank)
  bcast_S10000x11x1_S10000x11x1024_0_1_2 : S10000x11x1.BroadcastsInDim S10000x11x1024 (![0, 1, 2] : Fin 3 → Fin S10000x11x1024.rank)
  bcast_S_S10000x11x1024 : S_.BroadcastsInDim S10000x11x1024 (![] : Fin 0 → Fin S10000x11x1024.rank)
  bcast_S10000x11x1024_S10000x11x1024x1_0_1_2 : S10000x11x1024.BroadcastsInDim S10000x11x1024x1 (![0, 1, 2] : Fin 3 → Fin S10000x11x1024x1.rank)
  bcast_S10000x11x1024_S64x3x10000x11x1024_2_3_4 : S10000x11x1024.BroadcastsInDim S64x3x10000x11x1024 (![2, 3, 4] : Fin 3 → Fin S64x3x10000x11x1024.rank)
  bcast_S_S64x3x10000x11x1024 : S_.BroadcastsInDim S64x3x10000x11x1024 (![] : Fin 0 → Fin S64x3x10000x11x1024.rank)
  transposes_S10000x3x11_S3x10000x11_1_0_2 : S10000x3x11.Transposes [1, 0, 2] S3x10000x11
  bcast_S3x10000x11_S1x3x10000x11x1_1_2_3 : S3x10000x11.BroadcastsInDim S1x3x10000x11x1 (![1, 2, 3] : Fin 3 → Fin S1x3x10000x11x1.rank)
  bcast_S1x3x10000x11x1_S64x3x10000x11x1024_0_1_2_3_4 : S1x3x10000x11x1.BroadcastsInDim S64x3x10000x11x1024 (![0, 1, 2, 3, 4] : Fin 5 → Fin S64x3x10000x11x1024.rank)
  reducesTo_S64x3x10000x11x1024_S64x10000x1024_d1_3 : S64x3x10000x11x1024.ReducesTo [1, 3] S64x10000x1024
  h_S_ : 0 < S_.numel
  bcast_S10000_S1x10000x1_1 : S10000.BroadcastsInDim S1x10000x1 (![1] : Fin 1 → Fin S1x10000x1.rank)
  bcast_S1x10000x1_S64x10000x1024_0_1_2 : S1x10000x1.BroadcastsInDim S64x10000x1024 (![0, 1, 2] : Fin 3 → Fin S64x10000x1024.rank)
  bcast_S_S64x10000x1024 : S_.BroadcastsInDim S64x10000x1024 (![] : Fin 0 → Fin S64x10000x1024.rank)
  gather_S64x3x1024_S10000x11x1024x1_S64x3x10000x11x1024_01_2_n_n_2_3_6431_wf : GatherDims.WF S64x3x1024 S10000x11x1024x1 S64x3x10000x11x1024 [0, 1] [2] [] [2] [] 3 ![64, 3, 1]

variable [Facts]

def gather_S64x3x1024_S10000x11x1024x1_S64x3x10000x11x1024_01_2_n_n_2_3_6431 : GatherDims S64x3x1024 S10000x11x1024x1 S64x3x10000x11x1024 where
  offsetDims := [0, 1]
  collapsedSliceDims := [2]
  operandBatchingDims := []
  startIndicesBatchingDims := []
  startIndexMap := [2]
  indexVectorDim := 3
  sliceSizes := ![64, 3, 1]
  wf := gather_S64x3x1024_S10000x11x1024x1_S64x3x10000x11x1024_01_2_n_n_2_3_6431_wf

noncomputable abbrev lit0t0_0 (i : Nat) : BitVec 32 := match i % 128 with
  | 0 => 11#32
  | 1 => 9#32
  | 2 => 9#32
  | 3 => 7#32
  | 4 => 7#32
  | 5 => 7#32
  | 6 => 7#32
  | 7 => 7#32
  | 8 => 7#32
  | 9 => 11#32
  | 10 => 9#32
  | 11 => 11#32
  | 12 => 9#32
  | 13 => 9#32
  | 14 => 11#32
  | 15 => 11#32
  | 16 => 9#32
  | 17 => 9#32
  | 18 => 9#32
  | 19 => 11#32
  | 20 => 7#32
  | 21 => 11#32
  | 22 => 11#32
  | 23 => 7#32
  | 24 => 9#32
  | 25 => 11#32
  | 26 => 9#32
  | 27 => 7#32
  | 28 => 11#32
  | 29 => 11#32
  | 30 => 11#32
  | 31 => 7#32
  | 32 => 7#32
  | 33 => 11#32
  | 34 => 7#32
  | 35 => 9#32
  | 36 => 7#32
  | 37 => 7#32
  | 38 => 9#32
  | 39 => 9#32
  | 40 => 9#32
  | 41 => 7#32
  | 42 => 7#32
  | 43 => 7#32
  | 44 => 7#32
  | 45 => 11#32
  | 46 => 9#32
  | 47 => 9#32
  | 48 => 7#32
  | 49 => 9#32
  | 50 => 11#32
  | 51 => 9#32
  | 52 => 9#32
  | 53 => 11#32
  | 54 => 11#32
  | 55 => 11#32
  | 56 => 9#32
  | 57 => 11#32
  | 58 => 11#32
  | 59 => 9#32
  | 60 => 11#32
  | 61 => 11#32
  | 62 => 11#32
  | 63 => 9#32
  | 64 => 11#32
  | 65 => 7#32
  | 66 => 9#32
  | 67 => 11#32
  | 68 => 11#32
  | 69 => 9#32
  | 70 => 9#32
  | 71 => 7#32
  | 72 => 9#32
  | 73 => 9#32
  | 74 => 11#32
  | 75 => 11#32
  | 76 => 7#32
  | 77 => 11#32
  | 78 => 9#32
  | 79 => 9#32
  | 80 => 11#32
  | 81 => 9#32
  | 82 => 7#32
  | 83 => 7#32
  | 84 => 11#32
  | 85 => 9#32
  | 86 => 9#32
  | 87 => 9#32
  | 88 => 11#32
  | 89 => 9#32
  | 90 => 7#32
  | 91 => 11#32
  | 92 => 7#32
  | 93 => 7#32
  | 94 => 11#32
  | 95 => 9#32
  | 96 => 7#32
  | 97 => 7#32
  | 98 => 9#32
  | 99 => 11#32
  | 100 => 9#32
  | 101 => 11#32
  | 102 => 7#32
  | 103 => 7#32
  | 104 => 11#32
  | 105 => 11#32
  | 106 => 7#32
  | 107 => 7#32
  | 108 => 11#32
  | 109 => 9#32
  | 110 => 9#32
  | 111 => 7#32
  | 112 => 11#32
  | 113 => 9#32
  | 114 => 11#32
  | 115 => 11#32
  | 116 => 11#32
  | 117 => 7#32
  | 118 => 11#32
  | 119 => 7#32
  | 120 => 9#32
  | 121 => 9#32
  | 122 => 11#32
  | 123 => 7#32
  | 124 => 11#32
  | 125 => 7#32
  | 126 => 9#32
  | 127 => 9#32
  | _ => 0#32

noncomputable abbrev lit0t0_1 (i : Nat) : BitVec 32 := match i % 128 with
  | 0 => 11#32
  | 1 => 7#32
  | 2 => 11#32
  | 3 => 11#32
  | 4 => 11#32
  | 5 => 7#32
  | 6 => 11#32
  | 7 => 11#32
  | 8 => 7#32
  | 9 => 9#32
  | 10 => 9#32
  | 11 => 7#32
  | 12 => 9#32
  | 13 => 9#32
  | 14 => 11#32
  | 15 => 11#32
  | 16 => 9#32
  | 17 => 9#32
  | 18 => 9#32
  | 19 => 11#32
  | 20 => 7#32
  | 21 => 9#32
  | 22 => 7#32
  | 23 => 9#32
  | 24 => 11#32
  | 25 => 9#32
  | 26 => 9#32
  | 27 => 11#32
  | 28 => 9#32
  | 29 => 11#32
  | 30 => 7#32
  | 31 => 9#32
  | 32 => 11#32
  | 33 => 11#32
  | 34 => 9#32
  | 35 => 9#32
  | 36 => 9#32
  | 37 => 9#32
  | 38 => 7#32
  | 39 => 11#32
  | 40 => 7#32
  | 41 => 9#32
  | 42 => 7#32
  | 43 => 11#32
  | 44 => 11#32
  | 45 => 11#32
  | 46 => 11#32
  | 47 => 11#32
  | 48 => 7#32
  | 49 => 7#32
  | 50 => 7#32
  | 51 => 11#32
  | 52 => 11#32
  | 53 => 11#32
  | 54 => 11#32
  | 55 => 11#32
  | 56 => 11#32
  | 57 => 7#32
  | 58 => 7#32
  | 59 => 11#32
  | 60 => 7#32
  | 61 => 11#32
  | 62 => 11#32
  | 63 => 11#32
  | 64 => 9#32
  | 65 => 7#32
  | 66 => 9#32
  | 67 => 11#32
  | 68 => 9#32
  | 69 => 11#32
  | 70 => 9#32
  | 71 => 11#32
  | 72 => 7#32
  | 73 => 9#32
  | 74 => 7#32
  | 75 => 7#32
  | 76 => 11#32
  | 77 => 11#32
  | 78 => 7#32
  | 79 => 11#32
  | 80 => 11#32
  | 81 => 7#32
  | 82 => 9#32
  | 83 => 9#32
  | 84 => 9#32
  | 85 => 9#32
  | 86 => 7#32
  | 87 => 11#32
  | 88 => 11#32
  | 89 => 7#32
  | 90 => 11#32
  | 91 => 11#32
  | 92 => 7#32
  | 93 => 9#32
  | 94 => 9#32
  | 95 => 7#32
  | 96 => 11#32
  | 97 => 11#32
  | 98 => 7#32
  | 99 => 7#32
  | 100 => 7#32
  | 101 => 11#32
  | 102 => 7#32
  | 103 => 9#32
  | 104 => 11#32
  | 105 => 11#32
  | 106 => 7#32
  | 107 => 7#32
  | 108 => 9#32
  | 109 => 11#32
  | 110 => 9#32
  | 111 => 7#32
  | 112 => 9#32
  | 113 => 9#32
  | 114 => 7#32
  | 115 => 9#32
  | 116 => 11#32
  | 117 => 11#32
  | 118 => 7#32
  | 119 => 9#32
  | 120 => 11#32
  | 121 => 7#32
  | 122 => 7#32
  | 123 => 7#32
  | 124 => 7#32
  | 125 => 11#32
  | 126 => 7#32
  | 127 => 7#32
  | _ => 0#32

noncomputable abbrev lit0t0_2 (i : Nat) : BitVec 32 := match i % 128 with
  | 0 => 7#32
  | 1 => 7#32
  | 2 => 11#32
  | 3 => 7#32
  | 4 => 11#32
  | 5 => 9#32
  | 6 => 11#32
  | 7 => 9#32
  | 8 => 11#32
  | 9 => 11#32
  | 10 => 7#32
  | 11 => 9#32
  | 12 => 9#32
  | 13 => 7#32
  | 14 => 9#32
  | 15 => 9#32
  | 16 => 9#32
  | 17 => 11#32
  | 18 => 11#32
  | 19 => 9#32
  | 20 => 11#32
  | 21 => 11#32
  | 22 => 9#32
  | 23 => 9#32
  | 24 => 7#32
  | 25 => 9#32
  | 26 => 7#32
  | 27 => 9#32
  | 28 => 7#32
  | 29 => 11#32
  | 30 => 11#32
  | 31 => 7#32
  | 32 => 11#32
  | 33 => 9#32
  | 34 => 7#32
  | 35 => 11#32
  | 36 => 11#32
  | 37 => 7#32
  | 38 => 9#32
  | 39 => 11#32
  | 40 => 11#32
  | 41 => 9#32
  | 42 => 11#32
  | 43 => 11#32
  | 44 => 7#32
  | 45 => 7#32
  | 46 => 7#32
  | 47 => 9#32
  | 48 => 7#32
  | 49 => 7#32
  | 50 => 7#32
  | 51 => 9#32
  | 52 => 9#32
  | 53 => 7#32
  | 54 => 11#32
  | 55 => 11#32
  | 56 => 9#32
  | 57 => 11#32
  | 58 => 11#32
  | 59 => 7#32
  | 60 => 7#32
  | 61 => 11#32
  | 62 => 9#32
  | 63 => 7#32
  | 64 => 9#32
  | 65 => 9#32
  | 66 => 9#32
  | 67 => 9#32
  | 68 => 7#32
  | 69 => 9#32
  | 70 => 9#32
  | 71 => 11#32
  | 72 => 11#32
  | 73 => 11#32
  | 74 => 7#32
  | 75 => 7#32
  | 76 => 11#32
  | 77 => 7#32
  | 78 => 9#32
  | 79 => 11#32
  | 80 => 9#32
  | 81 => 11#32
  | 82 => 7#32
  | 83 => 9#32
  | 84 => 9#32
  | 85 => 9#32
  | 86 => 9#32
  | 87 => 11#32
  | 88 => 11#32
  | 89 => 7#32
  | 90 => 7#32
  | 91 => 7#32
  | 92 => 7#32
  | 93 => 11#32
  | 94 => 7#32
  | 95 => 11#32
  | 96 => 7#32
  | 97 => 11#32
  | 98 => 9#32
  | 99 => 11#32
  | 100 => 9#32
  | 101 => 11#32
  | 102 => 11#32
  | 103 => 11#32
  | 104 => 9#32
  | 105 => 11#32
  | 106 => 11#32
  | 107 => 7#32
  | 108 => 9#32
  | 109 => 7#32
  | 110 => 7#32
  | 111 => 11#32
  | 112 => 7#32
  | 113 => 11#32
  | 114 => 11#32
  | 115 => 7#32
  | 116 => 11#32
  | 117 => 9#32
  | 118 => 11#32
  | 119 => 11#32
  | 120 => 9#32
  | 121 => 9#32
  | 122 => 11#32
  | 123 => 9#32
  | 124 => 11#32
  | 125 => 7#32
  | 126 => 11#32
  | 127 => 9#32
  | _ => 0#32

noncomputable abbrev lit0t0_3 (i : Nat) : BitVec 32 := match i % 128 with
  | 0 => 11#32
  | 1 => 9#32
  | 2 => 7#32
  | 3 => 7#32
  | 4 => 9#32
  | 5 => 11#32
  | 6 => 7#32
  | 7 => 9#32
  | 8 => 9#32
  | 9 => 7#32
  | 10 => 9#32
  | 11 => 11#32
  | 12 => 11#32
  | 13 => 11#32
  | 14 => 9#32
  | 15 => 9#32
  | 16 => 11#32
  | 17 => 7#32
  | 18 => 11#32
  | 19 => 7#32
  | 20 => 9#32
  | 21 => 11#32
  | 22 => 9#32
  | 23 => 7#32
  | 24 => 9#32
  | 25 => 9#32
  | 26 => 11#32
  | 27 => 9#32
  | 28 => 11#32
  | 29 => 11#32
  | 30 => 7#32
  | 31 => 7#32
  | 32 => 9#32
  | 33 => 9#32
  | 34 => 9#32
  | 35 => 11#32
  | 36 => 7#32
  | 37 => 7#32
  | 38 => 11#32
  | 39 => 9#32
  | 40 => 11#32
  | 41 => 7#32
  | 42 => 11#32
  | 43 => 11#32
  | 44 => 7#32
  | 45 => 7#32
  | 46 => 7#32
  | 47 => 9#32
  | 48 => 11#32
  | 49 => 11#32
  | 50 => 7#32
  | 51 => 9#32
  | 52 => 9#32
  | 53 => 11#32
  | 54 => 7#32
  | 55 => 11#32
  | 56 => 11#32
  | 57 => 11#32
  | 58 => 7#32
  | 59 => 7#32
  | 60 => 9#32
  | 61 => 7#32
  | 62 => 7#32
  | 63 => 7#32
  | 64 => 7#32
  | 65 => 11#32
  | 66 => 11#32
  | 67 => 9#32
  | 68 => 11#32
  | 69 => 9#32
  | 70 => 7#32
  | 71 => 7#32
  | 72 => 7#32
  | 73 => 11#32
  | 74 => 9#32
  | 75 => 7#32
  | 76 => 7#32
  | 77 => 11#32
  | 78 => 7#32
  | 79 => 9#32
  | 80 => 11#32
  | 81 => 9#32
  | 82 => 11#32
  | 83 => 11#32
  | 84 => 7#32
  | 85 => 7#32
  | 86 => 7#32
  | 87 => 9#32
  | 88 => 7#32
  | 89 => 7#32
  | 90 => 11#32
  | 91 => 11#32
  | 92 => 11#32
  | 93 => 9#32
  | 94 => 9#32
  | 95 => 11#32
  | 96 => 9#32
  | 97 => 7#32
  | 98 => 7#32
  | 99 => 11#32
  | 100 => 7#32
  | 101 => 11#32
  | 102 => 9#32
  | 103 => 9#32
  | 104 => 11#32
  | 105 => 11#32
  | 106 => 9#32
  | 107 => 9#32
  | 108 => 11#32
  | 109 => 9#32
  | 110 => 9#32
  | 111 => 11#32
  | 112 => 11#32
  | 113 => 7#32
  | 114 => 9#32
  | 115 => 11#32
  | 116 => 7#32
  | 117 => 9#32
  | 118 => 9#32
  | 119 => 7#32
  | 120 => 11#32
  | 121 => 11#32
  | 122 => 9#32
  | 123 => 11#32
  | 124 => 7#32
  | 125 => 9#32
  | 126 => 7#32
  | 127 => 9#32
  | _ => 0#32

noncomputable abbrev lit0t0_4 (i : Nat) : BitVec 32 := match i % 128 with
  | 0 => 7#32
  | 1 => 11#32
  | 2 => 11#32
  | 3 => 7#32
  | 4 => 11#32
  | 5 => 11#32
  | 6 => 7#32
  | 7 => 11#32
  | 8 => 11#32
  | 9 => 11#32
  | 10 => 11#32
  | 11 => 7#32
  | 12 => 9#32
  | 13 => 11#32
  | 14 => 11#32
  | 15 => 7#32
  | 16 => 9#32
  | 17 => 9#32
  | 18 => 11#32
  | 19 => 9#32
  | 20 => 9#32
  | 21 => 9#32
  | 22 => 9#32
  | 23 => 7#32
  | 24 => 11#32
  | 25 => 9#32
  | 26 => 7#32
  | 27 => 7#32
  | 28 => 9#32
  | 29 => 11#32
  | 30 => 7#32
  | 31 => 11#32
  | 32 => 7#32
  | 33 => 7#32
  | 34 => 9#32
  | 35 => 11#32
  | 36 => 7#32
  | 37 => 11#32
  | 38 => 7#32
  | 39 => 11#32
  | 40 => 7#32
  | 41 => 11#32
  | 42 => 7#32
  | 43 => 9#32
  | 44 => 7#32
  | 45 => 11#32
  | 46 => 9#32
  | 47 => 11#32
  | 48 => 9#32
  | 49 => 9#32
  | 50 => 9#32
  | 51 => 11#32
  | 52 => 9#32
  | 53 => 11#32
  | 54 => 7#32
  | 55 => 9#32
  | 56 => 7#32
  | 57 => 11#32
  | 58 => 7#32
  | 59 => 11#32
  | 60 => 11#32
  | 61 => 7#32
  | 62 => 7#32
  | 63 => 11#32
  | 64 => 9#32
  | 65 => 9#32
  | 66 => 11#32
  | 67 => 7#32
  | 68 => 7#32
  | 69 => 9#32
  | 70 => 11#32
  | 71 => 7#32
  | 72 => 9#32
  | 73 => 9#32
  | 74 => 7#32
  | 75 => 9#32
  | 76 => 9#32
  | 77 => 9#32
  | 78 => 7#32
  | 79 => 9#32
  | 80 => 11#32
  | 81 => 7#32
  | 82 => 7#32
  | 83 => 11#32
  | 84 => 7#32
  | 85 => 11#32
  | 86 => 9#32
  | 87 => 11#32
  | 88 => 9#32
  | 89 => 11#32
  | 90 => 9#32
  | 91 => 9#32
  | 92 => 9#32
  | 93 => 7#32
  | 94 => 7#32
  | 95 => 11#32
  | 96 => 9#32
  | 97 => 9#32
  | 98 => 7#32
  | 99 => 11#32
  | 100 => 11#32
  | 101 => 9#32
  | 102 => 7#32
  | 103 => 11#32
  | 104 => 9#32
  | 105 => 11#32
  | 106 => 7#32
  | 107 => 9#32
  | 108 => 11#32
  | 109 => 7#32
  | 110 => 7#32
  | 111 => 9#32
  | 112 => 11#32
  | 113 => 11#32
  | 114 => 11#32
  | 115 => 9#32
  | 116 => 9#32
  | 117 => 9#32
  | 118 => 11#32
  | 119 => 7#32
  | 120 => 7#32
  | 121 => 11#32
  | 122 => 7#32
  | 123 => 7#32
  | 124 => 11#32
  | 125 => 7#32
  | 126 => 11#32
  | 127 => 11#32
  | _ => 0#32

noncomputable abbrev lit0t0_5 (i : Nat) : BitVec 32 := match i % 128 with
  | 0 => 7#32
  | 1 => 9#32
  | 2 => 7#32
  | 3 => 9#32
  | 4 => 9#32
  | 5 => 11#32
  | 6 => 11#32
  | 7 => 7#32
  | 8 => 7#32
  | 9 => 11#32
  | 10 => 7#32
  | 11 => 7#32
  | 12 => 9#32
  | 13 => 7#32
  | 14 => 11#32
  | 15 => 11#32
  | 16 => 7#32
  | 17 => 9#32
  | 18 => 9#32
  | 19 => 7#32
  | 20 => 9#32
  | 21 => 11#32
  | 22 => 9#32
  | 23 => 7#32
  | 24 => 7#32
  | 25 => 9#32
  | 26 => 9#32
  | 27 => 7#32
  | 28 => 9#32
  | 29 => 7#32
  | 30 => 9#32
  | 31 => 11#32
  | 32 => 7#32
  | 33 => 11#32
  | 34 => 7#32
  | 35 => 9#32
  | 36 => 11#32
  | 37 => 7#32
  | 38 => 11#32
  | 39 => 9#32
  | 40 => 9#32
  | 41 => 7#32
  | 42 => 7#32
  | 43 => 11#32
  | 44 => 9#32
  | 45 => 11#32
  | 46 => 11#32
  | 47 => 9#32
  | 48 => 11#32
  | 49 => 9#32
  | 50 => 7#32
  | 51 => 7#32
  | 52 => 9#32
  | 53 => 7#32
  | 54 => 7#32
  | 55 => 9#32
  | 56 => 9#32
  | 57 => 9#32
  | 58 => 9#32
  | 59 => 11#32
  | 60 => 11#32
  | 61 => 11#32
  | 62 => 7#32
  | 63 => 7#32
  | 64 => 9#32
  | 65 => 9#32
  | 66 => 11#32
  | 67 => 11#32
  | 68 => 11#32
  | 69 => 7#32
  | 70 => 7#32
  | 71 => 7#32
  | 72 => 7#32
  | 73 => 11#32
  | 74 => 9#32
  | 75 => 11#32
  | 76 => 7#32
  | 77 => 9#32
  | 78 => 7#32
  | 79 => 7#32
  | 80 => 11#32
  | 81 => 11#32
  | 82 => 7#32
  | 83 => 9#32
  | 84 => 11#32
  | 85 => 9#32
  | 86 => 11#32
  | 87 => 7#32
  | 88 => 7#32
  | 89 => 7#32
  | 90 => 9#32
  | 91 => 7#32
  | 92 => 7#32
  | 93 => 9#32
  | 94 => 9#32
  | 95 => 7#32
  | 96 => 9#32
  | 97 => 11#32
  | 98 => 11#32
  | 99 => 7#32
  | 100 => 11#32
  | 101 => 9#32
  | 102 => 9#32
  | 103 => 9#32
  | 104 => 11#32
  | 105 => 7#32
  | 106 => 9#32
  | 107 => 11#32
  | 108 => 9#32
  | 109 => 9#32
  | 110 => 7#32
  | 111 => 11#32
  | 112 => 7#32
  | 113 => 7#32
  | 114 => 7#32
  | 115 => 9#32
  | 116 => 9#32
  | 117 => 9#32
  | 118 => 11#32
  | 119 => 9#32
  | 120 => 11#32
  | 121 => 7#32
  | 122 => 7#32
  | 123 => 7#32
  | 124 => 9#32
  | 125 => 11#32
  | 126 => 7#32
  | 127 => 7#32
  | _ => 0#32

noncomputable abbrev lit0t0_6 (i : Nat) : BitVec 32 := match i % 128 with
  | 0 => 9#32
  | 1 => 11#32
  | 2 => 7#32
  | 3 => 11#32
  | 4 => 11#32
  | 5 => 9#32
  | 6 => 7#32
  | 7 => 9#32
  | 8 => 11#32
  | 9 => 11#32
  | 10 => 7#32
  | 11 => 11#32
  | 12 => 9#32
  | 13 => 11#32
  | 14 => 11#32
  | 15 => 11#32
  | 16 => 11#32
  | 17 => 11#32
  | 18 => 9#32
  | 19 => 11#32
  | 20 => 9#32
  | 21 => 11#32
  | 22 => 7#32
  | 23 => 7#32
  | 24 => 9#32
  | 25 => 11#32
  | 26 => 11#32
  | 27 => 7#32
  | 28 => 11#32
  | 29 => 9#32
  | 30 => 11#32
  | 31 => 9#32
  | 32 => 11#32
  | 33 => 7#32
  | 34 => 9#32
  | 35 => 11#32
  | 36 => 11#32
  | 37 => 7#32
  | 38 => 7#32
  | 39 => 7#32
  | 40 => 11#32
  | 41 => 7#32
  | 42 => 9#32
  | 43 => 11#32
  | 44 => 11#32
  | 45 => 7#32
  | 46 => 9#32
  | 47 => 11#32
  | 48 => 9#32
  | 49 => 7#32
  | 50 => 11#32
  | 51 => 9#32
  | 52 => 11#32
  | 53 => 11#32
  | 54 => 9#32
  | 55 => 11#32
  | 56 => 11#32
  | 57 => 11#32
  | 58 => 9#32
  | 59 => 9#32
  | 60 => 11#32
  | 61 => 11#32
  | 62 => 9#32
  | 63 => 11#32
  | 64 => 7#32
  | 65 => 11#32
  | 66 => 7#32
  | 67 => 11#32
  | 68 => 9#32
  | 69 => 9#32
  | 70 => 7#32
  | 71 => 9#32
  | 72 => 7#32
  | 73 => 9#32
  | 74 => 11#32
  | 75 => 7#32
  | 76 => 7#32
  | 77 => 11#32
  | 78 => 7#32
  | 79 => 7#32
  | 80 => 7#32
  | 81 => 9#32
  | 82 => 9#32
  | 83 => 9#32
  | 84 => 7#32
  | 85 => 11#32
  | 86 => 7#32
  | 87 => 11#32
  | 88 => 11#32
  | 89 => 7#32
  | 90 => 7#32
  | 91 => 9#32
  | 92 => 7#32
  | 93 => 9#32
  | 94 => 9#32
  | 95 => 9#32
  | 96 => 11#32
  | 97 => 11#32
  | 98 => 7#32
  | 99 => 9#32
  | 100 => 11#32
  | 101 => 11#32
  | 102 => 11#32
  | 103 => 9#32
  | 104 => 9#32
  | 105 => 9#32
  | 106 => 9#32
  | 107 => 7#32
  | 108 => 9#32
  | 109 => 7#32
  | 110 => 9#32
  | 111 => 11#32
  | 112 => 11#32
  | 113 => 11#32
  | 114 => 7#32
  | 115 => 7#32
  | 116 => 9#32
  | 117 => 11#32
  | 118 => 7#32
  | 119 => 11#32
  | 120 => 7#32
  | 121 => 9#32
  | 122 => 7#32
  | 123 => 11#32
  | 124 => 11#32
  | 125 => 9#32
  | 126 => 11#32
  | 127 => 9#32
  | _ => 0#32

noncomputable abbrev lit0t0_7 (i : Nat) : BitVec 32 := match i % 128 with
  | 0 => 11#32
  | 1 => 7#32
  | 2 => 7#32
  | 3 => 7#32
  | 4 => 9#32
  | 5 => 11#32
  | 6 => 11#32
  | 7 => 11#32
  | 8 => 7#32
  | 9 => 11#32
  | 10 => 7#32
  | 11 => 9#32
  | 12 => 9#32
  | 13 => 9#32
  | 14 => 9#32
  | 15 => 9#32
  | 16 => 7#32
  | 17 => 11#32
  | 18 => 11#32
  | 19 => 9#32
  | 20 => 9#32
  | 21 => 7#32
  | 22 => 9#32
  | 23 => 11#32
  | 24 => 11#32
  | 25 => 11#32
  | 26 => 7#32
  | 27 => 7#32
  | 28 => 11#32
  | 29 => 7#32
  | 30 => 7#32
  | 31 => 9#32
  | 32 => 7#32
  | 33 => 11#32
  | 34 => 7#32
  | 35 => 9#32
  | 36 => 9#32
  | 37 => 7#32
  | 38 => 9#32
  | 39 => 7#32
  | 40 => 11#32
  | 41 => 9#32
  | 42 => 7#32
  | 43 => 11#32
  | 44 => 11#32
  | 45 => 7#32
  | 46 => 9#32
  | 47 => 7#32
  | 48 => 9#32
  | 49 => 9#32
  | 50 => 7#32
  | 51 => 7#32
  | 52 => 9#32
  | 53 => 7#32
  | 54 => 11#32
  | 55 => 11#32
  | 56 => 11#32
  | 57 => 11#32
  | 58 => 11#32
  | 59 => 9#32
  | 60 => 9#32
  | 61 => 7#32
  | 62 => 7#32
  | 63 => 7#32
  | 64 => 11#32
  | 65 => 9#32
  | 66 => 11#32
  | 67 => 9#32
  | 68 => 9#32
  | 69 => 9#32
  | 70 => 11#32
  | 71 => 9#32
  | 72 => 9#32
  | 73 => 9#32
  | 74 => 11#32
  | 75 => 11#32
  | 76 => 9#32
  | 77 => 9#32
  | 78 => 7#32
  | 79 => 9#32
  | 80 => 7#32
  | 81 => 9#32
  | 82 => 7#32
  | 83 => 9#32
  | 84 => 9#32
  | 85 => 9#32
  | 86 => 9#32
  | 87 => 7#32
  | 88 => 7#32
  | 89 => 9#32
  | 90 => 11#32
  | 91 => 9#32
  | 92 => 9#32
  | 93 => 9#32
  | 94 => 11#32
  | 95 => 9#32
  | 96 => 9#32
  | 97 => 9#32
  | 98 => 9#32
  | 99 => 11#32
  | 100 => 7#32
  | 101 => 9#32
  | 102 => 7#32
  | 103 => 11#32
  | 104 => 9#32
  | 105 => 7#32
  | 106 => 7#32
  | 107 => 11#32
  | 108 => 9#32
  | 109 => 11#32
  | 110 => 7#32
  | 111 => 7#32
  | 112 => 9#32
  | 113 => 7#32
  | 114 => 9#32
  | 115 => 9#32
  | 116 => 7#32
  | 117 => 7#32
  | 118 => 11#32
  | 119 => 11#32
  | 120 => 9#32
  | 121 => 11#32
  | 122 => 9#32
  | 123 => 11#32
  | 124 => 7#32
  | 125 => 9#32
  | 126 => 7#32
  | 127 => 9#32
  | _ => 0#32

noncomputable abbrev lit0t0_8 (i : Nat) : BitVec 32 := match i % 128 with
  | 0 => 11#32
  | 1 => 11#32
  | 2 => 7#32
  | 3 => 9#32
  | 4 => 7#32
  | 5 => 7#32
  | 6 => 9#32
  | 7 => 11#32
  | 8 => 11#32
  | 9 => 9#32
  | 10 => 7#32
  | 11 => 11#32
  | 12 => 9#32
  | 13 => 9#32
  | 14 => 9#32
  | 15 => 7#32
  | 16 => 11#32
  | 17 => 7#32
  | 18 => 9#32
  | 19 => 9#32
  | 20 => 7#32
  | 21 => 7#32
  | 22 => 9#32
  | 23 => 7#32
  | 24 => 9#32
  | 25 => 9#32
  | 26 => 7#32
  | 27 => 11#32
  | 28 => 7#32
  | 29 => 9#32
  | 30 => 7#32
  | 31 => 7#32
  | 32 => 9#32
  | 33 => 11#32
  | 34 => 9#32
  | 35 => 9#32
  | 36 => 7#32
  | 37 => 11#32
  | 38 => 11#32
  | 39 => 11#32
  | 40 => 7#32
  | 41 => 11#32
  | 42 => 9#32
  | 43 => 7#32
  | 44 => 11#32
  | 45 => 7#32
  | 46 => 9#32
  | 47 => 7#32
  | 48 => 7#32
  | 49 => 9#32
  | 50 => 9#32
  | 51 => 9#32
  | 52 => 7#32
  | 53 => 7#32
  | 54 => 7#32
  | 55 => 11#32
  | 56 => 7#32
  | 57 => 11#32
  | 58 => 7#32
  | 59 => 7#32
  | 60 => 9#32
  | 61 => 9#32
  | 62 => 9#32
  | 63 => 9#32
  | 64 => 9#32
  | 65 => 11#32
  | 66 => 11#32
  | 67 => 7#32
  | 68 => 7#32
  | 69 => 7#32
  | 70 => 7#32
  | 71 => 11#32
  | 72 => 11#32
  | 73 => 9#32
  | 74 => 11#32
  | 75 => 11#32
  | 76 => 11#32
  | 77 => 9#32
  | 78 => 9#32
  | 79 => 9#32
  | 80 => 7#32
  | 81 => 7#32
  | 82 => 11#32
  | 83 => 7#32
  | 84 => 7#32
  | 85 => 9#32
  | 86 => 9#32
  | 87 => 7#32
  | 88 => 7#32
  | 89 => 11#32
  | 90 => 7#32
  | 91 => 7#32
  | 92 => 9#32
  | 93 => 11#32
  | 94 => 9#32
  | 95 => 9#32
  | 96 => 11#32
  | 97 => 9#32
  | 98 => 9#32
  | 99 => 11#32
  | 100 => 11#32
  | 101 => 7#32
  | 102 => 11#32
  | 103 => 7#32
  | 104 => 11#32
  | 105 => 7#32
  | 106 => 11#32
  | 107 => 7#32
  | 108 => 11#32
  | 109 => 9#32
  | 110 => 9#32
  | 111 => 7#32
  | 112 => 7#32
  | 113 => 11#32
  | 114 => 7#32
  | 115 => 7#32
  | 116 => 9#32
  | 117 => 9#32
  | 118 => 9#32
  | 119 => 9#32
  | 120 => 7#32
  | 121 => 7#32
  | 122 => 7#32
  | 123 => 9#32
  | 124 => 9#32
  | 125 => 7#32
  | 126 => 11#32
  | 127 => 7#32
  | _ => 0#32

noncomputable abbrev lit0t0_9 (i : Nat) : BitVec 32 := match i % 128 with
  | 0 => 9#32
  | 1 => 11#32
  | 2 => 11#32
  | 3 => 9#32
  | 4 => 9#32
  | 5 => 9#32
  | 6 => 9#32
  | 7 => 9#32
  | 8 => 9#32
  | 9 => 9#32
  | 10 => 11#32
  | 11 => 9#32
  | 12 => 7#32
  | 13 => 7#32
  | 14 => 9#32
  | 15 => 9#32
  | 16 => 11#32
  | 17 => 11#32
  | 18 => 7#32
  | 19 => 11#32
  | 20 => 9#32
  | 21 => 9#32
  | 22 => 11#32
  | 23 => 7#32
  | 24 => 9#32
  | 25 => 7#32
  | 26 => 11#32
  | 27 => 7#32
  | 28 => 11#32
  | 29 => 11#32
  | 30 => 11#32
  | 31 => 9#32
  | 32 => 9#32
  | 33 => 11#32
  | 34 => 7#32
  | 35 => 9#32
  | 36 => 7#32
  | 37 => 11#32
  | 38 => 11#32
  | 39 => 9#32
  | 40 => 9#32
  | 41 => 11#32
  | 42 => 7#32
  | 43 => 7#32
  | 44 => 7#32
  | 45 => 11#32
  | 46 => 9#32
  | 47 => 7#32
  | 48 => 9#32
  | 49 => 7#32
  | 50 => 9#32
  | 51 => 11#32
  | 52 => 11#32
  | 53 => 11#32
  | 54 => 7#32
  | 55 => 9#32
  | 56 => 11#32
  | 57 => 11#32
  | 58 => 7#32
  | 59 => 9#32
  | 60 => 9#32
  | 61 => 7#32
  | 62 => 11#32
  | 63 => 11#32
  | 64 => 11#32
  | 65 => 7#32
  | 66 => 9#32
  | 67 => 7#32
  | 68 => 11#32
  | 69 => 9#32
  | 70 => 9#32
  | 71 => 9#32
  | 72 => 11#32
  | 73 => 7#32
  | 74 => 7#32
  | 75 => 9#32
  | 76 => 9#32
  | 77 => 9#32
  | 78 => 11#32
  | 79 => 9#32
  | 80 => 11#32
  | 81 => 11#32
  | 82 => 9#32
  | 83 => 7#32
  | 84 => 11#32
  | 85 => 7#32
  | 86 => 7#32
  | 87 => 11#32
  | 88 => 7#32
  | 89 => 11#32
  | 90 => 9#32
  | 91 => 9#32
  | 92 => 9#32
  | 93 => 7#32
  | 94 => 7#32
  | 95 => 9#32
  | 96 => 9#32
  | 97 => 11#32
  | 98 => 11#32
  | 99 => 7#32
  | 100 => 7#32
  | 101 => 11#32
  | 102 => 7#32
  | 103 => 9#32
  | 104 => 11#32
  | 105 => 11#32
  | 106 => 11#32
  | 107 => 11#32
  | 108 => 7#32
  | 109 => 7#32
  | 110 => 9#32
  | 111 => 11#32
  | 112 => 7#32
  | 113 => 7#32
  | 114 => 11#32
  | 115 => 7#32
  | 116 => 11#32
  | 117 => 7#32
  | 118 => 7#32
  | 119 => 11#32
  | 120 => 7#32
  | 121 => 9#32
  | 122 => 11#32
  | 123 => 9#32
  | 124 => 7#32
  | 125 => 7#32
  | 126 => 9#32
  | 127 => 11#32
  | _ => 0#32

noncomputable abbrev lit0t0_10 (i : Nat) : BitVec 32 := match i % 128 with
  | 0 => 11#32
  | 1 => 7#32
  | 2 => 9#32
  | 3 => 7#32
  | 4 => 9#32
  | 5 => 11#32
  | 6 => 11#32
  | 7 => 9#32
  | 8 => 7#32
  | 9 => 11#32
  | 10 => 11#32
  | 11 => 9#32
  | 12 => 9#32
  | 13 => 11#32
  | 14 => 9#32
  | 15 => 7#32
  | 16 => 11#32
  | 17 => 7#32
  | 18 => 11#32
  | 19 => 9#32
  | 20 => 11#32
  | 21 => 9#32
  | 22 => 9#32
  | 23 => 9#32
  | 24 => 11#32
  | 25 => 11#32
  | 26 => 9#32
  | 27 => 7#32
  | 28 => 9#32
  | 29 => 11#32
  | 30 => 11#32
  | 31 => 11#32
  | 32 => 11#32
  | 33 => 7#32
  | 34 => 9#32
  | 35 => 7#32
  | 36 => 7#32
  | 37 => 7#32
  | 38 => 9#32
  | 39 => 9#32
  | 40 => 9#32
  | 41 => 11#32
  | 42 => 11#32
  | 43 => 7#32
  | 44 => 9#32
  | 45 => 11#32
  | 46 => 9#32
  | 47 => 9#32
  | 48 => 9#32
  | 49 => 7#32
  | 50 => 9#32
  | 51 => 9#32
  | 52 => 9#32
  | 53 => 9#32
  | 54 => 7#32
  | 55 => 7#32
  | 56 => 11#32
  | 57 => 7#32
  | 58 => 11#32
  | 59 => 9#32
  | 60 => 9#32
  | 61 => 11#32
  | 62 => 7#32
  | 63 => 9#32
  | 64 => 11#32
  | 65 => 11#32
  | 66 => 11#32
  | 67 => 7#32
  | 68 => 9#32
  | 69 => 7#32
  | 70 => 9#32
  | 71 => 7#32
  | 72 => 7#32
  | 73 => 9#32
  | 74 => 11#32
  | 75 => 7#32
  | 76 => 9#32
  | 77 => 9#32
  | 78 => 11#32
  | 79 => 11#32
  | 80 => 11#32
  | 81 => 7#32
  | 82 => 9#32
  | 83 => 7#32
  | 84 => 7#32
  | 85 => 11#32
  | 86 => 9#32
  | 87 => 9#32
  | 88 => 9#32
  | 89 => 7#32
  | 90 => 11#32
  | 91 => 7#32
  | 92 => 7#32
  | 93 => 11#32
  | 94 => 9#32
  | 95 => 11#32
  | 96 => 11#32
  | 97 => 11#32
  | 98 => 7#32
  | 99 => 9#32
  | 100 => 11#32
  | 101 => 7#32
  | 102 => 11#32
  | 103 => 7#32
  | 104 => 7#32
  | 105 => 9#32
  | 106 => 9#32
  | 107 => 11#32
  | 108 => 11#32
  | 109 => 9#32
  | 110 => 9#32
  | 111 => 7#32
  | 112 => 7#32
  | 113 => 11#32
  | 114 => 9#32
  | 115 => 9#32
  | 116 => 7#32
  | 117 => 11#32
  | 118 => 9#32
  | 119 => 9#32
  | 120 => 11#32
  | 121 => 11#32
  | 122 => 7#32
  | 123 => 7#32
  | 124 => 11#32
  | 125 => 11#32
  | 126 => 11#32
  | 127 => 9#32
  | _ => 0#32

noncomputable abbrev lit0t0_11 (i : Nat) : BitVec 32 := match i % 128 with
  | 0 => 7#32
  | 1 => 9#32
  | 2 => 7#32
  | 3 => 7#32
  | 4 => 11#32
  | 5 => 11#32
  | 6 => 7#32
  | 7 => 7#32
  | 8 => 11#32
  | 9 => 9#32
  | 10 => 11#32
  | 11 => 9#32
  | 12 => 11#32
  | 13 => 11#32
  | 14 => 7#32
  | 15 => 9#32
  | 16 => 11#32
  | 17 => 11#32
  | 18 => 11#32
  | 19 => 9#32
  | 20 => 7#32
  | 21 => 11#32
  | 22 => 11#32
  | 23 => 11#32
  | 24 => 9#32
  | 25 => 11#32
  | 26 => 7#32
  | 27 => 11#32
  | 28 => 11#32
  | 29 => 11#32
  | 30 => 11#32
  | 31 => 7#32
  | 32 => 7#32
  | 33 => 7#32
  | 34 => 11#32
  | 35 => 9#32
  | 36 => 11#32
  | 37 => 7#32
  | 38 => 9#32
  | 39 => 9#32
  | 40 => 11#32
  | 41 => 7#32
  | 42 => 11#32
  | 43 => 11#32
  | 44 => 9#32
  | 45 => 11#32
  | 46 => 11#32
  | 47 => 7#32
  | 48 => 11#32
  | 49 => 9#32
  | 50 => 11#32
  | 51 => 9#32
  | 52 => 7#32
  | 53 => 11#32
  | 54 => 7#32
  | 55 => 9#32
  | 56 => 11#32
  | 57 => 11#32
  | 58 => 7#32
  | 59 => 9#32
  | 60 => 7#32
  | 61 => 11#32
  | 62 => 9#32
  | 63 => 9#32
  | 64 => 9#32
  | 65 => 11#32
  | 66 => 11#32
  | 67 => 9#32
  | 68 => 11#32
  | 69 => 7#32
  | 70 => 9#32
  | 71 => 11#32
  | 72 => 11#32
  | 73 => 7#32
  | 74 => 9#32
  | 75 => 9#32
  | 76 => 11#32
  | 77 => 9#32
  | 78 => 9#32
  | 79 => 7#32
  | 80 => 9#32
  | 81 => 7#32
  | 82 => 9#32
  | 83 => 11#32
  | 84 => 9#32
  | 85 => 11#32
  | 86 => 9#32
  | 87 => 7#32
  | 88 => 9#32
  | 89 => 11#32
  | 90 => 9#32
  | 91 => 7#32
  | 92 => 11#32
  | 93 => 7#32
  | 94 => 7#32
  | 95 => 11#32
  | 96 => 7#32
  | 97 => 11#32
  | 98 => 11#32
  | 99 => 11#32
  | 100 => 11#32
  | 101 => 7#32
  | 102 => 9#32
  | 103 => 11#32
  | 104 => 11#32
  | 105 => 9#32
  | 106 => 7#32
  | 107 => 7#32
  | 108 => 9#32
  | 109 => 11#32
  | 110 => 7#32
  | 111 => 11#32
  | 112 => 11#32
  | 113 => 7#32
  | 114 => 11#32
  | 115 => 7#32
  | 116 => 7#32
  | 117 => 11#32
  | 118 => 9#32
  | 119 => 11#32
  | 120 => 9#32
  | 121 => 7#32
  | 122 => 7#32
  | 123 => 11#32
  | 124 => 7#32
  | 125 => 7#32
  | 126 => 9#32
  | 127 => 11#32
  | _ => 0#32

noncomputable abbrev lit0t0_12 (i : Nat) : BitVec 32 := match i % 128 with
  | 0 => 7#32
  | 1 => 11#32
  | 2 => 11#32
  | 3 => 7#32
  | 4 => 11#32
  | 5 => 7#32
  | 6 => 9#32
  | 7 => 9#32
  | 8 => 7#32
  | 9 => 9#32
  | 10 => 11#32
  | 11 => 11#32
  | 12 => 7#32
  | 13 => 9#32
  | 14 => 7#32
  | 15 => 7#32
  | 16 => 11#32
  | 17 => 9#32
  | 18 => 11#32
  | 19 => 7#32
  | 20 => 7#32
  | 21 => 7#32
  | 22 => 7#32
  | 23 => 7#32
  | 24 => 9#32
  | 25 => 9#32
  | 26 => 11#32
  | 27 => 7#32
  | 28 => 9#32
  | 29 => 11#32
  | 30 => 11#32
  | 31 => 7#32
  | 32 => 7#32
  | 33 => 7#32
  | 34 => 11#32
  | 35 => 9#32
  | 36 => 7#32
  | 37 => 11#32
  | 38 => 11#32
  | 39 => 9#32
  | 40 => 9#32
  | 41 => 9#32
  | 42 => 7#32
  | 43 => 7#32
  | 44 => 9#32
  | 45 => 11#32
  | 46 => 9#32
  | 47 => 9#32
  | 48 => 7#32
  | 49 => 7#32
  | 50 => 9#32
  | 51 => 9#32
  | 52 => 9#32
  | 53 => 11#32
  | 54 => 7#32
  | 55 => 9#32
  | 56 => 9#32
  | 57 => 7#32
  | 58 => 11#32
  | 59 => 9#32
  | 60 => 11#32
  | 61 => 9#32
  | 62 => 7#32
  | 63 => 11#32
  | 64 => 11#32
  | 65 => 11#32
  | 66 => 9#32
  | 67 => 9#32
  | 68 => 7#32
  | 69 => 7#32
  | 70 => 11#32
  | 71 => 11#32
  | 72 => 9#32
  | 73 => 11#32
  | 74 => 7#32
  | 75 => 7#32
  | 76 => 9#32
  | 77 => 9#32
  | 78 => 7#32
  | 79 => 7#32
  | 80 => 7#32
  | 81 => 9#32
  | 82 => 9#32
  | 83 => 9#32
  | 84 => 7#32
  | 85 => 7#32
  | 86 => 9#32
  | 87 => 9#32
  | 88 => 11#32
  | 89 => 11#32
  | 90 => 7#32
  | 91 => 7#32
  | 92 => 11#32
  | 93 => 9#32
  | 94 => 11#32
  | 95 => 9#32
  | 96 => 11#32
  | 97 => 9#32
  | 98 => 7#32
  | 99 => 11#32
  | 100 => 7#32
  | 101 => 9#32
  | 102 => 7#32
  | 103 => 11#32
  | 104 => 9#32
  | 105 => 9#32
  | 106 => 7#32
  | 107 => 9#32
  | 108 => 7#32
  | 109 => 7#32
  | 110 => 7#32
  | 111 => 11#32
  | 112 => 11#32
  | 113 => 9#32
  | 114 => 9#32
  | 115 => 7#32
  | 116 => 9#32
  | 117 => 7#32
  | 118 => 9#32
  | 119 => 7#32
  | 120 => 7#32
  | 121 => 11#32
  | 122 => 9#32
  | 123 => 9#32
  | 124 => 9#32
  | 125 => 11#32
  | 126 => 9#32
  | 127 => 11#32
  | _ => 0#32

noncomputable abbrev lit0t0_13 (i : Nat) : BitVec 32 := match i % 128 with
  | 0 => 7#32
  | 1 => 7#32
  | 2 => 7#32
  | 3 => 7#32
  | 4 => 7#32
  | 5 => 7#32
  | 6 => 7#32
  | 7 => 11#32
  | 8 => 9#32
  | 9 => 7#32
  | 10 => 9#32
  | 11 => 9#32
  | 12 => 7#32
  | 13 => 7#32
  | 14 => 11#32
  | 15 => 11#32
  | 16 => 9#32
  | 17 => 9#32
  | 18 => 7#32
  | 19 => 9#32
  | 20 => 11#32
  | 21 => 7#32
  | 22 => 9#32
  | 23 => 9#32
  | 24 => 11#32
  | 25 => 7#32
  | 26 => 9#32
  | 27 => 11#32
  | 28 => 7#32
  | 29 => 11#32
  | 30 => 9#32
  | 31 => 11#32
  | 32 => 7#32
  | 33 => 9#32
  | 34 => 11#32
  | 35 => 11#32
  | 36 => 9#32
  | 37 => 7#32
  | 38 => 9#32
  | 39 => 9#32
  | 40 => 7#32
  | 41 => 11#32
  | 42 => 11#32
  | 43 => 7#32
  | 44 => 7#32
  | 45 => 11#32
  | 46 => 11#32
  | 47 => 7#32
  | 48 => 7#32
  | 49 => 9#32
  | 50 => 9#32
  | 51 => 7#32
  | 52 => 11#32
  | 53 => 9#32
  | 54 => 9#32
  | 55 => 7#32
  | 56 => 9#32
  | 57 => 7#32
  | 58 => 9#32
  | 59 => 9#32
  | 60 => 11#32
  | 61 => 9#32
  | 62 => 9#32
  | 63 => 7#32
  | 64 => 9#32
  | 65 => 11#32
  | 66 => 9#32
  | 67 => 11#32
  | 68 => 9#32
  | 69 => 9#32
  | 70 => 7#32
  | 71 => 11#32
  | 72 => 11#32
  | 73 => 9#32
  | 74 => 9#32
  | 75 => 11#32
  | 76 => 9#32
  | 77 => 11#32
  | 78 => 9#32
  | 79 => 11#32
  | 80 => 11#32
  | 81 => 7#32
  | 82 => 11#32
  | 83 => 7#32
  | 84 => 11#32
  | 85 => 9#32
  | 86 => 7#32
  | 87 => 9#32
  | 88 => 11#32
  | 89 => 11#32
  | 90 => 9#32
  | 91 => 11#32
  | 92 => 11#32
  | 93 => 9#32
  | 94 => 7#32
  | 95 => 9#32
  | 96 => 9#32
  | 97 => 11#32
  | 98 => 11#32
  | 99 => 11#32
  | 100 => 9#32
  | 101 => 11#32
  | 102 => 11#32
  | 103 => 11#32
  | 104 => 11#32
  | 105 => 9#32
  | 106 => 7#32
  | 107 => 9#32
  | 108 => 11#32
  | 109 => 9#32
  | 110 => 11#32
  | 111 => 11#32
  | 112 => 11#32
  | 113 => 9#32
  | 114 => 11#32
  | 115 => 11#32
  | 116 => 9#32
  | 117 => 9#32
  | 118 => 9#32
  | 119 => 7#32
  | 120 => 7#32
  | 121 => 9#32
  | 122 => 9#32
  | 123 => 7#32
  | 124 => 11#32
  | 125 => 9#32
  | 126 => 7#32
  | 127 => 11#32
  | _ => 0#32

noncomputable abbrev lit0t0_14 (i : Nat) : BitVec 32 := match i % 128 with
  | 0 => 9#32
  | 1 => 7#32
  | 2 => 9#32
  | 3 => 9#32
  | 4 => 7#32
  | 5 => 9#32
  | 6 => 11#32
  | 7 => 11#32
  | 8 => 7#32
  | 9 => 11#32
  | 10 => 11#32
  | 11 => 9#32
  | 12 => 9#32
  | 13 => 11#32
  | 14 => 9#32
  | 15 => 9#32
  | 16 => 9#32
  | 17 => 11#32
  | 18 => 9#32
  | 19 => 11#32
  | 20 => 9#32
  | 21 => 9#32
  | 22 => 9#32
  | 23 => 7#32
  | 24 => 9#32
  | 25 => 9#32
  | 26 => 11#32
  | 27 => 7#32
  | 28 => 11#32
  | 29 => 11#32
  | 30 => 7#32
  | 31 => 9#32
  | 32 => 11#32
  | 33 => 11#32
  | 34 => 11#32
  | 35 => 7#32
  | 36 => 9#32
  | 37 => 9#32
  | 38 => 9#32
  | 39 => 9#32
  | 40 => 9#32
  | 41 => 9#32
  | 42 => 7#32
  | 43 => 9#32
  | 44 => 11#32
  | 45 => 9#32
  | 46 => 11#32
  | 47 => 7#32
  | 48 => 7#32
  | 49 => 9#32
  | 50 => 7#32
  | 51 => 7#32
  | 52 => 9#32
  | 53 => 9#32
  | 54 => 9#32
  | 55 => 9#32
  | 56 => 11#32
  | 57 => 7#32
  | 58 => 11#32
  | 59 => 7#32
  | 60 => 11#32
  | 61 => 11#32
  | 62 => 11#32
  | 63 => 11#32
  | 64 => 9#32
  | 65 => 9#32
  | 66 => 7#32
  | 67 => 11#32
  | 68 => 7#32
  | 69 => 7#32
  | 70 => 7#32
  | 71 => 11#32
  | 72 => 11#32
  | 73 => 9#32
  | 74 => 11#32
  | 75 => 9#32
  | 76 => 11#32
  | 77 => 9#32
  | 78 => 11#32
  | 79 => 7#32
  | 80 => 11#32
  | 81 => 7#32
  | 82 => 9#32
  | 83 => 7#32
  | 84 => 11#32
  | 85 => 11#32
  | 86 => 7#32
  | 87 => 11#32
  | 88 => 7#32
  | 89 => 11#32
  | 90 => 9#32
  | 91 => 11#32
  | 92 => 11#32
  | 93 => 7#32
  | 94 => 9#32
  | 95 => 7#32
  | 96 => 11#32
  | 97 => 11#32
  | 98 => 11#32
  | 99 => 9#32
  | 100 => 9#32
  | 101 => 9#32
  | 102 => 7#32
  | 103 => 9#32
  | 104 => 9#32
  | 105 => 9#32
  | 106 => 7#32
  | 107 => 7#32
  | 108 => 7#32
  | 109 => 11#32
  | 110 => 11#32
  | 111 => 7#32
  | 112 => 11#32
  | 113 => 11#32
  | 114 => 7#32
  | 115 => 9#32
  | 116 => 11#32
  | 117 => 9#32
  | 118 => 7#32
  | 119 => 11#32
  | 120 => 11#32
  | 121 => 9#32
  | 122 => 11#32
  | 123 => 7#32
  | 124 => 7#32
  | 125 => 11#32
  | 126 => 7#32
  | 127 => 9#32
  | _ => 0#32

noncomputable abbrev lit0t0_15 (i : Nat) : BitVec 32 := match i % 128 with
  | 0 => 7#32
  | 1 => 11#32
  | 2 => 9#32
  | 3 => 9#32
  | 4 => 11#32
  | 5 => 11#32
  | 6 => 11#32
  | 7 => 9#32
  | 8 => 7#32
  | 9 => 7#32
  | 10 => 7#32
  | 11 => 9#32
  | 12 => 11#32
  | 13 => 7#32
  | 14 => 7#32
  | 15 => 11#32
  | 16 => 9#32
  | 17 => 11#32
  | 18 => 7#32
  | 19 => 11#32
  | 20 => 9#32
  | 21 => 9#32
  | 22 => 11#32
  | 23 => 7#32
  | 24 => 11#32
  | 25 => 9#32
  | 26 => 9#32
  | 27 => 11#32
  | 28 => 7#32
  | 29 => 11#32
  | 30 => 11#32
  | 31 => 9#32
  | 32 => 7#32
  | 33 => 9#32
  | 34 => 7#32
  | 35 => 11#32
  | 36 => 7#32
  | 37 => 11#32
  | 38 => 9#32
  | 39 => 9#32
  | 40 => 9#32
  | 41 => 11#32
  | 42 => 7#32
  | 43 => 11#32
  | 44 => 9#32
  | 45 => 11#32
  | 46 => 11#32
  | 47 => 7#32
  | 48 => 7#32
  | 49 => 7#32
  | 50 => 7#32
  | 51 => 11#32
  | 52 => 9#32
  | 53 => 7#32
  | 54 => 11#32
  | 55 => 7#32
  | 56 => 7#32
  | 57 => 11#32
  | 58 => 11#32
  | 59 => 11#32
  | 60 => 9#32
  | 61 => 9#32
  | 62 => 7#32
  | 63 => 9#32
  | 64 => 7#32
  | 65 => 9#32
  | 66 => 11#32
  | 67 => 7#32
  | 68 => 7#32
  | 69 => 9#32
  | 70 => 9#32
  | 71 => 11#32
  | 72 => 11#32
  | 73 => 7#32
  | 74 => 7#32
  | 75 => 9#32
  | 76 => 7#32
  | 77 => 7#32
  | 78 => 7#32
  | 79 => 9#32
  | 80 => 11#32
  | 81 => 7#32
  | 82 => 9#32
  | 83 => 11#32
  | 84 => 11#32
  | 85 => 9#32
  | 86 => 7#32
  | 87 => 9#32
  | 88 => 9#32
  | 89 => 9#32
  | 90 => 11#32
  | 91 => 11#32
  | 92 => 11#32
  | 93 => 7#32
  | 94 => 9#32
  | 95 => 7#32
  | 96 => 9#32
  | 97 => 7#32
  | 98 => 7#32
  | 99 => 7#32
  | 100 => 9#32
  | 101 => 7#32
  | 102 => 7#32
  | 103 => 7#32
  | 104 => 7#32
  | 105 => 9#32
  | 106 => 7#32
  | 107 => 7#32
  | 108 => 11#32
  | 109 => 7#32
  | 110 => 7#32
  | 111 => 11#32
  | 112 => 11#32
  | 113 => 7#32
  | 114 => 11#32
  | 115 => 7#32
  | 116 => 9#32
  | 117 => 11#32
  | 118 => 9#32
  | 119 => 11#32
  | 120 => 11#32
  | 121 => 11#32
  | 122 => 7#32
  | 123 => 9#32
  | 124 => 7#32
  | 125 => 7#32
  | 126 => 11#32
  | 127 => 11#32
  | _ => 0#32

noncomputable abbrev lit0t0_16 (i : Nat) : BitVec 32 := match i % 128 with
  | 0 => 11#32
  | 1 => 9#32
  | 2 => 9#32
  | 3 => 9#32
  | 4 => 11#32
  | 5 => 7#32
  | 6 => 11#32
  | 7 => 7#32
  | 8 => 7#32
  | 9 => 9#32
  | 10 => 7#32
  | 11 => 9#32
  | 12 => 7#32
  | 13 => 9#32
  | 14 => 7#32
  | 15 => 9#32
  | 16 => 9#32
  | 17 => 11#32
  | 18 => 9#32
  | 19 => 9#32
  | 20 => 9#32
  | 21 => 9#32
  | 22 => 9#32
  | 23 => 7#32
  | 24 => 7#32
  | 25 => 7#32
  | 26 => 9#32
  | 27 => 9#32
  | 28 => 9#32
  | 29 => 11#32
  | 30 => 7#32
  | 31 => 9#32
  | 32 => 11#32
  | 33 => 7#32
  | 34 => 7#32
  | 35 => 7#32
  | 36 => 11#32
  | 37 => 7#32
  | 38 => 9#32
  | 39 => 9#32
  | 40 => 9#32
  | 41 => 11#32
  | 42 => 11#32
  | 43 => 9#32
  | 44 => 9#32
  | 45 => 9#32
  | 46 => 7#32
  | 47 => 9#32
  | 48 => 11#32
  | 49 => 7#32
  | 50 => 7#32
  | 51 => 7#32
  | 52 => 9#32
  | 53 => 9#32
  | 54 => 11#32
  | 55 => 9#32
  | 56 => 7#32
  | 57 => 7#32
  | 58 => 9#32
  | 59 => 11#32
  | 60 => 11#32
  | 61 => 9#32
  | 62 => 11#32
  | 63 => 11#32
  | 64 => 9#32
  | 65 => 7#32
  | 66 => 7#32
  | 67 => 11#32
  | 68 => 9#32
  | 69 => 7#32
  | 70 => 9#32
  | 71 => 11#32
  | 72 => 9#32
  | 73 => 7#32
  | 74 => 7#32
  | 75 => 7#32
  | 76 => 9#32
  | 77 => 11#32
  | 78 => 9#32
  | 79 => 9#32
  | 80 => 11#32
  | 81 => 11#32
  | 82 => 7#32
  | 83 => 11#32
  | 84 => 7#32
  | 85 => 11#32
  | 86 => 7#32
  | 87 => 9#32
  | 88 => 9#32
  | 89 => 11#32
  | 90 => 11#32
  | 91 => 9#32
  | 92 => 9#32
  | 93 => 7#32
  | 94 => 7#32
  | 95 => 11#32
  | 96 => 11#32
  | 97 => 11#32
  | 98 => 7#32
  | 99 => 7#32
  | 100 => 9#32
  | 101 => 11#32
  | 102 => 11#32
  | 103 => 9#32
  | 104 => 9#32
  | 105 => 11#32
  | 106 => 11#32
  | 107 => 7#32
  | 108 => 9#32
  | 109 => 7#32
  | 110 => 11#32
  | 111 => 11#32
  | 112 => 7#32
  | 113 => 9#32
  | 114 => 7#32
  | 115 => 7#32
  | 116 => 7#32
  | 117 => 9#32
  | 118 => 9#32
  | 119 => 11#32
  | 120 => 11#32
  | 121 => 9#32
  | 122 => 7#32
  | 123 => 9#32
  | 124 => 7#32
  | 125 => 9#32
  | 126 => 9#32
  | 127 => 11#32
  | _ => 0#32

noncomputable abbrev lit0t0_17 (i : Nat) : BitVec 32 := match i % 128 with
  | 0 => 11#32
  | 1 => 9#32
  | 2 => 7#32
  | 3 => 11#32
  | 4 => 11#32
  | 5 => 7#32
  | 6 => 11#32
  | 7 => 11#32
  | 8 => 9#32
  | 9 => 7#32
  | 10 => 7#32
  | 11 => 11#32
  | 12 => 9#32
  | 13 => 7#32
  | 14 => 7#32
  | 15 => 7#32
  | 16 => 11#32
  | 17 => 7#32
  | 18 => 9#32
  | 19 => 11#32
  | 20 => 9#32
  | 21 => 7#32
  | 22 => 7#32
  | 23 => 9#32
  | 24 => 11#32
  | 25 => 7#32
  | 26 => 11#32
  | 27 => 9#32
  | 28 => 11#32
  | 29 => 7#32
  | 30 => 11#32
  | 31 => 7#32
  | 32 => 9#32
  | 33 => 11#32
  | 34 => 9#32
  | 35 => 7#32
  | 36 => 11#32
  | 37 => 7#32
  | 38 => 9#32
  | 39 => 9#32
  | 40 => 11#32
  | 41 => 7#32
  | 42 => 7#32
  | 43 => 7#32
  | 44 => 7#32
  | 45 => 11#32
  | 46 => 9#32
  | 47 => 9#32
  | 48 => 7#32
  | 49 => 11#32
  | 50 => 9#32
  | 51 => 11#32
  | 52 => 9#32
  | 53 => 7#32
  | 54 => 7#32
  | 55 => 7#32
  | 56 => 7#32
  | 57 => 7#32
  | 58 => 9#32
  | 59 => 9#32
  | 60 => 11#32
  | 61 => 9#32
  | 62 => 7#32
  | 63 => 11#32
  | 64 => 11#32
  | 65 => 9#32
  | 66 => 11#32
  | 67 => 9#32
  | 68 => 11#32
  | 69 => 9#32
  | 70 => 7#32
  | 71 => 11#32
  | 72 => 9#32
  | 73 => 11#32
  | 74 => 9#32
  | 75 => 11#32
  | 76 => 11#32
  | 77 => 11#32
  | 78 => 11#32
  | 79 => 9#32
  | 80 => 9#32
  | 81 => 7#32
  | 82 => 11#32
  | 83 => 11#32
  | 84 => 9#32
  | 85 => 9#32
  | 86 => 9#32
  | 87 => 11#32
  | 88 => 11#32
  | 89 => 11#32
  | 90 => 7#32
  | 91 => 11#32
  | 92 => 11#32
  | 93 => 11#32
  | 94 => 9#32
  | 95 => 7#32
  | 96 => 7#32
  | 97 => 9#32
  | 98 => 7#32
  | 99 => 7#32
  | 100 => 11#32
  | 101 => 11#32
  | 102 => 7#32
  | 103 => 11#32
  | 104 => 9#32
  | 105 => 7#32
  | 106 => 9#32
  | 107 => 7#32
  | 108 => 9#32
  | 109 => 11#32
  | 110 => 11#32
  | 111 => 11#32
  | 112 => 7#32
  | 113 => 11#32
  | 114 => 7#32
  | 115 => 11#32
  | 116 => 11#32
  | 117 => 9#32
  | 118 => 7#32
  | 119 => 9#32
  | 120 => 7#32
  | 121 => 7#32
  | 122 => 11#32
  | 123 => 11#32
  | 124 => 7#32
  | 125 => 9#32
  | 126 => 11#32
  | 127 => 7#32
  | _ => 0#32

noncomputable abbrev lit0t0_18 (i : Nat) : BitVec 32 := match i % 128 with
  | 0 => 11#32
  | 1 => 9#32
  | 2 => 9#32
  | 3 => 9#32
  | 4 => 9#32
  | 5 => 9#32
  | 6 => 7#32
  | 7 => 7#32
  | 8 => 11#32
  | 9 => 7#32
  | 10 => 11#32
  | 11 => 9#32
  | 12 => 7#32
  | 13 => 9#32
  | 14 => 9#32
  | 15 => 7#32
  | 16 => 11#32
  | 17 => 9#32
  | 18 => 11#32
  | 19 => 11#32
  | 20 => 7#32
  | 21 => 7#32
  | 22 => 9#32
  | 23 => 9#32
  | 24 => 7#32
  | 25 => 11#32
  | 26 => 9#32
  | 27 => 11#32
  | 28 => 11#32
  | 29 => 7#32
  | 30 => 11#32
  | 31 => 11#32
  | 32 => 9#32
  | 33 => 9#32
  | 34 => 9#32
  | 35 => 11#32
  | 36 => 7#32
  | 37 => 9#32
  | 38 => 7#32
  | 39 => 11#32
  | 40 => 9#32
  | 41 => 11#32
  | 42 => 9#32
  | 43 => 11#32
  | 44 => 11#32
  | 45 => 11#32
  | 46 => 11#32
  | 47 => 7#32
  | 48 => 7#32
  | 49 => 11#32
  | 50 => 11#32
  | 51 => 7#32
  | 52 => 7#32
  | 53 => 7#32
  | 54 => 7#32
  | 55 => 9#32
  | 56 => 11#32
  | 57 => 11#32
  | 58 => 7#32
  | 59 => 7#32
  | 60 => 11#32
  | 61 => 7#32
  | 62 => 11#32
  | 63 => 9#32
  | 64 => 11#32
  | 65 => 11#32
  | 66 => 11#32
  | 67 => 7#32
  | 68 => 7#32
  | 69 => 11#32
  | 70 => 9#32
  | 71 => 9#32
  | 72 => 11#32
  | 73 => 9#32
  | 74 => 7#32
  | 75 => 11#32
  | 76 => 11#32
  | 77 => 7#32
  | 78 => 11#32
  | 79 => 9#32
  | 80 => 11#32
  | 81 => 7#32
  | 82 => 7#32
  | 83 => 11#32
  | 84 => 7#32
  | 85 => 11#32
  | 86 => 7#32
  | 87 => 7#32
  | 88 => 9#32
  | 89 => 11#32
  | 90 => 11#32
  | 91 => 7#32
  | 92 => 11#32
  | 93 => 9#32
  | 94 => 9#32
  | 95 => 7#32
  | 96 => 9#32
  | 97 => 7#32
  | 98 => 7#32
  | 99 => 9#32
  | 100 => 7#32
  | 101 => 11#32
  | 102 => 11#32
  | 103 => 7#32
  | 104 => 9#32
  | 105 => 9#32
  | 106 => 9#32
  | 107 => 9#32
  | 108 => 11#32
  | 109 => 11#32
  | 110 => 9#32
  | 111 => 7#32
  | 112 => 11#32
  | 113 => 7#32
  | 114 => 9#32
  | 115 => 7#32
  | 116 => 7#32
  | 117 => 9#32
  | 118 => 9#32
  | 119 => 11#32
  | 120 => 9#32
  | 121 => 9#32
  | 122 => 9#32
  | 123 => 9#32
  | 124 => 9#32
  | 125 => 7#32
  | 126 => 9#32
  | 127 => 9#32
  | _ => 0#32

noncomputable abbrev lit0t0_19 (i : Nat) : BitVec 32 := match i % 128 with
  | 0 => 11#32
  | 1 => 7#32
  | 2 => 9#32
  | 3 => 9#32
  | 4 => 9#32
  | 5 => 11#32
  | 6 => 7#32
  | 7 => 7#32
  | 8 => 11#32
  | 9 => 7#32
  | 10 => 9#32
  | 11 => 7#32
  | 12 => 7#32
  | 13 => 9#32
  | 14 => 9#32
  | 15 => 7#32
  | 16 => 9#32
  | 17 => 11#32
  | 18 => 9#32
  | 19 => 11#32
  | 20 => 11#32
  | 21 => 9#32
  | 22 => 9#32
  | 23 => 11#32
  | 24 => 9#32
  | 25 => 7#32
  | 26 => 9#32
  | 27 => 9#32
  | 28 => 9#32
  | 29 => 9#32
  | 30 => 7#32
  | 31 => 7#32
  | 32 => 9#32
  | 33 => 9#32
  | 34 => 7#32
  | 35 => 9#32
  | 36 => 7#32
  | 37 => 11#32
  | 38 => 11#32
  | 39 => 11#32
  | 40 => 11#32
  | 41 => 9#32
  | 42 => 7#32
  | 43 => 7#32
  | 44 => 7#32
  | 45 => 7#32
  | 46 => 11#32
  | 47 => 7#32
  | 48 => 11#32
  | 49 => 9#32
  | 50 => 9#32
  | 51 => 9#32
  | 52 => 9#32
  | 53 => 9#32
  | 54 => 11#32
  | 55 => 9#32
  | 56 => 7#32
  | 57 => 9#32
  | 58 => 11#32
  | 59 => 9#32
  | 60 => 7#32
  | 61 => 7#32
  | 62 => 7#32
  | 63 => 11#32
  | 64 => 11#32
  | 65 => 7#32
  | 66 => 11#32
  | 67 => 7#32
  | 68 => 9#32
  | 69 => 7#32
  | 70 => 9#32
  | 71 => 7#32
  | 72 => 7#32
  | 73 => 11#32
  | 74 => 11#32
  | 75 => 7#32
  | 76 => 11#32
  | 77 => 9#32
  | 78 => 7#32
  | 79 => 7#32
  | 80 => 9#32
  | 81 => 11#32
  | 82 => 9#32
  | 83 => 7#32
  | 84 => 7#32
  | 85 => 11#32
  | 86 => 9#32
  | 87 => 11#32
  | 88 => 11#32
  | 89 => 11#32
  | 90 => 11#32
  | 91 => 7#32
  | 92 => 11#32
  | 93 => 9#32
  | 94 => 7#32
  | 95 => 11#32
  | 96 => 7#32
  | 97 => 11#32
  | 98 => 11#32
  | 99 => 11#32
  | 100 => 11#32
  | 101 => 9#32
  | 102 => 7#32
  | 103 => 9#32
  | 104 => 9#32
  | 105 => 9#32
  | 106 => 11#32
  | 107 => 7#32
  | 108 => 11#32
  | 109 => 11#32
  | 110 => 9#32
  | 111 => 7#32
  | 112 => 11#32
  | 113 => 11#32
  | 114 => 7#32
  | 115 => 7#32
  | 116 => 7#32
  | 117 => 9#32
  | 118 => 9#32
  | 119 => 9#32
  | 120 => 9#32
  | 121 => 7#32
  | 122 => 11#32
  | 123 => 9#32
  | 124 => 7#32
  | 125 => 11#32
  | 126 => 9#32
  | 127 => 9#32
  | _ => 0#32

noncomputable abbrev lit0t0_20 (i : Nat) : BitVec 32 := match i % 128 with
  | 0 => 11#32
  | 1 => 11#32
  | 2 => 11#32
  | 3 => 11#32
  | 4 => 11#32
  | 5 => 7#32
  | 6 => 11#32
  | 7 => 11#32
  | 8 => 11#32
  | 9 => 7#32
  | 10 => 7#32
  | 11 => 9#32
  | 12 => 11#32
  | 13 => 7#32
  | 14 => 11#32
  | 15 => 11#32
  | 16 => 7#32
  | 17 => 9#32
  | 18 => 9#32
  | 19 => 9#32
  | 20 => 11#32
  | 21 => 9#32
  | 22 => 7#32
  | 23 => 7#32
  | 24 => 7#32
  | 25 => 7#32
  | 26 => 11#32
  | 27 => 11#32
  | 28 => 9#32
  | 29 => 7#32
  | 30 => 11#32
  | 31 => 7#32
  | 32 => 11#32
  | 33 => 9#32
  | 34 => 9#32
  | 35 => 11#32
  | 36 => 7#32
  | 37 => 11#32
  | 38 => 7#32
  | 39 => 11#32
  | 40 => 9#32
  | 41 => 11#32
  | 42 => 7#32
  | 43 => 9#32
  | 44 => 11#32
  | 45 => 9#32
  | 46 => 7#32
  | 47 => 11#32
  | 48 => 9#32
  | 49 => 7#32
  | 50 => 11#32
  | 51 => 7#32
  | 52 => 9#32
  | 53 => 9#32
  | 54 => 9#32
  | 55 => 7#32
  | 56 => 7#32
  | 57 => 7#32
  | 58 => 11#32
  | 59 => 9#32
  | 60 => 11#32
  | 61 => 9#32
  | 62 => 11#32
  | 63 => 11#32
  | 64 => 9#32
  | 65 => 9#32
  | 66 => 7#32
  | 67 => 9#32
  | 68 => 9#32
  | 69 => 9#32
  | 70 => 7#32
  | 71 => 7#32
  | 72 => 9#32
  | 73 => 9#32
  | 74 => 9#32
  | 75 => 9#32
  | 76 => 9#32
  | 77 => 7#32
  | 78 => 9#32
  | 79 => 7#32
  | 80 => 11#32
  | 81 => 7#32
  | 82 => 7#32
  | 83 => 7#32
  | 84 => 11#32
  | 85 => 7#32
  | 86 => 11#32
  | 87 => 7#32
  | 88 => 11#32
  | 89 => 7#32
  | 90 => 7#32
  | 91 => 9#32
  | 92 => 11#32
  | 93 => 7#32
  | 94 => 11#32
  | 95 => 7#32
  | 96 => 7#32
  | 97 => 7#32
  | 98 => 7#32
  | 99 => 11#32
  | 100 => 9#32
  | 101 => 7#32
  | 102 => 11#32
  | 103 => 7#32
  | 104 => 7#32
  | 105 => 9#32
  | 106 => 11#32
  | 107 => 9#32
  | 108 => 7#32
  | 109 => 9#32
  | 110 => 11#32
  | 111 => 11#32
  | 112 => 7#32
  | 113 => 11#32
  | 114 => 9#32
  | 115 => 9#32
  | 116 => 11#32
  | 117 => 9#32
  | 118 => 9#32
  | 119 => 9#32
  | 120 => 7#32
  | 121 => 7#32
  | 122 => 9#32
  | 123 => 7#32
  | 124 => 11#32
  | 125 => 9#32
  | 126 => 9#32
  | 127 => 11#32
  | _ => 0#32

noncomputable abbrev lit0t0_21 (i : Nat) : BitVec 32 := match i % 128 with
  | 0 => 7#32
  | 1 => 7#32
  | 2 => 11#32
  | 3 => 7#32
  | 4 => 11#32
  | 5 => 11#32
  | 6 => 7#32
  | 7 => 7#32
  | 8 => 11#32
  | 9 => 9#32
  | 10 => 7#32
  | 11 => 7#32
  | 12 => 7#32
  | 13 => 9#32
  | 14 => 11#32
  | 15 => 7#32
  | 16 => 9#32
  | 17 => 7#32
  | 18 => 11#32
  | 19 => 9#32
  | 20 => 7#32
  | 21 => 9#32
  | 22 => 11#32
  | 23 => 7#32
  | 24 => 7#32
  | 25 => 9#32
  | 26 => 7#32
  | 27 => 11#32
  | 28 => 9#32
  | 29 => 11#32
  | 30 => 9#32
  | 31 => 9#32
  | 32 => 7#32
  | 33 => 9#32
  | 34 => 9#32
  | 35 => 11#32
  | 36 => 11#32
  | 37 => 7#32
  | 38 => 11#32
  | 39 => 7#32
  | 40 => 9#32
  | 41 => 11#32
  | 42 => 9#32
  | 43 => 11#32
  | 44 => 9#32
  | 45 => 11#32
  | 46 => 9#32
  | 47 => 9#32
  | 48 => 9#32
  | 49 => 7#32
  | 50 => 7#32
  | 51 => 11#32
  | 52 => 11#32
  | 53 => 11#32
  | 54 => 9#32
  | 55 => 11#32
  | 56 => 7#32
  | 57 => 7#32
  | 58 => 7#32
  | 59 => 11#32
  | 60 => 7#32
  | 61 => 9#32
  | 62 => 9#32
  | 63 => 9#32
  | 64 => 9#32
  | 65 => 11#32
  | 66 => 11#32
  | 67 => 7#32
  | 68 => 7#32
  | 69 => 11#32
  | 70 => 11#32
  | 71 => 7#32
  | 72 => 7#32
  | 73 => 7#32
  | 74 => 7#32
  | 75 => 9#32
  | 76 => 9#32
  | 77 => 11#32
  | 78 => 7#32
  | 79 => 11#32
  | 80 => 7#32
  | 81 => 11#32
  | 82 => 9#32
  | 83 => 11#32
  | 84 => 7#32
  | 85 => 9#32
  | 86 => 9#32
  | 87 => 9#32
  | 88 => 7#32
  | 89 => 9#32
  | 90 => 11#32
  | 91 => 11#32
  | 92 => 9#32
  | 93 => 11#32
  | 94 => 7#32
  | 95 => 9#32
  | 96 => 11#32
  | 97 => 11#32
  | 98 => 11#32
  | 99 => 9#32
  | 100 => 7#32
  | 101 => 11#32
  | 102 => 11#32
  | 103 => 11#32
  | 104 => 11#32
  | 105 => 7#32
  | 106 => 11#32
  | 107 => 11#32
  | 108 => 11#32
  | 109 => 11#32
  | 110 => 11#32
  | 111 => 11#32
  | 112 => 9#32
  | 113 => 11#32
  | 114 => 11#32
  | 115 => 7#32
  | 116 => 9#32
  | 117 => 9#32
  | 118 => 7#32
  | 119 => 9#32
  | 120 => 11#32
  | 121 => 11#32
  | 122 => 7#32
  | 123 => 7#32
  | 124 => 7#32
  | 125 => 9#32
  | 126 => 11#32
  | 127 => 11#32
  | _ => 0#32

noncomputable abbrev lit0t0_22 (i : Nat) : BitVec 32 := match i % 128 with
  | 0 => 11#32
  | 1 => 7#32
  | 2 => 9#32
  | 3 => 11#32
  | 4 => 7#32
  | 5 => 9#32
  | 6 => 11#32
  | 7 => 11#32
  | 8 => 7#32
  | 9 => 11#32
  | 10 => 7#32
  | 11 => 11#32
  | 12 => 7#32
  | 13 => 7#32
  | 14 => 7#32
  | 15 => 11#32
  | 16 => 9#32
  | 17 => 11#32
  | 18 => 7#32
  | 19 => 11#32
  | 20 => 11#32
  | 21 => 9#32
  | 22 => 9#32
  | 23 => 9#32
  | 24 => 9#32
  | 25 => 9#32
  | 26 => 11#32
  | 27 => 7#32
  | 28 => 11#32
  | 29 => 11#32
  | 30 => 11#32
  | 31 => 11#32
  | 32 => 11#32
  | 33 => 9#32
  | 34 => 9#32
  | 35 => 11#32
  | 36 => 7#32
  | 37 => 11#32
  | 38 => 11#32
  | 39 => 7#32
  | 40 => 9#32
  | 41 => 11#32
  | 42 => 7#32
  | 43 => 7#32
  | 44 => 11#32
  | 45 => 7#32
  | 46 => 11#32
  | 47 => 7#32
  | 48 => 9#32
  | 49 => 11#32
  | 50 => 11#32
  | 51 => 7#32
  | 52 => 9#32
  | 53 => 7#32
  | 54 => 7#32
  | 55 => 9#32
  | 56 => 9#32
  | 57 => 11#32
  | 58 => 11#32
  | 59 => 7#32
  | 60 => 11#32
  | 61 => 11#32
  | 62 => 7#32
  | 63 => 7#32
  | 64 => 11#32
  | 65 => 11#32
  | 66 => 7#32
  | 67 => 7#32
  | 68 => 7#32
  | 69 => 7#32
  | 70 => 11#32
  | 71 => 11#32
  | 72 => 11#32
  | 73 => 9#32
  | 74 => 9#32
  | 75 => 7#32
  | 76 => 9#32
  | 77 => 7#32
  | 78 => 11#32
  | 79 => 9#32
  | 80 => 9#32
  | 81 => 9#32
  | 82 => 11#32
  | 83 => 9#32
  | 84 => 11#32
  | 85 => 11#32
  | 86 => 11#32
  | 87 => 7#32
  | 88 => 9#32
  | 89 => 7#32
  | 90 => 7#32
  | 91 => 7#32
  | 92 => 9#32
  | 93 => 11#32
  | 94 => 11#32
  | 95 => 9#32
  | 96 => 11#32
  | 97 => 11#32
  | 98 => 7#32
  | 99 => 7#32
  | 100 => 9#32
  | 101 => 7#32
  | 102 => 9#32
  | 103 => 7#32
  | 104 => 7#32
  | 105 => 7#32
  | 106 => 9#32
  | 107 => 11#32
  | 108 => 9#32
  | 109 => 11#32
  | 110 => 7#32
  | 111 => 7#32
  | 112 => 7#32
  | 113 => 7#32
  | 114 => 9#32
  | 115 => 11#32
  | 116 => 9#32
  | 117 => 9#32
  | 118 => 7#32
  | 119 => 11#32
  | 120 => 11#32
  | 121 => 9#32
  | 122 => 9#32
  | 123 => 9#32
  | 124 => 7#32
  | 125 => 7#32
  | 126 => 11#32
  | 127 => 11#32
  | _ => 0#32

noncomputable abbrev lit0t0_23 (i : Nat) : BitVec 32 := match i % 128 with
  | 0 => 11#32
  | 1 => 7#32
  | 2 => 9#32
  | 3 => 9#32
  | 4 => 11#32
  | 5 => 9#32
  | 6 => 11#32
  | 7 => 11#32
  | 8 => 7#32
  | 9 => 11#32
  | 10 => 9#32
  | 11 => 7#32
  | 12 => 11#32
  | 13 => 11#32
  | 14 => 11#32
  | 15 => 11#32
  | 16 => 9#32
  | 17 => 9#32
  | 18 => 11#32
  | 19 => 9#32
  | 20 => 11#32
  | 21 => 9#32
  | 22 => 7#32
  | 23 => 7#32
  | 24 => 11#32
  | 25 => 7#32
  | 26 => 7#32
  | 27 => 11#32
  | 28 => 9#32
  | 29 => 9#32
  | 30 => 11#32
  | 31 => 7#32
  | 32 => 11#32
  | 33 => 9#32
  | 34 => 9#32
  | 35 => 9#32
  | 36 => 9#32
  | 37 => 11#32
  | 38 => 11#32
  | 39 => 9#32
  | 40 => 7#32
  | 41 => 7#32
  | 42 => 9#32
  | 43 => 11#32
  | 44 => 7#32
  | 45 => 7#32
  | 46 => 7#32
  | 47 => 11#32
  | 48 => 11#32
  | 49 => 11#32
  | 50 => 11#32
  | 51 => 11#32
  | 52 => 9#32
  | 53 => 11#32
  | 54 => 7#32
  | 55 => 9#32
  | 56 => 7#32
  | 57 => 7#32
  | 58 => 9#32
  | 59 => 9#32
  | 60 => 11#32
  | 61 => 7#32
  | 62 => 7#32
  | 63 => 7#32
  | 64 => 9#32
  | 65 => 7#32
  | 66 => 11#32
  | 67 => 9#32
  | 68 => 7#32
  | 69 => 11#32
  | 70 => 9#32
  | 71 => 7#32
  | 72 => 11#32
  | 73 => 7#32
  | 74 => 7#32
  | 75 => 9#32
  | 76 => 7#32
  | 77 => 11#32
  | 78 => 7#32
  | 79 => 9#32
  | 80 => 11#32
  | 81 => 9#32
  | 82 => 9#32
  | 83 => 11#32
  | 84 => 11#32
  | 85 => 11#32
  | 86 => 9#32
  | 87 => 11#32
  | 88 => 7#32
  | 89 => 11#32
  | 90 => 7#32
  | 91 => 9#32
  | 92 => 9#32
  | 93 => 9#32
  | 94 => 9#32
  | 95 => 11#32
  | 96 => 11#32
  | 97 => 9#32
  | 98 => 9#32
  | 99 => 9#32
  | 100 => 11#32
  | 101 => 7#32
  | 102 => 11#32
  | 103 => 7#32
  | 104 => 9#32
  | 105 => 11#32
  | 106 => 11#32
  | 107 => 11#32
  | 108 => 9#32
  | 109 => 7#32
  | 110 => 9#32
  | 111 => 7#32
  | 112 => 7#32
  | 113 => 11#32
  | 114 => 11#32
  | 115 => 7#32
  | 116 => 11#32
  | 117 => 9#32
  | 118 => 9#32
  | 119 => 7#32
  | 120 => 11#32
  | 121 => 9#32
  | 122 => 9#32
  | 123 => 7#32
  | 124 => 11#32
  | 125 => 7#32
  | 126 => 7#32
  | 127 => 11#32
  | _ => 0#32

noncomputable abbrev lit0t0_24 (i : Nat) : BitVec 32 := match i % 128 with
  | 0 => 11#32
  | 1 => 7#32
  | 2 => 9#32
  | 3 => 11#32
  | 4 => 7#32
  | 5 => 7#32
  | 6 => 9#32
  | 7 => 11#32
  | 8 => 7#32
  | 9 => 7#32
  | 10 => 7#32
  | 11 => 7#32
  | 12 => 7#32
  | 13 => 11#32
  | 14 => 9#32
  | 15 => 7#32
  | 16 => 7#32
  | 17 => 11#32
  | 18 => 11#32
  | 19 => 7#32
  | 20 => 11#32
  | 21 => 9#32
  | 22 => 11#32
  | 23 => 11#32
  | 24 => 9#32
  | 25 => 7#32
  | 26 => 11#32
  | 27 => 9#32
  | 28 => 9#32
  | 29 => 9#32
  | 30 => 9#32
  | 31 => 9#32
  | 32 => 9#32
  | 33 => 9#32
  | 34 => 7#32
  | 35 => 7#32
  | 36 => 7#32
  | 37 => 11#32
  | 38 => 9#32
  | 39 => 7#32
  | 40 => 7#32
  | 41 => 11#32
  | 42 => 11#32
  | 43 => 7#32
  | 44 => 11#32
  | 45 => 7#32
  | 46 => 11#32
  | 47 => 11#32
  | 48 => 7#32
  | 49 => 11#32
  | 50 => 11#32
  | 51 => 9#32
  | 52 => 11#32
  | 53 => 7#32
  | 54 => 11#32
  | 55 => 7#32
  | 56 => 9#32
  | 57 => 7#32
  | 58 => 11#32
  | 59 => 11#32
  | 60 => 7#32
  | 61 => 9#32
  | 62 => 7#32
  | 63 => 11#32
  | 64 => 11#32
  | 65 => 11#32
  | 66 => 9#32
  | 67 => 9#32
  | 68 => 11#32
  | 69 => 11#32
  | 70 => 11#32
  | 71 => 11#32
  | 72 => 9#32
  | 73 => 9#32
  | 74 => 9#32
  | 75 => 9#32
  | 76 => 9#32
  | 77 => 9#32
  | 78 => 7#32
  | 79 => 7#32
  | 80 => 7#32
  | 81 => 7#32
  | 82 => 9#32
  | 83 => 9#32
  | 84 => 7#32
  | 85 => 9#32
  | 86 => 9#32
  | 87 => 7#32
  | 88 => 11#32
  | 89 => 7#32
  | 90 => 7#32
  | 91 => 11#32
  | 92 => 9#32
  | 93 => 9#32
  | 94 => 9#32
  | 95 => 9#32
  | 96 => 7#32
  | 97 => 11#32
  | 98 => 9#32
  | 99 => 9#32
  | 100 => 11#32
  | 101 => 11#32
  | 102 => 7#32
  | 103 => 7#32
  | 104 => 11#32
  | 105 => 7#32
  | 106 => 9#32
  | 107 => 7#32
  | 108 => 11#32
  | 109 => 11#32
  | 110 => 11#32
  | 111 => 11#32
  | 112 => 9#32
  | 113 => 7#32
  | 114 => 7#32
  | 115 => 11#32
  | 116 => 9#32
  | 117 => 11#32
  | 118 => 9#32
  | 119 => 9#32
  | 120 => 7#32
  | 121 => 9#32
  | 122 => 9#32
  | 123 => 11#32
  | 124 => 9#32
  | 125 => 11#32
  | 126 => 7#32
  | 127 => 7#32
  | _ => 0#32

noncomputable abbrev lit0t0_25 (i : Nat) : BitVec 32 := match i % 128 with
  | 0 => 9#32
  | 1 => 9#32
  | 2 => 11#32
  | 3 => 11#32
  | 4 => 9#32
  | 5 => 9#32
  | 6 => 9#32
  | 7 => 9#32
  | 8 => 7#32
  | 9 => 11#32
  | 10 => 11#32
  | 11 => 9#32
  | 12 => 9#32
  | 13 => 9#32
  | 14 => 9#32
  | 15 => 7#32
  | 16 => 9#32
  | 17 => 11#32
  | 18 => 7#32
  | 19 => 11#32
  | 20 => 9#32
  | 21 => 11#32
  | 22 => 11#32
  | 23 => 11#32
  | 24 => 9#32
  | 25 => 9#32
  | 26 => 9#32
  | 27 => 11#32
  | 28 => 11#32
  | 29 => 9#32
  | 30 => 11#32
  | 31 => 7#32
  | 32 => 7#32
  | 33 => 7#32
  | 34 => 9#32
  | 35 => 9#32
  | 36 => 11#32
  | 37 => 11#32
  | 38 => 7#32
  | 39 => 9#32
  | 40 => 11#32
  | 41 => 7#32
  | 42 => 9#32
  | 43 => 7#32
  | 44 => 7#32
  | 45 => 9#32
  | 46 => 11#32
  | 47 => 7#32
  | 48 => 9#32
  | 49 => 9#32
  | 50 => 11#32
  | 51 => 7#32
  | 52 => 9#32
  | 53 => 9#32
  | 54 => 9#32
  | 55 => 7#32
  | 56 => 7#32
  | 57 => 9#32
  | 58 => 7#32
  | 59 => 9#32
  | 60 => 9#32
  | 61 => 9#32
  | 62 => 7#32
  | 63 => 7#32
  | 64 => 7#32
  | 65 => 11#32
  | 66 => 7#32
  | 67 => 11#32
  | 68 => 11#32
  | 69 => 7#32
  | 70 => 11#32
  | 71 => 7#32
  | 72 => 7#32
  | 73 => 7#32
  | 74 => 7#32
  | 75 => 9#32
  | 76 => 7#32
  | 77 => 7#32
  | 78 => 9#32
  | 79 => 7#32
  | 80 => 7#32
  | 81 => 9#32
  | 82 => 9#32
  | 83 => 7#32
  | 84 => 7#32
  | 85 => 7#32
  | 86 => 9#32
  | 87 => 11#32
  | 88 => 9#32
  | 89 => 7#32
  | 90 => 7#32
  | 91 => 7#32
  | 92 => 9#32
  | 93 => 11#32
  | 94 => 7#32
  | 95 => 11#32
  | 96 => 9#32
  | 97 => 9#32
  | 98 => 9#32
  | 99 => 11#32
  | 100 => 9#32
  | 101 => 7#32
  | 102 => 9#32
  | 103 => 9#32
  | 104 => 7#32
  | 105 => 7#32
  | 106 => 11#32
  | 107 => 9#32
  | 108 => 9#32
  | 109 => 7#32
  | 110 => 11#32
  | 111 => 11#32
  | 112 => 11#32
  | 113 => 7#32
  | 114 => 7#32
  | 115 => 11#32
  | 116 => 11#32
  | 117 => 11#32
  | 118 => 7#32
  | 119 => 11#32
  | 120 => 7#32
  | 121 => 11#32
  | 122 => 11#32
  | 123 => 7#32
  | 124 => 9#32
  | 125 => 7#32
  | 126 => 9#32
  | 127 => 11#32
  | _ => 0#32

noncomputable abbrev lit0t0_26 (i : Nat) : BitVec 32 := match i % 128 with
  | 0 => 9#32
  | 1 => 9#32
  | 2 => 11#32
  | 3 => 7#32
  | 4 => 9#32
  | 5 => 11#32
  | 6 => 9#32
  | 7 => 7#32
  | 8 => 9#32
  | 9 => 11#32
  | 10 => 11#32
  | 11 => 11#32
  | 12 => 7#32
  | 13 => 9#32
  | 14 => 11#32
  | 15 => 11#32
  | 16 => 9#32
  | 17 => 9#32
  | 18 => 7#32
  | 19 => 7#32
  | 20 => 11#32
  | 21 => 11#32
  | 22 => 7#32
  | 23 => 9#32
  | 24 => 11#32
  | 25 => 7#32
  | 26 => 7#32
  | 27 => 9#32
  | 28 => 11#32
  | 29 => 7#32
  | 30 => 7#32
  | 31 => 7#32
  | 32 => 11#32
  | 33 => 9#32
  | 34 => 7#32
  | 35 => 9#32
  | 36 => 9#32
  | 37 => 9#32
  | 38 => 7#32
  | 39 => 7#32
  | 40 => 11#32
  | 41 => 11#32
  | 42 => 11#32
  | 43 => 7#32
  | 44 => 7#32
  | 45 => 7#32
  | 46 => 11#32
  | 47 => 9#32
  | 48 => 9#32
  | 49 => 11#32
  | 50 => 9#32
  | 51 => 7#32
  | 52 => 7#32
  | 53 => 11#32
  | 54 => 9#32
  | 55 => 7#32
  | 56 => 11#32
  | 57 => 7#32
  | 58 => 11#32
  | 59 => 11#32
  | 60 => 7#32
  | 61 => 9#32
  | 62 => 7#32
  | 63 => 9#32
  | 64 => 11#32
  | 65 => 11#32
  | 66 => 9#32
  | 67 => 9#32
  | 68 => 9#32
  | 69 => 11#32
  | 70 => 7#32
  | 71 => 7#32
  | 72 => 7#32
  | 73 => 9#32
  | 74 => 7#32
  | 75 => 7#32
  | 76 => 9#32
  | 77 => 7#32
  | 78 => 9#32
  | 79 => 9#32
  | 80 => 11#32
  | 81 => 9#32
  | 82 => 11#32
  | 83 => 9#32
  | 84 => 9#32
  | 85 => 7#32
  | 86 => 11#32
  | 87 => 9#32
  | 88 => 7#32
  | 89 => 7#32
  | 90 => 7#32
  | 91 => 11#32
  | 92 => 9#32
  | 93 => 9#32
  | 94 => 9#32
  | 95 => 11#32
  | 96 => 9#32
  | 97 => 11#32
  | 98 => 11#32
  | 99 => 7#32
  | 100 => 7#32
  | 101 => 9#32
  | 102 => 9#32
  | 103 => 11#32
  | 104 => 11#32
  | 105 => 9#32
  | 106 => 7#32
  | 107 => 7#32
  | 108 => 9#32
  | 109 => 11#32
  | 110 => 9#32
  | 111 => 11#32
  | 112 => 11#32
  | 113 => 11#32
  | 114 => 11#32
  | 115 => 9#32
  | 116 => 11#32
  | 117 => 11#32
  | 118 => 9#32
  | 119 => 9#32
  | 120 => 9#32
  | 121 => 9#32
  | 122 => 7#32
  | 123 => 11#32
  | 124 => 9#32
  | 125 => 7#32
  | 126 => 7#32
  | 127 => 11#32
  | _ => 0#32

noncomputable abbrev lit0t0_27 (i : Nat) : BitVec 32 := match i % 128 with
  | 0 => 11#32
  | 1 => 7#32
  | 2 => 9#32
  | 3 => 9#32
  | 4 => 11#32
  | 5 => 11#32
  | 6 => 7#32
  | 7 => 7#32
  | 8 => 11#32
  | 9 => 9#32
  | 10 => 7#32
  | 11 => 9#32
  | 12 => 11#32
  | 13 => 7#32
  | 14 => 11#32
  | 15 => 11#32
  | 16 => 11#32
  | 17 => 7#32
  | 18 => 11#32
  | 19 => 9#32
  | 20 => 7#32
  | 21 => 9#32
  | 22 => 11#32
  | 23 => 7#32
  | 24 => 9#32
  | 25 => 7#32
  | 26 => 7#32
  | 27 => 11#32
  | 28 => 7#32
  | 29 => 7#32
  | 30 => 9#32
  | 31 => 9#32
  | 32 => 7#32
  | 33 => 11#32
  | 34 => 11#32
  | 35 => 11#32
  | 36 => 9#32
  | 37 => 9#32
  | 38 => 11#32
  | 39 => 7#32
  | 40 => 11#32
  | 41 => 7#32
  | 42 => 11#32
  | 43 => 11#32
  | 44 => 7#32
  | 45 => 9#32
  | 46 => 9#32
  | 47 => 11#32
  | 48 => 11#32
  | 49 => 9#32
  | 50 => 7#32
  | 51 => 11#32
  | 52 => 11#32
  | 53 => 9#32
  | 54 => 9#32
  | 55 => 7#32
  | 56 => 11#32
  | 57 => 9#32
  | 58 => 11#32
  | 59 => 11#32
  | 60 => 11#32
  | 61 => 7#32
  | 62 => 11#32
  | 63 => 7#32
  | 64 => 11#32
  | 65 => 9#32
  | 66 => 9#32
  | 67 => 9#32
  | 68 => 9#32
  | 69 => 11#32
  | 70 => 7#32
  | 71 => 9#32
  | 72 => 7#32
  | 73 => 9#32
  | 74 => 11#32
  | 75 => 11#32
  | 76 => 9#32
  | 77 => 9#32
  | 78 => 11#32
  | 79 => 11#32
  | 80 => 11#32
  | 81 => 7#32
  | 82 => 9#32
  | 83 => 11#32
  | 84 => 9#32
  | 85 => 7#32
  | 86 => 11#32
  | 87 => 9#32
  | 88 => 9#32
  | 89 => 7#32
  | 90 => 9#32
  | 91 => 7#32
  | 92 => 11#32
  | 93 => 11#32
  | 94 => 11#32
  | 95 => 11#32
  | 96 => 7#32
  | 97 => 7#32
  | 98 => 11#32
  | 99 => 11#32
  | 100 => 9#32
  | 101 => 9#32
  | 102 => 9#32
  | 103 => 11#32
  | 104 => 9#32
  | 105 => 11#32
  | 106 => 9#32
  | 107 => 9#32
  | 108 => 9#32
  | 109 => 7#32
  | 110 => 9#32
  | 111 => 9#32
  | 112 => 9#32
  | 113 => 9#32
  | 114 => 9#32
  | 115 => 9#32
  | 116 => 11#32
  | 117 => 7#32
  | 118 => 11#32
  | 119 => 7#32
  | 120 => 7#32
  | 121 => 7#32
  | 122 => 11#32
  | 123 => 11#32
  | 124 => 11#32
  | 125 => 7#32
  | 126 => 7#32
  | 127 => 11#32
  | _ => 0#32

noncomputable abbrev lit0t0_28 (i : Nat) : BitVec 32 := match i % 128 with
  | 0 => 9#32
  | 1 => 7#32
  | 2 => 9#32
  | 3 => 11#32
  | 4 => 7#32
  | 5 => 7#32
  | 6 => 11#32
  | 7 => 7#32
  | 8 => 7#32
  | 9 => 11#32
  | 10 => 11#32
  | 11 => 7#32
  | 12 => 9#32
  | 13 => 7#32
  | 14 => 11#32
  | 15 => 9#32
  | 16 => 11#32
  | 17 => 7#32
  | 18 => 9#32
  | 19 => 9#32
  | 20 => 7#32
  | 21 => 7#32
  | 22 => 11#32
  | 23 => 9#32
  | 24 => 11#32
  | 25 => 9#32
  | 26 => 11#32
  | 27 => 7#32
  | 28 => 11#32
  | 29 => 7#32
  | 30 => 7#32
  | 31 => 9#32
  | 32 => 9#32
  | 33 => 7#32
  | 34 => 11#32
  | 35 => 11#32
  | 36 => 7#32
  | 37 => 9#32
  | 38 => 7#32
  | 39 => 7#32
  | 40 => 9#32
  | 41 => 11#32
  | 42 => 11#32
  | 43 => 7#32
  | 44 => 9#32
  | 45 => 9#32
  | 46 => 7#32
  | 47 => 7#32
  | 48 => 11#32
  | 49 => 9#32
  | 50 => 7#32
  | 51 => 7#32
  | 52 => 9#32
  | 53 => 7#32
  | 54 => 9#32
  | 55 => 11#32
  | 56 => 9#32
  | 57 => 9#32
  | 58 => 9#32
  | 59 => 7#32
  | 60 => 7#32
  | 61 => 11#32
  | 62 => 7#32
  | 63 => 7#32
  | 64 => 9#32
  | 65 => 9#32
  | 66 => 9#32
  | 67 => 7#32
  | 68 => 9#32
  | 69 => 9#32
  | 70 => 11#32
  | 71 => 9#32
  | 72 => 11#32
  | 73 => 11#32
  | 74 => 7#32
  | 75 => 11#32
  | 76 => 7#32
  | 77 => 9#32
  | 78 => 9#32
  | 79 => 7#32
  | 80 => 11#32
  | 81 => 7#32
  | 82 => 9#32
  | 83 => 7#32
  | 84 => 7#32
  | 85 => 7#32
  | 86 => 7#32
  | 87 => 7#32
  | 88 => 9#32
  | 89 => 9#32
  | 90 => 7#32
  | 91 => 7#32
  | 92 => 11#32
  | 93 => 9#32
  | 94 => 7#32
  | 95 => 7#32
  | 96 => 11#32
  | 97 => 11#32
  | 98 => 11#32
  | 99 => 11#32
  | 100 => 9#32
  | 101 => 7#32
  | 102 => 7#32
  | 103 => 11#32
  | 104 => 11#32
  | 105 => 9#32
  | 106 => 11#32
  | 107 => 11#32
  | 108 => 11#32
  | 109 => 7#32
  | 110 => 7#32
  | 111 => 7#32
  | 112 => 9#32
  | 113 => 11#32
  | 114 => 11#32
  | 115 => 7#32
  | 116 => 11#32
  | 117 => 9#32
  | 118 => 11#32
  | 119 => 7#32
  | 120 => 11#32
  | 121 => 7#32
  | 122 => 9#32
  | 123 => 7#32
  | 124 => 11#32
  | 125 => 9#32
  | 126 => 9#32
  | 127 => 9#32
  | _ => 0#32

noncomputable abbrev lit0t0_29 (i : Nat) : BitVec 32 := match i % 128 with
  | 0 => 7#32
  | 1 => 11#32
  | 2 => 11#32
  | 3 => 11#32
  | 4 => 9#32
  | 5 => 11#32
  | 6 => 7#32
  | 7 => 7#32
  | 8 => 7#32
  | 9 => 7#32
  | 10 => 9#32
  | 11 => 9#32
  | 12 => 7#32
  | 13 => 7#32
  | 14 => 9#32
  | 15 => 7#32
  | 16 => 11#32
  | 17 => 7#32
  | 18 => 11#32
  | 19 => 9#32
  | 20 => 9#32
  | 21 => 9#32
  | 22 => 11#32
  | 23 => 11#32
  | 24 => 9#32
  | 25 => 9#32
  | 26 => 7#32
  | 27 => 11#32
  | 28 => 7#32
  | 29 => 7#32
  | 30 => 7#32
  | 31 => 7#32
  | 32 => 7#32
  | 33 => 11#32
  | 34 => 9#32
  | 35 => 9#32
  | 36 => 9#32
  | 37 => 9#32
  | 38 => 9#32
  | 39 => 7#32
  | 40 => 7#32
  | 41 => 9#32
  | 42 => 7#32
  | 43 => 7#32
  | 44 => 7#32
  | 45 => 11#32
  | 46 => 9#32
  | 47 => 9#32
  | 48 => 7#32
  | 49 => 7#32
  | 50 => 7#32
  | 51 => 11#32
  | 52 => 11#32
  | 53 => 9#32
  | 54 => 11#32
  | 55 => 9#32
  | 56 => 9#32
  | 57 => 7#32
  | 58 => 7#32
  | 59 => 9#32
  | 60 => 7#32
  | 61 => 9#32
  | 62 => 7#32
  | 63 => 9#32
  | 64 => 9#32
  | 65 => 11#32
  | 66 => 11#32
  | 67 => 9#32
  | 68 => 7#32
  | 69 => 7#32
  | 70 => 7#32
  | 71 => 7#32
  | 72 => 11#32
  | 73 => 7#32
  | 74 => 9#32
  | 75 => 9#32
  | 76 => 11#32
  | 77 => 7#32
  | 78 => 9#32
  | 79 => 7#32
  | 80 => 7#32
  | 81 => 7#32
  | 82 => 7#32
  | 83 => 9#32
  | 84 => 11#32
  | 85 => 7#32
  | 86 => 7#32
  | 87 => 7#32
  | 88 => 9#32
  | 89 => 7#32
  | 90 => 11#32
  | 91 => 7#32
  | 92 => 7#32
  | 93 => 7#32
  | 94 => 11#32
  | 95 => 7#32
  | 96 => 9#32
  | 97 => 11#32
  | 98 => 9#32
  | 99 => 7#32
  | 100 => 7#32
  | 101 => 11#32
  | 102 => 9#32
  | 103 => 11#32
  | 104 => 7#32
  | 105 => 11#32
  | 106 => 7#32
  | 107 => 11#32
  | 108 => 9#32
  | 109 => 7#32
  | 110 => 9#32
  | 111 => 11#32
  | 112 => 9#32
  | 113 => 11#32
  | 114 => 11#32
  | 115 => 9#32
  | 116 => 7#32
  | 117 => 9#32
  | 118 => 7#32
  | 119 => 7#32
  | 120 => 11#32
  | 121 => 7#32
  | 122 => 11#32
  | 123 => 11#32
  | 124 => 11#32
  | 125 => 7#32
  | 126 => 7#32
  | 127 => 11#32
  | _ => 0#32

noncomputable abbrev lit0t0_30 (i : Nat) : BitVec 32 := match i % 128 with
  | 0 => 9#32
  | 1 => 7#32
  | 2 => 7#32
  | 3 => 11#32
  | 4 => 7#32
  | 5 => 7#32
  | 6 => 7#32
  | 7 => 9#32
  | 8 => 9#32
  | 9 => 9#32
  | 10 => 11#32
  | 11 => 7#32
  | 12 => 7#32
  | 13 => 7#32
  | 14 => 11#32
  | 15 => 7#32
  | 16 => 9#32
  | 17 => 11#32
  | 18 => 7#32
  | 19 => 11#32
  | 20 => 11#32
  | 21 => 7#32
  | 22 => 9#32
  | 23 => 11#32
  | 24 => 11#32
  | 25 => 11#32
  | 26 => 11#32
  | 27 => 11#32
  | 28 => 9#32
  | 29 => 9#32
  | 30 => 9#32
  | 31 => 7#32
  | 32 => 7#32
  | 33 => 11#32
  | 34 => 9#32
  | 35 => 11#32
  | 36 => 9#32
  | 37 => 9#32
  | 38 => 9#32
  | 39 => 7#32
  | 40 => 11#32
  | 41 => 9#32
  | 42 => 7#32
  | 43 => 7#32
  | 44 => 7#32
  | 45 => 11#32
  | 46 => 9#32
  | 47 => 11#32
  | 48 => 9#32
  | 49 => 9#32
  | 50 => 7#32
  | 51 => 7#32
  | 52 => 9#32
  | 53 => 7#32
  | 54 => 9#32
  | 55 => 11#32
  | 56 => 11#32
  | 57 => 11#32
  | 58 => 7#32
  | 59 => 9#32
  | 60 => 9#32
  | 61 => 7#32
  | 62 => 11#32
  | 63 => 9#32
  | 64 => 7#32
  | 65 => 7#32
  | 66 => 9#32
  | 67 => 9#32
  | 68 => 9#32
  | 69 => 9#32
  | 70 => 9#32
  | 71 => 9#32
  | 72 => 7#32
  | 73 => 7#32
  | 74 => 7#32
  | 75 => 11#32
  | 76 => 9#32
  | 77 => 7#32
  | 78 => 7#32
  | 79 => 7#32
  | 80 => 9#32
  | 81 => 9#32
  | 82 => 7#32
  | 83 => 9#32
  | 84 => 7#32
  | 85 => 7#32
  | 86 => 11#32
  | 87 => 7#32
  | 88 => 11#32
  | 89 => 7#32
  | 90 => 11#32
  | 91 => 11#32
  | 92 => 7#32
  | 93 => 7#32
  | 94 => 11#32
  | 95 => 9#32
  | 96 => 7#32
  | 97 => 7#32
  | 98 => 7#32
  | 99 => 9#32
  | 100 => 11#32
  | 101 => 11#32
  | 102 => 7#32
  | 103 => 11#32
  | 104 => 11#32
  | 105 => 9#32
  | 106 => 9#32
  | 107 => 7#32
  | 108 => 11#32
  | 109 => 11#32
  | 110 => 9#32
  | 111 => 9#32
  | 112 => 7#32
  | 113 => 11#32
  | 114 => 11#32
  | 115 => 7#32
  | 116 => 9#32
  | 117 => 7#32
  | 118 => 9#32
  | 119 => 7#32
  | 120 => 7#32
  | 121 => 9#32
  | 122 => 7#32
  | 123 => 9#32
  | 124 => 11#32
  | 125 => 9#32
  | 126 => 9#32
  | 127 => 9#32
  | _ => 0#32

noncomputable abbrev lit0t0_31 (i : Nat) : BitVec 32 := match i % 128 with
  | 0 => 9#32
  | 1 => 9#32
  | 2 => 7#32
  | 3 => 9#32
  | 4 => 7#32
  | 5 => 7#32
  | 6 => 7#32
  | 7 => 9#32
  | 8 => 7#32
  | 9 => 7#32
  | 10 => 11#32
  | 11 => 11#32
  | 12 => 7#32
  | 13 => 11#32
  | 14 => 9#32
  | 15 => 7#32
  | 16 => 11#32
  | 17 => 11#32
  | 18 => 9#32
  | 19 => 7#32
  | 20 => 9#32
  | 21 => 9#32
  | 22 => 7#32
  | 23 => 7#32
  | 24 => 11#32
  | 25 => 11#32
  | 26 => 9#32
  | 27 => 9#32
  | 28 => 9#32
  | 29 => 7#32
  | 30 => 7#32
  | 31 => 7#32
  | 32 => 9#32
  | 33 => 11#32
  | 34 => 9#32
  | 35 => 7#32
  | 36 => 11#32
  | 37 => 11#32
  | 38 => 9#32
  | 39 => 7#32
  | 40 => 7#32
  | 41 => 7#32
  | 42 => 9#32
  | 43 => 9#32
  | 44 => 7#32
  | 45 => 11#32
  | 46 => 11#32
  | 47 => 9#32
  | 48 => 9#32
  | 49 => 9#32
  | 50 => 7#32
  | 51 => 7#32
  | 52 => 9#32
  | 53 => 7#32
  | 54 => 9#32
  | 55 => 7#32
  | 56 => 11#32
  | 57 => 9#32
  | 58 => 11#32
  | 59 => 9#32
  | 60 => 9#32
  | 61 => 7#32
  | 62 => 11#32
  | 63 => 11#32
  | 64 => 11#32
  | 65 => 11#32
  | 66 => 7#32
  | 67 => 11#32
  | 68 => 7#32
  | 69 => 7#32
  | 70 => 9#32
  | 71 => 11#32
  | 72 => 11#32
  | 73 => 9#32
  | 74 => 11#32
  | 75 => 11#32
  | 76 => 11#32
  | 77 => 7#32
  | 78 => 7#32
  | 79 => 11#32
  | 80 => 11#32
  | 81 => 7#32
  | 82 => 7#32
  | 83 => 11#32
  | 84 => 9#32
  | 85 => 11#32
  | 86 => 11#32
  | 87 => 11#32
  | 88 => 9#32
  | 89 => 7#32
  | 90 => 11#32
  | 91 => 11#32
  | 92 => 9#32
  | 93 => 9#32
  | 94 => 7#32
  | 95 => 7#32
  | 96 => 9#32
  | 97 => 7#32
  | 98 => 11#32
  | 99 => 7#32
  | 100 => 11#32
  | 101 => 11#32
  | 102 => 7#32
  | 103 => 9#32
  | 104 => 11#32
  | 105 => 7#32
  | 106 => 11#32
  | 107 => 9#32
  | 108 => 7#32
  | 109 => 7#32
  | 110 => 7#32
  | 111 => 7#32
  | 112 => 11#32
  | 113 => 7#32
  | 114 => 9#32
  | 115 => 9#32
  | 116 => 11#32
  | 117 => 7#32
  | 118 => 7#32
  | 119 => 9#32
  | 120 => 7#32
  | 121 => 9#32
  | 122 => 7#32
  | 123 => 7#32
  | 124 => 9#32
  | 125 => 7#32
  | 126 => 7#32
  | 127 => 9#32
  | _ => 0#32

noncomputable abbrev lit0t0_32 (i : Nat) : BitVec 32 := match i % 128 with
  | 0 => 9#32
  | 1 => 7#32
  | 2 => 7#32
  | 3 => 11#32
  | 4 => 11#32
  | 5 => 7#32
  | 6 => 7#32
  | 7 => 9#32
  | 8 => 11#32
  | 9 => 11#32
  | 10 => 11#32
  | 11 => 11#32
  | 12 => 9#32
  | 13 => 9#32
  | 14 => 7#32
  | 15 => 9#32
  | 16 => 7#32
  | 17 => 7#32
  | 18 => 7#32
  | 19 => 9#32
  | 20 => 7#32
  | 21 => 9#32
  | 22 => 9#32
  | 23 => 9#32
  | 24 => 11#32
  | 25 => 7#32
  | 26 => 7#32
  | 27 => 9#32
  | 28 => 11#32
  | 29 => 7#32
  | 30 => 9#32
  | 31 => 9#32
  | 32 => 7#32
  | 33 => 9#32
  | 34 => 9#32
  | 35 => 11#32
  | 36 => 9#32
  | 37 => 7#32
  | 38 => 9#32
  | 39 => 9#32
  | 40 => 11#32
  | 41 => 7#32
  | 42 => 7#32
  | 43 => 9#32
  | 44 => 7#32
  | 45 => 11#32
  | 46 => 11#32
  | 47 => 9#32
  | 48 => 9#32
  | 49 => 9#32
  | 50 => 11#32
  | 51 => 11#32
  | 52 => 9#32
  | 53 => 11#32
  | 54 => 7#32
  | 55 => 9#32
  | 56 => 9#32
  | 57 => 7#32
  | 58 => 11#32
  | 59 => 9#32
  | 60 => 7#32
  | 61 => 7#32
  | 62 => 11#32
  | 63 => 11#32
  | 64 => 9#32
  | 65 => 9#32
  | 66 => 9#32
  | 67 => 9#32
  | 68 => 11#32
  | 69 => 7#32
  | 70 => 11#32
  | 71 => 11#32
  | 72 => 9#32
  | 73 => 7#32
  | 74 => 11#32
  | 75 => 9#32
  | 76 => 7#32
  | 77 => 9#32
  | 78 => 7#32
  | 79 => 7#32
  | 80 => 9#32
  | 81 => 11#32
  | 82 => 11#32
  | 83 => 9#32
  | 84 => 9#32
  | 85 => 9#32
  | 86 => 11#32
  | 87 => 7#32
  | 88 => 9#32
  | 89 => 7#32
  | 90 => 11#32
  | 91 => 11#32
  | 92 => 9#32
  | 93 => 7#32
  | 94 => 9#32
  | 95 => 7#32
  | 96 => 9#32
  | 97 => 9#32
  | 98 => 9#32
  | 99 => 7#32
  | 100 => 7#32
  | 101 => 11#32
  | 102 => 7#32
  | 103 => 7#32
  | 104 => 11#32
  | 105 => 7#32
  | 106 => 9#32
  | 107 => 9#32
  | 108 => 9#32
  | 109 => 11#32
  | 110 => 11#32
  | 111 => 7#32
  | 112 => 9#32
  | 113 => 7#32
  | 114 => 7#32
  | 115 => 9#32
  | 116 => 9#32
  | 117 => 9#32
  | 118 => 9#32
  | 119 => 9#32
  | 120 => 7#32
  | 121 => 7#32
  | 122 => 7#32
  | 123 => 11#32
  | 124 => 11#32
  | 125 => 11#32
  | 126 => 9#32
  | 127 => 9#32
  | _ => 0#32

noncomputable abbrev lit0t0_33 (i : Nat) : BitVec 32 := match i % 128 with
  | 0 => 7#32
  | 1 => 11#32
  | 2 => 7#32
  | 3 => 11#32
  | 4 => 9#32
  | 5 => 7#32
  | 6 => 7#32
  | 7 => 11#32
  | 8 => 11#32
  | 9 => 9#32
  | 10 => 11#32
  | 11 => 9#32
  | 12 => 7#32
  | 13 => 7#32
  | 14 => 11#32
  | 15 => 9#32
  | 16 => 9#32
  | 17 => 7#32
  | 18 => 11#32
  | 19 => 9#32
  | 20 => 9#32
  | 21 => 7#32
  | 22 => 9#32
  | 23 => 11#32
  | 24 => 7#32
  | 25 => 7#32
  | 26 => 7#32
  | 27 => 9#32
  | 28 => 9#32
  | 29 => 7#32
  | 30 => 9#32
  | 31 => 7#32
  | 32 => 11#32
  | 33 => 11#32
  | 34 => 9#32
  | 35 => 9#32
  | 36 => 7#32
  | 37 => 7#32
  | 38 => 11#32
  | 39 => 11#32
  | 40 => 11#32
  | 41 => 9#32
  | 42 => 9#32
  | 43 => 7#32
  | 44 => 9#32
  | 45 => 9#32
  | 46 => 7#32
  | 47 => 9#32
  | 48 => 11#32
  | 49 => 9#32
  | 50 => 7#32
  | 51 => 9#32
  | 52 => 11#32
  | 53 => 9#32
  | 54 => 9#32
  | 55 => 11#32
  | 56 => 7#32
  | 57 => 11#32
  | 58 => 11#32
  | 59 => 9#32
  | 60 => 7#32
  | 61 => 9#32
  | 62 => 7#32
  | 63 => 11#32
  | 64 => 11#32
  | 65 => 11#32
  | 66 => 11#32
  | 67 => 7#32
  | 68 => 11#32
  | 69 => 7#32
  | 70 => 9#32
  | 71 => 11#32
  | 72 => 11#32
  | 73 => 9#32
  | 74 => 11#32
  | 75 => 7#32
  | 76 => 9#32
  | 77 => 9#32
  | 78 => 9#32
  | 79 => 7#32
  | 80 => 9#32
  | 81 => 7#32
  | 82 => 9#32
  | 83 => 9#32
  | 84 => 11#32
  | 85 => 9#32
  | 86 => 11#32
  | 87 => 11#32
  | 88 => 9#32
  | 89 => 11#32
  | 90 => 7#32
  | 91 => 9#32
  | 92 => 9#32
  | 93 => 11#32
  | 94 => 7#32
  | 95 => 7#32
  | 96 => 9#32
  | 97 => 11#32
  | 98 => 7#32
  | 99 => 7#32
  | 100 => 7#32
  | 101 => 11#32
  | 102 => 9#32
  | 103 => 9#32
  | 104 => 11#32
  | 105 => 7#32
  | 106 => 9#32
  | 107 => 7#32
  | 108 => 9#32
  | 109 => 7#32
  | 110 => 9#32
  | 111 => 7#32
  | 112 => 7#32
  | 113 => 11#32
  | 114 => 11#32
  | 115 => 9#32
  | 116 => 7#32
  | 117 => 9#32
  | 118 => 11#32
  | 119 => 9#32
  | 120 => 7#32
  | 121 => 7#32
  | 122 => 9#32
  | 123 => 9#32
  | 124 => 7#32
  | 125 => 11#32
  | 126 => 7#32
  | 127 => 11#32
  | _ => 0#32

noncomputable abbrev lit0t0_34 (i : Nat) : BitVec 32 := match i % 128 with
  | 0 => 7#32
  | 1 => 11#32
  | 2 => 11#32
  | 3 => 9#32
  | 4 => 7#32
  | 5 => 9#32
  | 6 => 11#32
  | 7 => 11#32
  | 8 => 7#32
  | 9 => 7#32
  | 10 => 11#32
  | 11 => 11#32
  | 12 => 9#32
  | 13 => 9#32
  | 14 => 7#32
  | 15 => 11#32
  | 16 => 9#32
  | 17 => 7#32
  | 18 => 7#32
  | 19 => 11#32
  | 20 => 7#32
  | 21 => 11#32
  | 22 => 9#32
  | 23 => 9#32
  | 24 => 11#32
  | 25 => 7#32
  | 26 => 11#32
  | 27 => 9#32
  | 28 => 7#32
  | 29 => 9#32
  | 30 => 9#32
  | 31 => 9#32
  | 32 => 7#32
  | 33 => 11#32
  | 34 => 7#32
  | 35 => 9#32
  | 36 => 7#32
  | 37 => 7#32
  | 38 => 7#32
  | 39 => 11#32
  | 40 => 11#32
  | 41 => 7#32
  | 42 => 11#32
  | 43 => 7#32
  | 44 => 9#32
  | 45 => 9#32
  | 46 => 7#32
  | 47 => 11#32
  | 48 => 7#32
  | 49 => 7#32
  | 50 => 9#32
  | 51 => 9#32
  | 52 => 9#32
  | 53 => 11#32
  | 54 => 7#32
  | 55 => 9#32
  | 56 => 9#32
  | 57 => 9#32
  | 58 => 7#32
  | 59 => 9#32
  | 60 => 9#32
  | 61 => 11#32
  | 62 => 9#32
  | 63 => 9#32
  | 64 => 7#32
  | 65 => 7#32
  | 66 => 7#32
  | 67 => 11#32
  | 68 => 11#32
  | 69 => 9#32
  | 70 => 11#32
  | 71 => 11#32
  | 72 => 9#32
  | 73 => 9#32
  | 74 => 7#32
  | 75 => 7#32
  | 76 => 7#32
  | 77 => 11#32
  | 78 => 7#32
  | 79 => 11#32
  | 80 => 11#32
  | 81 => 11#32
  | 82 => 9#32
  | 83 => 7#32
  | 84 => 9#32
  | 85 => 7#32
  | 86 => 7#32
  | 87 => 7#32
  | 88 => 11#32
  | 89 => 9#32
  | 90 => 11#32
  | 91 => 7#32
  | 92 => 7#32
  | 93 => 9#32
  | 94 => 9#32
  | 95 => 11#32
  | 96 => 11#32
  | 97 => 9#32
  | 98 => 9#32
  | 99 => 7#32
  | 100 => 7#32
  | 101 => 7#32
  | 102 => 11#32
  | 103 => 7#32
  | 104 => 9#32
  | 105 => 7#32
  | 106 => 7#32
  | 107 => 9#32
  | 108 => 7#32
  | 109 => 9#32
  | 110 => 7#32
  | 111 => 9#32
  | 112 => 11#32
  | 113 => 9#32
  | 114 => 9#32
  | 115 => 9#32
  | 116 => 9#32
  | 117 => 9#32
  | 118 => 9#32
  | 119 => 7#32
  | 120 => 7#32
  | 121 => 11#32
  | 122 => 11#32
  | 123 => 9#32
  | 124 => 9#32
  | 125 => 7#32
  | 126 => 11#32
  | 127 => 9#32
  | _ => 0#32

noncomputable abbrev lit0t0_35 (i : Nat) : BitVec 32 := match i % 128 with
  | 0 => 7#32
  | 1 => 7#32
  | 2 => 11#32
  | 3 => 9#32
  | 4 => 11#32
  | 5 => 11#32
  | 6 => 7#32
  | 7 => 11#32
  | 8 => 7#32
  | 9 => 7#32
  | 10 => 11#32
  | 11 => 9#32
  | 12 => 9#32
  | 13 => 9#32
  | 14 => 7#32
  | 15 => 9#32
  | 16 => 11#32
  | 17 => 9#32
  | 18 => 7#32
  | 19 => 11#32
  | 20 => 11#32
  | 21 => 7#32
  | 22 => 11#32
  | 23 => 7#32
  | 24 => 7#32
  | 25 => 9#32
  | 26 => 9#32
  | 27 => 7#32
  | 28 => 7#32
  | 29 => 9#32
  | 30 => 11#32
  | 31 => 11#32
  | 32 => 9#32
  | 33 => 7#32
  | 34 => 11#32
  | 35 => 11#32
  | 36 => 11#32
  | 37 => 9#32
  | 38 => 11#32
  | 39 => 7#32
  | 40 => 11#32
  | 41 => 11#32
  | 42 => 7#32
  | 43 => 9#32
  | 44 => 11#32
  | 45 => 7#32
  | 46 => 11#32
  | 47 => 11#32
  | 48 => 11#32
  | 49 => 9#32
  | 50 => 7#32
  | 51 => 9#32
  | 52 => 7#32
  | 53 => 9#32
  | 54 => 11#32
  | 55 => 7#32
  | 56 => 7#32
  | 57 => 11#32
  | 58 => 11#32
  | 59 => 11#32
  | 60 => 9#32
  | 61 => 7#32
  | 62 => 11#32
  | 63 => 9#32
  | 64 => 7#32
  | 65 => 7#32
  | 66 => 7#32
  | 67 => 11#32
  | 68 => 7#32
  | 69 => 7#32
  | 70 => 7#32
  | 71 => 7#32
  | 72 => 9#32
  | 73 => 11#32
  | 74 => 11#32
  | 75 => 7#32
  | 76 => 9#32
  | 77 => 11#32
  | 78 => 7#32
  | 79 => 7#32
  | 80 => 9#32
  | 81 => 9#32
  | 82 => 7#32
  | 83 => 11#32
  | 84 => 7#32
  | 85 => 9#32
  | 86 => 9#32
  | 87 => 11#32
  | 88 => 7#32
  | 89 => 9#32
  | 90 => 7#32
  | 91 => 9#32
  | 92 => 11#32
  | 93 => 7#32
  | 94 => 11#32
  | 95 => 9#32
  | 96 => 9#32
  | 97 => 11#32
  | 98 => 11#32
  | 99 => 9#32
  | 100 => 9#32
  | 101 => 11#32
  | 102 => 9#32
  | 103 => 11#32
  | 104 => 9#32
  | 105 => 9#32
  | 106 => 7#32
  | 107 => 7#32
  | 108 => 11#32
  | 109 => 11#32
  | 110 => 9#32
  | 111 => 7#32
  | 112 => 9#32
  | 113 => 9#32
  | 114 => 9#32
  | 115 => 9#32
  | 116 => 7#32
  | 117 => 9#32
  | 118 => 9#32
  | 119 => 9#32
  | 120 => 11#32
  | 121 => 11#32
  | 122 => 7#32
  | 123 => 11#32
  | 124 => 11#32
  | 125 => 7#32
  | 126 => 11#32
  | 127 => 7#32
  | _ => 0#32

noncomputable abbrev lit0t0_36 (i : Nat) : BitVec 32 := match i % 128 with
  | 0 => 11#32
  | 1 => 9#32
  | 2 => 11#32
  | 3 => 11#32
  | 4 => 7#32
  | 5 => 11#32
  | 6 => 7#32
  | 7 => 9#32
  | 8 => 9#32
  | 9 => 9#32
  | 10 => 11#32
  | 11 => 11#32
  | 12 => 9#32
  | 13 => 7#32
  | 14 => 11#32
  | 15 => 9#32
  | 16 => 9#32
  | 17 => 11#32
  | 18 => 11#32
  | 19 => 9#32
  | 20 => 9#32
  | 21 => 9#32
  | 22 => 11#32
  | 23 => 7#32
  | 24 => 7#32
  | 25 => 9#32
  | 26 => 11#32
  | 27 => 9#32
  | 28 => 7#32
  | 29 => 7#32
  | 30 => 9#32
  | 31 => 7#32
  | 32 => 7#32
  | 33 => 9#32
  | 34 => 11#32
  | 35 => 7#32
  | 36 => 9#32
  | 37 => 7#32
  | 38 => 11#32
  | 39 => 9#32
  | 40 => 7#32
  | 41 => 9#32
  | 42 => 7#32
  | 43 => 11#32
  | 44 => 11#32
  | 45 => 7#32
  | 46 => 7#32
  | 47 => 11#32
  | 48 => 9#32
  | 49 => 11#32
  | 50 => 9#32
  | 51 => 9#32
  | 52 => 11#32
  | 53 => 7#32
  | 54 => 9#32
  | 55 => 9#32
  | 56 => 7#32
  | 57 => 7#32
  | 58 => 9#32
  | 59 => 11#32
  | 60 => 11#32
  | 61 => 7#32
  | 62 => 9#32
  | 63 => 11#32
  | 64 => 7#32
  | 65 => 9#32
  | 66 => 11#32
  | 67 => 7#32
  | 68 => 11#32
  | 69 => 7#32
  | 70 => 7#32
  | 71 => 9#32
  | 72 => 7#32
  | 73 => 9#32
  | 74 => 7#32
  | 75 => 7#32
  | 76 => 7#32
  | 77 => 7#32
  | 78 => 9#32
  | 79 => 9#32
  | 80 => 7#32
  | 81 => 7#32
  | 82 => 7#32
  | 83 => 7#32
  | 84 => 9#32
  | 85 => 11#32
  | 86 => 11#32
  | 87 => 11#32
  | 88 => 9#32
  | 89 => 11#32
  | 90 => 11#32
  | 91 => 11#32
  | 92 => 7#32
  | 93 => 7#32
  | 94 => 9#32
  | 95 => 11#32
  | 96 => 11#32
  | 97 => 7#32
  | 98 => 9#32
  | 99 => 11#32
  | 100 => 9#32
  | 101 => 7#32
  | 102 => 9#32
  | 103 => 11#32
  | 104 => 11#32
  | 105 => 11#32
  | 106 => 9#32
  | 107 => 9#32
  | 108 => 7#32
  | 109 => 9#32
  | 110 => 7#32
  | 111 => 9#32
  | 112 => 11#32
  | 113 => 11#32
  | 114 => 11#32
  | 115 => 11#32
  | 116 => 7#32
  | 117 => 11#32
  | 118 => 9#32
  | 119 => 11#32
  | 120 => 11#32
  | 121 => 7#32
  | 122 => 11#32
  | 123 => 9#32
  | 124 => 11#32
  | 125 => 11#32
  | 126 => 7#32
  | 127 => 7#32
  | _ => 0#32

noncomputable abbrev lit0t0_37 (i : Nat) : BitVec 32 := match i % 128 with
  | 0 => 11#32
  | 1 => 9#32
  | 2 => 11#32
  | 3 => 11#32
  | 4 => 7#32
  | 5 => 7#32
  | 6 => 9#32
  | 7 => 11#32
  | 8 => 7#32
  | 9 => 7#32
  | 10 => 7#32
  | 11 => 9#32
  | 12 => 7#32
  | 13 => 7#32
  | 14 => 11#32
  | 15 => 11#32
  | 16 => 9#32
  | 17 => 11#32
  | 18 => 9#32
  | 19 => 9#32
  | 20 => 11#32
  | 21 => 11#32
  | 22 => 11#32
  | 23 => 9#32
  | 24 => 7#32
  | 25 => 11#32
  | 26 => 7#32
  | 27 => 11#32
  | 28 => 9#32
  | 29 => 11#32
  | 30 => 7#32
  | 31 => 7#32
  | 32 => 7#32
  | 33 => 11#32
  | 34 => 7#32
  | 35 => 11#32
  | 36 => 7#32
  | 37 => 9#32
  | 38 => 11#32
  | 39 => 9#32
  | 40 => 9#32
  | 41 => 7#32
  | 42 => 9#32
  | 43 => 7#32
  | 44 => 9#32
  | 45 => 9#32
  | 46 => 7#32
  | 47 => 9#32
  | 48 => 9#32
  | 49 => 11#32
  | 50 => 9#32
  | 51 => 11#32
  | 52 => 7#32
  | 53 => 9#32
  | 54 => 11#32
  | 55 => 7#32
  | 56 => 9#32
  | 57 => 11#32
  | 58 => 11#32
  | 59 => 7#32
  | 60 => 7#32
  | 61 => 9#32
  | 62 => 11#32
  | 63 => 9#32
  | 64 => 9#32
  | 65 => 9#32
  | 66 => 9#32
  | 67 => 7#32
  | 68 => 11#32
  | 69 => 9#32
  | 70 => 7#32
  | 71 => 11#32
  | 72 => 11#32
  | 73 => 7#32
  | 74 => 9#32
  | 75 => 11#32
  | 76 => 7#32
  | 77 => 9#32
  | 78 => 7#32
  | 79 => 11#32
  | 80 => 9#32
  | 81 => 9#32
  | 82 => 9#32
  | 83 => 7#32
  | 84 => 11#32
  | 85 => 7#32
  | 86 => 7#32
  | 87 => 7#32
  | 88 => 7#32
  | 89 => 7#32
  | 90 => 9#32
  | 91 => 9#32
  | 92 => 7#32
  | 93 => 9#32
  | 94 => 9#32
  | 95 => 11#32
  | 96 => 9#32
  | 97 => 9#32
  | 98 => 7#32
  | 99 => 9#32
  | 100 => 9#32
  | 101 => 7#32
  | 102 => 7#32
  | 103 => 11#32
  | 104 => 7#32
  | 105 => 7#32
  | 106 => 9#32
  | 107 => 11#32
  | 108 => 9#32
  | 109 => 11#32
  | 110 => 11#32
  | 111 => 9#32
  | 112 => 7#32
  | 113 => 7#32
  | 114 => 9#32
  | 115 => 11#32
  | 116 => 7#32
  | 117 => 9#32
  | 118 => 11#32
  | 119 => 9#32
  | 120 => 9#32
  | 121 => 11#32
  | 122 => 11#32
  | 123 => 7#32
  | 124 => 7#32
  | 125 => 9#32
  | 126 => 11#32
  | 127 => 11#32
  | _ => 0#32

noncomputable abbrev lit0t0_38 (i : Nat) : BitVec 32 := match i % 128 with
  | 0 => 9#32
  | 1 => 11#32
  | 2 => 7#32
  | 3 => 11#32
  | 4 => 11#32
  | 5 => 9#32
  | 6 => 9#32
  | 7 => 7#32
  | 8 => 9#32
  | 9 => 9#32
  | 10 => 11#32
  | 11 => 11#32
  | 12 => 9#32
  | 13 => 7#32
  | 14 => 9#32
  | 15 => 9#32
  | 16 => 7#32
  | 17 => 7#32
  | 18 => 9#32
  | 19 => 7#32
  | 20 => 7#32
  | 21 => 11#32
  | 22 => 11#32
  | 23 => 11#32
  | 24 => 7#32
  | 25 => 9#32
  | 26 => 9#32
  | 27 => 11#32
  | 28 => 9#32
  | 29 => 7#32
  | 30 => 11#32
  | 31 => 11#32
  | 32 => 7#32
  | 33 => 11#32
  | 34 => 7#32
  | 35 => 11#32
  | 36 => 9#32
  | 37 => 11#32
  | 38 => 9#32
  | 39 => 11#32
  | 40 => 9#32
  | 41 => 9#32
  | 42 => 9#32
  | 43 => 9#32
  | 44 => 11#32
  | 45 => 7#32
  | 46 => 9#32
  | 47 => 11#32
  | 48 => 7#32
  | 49 => 11#32
  | 50 => 7#32
  | 51 => 9#32
  | 52 => 7#32
  | 53 => 11#32
  | 54 => 7#32
  | 55 => 11#32
  | 56 => 7#32
  | 57 => 11#32
  | 58 => 11#32
  | 59 => 9#32
  | 60 => 11#32
  | 61 => 11#32
  | 62 => 7#32
  | 63 => 9#32
  | 64 => 11#32
  | 65 => 11#32
  | 66 => 7#32
  | 67 => 7#32
  | 68 => 9#32
  | 69 => 11#32
  | 70 => 7#32
  | 71 => 9#32
  | 72 => 11#32
  | 73 => 7#32
  | 74 => 9#32
  | 75 => 7#32
  | 76 => 9#32
  | 77 => 11#32
  | 78 => 11#32
  | 79 => 7#32
  | 80 => 9#32
  | 81 => 11#32
  | 82 => 11#32
  | 83 => 9#32
  | 84 => 7#32
  | 85 => 11#32
  | 86 => 9#32
  | 87 => 7#32
  | 88 => 11#32
  | 89 => 9#32
  | 90 => 11#32
  | 91 => 9#32
  | 92 => 11#32
  | 93 => 9#32
  | 94 => 9#32
  | 95 => 9#32
  | 96 => 9#32
  | 97 => 11#32
  | 98 => 11#32
  | 99 => 7#32
  | 100 => 9#32
  | 101 => 7#32
  | 102 => 11#32
  | 103 => 7#32
  | 104 => 11#32
  | 105 => 7#32
  | 106 => 7#32
  | 107 => 7#32
  | 108 => 7#32
  | 109 => 11#32
  | 110 => 11#32
  | 111 => 11#32
  | 112 => 7#32
  | 113 => 9#32
  | 114 => 11#32
  | 115 => 11#32
  | 116 => 7#32
  | 117 => 7#32
  | 118 => 11#32
  | 119 => 7#32
  | 120 => 9#32
  | 121 => 9#32
  | 122 => 11#32
  | 123 => 11#32
  | 124 => 7#32
  | 125 => 7#32
  | 126 => 9#32
  | 127 => 11#32
  | _ => 0#32

noncomputable abbrev lit0t0_39 (i : Nat) : BitVec 32 := match i % 128 with
  | 0 => 11#32
  | 1 => 9#32
  | 2 => 11#32
  | 3 => 11#32
  | 4 => 11#32
  | 5 => 9#32
  | 6 => 7#32
  | 7 => 7#32
  | 8 => 11#32
  | 9 => 11#32
  | 10 => 11#32
  | 11 => 7#32
  | 12 => 9#32
  | 13 => 11#32
  | 14 => 7#32
  | 15 => 9#32
  | 16 => 7#32
  | 17 => 9#32
  | 18 => 11#32
  | 19 => 7#32
  | 20 => 9#32
  | 21 => 7#32
  | 22 => 11#32
  | 23 => 11#32
  | 24 => 11#32
  | 25 => 7#32
  | 26 => 11#32
  | 27 => 7#32
  | 28 => 11#32
  | 29 => 7#32
  | 30 => 9#32
  | 31 => 7#32
  | 32 => 7#32
  | 33 => 11#32
  | 34 => 7#32
  | 35 => 9#32
  | 36 => 11#32
  | 37 => 11#32
  | 38 => 9#32
  | 39 => 11#32
  | 40 => 11#32
  | 41 => 7#32
  | 42 => 7#32
  | 43 => 7#32
  | 44 => 11#32
  | 45 => 11#32
  | 46 => 7#32
  | 47 => 9#32
  | 48 => 9#32
  | 49 => 11#32
  | 50 => 9#32
  | 51 => 11#32
  | 52 => 9#32
  | 53 => 11#32
  | 54 => 7#32
  | 55 => 11#32
  | 56 => 9#32
  | 57 => 9#32
  | 58 => 11#32
  | 59 => 9#32
  | 60 => 7#32
  | 61 => 7#32
  | 62 => 7#32
  | 63 => 7#32
  | 64 => 9#32
  | 65 => 9#32
  | 66 => 7#32
  | 67 => 7#32
  | 68 => 7#32
  | 69 => 9#32
  | 70 => 9#32
  | 71 => 7#32
  | 72 => 11#32
  | 73 => 9#32
  | 74 => 11#32
  | 75 => 11#32
  | 76 => 9#32
  | 77 => 7#32
  | 78 => 7#32
  | 79 => 7#32
  | 80 => 7#32
  | 81 => 11#32
  | 82 => 9#32
  | 83 => 9#32
  | 84 => 7#32
  | 85 => 9#32
  | 86 => 11#32
  | 87 => 9#32
  | 88 => 9#32
  | 89 => 7#32
  | 90 => 9#32
  | 91 => 7#32
  | 92 => 11#32
  | 93 => 7#32
  | 94 => 9#32
  | 95 => 7#32
  | 96 => 9#32
  | 97 => 9#32
  | 98 => 11#32
  | 99 => 7#32
  | 100 => 9#32
  | 101 => 7#32
  | 102 => 7#32
  | 103 => 9#32
  | 104 => 9#32
  | 105 => 11#32
  | 106 => 11#32
  | 107 => 7#32
  | 108 => 7#32
  | 109 => 9#32
  | 110 => 9#32
  | 111 => 7#32
  | 112 => 11#32
  | 113 => 7#32
  | 114 => 11#32
  | 115 => 11#32
  | 116 => 11#32
  | 117 => 9#32
  | 118 => 11#32
  | 119 => 11#32
  | 120 => 9#32
  | 121 => 7#32
  | 122 => 7#32
  | 123 => 9#32
  | 124 => 7#32
  | 125 => 9#32
  | 126 => 7#32
  | 127 => 9#32
  | _ => 0#32

noncomputable abbrev lit0t0_40 (i : Nat) : BitVec 32 := match i % 128 with
  | 0 => 9#32
  | 1 => 11#32
  | 2 => 9#32
  | 3 => 9#32
  | 4 => 11#32
  | 5 => 7#32
  | 6 => 9#32
  | 7 => 11#32
  | 8 => 9#32
  | 9 => 9#32
  | 10 => 11#32
  | 11 => 7#32
  | 12 => 7#32
  | 13 => 9#32
  | 14 => 11#32
  | 15 => 7#32
  | 16 => 7#32
  | 17 => 11#32
  | 18 => 9#32
  | 19 => 11#32
  | 20 => 11#32
  | 21 => 9#32
  | 22 => 11#32
  | 23 => 7#32
  | 24 => 7#32
  | 25 => 9#32
  | 26 => 11#32
  | 27 => 9#32
  | 28 => 7#32
  | 29 => 11#32
  | 30 => 9#32
  | 31 => 9#32
  | 32 => 7#32
  | 33 => 11#32
  | 34 => 11#32
  | 35 => 9#32
  | 36 => 9#32
  | 37 => 7#32
  | 38 => 7#32
  | 39 => 9#32
  | 40 => 7#32
  | 41 => 11#32
  | 42 => 7#32
  | 43 => 7#32
  | 44 => 7#32
  | 45 => 7#32
  | 46 => 9#32
  | 47 => 11#32
  | 48 => 9#32
  | 49 => 7#32
  | 50 => 7#32
  | 51 => 9#32
  | 52 => 11#32
  | 53 => 9#32
  | 54 => 11#32
  | 55 => 9#32
  | 56 => 11#32
  | 57 => 9#32
  | 58 => 9#32
  | 59 => 11#32
  | 60 => 7#32
  | 61 => 9#32
  | 62 => 7#32
  | 63 => 7#32
  | 64 => 7#32
  | 65 => 9#32
  | 66 => 7#32
  | 67 => 7#32
  | 68 => 9#32
  | 69 => 9#32
  | 70 => 9#32
  | 71 => 11#32
  | 72 => 9#32
  | 73 => 7#32
  | 74 => 11#32
  | 75 => 9#32
  | 76 => 7#32
  | 77 => 11#32
  | 78 => 9#32
  | 79 => 11#32
  | 80 => 9#32
  | 81 => 11#32
  | 82 => 11#32
  | 83 => 11#32
  | 84 => 9#32
  | 85 => 7#32
  | 86 => 9#32
  | 87 => 9#32
  | 88 => 11#32
  | 89 => 11#32
  | 90 => 11#32
  | 91 => 11#32
  | 92 => 7#32
  | 93 => 9#32
  | 94 => 11#32
  | 95 => 9#32
  | 96 => 7#32
  | 97 => 9#32
  | 98 => 9#32
  | 99 => 11#32
  | 100 => 9#32
  | 101 => 9#32
  | 102 => 11#32
  | 103 => 11#32
  | 104 => 7#32
  | 105 => 11#32
  | 106 => 7#32
  | 107 => 11#32
  | 108 => 9#32
  | 109 => 9#32
  | 110 => 9#32
  | 111 => 9#32
  | 112 => 7#32
  | 113 => 9#32
  | 114 => 7#32
  | 115 => 7#32
  | 116 => 9#32
  | 117 => 9#32
  | 118 => 9#32
  | 119 => 9#32
  | 120 => 9#32
  | 121 => 7#32
  | 122 => 11#32
  | 123 => 9#32
  | 124 => 7#32
  | 125 => 11#32
  | 126 => 11#32
  | 127 => 11#32
  | _ => 0#32

noncomputable abbrev lit0t0_41 (i : Nat) : BitVec 32 := match i % 128 with
  | 0 => 9#32
  | 1 => 11#32
  | 2 => 9#32
  | 3 => 9#32
  | 4 => 7#32
  | 5 => 11#32
  | 6 => 7#32
  | 7 => 7#32
  | 8 => 7#32
  | 9 => 9#32
  | 10 => 7#32
  | 11 => 7#32
  | 12 => 7#32
  | 13 => 11#32
  | 14 => 9#32
  | 15 => 11#32
  | 16 => 7#32
  | 17 => 7#32
  | 18 => 9#32
  | 19 => 11#32
  | 20 => 11#32
  | 21 => 9#32
  | 22 => 9#32
  | 23 => 11#32
  | 24 => 11#32
  | 25 => 11#32
  | 26 => 7#32
  | 27 => 9#32
  | 28 => 7#32
  | 29 => 11#32
  | 30 => 9#32
  | 31 => 11#32
  | 32 => 7#32
  | 33 => 11#32
  | 34 => 9#32
  | 35 => 7#32
  | 36 => 11#32
  | 37 => 11#32
  | 38 => 11#32
  | 39 => 9#32
  | 40 => 11#32
  | 41 => 7#32
  | 42 => 7#32
  | 43 => 7#32
  | 44 => 7#32
  | 45 => 7#32
  | 46 => 11#32
  | 47 => 11#32
  | 48 => 11#32
  | 49 => 9#32
  | 50 => 9#32
  | 51 => 7#32
  | 52 => 9#32
  | 53 => 9#32
  | 54 => 11#32
  | 55 => 7#32
  | 56 => 7#32
  | 57 => 9#32
  | 58 => 7#32
  | 59 => 9#32
  | 60 => 7#32
  | 61 => 11#32
  | 62 => 9#32
  | 63 => 9#32
  | 64 => 7#32
  | 65 => 11#32
  | 66 => 11#32
  | 67 => 9#32
  | 68 => 9#32
  | 69 => 9#32
  | 70 => 7#32
  | 71 => 7#32
  | 72 => 11#32
  | 73 => 11#32
  | 74 => 11#32
  | 75 => 11#32
  | 76 => 7#32
  | 77 => 7#32
  | 78 => 9#32
  | 79 => 9#32
  | 80 => 9#32
  | 81 => 9#32
  | 82 => 7#32
  | 83 => 11#32
  | 84 => 11#32
  | 85 => 9#32
  | 86 => 9#32
  | 87 => 9#32
  | 88 => 9#32
  | 89 => 7#32
  | 90 => 9#32
  | 91 => 9#32
  | 92 => 11#32
  | 93 => 11#32
  | 94 => 7#32
  | 95 => 7#32
  | 96 => 11#32
  | 97 => 11#32
  | 98 => 9#32
  | 99 => 7#32
  | 100 => 9#32
  | 101 => 11#32
  | 102 => 9#32
  | 103 => 9#32
  | 104 => 11#32
  | 105 => 9#32
  | 106 => 7#32
  | 107 => 9#32
  | 108 => 11#32
  | 109 => 9#32
  | 110 => 11#32
  | 111 => 7#32
  | 112 => 7#32
  | 113 => 11#32
  | 114 => 7#32
  | 115 => 7#32
  | 116 => 7#32
  | 117 => 9#32
  | 118 => 11#32
  | 119 => 11#32
  | 120 => 9#32
  | 121 => 7#32
  | 122 => 7#32
  | 123 => 7#32
  | 124 => 11#32
  | 125 => 7#32
  | 126 => 9#32
  | 127 => 7#32
  | _ => 0#32

noncomputable abbrev lit0t0_42 (i : Nat) : BitVec 32 := match i % 128 with
  | 0 => 11#32
  | 1 => 9#32
  | 2 => 11#32
  | 3 => 9#32
  | 4 => 7#32
  | 5 => 7#32
  | 6 => 11#32
  | 7 => 11#32
  | 8 => 7#32
  | 9 => 7#32
  | 10 => 9#32
  | 11 => 7#32
  | 12 => 9#32
  | 13 => 7#32
  | 14 => 9#32
  | 15 => 7#32
  | 16 => 7#32
  | 17 => 9#32
  | 18 => 7#32
  | 19 => 7#32
  | 20 => 9#32
  | 21 => 9#32
  | 22 => 7#32
  | 23 => 9#32
  | 24 => 7#32
  | 25 => 7#32
  | 26 => 9#32
  | 27 => 7#32
  | 28 => 11#32
  | 29 => 7#32
  | 30 => 9#32
  | 31 => 9#32
  | 32 => 9#32
  | 33 => 9#32
  | 34 => 11#32
  | 35 => 7#32
  | 36 => 9#32
  | 37 => 7#32
  | 38 => 7#32
  | 39 => 11#32
  | 40 => 9#32
  | 41 => 7#32
  | 42 => 11#32
  | 43 => 9#32
  | 44 => 9#32
  | 45 => 7#32
  | 46 => 11#32
  | 47 => 7#32
  | 48 => 7#32
  | 49 => 11#32
  | 50 => 11#32
  | 51 => 7#32
  | 52 => 11#32
  | 53 => 9#32
  | 54 => 7#32
  | 55 => 9#32
  | 56 => 9#32
  | 57 => 9#32
  | 58 => 9#32
  | 59 => 11#32
  | 60 => 11#32
  | 61 => 9#32
  | 62 => 9#32
  | 63 => 11#32
  | 64 => 7#32
  | 65 => 9#32
  | 66 => 7#32
  | 67 => 11#32
  | 68 => 7#32
  | 69 => 9#32
  | 70 => 7#32
  | 71 => 9#32
  | 72 => 11#32
  | 73 => 11#32
  | 74 => 7#32
  | 75 => 9#32
  | 76 => 11#32
  | 77 => 11#32
  | 78 => 7#32
  | 79 => 7#32
  | 80 => 9#32
  | 81 => 7#32
  | 82 => 9#32
  | 83 => 11#32
  | 84 => 9#32
  | 85 => 7#32
  | 86 => 9#32
  | 87 => 7#32
  | 88 => 7#32
  | 89 => 9#32
  | 90 => 9#32
  | 91 => 11#32
  | 92 => 11#32
  | 93 => 7#32
  | 94 => 9#32
  | 95 => 7#32
  | 96 => 11#32
  | 97 => 9#32
  | 98 => 7#32
  | 99 => 11#32
  | 100 => 9#32
  | 101 => 7#32
  | 102 => 11#32
  | 103 => 9#32
  | 104 => 11#32
  | 105 => 11#32
  | 106 => 7#32
  | 107 => 9#32
  | 108 => 11#32
  | 109 => 11#32
  | 110 => 11#32
  | 111 => 9#32
  | 112 => 7#32
  | 113 => 11#32
  | 114 => 9#32
  | 115 => 7#32
  | 116 => 9#32
  | 117 => 7#32
  | 118 => 7#32
  | 119 => 9#32
  | 120 => 9#32
  | 121 => 9#32
  | 122 => 11#32
  | 123 => 9#32
  | 124 => 7#32
  | 125 => 9#32
  | 126 => 11#32
  | 127 => 7#32
  | _ => 0#32

noncomputable abbrev lit0t0_43 (i : Nat) : BitVec 32 := match i % 128 with
  | 0 => 11#32
  | 1 => 9#32
  | 2 => 11#32
  | 3 => 11#32
  | 4 => 11#32
  | 5 => 7#32
  | 6 => 11#32
  | 7 => 9#32
  | 8 => 7#32
  | 9 => 11#32
  | 10 => 9#32
  | 11 => 7#32
  | 12 => 11#32
  | 13 => 11#32
  | 14 => 11#32
  | 15 => 7#32
  | 16 => 9#32
  | 17 => 7#32
  | 18 => 11#32
  | 19 => 7#32
  | 20 => 7#32
  | 21 => 9#32
  | 22 => 7#32
  | 23 => 11#32
  | 24 => 9#32
  | 25 => 7#32
  | 26 => 7#32
  | 27 => 11#32
  | 28 => 9#32
  | 29 => 9#32
  | 30 => 11#32
  | 31 => 9#32
  | 32 => 9#32
  | 33 => 7#32
  | 34 => 11#32
  | 35 => 11#32
  | 36 => 7#32
  | 37 => 7#32
  | 38 => 9#32
  | 39 => 11#32
  | 40 => 11#32
  | 41 => 9#32
  | 42 => 9#32
  | 43 => 7#32
  | 44 => 7#32
  | 45 => 11#32
  | 46 => 9#32
  | 47 => 11#32
  | 48 => 7#32
  | 49 => 11#32
  | 50 => 11#32
  | 51 => 7#32
  | 52 => 7#32
  | 53 => 7#32
  | 54 => 7#32
  | 55 => 7#32
  | 56 => 7#32
  | 57 => 7#32
  | 58 => 11#32
  | 59 => 7#32
  | 60 => 7#32
  | 61 => 7#32
  | 62 => 11#32
  | 63 => 7#32
  | 64 => 7#32
  | 65 => 11#32
  | 66 => 7#32
  | 67 => 9#32
  | 68 => 11#32
  | 69 => 9#32
  | 70 => 7#32
  | 71 => 9#32
  | 72 => 7#32
  | 73 => 11#32
  | 74 => 11#32
  | 75 => 9#32
  | 76 => 9#32
  | 77 => 11#32
  | 78 => 11#32
  | 79 => 9#32
  | 80 => 9#32
  | 81 => 7#32
  | 82 => 7#32
  | 83 => 9#32
  | 84 => 11#32
  | 85 => 7#32
  | 86 => 7#32
  | 87 => 7#32
  | 88 => 7#32
  | 89 => 9#32
  | 90 => 9#32
  | 91 => 11#32
  | 92 => 9#32
  | 93 => 11#32
  | 94 => 7#32
  | 95 => 7#32
  | 96 => 7#32
  | 97 => 9#32
  | 98 => 9#32
  | 99 => 7#32
  | 100 => 9#32
  | 101 => 9#32
  | 102 => 11#32
  | 103 => 9#32
  | 104 => 9#32
  | 105 => 11#32
  | 106 => 7#32
  | 107 => 7#32
  | 108 => 9#32
  | 109 => 9#32
  | 110 => 7#32
  | 111 => 11#32
  | 112 => 7#32
  | 113 => 9#32
  | 114 => 7#32
  | 115 => 9#32
  | 116 => 11#32
  | 117 => 11#32
  | 118 => 7#32
  | 119 => 11#32
  | 120 => 9#32
  | 121 => 11#32
  | 122 => 9#32
  | 123 => 11#32
  | 124 => 11#32
  | 125 => 9#32
  | 126 => 7#32
  | 127 => 7#32
  | _ => 0#32

noncomputable abbrev lit0t0_44 (i : Nat) : BitVec 32 := match i % 128 with
  | 0 => 9#32
  | 1 => 7#32
  | 2 => 7#32
  | 3 => 11#32
  | 4 => 7#32
  | 5 => 7#32
  | 6 => 11#32
  | 7 => 11#32
  | 8 => 7#32
  | 9 => 9#32
  | 10 => 11#32
  | 11 => 9#32
  | 12 => 7#32
  | 13 => 7#32
  | 14 => 7#32
  | 15 => 7#32
  | 16 => 9#32
  | 17 => 11#32
  | 18 => 7#32
  | 19 => 9#32
  | 20 => 11#32
  | 21 => 11#32
  | 22 => 9#32
  | 23 => 9#32
  | 24 => 11#32
  | 25 => 11#32
  | 26 => 9#32
  | 27 => 7#32
  | 28 => 7#32
  | 29 => 11#32
  | 30 => 7#32
  | 31 => 11#32
  | 32 => 11#32
  | 33 => 9#32
  | 34 => 7#32
  | 35 => 7#32
  | 36 => 9#32
  | 37 => 9#32
  | 38 => 7#32
  | 39 => 7#32
  | 40 => 11#32
  | 41 => 11#32
  | 42 => 7#32
  | 43 => 11#32
  | 44 => 9#32
  | 45 => 11#32
  | 46 => 7#32
  | 47 => 9#32
  | 48 => 7#32
  | 49 => 11#32
  | 50 => 11#32
  | 51 => 7#32
  | 52 => 9#32
  | 53 => 9#32
  | 54 => 9#32
  | 55 => 9#32
  | 56 => 9#32
  | 57 => 11#32
  | 58 => 11#32
  | 59 => 9#32
  | 60 => 11#32
  | 61 => 9#32
  | 62 => 11#32
  | 63 => 11#32
  | 64 => 7#32
  | 65 => 11#32
  | 66 => 11#32
  | 67 => 11#32
  | 68 => 9#32
  | 69 => 9#32
  | 70 => 9#32
  | 71 => 11#32
  | 72 => 7#32
  | 73 => 9#32
  | 74 => 9#32
  | 75 => 9#32
  | 76 => 7#32
  | 77 => 11#32
  | 78 => 9#32
  | 79 => 7#32
  | 80 => 9#32
  | 81 => 11#32
  | 82 => 7#32
  | 83 => 11#32
  | 84 => 7#32
  | 85 => 11#32
  | 86 => 7#32
  | 87 => 7#32
  | 88 => 7#32
  | 89 => 9#32
  | 90 => 7#32
  | 91 => 11#32
  | 92 => 9#32
  | 93 => 7#32
  | 94 => 11#32
  | 95 => 11#32
  | 96 => 11#32
  | 97 => 11#32
  | 98 => 7#32
  | 99 => 9#32
  | 100 => 9#32
  | 101 => 9#32
  | 102 => 7#32
  | 103 => 11#32
  | 104 => 7#32
  | 105 => 9#32
  | 106 => 11#32
  | 107 => 9#32
  | 108 => 9#32
  | 109 => 9#32
  | 110 => 9#32
  | 111 => 9#32
  | 112 => 7#32
  | 113 => 11#32
  | 114 => 11#32
  | 115 => 9#32
  | 116 => 11#32
  | 117 => 9#32
  | 118 => 11#32
  | 119 => 7#32
  | 120 => 7#32
  | 121 => 9#32
  | 122 => 9#32
  | 123 => 7#32
  | 124 => 9#32
  | 125 => 9#32
  | 126 => 7#32
  | 127 => 11#32
  | _ => 0#32

noncomputable abbrev lit0t0_45 (i : Nat) : BitVec 32 := match i % 128 with
  | 0 => 7#32
  | 1 => 9#32
  | 2 => 11#32
  | 3 => 7#32
  | 4 => 11#32
  | 5 => 11#32
  | 6 => 11#32
  | 7 => 9#32
  | 8 => 11#32
  | 9 => 9#32
  | 10 => 7#32
  | 11 => 11#32
  | 12 => 7#32
  | 13 => 11#32
  | 14 => 9#32
  | 15 => 9#32
  | 16 => 7#32
  | 17 => 11#32
  | 18 => 9#32
  | 19 => 7#32
  | 20 => 7#32
  | 21 => 7#32
  | 22 => 7#32
  | 23 => 9#32
  | 24 => 9#32
  | 25 => 9#32
  | 26 => 9#32
  | 27 => 9#32
  | 28 => 7#32
  | 29 => 11#32
  | 30 => 11#32
  | 31 => 9#32
  | 32 => 11#32
  | 33 => 11#32
  | 34 => 11#32
  | 35 => 7#32
  | 36 => 7#32
  | 37 => 11#32
  | 38 => 9#32
  | 39 => 11#32
  | 40 => 11#32
  | 41 => 7#32
  | 42 => 9#32
  | 43 => 9#32
  | 44 => 11#32
  | 45 => 11#32
  | 46 => 11#32
  | 47 => 9#32
  | 48 => 9#32
  | 49 => 9#32
  | 50 => 7#32
  | 51 => 11#32
  | 52 => 7#32
  | 53 => 11#32
  | 54 => 11#32
  | 55 => 9#32
  | 56 => 11#32
  | 57 => 11#32
  | 58 => 7#32
  | 59 => 11#32
  | 60 => 9#32
  | 61 => 7#32
  | 62 => 9#32
  | 63 => 11#32
  | 64 => 9#32
  | 65 => 11#32
  | 66 => 7#32
  | 67 => 11#32
  | 68 => 7#32
  | 69 => 9#32
  | 70 => 11#32
  | 71 => 7#32
  | 72 => 11#32
  | 73 => 7#32
  | 74 => 7#32
  | 75 => 11#32
  | 76 => 11#32
  | 77 => 9#32
  | 78 => 11#32
  | 79 => 11#32
  | 80 => 9#32
  | 81 => 9#32
  | 82 => 9#32
  | 83 => 7#32
  | 84 => 11#32
  | 85 => 9#32
  | 86 => 7#32
  | 87 => 11#32
  | 88 => 11#32
  | 89 => 11#32
  | 90 => 9#32
  | 91 => 9#32
  | 92 => 9#32
  | 93 => 11#32
  | 94 => 11#32
  | 95 => 7#32
  | 96 => 11#32
  | 97 => 9#32
  | 98 => 11#32
  | 99 => 7#32
  | 100 => 11#32
  | 101 => 11#32
  | 102 => 11#32
  | 103 => 11#32
  | 104 => 9#32
  | 105 => 9#32
  | 106 => 11#32
  | 107 => 11#32
  | 108 => 9#32
  | 109 => 7#32
  | 110 => 9#32
  | 111 => 9#32
  | 112 => 11#32
  | 113 => 7#32
  | 114 => 9#32
  | 115 => 11#32
  | 116 => 7#32
  | 117 => 7#32
  | 118 => 7#32
  | 119 => 9#32
  | 120 => 11#32
  | 121 => 7#32
  | 122 => 7#32
  | 123 => 11#32
  | 124 => 11#32
  | 125 => 9#32
  | 126 => 7#32
  | 127 => 11#32
  | _ => 0#32

noncomputable abbrev lit0t0_46 (i : Nat) : BitVec 32 := match i % 128 with
  | 0 => 9#32
  | 1 => 11#32
  | 2 => 11#32
  | 3 => 11#32
  | 4 => 7#32
  | 5 => 7#32
  | 6 => 7#32
  | 7 => 7#32
  | 8 => 7#32
  | 9 => 9#32
  | 10 => 9#32
  | 11 => 7#32
  | 12 => 7#32
  | 13 => 7#32
  | 14 => 9#32
  | 15 => 9#32
  | 16 => 7#32
  | 17 => 7#32
  | 18 => 9#32
  | 19 => 7#32
  | 20 => 11#32
  | 21 => 9#32
  | 22 => 11#32
  | 23 => 11#32
  | 24 => 7#32
  | 25 => 7#32
  | 26 => 7#32
  | 27 => 11#32
  | 28 => 7#32
  | 29 => 9#32
  | 30 => 7#32
  | 31 => 9#32
  | 32 => 7#32
  | 33 => 9#32
  | 34 => 9#32
  | 35 => 9#32
  | 36 => 11#32
  | 37 => 9#32
  | 38 => 11#32
  | 39 => 7#32
  | 40 => 7#32
  | 41 => 9#32
  | 42 => 9#32
  | 43 => 11#32
  | 44 => 7#32
  | 45 => 7#32
  | 46 => 9#32
  | 47 => 11#32
  | 48 => 7#32
  | 49 => 7#32
  | 50 => 11#32
  | 51 => 11#32
  | 52 => 9#32
  | 53 => 9#32
  | 54 => 11#32
  | 55 => 7#32
  | 56 => 7#32
  | 57 => 11#32
  | 58 => 9#32
  | 59 => 11#32
  | 60 => 7#32
  | 61 => 9#32
  | 62 => 11#32
  | 63 => 9#32
  | 64 => 9#32
  | 65 => 11#32
  | 66 => 11#32
  | 67 => 7#32
  | 68 => 11#32
  | 69 => 9#32
  | 70 => 9#32
  | 71 => 9#32
  | 72 => 11#32
  | 73 => 7#32
  | 74 => 9#32
  | 75 => 9#32
  | 76 => 11#32
  | 77 => 9#32
  | 78 => 11#32
  | 79 => 7#32
  | 80 => 9#32
  | 81 => 7#32
  | 82 => 11#32
  | 83 => 11#32
  | 84 => 9#32
  | 85 => 7#32
  | 86 => 7#32
  | 87 => 7#32
  | 88 => 11#32
  | 89 => 11#32
  | 90 => 7#32
  | 91 => 11#32
  | 92 => 11#32
  | 93 => 9#32
  | 94 => 9#32
  | 95 => 7#32
  | 96 => 11#32
  | 97 => 9#32
  | 98 => 11#32
  | 99 => 9#32
  | 100 => 11#32
  | 101 => 11#32
  | 102 => 11#32
  | 103 => 7#32
  | 104 => 7#32
  | 105 => 11#32
  | 106 => 7#32
  | 107 => 7#32
  | 108 => 7#32
  | 109 => 7#32
  | 110 => 7#32
  | 111 => 7#32
  | 112 => 11#32
  | 113 => 7#32
  | 114 => 9#32
  | 115 => 11#32
  | 116 => 11#32
  | 117 => 7#32
  | 118 => 11#32
  | 119 => 9#32
  | 120 => 7#32
  | 121 => 7#32
  | 122 => 7#32
  | 123 => 11#32
  | 124 => 9#32
  | 125 => 11#32
  | 126 => 7#32
  | 127 => 7#32
  | _ => 0#32

noncomputable abbrev lit0t0_47 (i : Nat) : BitVec 32 := match i % 128 with
  | 0 => 11#32
  | 1 => 7#32
  | 2 => 7#32
  | 3 => 9#32
  | 4 => 7#32
  | 5 => 9#32
  | 6 => 7#32
  | 7 => 7#32
  | 8 => 9#32
  | 9 => 9#32
  | 10 => 7#32
  | 11 => 11#32
  | 12 => 11#32
  | 13 => 9#32
  | 14 => 7#32
  | 15 => 7#32
  | 16 => 9#32
  | 17 => 9#32
  | 18 => 7#32
  | 19 => 9#32
  | 20 => 9#32
  | 21 => 7#32
  | 22 => 11#32
  | 23 => 11#32
  | 24 => 9#32
  | 25 => 9#32
  | 26 => 11#32
  | 27 => 9#32
  | 28 => 7#32
  | 29 => 9#32
  | 30 => 9#32
  | 31 => 9#32
  | 32 => 11#32
  | 33 => 7#32
  | 34 => 7#32
  | 35 => 11#32
  | 36 => 7#32
  | 37 => 7#32
  | 38 => 7#32
  | 39 => 7#32
  | 40 => 9#32
  | 41 => 9#32
  | 42 => 7#32
  | 43 => 11#32
  | 44 => 7#32
  | 45 => 9#32
  | 46 => 11#32
  | 47 => 7#32
  | 48 => 11#32
  | 49 => 11#32
  | 50 => 9#32
  | 51 => 7#32
  | 52 => 11#32
  | 53 => 7#32
  | 54 => 9#32
  | 55 => 11#32
  | 56 => 9#32
  | 57 => 11#32
  | 58 => 9#32
  | 59 => 11#32
  | 60 => 7#32
  | 61 => 7#32
  | 62 => 7#32
  | 63 => 9#32
  | 64 => 9#32
  | 65 => 7#32
  | 66 => 7#32
  | 67 => 7#32
  | 68 => 9#32
  | 69 => 7#32
  | 70 => 11#32
  | 71 => 11#32
  | 72 => 9#32
  | 73 => 7#32
  | 74 => 9#32
  | 75 => 11#32
  | 76 => 9#32
  | 77 => 9#32
  | 78 => 7#32
  | 79 => 9#32
  | 80 => 7#32
  | 81 => 11#32
  | 82 => 7#32
  | 83 => 11#32
  | 84 => 9#32
  | 85 => 11#32
  | 86 => 11#32
  | 87 => 7#32
  | 88 => 7#32
  | 89 => 9#32
  | 90 => 11#32
  | 91 => 9#32
  | 92 => 9#32
  | 93 => 7#32
  | 94 => 9#32
  | 95 => 11#32
  | 96 => 9#32
  | 97 => 9#32
  | 98 => 9#32
  | 99 => 9#32
  | 100 => 11#32
  | 101 => 11#32
  | 102 => 7#32
  | 103 => 11#32
  | 104 => 11#32
  | 105 => 11#32
  | 106 => 9#32
  | 107 => 7#32
  | 108 => 7#32
  | 109 => 9#32
  | 110 => 7#32
  | 111 => 11#32
  | 112 => 11#32
  | 113 => 9#32
  | 114 => 7#32
  | 115 => 9#32
  | 116 => 9#32
  | 117 => 7#32
  | 118 => 9#32
  | 119 => 11#32
  | 120 => 9#32
  | 121 => 7#32
  | 122 => 9#32
  | 123 => 7#32
  | 124 => 7#32
  | 125 => 11#32
  | 126 => 11#32
  | 127 => 7#32
  | _ => 0#32

noncomputable abbrev lit0t0_48 (i : Nat) : BitVec 32 := match i % 128 with
  | 0 => 7#32
  | 1 => 9#32
  | 2 => 11#32
  | 3 => 7#32
  | 4 => 11#32
  | 5 => 9#32
  | 6 => 7#32
  | 7 => 11#32
  | 8 => 11#32
  | 9 => 11#32
  | 10 => 11#32
  | 11 => 11#32
  | 12 => 7#32
  | 13 => 7#32
  | 14 => 11#32
  | 15 => 7#32
  | 16 => 9#32
  | 17 => 11#32
  | 18 => 7#32
  | 19 => 9#32
  | 20 => 9#32
  | 21 => 11#32
  | 22 => 9#32
  | 23 => 9#32
  | 24 => 9#32
  | 25 => 9#32
  | 26 => 9#32
  | 27 => 7#32
  | 28 => 9#32
  | 29 => 9#32
  | 30 => 7#32
  | 31 => 9#32
  | 32 => 9#32
  | 33 => 7#32
  | 34 => 9#32
  | 35 => 9#32
  | 36 => 7#32
  | 37 => 9#32
  | 38 => 7#32
  | 39 => 7#32
  | 40 => 7#32
  | 41 => 11#32
  | 42 => 7#32
  | 43 => 9#32
  | 44 => 9#32
  | 45 => 9#32
  | 46 => 11#32
  | 47 => 9#32
  | 48 => 9#32
  | 49 => 9#32
  | 50 => 7#32
  | 51 => 7#32
  | 52 => 7#32
  | 53 => 7#32
  | 54 => 7#32
  | 55 => 11#32
  | 56 => 11#32
  | 57 => 7#32
  | 58 => 7#32
  | 59 => 7#32
  | 60 => 11#32
  | 61 => 9#32
  | 62 => 7#32
  | 63 => 7#32
  | 64 => 7#32
  | 65 => 7#32
  | 66 => 9#32
  | 67 => 11#32
  | 68 => 11#32
  | 69 => 11#32
  | 70 => 11#32
  | 71 => 9#32
  | 72 => 7#32
  | 73 => 7#32
  | 74 => 9#32
  | 75 => 9#32
  | 76 => 9#32
  | 77 => 11#32
  | 78 => 11#32
  | 79 => 7#32
  | 80 => 7#32
  | 81 => 7#32
  | 82 => 11#32
  | 83 => 7#32
  | 84 => 9#32
  | 85 => 11#32
  | 86 => 9#32
  | 87 => 11#32
  | 88 => 11#32
  | 89 => 11#32
  | 90 => 11#32
  | 91 => 9#32
  | 92 => 9#32
  | 93 => 11#32
  | 94 => 9#32
  | 95 => 9#32
  | 96 => 7#32
  | 97 => 9#32
  | 98 => 9#32
  | 99 => 9#32
  | 100 => 9#32
  | 101 => 7#32
  | 102 => 11#32
  | 103 => 11#32
  | 104 => 9#32
  | 105 => 11#32
  | 106 => 11#32
  | 107 => 7#32
  | 108 => 7#32
  | 109 => 9#32
  | 110 => 7#32
  | 111 => 7#32
  | 112 => 9#32
  | 113 => 7#32
  | 114 => 11#32
  | 115 => 7#32
  | 116 => 9#32
  | 117 => 9#32
  | 118 => 11#32
  | 119 => 7#32
  | 120 => 11#32
  | 121 => 11#32
  | 122 => 11#32
  | 123 => 9#32
  | 124 => 7#32
  | 125 => 11#32
  | 126 => 7#32
  | 127 => 11#32
  | _ => 0#32

noncomputable abbrev lit0t0_49 (i : Nat) : BitVec 32 := match i % 128 with
  | 0 => 7#32
  | 1 => 7#32
  | 2 => 7#32
  | 3 => 7#32
  | 4 => 7#32
  | 5 => 9#32
  | 6 => 11#32
  | 7 => 9#32
  | 8 => 11#32
  | 9 => 7#32
  | 10 => 9#32
  | 11 => 11#32
  | 12 => 7#32
  | 13 => 7#32
  | 14 => 9#32
  | 15 => 11#32
  | 16 => 11#32
  | 17 => 9#32
  | 18 => 11#32
  | 19 => 9#32
  | 20 => 9#32
  | 21 => 9#32
  | 22 => 11#32
  | 23 => 9#32
  | 24 => 7#32
  | 25 => 7#32
  | 26 => 11#32
  | 27 => 9#32
  | 28 => 9#32
  | 29 => 9#32
  | 30 => 9#32
  | 31 => 11#32
  | 32 => 11#32
  | 33 => 9#32
  | 34 => 11#32
  | 35 => 7#32
  | 36 => 11#32
  | 37 => 7#32
  | 38 => 9#32
  | 39 => 7#32
  | 40 => 11#32
  | 41 => 7#32
  | 42 => 7#32
  | 43 => 11#32
  | 44 => 7#32
  | 45 => 7#32
  | 46 => 7#32
  | 47 => 9#32
  | 48 => 9#32
  | 49 => 11#32
  | 50 => 9#32
  | 51 => 7#32
  | 52 => 9#32
  | 53 => 11#32
  | 54 => 7#32
  | 55 => 7#32
  | 56 => 11#32
  | 57 => 11#32
  | 58 => 7#32
  | 59 => 11#32
  | 60 => 11#32
  | 61 => 11#32
  | 62 => 11#32
  | 63 => 9#32
  | 64 => 9#32
  | 65 => 7#32
  | 66 => 11#32
  | 67 => 9#32
  | 68 => 9#32
  | 69 => 9#32
  | 70 => 11#32
  | 71 => 11#32
  | 72 => 7#32
  | 73 => 7#32
  | 74 => 11#32
  | 75 => 9#32
  | 76 => 9#32
  | 77 => 7#32
  | 78 => 11#32
  | 79 => 9#32
  | 80 => 9#32
  | 81 => 7#32
  | 82 => 9#32
  | 83 => 7#32
  | 84 => 9#32
  | 85 => 7#32
  | 86 => 9#32
  | 87 => 11#32
  | 88 => 11#32
  | 89 => 11#32
  | 90 => 9#32
  | 91 => 9#32
  | 92 => 7#32
  | 93 => 11#32
  | 94 => 9#32
  | 95 => 9#32
  | 96 => 11#32
  | 97 => 9#32
  | 98 => 9#32
  | 99 => 9#32
  | 100 => 7#32
  | 101 => 7#32
  | 102 => 7#32
  | 103 => 11#32
  | 104 => 9#32
  | 105 => 9#32
  | 106 => 7#32
  | 107 => 11#32
  | 108 => 7#32
  | 109 => 9#32
  | 110 => 11#32
  | 111 => 11#32
  | 112 => 9#32
  | 113 => 9#32
  | 114 => 7#32
  | 115 => 7#32
  | 116 => 7#32
  | 117 => 9#32
  | 118 => 9#32
  | 119 => 11#32
  | 120 => 9#32
  | 121 => 7#32
  | 122 => 9#32
  | 123 => 7#32
  | 124 => 7#32
  | 125 => 11#32
  | 126 => 9#32
  | 127 => 9#32
  | _ => 0#32

noncomputable abbrev lit0t0_50 (i : Nat) : BitVec 32 := match i % 128 with
  | 0 => 7#32
  | 1 => 9#32
  | 2 => 9#32
  | 3 => 9#32
  | 4 => 9#32
  | 5 => 9#32
  | 6 => 7#32
  | 7 => 11#32
  | 8 => 7#32
  | 9 => 9#32
  | 10 => 7#32
  | 11 => 9#32
  | 12 => 9#32
  | 13 => 7#32
  | 14 => 11#32
  | 15 => 11#32
  | 16 => 7#32
  | 17 => 11#32
  | 18 => 7#32
  | 19 => 9#32
  | 20 => 7#32
  | 21 => 7#32
  | 22 => 11#32
  | 23 => 9#32
  | 24 => 9#32
  | 25 => 7#32
  | 26 => 9#32
  | 27 => 9#32
  | 28 => 7#32
  | 29 => 9#32
  | 30 => 7#32
  | 31 => 9#32
  | 32 => 7#32
  | 33 => 9#32
  | 34 => 7#32
  | 35 => 11#32
  | 36 => 7#32
  | 37 => 7#32
  | 38 => 11#32
  | 39 => 9#32
  | 40 => 11#32
  | 41 => 7#32
  | 42 => 7#32
  | 43 => 11#32
  | 44 => 9#32
  | 45 => 9#32
  | 46 => 11#32
  | 47 => 11#32
  | 48 => 11#32
  | 49 => 9#32
  | 50 => 11#32
  | 51 => 9#32
  | 52 => 7#32
  | 53 => 9#32
  | 54 => 9#32
  | 55 => 9#32
  | 56 => 9#32
  | 57 => 9#32
  | 58 => 9#32
  | 59 => 9#32
  | 60 => 11#32
  | 61 => 9#32
  | 62 => 7#32
  | 63 => 11#32
  | 64 => 7#32
  | 65 => 11#32
  | 66 => 9#32
  | 67 => 9#32
  | 68 => 7#32
  | 69 => 11#32
  | 70 => 11#32
  | 71 => 9#32
  | 72 => 9#32
  | 73 => 7#32
  | 74 => 7#32
  | 75 => 11#32
  | 76 => 11#32
  | 77 => 7#32
  | 78 => 11#32
  | 79 => 9#32
  | 80 => 11#32
  | 81 => 11#32
  | 82 => 7#32
  | 83 => 11#32
  | 84 => 11#32
  | 85 => 7#32
  | 86 => 9#32
  | 87 => 7#32
  | 88 => 11#32
  | 89 => 11#32
  | 90 => 7#32
  | 91 => 7#32
  | 92 => 9#32
  | 93 => 11#32
  | 94 => 11#32
  | 95 => 9#32
  | 96 => 9#32
  | 97 => 9#32
  | 98 => 7#32
  | 99 => 9#32
  | 100 => 7#32
  | 101 => 9#32
  | 102 => 11#32
  | 103 => 9#32
  | 104 => 7#32
  | 105 => 11#32
  | 106 => 11#32
  | 107 => 7#32
  | 108 => 7#32
  | 109 => 11#32
  | 110 => 7#32
  | 111 => 7#32
  | 112 => 11#32
  | 113 => 9#32
  | 114 => 9#32
  | 115 => 11#32
  | 116 => 9#32
  | 117 => 11#32
  | 118 => 7#32
  | 119 => 9#32
  | 120 => 7#32
  | 121 => 9#32
  | 122 => 7#32
  | 123 => 11#32
  | 124 => 9#32
  | 125 => 9#32
  | 126 => 7#32
  | 127 => 7#32
  | _ => 0#32

noncomputable abbrev lit0t0_51 (i : Nat) : BitVec 32 := match i % 128 with
  | 0 => 9#32
  | 1 => 11#32
  | 2 => 9#32
  | 3 => 9#32
  | 4 => 7#32
  | 5 => 7#32
  | 6 => 7#32
  | 7 => 7#32
  | 8 => 7#32
  | 9 => 7#32
  | 10 => 7#32
  | 11 => 9#32
  | 12 => 9#32
  | 13 => 7#32
  | 14 => 11#32
  | 15 => 11#32
  | 16 => 11#32
  | 17 => 9#32
  | 18 => 11#32
  | 19 => 11#32
  | 20 => 9#32
  | 21 => 7#32
  | 22 => 9#32
  | 23 => 11#32
  | 24 => 9#32
  | 25 => 7#32
  | 26 => 7#32
  | 27 => 7#32
  | 28 => 11#32
  | 29 => 9#32
  | 30 => 11#32
  | 31 => 9#32
  | 32 => 7#32
  | 33 => 7#32
  | 34 => 11#32
  | 35 => 9#32
  | 36 => 9#32
  | 37 => 7#32
  | 38 => 7#32
  | 39 => 9#32
  | 40 => 11#32
  | 41 => 9#32
  | 42 => 11#32
  | 43 => 11#32
  | 44 => 11#32
  | 45 => 11#32
  | 46 => 11#32
  | 47 => 11#32
  | 48 => 9#32
  | 49 => 11#32
  | 50 => 7#32
  | 51 => 9#32
  | 52 => 11#32
  | 53 => 9#32
  | 54 => 7#32
  | 55 => 7#32
  | 56 => 7#32
  | 57 => 9#32
  | 58 => 7#32
  | 59 => 9#32
  | 60 => 9#32
  | 61 => 9#32
  | 62 => 11#32
  | 63 => 11#32
  | 64 => 7#32
  | 65 => 7#32
  | 66 => 9#32
  | 67 => 7#32
  | 68 => 7#32
  | 69 => 9#32
  | 70 => 9#32
  | 71 => 11#32
  | 72 => 7#32
  | 73 => 9#32
  | 74 => 11#32
  | 75 => 11#32
  | 76 => 7#32
  | 77 => 7#32
  | 78 => 7#32
  | 79 => 7#32
  | 80 => 7#32
  | 81 => 7#32
  | 82 => 9#32
  | 83 => 11#32
  | 84 => 11#32
  | 85 => 11#32
  | 86 => 7#32
  | 87 => 9#32
  | 88 => 11#32
  | 89 => 9#32
  | 90 => 9#32
  | 91 => 7#32
  | 92 => 7#32
  | 93 => 11#32
  | 94 => 11#32
  | 95 => 11#32
  | 96 => 9#32
  | 97 => 7#32
  | 98 => 7#32
  | 99 => 11#32
  | 100 => 9#32
  | 101 => 9#32
  | 102 => 9#32
  | 103 => 11#32
  | 104 => 7#32
  | 105 => 9#32
  | 106 => 9#32
  | 107 => 9#32
  | 108 => 7#32
  | 109 => 9#32
  | 110 => 7#32
  | 111 => 7#32
  | 112 => 11#32
  | 113 => 7#32
  | 114 => 9#32
  | 115 => 7#32
  | 116 => 7#32
  | 117 => 7#32
  | 118 => 11#32
  | 119 => 9#32
  | 120 => 9#32
  | 121 => 7#32
  | 122 => 11#32
  | 123 => 7#32
  | 124 => 9#32
  | 125 => 11#32
  | 126 => 9#32
  | 127 => 7#32
  | _ => 0#32

noncomputable abbrev lit0t0_52 (i : Nat) : BitVec 32 := match i % 128 with
  | 0 => 9#32
  | 1 => 9#32
  | 2 => 7#32
  | 3 => 9#32
  | 4 => 7#32
  | 5 => 11#32
  | 6 => 9#32
  | 7 => 11#32
  | 8 => 7#32
  | 9 => 7#32
  | 10 => 9#32
  | 11 => 9#32
  | 12 => 7#32
  | 13 => 9#32
  | 14 => 7#32
  | 15 => 9#32
  | 16 => 11#32
  | 17 => 7#32
  | 18 => 7#32
  | 19 => 9#32
  | 20 => 9#32
  | 21 => 11#32
  | 22 => 9#32
  | 23 => 9#32
  | 24 => 9#32
  | 25 => 9#32
  | 26 => 9#32
  | 27 => 11#32
  | 28 => 7#32
  | 29 => 11#32
  | 30 => 9#32
  | 31 => 11#32
  | 32 => 7#32
  | 33 => 11#32
  | 34 => 11#32
  | 35 => 11#32
  | 36 => 7#32
  | 37 => 7#32
  | 38 => 9#32
  | 39 => 9#32
  | 40 => 7#32
  | 41 => 7#32
  | 42 => 9#32
  | 43 => 7#32
  | 44 => 7#32
  | 45 => 7#32
  | 46 => 9#32
  | 47 => 11#32
  | 48 => 7#32
  | 49 => 11#32
  | 50 => 9#32
  | 51 => 9#32
  | 52 => 11#32
  | 53 => 7#32
  | 54 => 9#32
  | 55 => 9#32
  | 56 => 11#32
  | 57 => 11#32
  | 58 => 9#32
  | 59 => 9#32
  | 60 => 11#32
  | 61 => 7#32
  | 62 => 11#32
  | 63 => 9#32
  | 64 => 9#32
  | 65 => 7#32
  | 66 => 11#32
  | 67 => 7#32
  | 68 => 9#32
  | 69 => 11#32
  | 70 => 7#32
  | 71 => 11#32
  | 72 => 9#32
  | 73 => 7#32
  | 74 => 11#32
  | 75 => 9#32
  | 76 => 9#32
  | 77 => 9#32
  | 78 => 11#32
  | 79 => 11#32
  | 80 => 11#32
  | 81 => 9#32
  | 82 => 11#32
  | 83 => 11#32
  | 84 => 7#32
  | 85 => 11#32
  | 86 => 7#32
  | 87 => 11#32
  | 88 => 11#32
  | 89 => 7#32
  | 90 => 9#32
  | 91 => 7#32
  | 92 => 9#32
  | 93 => 11#32
  | 94 => 7#32
  | 95 => 11#32
  | 96 => 9#32
  | 97 => 11#32
  | 98 => 9#32
  | 99 => 7#32
  | 100 => 7#32
  | 101 => 9#32
  | 102 => 7#32
  | 103 => 9#32
  | 104 => 11#32
  | 105 => 9#32
  | 106 => 9#32
  | 107 => 7#32
  | 108 => 11#32
  | 109 => 7#32
  | 110 => 11#32
  | 111 => 11#32
  | 112 => 7#32
  | 113 => 11#32
  | 114 => 7#32
  | 115 => 7#32
  | 116 => 11#32
  | 117 => 7#32
  | 118 => 11#32
  | 119 => 11#32
  | 120 => 11#32
  | 121 => 7#32
  | 122 => 11#32
  | 123 => 7#32
  | 124 => 7#32
  | 125 => 11#32
  | 126 => 7#32
  | 127 => 11#32
  | _ => 0#32

noncomputable abbrev lit0t0_53 (i : Nat) : BitVec 32 := match i % 128 with
  | 0 => 11#32
  | 1 => 7#32
  | 2 => 11#32
  | 3 => 9#32
  | 4 => 9#32
  | 5 => 9#32
  | 6 => 11#32
  | 7 => 7#32
  | 8 => 9#32
  | 9 => 9#32
  | 10 => 9#32
  | 11 => 7#32
  | 12 => 11#32
  | 13 => 11#32
  | 14 => 9#32
  | 15 => 11#32
  | 16 => 11#32
  | 17 => 9#32
  | 18 => 7#32
  | 19 => 7#32
  | 20 => 9#32
  | 21 => 9#32
  | 22 => 9#32
  | 23 => 9#32
  | 24 => 7#32
  | 25 => 11#32
  | 26 => 7#32
  | 27 => 11#32
  | 28 => 7#32
  | 29 => 9#32
  | 30 => 7#32
  | 31 => 7#32
  | 32 => 7#32
  | 33 => 7#32
  | 34 => 7#32
  | 35 => 7#32
  | 36 => 7#32
  | 37 => 9#32
  | 38 => 9#32
  | 39 => 11#32
  | 40 => 7#32
  | 41 => 7#32
  | 42 => 7#32
  | 43 => 11#32
  | 44 => 7#32
  | 45 => 7#32
  | 46 => 11#32
  | 47 => 9#32
  | 48 => 7#32
  | 49 => 11#32
  | 50 => 9#32
  | 51 => 7#32
  | 52 => 9#32
  | 53 => 11#32
  | 54 => 9#32
  | 55 => 9#32
  | 56 => 9#32
  | 57 => 11#32
  | 58 => 7#32
  | 59 => 11#32
  | 60 => 9#32
  | 61 => 7#32
  | 62 => 9#32
  | 63 => 7#32
  | 64 => 11#32
  | 65 => 11#32
  | 66 => 7#32
  | 67 => 11#32
  | 68 => 9#32
  | 69 => 7#32
  | 70 => 11#32
  | 71 => 7#32
  | 72 => 9#32
  | 73 => 11#32
  | 74 => 7#32
  | 75 => 11#32
  | 76 => 7#32
  | 77 => 9#32
  | 78 => 7#32
  | 79 => 11#32
  | 80 => 9#32
  | 81 => 11#32
  | 82 => 11#32
  | 83 => 11#32
  | 84 => 9#32
  | 85 => 9#32
  | 86 => 7#32
  | 87 => 11#32
  | 88 => 11#32
  | 89 => 7#32
  | 90 => 11#32
  | 91 => 7#32
  | 92 => 9#32
  | 93 => 7#32
  | 94 => 7#32
  | 95 => 11#32
  | 96 => 11#32
  | 97 => 7#32
  | 98 => 7#32
  | 99 => 9#32
  | 100 => 11#32
  | 101 => 11#32
  | 102 => 7#32
  | 103 => 7#32
  | 104 => 7#32
  | 105 => 9#32
  | 106 => 11#32
  | 107 => 7#32
  | 108 => 9#32
  | 109 => 7#32
  | 110 => 7#32
  | 111 => 9#32
  | 112 => 11#32
  | 113 => 11#32
  | 114 => 7#32
  | 115 => 9#32
  | 116 => 7#32
  | 117 => 7#32
  | 118 => 7#32
  | 119 => 9#32
  | 120 => 9#32
  | 121 => 9#32
  | 122 => 11#32
  | 123 => 9#32
  | 124 => 11#32
  | 125 => 11#32
  | 126 => 11#32
  | 127 => 9#32
  | _ => 0#32

noncomputable abbrev lit0t0_54 (i : Nat) : BitVec 32 := match i % 128 with
  | 0 => 11#32
  | 1 => 7#32
  | 2 => 9#32
  | 3 => 7#32
  | 4 => 11#32
  | 5 => 7#32
  | 6 => 9#32
  | 7 => 9#32
  | 8 => 11#32
  | 9 => 11#32
  | 10 => 7#32
  | 11 => 9#32
  | 12 => 11#32
  | 13 => 9#32
  | 14 => 7#32
  | 15 => 11#32
  | 16 => 9#32
  | 17 => 7#32
  | 18 => 9#32
  | 19 => 11#32
  | 20 => 7#32
  | 21 => 9#32
  | 22 => 9#32
  | 23 => 11#32
  | 24 => 9#32
  | 25 => 11#32
  | 26 => 11#32
  | 27 => 11#32
  | 28 => 7#32
  | 29 => 7#32
  | 30 => 9#32
  | 31 => 7#32
  | 32 => 11#32
  | 33 => 9#32
  | 34 => 9#32
  | 35 => 7#32
  | 36 => 7#32
  | 37 => 9#32
  | 38 => 11#32
  | 39 => 11#32
  | 40 => 7#32
  | 41 => 11#32
  | 42 => 9#32
  | 43 => 7#32
  | 44 => 11#32
  | 45 => 7#32
  | 46 => 9#32
  | 47 => 11#32
  | 48 => 9#32
  | 49 => 7#32
  | 50 => 11#32
  | 51 => 11#32
  | 52 => 11#32
  | 53 => 11#32
  | 54 => 7#32
  | 55 => 7#32
  | 56 => 9#32
  | 57 => 11#32
  | 58 => 11#32
  | 59 => 11#32
  | 60 => 7#32
  | 61 => 11#32
  | 62 => 9#32
  | 63 => 11#32
  | 64 => 9#32
  | 65 => 11#32
  | 66 => 9#32
  | 67 => 11#32
  | 68 => 9#32
  | 69 => 11#32
  | 70 => 11#32
  | 71 => 7#32
  | 72 => 7#32
  | 73 => 9#32
  | 74 => 9#32
  | 75 => 11#32
  | 76 => 11#32
  | 77 => 11#32
  | 78 => 7#32
  | 79 => 11#32
  | 80 => 11#32
  | 81 => 11#32
  | 82 => 7#32
  | 83 => 9#32
  | 84 => 9#32
  | 85 => 9#32
  | 86 => 11#32
  | 87 => 7#32
  | 88 => 7#32
  | 89 => 9#32
  | 90 => 11#32
  | 91 => 11#32
  | 92 => 11#32
  | 93 => 7#32
  | 94 => 11#32
  | 95 => 11#32
  | 96 => 7#32
  | 97 => 7#32
  | 98 => 7#32
  | 99 => 11#32
  | 100 => 7#32
  | 101 => 7#32
  | 102 => 7#32
  | 103 => 7#32
  | 104 => 11#32
  | 105 => 7#32
  | 106 => 9#32
  | 107 => 9#32
  | 108 => 7#32
  | 109 => 11#32
  | 110 => 7#32
  | 111 => 7#32
  | 112 => 11#32
  | 113 => 11#32
  | 114 => 9#32
  | 115 => 9#32
  | 116 => 9#32
  | 117 => 7#32
  | 118 => 9#32
  | 119 => 11#32
  | 120 => 9#32
  | 121 => 11#32
  | 122 => 9#32
  | 123 => 9#32
  | 124 => 11#32
  | 125 => 9#32
  | 126 => 7#32
  | 127 => 11#32
  | _ => 0#32

noncomputable abbrev lit0t0_55 (i : Nat) : BitVec 32 := match i % 128 with
  | 0 => 7#32
  | 1 => 9#32
  | 2 => 11#32
  | 3 => 9#32
  | 4 => 7#32
  | 5 => 9#32
  | 6 => 7#32
  | 7 => 9#32
  | 8 => 11#32
  | 9 => 11#32
  | 10 => 9#32
  | 11 => 9#32
  | 12 => 7#32
  | 13 => 9#32
  | 14 => 11#32
  | 15 => 11#32
  | 16 => 7#32
  | 17 => 7#32
  | 18 => 7#32
  | 19 => 9#32
  | 20 => 9#32
  | 21 => 9#32
  | 22 => 7#32
  | 23 => 7#32
  | 24 => 7#32
  | 25 => 11#32
  | 26 => 7#32
  | 27 => 9#32
  | 28 => 9#32
  | 29 => 7#32
  | 30 => 7#32
  | 31 => 7#32
  | 32 => 9#32
  | 33 => 7#32
  | 34 => 11#32
  | 35 => 9#32
  | 36 => 7#32
  | 37 => 7#32
  | 38 => 9#32
  | 39 => 11#32
  | 40 => 11#32
  | 41 => 11#32
  | 42 => 9#32
  | 43 => 7#32
  | 44 => 11#32
  | 45 => 7#32
  | 46 => 11#32
  | 47 => 9#32
  | 48 => 7#32
  | 49 => 7#32
  | 50 => 7#32
  | 51 => 7#32
  | 52 => 9#32
  | 53 => 7#32
  | 54 => 11#32
  | 55 => 9#32
  | 56 => 7#32
  | 57 => 11#32
  | 58 => 11#32
  | 59 => 11#32
  | 60 => 7#32
  | 61 => 9#32
  | 62 => 11#32
  | 63 => 9#32
  | 64 => 7#32
  | 65 => 9#32
  | 66 => 9#32
  | 67 => 9#32
  | 68 => 11#32
  | 69 => 11#32
  | 70 => 7#32
  | 71 => 11#32
  | 72 => 11#32
  | 73 => 9#32
  | 74 => 11#32
  | 75 => 9#32
  | 76 => 7#32
  | 77 => 11#32
  | 78 => 9#32
  | 79 => 9#32
  | 80 => 9#32
  | 81 => 9#32
  | 82 => 7#32
  | 83 => 9#32
  | 84 => 9#32
  | 85 => 7#32
  | 86 => 9#32
  | 87 => 7#32
  | 88 => 9#32
  | 89 => 11#32
  | 90 => 11#32
  | 91 => 9#32
  | 92 => 9#32
  | 93 => 11#32
  | 94 => 9#32
  | 95 => 7#32
  | 96 => 11#32
  | 97 => 7#32
  | 98 => 7#32
  | 99 => 11#32
  | 100 => 11#32
  | 101 => 9#32
  | 102 => 9#32
  | 103 => 11#32
  | 104 => 7#32
  | 105 => 7#32
  | 106 => 11#32
  | 107 => 11#32
  | 108 => 9#32
  | 109 => 9#32
  | 110 => 11#32
  | 111 => 9#32
  | 112 => 7#32
  | 113 => 9#32
  | 114 => 9#32
  | 115 => 7#32
  | 116 => 11#32
  | 117 => 11#32
  | 118 => 7#32
  | 119 => 9#32
  | 120 => 9#32
  | 121 => 9#32
  | 122 => 9#32
  | 123 => 9#32
  | 124 => 9#32
  | 125 => 11#32
  | 126 => 7#32
  | 127 => 11#32
  | _ => 0#32

noncomputable abbrev lit0t0_56 (i : Nat) : BitVec 32 := match i % 128 with
  | 0 => 7#32
  | 1 => 9#32
  | 2 => 11#32
  | 3 => 7#32
  | 4 => 11#32
  | 5 => 9#32
  | 6 => 11#32
  | 7 => 11#32
  | 8 => 11#32
  | 9 => 7#32
  | 10 => 9#32
  | 11 => 7#32
  | 12 => 9#32
  | 13 => 11#32
  | 14 => 11#32
  | 15 => 11#32
  | 16 => 9#32
  | 17 => 7#32
  | 18 => 11#32
  | 19 => 11#32
  | 20 => 11#32
  | 21 => 11#32
  | 22 => 11#32
  | 23 => 9#32
  | 24 => 9#32
  | 25 => 11#32
  | 26 => 9#32
  | 27 => 11#32
  | 28 => 11#32
  | 29 => 11#32
  | 30 => 11#32
  | 31 => 7#32
  | 32 => 11#32
  | 33 => 7#32
  | 34 => 7#32
  | 35 => 7#32
  | 36 => 9#32
  | 37 => 9#32
  | 38 => 11#32
  | 39 => 7#32
  | 40 => 9#32
  | 41 => 7#32
  | 42 => 7#32
  | 43 => 11#32
  | 44 => 11#32
  | 45 => 7#32
  | 46 => 11#32
  | 47 => 7#32
  | 48 => 11#32
  | 49 => 7#32
  | 50 => 9#32
  | 51 => 7#32
  | 52 => 7#32
  | 53 => 7#32
  | 54 => 7#32
  | 55 => 7#32
  | 56 => 7#32
  | 57 => 7#32
  | 58 => 7#32
  | 59 => 11#32
  | 60 => 11#32
  | 61 => 9#32
  | 62 => 9#32
  | 63 => 11#32
  | 64 => 9#32
  | 65 => 11#32
  | 66 => 11#32
  | 67 => 9#32
  | 68 => 9#32
  | 69 => 7#32
  | 70 => 9#32
  | 71 => 11#32
  | 72 => 11#32
  | 73 => 9#32
  | 74 => 9#32
  | 75 => 7#32
  | 76 => 11#32
  | 77 => 11#32
  | 78 => 9#32
  | 79 => 7#32
  | 80 => 11#32
  | 81 => 9#32
  | 82 => 9#32
  | 83 => 11#32
  | 84 => 7#32
  | 85 => 7#32
  | 86 => 11#32
  | 87 => 9#32
  | 88 => 11#32
  | 89 => 7#32
  | 90 => 11#32
  | 91 => 11#32
  | 92 => 9#32
  | 93 => 11#32
  | 94 => 9#32
  | 95 => 7#32
  | 96 => 11#32
  | 97 => 7#32
  | 98 => 11#32
  | 99 => 7#32
  | 100 => 9#32
  | 101 => 9#32
  | 102 => 11#32
  | 103 => 9#32
  | 104 => 11#32
  | 105 => 7#32
  | 106 => 11#32
  | 107 => 11#32
  | 108 => 7#32
  | 109 => 7#32
  | 110 => 7#32
  | 111 => 7#32
  | 112 => 11#32
  | 113 => 11#32
  | 114 => 7#32
  | 115 => 7#32
  | 116 => 11#32
  | 117 => 11#32
  | 118 => 11#32
  | 119 => 11#32
  | 120 => 9#32
  | 121 => 9#32
  | 122 => 7#32
  | 123 => 7#32
  | 124 => 11#32
  | 125 => 9#32
  | 126 => 11#32
  | 127 => 7#32
  | _ => 0#32

noncomputable abbrev lit0t0_57 (i : Nat) : BitVec 32 := match i % 128 with
  | 0 => 7#32
  | 1 => 7#32
  | 2 => 7#32
  | 3 => 7#32
  | 4 => 11#32
  | 5 => 7#32
  | 6 => 7#32
  | 7 => 9#32
  | 8 => 7#32
  | 9 => 11#32
  | 10 => 11#32
  | 11 => 11#32
  | 12 => 7#32
  | 13 => 7#32
  | 14 => 7#32
  | 15 => 11#32
  | 16 => 11#32
  | 17 => 11#32
  | 18 => 7#32
  | 19 => 11#32
  | 20 => 9#32
  | 21 => 9#32
  | 22 => 11#32
  | 23 => 9#32
  | 24 => 9#32
  | 25 => 7#32
  | 26 => 11#32
  | 27 => 11#32
  | 28 => 7#32
  | 29 => 9#32
  | 30 => 9#32
  | 31 => 9#32
  | 32 => 7#32
  | 33 => 9#32
  | 34 => 11#32
  | 35 => 9#32
  | 36 => 9#32
  | 37 => 9#32
  | 38 => 9#32
  | 39 => 7#32
  | 40 => 11#32
  | 41 => 7#32
  | 42 => 11#32
  | 43 => 7#32
  | 44 => 11#32
  | 45 => 11#32
  | 46 => 9#32
  | 47 => 7#32
  | 48 => 9#32
  | 49 => 9#32
  | 50 => 11#32
  | 51 => 7#32
  | 52 => 11#32
  | 53 => 7#32
  | 54 => 9#32
  | 55 => 9#32
  | 56 => 11#32
  | 57 => 7#32
  | 58 => 11#32
  | 59 => 7#32
  | 60 => 11#32
  | 61 => 9#32
  | 62 => 9#32
  | 63 => 9#32
  | 64 => 11#32
  | 65 => 7#32
  | 66 => 11#32
  | 67 => 7#32
  | 68 => 9#32
  | 69 => 7#32
  | 70 => 7#32
  | 71 => 9#32
  | 72 => 9#32
  | 73 => 9#32
  | 74 => 7#32
  | 75 => 9#32
  | 76 => 11#32
  | 77 => 9#32
  | 78 => 11#32
  | 79 => 11#32
  | 80 => 7#32
  | 81 => 9#32
  | 82 => 11#32
  | 83 => 9#32
  | 84 => 11#32
  | 85 => 7#32
  | 86 => 11#32
  | 87 => 7#32
  | 88 => 7#32
  | 89 => 9#32
  | 90 => 11#32
  | 91 => 9#32
  | 92 => 7#32
  | 93 => 11#32
  | 94 => 9#32
  | 95 => 9#32
  | 96 => 11#32
  | 97 => 7#32
  | 98 => 11#32
  | 99 => 7#32
  | 100 => 11#32
  | 101 => 9#32
  | 102 => 9#32
  | 103 => 9#32
  | 104 => 9#32
  | 105 => 9#32
  | 106 => 7#32
  | 107 => 9#32
  | 108 => 11#32
  | 109 => 11#32
  | 110 => 11#32
  | 111 => 9#32
  | 112 => 11#32
  | 113 => 11#32
  | 114 => 11#32
  | 115 => 7#32
  | 116 => 9#32
  | 117 => 7#32
  | 118 => 11#32
  | 119 => 9#32
  | 120 => 9#32
  | 121 => 9#32
  | 122 => 7#32
  | 123 => 7#32
  | 124 => 7#32
  | 125 => 11#32
  | 126 => 11#32
  | 127 => 7#32
  | _ => 0#32

noncomputable abbrev lit0t0_58 (i : Nat) : BitVec 32 := match i % 128 with
  | 0 => 9#32
  | 1 => 11#32
  | 2 => 11#32
  | 3 => 9#32
  | 4 => 11#32
  | 5 => 7#32
  | 6 => 7#32
  | 7 => 11#32
  | 8 => 7#32
  | 9 => 11#32
  | 10 => 7#32
  | 11 => 11#32
  | 12 => 7#32
  | 13 => 9#32
  | 14 => 9#32
  | 15 => 7#32
  | 16 => 9#32
  | 17 => 9#32
  | 18 => 11#32
  | 19 => 9#32
  | 20 => 11#32
  | 21 => 9#32
  | 22 => 7#32
  | 23 => 7#32
  | 24 => 11#32
  | 25 => 7#32
  | 26 => 7#32
  | 27 => 9#32
  | 28 => 7#32
  | 29 => 11#32
  | 30 => 7#32
  | 31 => 7#32
  | 32 => 11#32
  | 33 => 11#32
  | 34 => 9#32
  | 35 => 9#32
  | 36 => 9#32
  | 37 => 11#32
  | 38 => 11#32
  | 39 => 9#32
  | 40 => 11#32
  | 41 => 11#32
  | 42 => 9#32
  | 43 => 9#32
  | 44 => 9#32
  | 45 => 7#32
  | 46 => 7#32
  | 47 => 7#32
  | 48 => 11#32
  | 49 => 11#32
  | 50 => 9#32
  | 51 => 7#32
  | 52 => 7#32
  | 53 => 7#32
  | 54 => 7#32
  | 55 => 9#32
  | 56 => 9#32
  | 57 => 9#32
  | 58 => 11#32
  | 59 => 11#32
  | 60 => 11#32
  | 61 => 7#32
  | 62 => 11#32
  | 63 => 7#32
  | 64 => 11#32
  | 65 => 7#32
  | 66 => 9#32
  | 67 => 7#32
  | 68 => 11#32
  | 69 => 9#32
  | 70 => 11#32
  | 71 => 7#32
  | 72 => 11#32
  | 73 => 7#32
  | 74 => 9#32
  | 75 => 11#32
  | 76 => 9#32
  | 77 => 9#32
  | 78 => 9#32
  | 79 => 9#32
  | 80 => 7#32
  | 81 => 11#32
  | 82 => 11#32
  | 83 => 7#32
  | 84 => 11#32
  | 85 => 7#32
  | 86 => 9#32
  | 87 => 9#32
  | 88 => 9#32
  | 89 => 11#32
  | 90 => 9#32
  | 91 => 9#32
  | 92 => 11#32
  | 93 => 11#32
  | 94 => 11#32
  | 95 => 9#32
  | 96 => 7#32
  | 97 => 11#32
  | 98 => 7#32
  | 99 => 9#32
  | 100 => 9#32
  | 101 => 7#32
  | 102 => 7#32
  | 103 => 11#32
  | 104 => 9#32
  | 105 => 7#32
  | 106 => 9#32
  | 107 => 9#32
  | 108 => 7#32
  | 109 => 11#32
  | 110 => 7#32
  | 111 => 11#32
  | 112 => 7#32
  | 113 => 7#32
  | 114 => 7#32
  | 115 => 11#32
  | 116 => 7#32
  | 117 => 7#32
  | 118 => 9#32
  | 119 => 11#32
  | 120 => 9#32
  | 121 => 9#32
  | 122 => 9#32
  | 123 => 7#32
  | 124 => 11#32
  | 125 => 9#32
  | 126 => 7#32
  | 127 => 11#32
  | _ => 0#32

noncomputable abbrev lit0t0_59 (i : Nat) : BitVec 32 := match i % 128 with
  | 0 => 7#32
  | 1 => 7#32
  | 2 => 7#32
  | 3 => 11#32
  | 4 => 9#32
  | 5 => 11#32
  | 6 => 7#32
  | 7 => 9#32
  | 8 => 11#32
  | 9 => 9#32
  | 10 => 7#32
  | 11 => 7#32
  | 12 => 11#32
  | 13 => 7#32
  | 14 => 7#32
  | 15 => 9#32
  | 16 => 7#32
  | 17 => 11#32
  | 18 => 7#32
  | 19 => 9#32
  | 20 => 7#32
  | 21 => 7#32
  | 22 => 9#32
  | 23 => 7#32
  | 24 => 11#32
  | 25 => 9#32
  | 26 => 9#32
  | 27 => 11#32
  | 28 => 9#32
  | 29 => 7#32
  | 30 => 11#32
  | 31 => 7#32
  | 32 => 7#32
  | 33 => 9#32
  | 34 => 7#32
  | 35 => 11#32
  | 36 => 9#32
  | 37 => 11#32
  | 38 => 9#32
  | 39 => 9#32
  | 40 => 7#32
  | 41 => 11#32
  | 42 => 7#32
  | 43 => 7#32
  | 44 => 9#32
  | 45 => 9#32
  | 46 => 11#32
  | 47 => 9#32
  | 48 => 7#32
  | 49 => 11#32
  | 50 => 11#32
  | 51 => 11#32
  | 52 => 7#32
  | 53 => 11#32
  | 54 => 11#32
  | 55 => 9#32
  | 56 => 9#32
  | 57 => 11#32
  | 58 => 9#32
  | 59 => 7#32
  | 60 => 7#32
  | 61 => 9#32
  | 62 => 7#32
  | 63 => 11#32
  | 64 => 11#32
  | 65 => 9#32
  | 66 => 7#32
  | 67 => 9#32
  | 68 => 7#32
  | 69 => 9#32
  | 70 => 7#32
  | 71 => 7#32
  | 72 => 11#32
  | 73 => 7#32
  | 74 => 9#32
  | 75 => 11#32
  | 76 => 7#32
  | 77 => 7#32
  | 78 => 11#32
  | 79 => 11#32
  | 80 => 7#32
  | 81 => 7#32
  | 82 => 9#32
  | 83 => 11#32
  | 84 => 9#32
  | 85 => 9#32
  | 86 => 9#32
  | 87 => 11#32
  | 88 => 7#32
  | 89 => 7#32
  | 90 => 11#32
  | 91 => 11#32
  | 92 => 9#32
  | 93 => 9#32
  | 94 => 11#32
  | 95 => 11#32
  | 96 => 9#32
  | 97 => 7#32
  | 98 => 9#32
  | 99 => 9#32
  | 100 => 11#32
  | 101 => 9#32
  | 102 => 7#32
  | 103 => 11#32
  | 104 => 11#32
  | 105 => 11#32
  | 106 => 7#32
  | 107 => 11#32
  | 108 => 7#32
  | 109 => 11#32
  | 110 => 9#32
  | 111 => 11#32
  | 112 => 9#32
  | 113 => 9#32
  | 114 => 11#32
  | 115 => 11#32
  | 116 => 9#32
  | 117 => 11#32
  | 118 => 11#32
  | 119 => 7#32
  | 120 => 7#32
  | 121 => 11#32
  | 122 => 7#32
  | 123 => 9#32
  | 124 => 7#32
  | 125 => 11#32
  | 126 => 9#32
  | 127 => 7#32
  | _ => 0#32

noncomputable abbrev lit0t0_60 (i : Nat) : BitVec 32 := match i % 128 with
  | 0 => 7#32
  | 1 => 7#32
  | 2 => 9#32
  | 3 => 11#32
  | 4 => 7#32
  | 5 => 11#32
  | 6 => 9#32
  | 7 => 9#32
  | 8 => 7#32
  | 9 => 7#32
  | 10 => 9#32
  | 11 => 9#32
  | 12 => 7#32
  | 13 => 7#32
  | 14 => 11#32
  | 15 => 7#32
  | 16 => 11#32
  | 17 => 7#32
  | 18 => 9#32
  | 19 => 9#32
  | 20 => 9#32
  | 21 => 7#32
  | 22 => 9#32
  | 23 => 11#32
  | 24 => 7#32
  | 25 => 11#32
  | 26 => 9#32
  | 27 => 7#32
  | 28 => 7#32
  | 29 => 11#32
  | 30 => 11#32
  | 31 => 7#32
  | 32 => 7#32
  | 33 => 9#32
  | 34 => 9#32
  | 35 => 9#32
  | 36 => 7#32
  | 37 => 9#32
  | 38 => 11#32
  | 39 => 7#32
  | 40 => 9#32
  | 41 => 11#32
  | 42 => 9#32
  | 43 => 11#32
  | 44 => 9#32
  | 45 => 11#32
  | 46 => 11#32
  | 47 => 9#32
  | 48 => 11#32
  | 49 => 7#32
  | 50 => 11#32
  | 51 => 9#32
  | 52 => 7#32
  | 53 => 7#32
  | 54 => 9#32
  | 55 => 7#32
  | 56 => 9#32
  | 57 => 9#32
  | 58 => 9#32
  | 59 => 9#32
  | 60 => 7#32
  | 61 => 7#32
  | 62 => 7#32
  | 63 => 9#32
  | 64 => 11#32
  | 65 => 9#32
  | 66 => 9#32
  | 67 => 9#32
  | 68 => 9#32
  | 69 => 7#32
  | 70 => 7#32
  | 71 => 11#32
  | 72 => 7#32
  | 73 => 11#32
  | 74 => 7#32
  | 75 => 11#32
  | 76 => 7#32
  | 77 => 9#32
  | 78 => 7#32
  | 79 => 11#32
  | 80 => 11#32
  | 81 => 11#32
  | 82 => 9#32
  | 83 => 9#32
  | 84 => 11#32
  | 85 => 7#32
  | 86 => 7#32
  | 87 => 9#32
  | 88 => 11#32
  | 89 => 11#32
  | 90 => 9#32
  | 91 => 11#32
  | 92 => 9#32
  | 93 => 7#32
  | 94 => 9#32
  | 95 => 7#32
  | 96 => 11#32
  | 97 => 9#32
  | 98 => 11#32
  | 99 => 11#32
  | 100 => 9#32
  | 101 => 7#32
  | 102 => 11#32
  | 103 => 7#32
  | 104 => 7#32
  | 105 => 7#32
  | 106 => 9#32
  | 107 => 11#32
  | 108 => 9#32
  | 109 => 11#32
  | 110 => 11#32
  | 111 => 7#32
  | 112 => 11#32
  | 113 => 7#32
  | 114 => 7#32
  | 115 => 11#32
  | 116 => 9#32
  | 117 => 9#32
  | 118 => 9#32
  | 119 => 7#32
  | 120 => 9#32
  | 121 => 11#32
  | 122 => 7#32
  | 123 => 7#32
  | 124 => 9#32
  | 125 => 9#32
  | 126 => 9#32
  | 127 => 7#32
  | _ => 0#32

noncomputable abbrev lit0t0_61 (i : Nat) : BitVec 32 := match i % 128 with
  | 0 => 11#32
  | 1 => 11#32
  | 2 => 11#32
  | 3 => 9#32
  | 4 => 11#32
  | 5 => 11#32
  | 6 => 11#32
  | 7 => 11#32
  | 8 => 11#32
  | 9 => 7#32
  | 10 => 7#32
  | 11 => 9#32
  | 12 => 9#32
  | 13 => 11#32
  | 14 => 7#32
  | 15 => 7#32
  | 16 => 9#32
  | 17 => 11#32
  | 18 => 11#32
  | 19 => 11#32
  | 20 => 9#32
  | 21 => 7#32
  | 22 => 11#32
  | 23 => 7#32
  | 24 => 7#32
  | 25 => 9#32
  | 26 => 11#32
  | 27 => 7#32
  | 28 => 11#32
  | 29 => 11#32
  | 30 => 7#32
  | 31 => 7#32
  | 32 => 7#32
  | 33 => 9#32
  | 34 => 11#32
  | 35 => 7#32
  | 36 => 11#32
  | 37 => 7#32
  | 38 => 11#32
  | 39 => 11#32
  | 40 => 7#32
  | 41 => 9#32
  | 42 => 9#32
  | 43 => 7#32
  | 44 => 11#32
  | 45 => 7#32
  | 46 => 11#32
  | 47 => 11#32
  | 48 => 9#32
  | 49 => 11#32
  | 50 => 9#32
  | 51 => 7#32
  | 52 => 11#32
  | 53 => 11#32
  | 54 => 11#32
  | 55 => 7#32
  | 56 => 7#32
  | 57 => 9#32
  | 58 => 11#32
  | 59 => 11#32
  | 60 => 7#32
  | 61 => 9#32
  | 62 => 11#32
  | 63 => 9#32
  | 64 => 7#32
  | 65 => 11#32
  | 66 => 11#32
  | 67 => 9#32
  | 68 => 9#32
  | 69 => 9#32
  | 70 => 7#32
  | 71 => 11#32
  | 72 => 11#32
  | 73 => 11#32
  | 74 => 9#32
  | 75 => 9#32
  | 76 => 11#32
  | 77 => 11#32
  | 78 => 9#32
  | 79 => 9#32
  | 80 => 7#32
  | 81 => 9#32
  | 82 => 7#32
  | 83 => 7#32
  | 84 => 9#32
  | 85 => 9#32
  | 86 => 11#32
  | 87 => 7#32
  | 88 => 7#32
  | 89 => 11#32
  | 90 => 9#32
  | 91 => 11#32
  | 92 => 9#32
  | 93 => 9#32
  | 94 => 11#32
  | 95 => 7#32
  | 96 => 7#32
  | 97 => 9#32
  | 98 => 7#32
  | 99 => 11#32
  | 100 => 7#32
  | 101 => 9#32
  | 102 => 9#32
  | 103 => 7#32
  | 104 => 7#32
  | 105 => 11#32
  | 106 => 9#32
  | 107 => 11#32
  | 108 => 11#32
  | 109 => 9#32
  | 110 => 9#32
  | 111 => 9#32
  | 112 => 9#32
  | 113 => 9#32
  | 114 => 9#32
  | 115 => 9#32
  | 116 => 11#32
  | 117 => 11#32
  | 118 => 9#32
  | 119 => 9#32
  | 120 => 9#32
  | 121 => 9#32
  | 122 => 11#32
  | 123 => 7#32
  | 124 => 11#32
  | 125 => 9#32
  | 126 => 11#32
  | 127 => 11#32
  | _ => 0#32

noncomputable abbrev lit0t0_62 (i : Nat) : BitVec 32 := match i % 128 with
  | 0 => 9#32
  | 1 => 7#32
  | 2 => 11#32
  | 3 => 11#32
  | 4 => 7#32
  | 5 => 7#32
  | 6 => 9#32
  | 7 => 9#32
  | 8 => 9#32
  | 9 => 9#32
  | 10 => 9#32
  | 11 => 11#32
  | 12 => 7#32
  | 13 => 11#32
  | 14 => 7#32
  | 15 => 9#32
  | 16 => 9#32
  | 17 => 9#32
  | 18 => 11#32
  | 19 => 9#32
  | 20 => 11#32
  | 21 => 11#32
  | 22 => 7#32
  | 23 => 11#32
  | 24 => 7#32
  | 25 => 7#32
  | 26 => 9#32
  | 27 => 7#32
  | 28 => 9#32
  | 29 => 7#32
  | 30 => 9#32
  | 31 => 7#32
  | 32 => 11#32
  | 33 => 11#32
  | 34 => 11#32
  | 35 => 9#32
  | 36 => 7#32
  | 37 => 11#32
  | 38 => 11#32
  | 39 => 9#32
  | 40 => 7#32
  | 41 => 7#32
  | 42 => 11#32
  | 43 => 11#32
  | 44 => 11#32
  | 45 => 7#32
  | 46 => 9#32
  | 47 => 11#32
  | 48 => 7#32
  | 49 => 7#32
  | 50 => 9#32
  | 51 => 7#32
  | 52 => 11#32
  | 53 => 9#32
  | 54 => 11#32
  | 55 => 9#32
  | 56 => 11#32
  | 57 => 11#32
  | 58 => 11#32
  | 59 => 11#32
  | 60 => 9#32
  | 61 => 7#32
  | 62 => 7#32
  | 63 => 7#32
  | 64 => 9#32
  | 65 => 9#32
  | 66 => 9#32
  | 67 => 9#32
  | 68 => 11#32
  | 69 => 9#32
  | 70 => 11#32
  | 71 => 11#32
  | 72 => 9#32
  | 73 => 11#32
  | 74 => 7#32
  | 75 => 9#32
  | 76 => 11#32
  | 77 => 7#32
  | 78 => 9#32
  | 79 => 7#32
  | 80 => 11#32
  | 81 => 9#32
  | 82 => 7#32
  | 83 => 11#32
  | 84 => 9#32
  | 85 => 7#32
  | 86 => 7#32
  | 87 => 11#32
  | 88 => 11#32
  | 89 => 7#32
  | 90 => 11#32
  | 91 => 11#32
  | 92 => 7#32
  | 93 => 7#32
  | 94 => 7#32
  | 95 => 7#32
  | 96 => 7#32
  | 97 => 7#32
  | 98 => 11#32
  | 99 => 11#32
  | 100 => 11#32
  | 101 => 9#32
  | 102 => 7#32
  | 103 => 11#32
  | 104 => 7#32
  | 105 => 9#32
  | 106 => 11#32
  | 107 => 9#32
  | 108 => 7#32
  | 109 => 9#32
  | 110 => 7#32
  | 111 => 9#32
  | 112 => 9#32
  | 113 => 7#32
  | 114 => 9#32
  | 115 => 7#32
  | 116 => 7#32
  | 117 => 11#32
  | 118 => 11#32
  | 119 => 9#32
  | 120 => 11#32
  | 121 => 9#32
  | 122 => 11#32
  | 123 => 9#32
  | 124 => 11#32
  | 125 => 11#32
  | 126 => 9#32
  | 127 => 7#32
  | _ => 0#32

noncomputable abbrev lit0t0_63 (i : Nat) : BitVec 32 := match i % 128 with
  | 0 => 9#32
  | 1 => 7#32
  | 2 => 7#32
  | 3 => 11#32
  | 4 => 7#32
  | 5 => 9#32
  | 6 => 7#32
  | 7 => 9#32
  | 8 => 9#32
  | 9 => 7#32
  | 10 => 11#32
  | 11 => 11#32
  | 12 => 11#32
  | 13 => 11#32
  | 14 => 11#32
  | 15 => 11#32
  | 16 => 9#32
  | 17 => 7#32
  | 18 => 11#32
  | 19 => 7#32
  | 20 => 9#32
  | 21 => 7#32
  | 22 => 11#32
  | 23 => 9#32
  | 24 => 7#32
  | 25 => 7#32
  | 26 => 7#32
  | 27 => 11#32
  | 28 => 9#32
  | 29 => 11#32
  | 30 => 11#32
  | 31 => 11#32
  | 32 => 7#32
  | 33 => 9#32
  | 34 => 7#32
  | 35 => 9#32
  | 36 => 9#32
  | 37 => 9#32
  | 38 => 9#32
  | 39 => 9#32
  | 40 => 9#32
  | 41 => 7#32
  | 42 => 11#32
  | 43 => 11#32
  | 44 => 11#32
  | 45 => 9#32
  | 46 => 11#32
  | 47 => 9#32
  | 48 => 7#32
  | 49 => 9#32
  | 50 => 11#32
  | 51 => 7#32
  | 52 => 7#32
  | 53 => 11#32
  | 54 => 7#32
  | 55 => 11#32
  | 56 => 9#32
  | 57 => 9#32
  | 58 => 7#32
  | 59 => 9#32
  | 60 => 7#32
  | 61 => 7#32
  | 62 => 9#32
  | 63 => 11#32
  | 64 => 9#32
  | 65 => 9#32
  | 66 => 11#32
  | 67 => 11#32
  | 68 => 7#32
  | 69 => 11#32
  | 70 => 7#32
  | 71 => 9#32
  | 72 => 11#32
  | 73 => 9#32
  | 74 => 11#32
  | 75 => 11#32
  | 76 => 7#32
  | 77 => 7#32
  | 78 => 9#32
  | 79 => 9#32
  | 80 => 7#32
  | 81 => 9#32
  | 82 => 9#32
  | 83 => 7#32
  | 84 => 9#32
  | 85 => 9#32
  | 86 => 9#32
  | 87 => 7#32
  | 88 => 11#32
  | 89 => 11#32
  | 90 => 9#32
  | 91 => 7#32
  | 92 => 11#32
  | 93 => 7#32
  | 94 => 9#32
  | 95 => 11#32
  | 96 => 11#32
  | 97 => 7#32
  | 98 => 11#32
  | 99 => 7#32
  | 100 => 9#32
  | 101 => 11#32
  | 102 => 11#32
  | 103 => 11#32
  | 104 => 9#32
  | 105 => 9#32
  | 106 => 7#32
  | 107 => 9#32
  | 108 => 9#32
  | 109 => 7#32
  | 110 => 9#32
  | 111 => 11#32
  | 112 => 9#32
  | 113 => 7#32
  | 114 => 11#32
  | 115 => 9#32
  | 116 => 9#32
  | 117 => 9#32
  | 118 => 9#32
  | 119 => 7#32
  | 120 => 11#32
  | 121 => 11#32
  | 122 => 7#32
  | 123 => 9#32
  | 124 => 11#32
  | 125 => 9#32
  | 126 => 9#32
  | 127 => 7#32
  | _ => 0#32

noncomputable abbrev lit0t0_64 (i : Nat) : BitVec 32 := match i % 128 with
  | 0 => 11#32
  | 1 => 7#32
  | 2 => 9#32
  | 3 => 9#32
  | 4 => 9#32
  | 5 => 9#32
  | 6 => 9#32
  | 7 => 11#32
  | 8 => 7#32
  | 9 => 11#32
  | 10 => 11#32
  | 11 => 9#32
  | 12 => 7#32
  | 13 => 7#32
  | 14 => 7#32
  | 15 => 7#32
  | 16 => 11#32
  | 17 => 7#32
  | 18 => 7#32
  | 19 => 7#32
  | 20 => 9#32
  | 21 => 11#32
  | 22 => 9#32
  | 23 => 7#32
  | 24 => 11#32
  | 25 => 9#32
  | 26 => 11#32
  | 27 => 9#32
  | 28 => 11#32
  | 29 => 9#32
  | 30 => 11#32
  | 31 => 11#32
  | 32 => 7#32
  | 33 => 9#32
  | 34 => 7#32
  | 35 => 7#32
  | 36 => 9#32
  | 37 => 7#32
  | 38 => 9#32
  | 39 => 9#32
  | 40 => 11#32
  | 41 => 7#32
  | 42 => 9#32
  | 43 => 9#32
  | 44 => 11#32
  | 45 => 9#32
  | 46 => 11#32
  | 47 => 11#32
  | 48 => 9#32
  | 49 => 9#32
  | 50 => 9#32
  | 51 => 11#32
  | 52 => 7#32
  | 53 => 9#32
  | 54 => 11#32
  | 55 => 11#32
  | 56 => 7#32
  | 57 => 9#32
  | 58 => 7#32
  | 59 => 9#32
  | 60 => 7#32
  | 61 => 11#32
  | 62 => 9#32
  | 63 => 11#32
  | 64 => 9#32
  | 65 => 9#32
  | 66 => 9#32
  | 67 => 11#32
  | 68 => 9#32
  | 69 => 9#32
  | 70 => 9#32
  | 71 => 11#32
  | 72 => 9#32
  | 73 => 7#32
  | 74 => 7#32
  | 75 => 11#32
  | 76 => 9#32
  | 77 => 7#32
  | 78 => 11#32
  | 79 => 9#32
  | 80 => 7#32
  | 81 => 11#32
  | 82 => 7#32
  | 83 => 7#32
  | 84 => 11#32
  | 85 => 7#32
  | 86 => 7#32
  | 87 => 7#32
  | 88 => 11#32
  | 89 => 9#32
  | 90 => 9#32
  | 91 => 7#32
  | 92 => 9#32
  | 93 => 11#32
  | 94 => 11#32
  | 95 => 11#32
  | 96 => 9#32
  | 97 => 9#32
  | 98 => 7#32
  | 99 => 9#32
  | 100 => 11#32
  | 101 => 11#32
  | 102 => 9#32
  | 103 => 9#32
  | 104 => 7#32
  | 105 => 7#32
  | 106 => 9#32
  | 107 => 7#32
  | 108 => 7#32
  | 109 => 7#32
  | 110 => 7#32
  | 111 => 11#32
  | 112 => 9#32
  | 113 => 11#32
  | 114 => 7#32
  | 115 => 11#32
  | 116 => 7#32
  | 117 => 11#32
  | 118 => 11#32
  | 119 => 7#32
  | 120 => 11#32
  | 121 => 9#32
  | 122 => 11#32
  | 123 => 9#32
  | 124 => 9#32
  | 125 => 7#32
  | 126 => 7#32
  | 127 => 11#32
  | _ => 0#32

noncomputable abbrev lit0t0_65 (i : Nat) : BitVec 32 := match i % 128 with
  | 0 => 7#32
  | 1 => 7#32
  | 2 => 11#32
  | 3 => 7#32
  | 4 => 7#32
  | 5 => 11#32
  | 6 => 7#32
  | 7 => 7#32
  | 8 => 7#32
  | 9 => 7#32
  | 10 => 7#32
  | 11 => 9#32
  | 12 => 9#32
  | 13 => 9#32
  | 14 => 9#32
  | 15 => 7#32
  | 16 => 7#32
  | 17 => 7#32
  | 18 => 11#32
  | 19 => 11#32
  | 20 => 11#32
  | 21 => 11#32
  | 22 => 11#32
  | 23 => 11#32
  | 24 => 7#32
  | 25 => 11#32
  | 26 => 7#32
  | 27 => 7#32
  | 28 => 11#32
  | 29 => 7#32
  | 30 => 7#32
  | 31 => 11#32
  | 32 => 7#32
  | 33 => 9#32
  | 34 => 11#32
  | 35 => 7#32
  | 36 => 11#32
  | 37 => 9#32
  | 38 => 9#32
  | 39 => 9#32
  | 40 => 11#32
  | 41 => 9#32
  | 42 => 7#32
  | 43 => 7#32
  | 44 => 7#32
  | 45 => 7#32
  | 46 => 11#32
  | 47 => 7#32
  | 48 => 7#32
  | 49 => 11#32
  | 50 => 11#32
  | 51 => 9#32
  | 52 => 9#32
  | 53 => 11#32
  | 54 => 7#32
  | 55 => 11#32
  | 56 => 7#32
  | 57 => 7#32
  | 58 => 11#32
  | 59 => 9#32
  | 60 => 9#32
  | 61 => 7#32
  | 62 => 7#32
  | 63 => 7#32
  | 64 => 9#32
  | 65 => 11#32
  | 66 => 11#32
  | 67 => 7#32
  | 68 => 11#32
  | 69 => 11#32
  | 70 => 7#32
  | 71 => 7#32
  | 72 => 11#32
  | 73 => 11#32
  | 74 => 7#32
  | 75 => 11#32
  | 76 => 11#32
  | 77 => 11#32
  | 78 => 11#32
  | 79 => 11#32
  | 80 => 7#32
  | 81 => 9#32
  | 82 => 9#32
  | 83 => 7#32
  | 84 => 11#32
  | 85 => 9#32
  | 86 => 7#32
  | 87 => 7#32
  | 88 => 9#32
  | 89 => 9#32
  | 90 => 11#32
  | 91 => 9#32
  | 92 => 9#32
  | 93 => 7#32
  | 94 => 11#32
  | 95 => 7#32
  | 96 => 11#32
  | 97 => 9#32
  | 98 => 9#32
  | 99 => 7#32
  | 100 => 11#32
  | 101 => 9#32
  | 102 => 7#32
  | 103 => 7#32
  | 104 => 7#32
  | 105 => 7#32
  | 106 => 9#32
  | 107 => 7#32
  | 108 => 11#32
  | 109 => 11#32
  | 110 => 9#32
  | 111 => 11#32
  | 112 => 11#32
  | 113 => 7#32
  | 114 => 9#32
  | 115 => 11#32
  | 116 => 11#32
  | 117 => 7#32
  | 118 => 7#32
  | 119 => 11#32
  | 120 => 7#32
  | 121 => 7#32
  | 122 => 7#32
  | 123 => 9#32
  | 124 => 11#32
  | 125 => 11#32
  | 126 => 7#32
  | 127 => 11#32
  | _ => 0#32

noncomputable abbrev lit0t0_66 (i : Nat) : BitVec 32 := match i % 128 with
  | 0 => 11#32
  | 1 => 7#32
  | 2 => 7#32
  | 3 => 9#32
  | 4 => 7#32
  | 5 => 9#32
  | 6 => 7#32
  | 7 => 7#32
  | 8 => 11#32
  | 9 => 11#32
  | 10 => 11#32
  | 11 => 9#32
  | 12 => 9#32
  | 13 => 9#32
  | 14 => 11#32
  | 15 => 7#32
  | 16 => 9#32
  | 17 => 7#32
  | 18 => 7#32
  | 19 => 11#32
  | 20 => 7#32
  | 21 => 11#32
  | 22 => 7#32
  | 23 => 9#32
  | 24 => 7#32
  | 25 => 11#32
  | 26 => 7#32
  | 27 => 7#32
  | 28 => 11#32
  | 29 => 7#32
  | 30 => 11#32
  | 31 => 11#32
  | 32 => 11#32
  | 33 => 7#32
  | 34 => 7#32
  | 35 => 11#32
  | 36 => 11#32
  | 37 => 7#32
  | 38 => 11#32
  | 39 => 9#32
  | 40 => 11#32
  | 41 => 11#32
  | 42 => 7#32
  | 43 => 11#32
  | 44 => 11#32
  | 45 => 11#32
  | 46 => 7#32
  | 47 => 7#32
  | 48 => 7#32
  | 49 => 9#32
  | 50 => 7#32
  | 51 => 7#32
  | 52 => 7#32
  | 53 => 7#32
  | 54 => 9#32
  | 55 => 11#32
  | 56 => 11#32
  | 57 => 11#32
  | 58 => 7#32
  | 59 => 11#32
  | 60 => 11#32
  | 61 => 11#32
  | 62 => 11#32
  | 63 => 7#32
  | 64 => 11#32
  | 65 => 11#32
  | 66 => 11#32
  | 67 => 11#32
  | 68 => 9#32
  | 69 => 7#32
  | 70 => 11#32
  | 71 => 9#32
  | 72 => 9#32
  | 73 => 7#32
  | 74 => 11#32
  | 75 => 7#32
  | 76 => 7#32
  | 77 => 11#32
  | 78 => 11#32
  | 79 => 11#32
  | 80 => 11#32
  | 81 => 7#32
  | 82 => 11#32
  | 83 => 9#32
  | 84 => 7#32
  | 85 => 11#32
  | 86 => 7#32
  | 87 => 11#32
  | 88 => 7#32
  | 89 => 7#32
  | 90 => 7#32
  | 91 => 11#32
  | 92 => 9#32
  | 93 => 9#32
  | 94 => 7#32
  | 95 => 7#32
  | 96 => 7#32
  | 97 => 7#32
  | 98 => 7#32
  | 99 => 7#32
  | 100 => 7#32
  | 101 => 9#32
  | 102 => 11#32
  | 103 => 11#32
  | 104 => 11#32
  | 105 => 11#32
  | 106 => 7#32
  | 107 => 11#32
  | 108 => 7#32
  | 109 => 11#32
  | 110 => 7#32
  | 111 => 11#32
  | 112 => 7#32
  | 113 => 11#32
  | 114 => 9#32
  | 115 => 9#32
  | 116 => 11#32
  | 117 => 11#32
  | 118 => 11#32
  | 119 => 11#32
  | 120 => 9#32
  | 121 => 9#32
  | 122 => 9#32
  | 123 => 7#32
  | 124 => 7#32
  | 125 => 9#32
  | 126 => 7#32
  | 127 => 11#32
  | _ => 0#32

noncomputable abbrev lit0t0_67 (i : Nat) : BitVec 32 := match i % 128 with
  | 0 => 11#32
  | 1 => 7#32
  | 2 => 11#32
  | 3 => 7#32
  | 4 => 7#32
  | 5 => 11#32
  | 6 => 9#32
  | 7 => 7#32
  | 8 => 11#32
  | 9 => 7#32
  | 10 => 7#32
  | 11 => 9#32
  | 12 => 9#32
  | 13 => 9#32
  | 14 => 7#32
  | 15 => 11#32
  | 16 => 7#32
  | 17 => 11#32
  | 18 => 11#32
  | 19 => 7#32
  | 20 => 7#32
  | 21 => 9#32
  | 22 => 7#32
  | 23 => 11#32
  | 24 => 11#32
  | 25 => 11#32
  | 26 => 7#32
  | 27 => 11#32
  | 28 => 11#32
  | 29 => 11#32
  | 30 => 7#32
  | 31 => 7#32
  | 32 => 9#32
  | 33 => 9#32
  | 34 => 7#32
  | 35 => 7#32
  | 36 => 11#32
  | 37 => 11#32
  | 38 => 7#32
  | 39 => 9#32
  | 40 => 9#32
  | 41 => 11#32
  | 42 => 9#32
  | 43 => 11#32
  | 44 => 11#32
  | 45 => 11#32
  | 46 => 9#32
  | 47 => 7#32
  | 48 => 7#32
  | 49 => 7#32
  | 50 => 11#32
  | 51 => 9#32
  | 52 => 7#32
  | 53 => 11#32
  | 54 => 7#32
  | 55 => 7#32
  | 56 => 9#32
  | 57 => 11#32
  | 58 => 7#32
  | 59 => 9#32
  | 60 => 11#32
  | 61 => 11#32
  | 62 => 7#32
  | 63 => 9#32
  | 64 => 9#32
  | 65 => 7#32
  | 66 => 7#32
  | 67 => 7#32
  | 68 => 9#32
  | 69 => 7#32
  | 70 => 9#32
  | 71 => 7#32
  | 72 => 9#32
  | 73 => 7#32
  | 74 => 9#32
  | 75 => 9#32
  | 76 => 11#32
  | 77 => 9#32
  | 78 => 11#32
  | 79 => 11#32
  | 80 => 7#32
  | 81 => 11#32
  | 82 => 11#32
  | 83 => 7#32
  | 84 => 9#32
  | 85 => 7#32
  | 86 => 11#32
  | 87 => 9#32
  | 88 => 11#32
  | 89 => 7#32
  | 90 => 7#32
  | 91 => 9#32
  | 92 => 11#32
  | 93 => 11#32
  | 94 => 7#32
  | 95 => 11#32
  | 96 => 11#32
  | 97 => 7#32
  | 98 => 11#32
  | 99 => 9#32
  | 100 => 9#32
  | 101 => 11#32
  | 102 => 9#32
  | 103 => 7#32
  | 104 => 7#32
  | 105 => 9#32
  | 106 => 7#32
  | 107 => 9#32
  | 108 => 7#32
  | 109 => 7#32
  | 110 => 9#32
  | 111 => 11#32
  | 112 => 9#32
  | 113 => 11#32
  | 114 => 11#32
  | 115 => 11#32
  | 116 => 9#32
  | 117 => 9#32
  | 118 => 7#32
  | 119 => 7#32
  | 120 => 11#32
  | 121 => 9#32
  | 122 => 7#32
  | 123 => 9#32
  | 124 => 11#32
  | 125 => 9#32
  | 126 => 7#32
  | 127 => 11#32
  | _ => 0#32

noncomputable abbrev lit0t0_68 (i : Nat) : BitVec 32 := match i % 128 with
  | 0 => 9#32
  | 1 => 9#32
  | 2 => 11#32
  | 3 => 11#32
  | 4 => 7#32
  | 5 => 9#32
  | 6 => 9#32
  | 7 => 11#32
  | 8 => 11#32
  | 9 => 11#32
  | 10 => 11#32
  | 11 => 7#32
  | 12 => 7#32
  | 13 => 7#32
  | 14 => 11#32
  | 15 => 9#32
  | 16 => 9#32
  | 17 => 11#32
  | 18 => 7#32
  | 19 => 7#32
  | 20 => 11#32
  | 21 => 11#32
  | 22 => 11#32
  | 23 => 9#32
  | 24 => 7#32
  | 25 => 9#32
  | 26 => 9#32
  | 27 => 11#32
  | 28 => 9#32
  | 29 => 7#32
  | 30 => 9#32
  | 31 => 11#32
  | 32 => 11#32
  | 33 => 11#32
  | 34 => 7#32
  | 35 => 11#32
  | 36 => 11#32
  | 37 => 9#32
  | 38 => 9#32
  | 39 => 11#32
  | 40 => 9#32
  | 41 => 9#32
  | 42 => 7#32
  | 43 => 7#32
  | 44 => 11#32
  | 45 => 11#32
  | 46 => 11#32
  | 47 => 9#32
  | 48 => 7#32
  | 49 => 7#32
  | 50 => 11#32
  | 51 => 7#32
  | 52 => 7#32
  | 53 => 9#32
  | 54 => 7#32
  | 55 => 7#32
  | 56 => 9#32
  | 57 => 7#32
  | 58 => 9#32
  | 59 => 7#32
  | 60 => 9#32
  | 61 => 7#32
  | 62 => 7#32
  | 63 => 11#32
  | 64 => 7#32
  | 65 => 11#32
  | 66 => 7#32
  | 67 => 7#32
  | 68 => 7#32
  | 69 => 11#32
  | 70 => 7#32
  | 71 => 11#32
  | 72 => 9#32
  | 73 => 11#32
  | 74 => 11#32
  | 75 => 9#32
  | 76 => 9#32
  | 77 => 9#32
  | 78 => 11#32
  | 79 => 7#32
  | 80 => 7#32
  | 81 => 11#32
  | 82 => 7#32
  | 83 => 11#32
  | 84 => 7#32
  | 85 => 7#32
  | 86 => 7#32
  | 87 => 11#32
  | 88 => 11#32
  | 89 => 7#32
  | 90 => 7#32
  | 91 => 11#32
  | 92 => 11#32
  | 93 => 7#32
  | 94 => 11#32
  | 95 => 7#32
  | 96 => 7#32
  | 97 => 11#32
  | 98 => 11#32
  | 99 => 7#32
  | 100 => 9#32
  | 101 => 7#32
  | 102 => 9#32
  | 103 => 7#32
  | 104 => 11#32
  | 105 => 7#32
  | 106 => 9#32
  | 107 => 9#32
  | 108 => 7#32
  | 109 => 9#32
  | 110 => 11#32
  | 111 => 9#32
  | 112 => 11#32
  | 113 => 11#32
  | 114 => 9#32
  | 115 => 11#32
  | 116 => 11#32
  | 117 => 9#32
  | 118 => 7#32
  | 119 => 9#32
  | 120 => 9#32
  | 121 => 11#32
  | 122 => 9#32
  | 123 => 7#32
  | 124 => 11#32
  | 125 => 9#32
  | 126 => 11#32
  | 127 => 11#32
  | _ => 0#32

noncomputable abbrev lit0t0_69 (i : Nat) : BitVec 32 := match i % 128 with
  | 0 => 11#32
  | 1 => 11#32
  | 2 => 7#32
  | 3 => 7#32
  | 4 => 9#32
  | 5 => 11#32
  | 6 => 7#32
  | 7 => 7#32
  | 8 => 11#32
  | 9 => 7#32
  | 10 => 7#32
  | 11 => 7#32
  | 12 => 7#32
  | 13 => 9#32
  | 14 => 9#32
  | 15 => 9#32
  | 16 => 7#32
  | 17 => 7#32
  | 18 => 7#32
  | 19 => 7#32
  | 20 => 7#32
  | 21 => 7#32
  | 22 => 7#32
  | 23 => 11#32
  | 24 => 9#32
  | 25 => 11#32
  | 26 => 7#32
  | 27 => 11#32
  | 28 => 9#32
  | 29 => 7#32
  | 30 => 9#32
  | 31 => 9#32
  | 32 => 11#32
  | 33 => 7#32
  | 34 => 7#32
  | 35 => 11#32
  | 36 => 7#32
  | 37 => 11#32
  | 38 => 7#32
  | 39 => 11#32
  | 40 => 9#32
  | 41 => 11#32
  | 42 => 11#32
  | 43 => 9#32
  | 44 => 11#32
  | 45 => 11#32
  | 46 => 9#32
  | 47 => 7#32
  | 48 => 9#32
  | 49 => 11#32
  | 50 => 7#32
  | 51 => 9#32
  | 52 => 9#32
  | 53 => 9#32
  | 54 => 9#32
  | 55 => 11#32
  | 56 => 9#32
  | 57 => 9#32
  | 58 => 9#32
  | 59 => 7#32
  | 60 => 11#32
  | 61 => 11#32
  | 62 => 9#32
  | 63 => 9#32
  | 64 => 7#32
  | 65 => 9#32
  | 66 => 11#32
  | 67 => 11#32
  | 68 => 9#32
  | 69 => 11#32
  | 70 => 7#32
  | 71 => 7#32
  | 72 => 11#32
  | 73 => 9#32
  | 74 => 11#32
  | 75 => 7#32
  | 76 => 7#32
  | 77 => 9#32
  | 78 => 9#32
  | 79 => 9#32
  | 80 => 11#32
  | 81 => 11#32
  | 82 => 9#32
  | 83 => 11#32
  | 84 => 7#32
  | 85 => 9#32
  | 86 => 9#32
  | 87 => 11#32
  | 88 => 11#32
  | 89 => 7#32
  | 90 => 7#32
  | 91 => 11#32
  | 92 => 11#32
  | 93 => 9#32
  | 94 => 11#32
  | 95 => 9#32
  | 96 => 9#32
  | 97 => 7#32
  | 98 => 11#32
  | 99 => 9#32
  | 100 => 7#32
  | 101 => 11#32
  | 102 => 7#32
  | 103 => 9#32
  | 104 => 11#32
  | 105 => 7#32
  | 106 => 7#32
  | 107 => 9#32
  | 108 => 7#32
  | 109 => 11#32
  | 110 => 7#32
  | 111 => 11#32
  | 112 => 9#32
  | 113 => 11#32
  | 114 => 7#32
  | 115 => 7#32
  | 116 => 11#32
  | 117 => 7#32
  | 118 => 7#32
  | 119 => 9#32
  | 120 => 11#32
  | 121 => 7#32
  | 122 => 7#32
  | 123 => 11#32
  | 124 => 11#32
  | 125 => 9#32
  | 126 => 7#32
  | 127 => 9#32
  | _ => 0#32

noncomputable abbrev lit0t0_70 (i : Nat) : BitVec 32 := match i % 128 with
  | 0 => 7#32
  | 1 => 9#32
  | 2 => 7#32
  | 3 => 11#32
  | 4 => 11#32
  | 5 => 9#32
  | 6 => 11#32
  | 7 => 7#32
  | 8 => 11#32
  | 9 => 9#32
  | 10 => 7#32
  | 11 => 9#32
  | 12 => 9#32
  | 13 => 7#32
  | 14 => 7#32
  | 15 => 9#32
  | 16 => 7#32
  | 17 => 11#32
  | 18 => 11#32
  | 19 => 9#32
  | 20 => 9#32
  | 21 => 7#32
  | 22 => 11#32
  | 23 => 11#32
  | 24 => 7#32
  | 25 => 9#32
  | 26 => 7#32
  | 27 => 9#32
  | 28 => 7#32
  | 29 => 7#32
  | 30 => 11#32
  | 31 => 11#32
  | 32 => 9#32
  | 33 => 7#32
  | 34 => 7#32
  | 35 => 7#32
  | 36 => 9#32
  | 37 => 9#32
  | 38 => 9#32
  | 39 => 11#32
  | 40 => 7#32
  | 41 => 7#32
  | 42 => 11#32
  | 43 => 11#32
  | 44 => 11#32
  | 45 => 11#32
  | 46 => 11#32
  | 47 => 11#32
  | 48 => 7#32
  | 49 => 9#32
  | 50 => 11#32
  | 51 => 9#32
  | 52 => 11#32
  | 53 => 11#32
  | 54 => 11#32
  | 55 => 11#32
  | 56 => 11#32
  | 57 => 11#32
  | 58 => 9#32
  | 59 => 11#32
  | 60 => 11#32
  | 61 => 7#32
  | 62 => 7#32
  | 63 => 7#32
  | 64 => 9#32
  | 65 => 9#32
  | 66 => 9#32
  | 67 => 11#32
  | 68 => 9#32
  | 69 => 11#32
  | 70 => 9#32
  | 71 => 9#32
  | 72 => 9#32
  | 73 => 7#32
  | 74 => 9#32
  | 75 => 9#32
  | 76 => 9#32
  | 77 => 9#32
  | 78 => 9#32
  | 79 => 9#32
  | 80 => 7#32
  | 81 => 9#32
  | 82 => 7#32
  | 83 => 11#32
  | 84 => 11#32
  | 85 => 11#32
  | 86 => 9#32
  | 87 => 7#32
  | 88 => 9#32
  | 89 => 9#32
  | 90 => 9#32
  | 91 => 11#32
  | 92 => 7#32
  | 93 => 9#32
  | 94 => 9#32
  | 95 => 11#32
  | 96 => 9#32
  | 97 => 7#32
  | 98 => 7#32
  | 99 => 7#32
  | 100 => 9#32
  | 101 => 9#32
  | 102 => 7#32
  | 103 => 7#32
  | 104 => 7#32
  | 105 => 11#32
  | 106 => 7#32
  | 107 => 11#32
  | 108 => 7#32
  | 109 => 11#32
  | 110 => 9#32
  | 111 => 11#32
  | 112 => 11#32
  | 113 => 11#32
  | 114 => 7#32
  | 115 => 11#32
  | 116 => 7#32
  | 117 => 11#32
  | 118 => 9#32
  | 119 => 7#32
  | 120 => 7#32
  | 121 => 7#32
  | 122 => 11#32
  | 123 => 11#32
  | 124 => 9#32
  | 125 => 11#32
  | 126 => 9#32
  | 127 => 11#32
  | _ => 0#32

noncomputable abbrev lit0t0_71 (i : Nat) : BitVec 32 := match i % 128 with
  | 0 => 11#32
  | 1 => 11#32
  | 2 => 7#32
  | 3 => 7#32
  | 4 => 11#32
  | 5 => 9#32
  | 6 => 11#32
  | 7 => 11#32
  | 8 => 11#32
  | 9 => 9#32
  | 10 => 7#32
  | 11 => 7#32
  | 12 => 7#32
  | 13 => 7#32
  | 14 => 11#32
  | 15 => 9#32
  | 16 => 11#32
  | 17 => 9#32
  | 18 => 7#32
  | 19 => 11#32
  | 20 => 11#32
  | 21 => 9#32
  | 22 => 9#32
  | 23 => 7#32
  | 24 => 11#32
  | 25 => 9#32
  | 26 => 7#32
  | 27 => 11#32
  | 28 => 9#32
  | 29 => 7#32
  | 30 => 9#32
  | 31 => 11#32
  | 32 => 11#32
  | 33 => 11#32
  | 34 => 9#32
  | 35 => 7#32
  | 36 => 7#32
  | 37 => 11#32
  | 38 => 9#32
  | 39 => 11#32
  | 40 => 7#32
  | 41 => 11#32
  | 42 => 11#32
  | 43 => 11#32
  | 44 => 11#32
  | 45 => 7#32
  | 46 => 7#32
  | 47 => 11#32
  | 48 => 7#32
  | 49 => 7#32
  | 50 => 11#32
  | 51 => 9#32
  | 52 => 9#32
  | 53 => 9#32
  | 54 => 11#32
  | 55 => 7#32
  | 56 => 7#32
  | 57 => 11#32
  | 58 => 7#32
  | 59 => 7#32
  | 60 => 9#32
  | 61 => 11#32
  | 62 => 11#32
  | 63 => 7#32
  | 64 => 11#32
  | 65 => 11#32
  | 66 => 9#32
  | 67 => 7#32
  | 68 => 9#32
  | 69 => 11#32
  | 70 => 7#32
  | 71 => 7#32
  | 72 => 11#32
  | 73 => 7#32
  | 74 => 11#32
  | 75 => 9#32
  | 76 => 9#32
  | 77 => 7#32
  | 78 => 7#32
  | 79 => 7#32
  | 80 => 11#32
  | 81 => 7#32
  | 82 => 11#32
  | 83 => 7#32
  | 84 => 9#32
  | 85 => 11#32
  | 86 => 11#32
  | 87 => 11#32
  | 88 => 7#32
  | 89 => 7#32
  | 90 => 11#32
  | 91 => 9#32
  | 92 => 7#32
  | 93 => 7#32
  | 94 => 11#32
  | 95 => 9#32
  | 96 => 7#32
  | 97 => 9#32
  | 98 => 9#32
  | 99 => 11#32
  | 100 => 7#32
  | 101 => 11#32
  | 102 => 11#32
  | 103 => 7#32
  | 104 => 11#32
  | 105 => 9#32
  | 106 => 9#32
  | 107 => 11#32
  | 108 => 9#32
  | 109 => 7#32
  | 110 => 9#32
  | 111 => 7#32
  | 112 => 11#32
  | 113 => 11#32
  | 114 => 9#32
  | 115 => 11#32
  | 116 => 11#32
  | 117 => 7#32
  | 118 => 9#32
  | 119 => 7#32
  | 120 => 9#32
  | 121 => 9#32
  | 122 => 9#32
  | 123 => 11#32
  | 124 => 11#32
  | 125 => 11#32
  | 126 => 11#32
  | 127 => 9#32
  | _ => 0#32

noncomputable abbrev lit0t0_72 (i : Nat) : BitVec 32 := match i % 128 with
  | 0 => 11#32
  | 1 => 7#32
  | 2 => 7#32
  | 3 => 7#32
  | 4 => 7#32
  | 5 => 11#32
  | 6 => 7#32
  | 7 => 11#32
  | 8 => 7#32
  | 9 => 9#32
  | 10 => 11#32
  | 11 => 9#32
  | 12 => 11#32
  | 13 => 7#32
  | 14 => 9#32
  | 15 => 9#32
  | 16 => 9#32
  | 17 => 11#32
  | 18 => 9#32
  | 19 => 7#32
  | 20 => 11#32
  | 21 => 9#32
  | 22 => 11#32
  | 23 => 9#32
  | 24 => 9#32
  | 25 => 7#32
  | 26 => 11#32
  | 27 => 9#32
  | 28 => 7#32
  | 29 => 7#32
  | 30 => 9#32
  | 31 => 11#32
  | 32 => 7#32
  | 33 => 11#32
  | 34 => 11#32
  | 35 => 7#32
  | 36 => 7#32
  | 37 => 11#32
  | 38 => 7#32
  | 39 => 7#32
  | 40 => 11#32
  | 41 => 9#32
  | 42 => 9#32
  | 43 => 11#32
  | 44 => 7#32
  | 45 => 11#32
  | 46 => 7#32
  | 47 => 9#32
  | 48 => 11#32
  | 49 => 7#32
  | 50 => 9#32
  | 51 => 7#32
  | 52 => 7#32
  | 53 => 11#32
  | 54 => 9#32
  | 55 => 9#32
  | 56 => 9#32
  | 57 => 11#32
  | 58 => 11#32
  | 59 => 11#32
  | 60 => 9#32
  | 61 => 9#32
  | 62 => 9#32
  | 63 => 7#32
  | 64 => 9#32
  | 65 => 9#32
  | 66 => 11#32
  | 67 => 9#32
  | 68 => 7#32
  | 69 => 9#32
  | 70 => 9#32
  | 71 => 11#32
  | 72 => 11#32
  | 73 => 11#32
  | 74 => 9#32
  | 75 => 7#32
  | 76 => 7#32
  | 77 => 7#32
  | 78 => 9#32
  | 79 => 9#32
  | 80 => 7#32
  | 81 => 7#32
  | 82 => 9#32
  | 83 => 9#32
  | 84 => 7#32
  | 85 => 9#32
  | 86 => 11#32
  | 87 => 7#32
  | 88 => 9#32
  | 89 => 9#32
  | 90 => 9#32
  | 91 => 9#32
  | 92 => 11#32
  | 93 => 7#32
  | 94 => 9#32
  | 95 => 11#32
  | 96 => 7#32
  | 97 => 9#32
  | 98 => 11#32
  | 99 => 9#32
  | 100 => 9#32
  | 101 => 9#32
  | 102 => 11#32
  | 103 => 7#32
  | 104 => 11#32
  | 105 => 9#32
  | 106 => 11#32
  | 107 => 7#32
  | 108 => 7#32
  | 109 => 7#32
  | 110 => 9#32
  | 111 => 11#32
  | 112 => 11#32
  | 113 => 9#32
  | 114 => 7#32
  | 115 => 11#32
  | 116 => 11#32
  | 117 => 7#32
  | 118 => 11#32
  | 119 => 7#32
  | 120 => 11#32
  | 121 => 9#32
  | 122 => 9#32
  | 123 => 7#32
  | 124 => 7#32
  | 125 => 7#32
  | 126 => 9#32
  | 127 => 7#32
  | _ => 0#32

noncomputable abbrev lit0t0_73 (i : Nat) : BitVec 32 := match i % 128 with
  | 0 => 7#32
  | 1 => 9#32
  | 2 => 9#32
  | 3 => 7#32
  | 4 => 9#32
  | 5 => 11#32
  | 6 => 9#32
  | 7 => 7#32
  | 8 => 11#32
  | 9 => 9#32
  | 10 => 7#32
  | 11 => 9#32
  | 12 => 9#32
  | 13 => 7#32
  | 14 => 7#32
  | 15 => 11#32
  | 16 => 9#32
  | 17 => 11#32
  | 18 => 11#32
  | 19 => 7#32
  | 20 => 7#32
  | 21 => 7#32
  | 22 => 11#32
  | 23 => 7#32
  | 24 => 7#32
  | 25 => 7#32
  | 26 => 7#32
  | 27 => 11#32
  | 28 => 11#32
  | 29 => 7#32
  | 30 => 9#32
  | 31 => 9#32
  | 32 => 9#32
  | 33 => 7#32
  | 34 => 7#32
  | 35 => 7#32
  | 36 => 7#32
  | 37 => 9#32
  | 38 => 9#32
  | 39 => 11#32
  | 40 => 9#32
  | 41 => 11#32
  | 42 => 11#32
  | 43 => 7#32
  | 44 => 7#32
  | 45 => 7#32
  | 46 => 7#32
  | 47 => 7#32
  | 48 => 7#32
  | 49 => 9#32
  | 50 => 7#32
  | 51 => 11#32
  | 52 => 9#32
  | 53 => 11#32
  | 54 => 7#32
  | 55 => 7#32
  | 56 => 11#32
  | 57 => 9#32
  | 58 => 11#32
  | 59 => 9#32
  | 60 => 9#32
  | 61 => 9#32
  | 62 => 7#32
  | 63 => 9#32
  | 64 => 9#32
  | 65 => 11#32
  | 66 => 9#32
  | 67 => 7#32
  | 68 => 11#32
  | 69 => 11#32
  | 70 => 7#32
  | 71 => 9#32
  | 72 => 9#32
  | 73 => 11#32
  | 74 => 11#32
  | 75 => 9#32
  | 76 => 7#32
  | 77 => 7#32
  | 78 => 9#32
  | 79 => 7#32
  | 80 => 11#32
  | 81 => 7#32
  | 82 => 9#32
  | 83 => 9#32
  | 84 => 7#32
  | 85 => 9#32
  | 86 => 7#32
  | 87 => 9#32
  | 88 => 11#32
  | 89 => 9#32
  | 90 => 11#32
  | 91 => 11#32
  | 92 => 9#32
  | 93 => 11#32
  | 94 => 7#32
  | 95 => 11#32
  | 96 => 9#32
  | 97 => 9#32
  | 98 => 9#32
  | 99 => 11#32
  | 100 => 9#32
  | 101 => 11#32
  | 102 => 11#32
  | 103 => 7#32
  | 104 => 7#32
  | 105 => 9#32
  | 106 => 11#32
  | 107 => 7#32
  | 108 => 11#32
  | 109 => 11#32
  | 110 => 11#32
  | 111 => 7#32
  | 112 => 9#32
  | 113 => 11#32
  | 114 => 9#32
  | 115 => 9#32
  | 116 => 9#32
  | 117 => 7#32
  | 118 => 11#32
  | 119 => 9#32
  | 120 => 7#32
  | 121 => 11#32
  | 122 => 9#32
  | 123 => 9#32
  | 124 => 9#32
  | 125 => 9#32
  | 126 => 9#32
  | 127 => 7#32
  | _ => 0#32

noncomputable abbrev lit0t0_74 (i : Nat) : BitVec 32 := match i % 128 with
  | 0 => 11#32
  | 1 => 11#32
  | 2 => 11#32
  | 3 => 11#32
  | 4 => 9#32
  | 5 => 11#32
  | 6 => 9#32
  | 7 => 7#32
  | 8 => 9#32
  | 9 => 11#32
  | 10 => 7#32
  | 11 => 7#32
  | 12 => 7#32
  | 13 => 9#32
  | 14 => 11#32
  | 15 => 7#32
  | 16 => 9#32
  | 17 => 9#32
  | 18 => 9#32
  | 19 => 11#32
  | 20 => 11#32
  | 21 => 11#32
  | 22 => 7#32
  | 23 => 11#32
  | 24 => 11#32
  | 25 => 11#32
  | 26 => 9#32
  | 27 => 7#32
  | 28 => 11#32
  | 29 => 11#32
  | 30 => 11#32
  | 31 => 7#32
  | 32 => 7#32
  | 33 => 7#32
  | 34 => 9#32
  | 35 => 11#32
  | 36 => 9#32
  | 37 => 11#32
  | 38 => 9#32
  | 39 => 11#32
  | 40 => 9#32
  | 41 => 7#32
  | 42 => 9#32
  | 43 => 11#32
  | 44 => 11#32
  | 45 => 9#32
  | 46 => 11#32
  | 47 => 7#32
  | 48 => 7#32
  | 49 => 11#32
  | 50 => 7#32
  | 51 => 9#32
  | 52 => 11#32
  | 53 => 7#32
  | 54 => 11#32
  | 55 => 9#32
  | 56 => 7#32
  | 57 => 11#32
  | 58 => 9#32
  | 59 => 9#32
  | 60 => 7#32
  | 61 => 11#32
  | 62 => 11#32
  | 63 => 9#32
  | 64 => 9#32
  | 65 => 11#32
  | 66 => 11#32
  | 67 => 7#32
  | 68 => 11#32
  | 69 => 9#32
  | 70 => 7#32
  | 71 => 9#32
  | 72 => 7#32
  | 73 => 7#32
  | 74 => 9#32
  | 75 => 11#32
  | 76 => 9#32
  | 77 => 11#32
  | 78 => 11#32
  | 79 => 7#32
  | 80 => 9#32
  | 81 => 9#32
  | 82 => 11#32
  | 83 => 11#32
  | 84 => 11#32
  | 85 => 11#32
  | 86 => 11#32
  | 87 => 9#32
  | 88 => 9#32
  | 89 => 9#32
  | 90 => 11#32
  | 91 => 9#32
  | 92 => 11#32
  | 93 => 11#32
  | 94 => 9#32
  | 95 => 9#32
  | 96 => 11#32
  | 97 => 11#32
  | 98 => 11#32
  | 99 => 9#32
  | 100 => 7#32
  | 101 => 7#32
  | 102 => 11#32
  | 103 => 7#32
  | 104 => 9#32
  | 105 => 7#32
  | 106 => 7#32
  | 107 => 7#32
  | 108 => 11#32
  | 109 => 7#32
  | 110 => 9#32
  | 111 => 11#32
  | 112 => 7#32
  | 113 => 11#32
  | 114 => 9#32
  | 115 => 7#32
  | 116 => 7#32
  | 117 => 7#32
  | 118 => 9#32
  | 119 => 9#32
  | 120 => 7#32
  | 121 => 9#32
  | 122 => 11#32
  | 123 => 11#32
  | 124 => 9#32
  | 125 => 9#32
  | 126 => 7#32
  | 127 => 11#32
  | _ => 0#32

noncomputable abbrev lit0t0_75 (i : Nat) : BitVec 32 := match i % 128 with
  | 0 => 11#32
  | 1 => 11#32
  | 2 => 9#32
  | 3 => 9#32
  | 4 => 11#32
  | 5 => 11#32
  | 6 => 11#32
  | 7 => 9#32
  | 8 => 11#32
  | 9 => 11#32
  | 10 => 7#32
  | 11 => 11#32
  | 12 => 11#32
  | 13 => 7#32
  | 14 => 11#32
  | 15 => 7#32
  | 16 => 11#32
  | 17 => 7#32
  | 18 => 7#32
  | 19 => 7#32
  | 20 => 9#32
  | 21 => 9#32
  | 22 => 11#32
  | 23 => 7#32
  | 24 => 7#32
  | 25 => 11#32
  | 26 => 7#32
  | 27 => 9#32
  | 28 => 7#32
  | 29 => 9#32
  | 30 => 9#32
  | 31 => 11#32
  | 32 => 9#32
  | 33 => 11#32
  | 34 => 11#32
  | 35 => 7#32
  | 36 => 11#32
  | 37 => 7#32
  | 38 => 9#32
  | 39 => 9#32
  | 40 => 11#32
  | 41 => 11#32
  | 42 => 11#32
  | 43 => 11#32
  | 44 => 7#32
  | 45 => 7#32
  | 46 => 11#32
  | 47 => 11#32
  | 48 => 11#32
  | 49 => 11#32
  | 50 => 9#32
  | 51 => 9#32
  | 52 => 7#32
  | 53 => 11#32
  | 54 => 7#32
  | 55 => 9#32
  | 56 => 11#32
  | 57 => 7#32
  | 58 => 9#32
  | 59 => 11#32
  | 60 => 9#32
  | 61 => 7#32
  | 62 => 11#32
  | 63 => 7#32
  | 64 => 11#32
  | 65 => 11#32
  | 66 => 11#32
  | 67 => 7#32
  | 68 => 9#32
  | 69 => 7#32
  | 70 => 9#32
  | 71 => 9#32
  | 72 => 11#32
  | 73 => 9#32
  | 74 => 11#32
  | 75 => 11#32
  | 76 => 9#32
  | 77 => 7#32
  | 78 => 11#32
  | 79 => 11#32
  | 80 => 11#32
  | 81 => 11#32
  | 82 => 9#32
  | 83 => 9#32
  | 84 => 9#32
  | 85 => 7#32
  | 86 => 11#32
  | 87 => 9#32
  | 88 => 11#32
  | 89 => 7#32
  | 90 => 7#32
  | 91 => 9#32
  | 92 => 9#32
  | 93 => 11#32
  | 94 => 9#32
  | 95 => 7#32
  | 96 => 9#32
  | 97 => 11#32
  | 98 => 7#32
  | 99 => 9#32
  | 100 => 9#32
  | 101 => 11#32
  | 102 => 7#32
  | 103 => 9#32
  | 104 => 7#32
  | 105 => 7#32
  | 106 => 9#32
  | 107 => 11#32
  | 108 => 9#32
  | 109 => 11#32
  | 110 => 9#32
  | 111 => 9#32
  | 112 => 11#32
  | 113 => 11#32
  | 114 => 9#32
  | 115 => 11#32
  | 116 => 11#32
  | 117 => 9#32
  | 118 => 9#32
  | 119 => 9#32
  | 120 => 11#32
  | 121 => 9#32
  | 122 => 9#32
  | 123 => 9#32
  | 124 => 11#32
  | 125 => 7#32
  | 126 => 9#32
  | 127 => 7#32
  | _ => 0#32

noncomputable abbrev lit0t0_76 (i : Nat) : BitVec 32 := match i % 128 with
  | 0 => 9#32
  | 1 => 9#32
  | 2 => 9#32
  | 3 => 7#32
  | 4 => 7#32
  | 5 => 9#32
  | 6 => 9#32
  | 7 => 11#32
  | 8 => 9#32
  | 9 => 7#32
  | 10 => 9#32
  | 11 => 11#32
  | 12 => 9#32
  | 13 => 11#32
  | 14 => 7#32
  | 15 => 7#32
  | 16 => 9#32
  | 17 => 7#32
  | 18 => 7#32
  | 19 => 7#32
  | 20 => 9#32
  | 21 => 9#32
  | 22 => 7#32
  | 23 => 9#32
  | 24 => 11#32
  | 25 => 11#32
  | 26 => 7#32
  | 27 => 7#32
  | 28 => 9#32
  | 29 => 11#32
  | 30 => 7#32
  | 31 => 9#32
  | 32 => 9#32
  | 33 => 11#32
  | 34 => 11#32
  | 35 => 11#32
  | 36 => 11#32
  | 37 => 9#32
  | 38 => 11#32
  | 39 => 9#32
  | 40 => 11#32
  | 41 => 9#32
  | 42 => 7#32
  | 43 => 7#32
  | 44 => 9#32
  | 45 => 11#32
  | 46 => 7#32
  | 47 => 9#32
  | 48 => 7#32
  | 49 => 7#32
  | 50 => 7#32
  | 51 => 7#32
  | 52 => 7#32
  | 53 => 7#32
  | 54 => 9#32
  | 55 => 7#32
  | 56 => 11#32
  | 57 => 11#32
  | 58 => 9#32
  | 59 => 9#32
  | 60 => 7#32
  | 61 => 9#32
  | 62 => 9#32
  | 63 => 9#32
  | 64 => 11#32
  | 65 => 11#32
  | 66 => 7#32
  | 67 => 9#32
  | 68 => 7#32
  | 69 => 11#32
  | 70 => 9#32
  | 71 => 9#32
  | 72 => 9#32
  | 73 => 7#32
  | 74 => 11#32
  | 75 => 11#32
  | 76 => 9#32
  | 77 => 11#32
  | 78 => 9#32
  | 79 => 7#32
  | 80 => 9#32
  | 81 => 9#32
  | 82 => 11#32
  | 83 => 9#32
  | 84 => 7#32
  | 85 => 7#32
  | 86 => 9#32
  | 87 => 9#32
  | 88 => 9#32
  | 89 => 11#32
  | 90 => 9#32
  | 91 => 11#32
  | 92 => 7#32
  | 93 => 11#32
  | 94 => 7#32
  | 95 => 11#32
  | 96 => 9#32
  | 97 => 11#32
  | 98 => 9#32
  | 99 => 11#32
  | 100 => 11#32
  | 101 => 11#32
  | 102 => 7#32
  | 103 => 7#32
  | 104 => 9#32
  | 105 => 9#32
  | 106 => 7#32
  | 107 => 7#32
  | 108 => 9#32
  | 109 => 9#32
  | 110 => 7#32
  | 111 => 7#32
  | 112 => 9#32
  | 113 => 7#32
  | 114 => 11#32
  | 115 => 9#32
  | 116 => 7#32
  | 117 => 9#32
  | 118 => 11#32
  | 119 => 11#32
  | 120 => 11#32
  | 121 => 7#32
  | 122 => 7#32
  | 123 => 7#32
  | 124 => 11#32
  | 125 => 7#32
  | 126 => 9#32
  | 127 => 9#32
  | _ => 0#32

noncomputable abbrev lit0t0_77 (i : Nat) : BitVec 32 := match i % 128 with
  | 0 => 9#32
  | 1 => 7#32
  | 2 => 7#32
  | 3 => 7#32
  | 4 => 7#32
  | 5 => 11#32
  | 6 => 9#32
  | 7 => 9#32
  | 8 => 9#32
  | 9 => 7#32
  | 10 => 7#32
  | 11 => 9#32
  | 12 => 7#32
  | 13 => 7#32
  | 14 => 7#32
  | 15 => 7#32
  | 16 => 11#32
  | 17 => 11#32
  | 18 => 7#32
  | 19 => 11#32
  | 20 => 11#32
  | 21 => 11#32
  | 22 => 9#32
  | 23 => 9#32
  | 24 => 9#32
  | 25 => 7#32
  | 26 => 11#32
  | 27 => 7#32
  | 28 => 9#32
  | 29 => 9#32
  | 30 => 7#32
  | 31 => 7#32
  | 32 => 7#32
  | 33 => 7#32
  | 34 => 11#32
  | 35 => 9#32
  | 36 => 7#32
  | 37 => 7#32
  | 38 => 9#32
  | 39 => 7#32
  | 40 => 9#32
  | 41 => 7#32
  | 42 => 7#32
  | 43 => 11#32
  | 44 => 11#32
  | 45 => 9#32
  | 46 => 7#32
  | 47 => 7#32
  | 48 => 7#32
  | 49 => 7#32
  | 50 => 7#32
  | 51 => 11#32
  | 52 => 11#32
  | 53 => 7#32
  | 54 => 9#32
  | 55 => 9#32
  | 56 => 9#32
  | 57 => 7#32
  | 58 => 7#32
  | 59 => 9#32
  | 60 => 9#32
  | 61 => 11#32
  | 62 => 11#32
  | 63 => 9#32
  | 64 => 11#32
  | 65 => 9#32
  | 66 => 11#32
  | 67 => 7#32
  | 68 => 11#32
  | 69 => 7#32
  | 70 => 9#32
  | 71 => 9#32
  | 72 => 9#32
  | 73 => 11#32
  | 74 => 7#32
  | 75 => 11#32
  | 76 => 9#32
  | 77 => 9#32
  | 78 => 9#32
  | 79 => 11#32
  | 80 => 9#32
  | 81 => 9#32
  | 82 => 9#32
  | 83 => 11#32
  | 84 => 7#32
  | 85 => 9#32
  | 86 => 11#32
  | 87 => 7#32
  | 88 => 7#32
  | 89 => 9#32
  | 90 => 9#32
  | 91 => 11#32
  | 92 => 9#32
  | 93 => 9#32
  | 94 => 9#32
  | 95 => 11#32
  | 96 => 7#32
  | 97 => 9#32
  | 98 => 7#32
  | 99 => 7#32
  | 100 => 7#32
  | 101 => 7#32
  | 102 => 9#32
  | 103 => 7#32
  | 104 => 11#32
  | 105 => 9#32
  | 106 => 11#32
  | 107 => 7#32
  | 108 => 11#32
  | 109 => 9#32
  | 110 => 7#32
  | 111 => 11#32
  | 112 => 11#32
  | 113 => 7#32
  | 114 => 11#32
  | 115 => 9#32
  | 116 => 11#32
  | 117 => 7#32
  | 118 => 9#32
  | 119 => 9#32
  | 120 => 7#32
  | 121 => 7#32
  | 122 => 9#32
  | 123 => 11#32
  | 124 => 9#32
  | 125 => 11#32
  | 126 => 7#32
  | 127 => 11#32
  | _ => 0#32

noncomputable abbrev lit0t0_78 (i : Nat) : BitVec 32 := match i % 128 with
  | 0 => 9#32
  | 1 => 7#32
  | 2 => 7#32
  | 3 => 9#32
  | 4 => 11#32
  | 5 => 7#32
  | 6 => 9#32
  | 7 => 11#32
  | 8 => 7#32
  | 9 => 9#32
  | 10 => 11#32
  | 11 => 11#32
  | 12 => 11#32
  | 13 => 7#32
  | 14 => 11#32
  | 15 => 11#32
  | _ => 0#32

noncomputable abbrev lit0t (i : Nat) : BitVec 32 := match i / 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | 32 => lit0t0_32 i
  | 33 => lit0t0_33 i
  | 34 => lit0t0_34 i
  | 35 => lit0t0_35 i
  | 36 => lit0t0_36 i
  | 37 => lit0t0_37 i
  | 38 => lit0t0_38 i
  | 39 => lit0t0_39 i
  | 40 => lit0t0_40 i
  | 41 => lit0t0_41 i
  | 42 => lit0t0_42 i
  | 43 => lit0t0_43 i
  | 44 => lit0t0_44 i
  | 45 => lit0t0_45 i
  | 46 => lit0t0_46 i
  | 47 => lit0t0_47 i
  | 48 => lit0t0_48 i
  | 49 => lit0t0_49 i
  | 50 => lit0t0_50 i
  | 51 => lit0t0_51 i
  | 52 => lit0t0_52 i
  | 53 => lit0t0_53 i
  | 54 => lit0t0_54 i
  | 55 => lit0t0_55 i
  | 56 => lit0t0_56 i
  | 57 => lit0t0_57 i
  | 58 => lit0t0_58 i
  | 59 => lit0t0_59 i
  | 60 => lit0t0_60 i
  | 61 => lit0t0_61 i
  | 62 => lit0t0_62 i
  | 63 => lit0t0_63 i
  | 64 => lit0t0_64 i
  | 65 => lit0t0_65 i
  | 66 => lit0t0_66 i
  | 67 => lit0t0_67 i
  | 68 => lit0t0_68 i
  | 69 => lit0t0_69 i
  | 70 => lit0t0_70 i
  | 71 => lit0t0_71 i
  | 72 => lit0t0_72 i
  | 73 => lit0t0_73 i
  | 74 => lit0t0_74 i
  | 75 => lit0t0_75 i
  | 76 => lit0t0_76 i
  | 77 => lit0t0_77 i
  | 78 => lit0t0_78 i
  | _ => 0#32

noncomputable abbrev lit0 : Fin 10000 → BitVec 32 := fun ⟨i, _⟩ => lit0t i

noncomputable abbrev lit1t0_0 (i : Nat) : BitVec 32 := match i % 128 with
  | 0 => 11#32
  | 1 => 9#32
  | 2 => 9#32
  | 3 => 7#32
  | 4 => 7#32
  | 5 => 7#32
  | 6 => 7#32
  | 7 => 7#32
  | 8 => 7#32
  | 9 => 11#32
  | 10 => 9#32
  | 11 => 11#32
  | 12 => 9#32
  | 13 => 9#32
  | 14 => 11#32
  | 15 => 11#32
  | 16 => 9#32
  | 17 => 9#32
  | 18 => 9#32
  | 19 => 11#32
  | 20 => 7#32
  | 21 => 11#32
  | 22 => 11#32
  | 23 => 7#32
  | 24 => 9#32
  | 25 => 11#32
  | 26 => 9#32
  | 27 => 7#32
  | 28 => 11#32
  | 29 => 11#32
  | 30 => 11#32
  | 31 => 7#32
  | 32 => 7#32
  | 33 => 11#32
  | 34 => 7#32
  | 35 => 9#32
  | 36 => 7#32
  | 37 => 7#32
  | 38 => 9#32
  | 39 => 9#32
  | 40 => 9#32
  | 41 => 7#32
  | 42 => 7#32
  | 43 => 7#32
  | 44 => 7#32
  | 45 => 11#32
  | 46 => 9#32
  | 47 => 9#32
  | 48 => 7#32
  | 49 => 9#32
  | 50 => 11#32
  | 51 => 9#32
  | 52 => 9#32
  | 53 => 11#32
  | 54 => 11#32
  | 55 => 11#32
  | 56 => 9#32
  | 57 => 11#32
  | 58 => 11#32
  | 59 => 9#32
  | 60 => 11#32
  | 61 => 11#32
  | 62 => 11#32
  | 63 => 9#32
  | 64 => 11#32
  | 65 => 7#32
  | 66 => 9#32
  | 67 => 11#32
  | 68 => 11#32
  | 69 => 9#32
  | 70 => 9#32
  | 71 => 7#32
  | 72 => 9#32
  | 73 => 9#32
  | 74 => 11#32
  | 75 => 11#32
  | 76 => 7#32
  | 77 => 11#32
  | 78 => 9#32
  | 79 => 9#32
  | 80 => 11#32
  | 81 => 9#32
  | 82 => 7#32
  | 83 => 7#32
  | 84 => 11#32
  | 85 => 9#32
  | 86 => 9#32
  | 87 => 9#32
  | 88 => 11#32
  | 89 => 9#32
  | 90 => 7#32
  | 91 => 11#32
  | 92 => 7#32
  | 93 => 7#32
  | 94 => 11#32
  | 95 => 9#32
  | 96 => 7#32
  | 97 => 7#32
  | 98 => 9#32
  | 99 => 11#32
  | 100 => 9#32
  | 101 => 11#32
  | 102 => 7#32
  | 103 => 7#32
  | 104 => 11#32
  | 105 => 11#32
  | 106 => 7#32
  | 107 => 7#32
  | 108 => 11#32
  | 109 => 9#32
  | 110 => 9#32
  | 111 => 7#32
  | 112 => 11#32
  | 113 => 9#32
  | 114 => 11#32
  | 115 => 11#32
  | 116 => 11#32
  | 117 => 7#32
  | 118 => 11#32
  | 119 => 7#32
  | 120 => 9#32
  | 121 => 9#32
  | 122 => 11#32
  | 123 => 7#32
  | 124 => 11#32
  | 125 => 7#32
  | 126 => 9#32
  | 127 => 9#32
  | _ => 0#32

noncomputable abbrev lit1t0_1 (i : Nat) : BitVec 32 := match i % 128 with
  | 0 => 11#32
  | 1 => 7#32
  | 2 => 11#32
  | 3 => 11#32
  | 4 => 11#32
  | 5 => 7#32
  | 6 => 11#32
  | 7 => 11#32
  | 8 => 7#32
  | 9 => 9#32
  | 10 => 9#32
  | 11 => 7#32
  | 12 => 9#32
  | 13 => 9#32
  | 14 => 11#32
  | 15 => 11#32
  | 16 => 9#32
  | 17 => 9#32
  | 18 => 9#32
  | 19 => 11#32
  | 20 => 7#32
  | 21 => 9#32
  | 22 => 7#32
  | 23 => 9#32
  | 24 => 11#32
  | 25 => 9#32
  | 26 => 9#32
  | 27 => 11#32
  | 28 => 9#32
  | 29 => 11#32
  | 30 => 7#32
  | 31 => 9#32
  | 32 => 11#32
  | 33 => 11#32
  | 34 => 9#32
  | 35 => 9#32
  | 36 => 9#32
  | 37 => 9#32
  | 38 => 7#32
  | 39 => 11#32
  | 40 => 7#32
  | 41 => 9#32
  | 42 => 7#32
  | 43 => 11#32
  | 44 => 11#32
  | 45 => 11#32
  | 46 => 11#32
  | 47 => 11#32
  | 48 => 7#32
  | 49 => 7#32
  | 50 => 7#32
  | 51 => 11#32
  | 52 => 11#32
  | 53 => 11#32
  | 54 => 11#32
  | 55 => 11#32
  | 56 => 11#32
  | 57 => 7#32
  | 58 => 7#32
  | 59 => 11#32
  | 60 => 7#32
  | 61 => 11#32
  | 62 => 11#32
  | 63 => 11#32
  | 64 => 9#32
  | 65 => 7#32
  | 66 => 9#32
  | 67 => 11#32
  | 68 => 9#32
  | 69 => 11#32
  | 70 => 9#32
  | 71 => 11#32
  | 72 => 7#32
  | 73 => 9#32
  | 74 => 7#32
  | 75 => 7#32
  | 76 => 11#32
  | 77 => 11#32
  | 78 => 7#32
  | 79 => 11#32
  | 80 => 11#32
  | 81 => 7#32
  | 82 => 9#32
  | 83 => 9#32
  | 84 => 9#32
  | 85 => 9#32
  | 86 => 7#32
  | 87 => 11#32
  | 88 => 11#32
  | 89 => 7#32
  | 90 => 11#32
  | 91 => 11#32
  | 92 => 7#32
  | 93 => 9#32
  | 94 => 9#32
  | 95 => 7#32
  | 96 => 11#32
  | 97 => 11#32
  | 98 => 7#32
  | 99 => 7#32
  | 100 => 7#32
  | 101 => 11#32
  | 102 => 7#32
  | 103 => 9#32
  | 104 => 11#32
  | 105 => 11#32
  | 106 => 7#32
  | 107 => 7#32
  | 108 => 9#32
  | 109 => 11#32
  | 110 => 9#32
  | 111 => 7#32
  | 112 => 9#32
  | 113 => 9#32
  | 114 => 7#32
  | 115 => 9#32
  | 116 => 11#32
  | 117 => 11#32
  | 118 => 7#32
  | 119 => 9#32
  | 120 => 11#32
  | 121 => 7#32
  | 122 => 7#32
  | 123 => 7#32
  | 124 => 7#32
  | 125 => 11#32
  | 126 => 7#32
  | 127 => 7#32
  | _ => 0#32

noncomputable abbrev lit1t0_2 (i : Nat) : BitVec 32 := match i % 128 with
  | 0 => 7#32
  | 1 => 7#32
  | 2 => 11#32
  | 3 => 7#32
  | 4 => 11#32
  | 5 => 9#32
  | 6 => 11#32
  | 7 => 9#32
  | 8 => 11#32
  | 9 => 11#32
  | 10 => 7#32
  | 11 => 9#32
  | 12 => 9#32
  | 13 => 7#32
  | 14 => 9#32
  | 15 => 9#32
  | 16 => 9#32
  | 17 => 11#32
  | 18 => 11#32
  | 19 => 9#32
  | 20 => 11#32
  | 21 => 11#32
  | 22 => 9#32
  | 23 => 9#32
  | 24 => 7#32
  | 25 => 9#32
  | 26 => 7#32
  | 27 => 9#32
  | 28 => 7#32
  | 29 => 11#32
  | 30 => 11#32
  | 31 => 7#32
  | 32 => 11#32
  | 33 => 9#32
  | 34 => 7#32
  | 35 => 11#32
  | 36 => 11#32
  | 37 => 7#32
  | 38 => 9#32
  | 39 => 11#32
  | 40 => 11#32
  | 41 => 9#32
  | 42 => 11#32
  | 43 => 11#32
  | 44 => 7#32
  | 45 => 7#32
  | 46 => 7#32
  | 47 => 9#32
  | 48 => 7#32
  | 49 => 7#32
  | 50 => 7#32
  | 51 => 9#32
  | 52 => 9#32
  | 53 => 7#32
  | 54 => 11#32
  | 55 => 11#32
  | 56 => 9#32
  | 57 => 11#32
  | 58 => 11#32
  | 59 => 7#32
  | 60 => 7#32
  | 61 => 11#32
  | 62 => 9#32
  | 63 => 7#32
  | 64 => 9#32
  | 65 => 9#32
  | 66 => 9#32
  | 67 => 9#32
  | 68 => 7#32
  | 69 => 9#32
  | 70 => 9#32
  | 71 => 11#32
  | 72 => 11#32
  | 73 => 11#32
  | 74 => 7#32
  | 75 => 7#32
  | 76 => 11#32
  | 77 => 7#32
  | 78 => 9#32
  | 79 => 11#32
  | 80 => 9#32
  | 81 => 11#32
  | 82 => 7#32
  | 83 => 9#32
  | 84 => 9#32
  | 85 => 9#32
  | 86 => 9#32
  | 87 => 11#32
  | 88 => 11#32
  | 89 => 7#32
  | 90 => 7#32
  | 91 => 7#32
  | 92 => 7#32
  | 93 => 11#32
  | 94 => 7#32
  | 95 => 11#32
  | 96 => 7#32
  | 97 => 11#32
  | 98 => 9#32
  | 99 => 11#32
  | 100 => 9#32
  | 101 => 11#32
  | 102 => 11#32
  | 103 => 11#32
  | 104 => 9#32
  | 105 => 11#32
  | 106 => 11#32
  | 107 => 7#32
  | 108 => 9#32
  | 109 => 7#32
  | 110 => 7#32
  | 111 => 11#32
  | 112 => 7#32
  | 113 => 11#32
  | 114 => 11#32
  | 115 => 7#32
  | 116 => 11#32
  | 117 => 9#32
  | 118 => 11#32
  | 119 => 11#32
  | 120 => 9#32
  | 121 => 9#32
  | 122 => 11#32
  | 123 => 9#32
  | 124 => 11#32
  | 125 => 7#32
  | 126 => 11#32
  | 127 => 9#32
  | _ => 0#32

noncomputable abbrev lit1t0_3 (i : Nat) : BitVec 32 := match i % 128 with
  | 0 => 11#32
  | 1 => 9#32
  | 2 => 7#32
  | 3 => 7#32
  | 4 => 9#32
  | 5 => 11#32
  | 6 => 7#32
  | 7 => 9#32
  | 8 => 9#32
  | 9 => 7#32
  | 10 => 9#32
  | 11 => 11#32
  | 12 => 11#32
  | 13 => 11#32
  | 14 => 9#32
  | 15 => 9#32
  | 16 => 11#32
  | 17 => 7#32
  | 18 => 11#32
  | 19 => 7#32
  | 20 => 9#32
  | 21 => 11#32
  | 22 => 9#32
  | 23 => 7#32
  | 24 => 9#32
  | 25 => 9#32
  | 26 => 11#32
  | 27 => 9#32
  | 28 => 11#32
  | 29 => 11#32
  | 30 => 7#32
  | 31 => 7#32
  | 32 => 9#32
  | 33 => 9#32
  | 34 => 9#32
  | 35 => 11#32
  | 36 => 7#32
  | 37 => 7#32
  | 38 => 11#32
  | 39 => 9#32
  | 40 => 11#32
  | 41 => 7#32
  | 42 => 11#32
  | 43 => 11#32
  | 44 => 7#32
  | 45 => 7#32
  | 46 => 7#32
  | 47 => 9#32
  | 48 => 11#32
  | 49 => 11#32
  | 50 => 7#32
  | 51 => 9#32
  | 52 => 9#32
  | 53 => 11#32
  | 54 => 7#32
  | 55 => 11#32
  | 56 => 11#32
  | 57 => 11#32
  | 58 => 7#32
  | 59 => 7#32
  | 60 => 9#32
  | 61 => 7#32
  | 62 => 7#32
  | 63 => 7#32
  | 64 => 7#32
  | 65 => 11#32
  | 66 => 11#32
  | 67 => 9#32
  | 68 => 11#32
  | 69 => 9#32
  | 70 => 7#32
  | 71 => 7#32
  | 72 => 7#32
  | 73 => 11#32
  | 74 => 9#32
  | 75 => 7#32
  | 76 => 7#32
  | 77 => 11#32
  | 78 => 7#32
  | 79 => 9#32
  | 80 => 11#32
  | 81 => 9#32
  | 82 => 11#32
  | 83 => 11#32
  | 84 => 7#32
  | 85 => 7#32
  | 86 => 7#32
  | 87 => 9#32
  | 88 => 7#32
  | 89 => 7#32
  | 90 => 11#32
  | 91 => 11#32
  | 92 => 11#32
  | 93 => 9#32
  | 94 => 9#32
  | 95 => 11#32
  | 96 => 9#32
  | 97 => 7#32
  | 98 => 7#32
  | 99 => 11#32
  | 100 => 7#32
  | 101 => 11#32
  | 102 => 9#32
  | 103 => 9#32
  | 104 => 11#32
  | 105 => 11#32
  | 106 => 9#32
  | 107 => 9#32
  | 108 => 11#32
  | 109 => 9#32
  | 110 => 9#32
  | 111 => 11#32
  | 112 => 11#32
  | 113 => 7#32
  | 114 => 9#32
  | 115 => 11#32
  | 116 => 7#32
  | 117 => 9#32
  | 118 => 9#32
  | 119 => 7#32
  | 120 => 11#32
  | 121 => 11#32
  | 122 => 9#32
  | 123 => 11#32
  | 124 => 7#32
  | 125 => 9#32
  | 126 => 7#32
  | 127 => 9#32
  | _ => 0#32

noncomputable abbrev lit1t0_4 (i : Nat) : BitVec 32 := match i % 128 with
  | 0 => 7#32
  | 1 => 11#32
  | 2 => 11#32
  | 3 => 7#32
  | 4 => 11#32
  | 5 => 11#32
  | 6 => 7#32
  | 7 => 11#32
  | 8 => 11#32
  | 9 => 11#32
  | 10 => 11#32
  | 11 => 7#32
  | 12 => 9#32
  | 13 => 11#32
  | 14 => 11#32
  | 15 => 7#32
  | 16 => 9#32
  | 17 => 9#32
  | 18 => 11#32
  | 19 => 9#32
  | 20 => 9#32
  | 21 => 9#32
  | 22 => 9#32
  | 23 => 7#32
  | 24 => 11#32
  | 25 => 9#32
  | 26 => 7#32
  | 27 => 7#32
  | 28 => 9#32
  | 29 => 11#32
  | 30 => 7#32
  | 31 => 11#32
  | 32 => 7#32
  | 33 => 7#32
  | 34 => 9#32
  | 35 => 11#32
  | 36 => 7#32
  | 37 => 11#32
  | 38 => 7#32
  | 39 => 11#32
  | 40 => 7#32
  | 41 => 11#32
  | 42 => 7#32
  | 43 => 9#32
  | 44 => 7#32
  | 45 => 11#32
  | 46 => 9#32
  | 47 => 11#32
  | 48 => 9#32
  | 49 => 9#32
  | 50 => 9#32
  | 51 => 11#32
  | 52 => 9#32
  | 53 => 11#32
  | 54 => 7#32
  | 55 => 9#32
  | 56 => 7#32
  | 57 => 11#32
  | 58 => 7#32
  | 59 => 11#32
  | 60 => 11#32
  | 61 => 7#32
  | 62 => 7#32
  | 63 => 11#32
  | 64 => 9#32
  | 65 => 9#32
  | 66 => 11#32
  | 67 => 7#32
  | 68 => 7#32
  | 69 => 9#32
  | 70 => 11#32
  | 71 => 7#32
  | 72 => 9#32
  | 73 => 9#32
  | 74 => 7#32
  | 75 => 9#32
  | 76 => 9#32
  | 77 => 9#32
  | 78 => 7#32
  | 79 => 9#32
  | 80 => 11#32
  | 81 => 7#32
  | 82 => 7#32
  | 83 => 11#32
  | 84 => 7#32
  | 85 => 11#32
  | 86 => 9#32
  | 87 => 11#32
  | 88 => 9#32
  | 89 => 11#32
  | 90 => 9#32
  | 91 => 9#32
  | 92 => 9#32
  | 93 => 7#32
  | 94 => 7#32
  | 95 => 11#32
  | 96 => 9#32
  | 97 => 9#32
  | 98 => 7#32
  | 99 => 11#32
  | 100 => 11#32
  | 101 => 9#32
  | 102 => 7#32
  | 103 => 11#32
  | 104 => 9#32
  | 105 => 11#32
  | 106 => 7#32
  | 107 => 9#32
  | 108 => 11#32
  | 109 => 7#32
  | 110 => 7#32
  | 111 => 9#32
  | 112 => 11#32
  | 113 => 11#32
  | 114 => 11#32
  | 115 => 9#32
  | 116 => 9#32
  | 117 => 9#32
  | 118 => 11#32
  | 119 => 7#32
  | 120 => 7#32
  | 121 => 11#32
  | 122 => 7#32
  | 123 => 7#32
  | 124 => 11#32
  | 125 => 7#32
  | 126 => 11#32
  | 127 => 11#32
  | _ => 0#32

noncomputable abbrev lit1t0_5 (i : Nat) : BitVec 32 := match i % 128 with
  | 0 => 7#32
  | 1 => 9#32
  | 2 => 7#32
  | 3 => 9#32
  | 4 => 9#32
  | 5 => 11#32
  | 6 => 11#32
  | 7 => 7#32
  | 8 => 7#32
  | 9 => 11#32
  | 10 => 7#32
  | 11 => 7#32
  | 12 => 9#32
  | 13 => 7#32
  | 14 => 11#32
  | 15 => 11#32
  | 16 => 7#32
  | 17 => 9#32
  | 18 => 9#32
  | 19 => 7#32
  | 20 => 9#32
  | 21 => 11#32
  | 22 => 9#32
  | 23 => 7#32
  | 24 => 7#32
  | 25 => 9#32
  | 26 => 9#32
  | 27 => 7#32
  | 28 => 9#32
  | 29 => 7#32
  | 30 => 9#32
  | 31 => 11#32
  | 32 => 7#32
  | 33 => 11#32
  | 34 => 7#32
  | 35 => 9#32
  | 36 => 11#32
  | 37 => 7#32
  | 38 => 11#32
  | 39 => 9#32
  | 40 => 9#32
  | 41 => 7#32
  | 42 => 7#32
  | 43 => 11#32
  | 44 => 9#32
  | 45 => 11#32
  | 46 => 11#32
  | 47 => 9#32
  | 48 => 11#32
  | 49 => 9#32
  | 50 => 7#32
  | 51 => 7#32
  | 52 => 9#32
  | 53 => 7#32
  | 54 => 7#32
  | 55 => 9#32
  | 56 => 9#32
  | 57 => 9#32
  | 58 => 9#32
  | 59 => 11#32
  | 60 => 11#32
  | 61 => 11#32
  | 62 => 7#32
  | 63 => 7#32
  | 64 => 9#32
  | 65 => 9#32
  | 66 => 11#32
  | 67 => 11#32
  | 68 => 11#32
  | 69 => 7#32
  | 70 => 7#32
  | 71 => 7#32
  | 72 => 7#32
  | 73 => 11#32
  | 74 => 9#32
  | 75 => 11#32
  | 76 => 7#32
  | 77 => 9#32
  | 78 => 7#32
  | 79 => 7#32
  | 80 => 11#32
  | 81 => 11#32
  | 82 => 7#32
  | 83 => 9#32
  | 84 => 11#32
  | 85 => 9#32
  | 86 => 11#32
  | 87 => 7#32
  | 88 => 7#32
  | 89 => 7#32
  | 90 => 9#32
  | 91 => 7#32
  | 92 => 7#32
  | 93 => 9#32
  | 94 => 9#32
  | 95 => 7#32
  | 96 => 9#32
  | 97 => 11#32
  | 98 => 11#32
  | 99 => 7#32
  | 100 => 11#32
  | 101 => 9#32
  | 102 => 9#32
  | 103 => 9#32
  | 104 => 11#32
  | 105 => 7#32
  | 106 => 9#32
  | 107 => 11#32
  | 108 => 9#32
  | 109 => 9#32
  | 110 => 7#32
  | 111 => 11#32
  | 112 => 7#32
  | 113 => 7#32
  | 114 => 7#32
  | 115 => 9#32
  | 116 => 9#32
  | 117 => 9#32
  | 118 => 11#32
  | 119 => 9#32
  | 120 => 11#32
  | 121 => 7#32
  | 122 => 7#32
  | 123 => 7#32
  | 124 => 9#32
  | 125 => 11#32
  | 126 => 7#32
  | 127 => 7#32
  | _ => 0#32

noncomputable abbrev lit1t0_6 (i : Nat) : BitVec 32 := match i % 128 with
  | 0 => 9#32
  | 1 => 11#32
  | 2 => 7#32
  | 3 => 11#32
  | 4 => 11#32
  | 5 => 9#32
  | 6 => 7#32
  | 7 => 9#32
  | 8 => 11#32
  | 9 => 11#32
  | 10 => 7#32
  | 11 => 11#32
  | 12 => 9#32
  | 13 => 11#32
  | 14 => 11#32
  | 15 => 11#32
  | 16 => 11#32
  | 17 => 11#32
  | 18 => 9#32
  | 19 => 11#32
  | 20 => 9#32
  | 21 => 11#32
  | 22 => 7#32
  | 23 => 7#32
  | 24 => 9#32
  | 25 => 11#32
  | 26 => 11#32
  | 27 => 7#32
  | 28 => 11#32
  | 29 => 9#32
  | 30 => 11#32
  | 31 => 9#32
  | 32 => 11#32
  | 33 => 7#32
  | 34 => 9#32
  | 35 => 11#32
  | 36 => 11#32
  | 37 => 7#32
  | 38 => 7#32
  | 39 => 7#32
  | 40 => 11#32
  | 41 => 7#32
  | 42 => 9#32
  | 43 => 11#32
  | 44 => 11#32
  | 45 => 7#32
  | 46 => 9#32
  | 47 => 11#32
  | 48 => 9#32
  | 49 => 7#32
  | 50 => 11#32
  | 51 => 9#32
  | 52 => 11#32
  | 53 => 11#32
  | 54 => 9#32
  | 55 => 11#32
  | 56 => 11#32
  | 57 => 11#32
  | 58 => 9#32
  | 59 => 9#32
  | 60 => 11#32
  | 61 => 11#32
  | 62 => 9#32
  | 63 => 11#32
  | 64 => 7#32
  | 65 => 11#32
  | 66 => 7#32
  | 67 => 11#32
  | 68 => 9#32
  | 69 => 9#32
  | 70 => 7#32
  | 71 => 9#32
  | 72 => 7#32
  | 73 => 9#32
  | 74 => 11#32
  | 75 => 7#32
  | 76 => 7#32
  | 77 => 11#32
  | 78 => 7#32
  | 79 => 7#32
  | 80 => 7#32
  | 81 => 9#32
  | 82 => 9#32
  | 83 => 9#32
  | 84 => 7#32
  | 85 => 11#32
  | 86 => 7#32
  | 87 => 11#32
  | 88 => 11#32
  | 89 => 7#32
  | 90 => 7#32
  | 91 => 9#32
  | 92 => 7#32
  | 93 => 9#32
  | 94 => 9#32
  | 95 => 9#32
  | 96 => 11#32
  | 97 => 11#32
  | 98 => 7#32
  | 99 => 9#32
  | 100 => 11#32
  | 101 => 11#32
  | 102 => 11#32
  | 103 => 9#32
  | 104 => 9#32
  | 105 => 9#32
  | 106 => 9#32
  | 107 => 7#32
  | 108 => 9#32
  | 109 => 7#32
  | 110 => 9#32
  | 111 => 11#32
  | 112 => 11#32
  | 113 => 11#32
  | 114 => 7#32
  | 115 => 7#32
  | 116 => 9#32
  | 117 => 11#32
  | 118 => 7#32
  | 119 => 11#32
  | 120 => 7#32
  | 121 => 9#32
  | 122 => 7#32
  | 123 => 11#32
  | 124 => 11#32
  | 125 => 9#32
  | 126 => 11#32
  | 127 => 9#32
  | _ => 0#32

noncomputable abbrev lit1t0_7 (i : Nat) : BitVec 32 := match i % 128 with
  | 0 => 11#32
  | 1 => 7#32
  | 2 => 7#32
  | 3 => 7#32
  | 4 => 9#32
  | 5 => 11#32
  | 6 => 11#32
  | 7 => 11#32
  | 8 => 7#32
  | 9 => 11#32
  | 10 => 7#32
  | 11 => 9#32
  | 12 => 9#32
  | 13 => 9#32
  | 14 => 9#32
  | 15 => 9#32
  | 16 => 7#32
  | 17 => 11#32
  | 18 => 11#32
  | 19 => 9#32
  | 20 => 9#32
  | 21 => 7#32
  | 22 => 9#32
  | 23 => 11#32
  | 24 => 11#32
  | 25 => 11#32
  | 26 => 7#32
  | 27 => 7#32
  | 28 => 11#32
  | 29 => 7#32
  | 30 => 7#32
  | 31 => 9#32
  | 32 => 7#32
  | 33 => 11#32
  | 34 => 7#32
  | 35 => 9#32
  | 36 => 9#32
  | 37 => 7#32
  | 38 => 9#32
  | 39 => 7#32
  | 40 => 11#32
  | 41 => 9#32
  | 42 => 7#32
  | 43 => 11#32
  | 44 => 11#32
  | 45 => 7#32
  | 46 => 9#32
  | 47 => 7#32
  | 48 => 9#32
  | 49 => 9#32
  | 50 => 7#32
  | 51 => 7#32
  | 52 => 9#32
  | 53 => 7#32
  | 54 => 11#32
  | 55 => 11#32
  | 56 => 11#32
  | 57 => 11#32
  | 58 => 11#32
  | 59 => 9#32
  | 60 => 9#32
  | 61 => 7#32
  | 62 => 7#32
  | 63 => 7#32
  | 64 => 11#32
  | 65 => 9#32
  | 66 => 11#32
  | 67 => 9#32
  | 68 => 9#32
  | 69 => 9#32
  | 70 => 11#32
  | 71 => 9#32
  | 72 => 9#32
  | 73 => 9#32
  | 74 => 11#32
  | 75 => 11#32
  | 76 => 9#32
  | 77 => 9#32
  | 78 => 7#32
  | 79 => 9#32
  | 80 => 7#32
  | 81 => 9#32
  | 82 => 7#32
  | 83 => 9#32
  | 84 => 9#32
  | 85 => 9#32
  | 86 => 9#32
  | 87 => 7#32
  | 88 => 7#32
  | 89 => 9#32
  | 90 => 11#32
  | 91 => 9#32
  | 92 => 9#32
  | 93 => 9#32
  | 94 => 11#32
  | 95 => 9#32
  | 96 => 9#32
  | 97 => 9#32
  | 98 => 9#32
  | 99 => 11#32
  | 100 => 7#32
  | 101 => 9#32
  | 102 => 7#32
  | 103 => 11#32
  | 104 => 9#32
  | 105 => 7#32
  | 106 => 7#32
  | 107 => 11#32
  | 108 => 9#32
  | 109 => 11#32
  | 110 => 7#32
  | 111 => 7#32
  | 112 => 9#32
  | 113 => 7#32
  | 114 => 9#32
  | 115 => 9#32
  | 116 => 7#32
  | 117 => 7#32
  | 118 => 11#32
  | 119 => 11#32
  | 120 => 9#32
  | 121 => 11#32
  | 122 => 9#32
  | 123 => 11#32
  | 124 => 7#32
  | 125 => 9#32
  | 126 => 7#32
  | 127 => 9#32
  | _ => 0#32

noncomputable abbrev lit1t0_8 (i : Nat) : BitVec 32 := match i % 128 with
  | 0 => 11#32
  | 1 => 11#32
  | 2 => 7#32
  | 3 => 9#32
  | 4 => 7#32
  | 5 => 7#32
  | 6 => 9#32
  | 7 => 11#32
  | 8 => 11#32
  | 9 => 9#32
  | 10 => 7#32
  | 11 => 11#32
  | 12 => 9#32
  | 13 => 9#32
  | 14 => 9#32
  | 15 => 7#32
  | 16 => 11#32
  | 17 => 7#32
  | 18 => 9#32
  | 19 => 9#32
  | 20 => 7#32
  | 21 => 7#32
  | 22 => 9#32
  | 23 => 7#32
  | 24 => 9#32
  | 25 => 9#32
  | 26 => 7#32
  | 27 => 11#32
  | 28 => 7#32
  | 29 => 9#32
  | 30 => 7#32
  | 31 => 7#32
  | 32 => 9#32
  | 33 => 11#32
  | 34 => 9#32
  | 35 => 9#32
  | 36 => 7#32
  | 37 => 11#32
  | 38 => 11#32
  | 39 => 11#32
  | 40 => 7#32
  | 41 => 11#32
  | 42 => 9#32
  | 43 => 7#32
  | 44 => 11#32
  | 45 => 7#32
  | 46 => 9#32
  | 47 => 7#32
  | 48 => 7#32
  | 49 => 9#32
  | 50 => 9#32
  | 51 => 9#32
  | 52 => 7#32
  | 53 => 7#32
  | 54 => 7#32
  | 55 => 11#32
  | 56 => 7#32
  | 57 => 11#32
  | 58 => 7#32
  | 59 => 7#32
  | 60 => 9#32
  | 61 => 9#32
  | 62 => 9#32
  | 63 => 9#32
  | 64 => 9#32
  | 65 => 11#32
  | 66 => 11#32
  | 67 => 7#32
  | 68 => 7#32
  | 69 => 7#32
  | 70 => 7#32
  | 71 => 11#32
  | 72 => 11#32
  | 73 => 9#32
  | 74 => 11#32
  | 75 => 11#32
  | 76 => 11#32
  | 77 => 9#32
  | 78 => 9#32
  | 79 => 9#32
  | 80 => 7#32
  | 81 => 7#32
  | 82 => 11#32
  | 83 => 7#32
  | 84 => 7#32
  | 85 => 9#32
  | 86 => 9#32
  | 87 => 7#32
  | 88 => 7#32
  | 89 => 11#32
  | 90 => 7#32
  | 91 => 7#32
  | 92 => 9#32
  | 93 => 11#32
  | 94 => 9#32
  | 95 => 9#32
  | 96 => 11#32
  | 97 => 9#32
  | 98 => 9#32
  | 99 => 11#32
  | 100 => 11#32
  | 101 => 7#32
  | 102 => 11#32
  | 103 => 7#32
  | 104 => 11#32
  | 105 => 7#32
  | 106 => 11#32
  | 107 => 7#32
  | 108 => 11#32
  | 109 => 9#32
  | 110 => 9#32
  | 111 => 7#32
  | 112 => 7#32
  | 113 => 11#32
  | 114 => 7#32
  | 115 => 7#32
  | 116 => 9#32
  | 117 => 9#32
  | 118 => 9#32
  | 119 => 9#32
  | 120 => 7#32
  | 121 => 7#32
  | 122 => 7#32
  | 123 => 9#32
  | 124 => 9#32
  | 125 => 7#32
  | 126 => 11#32
  | 127 => 7#32
  | _ => 0#32

noncomputable abbrev lit1t0_9 (i : Nat) : BitVec 32 := match i % 128 with
  | 0 => 9#32
  | 1 => 11#32
  | 2 => 11#32
  | 3 => 9#32
  | 4 => 9#32
  | 5 => 9#32
  | 6 => 9#32
  | 7 => 9#32
  | 8 => 9#32
  | 9 => 9#32
  | 10 => 11#32
  | 11 => 9#32
  | 12 => 7#32
  | 13 => 7#32
  | 14 => 9#32
  | 15 => 9#32
  | 16 => 11#32
  | 17 => 11#32
  | 18 => 7#32
  | 19 => 11#32
  | 20 => 9#32
  | 21 => 9#32
  | 22 => 11#32
  | 23 => 7#32
  | 24 => 9#32
  | 25 => 7#32
  | 26 => 11#32
  | 27 => 7#32
  | 28 => 11#32
  | 29 => 11#32
  | 30 => 11#32
  | 31 => 9#32
  | 32 => 9#32
  | 33 => 11#32
  | 34 => 7#32
  | 35 => 9#32
  | 36 => 7#32
  | 37 => 11#32
  | 38 => 11#32
  | 39 => 9#32
  | 40 => 9#32
  | 41 => 11#32
  | 42 => 7#32
  | 43 => 7#32
  | 44 => 7#32
  | 45 => 11#32
  | 46 => 9#32
  | 47 => 7#32
  | 48 => 9#32
  | 49 => 7#32
  | 50 => 9#32
  | 51 => 11#32
  | 52 => 11#32
  | 53 => 11#32
  | 54 => 7#32
  | 55 => 9#32
  | 56 => 11#32
  | 57 => 11#32
  | 58 => 7#32
  | 59 => 9#32
  | 60 => 9#32
  | 61 => 7#32
  | 62 => 11#32
  | 63 => 11#32
  | 64 => 11#32
  | 65 => 7#32
  | 66 => 9#32
  | 67 => 7#32
  | 68 => 11#32
  | 69 => 9#32
  | 70 => 9#32
  | 71 => 9#32
  | 72 => 11#32
  | 73 => 7#32
  | 74 => 7#32
  | 75 => 9#32
  | 76 => 9#32
  | 77 => 9#32
  | 78 => 11#32
  | 79 => 9#32
  | 80 => 11#32
  | 81 => 11#32
  | 82 => 9#32
  | 83 => 7#32
  | 84 => 11#32
  | 85 => 7#32
  | 86 => 7#32
  | 87 => 11#32
  | 88 => 7#32
  | 89 => 11#32
  | 90 => 9#32
  | 91 => 9#32
  | 92 => 9#32
  | 93 => 7#32
  | 94 => 7#32
  | 95 => 9#32
  | 96 => 9#32
  | 97 => 11#32
  | 98 => 11#32
  | 99 => 7#32
  | 100 => 7#32
  | 101 => 11#32
  | 102 => 7#32
  | 103 => 9#32
  | 104 => 11#32
  | 105 => 11#32
  | 106 => 11#32
  | 107 => 11#32
  | 108 => 7#32
  | 109 => 7#32
  | 110 => 9#32
  | 111 => 11#32
  | 112 => 7#32
  | 113 => 7#32
  | 114 => 11#32
  | 115 => 7#32
  | 116 => 11#32
  | 117 => 7#32
  | 118 => 7#32
  | 119 => 11#32
  | 120 => 7#32
  | 121 => 9#32
  | 122 => 11#32
  | 123 => 9#32
  | 124 => 7#32
  | 125 => 7#32
  | 126 => 9#32
  | 127 => 11#32
  | _ => 0#32

noncomputable abbrev lit1t0_10 (i : Nat) : BitVec 32 := match i % 128 with
  | 0 => 11#32
  | 1 => 7#32
  | 2 => 9#32
  | 3 => 7#32
  | 4 => 9#32
  | 5 => 11#32
  | 6 => 11#32
  | 7 => 9#32
  | 8 => 7#32
  | 9 => 11#32
  | 10 => 11#32
  | 11 => 9#32
  | 12 => 9#32
  | 13 => 11#32
  | 14 => 9#32
  | 15 => 7#32
  | 16 => 11#32
  | 17 => 7#32
  | 18 => 11#32
  | 19 => 9#32
  | 20 => 11#32
  | 21 => 9#32
  | 22 => 9#32
  | 23 => 9#32
  | 24 => 11#32
  | 25 => 11#32
  | 26 => 9#32
  | 27 => 7#32
  | 28 => 9#32
  | 29 => 11#32
  | 30 => 11#32
  | 31 => 11#32
  | 32 => 11#32
  | 33 => 7#32
  | 34 => 9#32
  | 35 => 7#32
  | 36 => 7#32
  | 37 => 7#32
  | 38 => 9#32
  | 39 => 9#32
  | 40 => 9#32
  | 41 => 11#32
  | 42 => 11#32
  | 43 => 7#32
  | 44 => 9#32
  | 45 => 11#32
  | 46 => 9#32
  | 47 => 9#32
  | 48 => 9#32
  | 49 => 7#32
  | 50 => 9#32
  | 51 => 9#32
  | 52 => 9#32
  | 53 => 9#32
  | 54 => 7#32
  | 55 => 7#32
  | 56 => 11#32
  | 57 => 7#32
  | 58 => 11#32
  | 59 => 9#32
  | 60 => 9#32
  | 61 => 11#32
  | 62 => 7#32
  | 63 => 9#32
  | 64 => 11#32
  | 65 => 11#32
  | 66 => 11#32
  | 67 => 7#32
  | 68 => 9#32
  | 69 => 7#32
  | 70 => 9#32
  | 71 => 7#32
  | 72 => 7#32
  | 73 => 9#32
  | 74 => 11#32
  | 75 => 7#32
  | 76 => 9#32
  | 77 => 9#32
  | 78 => 11#32
  | 79 => 11#32
  | 80 => 11#32
  | 81 => 7#32
  | 82 => 9#32
  | 83 => 7#32
  | 84 => 7#32
  | 85 => 11#32
  | 86 => 9#32
  | 87 => 9#32
  | 88 => 9#32
  | 89 => 7#32
  | 90 => 11#32
  | 91 => 7#32
  | 92 => 7#32
  | 93 => 11#32
  | 94 => 9#32
  | 95 => 11#32
  | 96 => 11#32
  | 97 => 11#32
  | 98 => 7#32
  | 99 => 9#32
  | 100 => 11#32
  | 101 => 7#32
  | 102 => 11#32
  | 103 => 7#32
  | 104 => 7#32
  | 105 => 9#32
  | 106 => 9#32
  | 107 => 11#32
  | 108 => 11#32
  | 109 => 9#32
  | 110 => 9#32
  | 111 => 7#32
  | 112 => 7#32
  | 113 => 11#32
  | 114 => 9#32
  | 115 => 9#32
  | 116 => 7#32
  | 117 => 11#32
  | 118 => 9#32
  | 119 => 9#32
  | 120 => 11#32
  | 121 => 11#32
  | 122 => 7#32
  | 123 => 7#32
  | 124 => 11#32
  | 125 => 11#32
  | 126 => 11#32
  | 127 => 9#32
  | _ => 0#32

noncomputable abbrev lit1t0_11 (i : Nat) : BitVec 32 := match i % 128 with
  | 0 => 7#32
  | 1 => 9#32
  | 2 => 7#32
  | 3 => 7#32
  | 4 => 11#32
  | 5 => 11#32
  | 6 => 7#32
  | 7 => 7#32
  | 8 => 11#32
  | 9 => 9#32
  | 10 => 11#32
  | 11 => 9#32
  | 12 => 11#32
  | 13 => 11#32
  | 14 => 7#32
  | 15 => 9#32
  | 16 => 11#32
  | 17 => 11#32
  | 18 => 11#32
  | 19 => 9#32
  | 20 => 7#32
  | 21 => 11#32
  | 22 => 11#32
  | 23 => 11#32
  | 24 => 9#32
  | 25 => 11#32
  | 26 => 7#32
  | 27 => 11#32
  | 28 => 11#32
  | 29 => 11#32
  | 30 => 11#32
  | 31 => 7#32
  | 32 => 7#32
  | 33 => 7#32
  | 34 => 11#32
  | 35 => 9#32
  | 36 => 11#32
  | 37 => 7#32
  | 38 => 9#32
  | 39 => 9#32
  | 40 => 11#32
  | 41 => 7#32
  | 42 => 11#32
  | 43 => 11#32
  | 44 => 9#32
  | 45 => 11#32
  | 46 => 11#32
  | 47 => 7#32
  | 48 => 11#32
  | 49 => 9#32
  | 50 => 11#32
  | 51 => 9#32
  | 52 => 7#32
  | 53 => 11#32
  | 54 => 7#32
  | 55 => 9#32
  | 56 => 11#32
  | 57 => 11#32
  | 58 => 7#32
  | 59 => 9#32
  | 60 => 7#32
  | 61 => 11#32
  | 62 => 9#32
  | 63 => 9#32
  | 64 => 9#32
  | 65 => 11#32
  | 66 => 11#32
  | 67 => 9#32
  | 68 => 11#32
  | 69 => 7#32
  | 70 => 9#32
  | 71 => 11#32
  | 72 => 11#32
  | 73 => 7#32
  | 74 => 9#32
  | 75 => 9#32
  | 76 => 11#32
  | 77 => 9#32
  | 78 => 9#32
  | 79 => 7#32
  | 80 => 9#32
  | 81 => 7#32
  | 82 => 9#32
  | 83 => 11#32
  | 84 => 9#32
  | 85 => 11#32
  | 86 => 9#32
  | 87 => 7#32
  | 88 => 9#32
  | 89 => 11#32
  | 90 => 9#32
  | 91 => 7#32
  | 92 => 11#32
  | 93 => 7#32
  | 94 => 7#32
  | 95 => 11#32
  | 96 => 7#32
  | 97 => 11#32
  | 98 => 11#32
  | 99 => 11#32
  | 100 => 11#32
  | 101 => 7#32
  | 102 => 9#32
  | 103 => 11#32
  | 104 => 11#32
  | 105 => 9#32
  | 106 => 7#32
  | 107 => 7#32
  | 108 => 9#32
  | 109 => 11#32
  | 110 => 7#32
  | 111 => 11#32
  | 112 => 11#32
  | 113 => 7#32
  | 114 => 11#32
  | 115 => 7#32
  | 116 => 7#32
  | 117 => 11#32
  | 118 => 9#32
  | 119 => 11#32
  | 120 => 9#32
  | 121 => 7#32
  | 122 => 7#32
  | 123 => 11#32
  | 124 => 7#32
  | 125 => 7#32
  | 126 => 9#32
  | 127 => 11#32
  | _ => 0#32

noncomputable abbrev lit1t0_12 (i : Nat) : BitVec 32 := match i % 128 with
  | 0 => 7#32
  | 1 => 11#32
  | 2 => 11#32
  | 3 => 7#32
  | 4 => 11#32
  | 5 => 7#32
  | 6 => 9#32
  | 7 => 9#32
  | 8 => 7#32
  | 9 => 9#32
  | 10 => 11#32
  | 11 => 11#32
  | 12 => 7#32
  | 13 => 9#32
  | 14 => 7#32
  | 15 => 7#32
  | 16 => 11#32
  | 17 => 9#32
  | 18 => 11#32
  | 19 => 7#32
  | 20 => 7#32
  | 21 => 7#32
  | 22 => 7#32
  | 23 => 7#32
  | 24 => 9#32
  | 25 => 9#32
  | 26 => 11#32
  | 27 => 7#32
  | 28 => 9#32
  | 29 => 11#32
  | 30 => 11#32
  | 31 => 7#32
  | 32 => 7#32
  | 33 => 7#32
  | 34 => 11#32
  | 35 => 9#32
  | 36 => 7#32
  | 37 => 11#32
  | 38 => 11#32
  | 39 => 9#32
  | 40 => 9#32
  | 41 => 9#32
  | 42 => 7#32
  | 43 => 7#32
  | 44 => 9#32
  | 45 => 11#32
  | 46 => 9#32
  | 47 => 9#32
  | 48 => 7#32
  | 49 => 7#32
  | 50 => 9#32
  | 51 => 9#32
  | 52 => 9#32
  | 53 => 11#32
  | 54 => 7#32
  | 55 => 9#32
  | 56 => 9#32
  | 57 => 7#32
  | 58 => 11#32
  | 59 => 9#32
  | 60 => 11#32
  | 61 => 9#32
  | 62 => 7#32
  | 63 => 11#32
  | 64 => 11#32
  | 65 => 11#32
  | 66 => 9#32
  | 67 => 9#32
  | 68 => 7#32
  | 69 => 7#32
  | 70 => 11#32
  | 71 => 11#32
  | 72 => 9#32
  | 73 => 11#32
  | 74 => 7#32
  | 75 => 7#32
  | 76 => 9#32
  | 77 => 9#32
  | 78 => 7#32
  | 79 => 7#32
  | 80 => 7#32
  | 81 => 9#32
  | 82 => 9#32
  | 83 => 9#32
  | 84 => 7#32
  | 85 => 7#32
  | 86 => 9#32
  | 87 => 9#32
  | 88 => 11#32
  | 89 => 11#32
  | 90 => 7#32
  | 91 => 7#32
  | 92 => 11#32
  | 93 => 9#32
  | 94 => 11#32
  | 95 => 9#32
  | 96 => 11#32
  | 97 => 9#32
  | 98 => 7#32
  | 99 => 11#32
  | 100 => 7#32
  | 101 => 9#32
  | 102 => 7#32
  | 103 => 11#32
  | 104 => 9#32
  | 105 => 9#32
  | 106 => 7#32
  | 107 => 9#32
  | 108 => 7#32
  | 109 => 7#32
  | 110 => 7#32
  | 111 => 11#32
  | 112 => 11#32
  | 113 => 9#32
  | 114 => 9#32
  | 115 => 7#32
  | 116 => 9#32
  | 117 => 7#32
  | 118 => 9#32
  | 119 => 7#32
  | 120 => 7#32
  | 121 => 11#32
  | 122 => 9#32
  | 123 => 9#32
  | 124 => 9#32
  | 125 => 11#32
  | 126 => 9#32
  | 127 => 11#32
  | _ => 0#32

noncomputable abbrev lit1t0_13 (i : Nat) : BitVec 32 := match i % 128 with
  | 0 => 7#32
  | 1 => 7#32
  | 2 => 7#32
  | 3 => 7#32
  | 4 => 7#32
  | 5 => 7#32
  | 6 => 7#32
  | 7 => 11#32
  | 8 => 9#32
  | 9 => 7#32
  | 10 => 9#32
  | 11 => 9#32
  | 12 => 7#32
  | 13 => 7#32
  | 14 => 11#32
  | 15 => 11#32
  | 16 => 9#32
  | 17 => 9#32
  | 18 => 7#32
  | 19 => 9#32
  | 20 => 11#32
  | 21 => 7#32
  | 22 => 9#32
  | 23 => 9#32
  | 24 => 11#32
  | 25 => 7#32
  | 26 => 9#32
  | 27 => 11#32
  | 28 => 7#32
  | 29 => 11#32
  | 30 => 9#32
  | 31 => 11#32
  | 32 => 7#32
  | 33 => 9#32
  | 34 => 11#32
  | 35 => 11#32
  | 36 => 9#32
  | 37 => 7#32
  | 38 => 9#32
  | 39 => 9#32
  | 40 => 7#32
  | 41 => 11#32
  | 42 => 11#32
  | 43 => 7#32
  | 44 => 7#32
  | 45 => 11#32
  | 46 => 11#32
  | 47 => 7#32
  | 48 => 7#32
  | 49 => 9#32
  | 50 => 9#32
  | 51 => 7#32
  | 52 => 11#32
  | 53 => 9#32
  | 54 => 9#32
  | 55 => 7#32
  | 56 => 9#32
  | 57 => 7#32
  | 58 => 9#32
  | 59 => 9#32
  | 60 => 11#32
  | 61 => 9#32
  | 62 => 9#32
  | 63 => 7#32
  | 64 => 9#32
  | 65 => 11#32
  | 66 => 9#32
  | 67 => 11#32
  | 68 => 9#32
  | 69 => 9#32
  | 70 => 7#32
  | 71 => 11#32
  | 72 => 11#32
  | 73 => 9#32
  | 74 => 9#32
  | 75 => 11#32
  | 76 => 9#32
  | 77 => 11#32
  | 78 => 9#32
  | 79 => 11#32
  | 80 => 11#32
  | 81 => 7#32
  | 82 => 11#32
  | 83 => 7#32
  | 84 => 11#32
  | 85 => 9#32
  | 86 => 7#32
  | 87 => 9#32
  | 88 => 11#32
  | 89 => 11#32
  | 90 => 9#32
  | 91 => 11#32
  | 92 => 11#32
  | 93 => 9#32
  | 94 => 7#32
  | 95 => 9#32
  | 96 => 9#32
  | 97 => 11#32
  | 98 => 11#32
  | 99 => 11#32
  | 100 => 9#32
  | 101 => 11#32
  | 102 => 11#32
  | 103 => 11#32
  | 104 => 11#32
  | 105 => 9#32
  | 106 => 7#32
  | 107 => 9#32
  | 108 => 11#32
  | 109 => 9#32
  | 110 => 11#32
  | 111 => 11#32
  | 112 => 11#32
  | 113 => 9#32
  | 114 => 11#32
  | 115 => 11#32
  | 116 => 9#32
  | 117 => 9#32
  | 118 => 9#32
  | 119 => 7#32
  | 120 => 7#32
  | 121 => 9#32
  | 122 => 9#32
  | 123 => 7#32
  | 124 => 11#32
  | 125 => 9#32
  | 126 => 7#32
  | 127 => 11#32
  | _ => 0#32

noncomputable abbrev lit1t0_14 (i : Nat) : BitVec 32 := match i % 128 with
  | 0 => 9#32
  | 1 => 7#32
  | 2 => 9#32
  | 3 => 9#32
  | 4 => 7#32
  | 5 => 9#32
  | 6 => 11#32
  | 7 => 11#32
  | 8 => 7#32
  | 9 => 11#32
  | 10 => 11#32
  | 11 => 9#32
  | 12 => 9#32
  | 13 => 11#32
  | 14 => 9#32
  | 15 => 9#32
  | 16 => 9#32
  | 17 => 11#32
  | 18 => 9#32
  | 19 => 11#32
  | 20 => 9#32
  | 21 => 9#32
  | 22 => 9#32
  | 23 => 7#32
  | 24 => 9#32
  | 25 => 9#32
  | 26 => 11#32
  | 27 => 7#32
  | 28 => 11#32
  | 29 => 11#32
  | 30 => 7#32
  | 31 => 9#32
  | 32 => 11#32
  | 33 => 11#32
  | 34 => 11#32
  | 35 => 7#32
  | 36 => 9#32
  | 37 => 9#32
  | 38 => 9#32
  | 39 => 9#32
  | 40 => 9#32
  | 41 => 9#32
  | 42 => 7#32
  | 43 => 9#32
  | 44 => 11#32
  | 45 => 9#32
  | 46 => 11#32
  | 47 => 7#32
  | 48 => 7#32
  | 49 => 9#32
  | 50 => 7#32
  | 51 => 7#32
  | 52 => 9#32
  | 53 => 9#32
  | 54 => 9#32
  | 55 => 9#32
  | 56 => 11#32
  | 57 => 7#32
  | 58 => 11#32
  | 59 => 7#32
  | 60 => 11#32
  | 61 => 11#32
  | 62 => 11#32
  | 63 => 11#32
  | 64 => 9#32
  | 65 => 9#32
  | 66 => 7#32
  | 67 => 11#32
  | 68 => 7#32
  | 69 => 7#32
  | 70 => 7#32
  | 71 => 11#32
  | 72 => 11#32
  | 73 => 9#32
  | 74 => 11#32
  | 75 => 9#32
  | 76 => 11#32
  | 77 => 9#32
  | 78 => 11#32
  | 79 => 7#32
  | 80 => 11#32
  | 81 => 7#32
  | 82 => 9#32
  | 83 => 7#32
  | 84 => 11#32
  | 85 => 11#32
  | 86 => 7#32
  | 87 => 11#32
  | 88 => 7#32
  | 89 => 11#32
  | 90 => 9#32
  | 91 => 11#32
  | 92 => 11#32
  | 93 => 7#32
  | 94 => 9#32
  | 95 => 7#32
  | 96 => 11#32
  | 97 => 11#32
  | 98 => 11#32
  | 99 => 9#32
  | 100 => 9#32
  | 101 => 9#32
  | 102 => 7#32
  | 103 => 9#32
  | 104 => 9#32
  | 105 => 9#32
  | 106 => 7#32
  | 107 => 7#32
  | 108 => 7#32
  | 109 => 11#32
  | 110 => 11#32
  | 111 => 7#32
  | 112 => 11#32
  | 113 => 11#32
  | 114 => 7#32
  | 115 => 9#32
  | 116 => 11#32
  | 117 => 9#32
  | 118 => 7#32
  | 119 => 11#32
  | 120 => 11#32
  | 121 => 9#32
  | 122 => 11#32
  | 123 => 7#32
  | 124 => 7#32
  | 125 => 11#32
  | 126 => 7#32
  | 127 => 9#32
  | _ => 0#32

noncomputable abbrev lit1t0_15 (i : Nat) : BitVec 32 := match i % 128 with
  | 0 => 7#32
  | 1 => 11#32
  | 2 => 9#32
  | 3 => 9#32
  | 4 => 11#32
  | 5 => 11#32
  | 6 => 11#32
  | 7 => 9#32
  | 8 => 7#32
  | 9 => 7#32
  | 10 => 7#32
  | 11 => 9#32
  | 12 => 11#32
  | 13 => 7#32
  | 14 => 7#32
  | 15 => 11#32
  | 16 => 9#32
  | 17 => 11#32
  | 18 => 7#32
  | 19 => 11#32
  | 20 => 9#32
  | 21 => 9#32
  | 22 => 11#32
  | 23 => 7#32
  | 24 => 11#32
  | 25 => 9#32
  | 26 => 9#32
  | 27 => 11#32
  | 28 => 7#32
  | 29 => 11#32
  | 30 => 11#32
  | 31 => 9#32
  | 32 => 7#32
  | 33 => 9#32
  | 34 => 7#32
  | 35 => 11#32
  | 36 => 7#32
  | 37 => 11#32
  | 38 => 9#32
  | 39 => 9#32
  | 40 => 9#32
  | 41 => 11#32
  | 42 => 7#32
  | 43 => 11#32
  | 44 => 9#32
  | 45 => 11#32
  | 46 => 11#32
  | 47 => 7#32
  | 48 => 7#32
  | 49 => 7#32
  | 50 => 7#32
  | 51 => 11#32
  | 52 => 9#32
  | 53 => 7#32
  | 54 => 11#32
  | 55 => 7#32
  | 56 => 7#32
  | 57 => 11#32
  | 58 => 11#32
  | 59 => 11#32
  | 60 => 9#32
  | 61 => 9#32
  | 62 => 7#32
  | 63 => 9#32
  | 64 => 7#32
  | 65 => 9#32
  | 66 => 11#32
  | 67 => 7#32
  | 68 => 7#32
  | 69 => 9#32
  | 70 => 9#32
  | 71 => 11#32
  | 72 => 11#32
  | 73 => 7#32
  | 74 => 7#32
  | 75 => 9#32
  | 76 => 7#32
  | 77 => 7#32
  | 78 => 7#32
  | 79 => 9#32
  | 80 => 11#32
  | 81 => 7#32
  | 82 => 9#32
  | 83 => 11#32
  | 84 => 11#32
  | 85 => 9#32
  | 86 => 7#32
  | 87 => 9#32
  | 88 => 9#32
  | 89 => 9#32
  | 90 => 11#32
  | 91 => 11#32
  | 92 => 11#32
  | 93 => 7#32
  | 94 => 9#32
  | 95 => 7#32
  | 96 => 9#32
  | 97 => 7#32
  | 98 => 7#32
  | 99 => 7#32
  | 100 => 9#32
  | 101 => 7#32
  | 102 => 7#32
  | 103 => 7#32
  | 104 => 7#32
  | 105 => 9#32
  | 106 => 7#32
  | 107 => 7#32
  | 108 => 11#32
  | 109 => 7#32
  | 110 => 7#32
  | 111 => 11#32
  | 112 => 11#32
  | 113 => 7#32
  | 114 => 11#32
  | 115 => 7#32
  | 116 => 9#32
  | 117 => 11#32
  | 118 => 9#32
  | 119 => 11#32
  | 120 => 11#32
  | 121 => 11#32
  | 122 => 7#32
  | 123 => 9#32
  | 124 => 7#32
  | 125 => 7#32
  | 126 => 11#32
  | 127 => 11#32
  | _ => 0#32

noncomputable abbrev lit1t0_16 (i : Nat) : BitVec 32 := match i % 128 with
  | 0 => 11#32
  | 1 => 9#32
  | 2 => 9#32
  | 3 => 9#32
  | 4 => 11#32
  | 5 => 7#32
  | 6 => 11#32
  | 7 => 7#32
  | 8 => 7#32
  | 9 => 9#32
  | 10 => 7#32
  | 11 => 9#32
  | 12 => 7#32
  | 13 => 9#32
  | 14 => 7#32
  | 15 => 9#32
  | 16 => 9#32
  | 17 => 11#32
  | 18 => 9#32
  | 19 => 9#32
  | 20 => 9#32
  | 21 => 9#32
  | 22 => 9#32
  | 23 => 7#32
  | 24 => 7#32
  | 25 => 7#32
  | 26 => 9#32
  | 27 => 9#32
  | 28 => 9#32
  | 29 => 11#32
  | 30 => 7#32
  | 31 => 9#32
  | 32 => 11#32
  | 33 => 7#32
  | 34 => 7#32
  | 35 => 7#32
  | 36 => 11#32
  | 37 => 7#32
  | 38 => 9#32
  | 39 => 9#32
  | 40 => 9#32
  | 41 => 11#32
  | 42 => 11#32
  | 43 => 9#32
  | 44 => 9#32
  | 45 => 9#32
  | 46 => 7#32
  | 47 => 9#32
  | 48 => 11#32
  | 49 => 7#32
  | 50 => 7#32
  | 51 => 7#32
  | 52 => 9#32
  | 53 => 9#32
  | 54 => 11#32
  | 55 => 9#32
  | 56 => 7#32
  | 57 => 7#32
  | 58 => 9#32
  | 59 => 11#32
  | 60 => 11#32
  | 61 => 9#32
  | 62 => 11#32
  | 63 => 11#32
  | 64 => 9#32
  | 65 => 7#32
  | 66 => 7#32
  | 67 => 11#32
  | 68 => 9#32
  | 69 => 7#32
  | 70 => 9#32
  | 71 => 11#32
  | 72 => 9#32
  | 73 => 7#32
  | 74 => 7#32
  | 75 => 7#32
  | 76 => 9#32
  | 77 => 11#32
  | 78 => 9#32
  | 79 => 9#32
  | 80 => 11#32
  | 81 => 11#32
  | 82 => 7#32
  | 83 => 11#32
  | 84 => 7#32
  | 85 => 11#32
  | 86 => 7#32
  | 87 => 9#32
  | 88 => 9#32
  | 89 => 11#32
  | 90 => 11#32
  | 91 => 9#32
  | 92 => 9#32
  | 93 => 7#32
  | 94 => 7#32
  | 95 => 11#32
  | 96 => 11#32
  | 97 => 11#32
  | 98 => 7#32
  | 99 => 7#32
  | 100 => 9#32
  | 101 => 11#32
  | 102 => 11#32
  | 103 => 9#32
  | 104 => 9#32
  | 105 => 11#32
  | 106 => 11#32
  | 107 => 7#32
  | 108 => 9#32
  | 109 => 7#32
  | 110 => 11#32
  | 111 => 11#32
  | 112 => 7#32
  | 113 => 9#32
  | 114 => 7#32
  | 115 => 7#32
  | 116 => 7#32
  | 117 => 9#32
  | 118 => 9#32
  | 119 => 11#32
  | 120 => 11#32
  | 121 => 9#32
  | 122 => 7#32
  | 123 => 9#32
  | 124 => 7#32
  | 125 => 9#32
  | 126 => 9#32
  | 127 => 11#32
  | _ => 0#32

noncomputable abbrev lit1t0_17 (i : Nat) : BitVec 32 := match i % 128 with
  | 0 => 11#32
  | 1 => 9#32
  | 2 => 7#32
  | 3 => 11#32
  | 4 => 11#32
  | 5 => 7#32
  | 6 => 11#32
  | 7 => 11#32
  | 8 => 9#32
  | 9 => 7#32
  | 10 => 7#32
  | 11 => 11#32
  | 12 => 9#32
  | 13 => 7#32
  | 14 => 7#32
  | 15 => 7#32
  | 16 => 11#32
  | 17 => 7#32
  | 18 => 9#32
  | 19 => 11#32
  | 20 => 9#32
  | 21 => 7#32
  | 22 => 7#32
  | 23 => 9#32
  | 24 => 11#32
  | 25 => 7#32
  | 26 => 11#32
  | 27 => 9#32
  | 28 => 11#32
  | 29 => 7#32
  | 30 => 11#32
  | 31 => 7#32
  | 32 => 9#32
  | 33 => 11#32
  | 34 => 9#32
  | 35 => 7#32
  | 36 => 11#32
  | 37 => 7#32
  | 38 => 9#32
  | 39 => 9#32
  | 40 => 11#32
  | 41 => 7#32
  | 42 => 7#32
  | 43 => 7#32
  | 44 => 7#32
  | 45 => 11#32
  | 46 => 9#32
  | 47 => 9#32
  | 48 => 7#32
  | 49 => 11#32
  | 50 => 9#32
  | 51 => 11#32
  | 52 => 9#32
  | 53 => 7#32
  | 54 => 7#32
  | 55 => 7#32
  | 56 => 7#32
  | 57 => 7#32
  | 58 => 9#32
  | 59 => 9#32
  | 60 => 11#32
  | 61 => 9#32
  | 62 => 7#32
  | 63 => 11#32
  | 64 => 11#32
  | 65 => 9#32
  | 66 => 11#32
  | 67 => 9#32
  | 68 => 11#32
  | 69 => 9#32
  | 70 => 7#32
  | 71 => 11#32
  | 72 => 9#32
  | 73 => 11#32
  | 74 => 9#32
  | 75 => 11#32
  | 76 => 11#32
  | 77 => 11#32
  | 78 => 11#32
  | 79 => 9#32
  | 80 => 9#32
  | 81 => 7#32
  | 82 => 11#32
  | 83 => 11#32
  | 84 => 9#32
  | 85 => 9#32
  | 86 => 9#32
  | 87 => 11#32
  | 88 => 11#32
  | 89 => 11#32
  | 90 => 7#32
  | 91 => 11#32
  | 92 => 11#32
  | 93 => 11#32
  | 94 => 9#32
  | 95 => 7#32
  | 96 => 7#32
  | 97 => 9#32
  | 98 => 7#32
  | 99 => 7#32
  | 100 => 11#32
  | 101 => 11#32
  | 102 => 7#32
  | 103 => 11#32
  | 104 => 9#32
  | 105 => 7#32
  | 106 => 9#32
  | 107 => 7#32
  | 108 => 9#32
  | 109 => 11#32
  | 110 => 11#32
  | 111 => 11#32
  | 112 => 7#32
  | 113 => 11#32
  | 114 => 7#32
  | 115 => 11#32
  | 116 => 11#32
  | 117 => 9#32
  | 118 => 7#32
  | 119 => 9#32
  | 120 => 7#32
  | 121 => 7#32
  | 122 => 11#32
  | 123 => 11#32
  | 124 => 7#32
  | 125 => 9#32
  | 126 => 11#32
  | 127 => 7#32
  | _ => 0#32

noncomputable abbrev lit1t0_18 (i : Nat) : BitVec 32 := match i % 128 with
  | 0 => 11#32
  | 1 => 9#32
  | 2 => 9#32
  | 3 => 9#32
  | 4 => 9#32
  | 5 => 9#32
  | 6 => 7#32
  | 7 => 7#32
  | 8 => 11#32
  | 9 => 7#32
  | 10 => 11#32
  | 11 => 9#32
  | 12 => 7#32
  | 13 => 9#32
  | 14 => 9#32
  | 15 => 7#32
  | 16 => 11#32
  | 17 => 9#32
  | 18 => 11#32
  | 19 => 11#32
  | 20 => 7#32
  | 21 => 7#32
  | 22 => 9#32
  | 23 => 9#32
  | 24 => 7#32
  | 25 => 11#32
  | 26 => 9#32
  | 27 => 11#32
  | 28 => 11#32
  | 29 => 7#32
  | 30 => 11#32
  | 31 => 11#32
  | 32 => 9#32
  | 33 => 9#32
  | 34 => 9#32
  | 35 => 11#32
  | 36 => 7#32
  | 37 => 9#32
  | 38 => 7#32
  | 39 => 11#32
  | 40 => 9#32
  | 41 => 11#32
  | 42 => 9#32
  | 43 => 11#32
  | 44 => 11#32
  | 45 => 11#32
  | 46 => 11#32
  | 47 => 7#32
  | 48 => 7#32
  | 49 => 11#32
  | 50 => 11#32
  | 51 => 7#32
  | 52 => 7#32
  | 53 => 7#32
  | 54 => 7#32
  | 55 => 9#32
  | 56 => 11#32
  | 57 => 11#32
  | 58 => 7#32
  | 59 => 7#32
  | 60 => 11#32
  | 61 => 7#32
  | 62 => 11#32
  | 63 => 9#32
  | 64 => 11#32
  | 65 => 11#32
  | 66 => 11#32
  | 67 => 7#32
  | 68 => 7#32
  | 69 => 11#32
  | 70 => 9#32
  | 71 => 9#32
  | 72 => 11#32
  | 73 => 9#32
  | 74 => 7#32
  | 75 => 11#32
  | 76 => 11#32
  | 77 => 7#32
  | 78 => 11#32
  | 79 => 9#32
  | 80 => 11#32
  | 81 => 7#32
  | 82 => 7#32
  | 83 => 11#32
  | 84 => 7#32
  | 85 => 11#32
  | 86 => 7#32
  | 87 => 7#32
  | 88 => 9#32
  | 89 => 11#32
  | 90 => 11#32
  | 91 => 7#32
  | 92 => 11#32
  | 93 => 9#32
  | 94 => 9#32
  | 95 => 7#32
  | 96 => 9#32
  | 97 => 7#32
  | 98 => 7#32
  | 99 => 9#32
  | 100 => 7#32
  | 101 => 11#32
  | 102 => 11#32
  | 103 => 7#32
  | 104 => 9#32
  | 105 => 9#32
  | 106 => 9#32
  | 107 => 9#32
  | 108 => 11#32
  | 109 => 11#32
  | 110 => 9#32
  | 111 => 7#32
  | 112 => 11#32
  | 113 => 7#32
  | 114 => 9#32
  | 115 => 7#32
  | 116 => 7#32
  | 117 => 9#32
  | 118 => 9#32
  | 119 => 11#32
  | 120 => 9#32
  | 121 => 9#32
  | 122 => 9#32
  | 123 => 9#32
  | 124 => 9#32
  | 125 => 7#32
  | 126 => 9#32
  | 127 => 9#32
  | _ => 0#32

noncomputable abbrev lit1t0_19 (i : Nat) : BitVec 32 := match i % 128 with
  | 0 => 11#32
  | 1 => 7#32
  | 2 => 9#32
  | 3 => 9#32
  | 4 => 9#32
  | 5 => 11#32
  | 6 => 7#32
  | 7 => 7#32
  | 8 => 11#32
  | 9 => 7#32
  | 10 => 9#32
  | 11 => 7#32
  | 12 => 7#32
  | 13 => 9#32
  | 14 => 9#32
  | 15 => 7#32
  | 16 => 9#32
  | 17 => 11#32
  | 18 => 9#32
  | 19 => 11#32
  | 20 => 11#32
  | 21 => 9#32
  | 22 => 9#32
  | 23 => 11#32
  | 24 => 9#32
  | 25 => 7#32
  | 26 => 9#32
  | 27 => 9#32
  | 28 => 9#32
  | 29 => 9#32
  | 30 => 7#32
  | 31 => 7#32
  | 32 => 9#32
  | 33 => 9#32
  | 34 => 7#32
  | 35 => 9#32
  | 36 => 7#32
  | 37 => 11#32
  | 38 => 11#32
  | 39 => 11#32
  | 40 => 11#32
  | 41 => 9#32
  | 42 => 7#32
  | 43 => 7#32
  | 44 => 7#32
  | 45 => 7#32
  | 46 => 11#32
  | 47 => 7#32
  | 48 => 11#32
  | 49 => 9#32
  | 50 => 9#32
  | 51 => 9#32
  | 52 => 9#32
  | 53 => 9#32
  | 54 => 11#32
  | 55 => 9#32
  | 56 => 7#32
  | 57 => 9#32
  | 58 => 11#32
  | 59 => 9#32
  | 60 => 7#32
  | 61 => 7#32
  | 62 => 7#32
  | 63 => 11#32
  | 64 => 11#32
  | 65 => 7#32
  | 66 => 11#32
  | 67 => 7#32
  | 68 => 9#32
  | 69 => 7#32
  | 70 => 9#32
  | 71 => 7#32
  | 72 => 7#32
  | 73 => 11#32
  | 74 => 11#32
  | 75 => 7#32
  | 76 => 11#32
  | 77 => 9#32
  | 78 => 7#32
  | 79 => 7#32
  | 80 => 9#32
  | 81 => 11#32
  | 82 => 9#32
  | 83 => 7#32
  | 84 => 7#32
  | 85 => 11#32
  | 86 => 9#32
  | 87 => 11#32
  | 88 => 11#32
  | 89 => 11#32
  | 90 => 11#32
  | 91 => 7#32
  | 92 => 11#32
  | 93 => 9#32
  | 94 => 7#32
  | 95 => 11#32
  | 96 => 7#32
  | 97 => 11#32
  | 98 => 11#32
  | 99 => 11#32
  | 100 => 11#32
  | 101 => 9#32
  | 102 => 7#32
  | 103 => 9#32
  | 104 => 9#32
  | 105 => 9#32
  | 106 => 11#32
  | 107 => 7#32
  | 108 => 11#32
  | 109 => 11#32
  | 110 => 9#32
  | 111 => 7#32
  | 112 => 11#32
  | 113 => 11#32
  | 114 => 7#32
  | 115 => 7#32
  | 116 => 7#32
  | 117 => 9#32
  | 118 => 9#32
  | 119 => 9#32
  | 120 => 9#32
  | 121 => 7#32
  | 122 => 11#32
  | 123 => 9#32
  | 124 => 7#32
  | 125 => 11#32
  | 126 => 9#32
  | 127 => 9#32
  | _ => 0#32

noncomputable abbrev lit1t0_20 (i : Nat) : BitVec 32 := match i % 128 with
  | 0 => 11#32
  | 1 => 11#32
  | 2 => 11#32
  | 3 => 11#32
  | 4 => 11#32
  | 5 => 7#32
  | 6 => 11#32
  | 7 => 11#32
  | 8 => 11#32
  | 9 => 7#32
  | 10 => 7#32
  | 11 => 9#32
  | 12 => 11#32
  | 13 => 7#32
  | 14 => 11#32
  | 15 => 11#32
  | 16 => 7#32
  | 17 => 9#32
  | 18 => 9#32
  | 19 => 9#32
  | 20 => 11#32
  | 21 => 9#32
  | 22 => 7#32
  | 23 => 7#32
  | 24 => 7#32
  | 25 => 7#32
  | 26 => 11#32
  | 27 => 11#32
  | 28 => 9#32
  | 29 => 7#32
  | 30 => 11#32
  | 31 => 7#32
  | 32 => 11#32
  | 33 => 9#32
  | 34 => 9#32
  | 35 => 11#32
  | 36 => 7#32
  | 37 => 11#32
  | 38 => 7#32
  | 39 => 11#32
  | 40 => 9#32
  | 41 => 11#32
  | 42 => 7#32
  | 43 => 9#32
  | 44 => 11#32
  | 45 => 9#32
  | 46 => 7#32
  | 47 => 11#32
  | 48 => 9#32
  | 49 => 7#32
  | 50 => 11#32
  | 51 => 7#32
  | 52 => 9#32
  | 53 => 9#32
  | 54 => 9#32
  | 55 => 7#32
  | 56 => 7#32
  | 57 => 7#32
  | 58 => 11#32
  | 59 => 9#32
  | 60 => 11#32
  | 61 => 9#32
  | 62 => 11#32
  | 63 => 11#32
  | 64 => 9#32
  | 65 => 9#32
  | 66 => 7#32
  | 67 => 9#32
  | 68 => 9#32
  | 69 => 9#32
  | 70 => 7#32
  | 71 => 7#32
  | 72 => 9#32
  | 73 => 9#32
  | 74 => 9#32
  | 75 => 9#32
  | 76 => 9#32
  | 77 => 7#32
  | 78 => 9#32
  | 79 => 7#32
  | 80 => 11#32
  | 81 => 7#32
  | 82 => 7#32
  | 83 => 7#32
  | 84 => 11#32
  | 85 => 7#32
  | 86 => 11#32
  | 87 => 7#32
  | 88 => 11#32
  | 89 => 7#32
  | 90 => 7#32
  | 91 => 9#32
  | 92 => 11#32
  | 93 => 7#32
  | 94 => 11#32
  | 95 => 7#32
  | 96 => 7#32
  | 97 => 7#32
  | 98 => 7#32
  | 99 => 11#32
  | 100 => 9#32
  | 101 => 7#32
  | 102 => 11#32
  | 103 => 7#32
  | 104 => 7#32
  | 105 => 9#32
  | 106 => 11#32
  | 107 => 9#32
  | 108 => 7#32
  | 109 => 9#32
  | 110 => 11#32
  | 111 => 11#32
  | 112 => 7#32
  | 113 => 11#32
  | 114 => 9#32
  | 115 => 9#32
  | 116 => 11#32
  | 117 => 9#32
  | 118 => 9#32
  | 119 => 9#32
  | 120 => 7#32
  | 121 => 7#32
  | 122 => 9#32
  | 123 => 7#32
  | 124 => 11#32
  | 125 => 9#32
  | 126 => 9#32
  | 127 => 11#32
  | _ => 0#32

noncomputable abbrev lit1t0_21 (i : Nat) : BitVec 32 := match i % 128 with
  | 0 => 7#32
  | 1 => 7#32
  | 2 => 11#32
  | 3 => 7#32
  | 4 => 11#32
  | 5 => 11#32
  | 6 => 7#32
  | 7 => 7#32
  | 8 => 11#32
  | 9 => 9#32
  | 10 => 7#32
  | 11 => 7#32
  | 12 => 7#32
  | 13 => 9#32
  | 14 => 11#32
  | 15 => 7#32
  | 16 => 9#32
  | 17 => 7#32
  | 18 => 11#32
  | 19 => 9#32
  | 20 => 7#32
  | 21 => 9#32
  | 22 => 11#32
  | 23 => 7#32
  | 24 => 7#32
  | 25 => 9#32
  | 26 => 7#32
  | 27 => 11#32
  | 28 => 9#32
  | 29 => 11#32
  | 30 => 9#32
  | 31 => 9#32
  | 32 => 7#32
  | 33 => 9#32
  | 34 => 9#32
  | 35 => 11#32
  | 36 => 11#32
  | 37 => 7#32
  | 38 => 11#32
  | 39 => 7#32
  | 40 => 9#32
  | 41 => 11#32
  | 42 => 9#32
  | 43 => 11#32
  | 44 => 9#32
  | 45 => 11#32
  | 46 => 9#32
  | 47 => 9#32
  | 48 => 9#32
  | 49 => 7#32
  | 50 => 7#32
  | 51 => 11#32
  | 52 => 11#32
  | 53 => 11#32
  | 54 => 9#32
  | 55 => 11#32
  | 56 => 7#32
  | 57 => 7#32
  | 58 => 7#32
  | 59 => 11#32
  | 60 => 7#32
  | 61 => 9#32
  | 62 => 9#32
  | 63 => 9#32
  | 64 => 9#32
  | 65 => 11#32
  | 66 => 11#32
  | 67 => 7#32
  | 68 => 7#32
  | 69 => 11#32
  | 70 => 11#32
  | 71 => 7#32
  | 72 => 7#32
  | 73 => 7#32
  | 74 => 7#32
  | 75 => 9#32
  | 76 => 9#32
  | 77 => 11#32
  | 78 => 7#32
  | 79 => 11#32
  | 80 => 7#32
  | 81 => 11#32
  | 82 => 9#32
  | 83 => 11#32
  | 84 => 7#32
  | 85 => 9#32
  | 86 => 9#32
  | 87 => 9#32
  | 88 => 7#32
  | 89 => 9#32
  | 90 => 11#32
  | 91 => 11#32
  | 92 => 9#32
  | 93 => 11#32
  | 94 => 7#32
  | 95 => 9#32
  | 96 => 11#32
  | 97 => 11#32
  | 98 => 11#32
  | 99 => 9#32
  | 100 => 7#32
  | 101 => 11#32
  | 102 => 11#32
  | 103 => 11#32
  | 104 => 11#32
  | 105 => 7#32
  | 106 => 11#32
  | 107 => 11#32
  | 108 => 11#32
  | 109 => 11#32
  | 110 => 11#32
  | 111 => 11#32
  | 112 => 9#32
  | 113 => 11#32
  | 114 => 11#32
  | 115 => 7#32
  | 116 => 9#32
  | 117 => 9#32
  | 118 => 7#32
  | 119 => 9#32
  | 120 => 11#32
  | 121 => 11#32
  | 122 => 7#32
  | 123 => 7#32
  | 124 => 7#32
  | 125 => 9#32
  | 126 => 11#32
  | 127 => 11#32
  | _ => 0#32

noncomputable abbrev lit1t0_22 (i : Nat) : BitVec 32 := match i % 128 with
  | 0 => 11#32
  | 1 => 7#32
  | 2 => 9#32
  | 3 => 11#32
  | 4 => 7#32
  | 5 => 9#32
  | 6 => 11#32
  | 7 => 11#32
  | 8 => 7#32
  | 9 => 11#32
  | 10 => 7#32
  | 11 => 11#32
  | 12 => 7#32
  | 13 => 7#32
  | 14 => 7#32
  | 15 => 11#32
  | 16 => 9#32
  | 17 => 11#32
  | 18 => 7#32
  | 19 => 11#32
  | 20 => 11#32
  | 21 => 9#32
  | 22 => 9#32
  | 23 => 9#32
  | 24 => 9#32
  | 25 => 9#32
  | 26 => 11#32
  | 27 => 7#32
  | 28 => 11#32
  | 29 => 11#32
  | 30 => 11#32
  | 31 => 11#32
  | 32 => 11#32
  | 33 => 9#32
  | 34 => 9#32
  | 35 => 11#32
  | 36 => 7#32
  | 37 => 11#32
  | 38 => 11#32
  | 39 => 7#32
  | 40 => 9#32
  | 41 => 11#32
  | 42 => 7#32
  | 43 => 7#32
  | 44 => 11#32
  | 45 => 7#32
  | 46 => 11#32
  | 47 => 7#32
  | 48 => 9#32
  | 49 => 11#32
  | 50 => 11#32
  | 51 => 7#32
  | 52 => 9#32
  | 53 => 7#32
  | 54 => 7#32
  | 55 => 9#32
  | 56 => 9#32
  | 57 => 11#32
  | 58 => 11#32
  | 59 => 7#32
  | 60 => 11#32
  | 61 => 11#32
  | 62 => 7#32
  | 63 => 7#32
  | 64 => 11#32
  | 65 => 11#32
  | 66 => 7#32
  | 67 => 7#32
  | 68 => 7#32
  | 69 => 7#32
  | 70 => 11#32
  | 71 => 11#32
  | 72 => 11#32
  | 73 => 9#32
  | 74 => 9#32
  | 75 => 7#32
  | 76 => 9#32
  | 77 => 7#32
  | 78 => 11#32
  | 79 => 9#32
  | 80 => 9#32
  | 81 => 9#32
  | 82 => 11#32
  | 83 => 9#32
  | 84 => 11#32
  | 85 => 11#32
  | 86 => 11#32
  | 87 => 7#32
  | 88 => 9#32
  | 89 => 7#32
  | 90 => 7#32
  | 91 => 7#32
  | 92 => 9#32
  | 93 => 11#32
  | 94 => 11#32
  | 95 => 9#32
  | 96 => 11#32
  | 97 => 11#32
  | 98 => 7#32
  | 99 => 7#32
  | 100 => 9#32
  | 101 => 7#32
  | 102 => 9#32
  | 103 => 7#32
  | 104 => 7#32
  | 105 => 7#32
  | 106 => 9#32
  | 107 => 11#32
  | 108 => 9#32
  | 109 => 11#32
  | 110 => 7#32
  | 111 => 7#32
  | 112 => 7#32
  | 113 => 7#32
  | 114 => 9#32
  | 115 => 11#32
  | 116 => 9#32
  | 117 => 9#32
  | 118 => 7#32
  | 119 => 11#32
  | 120 => 11#32
  | 121 => 9#32
  | 122 => 9#32
  | 123 => 9#32
  | 124 => 7#32
  | 125 => 7#32
  | 126 => 11#32
  | 127 => 11#32
  | _ => 0#32

noncomputable abbrev lit1t0_23 (i : Nat) : BitVec 32 := match i % 128 with
  | 0 => 11#32
  | 1 => 7#32
  | 2 => 9#32
  | 3 => 9#32
  | 4 => 11#32
  | 5 => 9#32
  | 6 => 11#32
  | 7 => 11#32
  | 8 => 7#32
  | 9 => 11#32
  | 10 => 9#32
  | 11 => 7#32
  | 12 => 11#32
  | 13 => 11#32
  | 14 => 11#32
  | 15 => 11#32
  | 16 => 9#32
  | 17 => 9#32
  | 18 => 11#32
  | 19 => 9#32
  | 20 => 11#32
  | 21 => 9#32
  | 22 => 7#32
  | 23 => 7#32
  | 24 => 11#32
  | 25 => 7#32
  | 26 => 7#32
  | 27 => 11#32
  | 28 => 9#32
  | 29 => 9#32
  | 30 => 11#32
  | 31 => 7#32
  | 32 => 11#32
  | 33 => 9#32
  | 34 => 9#32
  | 35 => 9#32
  | 36 => 9#32
  | 37 => 11#32
  | 38 => 11#32
  | 39 => 9#32
  | 40 => 7#32
  | 41 => 7#32
  | 42 => 9#32
  | 43 => 11#32
  | 44 => 7#32
  | 45 => 7#32
  | 46 => 7#32
  | 47 => 11#32
  | 48 => 11#32
  | 49 => 11#32
  | 50 => 11#32
  | 51 => 11#32
  | 52 => 9#32
  | 53 => 11#32
  | 54 => 7#32
  | 55 => 9#32
  | 56 => 7#32
  | 57 => 7#32
  | 58 => 9#32
  | 59 => 9#32
  | 60 => 11#32
  | 61 => 7#32
  | 62 => 7#32
  | 63 => 7#32
  | 64 => 9#32
  | 65 => 7#32
  | 66 => 11#32
  | 67 => 9#32
  | 68 => 7#32
  | 69 => 11#32
  | 70 => 9#32
  | 71 => 7#32
  | 72 => 11#32
  | 73 => 7#32
  | 74 => 7#32
  | 75 => 9#32
  | 76 => 7#32
  | 77 => 11#32
  | 78 => 7#32
  | 79 => 9#32
  | 80 => 11#32
  | 81 => 9#32
  | 82 => 9#32
  | 83 => 11#32
  | 84 => 11#32
  | 85 => 11#32
  | 86 => 9#32
  | 87 => 11#32
  | 88 => 7#32
  | 89 => 11#32
  | 90 => 7#32
  | 91 => 9#32
  | 92 => 9#32
  | 93 => 9#32
  | 94 => 9#32
  | 95 => 11#32
  | 96 => 11#32
  | 97 => 9#32
  | 98 => 9#32
  | 99 => 9#32
  | 100 => 11#32
  | 101 => 7#32
  | 102 => 11#32
  | 103 => 7#32
  | 104 => 9#32
  | 105 => 11#32
  | 106 => 11#32
  | 107 => 11#32
  | 108 => 9#32
  | 109 => 7#32
  | 110 => 9#32
  | 111 => 7#32
  | 112 => 7#32
  | 113 => 11#32
  | 114 => 11#32
  | 115 => 7#32
  | 116 => 11#32
  | 117 => 9#32
  | 118 => 9#32
  | 119 => 7#32
  | 120 => 11#32
  | 121 => 9#32
  | 122 => 9#32
  | 123 => 7#32
  | 124 => 11#32
  | 125 => 7#32
  | 126 => 7#32
  | 127 => 11#32
  | _ => 0#32

noncomputable abbrev lit1t0_24 (i : Nat) : BitVec 32 := match i % 128 with
  | 0 => 11#32
  | 1 => 7#32
  | 2 => 9#32
  | 3 => 11#32
  | 4 => 7#32
  | 5 => 7#32
  | 6 => 9#32
  | 7 => 11#32
  | 8 => 7#32
  | 9 => 7#32
  | 10 => 7#32
  | 11 => 7#32
  | 12 => 7#32
  | 13 => 11#32
  | 14 => 9#32
  | 15 => 7#32
  | 16 => 7#32
  | 17 => 11#32
  | 18 => 11#32
  | 19 => 7#32
  | 20 => 11#32
  | 21 => 9#32
  | 22 => 11#32
  | 23 => 11#32
  | 24 => 9#32
  | 25 => 7#32
  | 26 => 11#32
  | 27 => 9#32
  | 28 => 9#32
  | 29 => 9#32
  | 30 => 9#32
  | 31 => 9#32
  | 32 => 9#32
  | 33 => 9#32
  | 34 => 7#32
  | 35 => 7#32
  | 36 => 7#32
  | 37 => 11#32
  | 38 => 9#32
  | 39 => 7#32
  | 40 => 7#32
  | 41 => 11#32
  | 42 => 11#32
  | 43 => 7#32
  | 44 => 11#32
  | 45 => 7#32
  | 46 => 11#32
  | 47 => 11#32
  | 48 => 7#32
  | 49 => 11#32
  | 50 => 11#32
  | 51 => 9#32
  | 52 => 11#32
  | 53 => 7#32
  | 54 => 11#32
  | 55 => 7#32
  | 56 => 9#32
  | 57 => 7#32
  | 58 => 11#32
  | 59 => 11#32
  | 60 => 7#32
  | 61 => 9#32
  | 62 => 7#32
  | 63 => 11#32
  | 64 => 11#32
  | 65 => 11#32
  | 66 => 9#32
  | 67 => 9#32
  | 68 => 11#32
  | 69 => 11#32
  | 70 => 11#32
  | 71 => 11#32
  | 72 => 9#32
  | 73 => 9#32
  | 74 => 9#32
  | 75 => 9#32
  | 76 => 9#32
  | 77 => 9#32
  | 78 => 7#32
  | 79 => 7#32
  | 80 => 7#32
  | 81 => 7#32
  | 82 => 9#32
  | 83 => 9#32
  | 84 => 7#32
  | 85 => 9#32
  | 86 => 9#32
  | 87 => 7#32
  | 88 => 11#32
  | 89 => 7#32
  | 90 => 7#32
  | 91 => 11#32
  | 92 => 9#32
  | 93 => 9#32
  | 94 => 9#32
  | 95 => 9#32
  | 96 => 7#32
  | 97 => 11#32
  | 98 => 9#32
  | 99 => 9#32
  | 100 => 11#32
  | 101 => 11#32
  | 102 => 7#32
  | 103 => 7#32
  | 104 => 11#32
  | 105 => 7#32
  | 106 => 9#32
  | 107 => 7#32
  | 108 => 11#32
  | 109 => 11#32
  | 110 => 11#32
  | 111 => 11#32
  | 112 => 9#32
  | 113 => 7#32
  | 114 => 7#32
  | 115 => 11#32
  | 116 => 9#32
  | 117 => 11#32
  | 118 => 9#32
  | 119 => 9#32
  | 120 => 7#32
  | 121 => 9#32
  | 122 => 9#32
  | 123 => 11#32
  | 124 => 9#32
  | 125 => 11#32
  | 126 => 7#32
  | 127 => 7#32
  | _ => 0#32

noncomputable abbrev lit1t0_25 (i : Nat) : BitVec 32 := match i % 128 with
  | 0 => 9#32
  | 1 => 9#32
  | 2 => 11#32
  | 3 => 11#32
  | 4 => 9#32
  | 5 => 9#32
  | 6 => 9#32
  | 7 => 9#32
  | 8 => 7#32
  | 9 => 11#32
  | 10 => 11#32
  | 11 => 9#32
  | 12 => 9#32
  | 13 => 9#32
  | 14 => 9#32
  | 15 => 7#32
  | 16 => 9#32
  | 17 => 11#32
  | 18 => 7#32
  | 19 => 11#32
  | 20 => 9#32
  | 21 => 11#32
  | 22 => 11#32
  | 23 => 11#32
  | 24 => 9#32
  | 25 => 9#32
  | 26 => 9#32
  | 27 => 11#32
  | 28 => 11#32
  | 29 => 9#32
  | 30 => 11#32
  | 31 => 7#32
  | 32 => 7#32
  | 33 => 7#32
  | 34 => 9#32
  | 35 => 9#32
  | 36 => 11#32
  | 37 => 11#32
  | 38 => 7#32
  | 39 => 9#32
  | 40 => 11#32
  | 41 => 7#32
  | 42 => 9#32
  | 43 => 7#32
  | 44 => 7#32
  | 45 => 9#32
  | 46 => 11#32
  | 47 => 7#32
  | 48 => 9#32
  | 49 => 9#32
  | 50 => 11#32
  | 51 => 7#32
  | 52 => 9#32
  | 53 => 9#32
  | 54 => 9#32
  | 55 => 7#32
  | 56 => 7#32
  | 57 => 9#32
  | 58 => 7#32
  | 59 => 9#32
  | 60 => 9#32
  | 61 => 9#32
  | 62 => 7#32
  | 63 => 7#32
  | 64 => 7#32
  | 65 => 11#32
  | 66 => 7#32
  | 67 => 11#32
  | 68 => 11#32
  | 69 => 7#32
  | 70 => 11#32
  | 71 => 7#32
  | 72 => 7#32
  | 73 => 7#32
  | 74 => 7#32
  | 75 => 9#32
  | 76 => 7#32
  | 77 => 7#32
  | 78 => 9#32
  | 79 => 7#32
  | 80 => 7#32
  | 81 => 9#32
  | 82 => 9#32
  | 83 => 7#32
  | 84 => 7#32
  | 85 => 7#32
  | 86 => 9#32
  | 87 => 11#32
  | 88 => 9#32
  | 89 => 7#32
  | 90 => 7#32
  | 91 => 7#32
  | 92 => 9#32
  | 93 => 11#32
  | 94 => 7#32
  | 95 => 11#32
  | 96 => 9#32
  | 97 => 9#32
  | 98 => 9#32
  | 99 => 11#32
  | 100 => 9#32
  | 101 => 7#32
  | 102 => 9#32
  | 103 => 9#32
  | 104 => 7#32
  | 105 => 7#32
  | 106 => 11#32
  | 107 => 9#32
  | 108 => 9#32
  | 109 => 7#32
  | 110 => 11#32
  | 111 => 11#32
  | 112 => 11#32
  | 113 => 7#32
  | 114 => 7#32
  | 115 => 11#32
  | 116 => 11#32
  | 117 => 11#32
  | 118 => 7#32
  | 119 => 11#32
  | 120 => 7#32
  | 121 => 11#32
  | 122 => 11#32
  | 123 => 7#32
  | 124 => 9#32
  | 125 => 7#32
  | 126 => 9#32
  | 127 => 11#32
  | _ => 0#32

noncomputable abbrev lit1t0_26 (i : Nat) : BitVec 32 := match i % 128 with
  | 0 => 9#32
  | 1 => 9#32
  | 2 => 11#32
  | 3 => 7#32
  | 4 => 9#32
  | 5 => 11#32
  | 6 => 9#32
  | 7 => 7#32
  | 8 => 9#32
  | 9 => 11#32
  | 10 => 11#32
  | 11 => 11#32
  | 12 => 7#32
  | 13 => 9#32
  | 14 => 11#32
  | 15 => 11#32
  | 16 => 9#32
  | 17 => 9#32
  | 18 => 7#32
  | 19 => 7#32
  | 20 => 11#32
  | 21 => 11#32
  | 22 => 7#32
  | 23 => 9#32
  | 24 => 11#32
  | 25 => 7#32
  | 26 => 7#32
  | 27 => 9#32
  | 28 => 11#32
  | 29 => 7#32
  | 30 => 7#32
  | 31 => 7#32
  | 32 => 11#32
  | 33 => 9#32
  | 34 => 7#32
  | 35 => 9#32
  | 36 => 9#32
  | 37 => 9#32
  | 38 => 7#32
  | 39 => 7#32
  | 40 => 11#32
  | 41 => 11#32
  | 42 => 11#32
  | 43 => 7#32
  | 44 => 7#32
  | 45 => 7#32
  | 46 => 11#32
  | 47 => 9#32
  | 48 => 9#32
  | 49 => 11#32
  | 50 => 9#32
  | 51 => 7#32
  | 52 => 7#32
  | 53 => 11#32
  | 54 => 9#32
  | 55 => 7#32
  | 56 => 11#32
  | 57 => 7#32
  | 58 => 11#32
  | 59 => 11#32
  | 60 => 7#32
  | 61 => 9#32
  | 62 => 7#32
  | 63 => 9#32
  | 64 => 11#32
  | 65 => 11#32
  | 66 => 9#32
  | 67 => 9#32
  | 68 => 9#32
  | 69 => 11#32
  | 70 => 7#32
  | 71 => 7#32
  | 72 => 7#32
  | 73 => 9#32
  | 74 => 7#32
  | 75 => 7#32
  | 76 => 9#32
  | 77 => 7#32
  | 78 => 9#32
  | 79 => 9#32
  | 80 => 11#32
  | 81 => 9#32
  | 82 => 11#32
  | 83 => 9#32
  | 84 => 9#32
  | 85 => 7#32
  | 86 => 11#32
  | 87 => 9#32
  | 88 => 7#32
  | 89 => 7#32
  | 90 => 7#32
  | 91 => 11#32
  | 92 => 9#32
  | 93 => 9#32
  | 94 => 9#32
  | 95 => 11#32
  | 96 => 9#32
  | 97 => 11#32
  | 98 => 11#32
  | 99 => 7#32
  | 100 => 7#32
  | 101 => 9#32
  | 102 => 9#32
  | 103 => 11#32
  | 104 => 11#32
  | 105 => 9#32
  | 106 => 7#32
  | 107 => 7#32
  | 108 => 9#32
  | 109 => 11#32
  | 110 => 9#32
  | 111 => 11#32
  | 112 => 11#32
  | 113 => 11#32
  | 114 => 11#32
  | 115 => 9#32
  | 116 => 11#32
  | 117 => 11#32
  | 118 => 9#32
  | 119 => 9#32
  | 120 => 9#32
  | 121 => 9#32
  | 122 => 7#32
  | 123 => 11#32
  | 124 => 9#32
  | 125 => 7#32
  | 126 => 7#32
  | 127 => 11#32
  | _ => 0#32

noncomputable abbrev lit1t0_27 (i : Nat) : BitVec 32 := match i % 128 with
  | 0 => 11#32
  | 1 => 7#32
  | 2 => 9#32
  | 3 => 9#32
  | 4 => 11#32
  | 5 => 11#32
  | 6 => 7#32
  | 7 => 7#32
  | 8 => 11#32
  | 9 => 9#32
  | 10 => 7#32
  | 11 => 9#32
  | 12 => 11#32
  | 13 => 7#32
  | 14 => 11#32
  | 15 => 11#32
  | 16 => 11#32
  | 17 => 7#32
  | 18 => 11#32
  | 19 => 9#32
  | 20 => 7#32
  | 21 => 9#32
  | 22 => 11#32
  | 23 => 7#32
  | 24 => 9#32
  | 25 => 7#32
  | 26 => 7#32
  | 27 => 11#32
  | 28 => 7#32
  | 29 => 7#32
  | 30 => 9#32
  | 31 => 9#32
  | 32 => 7#32
  | 33 => 11#32
  | 34 => 11#32
  | 35 => 11#32
  | 36 => 9#32
  | 37 => 9#32
  | 38 => 11#32
  | 39 => 7#32
  | 40 => 11#32
  | 41 => 7#32
  | 42 => 11#32
  | 43 => 11#32
  | 44 => 7#32
  | 45 => 9#32
  | 46 => 9#32
  | 47 => 11#32
  | 48 => 11#32
  | 49 => 9#32
  | 50 => 7#32
  | 51 => 11#32
  | 52 => 11#32
  | 53 => 9#32
  | 54 => 9#32
  | 55 => 7#32
  | 56 => 11#32
  | 57 => 9#32
  | 58 => 11#32
  | 59 => 11#32
  | 60 => 11#32
  | 61 => 7#32
  | 62 => 11#32
  | 63 => 7#32
  | 64 => 11#32
  | 65 => 9#32
  | 66 => 9#32
  | 67 => 9#32
  | 68 => 9#32
  | 69 => 11#32
  | 70 => 7#32
  | 71 => 9#32
  | 72 => 7#32
  | 73 => 9#32
  | 74 => 11#32
  | 75 => 11#32
  | 76 => 9#32
  | 77 => 9#32
  | 78 => 11#32
  | 79 => 11#32
  | 80 => 11#32
  | 81 => 7#32
  | 82 => 9#32
  | 83 => 11#32
  | 84 => 9#32
  | 85 => 7#32
  | 86 => 11#32
  | 87 => 9#32
  | 88 => 9#32
  | 89 => 7#32
  | 90 => 9#32
  | 91 => 7#32
  | 92 => 11#32
  | 93 => 11#32
  | 94 => 11#32
  | 95 => 11#32
  | 96 => 7#32
  | 97 => 7#32
  | 98 => 11#32
  | 99 => 11#32
  | 100 => 9#32
  | 101 => 9#32
  | 102 => 9#32
  | 103 => 11#32
  | 104 => 9#32
  | 105 => 11#32
  | 106 => 9#32
  | 107 => 9#32
  | 108 => 9#32
  | 109 => 7#32
  | 110 => 9#32
  | 111 => 9#32
  | 112 => 9#32
  | 113 => 9#32
  | 114 => 9#32
  | 115 => 9#32
  | 116 => 11#32
  | 117 => 7#32
  | 118 => 11#32
  | 119 => 7#32
  | 120 => 7#32
  | 121 => 7#32
  | 122 => 11#32
  | 123 => 11#32
  | 124 => 11#32
  | 125 => 7#32
  | 126 => 7#32
  | 127 => 11#32
  | _ => 0#32

noncomputable abbrev lit1t0_28 (i : Nat) : BitVec 32 := match i % 128 with
  | 0 => 9#32
  | 1 => 7#32
  | 2 => 9#32
  | 3 => 11#32
  | 4 => 7#32
  | 5 => 7#32
  | 6 => 11#32
  | 7 => 7#32
  | 8 => 7#32
  | 9 => 11#32
  | 10 => 11#32
  | 11 => 7#32
  | 12 => 9#32
  | 13 => 7#32
  | 14 => 11#32
  | 15 => 9#32
  | 16 => 11#32
  | 17 => 7#32
  | 18 => 9#32
  | 19 => 9#32
  | 20 => 7#32
  | 21 => 7#32
  | 22 => 11#32
  | 23 => 9#32
  | 24 => 11#32
  | 25 => 9#32
  | 26 => 11#32
  | 27 => 7#32
  | 28 => 11#32
  | 29 => 7#32
  | 30 => 7#32
  | 31 => 9#32
  | 32 => 9#32
  | 33 => 7#32
  | 34 => 11#32
  | 35 => 11#32
  | 36 => 7#32
  | 37 => 9#32
  | 38 => 7#32
  | 39 => 7#32
  | 40 => 9#32
  | 41 => 11#32
  | 42 => 11#32
  | 43 => 7#32
  | 44 => 9#32
  | 45 => 9#32
  | 46 => 7#32
  | 47 => 7#32
  | 48 => 11#32
  | 49 => 9#32
  | 50 => 7#32
  | 51 => 7#32
  | 52 => 9#32
  | 53 => 7#32
  | 54 => 9#32
  | 55 => 11#32
  | 56 => 9#32
  | 57 => 9#32
  | 58 => 9#32
  | 59 => 7#32
  | 60 => 7#32
  | 61 => 11#32
  | 62 => 7#32
  | 63 => 7#32
  | 64 => 9#32
  | 65 => 9#32
  | 66 => 9#32
  | 67 => 7#32
  | 68 => 9#32
  | 69 => 9#32
  | 70 => 11#32
  | 71 => 9#32
  | 72 => 11#32
  | 73 => 11#32
  | 74 => 7#32
  | 75 => 11#32
  | 76 => 7#32
  | 77 => 9#32
  | 78 => 9#32
  | 79 => 7#32
  | 80 => 11#32
  | 81 => 7#32
  | 82 => 9#32
  | 83 => 7#32
  | 84 => 7#32
  | 85 => 7#32
  | 86 => 7#32
  | 87 => 7#32
  | 88 => 9#32
  | 89 => 9#32
  | 90 => 7#32
  | 91 => 7#32
  | 92 => 11#32
  | 93 => 9#32
  | 94 => 7#32
  | 95 => 7#32
  | 96 => 11#32
  | 97 => 11#32
  | 98 => 11#32
  | 99 => 11#32
  | 100 => 9#32
  | 101 => 7#32
  | 102 => 7#32
  | 103 => 11#32
  | 104 => 11#32
  | 105 => 9#32
  | 106 => 11#32
  | 107 => 11#32
  | 108 => 11#32
  | 109 => 7#32
  | 110 => 7#32
  | 111 => 7#32
  | 112 => 9#32
  | 113 => 11#32
  | 114 => 11#32
  | 115 => 7#32
  | 116 => 11#32
  | 117 => 9#32
  | 118 => 11#32
  | 119 => 7#32
  | 120 => 11#32
  | 121 => 7#32
  | 122 => 9#32
  | 123 => 7#32
  | 124 => 11#32
  | 125 => 9#32
  | 126 => 9#32
  | 127 => 9#32
  | _ => 0#32

noncomputable abbrev lit1t0_29 (i : Nat) : BitVec 32 := match i % 128 with
  | 0 => 7#32
  | 1 => 11#32
  | 2 => 11#32
  | 3 => 11#32
  | 4 => 9#32
  | 5 => 11#32
  | 6 => 7#32
  | 7 => 7#32
  | 8 => 7#32
  | 9 => 7#32
  | 10 => 9#32
  | 11 => 9#32
  | 12 => 7#32
  | 13 => 7#32
  | 14 => 9#32
  | 15 => 7#32
  | 16 => 11#32
  | 17 => 7#32
  | 18 => 11#32
  | 19 => 9#32
  | 20 => 9#32
  | 21 => 9#32
  | 22 => 11#32
  | 23 => 11#32
  | 24 => 9#32
  | 25 => 9#32
  | 26 => 7#32
  | 27 => 11#32
  | 28 => 7#32
  | 29 => 7#32
  | 30 => 7#32
  | 31 => 7#32
  | 32 => 7#32
  | 33 => 11#32
  | 34 => 9#32
  | 35 => 9#32
  | 36 => 9#32
  | 37 => 9#32
  | 38 => 9#32
  | 39 => 7#32
  | 40 => 7#32
  | 41 => 9#32
  | 42 => 7#32
  | 43 => 7#32
  | 44 => 7#32
  | 45 => 11#32
  | 46 => 9#32
  | 47 => 9#32
  | 48 => 7#32
  | 49 => 7#32
  | 50 => 7#32
  | 51 => 11#32
  | 52 => 11#32
  | 53 => 9#32
  | 54 => 11#32
  | 55 => 9#32
  | 56 => 9#32
  | 57 => 7#32
  | 58 => 7#32
  | 59 => 9#32
  | 60 => 7#32
  | 61 => 9#32
  | 62 => 7#32
  | 63 => 9#32
  | 64 => 9#32
  | 65 => 11#32
  | 66 => 11#32
  | 67 => 9#32
  | 68 => 7#32
  | 69 => 7#32
  | 70 => 7#32
  | 71 => 7#32
  | 72 => 11#32
  | 73 => 7#32
  | 74 => 9#32
  | 75 => 9#32
  | 76 => 11#32
  | 77 => 7#32
  | 78 => 9#32
  | 79 => 7#32
  | 80 => 7#32
  | 81 => 7#32
  | 82 => 7#32
  | 83 => 9#32
  | 84 => 11#32
  | 85 => 7#32
  | 86 => 7#32
  | 87 => 7#32
  | 88 => 9#32
  | 89 => 7#32
  | 90 => 11#32
  | 91 => 7#32
  | 92 => 7#32
  | 93 => 7#32
  | 94 => 11#32
  | 95 => 7#32
  | 96 => 9#32
  | 97 => 11#32
  | 98 => 9#32
  | 99 => 7#32
  | 100 => 7#32
  | 101 => 11#32
  | 102 => 9#32
  | 103 => 11#32
  | 104 => 7#32
  | 105 => 11#32
  | 106 => 7#32
  | 107 => 11#32
  | 108 => 9#32
  | 109 => 7#32
  | 110 => 9#32
  | 111 => 11#32
  | 112 => 9#32
  | 113 => 11#32
  | 114 => 11#32
  | 115 => 9#32
  | 116 => 7#32
  | 117 => 9#32
  | 118 => 7#32
  | 119 => 7#32
  | 120 => 11#32
  | 121 => 7#32
  | 122 => 11#32
  | 123 => 11#32
  | 124 => 11#32
  | 125 => 7#32
  | 126 => 7#32
  | 127 => 11#32
  | _ => 0#32

noncomputable abbrev lit1t0_30 (i : Nat) : BitVec 32 := match i % 128 with
  | 0 => 9#32
  | 1 => 7#32
  | 2 => 7#32
  | 3 => 11#32
  | 4 => 7#32
  | 5 => 7#32
  | 6 => 7#32
  | 7 => 9#32
  | 8 => 9#32
  | 9 => 9#32
  | 10 => 11#32
  | 11 => 7#32
  | 12 => 7#32
  | 13 => 7#32
  | 14 => 11#32
  | 15 => 7#32
  | 16 => 9#32
  | 17 => 11#32
  | 18 => 7#32
  | 19 => 11#32
  | 20 => 11#32
  | 21 => 7#32
  | 22 => 9#32
  | 23 => 11#32
  | 24 => 11#32
  | 25 => 11#32
  | 26 => 11#32
  | 27 => 11#32
  | 28 => 9#32
  | 29 => 9#32
  | 30 => 9#32
  | 31 => 7#32
  | 32 => 7#32
  | 33 => 11#32
  | 34 => 9#32
  | 35 => 11#32
  | 36 => 9#32
  | 37 => 9#32
  | 38 => 9#32
  | 39 => 7#32
  | 40 => 11#32
  | 41 => 9#32
  | 42 => 7#32
  | 43 => 7#32
  | 44 => 7#32
  | 45 => 11#32
  | 46 => 9#32
  | 47 => 11#32
  | 48 => 9#32
  | 49 => 9#32
  | 50 => 7#32
  | 51 => 7#32
  | 52 => 9#32
  | 53 => 7#32
  | 54 => 9#32
  | 55 => 11#32
  | 56 => 11#32
  | 57 => 11#32
  | 58 => 7#32
  | 59 => 9#32
  | 60 => 9#32
  | 61 => 7#32
  | 62 => 11#32
  | 63 => 9#32
  | 64 => 7#32
  | 65 => 7#32
  | 66 => 9#32
  | 67 => 9#32
  | 68 => 9#32
  | 69 => 9#32
  | 70 => 9#32
  | 71 => 9#32
  | 72 => 7#32
  | 73 => 7#32
  | 74 => 7#32
  | 75 => 11#32
  | 76 => 9#32
  | 77 => 7#32
  | 78 => 7#32
  | 79 => 7#32
  | 80 => 9#32
  | 81 => 9#32
  | 82 => 7#32
  | 83 => 9#32
  | 84 => 7#32
  | 85 => 7#32
  | 86 => 11#32
  | 87 => 7#32
  | 88 => 11#32
  | 89 => 7#32
  | 90 => 11#32
  | 91 => 11#32
  | 92 => 7#32
  | 93 => 7#32
  | 94 => 11#32
  | 95 => 9#32
  | 96 => 7#32
  | 97 => 7#32
  | 98 => 7#32
  | 99 => 9#32
  | 100 => 11#32
  | 101 => 11#32
  | 102 => 7#32
  | 103 => 11#32
  | 104 => 11#32
  | 105 => 9#32
  | 106 => 9#32
  | 107 => 7#32
  | 108 => 11#32
  | 109 => 11#32
  | 110 => 9#32
  | 111 => 9#32
  | 112 => 7#32
  | 113 => 11#32
  | 114 => 11#32
  | 115 => 7#32
  | 116 => 9#32
  | 117 => 7#32
  | 118 => 9#32
  | 119 => 7#32
  | 120 => 7#32
  | 121 => 9#32
  | 122 => 7#32
  | 123 => 9#32
  | 124 => 11#32
  | 125 => 9#32
  | 126 => 9#32
  | 127 => 9#32
  | _ => 0#32

noncomputable abbrev lit1t0_31 (i : Nat) : BitVec 32 := match i % 128 with
  | 0 => 9#32
  | 1 => 9#32
  | 2 => 7#32
  | 3 => 9#32
  | 4 => 7#32
  | 5 => 7#32
  | 6 => 7#32
  | 7 => 9#32
  | 8 => 7#32
  | 9 => 7#32
  | 10 => 11#32
  | 11 => 11#32
  | 12 => 7#32
  | 13 => 11#32
  | 14 => 9#32
  | 15 => 7#32
  | 16 => 11#32
  | 17 => 11#32
  | 18 => 9#32
  | 19 => 7#32
  | 20 => 9#32
  | 21 => 9#32
  | 22 => 7#32
  | 23 => 7#32
  | 24 => 11#32
  | 25 => 11#32
  | 26 => 9#32
  | 27 => 9#32
  | 28 => 9#32
  | 29 => 7#32
  | 30 => 7#32
  | 31 => 7#32
  | 32 => 9#32
  | 33 => 11#32
  | 34 => 9#32
  | 35 => 7#32
  | 36 => 11#32
  | 37 => 11#32
  | 38 => 9#32
  | 39 => 7#32
  | 40 => 7#32
  | 41 => 7#32
  | 42 => 9#32
  | 43 => 9#32
  | 44 => 7#32
  | 45 => 11#32
  | 46 => 11#32
  | 47 => 9#32
  | 48 => 9#32
  | 49 => 9#32
  | 50 => 7#32
  | 51 => 7#32
  | 52 => 9#32
  | 53 => 7#32
  | 54 => 9#32
  | 55 => 7#32
  | 56 => 11#32
  | 57 => 9#32
  | 58 => 11#32
  | 59 => 9#32
  | 60 => 9#32
  | 61 => 7#32
  | 62 => 11#32
  | 63 => 11#32
  | 64 => 11#32
  | 65 => 11#32
  | 66 => 7#32
  | 67 => 11#32
  | 68 => 7#32
  | 69 => 7#32
  | 70 => 9#32
  | 71 => 11#32
  | 72 => 11#32
  | 73 => 9#32
  | 74 => 11#32
  | 75 => 11#32
  | 76 => 11#32
  | 77 => 7#32
  | 78 => 7#32
  | 79 => 11#32
  | 80 => 11#32
  | 81 => 7#32
  | 82 => 7#32
  | 83 => 11#32
  | 84 => 9#32
  | 85 => 11#32
  | 86 => 11#32
  | 87 => 11#32
  | 88 => 9#32
  | 89 => 7#32
  | 90 => 11#32
  | 91 => 11#32
  | 92 => 9#32
  | 93 => 9#32
  | 94 => 7#32
  | 95 => 7#32
  | 96 => 9#32
  | 97 => 7#32
  | 98 => 11#32
  | 99 => 7#32
  | 100 => 11#32
  | 101 => 11#32
  | 102 => 7#32
  | 103 => 9#32
  | 104 => 11#32
  | 105 => 7#32
  | 106 => 11#32
  | 107 => 9#32
  | 108 => 7#32
  | 109 => 7#32
  | 110 => 7#32
  | 111 => 7#32
  | 112 => 11#32
  | 113 => 7#32
  | 114 => 9#32
  | 115 => 9#32
  | 116 => 11#32
  | 117 => 7#32
  | 118 => 7#32
  | 119 => 9#32
  | 120 => 7#32
  | 121 => 9#32
  | 122 => 7#32
  | 123 => 7#32
  | 124 => 9#32
  | 125 => 7#32
  | 126 => 7#32
  | 127 => 9#32
  | _ => 0#32

noncomputable abbrev lit1t0_32 (i : Nat) : BitVec 32 := match i % 128 with
  | 0 => 9#32
  | 1 => 7#32
  | 2 => 7#32
  | 3 => 11#32
  | 4 => 11#32
  | 5 => 7#32
  | 6 => 7#32
  | 7 => 9#32
  | 8 => 11#32
  | 9 => 11#32
  | 10 => 11#32
  | 11 => 11#32
  | 12 => 9#32
  | 13 => 9#32
  | 14 => 7#32
  | 15 => 9#32
  | 16 => 7#32
  | 17 => 7#32
  | 18 => 7#32
  | 19 => 9#32
  | 20 => 7#32
  | 21 => 9#32
  | 22 => 9#32
  | 23 => 9#32
  | 24 => 11#32
  | 25 => 7#32
  | 26 => 7#32
  | 27 => 9#32
  | 28 => 11#32
  | 29 => 7#32
  | 30 => 9#32
  | 31 => 9#32
  | 32 => 7#32
  | 33 => 9#32
  | 34 => 9#32
  | 35 => 11#32
  | 36 => 9#32
  | 37 => 7#32
  | 38 => 9#32
  | 39 => 9#32
  | 40 => 11#32
  | 41 => 7#32
  | 42 => 7#32
  | 43 => 9#32
  | 44 => 7#32
  | 45 => 11#32
  | 46 => 11#32
  | 47 => 9#32
  | 48 => 9#32
  | 49 => 9#32
  | 50 => 11#32
  | 51 => 11#32
  | 52 => 9#32
  | 53 => 11#32
  | 54 => 7#32
  | 55 => 9#32
  | 56 => 9#32
  | 57 => 7#32
  | 58 => 11#32
  | 59 => 9#32
  | 60 => 7#32
  | 61 => 7#32
  | 62 => 11#32
  | 63 => 11#32
  | 64 => 9#32
  | 65 => 9#32
  | 66 => 9#32
  | 67 => 9#32
  | 68 => 11#32
  | 69 => 7#32
  | 70 => 11#32
  | 71 => 11#32
  | 72 => 9#32
  | 73 => 7#32
  | 74 => 11#32
  | 75 => 9#32
  | 76 => 7#32
  | 77 => 9#32
  | 78 => 7#32
  | 79 => 7#32
  | 80 => 9#32
  | 81 => 11#32
  | 82 => 11#32
  | 83 => 9#32
  | 84 => 9#32
  | 85 => 9#32
  | 86 => 11#32
  | 87 => 7#32
  | 88 => 9#32
  | 89 => 7#32
  | 90 => 11#32
  | 91 => 11#32
  | 92 => 9#32
  | 93 => 7#32
  | 94 => 9#32
  | 95 => 7#32
  | 96 => 9#32
  | 97 => 9#32
  | 98 => 9#32
  | 99 => 7#32
  | 100 => 7#32
  | 101 => 11#32
  | 102 => 7#32
  | 103 => 7#32
  | 104 => 11#32
  | 105 => 7#32
  | 106 => 9#32
  | 107 => 9#32
  | 108 => 9#32
  | 109 => 11#32
  | 110 => 11#32
  | 111 => 7#32
  | 112 => 9#32
  | 113 => 7#32
  | 114 => 7#32
  | 115 => 9#32
  | 116 => 9#32
  | 117 => 9#32
  | 118 => 9#32
  | 119 => 9#32
  | 120 => 7#32
  | 121 => 7#32
  | 122 => 7#32
  | 123 => 11#32
  | 124 => 11#32
  | 125 => 11#32
  | 126 => 9#32
  | 127 => 9#32
  | _ => 0#32

noncomputable abbrev lit1t0_33 (i : Nat) : BitVec 32 := match i % 128 with
  | 0 => 7#32
  | 1 => 11#32
  | 2 => 7#32
  | 3 => 11#32
  | 4 => 9#32
  | 5 => 7#32
  | 6 => 7#32
  | 7 => 11#32
  | 8 => 11#32
  | 9 => 9#32
  | 10 => 11#32
  | 11 => 9#32
  | 12 => 7#32
  | 13 => 7#32
  | 14 => 11#32
  | 15 => 9#32
  | 16 => 9#32
  | 17 => 7#32
  | 18 => 11#32
  | 19 => 9#32
  | 20 => 9#32
  | 21 => 7#32
  | 22 => 9#32
  | 23 => 11#32
  | 24 => 7#32
  | 25 => 7#32
  | 26 => 7#32
  | 27 => 9#32
  | 28 => 9#32
  | 29 => 7#32
  | 30 => 9#32
  | 31 => 7#32
  | 32 => 11#32
  | 33 => 11#32
  | 34 => 9#32
  | 35 => 9#32
  | 36 => 7#32
  | 37 => 7#32
  | 38 => 11#32
  | 39 => 11#32
  | 40 => 11#32
  | 41 => 9#32
  | 42 => 9#32
  | 43 => 7#32
  | 44 => 9#32
  | 45 => 9#32
  | 46 => 7#32
  | 47 => 9#32
  | 48 => 11#32
  | 49 => 9#32
  | 50 => 7#32
  | 51 => 9#32
  | 52 => 11#32
  | 53 => 9#32
  | 54 => 9#32
  | 55 => 11#32
  | 56 => 7#32
  | 57 => 11#32
  | 58 => 11#32
  | 59 => 9#32
  | 60 => 7#32
  | 61 => 9#32
  | 62 => 7#32
  | 63 => 11#32
  | 64 => 11#32
  | 65 => 11#32
  | 66 => 11#32
  | 67 => 7#32
  | 68 => 11#32
  | 69 => 7#32
  | 70 => 9#32
  | 71 => 11#32
  | 72 => 11#32
  | 73 => 9#32
  | 74 => 11#32
  | 75 => 7#32
  | 76 => 9#32
  | 77 => 9#32
  | 78 => 9#32
  | 79 => 7#32
  | 80 => 9#32
  | 81 => 7#32
  | 82 => 9#32
  | 83 => 9#32
  | 84 => 11#32
  | 85 => 9#32
  | 86 => 11#32
  | 87 => 11#32
  | 88 => 9#32
  | 89 => 11#32
  | 90 => 7#32
  | 91 => 9#32
  | 92 => 9#32
  | 93 => 11#32
  | 94 => 7#32
  | 95 => 7#32
  | 96 => 9#32
  | 97 => 11#32
  | 98 => 7#32
  | 99 => 7#32
  | 100 => 7#32
  | 101 => 11#32
  | 102 => 9#32
  | 103 => 9#32
  | 104 => 11#32
  | 105 => 7#32
  | 106 => 9#32
  | 107 => 7#32
  | 108 => 9#32
  | 109 => 7#32
  | 110 => 9#32
  | 111 => 7#32
  | 112 => 7#32
  | 113 => 11#32
  | 114 => 11#32
  | 115 => 9#32
  | 116 => 7#32
  | 117 => 9#32
  | 118 => 11#32
  | 119 => 9#32
  | 120 => 7#32
  | 121 => 7#32
  | 122 => 9#32
  | 123 => 9#32
  | 124 => 7#32
  | 125 => 11#32
  | 126 => 7#32
  | 127 => 11#32
  | _ => 0#32

noncomputable abbrev lit1t0_34 (i : Nat) : BitVec 32 := match i % 128 with
  | 0 => 7#32
  | 1 => 11#32
  | 2 => 11#32
  | 3 => 9#32
  | 4 => 7#32
  | 5 => 9#32
  | 6 => 11#32
  | 7 => 11#32
  | 8 => 7#32
  | 9 => 7#32
  | 10 => 11#32
  | 11 => 11#32
  | 12 => 9#32
  | 13 => 9#32
  | 14 => 7#32
  | 15 => 11#32
  | 16 => 9#32
  | 17 => 7#32
  | 18 => 7#32
  | 19 => 11#32
  | 20 => 7#32
  | 21 => 11#32
  | 22 => 9#32
  | 23 => 9#32
  | 24 => 11#32
  | 25 => 7#32
  | 26 => 11#32
  | 27 => 9#32
  | 28 => 7#32
  | 29 => 9#32
  | 30 => 9#32
  | 31 => 9#32
  | 32 => 7#32
  | 33 => 11#32
  | 34 => 7#32
  | 35 => 9#32
  | 36 => 7#32
  | 37 => 7#32
  | 38 => 7#32
  | 39 => 11#32
  | 40 => 11#32
  | 41 => 7#32
  | 42 => 11#32
  | 43 => 7#32
  | 44 => 9#32
  | 45 => 9#32
  | 46 => 7#32
  | 47 => 11#32
  | 48 => 7#32
  | 49 => 7#32
  | 50 => 9#32
  | 51 => 9#32
  | 52 => 9#32
  | 53 => 11#32
  | 54 => 7#32
  | 55 => 9#32
  | 56 => 9#32
  | 57 => 9#32
  | 58 => 7#32
  | 59 => 9#32
  | 60 => 9#32
  | 61 => 11#32
  | 62 => 9#32
  | 63 => 9#32
  | 64 => 7#32
  | 65 => 7#32
  | 66 => 7#32
  | 67 => 11#32
  | 68 => 11#32
  | 69 => 9#32
  | 70 => 11#32
  | 71 => 11#32
  | 72 => 9#32
  | 73 => 9#32
  | 74 => 7#32
  | 75 => 7#32
  | 76 => 7#32
  | 77 => 11#32
  | 78 => 7#32
  | 79 => 11#32
  | 80 => 11#32
  | 81 => 11#32
  | 82 => 9#32
  | 83 => 7#32
  | 84 => 9#32
  | 85 => 7#32
  | 86 => 7#32
  | 87 => 7#32
  | 88 => 11#32
  | 89 => 9#32
  | 90 => 11#32
  | 91 => 7#32
  | 92 => 7#32
  | 93 => 9#32
  | 94 => 9#32
  | 95 => 11#32
  | 96 => 11#32
  | 97 => 9#32
  | 98 => 9#32
  | 99 => 7#32
  | 100 => 7#32
  | 101 => 7#32
  | 102 => 11#32
  | 103 => 7#32
  | 104 => 9#32
  | 105 => 7#32
  | 106 => 7#32
  | 107 => 9#32
  | 108 => 7#32
  | 109 => 9#32
  | 110 => 7#32
  | 111 => 9#32
  | 112 => 11#32
  | 113 => 9#32
  | 114 => 9#32
  | 115 => 9#32
  | 116 => 9#32
  | 117 => 9#32
  | 118 => 9#32
  | 119 => 7#32
  | 120 => 7#32
  | 121 => 11#32
  | 122 => 11#32
  | 123 => 9#32
  | 124 => 9#32
  | 125 => 7#32
  | 126 => 11#32
  | 127 => 9#32
  | _ => 0#32

noncomputable abbrev lit1t0_35 (i : Nat) : BitVec 32 := match i % 128 with
  | 0 => 7#32
  | 1 => 7#32
  | 2 => 11#32
  | 3 => 9#32
  | 4 => 11#32
  | 5 => 11#32
  | 6 => 7#32
  | 7 => 11#32
  | 8 => 7#32
  | 9 => 7#32
  | 10 => 11#32
  | 11 => 9#32
  | 12 => 9#32
  | 13 => 9#32
  | 14 => 7#32
  | 15 => 9#32
  | 16 => 11#32
  | 17 => 9#32
  | 18 => 7#32
  | 19 => 11#32
  | 20 => 11#32
  | 21 => 7#32
  | 22 => 11#32
  | 23 => 7#32
  | 24 => 7#32
  | 25 => 9#32
  | 26 => 9#32
  | 27 => 7#32
  | 28 => 7#32
  | 29 => 9#32
  | 30 => 11#32
  | 31 => 11#32
  | 32 => 9#32
  | 33 => 7#32
  | 34 => 11#32
  | 35 => 11#32
  | 36 => 11#32
  | 37 => 9#32
  | 38 => 11#32
  | 39 => 7#32
  | 40 => 11#32
  | 41 => 11#32
  | 42 => 7#32
  | 43 => 9#32
  | 44 => 11#32
  | 45 => 7#32
  | 46 => 11#32
  | 47 => 11#32
  | 48 => 11#32
  | 49 => 9#32
  | 50 => 7#32
  | 51 => 9#32
  | 52 => 7#32
  | 53 => 9#32
  | 54 => 11#32
  | 55 => 7#32
  | 56 => 7#32
  | 57 => 11#32
  | 58 => 11#32
  | 59 => 11#32
  | 60 => 9#32
  | 61 => 7#32
  | 62 => 11#32
  | 63 => 9#32
  | 64 => 7#32
  | 65 => 7#32
  | 66 => 7#32
  | 67 => 11#32
  | 68 => 7#32
  | 69 => 7#32
  | 70 => 7#32
  | 71 => 7#32
  | 72 => 9#32
  | 73 => 11#32
  | 74 => 11#32
  | 75 => 7#32
  | 76 => 9#32
  | 77 => 11#32
  | 78 => 7#32
  | 79 => 7#32
  | 80 => 9#32
  | 81 => 9#32
  | 82 => 7#32
  | 83 => 11#32
  | 84 => 7#32
  | 85 => 9#32
  | 86 => 9#32
  | 87 => 11#32
  | 88 => 7#32
  | 89 => 9#32
  | 90 => 7#32
  | 91 => 9#32
  | 92 => 11#32
  | 93 => 7#32
  | 94 => 11#32
  | 95 => 9#32
  | 96 => 9#32
  | 97 => 11#32
  | 98 => 11#32
  | 99 => 9#32
  | 100 => 9#32
  | 101 => 11#32
  | 102 => 9#32
  | 103 => 11#32
  | 104 => 9#32
  | 105 => 9#32
  | 106 => 7#32
  | 107 => 7#32
  | 108 => 11#32
  | 109 => 11#32
  | 110 => 9#32
  | 111 => 7#32
  | 112 => 9#32
  | 113 => 9#32
  | 114 => 9#32
  | 115 => 9#32
  | 116 => 7#32
  | 117 => 9#32
  | 118 => 9#32
  | 119 => 9#32
  | 120 => 11#32
  | 121 => 11#32
  | 122 => 7#32
  | 123 => 11#32
  | 124 => 11#32
  | 125 => 7#32
  | 126 => 11#32
  | 127 => 7#32
  | _ => 0#32

noncomputable abbrev lit1t0_36 (i : Nat) : BitVec 32 := match i % 128 with
  | 0 => 11#32
  | 1 => 9#32
  | 2 => 11#32
  | 3 => 11#32
  | 4 => 7#32
  | 5 => 11#32
  | 6 => 7#32
  | 7 => 9#32
  | 8 => 9#32
  | 9 => 9#32
  | 10 => 11#32
  | 11 => 11#32
  | 12 => 9#32
  | 13 => 7#32
  | 14 => 11#32
  | 15 => 9#32
  | 16 => 9#32
  | 17 => 11#32
  | 18 => 11#32
  | 19 => 9#32
  | 20 => 9#32
  | 21 => 9#32
  | 22 => 11#32
  | 23 => 7#32
  | 24 => 7#32
  | 25 => 9#32
  | 26 => 11#32
  | 27 => 9#32
  | 28 => 7#32
  | 29 => 7#32
  | 30 => 9#32
  | 31 => 7#32
  | 32 => 7#32
  | 33 => 9#32
  | 34 => 11#32
  | 35 => 7#32
  | 36 => 9#32
  | 37 => 7#32
  | 38 => 11#32
  | 39 => 9#32
  | 40 => 7#32
  | 41 => 9#32
  | 42 => 7#32
  | 43 => 11#32
  | 44 => 11#32
  | 45 => 7#32
  | 46 => 7#32
  | 47 => 11#32
  | 48 => 9#32
  | 49 => 11#32
  | 50 => 9#32
  | 51 => 9#32
  | 52 => 11#32
  | 53 => 7#32
  | 54 => 9#32
  | 55 => 9#32
  | 56 => 7#32
  | 57 => 7#32
  | 58 => 9#32
  | 59 => 11#32
  | 60 => 11#32
  | 61 => 7#32
  | 62 => 9#32
  | 63 => 11#32
  | 64 => 7#32
  | 65 => 9#32
  | 66 => 11#32
  | 67 => 7#32
  | 68 => 11#32
  | 69 => 7#32
  | 70 => 7#32
  | 71 => 9#32
  | 72 => 7#32
  | 73 => 9#32
  | 74 => 7#32
  | 75 => 7#32
  | 76 => 7#32
  | 77 => 7#32
  | 78 => 9#32
  | 79 => 9#32
  | 80 => 7#32
  | 81 => 7#32
  | 82 => 7#32
  | 83 => 7#32
  | 84 => 9#32
  | 85 => 11#32
  | 86 => 11#32
  | 87 => 11#32
  | 88 => 9#32
  | 89 => 11#32
  | 90 => 11#32
  | 91 => 11#32
  | 92 => 7#32
  | 93 => 7#32
  | 94 => 9#32
  | 95 => 11#32
  | 96 => 11#32
  | 97 => 7#32
  | 98 => 9#32
  | 99 => 11#32
  | 100 => 9#32
  | 101 => 7#32
  | 102 => 9#32
  | 103 => 11#32
  | 104 => 11#32
  | 105 => 11#32
  | 106 => 9#32
  | 107 => 9#32
  | 108 => 7#32
  | 109 => 9#32
  | 110 => 7#32
  | 111 => 9#32
  | 112 => 11#32
  | 113 => 11#32
  | 114 => 11#32
  | 115 => 11#32
  | 116 => 7#32
  | 117 => 11#32
  | 118 => 9#32
  | 119 => 11#32
  | 120 => 11#32
  | 121 => 7#32
  | 122 => 11#32
  | 123 => 9#32
  | 124 => 11#32
  | 125 => 11#32
  | 126 => 7#32
  | 127 => 7#32
  | _ => 0#32

noncomputable abbrev lit1t0_37 (i : Nat) : BitVec 32 := match i % 128 with
  | 0 => 11#32
  | 1 => 9#32
  | 2 => 11#32
  | 3 => 11#32
  | 4 => 7#32
  | 5 => 7#32
  | 6 => 9#32
  | 7 => 11#32
  | 8 => 7#32
  | 9 => 7#32
  | 10 => 7#32
  | 11 => 9#32
  | 12 => 7#32
  | 13 => 7#32
  | 14 => 11#32
  | 15 => 11#32
  | 16 => 9#32
  | 17 => 11#32
  | 18 => 9#32
  | 19 => 9#32
  | 20 => 11#32
  | 21 => 11#32
  | 22 => 11#32
  | 23 => 9#32
  | 24 => 7#32
  | 25 => 11#32
  | 26 => 7#32
  | 27 => 11#32
  | 28 => 9#32
  | 29 => 11#32
  | 30 => 7#32
  | 31 => 7#32
  | 32 => 7#32
  | 33 => 11#32
  | 34 => 7#32
  | 35 => 11#32
  | 36 => 7#32
  | 37 => 9#32
  | 38 => 11#32
  | 39 => 9#32
  | 40 => 9#32
  | 41 => 7#32
  | 42 => 9#32
  | 43 => 7#32
  | 44 => 9#32
  | 45 => 9#32
  | 46 => 7#32
  | 47 => 9#32
  | 48 => 9#32
  | 49 => 11#32
  | 50 => 9#32
  | 51 => 11#32
  | 52 => 7#32
  | 53 => 9#32
  | 54 => 11#32
  | 55 => 7#32
  | 56 => 9#32
  | 57 => 11#32
  | 58 => 11#32
  | 59 => 7#32
  | 60 => 7#32
  | 61 => 9#32
  | 62 => 11#32
  | 63 => 9#32
  | 64 => 9#32
  | 65 => 9#32
  | 66 => 9#32
  | 67 => 7#32
  | 68 => 11#32
  | 69 => 9#32
  | 70 => 7#32
  | 71 => 11#32
  | 72 => 11#32
  | 73 => 7#32
  | 74 => 9#32
  | 75 => 11#32
  | 76 => 7#32
  | 77 => 9#32
  | 78 => 7#32
  | 79 => 11#32
  | 80 => 9#32
  | 81 => 9#32
  | 82 => 9#32
  | 83 => 7#32
  | 84 => 11#32
  | 85 => 7#32
  | 86 => 7#32
  | 87 => 7#32
  | 88 => 7#32
  | 89 => 7#32
  | 90 => 9#32
  | 91 => 9#32
  | 92 => 7#32
  | 93 => 9#32
  | 94 => 9#32
  | 95 => 11#32
  | 96 => 9#32
  | 97 => 9#32
  | 98 => 7#32
  | 99 => 9#32
  | 100 => 9#32
  | 101 => 7#32
  | 102 => 7#32
  | 103 => 11#32
  | 104 => 7#32
  | 105 => 7#32
  | 106 => 9#32
  | 107 => 11#32
  | 108 => 9#32
  | 109 => 11#32
  | 110 => 11#32
  | 111 => 9#32
  | 112 => 7#32
  | 113 => 7#32
  | 114 => 9#32
  | 115 => 11#32
  | 116 => 7#32
  | 117 => 9#32
  | 118 => 11#32
  | 119 => 9#32
  | 120 => 9#32
  | 121 => 11#32
  | 122 => 11#32
  | 123 => 7#32
  | 124 => 7#32
  | 125 => 9#32
  | 126 => 11#32
  | 127 => 11#32
  | _ => 0#32

noncomputable abbrev lit1t0_38 (i : Nat) : BitVec 32 := match i % 128 with
  | 0 => 9#32
  | 1 => 11#32
  | 2 => 7#32
  | 3 => 11#32
  | 4 => 11#32
  | 5 => 9#32
  | 6 => 9#32
  | 7 => 7#32
  | 8 => 9#32
  | 9 => 9#32
  | 10 => 11#32
  | 11 => 11#32
  | 12 => 9#32
  | 13 => 7#32
  | 14 => 9#32
  | 15 => 9#32
  | 16 => 7#32
  | 17 => 7#32
  | 18 => 9#32
  | 19 => 7#32
  | 20 => 7#32
  | 21 => 11#32
  | 22 => 11#32
  | 23 => 11#32
  | 24 => 7#32
  | 25 => 9#32
  | 26 => 9#32
  | 27 => 11#32
  | 28 => 9#32
  | 29 => 7#32
  | 30 => 11#32
  | 31 => 11#32
  | 32 => 7#32
  | 33 => 11#32
  | 34 => 7#32
  | 35 => 11#32
  | 36 => 9#32
  | 37 => 11#32
  | 38 => 9#32
  | 39 => 11#32
  | 40 => 9#32
  | 41 => 9#32
  | 42 => 9#32
  | 43 => 9#32
  | 44 => 11#32
  | 45 => 7#32
  | 46 => 9#32
  | 47 => 11#32
  | 48 => 7#32
  | 49 => 11#32
  | 50 => 7#32
  | 51 => 9#32
  | 52 => 7#32
  | 53 => 11#32
  | 54 => 7#32
  | 55 => 11#32
  | 56 => 7#32
  | 57 => 11#32
  | 58 => 11#32
  | 59 => 9#32
  | 60 => 11#32
  | 61 => 11#32
  | 62 => 7#32
  | 63 => 9#32
  | 64 => 11#32
  | 65 => 11#32
  | 66 => 7#32
  | 67 => 7#32
  | 68 => 9#32
  | 69 => 11#32
  | 70 => 7#32
  | 71 => 9#32
  | 72 => 11#32
  | 73 => 7#32
  | 74 => 9#32
  | 75 => 7#32
  | 76 => 9#32
  | 77 => 11#32
  | 78 => 11#32
  | 79 => 7#32
  | 80 => 9#32
  | 81 => 11#32
  | 82 => 11#32
  | 83 => 9#32
  | 84 => 7#32
  | 85 => 11#32
  | 86 => 9#32
  | 87 => 7#32
  | 88 => 11#32
  | 89 => 9#32
  | 90 => 11#32
  | 91 => 9#32
  | 92 => 11#32
  | 93 => 9#32
  | 94 => 9#32
  | 95 => 9#32
  | 96 => 9#32
  | 97 => 11#32
  | 98 => 11#32
  | 99 => 7#32
  | 100 => 9#32
  | 101 => 7#32
  | 102 => 11#32
  | 103 => 7#32
  | 104 => 11#32
  | 105 => 7#32
  | 106 => 7#32
  | 107 => 7#32
  | 108 => 7#32
  | 109 => 11#32
  | 110 => 11#32
  | 111 => 11#32
  | 112 => 7#32
  | 113 => 9#32
  | 114 => 11#32
  | 115 => 11#32
  | 116 => 7#32
  | 117 => 7#32
  | 118 => 11#32
  | 119 => 7#32
  | 120 => 9#32
  | 121 => 9#32
  | 122 => 11#32
  | 123 => 11#32
  | 124 => 7#32
  | 125 => 7#32
  | 126 => 9#32
  | 127 => 11#32
  | _ => 0#32

noncomputable abbrev lit1t0_39 (i : Nat) : BitVec 32 := match i % 128 with
  | 0 => 11#32
  | 1 => 9#32
  | 2 => 11#32
  | 3 => 11#32
  | 4 => 11#32
  | 5 => 9#32
  | 6 => 7#32
  | 7 => 7#32
  | 8 => 11#32
  | 9 => 11#32
  | 10 => 11#32
  | 11 => 7#32
  | 12 => 9#32
  | 13 => 11#32
  | 14 => 7#32
  | 15 => 9#32
  | 16 => 7#32
  | 17 => 9#32
  | 18 => 11#32
  | 19 => 7#32
  | 20 => 9#32
  | 21 => 7#32
  | 22 => 11#32
  | 23 => 11#32
  | 24 => 11#32
  | 25 => 7#32
  | 26 => 11#32
  | 27 => 7#32
  | 28 => 11#32
  | 29 => 7#32
  | 30 => 9#32
  | 31 => 7#32
  | 32 => 7#32
  | 33 => 11#32
  | 34 => 7#32
  | 35 => 9#32
  | 36 => 11#32
  | 37 => 11#32
  | 38 => 9#32
  | 39 => 11#32
  | 40 => 11#32
  | 41 => 7#32
  | 42 => 7#32
  | 43 => 7#32
  | 44 => 11#32
  | 45 => 11#32
  | 46 => 7#32
  | 47 => 9#32
  | 48 => 9#32
  | 49 => 11#32
  | 50 => 9#32
  | 51 => 11#32
  | 52 => 9#32
  | 53 => 11#32
  | 54 => 7#32
  | 55 => 11#32
  | 56 => 9#32
  | 57 => 9#32
  | 58 => 11#32
  | 59 => 9#32
  | 60 => 7#32
  | 61 => 7#32
  | 62 => 7#32
  | 63 => 7#32
  | 64 => 9#32
  | 65 => 9#32
  | 66 => 7#32
  | 67 => 7#32
  | 68 => 7#32
  | 69 => 9#32
  | 70 => 9#32
  | 71 => 7#32
  | 72 => 11#32
  | 73 => 9#32
  | 74 => 11#32
  | 75 => 11#32
  | 76 => 9#32
  | 77 => 7#32
  | 78 => 7#32
  | 79 => 7#32
  | 80 => 7#32
  | 81 => 11#32
  | 82 => 9#32
  | 83 => 9#32
  | 84 => 7#32
  | 85 => 9#32
  | 86 => 11#32
  | 87 => 9#32
  | 88 => 9#32
  | 89 => 7#32
  | 90 => 9#32
  | 91 => 7#32
  | 92 => 11#32
  | 93 => 7#32
  | 94 => 9#32
  | 95 => 7#32
  | 96 => 9#32
  | 97 => 9#32
  | 98 => 11#32
  | 99 => 7#32
  | 100 => 9#32
  | 101 => 7#32
  | 102 => 7#32
  | 103 => 9#32
  | 104 => 9#32
  | 105 => 11#32
  | 106 => 11#32
  | 107 => 7#32
  | 108 => 7#32
  | 109 => 9#32
  | 110 => 9#32
  | 111 => 7#32
  | 112 => 11#32
  | 113 => 7#32
  | 114 => 11#32
  | 115 => 11#32
  | 116 => 11#32
  | 117 => 9#32
  | 118 => 11#32
  | 119 => 11#32
  | 120 => 9#32
  | 121 => 7#32
  | 122 => 7#32
  | 123 => 9#32
  | 124 => 7#32
  | 125 => 9#32
  | 126 => 7#32
  | 127 => 9#32
  | _ => 0#32

noncomputable abbrev lit1t0_40 (i : Nat) : BitVec 32 := match i % 128 with
  | 0 => 9#32
  | 1 => 11#32
  | 2 => 9#32
  | 3 => 9#32
  | 4 => 11#32
  | 5 => 7#32
  | 6 => 9#32
  | 7 => 11#32
  | 8 => 9#32
  | 9 => 9#32
  | 10 => 11#32
  | 11 => 7#32
  | 12 => 7#32
  | 13 => 9#32
  | 14 => 11#32
  | 15 => 7#32
  | 16 => 7#32
  | 17 => 11#32
  | 18 => 9#32
  | 19 => 11#32
  | 20 => 11#32
  | 21 => 9#32
  | 22 => 11#32
  | 23 => 7#32
  | 24 => 7#32
  | 25 => 9#32
  | 26 => 11#32
  | 27 => 9#32
  | 28 => 7#32
  | 29 => 11#32
  | 30 => 9#32
  | 31 => 9#32
  | 32 => 7#32
  | 33 => 11#32
  | 34 => 11#32
  | 35 => 9#32
  | 36 => 9#32
  | 37 => 7#32
  | 38 => 7#32
  | 39 => 9#32
  | 40 => 7#32
  | 41 => 11#32
  | 42 => 7#32
  | 43 => 7#32
  | 44 => 7#32
  | 45 => 7#32
  | 46 => 9#32
  | 47 => 11#32
  | 48 => 9#32
  | 49 => 7#32
  | 50 => 7#32
  | 51 => 9#32
  | 52 => 11#32
  | 53 => 9#32
  | 54 => 11#32
  | 55 => 9#32
  | 56 => 11#32
  | 57 => 9#32
  | 58 => 9#32
  | 59 => 11#32
  | 60 => 7#32
  | 61 => 9#32
  | 62 => 7#32
  | 63 => 7#32
  | 64 => 7#32
  | 65 => 9#32
  | 66 => 7#32
  | 67 => 7#32
  | 68 => 9#32
  | 69 => 9#32
  | 70 => 9#32
  | 71 => 11#32
  | 72 => 9#32
  | 73 => 7#32
  | 74 => 11#32
  | 75 => 9#32
  | 76 => 7#32
  | 77 => 11#32
  | 78 => 9#32
  | 79 => 11#32
  | 80 => 9#32
  | 81 => 11#32
  | 82 => 11#32
  | 83 => 11#32
  | 84 => 9#32
  | 85 => 7#32
  | 86 => 9#32
  | 87 => 9#32
  | 88 => 11#32
  | 89 => 11#32
  | 90 => 11#32
  | 91 => 11#32
  | 92 => 7#32
  | 93 => 9#32
  | 94 => 11#32
  | 95 => 9#32
  | 96 => 7#32
  | 97 => 9#32
  | 98 => 9#32
  | 99 => 11#32
  | 100 => 9#32
  | 101 => 9#32
  | 102 => 11#32
  | 103 => 11#32
  | 104 => 7#32
  | 105 => 11#32
  | 106 => 7#32
  | 107 => 11#32
  | 108 => 9#32
  | 109 => 9#32
  | 110 => 9#32
  | 111 => 9#32
  | 112 => 7#32
  | 113 => 9#32
  | 114 => 7#32
  | 115 => 7#32
  | 116 => 9#32
  | 117 => 9#32
  | 118 => 9#32
  | 119 => 9#32
  | 120 => 9#32
  | 121 => 7#32
  | 122 => 11#32
  | 123 => 9#32
  | 124 => 7#32
  | 125 => 11#32
  | 126 => 11#32
  | 127 => 11#32
  | _ => 0#32

noncomputable abbrev lit1t0_41 (i : Nat) : BitVec 32 := match i % 128 with
  | 0 => 9#32
  | 1 => 11#32
  | 2 => 9#32
  | 3 => 9#32
  | 4 => 7#32
  | 5 => 11#32
  | 6 => 7#32
  | 7 => 7#32
  | 8 => 7#32
  | 9 => 9#32
  | 10 => 7#32
  | 11 => 7#32
  | 12 => 7#32
  | 13 => 11#32
  | 14 => 9#32
  | 15 => 11#32
  | 16 => 7#32
  | 17 => 7#32
  | 18 => 9#32
  | 19 => 11#32
  | 20 => 11#32
  | 21 => 9#32
  | 22 => 9#32
  | 23 => 11#32
  | 24 => 11#32
  | 25 => 11#32
  | 26 => 7#32
  | 27 => 9#32
  | 28 => 7#32
  | 29 => 11#32
  | 30 => 9#32
  | 31 => 11#32
  | 32 => 7#32
  | 33 => 11#32
  | 34 => 9#32
  | 35 => 7#32
  | 36 => 11#32
  | 37 => 11#32
  | 38 => 11#32
  | 39 => 9#32
  | 40 => 11#32
  | 41 => 7#32
  | 42 => 7#32
  | 43 => 7#32
  | 44 => 7#32
  | 45 => 7#32
  | 46 => 11#32
  | 47 => 11#32
  | 48 => 11#32
  | 49 => 9#32
  | 50 => 9#32
  | 51 => 7#32
  | 52 => 9#32
  | 53 => 9#32
  | 54 => 11#32
  | 55 => 7#32
  | 56 => 7#32
  | 57 => 9#32
  | 58 => 7#32
  | 59 => 9#32
  | 60 => 7#32
  | 61 => 11#32
  | 62 => 9#32
  | 63 => 9#32
  | 64 => 7#32
  | 65 => 11#32
  | 66 => 11#32
  | 67 => 9#32
  | 68 => 9#32
  | 69 => 9#32
  | 70 => 7#32
  | 71 => 7#32
  | 72 => 11#32
  | 73 => 11#32
  | 74 => 11#32
  | 75 => 11#32
  | 76 => 7#32
  | 77 => 7#32
  | 78 => 9#32
  | 79 => 9#32
  | 80 => 9#32
  | 81 => 9#32
  | 82 => 7#32
  | 83 => 11#32
  | 84 => 11#32
  | 85 => 9#32
  | 86 => 9#32
  | 87 => 9#32
  | 88 => 9#32
  | 89 => 7#32
  | 90 => 9#32
  | 91 => 9#32
  | 92 => 11#32
  | 93 => 11#32
  | 94 => 7#32
  | 95 => 7#32
  | 96 => 11#32
  | 97 => 11#32
  | 98 => 9#32
  | 99 => 7#32
  | 100 => 9#32
  | 101 => 11#32
  | 102 => 9#32
  | 103 => 9#32
  | 104 => 11#32
  | 105 => 9#32
  | 106 => 7#32
  | 107 => 9#32
  | 108 => 11#32
  | 109 => 9#32
  | 110 => 11#32
  | 111 => 7#32
  | 112 => 7#32
  | 113 => 11#32
  | 114 => 7#32
  | 115 => 7#32
  | 116 => 7#32
  | 117 => 9#32
  | 118 => 11#32
  | 119 => 11#32
  | 120 => 9#32
  | 121 => 7#32
  | 122 => 7#32
  | 123 => 7#32
  | 124 => 11#32
  | 125 => 7#32
  | 126 => 9#32
  | 127 => 7#32
  | _ => 0#32

noncomputable abbrev lit1t0_42 (i : Nat) : BitVec 32 := match i % 128 with
  | 0 => 11#32
  | 1 => 9#32
  | 2 => 11#32
  | 3 => 9#32
  | 4 => 7#32
  | 5 => 7#32
  | 6 => 11#32
  | 7 => 11#32
  | 8 => 7#32
  | 9 => 7#32
  | 10 => 9#32
  | 11 => 7#32
  | 12 => 9#32
  | 13 => 7#32
  | 14 => 9#32
  | 15 => 7#32
  | 16 => 7#32
  | 17 => 9#32
  | 18 => 7#32
  | 19 => 7#32
  | 20 => 9#32
  | 21 => 9#32
  | 22 => 7#32
  | 23 => 9#32
  | 24 => 7#32
  | 25 => 7#32
  | 26 => 9#32
  | 27 => 7#32
  | 28 => 11#32
  | 29 => 7#32
  | 30 => 9#32
  | 31 => 9#32
  | 32 => 9#32
  | 33 => 9#32
  | 34 => 11#32
  | 35 => 7#32
  | 36 => 9#32
  | 37 => 7#32
  | 38 => 7#32
  | 39 => 11#32
  | 40 => 9#32
  | 41 => 7#32
  | 42 => 11#32
  | 43 => 9#32
  | 44 => 9#32
  | 45 => 7#32
  | 46 => 11#32
  | 47 => 7#32
  | 48 => 7#32
  | 49 => 11#32
  | 50 => 11#32
  | 51 => 7#32
  | 52 => 11#32
  | 53 => 9#32
  | 54 => 7#32
  | 55 => 9#32
  | 56 => 9#32
  | 57 => 9#32
  | 58 => 9#32
  | 59 => 11#32
  | 60 => 11#32
  | 61 => 9#32
  | 62 => 9#32
  | 63 => 11#32
  | 64 => 7#32
  | 65 => 9#32
  | 66 => 7#32
  | 67 => 11#32
  | 68 => 7#32
  | 69 => 9#32
  | 70 => 7#32
  | 71 => 9#32
  | 72 => 11#32
  | 73 => 11#32
  | 74 => 7#32
  | 75 => 9#32
  | 76 => 11#32
  | 77 => 11#32
  | 78 => 7#32
  | 79 => 7#32
  | 80 => 9#32
  | 81 => 7#32
  | 82 => 9#32
  | 83 => 11#32
  | 84 => 9#32
  | 85 => 7#32
  | 86 => 9#32
  | 87 => 7#32
  | 88 => 7#32
  | 89 => 9#32
  | 90 => 9#32
  | 91 => 11#32
  | 92 => 11#32
  | 93 => 7#32
  | 94 => 9#32
  | 95 => 7#32
  | 96 => 11#32
  | 97 => 9#32
  | 98 => 7#32
  | 99 => 11#32
  | 100 => 9#32
  | 101 => 7#32
  | 102 => 11#32
  | 103 => 9#32
  | 104 => 11#32
  | 105 => 11#32
  | 106 => 7#32
  | 107 => 9#32
  | 108 => 11#32
  | 109 => 11#32
  | 110 => 11#32
  | 111 => 9#32
  | 112 => 7#32
  | 113 => 11#32
  | 114 => 9#32
  | 115 => 7#32
  | 116 => 9#32
  | 117 => 7#32
  | 118 => 7#32
  | 119 => 9#32
  | 120 => 9#32
  | 121 => 9#32
  | 122 => 11#32
  | 123 => 9#32
  | 124 => 7#32
  | 125 => 9#32
  | 126 => 11#32
  | 127 => 7#32
  | _ => 0#32

noncomputable abbrev lit1t0_43 (i : Nat) : BitVec 32 := match i % 128 with
  | 0 => 11#32
  | 1 => 9#32
  | 2 => 11#32
  | 3 => 11#32
  | 4 => 11#32
  | 5 => 7#32
  | 6 => 11#32
  | 7 => 9#32
  | 8 => 7#32
  | 9 => 11#32
  | 10 => 9#32
  | 11 => 7#32
  | 12 => 11#32
  | 13 => 11#32
  | 14 => 11#32
  | 15 => 7#32
  | 16 => 9#32
  | 17 => 7#32
  | 18 => 11#32
  | 19 => 7#32
  | 20 => 7#32
  | 21 => 9#32
  | 22 => 7#32
  | 23 => 11#32
  | 24 => 9#32
  | 25 => 7#32
  | 26 => 7#32
  | 27 => 11#32
  | 28 => 9#32
  | 29 => 9#32
  | 30 => 11#32
  | 31 => 9#32
  | 32 => 9#32
  | 33 => 7#32
  | 34 => 11#32
  | 35 => 11#32
  | 36 => 7#32
  | 37 => 7#32
  | 38 => 9#32
  | 39 => 11#32
  | 40 => 11#32
  | 41 => 9#32
  | 42 => 9#32
  | 43 => 7#32
  | 44 => 7#32
  | 45 => 11#32
  | 46 => 9#32
  | 47 => 11#32
  | 48 => 7#32
  | 49 => 11#32
  | 50 => 11#32
  | 51 => 7#32
  | 52 => 7#32
  | 53 => 7#32
  | 54 => 7#32
  | 55 => 7#32
  | 56 => 7#32
  | 57 => 7#32
  | 58 => 11#32
  | 59 => 7#32
  | 60 => 7#32
  | 61 => 7#32
  | 62 => 11#32
  | 63 => 7#32
  | 64 => 7#32
  | 65 => 11#32
  | 66 => 7#32
  | 67 => 9#32
  | 68 => 11#32
  | 69 => 9#32
  | 70 => 7#32
  | 71 => 9#32
  | 72 => 7#32
  | 73 => 11#32
  | 74 => 11#32
  | 75 => 9#32
  | 76 => 9#32
  | 77 => 11#32
  | 78 => 11#32
  | 79 => 9#32
  | 80 => 9#32
  | 81 => 7#32
  | 82 => 7#32
  | 83 => 9#32
  | 84 => 11#32
  | 85 => 7#32
  | 86 => 7#32
  | 87 => 7#32
  | 88 => 7#32
  | 89 => 9#32
  | 90 => 9#32
  | 91 => 11#32
  | 92 => 9#32
  | 93 => 11#32
  | 94 => 7#32
  | 95 => 7#32
  | 96 => 7#32
  | 97 => 9#32
  | 98 => 9#32
  | 99 => 7#32
  | 100 => 9#32
  | 101 => 9#32
  | 102 => 11#32
  | 103 => 9#32
  | 104 => 9#32
  | 105 => 11#32
  | 106 => 7#32
  | 107 => 7#32
  | 108 => 9#32
  | 109 => 9#32
  | 110 => 7#32
  | 111 => 11#32
  | 112 => 7#32
  | 113 => 9#32
  | 114 => 7#32
  | 115 => 9#32
  | 116 => 11#32
  | 117 => 11#32
  | 118 => 7#32
  | 119 => 11#32
  | 120 => 9#32
  | 121 => 11#32
  | 122 => 9#32
  | 123 => 11#32
  | 124 => 11#32
  | 125 => 9#32
  | 126 => 7#32
  | 127 => 7#32
  | _ => 0#32

noncomputable abbrev lit1t0_44 (i : Nat) : BitVec 32 := match i % 128 with
  | 0 => 9#32
  | 1 => 7#32
  | 2 => 7#32
  | 3 => 11#32
  | 4 => 7#32
  | 5 => 7#32
  | 6 => 11#32
  | 7 => 11#32
  | 8 => 7#32
  | 9 => 9#32
  | 10 => 11#32
  | 11 => 9#32
  | 12 => 7#32
  | 13 => 7#32
  | 14 => 7#32
  | 15 => 7#32
  | 16 => 9#32
  | 17 => 11#32
  | 18 => 7#32
  | 19 => 9#32
  | 20 => 11#32
  | 21 => 11#32
  | 22 => 9#32
  | 23 => 9#32
  | 24 => 11#32
  | 25 => 11#32
  | 26 => 9#32
  | 27 => 7#32
  | 28 => 7#32
  | 29 => 11#32
  | 30 => 7#32
  | 31 => 11#32
  | 32 => 11#32
  | 33 => 9#32
  | 34 => 7#32
  | 35 => 7#32
  | 36 => 9#32
  | 37 => 9#32
  | 38 => 7#32
  | 39 => 7#32
  | 40 => 11#32
  | 41 => 11#32
  | 42 => 7#32
  | 43 => 11#32
  | 44 => 9#32
  | 45 => 11#32
  | 46 => 7#32
  | 47 => 9#32
  | 48 => 7#32
  | 49 => 11#32
  | 50 => 11#32
  | 51 => 7#32
  | 52 => 9#32
  | 53 => 9#32
  | 54 => 9#32
  | 55 => 9#32
  | 56 => 9#32
  | 57 => 11#32
  | 58 => 11#32
  | 59 => 9#32
  | 60 => 11#32
  | 61 => 9#32
  | 62 => 11#32
  | 63 => 11#32
  | 64 => 7#32
  | 65 => 11#32
  | 66 => 11#32
  | 67 => 11#32
  | 68 => 9#32
  | 69 => 9#32
  | 70 => 9#32
  | 71 => 11#32
  | 72 => 7#32
  | 73 => 9#32
  | 74 => 9#32
  | 75 => 9#32
  | 76 => 7#32
  | 77 => 11#32
  | 78 => 9#32
  | 79 => 7#32
  | 80 => 9#32
  | 81 => 11#32
  | 82 => 7#32
  | 83 => 11#32
  | 84 => 7#32
  | 85 => 11#32
  | 86 => 7#32
  | 87 => 7#32
  | 88 => 7#32
  | 89 => 9#32
  | 90 => 7#32
  | 91 => 11#32
  | 92 => 9#32
  | 93 => 7#32
  | 94 => 11#32
  | 95 => 11#32
  | 96 => 11#32
  | 97 => 11#32
  | 98 => 7#32
  | 99 => 9#32
  | 100 => 9#32
  | 101 => 9#32
  | 102 => 7#32
  | 103 => 11#32
  | 104 => 7#32
  | 105 => 9#32
  | 106 => 11#32
  | 107 => 9#32
  | 108 => 9#32
  | 109 => 9#32
  | 110 => 9#32
  | 111 => 9#32
  | 112 => 7#32
  | 113 => 11#32
  | 114 => 11#32
  | 115 => 9#32
  | 116 => 11#32
  | 117 => 9#32
  | 118 => 11#32
  | 119 => 7#32
  | 120 => 7#32
  | 121 => 9#32
  | 122 => 9#32
  | 123 => 7#32
  | 124 => 9#32
  | 125 => 9#32
  | 126 => 7#32
  | 127 => 11#32
  | _ => 0#32

noncomputable abbrev lit1t0_45 (i : Nat) : BitVec 32 := match i % 128 with
  | 0 => 7#32
  | 1 => 9#32
  | 2 => 11#32
  | 3 => 7#32
  | 4 => 11#32
  | 5 => 11#32
  | 6 => 11#32
  | 7 => 9#32
  | 8 => 11#32
  | 9 => 9#32
  | 10 => 7#32
  | 11 => 11#32
  | 12 => 7#32
  | 13 => 11#32
  | 14 => 9#32
  | 15 => 9#32
  | 16 => 7#32
  | 17 => 11#32
  | 18 => 9#32
  | 19 => 7#32
  | 20 => 7#32
  | 21 => 7#32
  | 22 => 7#32
  | 23 => 9#32
  | 24 => 9#32
  | 25 => 9#32
  | 26 => 9#32
  | 27 => 9#32
  | 28 => 7#32
  | 29 => 11#32
  | 30 => 11#32
  | 31 => 9#32
  | 32 => 11#32
  | 33 => 11#32
  | 34 => 11#32
  | 35 => 7#32
  | 36 => 7#32
  | 37 => 11#32
  | 38 => 9#32
  | 39 => 11#32
  | 40 => 11#32
  | 41 => 7#32
  | 42 => 9#32
  | 43 => 9#32
  | 44 => 11#32
  | 45 => 11#32
  | 46 => 11#32
  | 47 => 9#32
  | 48 => 9#32
  | 49 => 9#32
  | 50 => 7#32
  | 51 => 11#32
  | 52 => 7#32
  | 53 => 11#32
  | 54 => 11#32
  | 55 => 9#32
  | 56 => 11#32
  | 57 => 11#32
  | 58 => 7#32
  | 59 => 11#32
  | 60 => 9#32
  | 61 => 7#32
  | 62 => 9#32
  | 63 => 11#32
  | 64 => 9#32
  | 65 => 11#32
  | 66 => 7#32
  | 67 => 11#32
  | 68 => 7#32
  | 69 => 9#32
  | 70 => 11#32
  | 71 => 7#32
  | 72 => 11#32
  | 73 => 7#32
  | 74 => 7#32
  | 75 => 11#32
  | 76 => 11#32
  | 77 => 9#32
  | 78 => 11#32
  | 79 => 11#32
  | 80 => 9#32
  | 81 => 9#32
  | 82 => 9#32
  | 83 => 7#32
  | 84 => 11#32
  | 85 => 9#32
  | 86 => 7#32
  | 87 => 11#32
  | 88 => 11#32
  | 89 => 11#32
  | 90 => 9#32
  | 91 => 9#32
  | 92 => 9#32
  | 93 => 11#32
  | 94 => 11#32
  | 95 => 7#32
  | 96 => 11#32
  | 97 => 9#32
  | 98 => 11#32
  | 99 => 7#32
  | 100 => 11#32
  | 101 => 11#32
  | 102 => 11#32
  | 103 => 11#32
  | 104 => 9#32
  | 105 => 9#32
  | 106 => 11#32
  | 107 => 11#32
  | 108 => 9#32
  | 109 => 7#32
  | 110 => 9#32
  | 111 => 9#32
  | 112 => 11#32
  | 113 => 7#32
  | 114 => 9#32
  | 115 => 11#32
  | 116 => 7#32
  | 117 => 7#32
  | 118 => 7#32
  | 119 => 9#32
  | 120 => 11#32
  | 121 => 7#32
  | 122 => 7#32
  | 123 => 11#32
  | 124 => 11#32
  | 125 => 9#32
  | 126 => 7#32
  | 127 => 11#32
  | _ => 0#32

noncomputable abbrev lit1t0_46 (i : Nat) : BitVec 32 := match i % 128 with
  | 0 => 9#32
  | 1 => 11#32
  | 2 => 11#32
  | 3 => 11#32
  | 4 => 7#32
  | 5 => 7#32
  | 6 => 7#32
  | 7 => 7#32
  | 8 => 7#32
  | 9 => 9#32
  | 10 => 9#32
  | 11 => 7#32
  | 12 => 7#32
  | 13 => 7#32
  | 14 => 9#32
  | 15 => 9#32
  | 16 => 7#32
  | 17 => 7#32
  | 18 => 9#32
  | 19 => 7#32
  | 20 => 11#32
  | 21 => 9#32
  | 22 => 11#32
  | 23 => 11#32
  | 24 => 7#32
  | 25 => 7#32
  | 26 => 7#32
  | 27 => 11#32
  | 28 => 7#32
  | 29 => 9#32
  | 30 => 7#32
  | 31 => 9#32
  | 32 => 7#32
  | 33 => 9#32
  | 34 => 9#32
  | 35 => 9#32
  | 36 => 11#32
  | 37 => 9#32
  | 38 => 11#32
  | 39 => 7#32
  | 40 => 7#32
  | 41 => 9#32
  | 42 => 9#32
  | 43 => 11#32
  | 44 => 7#32
  | 45 => 7#32
  | 46 => 9#32
  | 47 => 11#32
  | 48 => 7#32
  | 49 => 7#32
  | 50 => 11#32
  | 51 => 11#32
  | 52 => 9#32
  | 53 => 9#32
  | 54 => 11#32
  | 55 => 7#32
  | 56 => 7#32
  | 57 => 11#32
  | 58 => 9#32
  | 59 => 11#32
  | 60 => 7#32
  | 61 => 9#32
  | 62 => 11#32
  | 63 => 9#32
  | 64 => 9#32
  | 65 => 11#32
  | 66 => 11#32
  | 67 => 7#32
  | 68 => 11#32
  | 69 => 9#32
  | 70 => 9#32
  | 71 => 9#32
  | 72 => 11#32
  | 73 => 7#32
  | 74 => 9#32
  | 75 => 9#32
  | 76 => 11#32
  | 77 => 9#32
  | 78 => 11#32
  | 79 => 7#32
  | 80 => 9#32
  | 81 => 7#32
  | 82 => 11#32
  | 83 => 11#32
  | 84 => 9#32
  | 85 => 7#32
  | 86 => 7#32
  | 87 => 7#32
  | 88 => 11#32
  | 89 => 11#32
  | 90 => 7#32
  | 91 => 11#32
  | 92 => 11#32
  | 93 => 9#32
  | 94 => 9#32
  | 95 => 7#32
  | 96 => 11#32
  | 97 => 9#32
  | 98 => 11#32
  | 99 => 9#32
  | 100 => 11#32
  | 101 => 11#32
  | 102 => 11#32
  | 103 => 7#32
  | 104 => 7#32
  | 105 => 11#32
  | 106 => 7#32
  | 107 => 7#32
  | 108 => 7#32
  | 109 => 7#32
  | 110 => 7#32
  | 111 => 7#32
  | 112 => 11#32
  | 113 => 7#32
  | 114 => 9#32
  | 115 => 11#32
  | 116 => 11#32
  | 117 => 7#32
  | 118 => 11#32
  | 119 => 9#32
  | 120 => 7#32
  | 121 => 7#32
  | 122 => 7#32
  | 123 => 11#32
  | 124 => 9#32
  | 125 => 11#32
  | 126 => 7#32
  | 127 => 7#32
  | _ => 0#32

noncomputable abbrev lit1t0_47 (i : Nat) : BitVec 32 := match i % 128 with
  | 0 => 11#32
  | 1 => 7#32
  | 2 => 7#32
  | 3 => 9#32
  | 4 => 7#32
  | 5 => 9#32
  | 6 => 7#32
  | 7 => 7#32
  | 8 => 9#32
  | 9 => 9#32
  | 10 => 7#32
  | 11 => 11#32
  | 12 => 11#32
  | 13 => 9#32
  | 14 => 7#32
  | 15 => 7#32
  | 16 => 9#32
  | 17 => 9#32
  | 18 => 7#32
  | 19 => 9#32
  | 20 => 9#32
  | 21 => 7#32
  | 22 => 11#32
  | 23 => 11#32
  | 24 => 9#32
  | 25 => 9#32
  | 26 => 11#32
  | 27 => 9#32
  | 28 => 7#32
  | 29 => 9#32
  | 30 => 9#32
  | 31 => 9#32
  | 32 => 11#32
  | 33 => 7#32
  | 34 => 7#32
  | 35 => 11#32
  | 36 => 7#32
  | 37 => 7#32
  | 38 => 7#32
  | 39 => 7#32
  | 40 => 9#32
  | 41 => 9#32
  | 42 => 7#32
  | 43 => 11#32
  | 44 => 7#32
  | 45 => 9#32
  | 46 => 11#32
  | 47 => 7#32
  | 48 => 11#32
  | 49 => 11#32
  | 50 => 9#32
  | 51 => 7#32
  | 52 => 11#32
  | 53 => 7#32
  | 54 => 9#32
  | 55 => 11#32
  | 56 => 9#32
  | 57 => 11#32
  | 58 => 9#32
  | 59 => 11#32
  | 60 => 7#32
  | 61 => 7#32
  | 62 => 7#32
  | 63 => 9#32
  | 64 => 9#32
  | 65 => 7#32
  | 66 => 7#32
  | 67 => 7#32
  | 68 => 9#32
  | 69 => 7#32
  | 70 => 11#32
  | 71 => 11#32
  | 72 => 9#32
  | 73 => 7#32
  | 74 => 9#32
  | 75 => 11#32
  | 76 => 9#32
  | 77 => 9#32
  | 78 => 7#32
  | 79 => 9#32
  | 80 => 7#32
  | 81 => 11#32
  | 82 => 7#32
  | 83 => 11#32
  | 84 => 9#32
  | 85 => 11#32
  | 86 => 11#32
  | 87 => 7#32
  | 88 => 7#32
  | 89 => 9#32
  | 90 => 11#32
  | 91 => 9#32
  | 92 => 9#32
  | 93 => 7#32
  | 94 => 9#32
  | 95 => 11#32
  | 96 => 9#32
  | 97 => 9#32
  | 98 => 9#32
  | 99 => 9#32
  | 100 => 11#32
  | 101 => 11#32
  | 102 => 7#32
  | 103 => 11#32
  | 104 => 11#32
  | 105 => 11#32
  | 106 => 9#32
  | 107 => 7#32
  | 108 => 7#32
  | 109 => 9#32
  | 110 => 7#32
  | 111 => 11#32
  | 112 => 11#32
  | 113 => 9#32
  | 114 => 7#32
  | 115 => 9#32
  | 116 => 9#32
  | 117 => 7#32
  | 118 => 9#32
  | 119 => 11#32
  | 120 => 9#32
  | 121 => 7#32
  | 122 => 9#32
  | 123 => 7#32
  | 124 => 7#32
  | 125 => 11#32
  | 126 => 11#32
  | 127 => 7#32
  | _ => 0#32

noncomputable abbrev lit1t0_48 (i : Nat) : BitVec 32 := match i % 128 with
  | 0 => 7#32
  | 1 => 9#32
  | 2 => 11#32
  | 3 => 7#32
  | 4 => 11#32
  | 5 => 9#32
  | 6 => 7#32
  | 7 => 11#32
  | 8 => 11#32
  | 9 => 11#32
  | 10 => 11#32
  | 11 => 11#32
  | 12 => 7#32
  | 13 => 7#32
  | 14 => 11#32
  | 15 => 7#32
  | 16 => 9#32
  | 17 => 11#32
  | 18 => 7#32
  | 19 => 9#32
  | 20 => 9#32
  | 21 => 11#32
  | 22 => 9#32
  | 23 => 9#32
  | 24 => 9#32
  | 25 => 9#32
  | 26 => 9#32
  | 27 => 7#32
  | 28 => 9#32
  | 29 => 9#32
  | 30 => 7#32
  | 31 => 9#32
  | 32 => 9#32
  | 33 => 7#32
  | 34 => 9#32
  | 35 => 9#32
  | 36 => 7#32
  | 37 => 9#32
  | 38 => 7#32
  | 39 => 7#32
  | 40 => 7#32
  | 41 => 11#32
  | 42 => 7#32
  | 43 => 9#32
  | 44 => 9#32
  | 45 => 9#32
  | 46 => 11#32
  | 47 => 9#32
  | 48 => 9#32
  | 49 => 9#32
  | 50 => 7#32
  | 51 => 7#32
  | 52 => 7#32
  | 53 => 7#32
  | 54 => 7#32
  | 55 => 11#32
  | 56 => 11#32
  | 57 => 7#32
  | 58 => 7#32
  | 59 => 7#32
  | 60 => 11#32
  | 61 => 9#32
  | 62 => 7#32
  | 63 => 7#32
  | 64 => 7#32
  | 65 => 7#32
  | 66 => 9#32
  | 67 => 11#32
  | 68 => 11#32
  | 69 => 11#32
  | 70 => 11#32
  | 71 => 9#32
  | 72 => 7#32
  | 73 => 7#32
  | 74 => 9#32
  | 75 => 9#32
  | 76 => 9#32
  | 77 => 11#32
  | 78 => 11#32
  | 79 => 7#32
  | 80 => 7#32
  | 81 => 7#32
  | 82 => 11#32
  | 83 => 7#32
  | 84 => 9#32
  | 85 => 11#32
  | 86 => 9#32
  | 87 => 11#32
  | 88 => 11#32
  | 89 => 11#32
  | 90 => 11#32
  | 91 => 9#32
  | 92 => 9#32
  | 93 => 11#32
  | 94 => 9#32
  | 95 => 9#32
  | 96 => 7#32
  | 97 => 9#32
  | 98 => 9#32
  | 99 => 9#32
  | 100 => 9#32
  | 101 => 7#32
  | 102 => 11#32
  | 103 => 11#32
  | 104 => 9#32
  | 105 => 11#32
  | 106 => 11#32
  | 107 => 7#32
  | 108 => 7#32
  | 109 => 9#32
  | 110 => 7#32
  | 111 => 7#32
  | 112 => 9#32
  | 113 => 7#32
  | 114 => 11#32
  | 115 => 7#32
  | 116 => 9#32
  | 117 => 9#32
  | 118 => 11#32
  | 119 => 7#32
  | 120 => 11#32
  | 121 => 11#32
  | 122 => 11#32
  | 123 => 9#32
  | 124 => 7#32
  | 125 => 11#32
  | 126 => 7#32
  | 127 => 11#32
  | _ => 0#32

noncomputable abbrev lit1t0_49 (i : Nat) : BitVec 32 := match i % 128 with
  | 0 => 7#32
  | 1 => 7#32
  | 2 => 7#32
  | 3 => 7#32
  | 4 => 7#32
  | 5 => 9#32
  | 6 => 11#32
  | 7 => 9#32
  | 8 => 11#32
  | 9 => 7#32
  | 10 => 9#32
  | 11 => 11#32
  | 12 => 7#32
  | 13 => 7#32
  | 14 => 9#32
  | 15 => 11#32
  | 16 => 11#32
  | 17 => 9#32
  | 18 => 11#32
  | 19 => 9#32
  | 20 => 9#32
  | 21 => 9#32
  | 22 => 11#32
  | 23 => 9#32
  | 24 => 7#32
  | 25 => 7#32
  | 26 => 11#32
  | 27 => 9#32
  | 28 => 9#32
  | 29 => 9#32
  | 30 => 9#32
  | 31 => 11#32
  | 32 => 11#32
  | 33 => 9#32
  | 34 => 11#32
  | 35 => 7#32
  | 36 => 11#32
  | 37 => 7#32
  | 38 => 9#32
  | 39 => 7#32
  | 40 => 11#32
  | 41 => 7#32
  | 42 => 7#32
  | 43 => 11#32
  | 44 => 7#32
  | 45 => 7#32
  | 46 => 7#32
  | 47 => 9#32
  | 48 => 9#32
  | 49 => 11#32
  | 50 => 9#32
  | 51 => 7#32
  | 52 => 9#32
  | 53 => 11#32
  | 54 => 7#32
  | 55 => 7#32
  | 56 => 11#32
  | 57 => 11#32
  | 58 => 7#32
  | 59 => 11#32
  | 60 => 11#32
  | 61 => 11#32
  | 62 => 11#32
  | 63 => 9#32
  | 64 => 9#32
  | 65 => 7#32
  | 66 => 11#32
  | 67 => 9#32
  | 68 => 9#32
  | 69 => 9#32
  | 70 => 11#32
  | 71 => 11#32
  | 72 => 7#32
  | 73 => 7#32
  | 74 => 11#32
  | 75 => 9#32
  | 76 => 9#32
  | 77 => 7#32
  | 78 => 11#32
  | 79 => 9#32
  | 80 => 9#32
  | 81 => 7#32
  | 82 => 9#32
  | 83 => 7#32
  | 84 => 9#32
  | 85 => 7#32
  | 86 => 9#32
  | 87 => 11#32
  | 88 => 11#32
  | 89 => 11#32
  | 90 => 9#32
  | 91 => 9#32
  | 92 => 7#32
  | 93 => 11#32
  | 94 => 9#32
  | 95 => 9#32
  | 96 => 11#32
  | 97 => 9#32
  | 98 => 9#32
  | 99 => 9#32
  | 100 => 7#32
  | 101 => 7#32
  | 102 => 7#32
  | 103 => 11#32
  | 104 => 9#32
  | 105 => 9#32
  | 106 => 7#32
  | 107 => 11#32
  | 108 => 7#32
  | 109 => 9#32
  | 110 => 11#32
  | 111 => 11#32
  | 112 => 9#32
  | 113 => 9#32
  | 114 => 7#32
  | 115 => 7#32
  | 116 => 7#32
  | 117 => 9#32
  | 118 => 9#32
  | 119 => 11#32
  | 120 => 9#32
  | 121 => 7#32
  | 122 => 9#32
  | 123 => 7#32
  | 124 => 7#32
  | 125 => 11#32
  | 126 => 9#32
  | 127 => 9#32
  | _ => 0#32

noncomputable abbrev lit1t0_50 (i : Nat) : BitVec 32 := match i % 128 with
  | 0 => 7#32
  | 1 => 9#32
  | 2 => 9#32
  | 3 => 9#32
  | 4 => 9#32
  | 5 => 9#32
  | 6 => 7#32
  | 7 => 11#32
  | 8 => 7#32
  | 9 => 9#32
  | 10 => 7#32
  | 11 => 9#32
  | 12 => 9#32
  | 13 => 7#32
  | 14 => 11#32
  | 15 => 11#32
  | 16 => 7#32
  | 17 => 11#32
  | 18 => 7#32
  | 19 => 9#32
  | 20 => 7#32
  | 21 => 7#32
  | 22 => 11#32
  | 23 => 9#32
  | 24 => 9#32
  | 25 => 7#32
  | 26 => 9#32
  | 27 => 9#32
  | 28 => 7#32
  | 29 => 9#32
  | 30 => 7#32
  | 31 => 9#32
  | 32 => 7#32
  | 33 => 9#32
  | 34 => 7#32
  | 35 => 11#32
  | 36 => 7#32
  | 37 => 7#32
  | 38 => 11#32
  | 39 => 9#32
  | 40 => 11#32
  | 41 => 7#32
  | 42 => 7#32
  | 43 => 11#32
  | 44 => 9#32
  | 45 => 9#32
  | 46 => 11#32
  | 47 => 11#32
  | 48 => 11#32
  | 49 => 9#32
  | 50 => 11#32
  | 51 => 9#32
  | 52 => 7#32
  | 53 => 9#32
  | 54 => 9#32
  | 55 => 9#32
  | 56 => 9#32
  | 57 => 9#32
  | 58 => 9#32
  | 59 => 9#32
  | 60 => 11#32
  | 61 => 9#32
  | 62 => 7#32
  | 63 => 11#32
  | 64 => 7#32
  | 65 => 11#32
  | 66 => 9#32
  | 67 => 9#32
  | 68 => 7#32
  | 69 => 11#32
  | 70 => 11#32
  | 71 => 9#32
  | 72 => 9#32
  | 73 => 7#32
  | 74 => 7#32
  | 75 => 11#32
  | 76 => 11#32
  | 77 => 7#32
  | 78 => 11#32
  | 79 => 9#32
  | 80 => 11#32
  | 81 => 11#32
  | 82 => 7#32
  | 83 => 11#32
  | 84 => 11#32
  | 85 => 7#32
  | 86 => 9#32
  | 87 => 7#32
  | 88 => 11#32
  | 89 => 11#32
  | 90 => 7#32
  | 91 => 7#32
  | 92 => 9#32
  | 93 => 11#32
  | 94 => 11#32
  | 95 => 9#32
  | 96 => 9#32
  | 97 => 9#32
  | 98 => 7#32
  | 99 => 9#32
  | 100 => 7#32
  | 101 => 9#32
  | 102 => 11#32
  | 103 => 9#32
  | 104 => 7#32
  | 105 => 11#32
  | 106 => 11#32
  | 107 => 7#32
  | 108 => 7#32
  | 109 => 11#32
  | 110 => 7#32
  | 111 => 7#32
  | 112 => 11#32
  | 113 => 9#32
  | 114 => 9#32
  | 115 => 11#32
  | 116 => 9#32
  | 117 => 11#32
  | 118 => 7#32
  | 119 => 9#32
  | 120 => 7#32
  | 121 => 9#32
  | 122 => 7#32
  | 123 => 11#32
  | 124 => 9#32
  | 125 => 9#32
  | 126 => 7#32
  | 127 => 7#32
  | _ => 0#32

noncomputable abbrev lit1t0_51 (i : Nat) : BitVec 32 := match i % 128 with
  | 0 => 9#32
  | 1 => 11#32
  | 2 => 9#32
  | 3 => 9#32
  | 4 => 7#32
  | 5 => 7#32
  | 6 => 7#32
  | 7 => 7#32
  | 8 => 7#32
  | 9 => 7#32
  | 10 => 7#32
  | 11 => 9#32
  | 12 => 9#32
  | 13 => 7#32
  | 14 => 11#32
  | 15 => 11#32
  | 16 => 11#32
  | 17 => 9#32
  | 18 => 11#32
  | 19 => 11#32
  | 20 => 9#32
  | 21 => 7#32
  | 22 => 9#32
  | 23 => 11#32
  | 24 => 9#32
  | 25 => 7#32
  | 26 => 7#32
  | 27 => 7#32
  | 28 => 11#32
  | 29 => 9#32
  | 30 => 11#32
  | 31 => 9#32
  | 32 => 7#32
  | 33 => 7#32
  | 34 => 11#32
  | 35 => 9#32
  | 36 => 9#32
  | 37 => 7#32
  | 38 => 7#32
  | 39 => 9#32
  | 40 => 11#32
  | 41 => 9#32
  | 42 => 11#32
  | 43 => 11#32
  | 44 => 11#32
  | 45 => 11#32
  | 46 => 11#32
  | 47 => 11#32
  | 48 => 9#32
  | 49 => 11#32
  | 50 => 7#32
  | 51 => 9#32
  | 52 => 11#32
  | 53 => 9#32
  | 54 => 7#32
  | 55 => 7#32
  | 56 => 7#32
  | 57 => 9#32
  | 58 => 7#32
  | 59 => 9#32
  | 60 => 9#32
  | 61 => 9#32
  | 62 => 11#32
  | 63 => 11#32
  | 64 => 7#32
  | 65 => 7#32
  | 66 => 9#32
  | 67 => 7#32
  | 68 => 7#32
  | 69 => 9#32
  | 70 => 9#32
  | 71 => 11#32
  | 72 => 7#32
  | 73 => 9#32
  | 74 => 11#32
  | 75 => 11#32
  | 76 => 7#32
  | 77 => 7#32
  | 78 => 7#32
  | 79 => 7#32
  | 80 => 7#32
  | 81 => 7#32
  | 82 => 9#32
  | 83 => 11#32
  | 84 => 11#32
  | 85 => 11#32
  | 86 => 7#32
  | 87 => 9#32
  | 88 => 11#32
  | 89 => 9#32
  | 90 => 9#32
  | 91 => 7#32
  | 92 => 7#32
  | 93 => 11#32
  | 94 => 11#32
  | 95 => 11#32
  | 96 => 9#32
  | 97 => 7#32
  | 98 => 7#32
  | 99 => 11#32
  | 100 => 9#32
  | 101 => 9#32
  | 102 => 9#32
  | 103 => 11#32
  | 104 => 7#32
  | 105 => 9#32
  | 106 => 9#32
  | 107 => 9#32
  | 108 => 7#32
  | 109 => 9#32
  | 110 => 7#32
  | 111 => 7#32
  | 112 => 11#32
  | 113 => 7#32
  | 114 => 9#32
  | 115 => 7#32
  | 116 => 7#32
  | 117 => 7#32
  | 118 => 11#32
  | 119 => 9#32
  | 120 => 9#32
  | 121 => 7#32
  | 122 => 11#32
  | 123 => 7#32
  | 124 => 9#32
  | 125 => 11#32
  | 126 => 9#32
  | 127 => 7#32
  | _ => 0#32

noncomputable abbrev lit1t0_52 (i : Nat) : BitVec 32 := match i % 128 with
  | 0 => 9#32
  | 1 => 9#32
  | 2 => 7#32
  | 3 => 9#32
  | 4 => 7#32
  | 5 => 11#32
  | 6 => 9#32
  | 7 => 11#32
  | 8 => 7#32
  | 9 => 7#32
  | 10 => 9#32
  | 11 => 9#32
  | 12 => 7#32
  | 13 => 9#32
  | 14 => 7#32
  | 15 => 9#32
  | 16 => 11#32
  | 17 => 7#32
  | 18 => 7#32
  | 19 => 9#32
  | 20 => 9#32
  | 21 => 11#32
  | 22 => 9#32
  | 23 => 9#32
  | 24 => 9#32
  | 25 => 9#32
  | 26 => 9#32
  | 27 => 11#32
  | 28 => 7#32
  | 29 => 11#32
  | 30 => 9#32
  | 31 => 11#32
  | 32 => 7#32
  | 33 => 11#32
  | 34 => 11#32
  | 35 => 11#32
  | 36 => 7#32
  | 37 => 7#32
  | 38 => 9#32
  | 39 => 9#32
  | 40 => 7#32
  | 41 => 7#32
  | 42 => 9#32
  | 43 => 7#32
  | 44 => 7#32
  | 45 => 7#32
  | 46 => 9#32
  | 47 => 11#32
  | 48 => 7#32
  | 49 => 11#32
  | 50 => 9#32
  | 51 => 9#32
  | 52 => 11#32
  | 53 => 7#32
  | 54 => 9#32
  | 55 => 9#32
  | 56 => 11#32
  | 57 => 11#32
  | 58 => 9#32
  | 59 => 9#32
  | 60 => 11#32
  | 61 => 7#32
  | 62 => 11#32
  | 63 => 9#32
  | 64 => 9#32
  | 65 => 7#32
  | 66 => 11#32
  | 67 => 7#32
  | 68 => 9#32
  | 69 => 11#32
  | 70 => 7#32
  | 71 => 11#32
  | 72 => 9#32
  | 73 => 7#32
  | 74 => 11#32
  | 75 => 9#32
  | 76 => 9#32
  | 77 => 9#32
  | 78 => 11#32
  | 79 => 11#32
  | 80 => 11#32
  | 81 => 9#32
  | 82 => 11#32
  | 83 => 11#32
  | 84 => 7#32
  | 85 => 11#32
  | 86 => 7#32
  | 87 => 11#32
  | 88 => 11#32
  | 89 => 7#32
  | 90 => 9#32
  | 91 => 7#32
  | 92 => 9#32
  | 93 => 11#32
  | 94 => 7#32
  | 95 => 11#32
  | 96 => 9#32
  | 97 => 11#32
  | 98 => 9#32
  | 99 => 7#32
  | 100 => 7#32
  | 101 => 9#32
  | 102 => 7#32
  | 103 => 9#32
  | 104 => 11#32
  | 105 => 9#32
  | 106 => 9#32
  | 107 => 7#32
  | 108 => 11#32
  | 109 => 7#32
  | 110 => 11#32
  | 111 => 11#32
  | 112 => 7#32
  | 113 => 11#32
  | 114 => 7#32
  | 115 => 7#32
  | 116 => 11#32
  | 117 => 7#32
  | 118 => 11#32
  | 119 => 11#32
  | 120 => 11#32
  | 121 => 7#32
  | 122 => 11#32
  | 123 => 7#32
  | 124 => 7#32
  | 125 => 11#32
  | 126 => 7#32
  | 127 => 11#32
  | _ => 0#32

noncomputable abbrev lit1t0_53 (i : Nat) : BitVec 32 := match i % 128 with
  | 0 => 11#32
  | 1 => 7#32
  | 2 => 11#32
  | 3 => 9#32
  | 4 => 9#32
  | 5 => 9#32
  | 6 => 11#32
  | 7 => 7#32
  | 8 => 9#32
  | 9 => 9#32
  | 10 => 9#32
  | 11 => 7#32
  | 12 => 11#32
  | 13 => 11#32
  | 14 => 9#32
  | 15 => 11#32
  | 16 => 11#32
  | 17 => 9#32
  | 18 => 7#32
  | 19 => 7#32
  | 20 => 9#32
  | 21 => 9#32
  | 22 => 9#32
  | 23 => 9#32
  | 24 => 7#32
  | 25 => 11#32
  | 26 => 7#32
  | 27 => 11#32
  | 28 => 7#32
  | 29 => 9#32
  | 30 => 7#32
  | 31 => 7#32
  | 32 => 7#32
  | 33 => 7#32
  | 34 => 7#32
  | 35 => 7#32
  | 36 => 7#32
  | 37 => 9#32
  | 38 => 9#32
  | 39 => 11#32
  | 40 => 7#32
  | 41 => 7#32
  | 42 => 7#32
  | 43 => 11#32
  | 44 => 7#32
  | 45 => 7#32
  | 46 => 11#32
  | 47 => 9#32
  | 48 => 7#32
  | 49 => 11#32
  | 50 => 9#32
  | 51 => 7#32
  | 52 => 9#32
  | 53 => 11#32
  | 54 => 9#32
  | 55 => 9#32
  | 56 => 9#32
  | 57 => 11#32
  | 58 => 7#32
  | 59 => 11#32
  | 60 => 9#32
  | 61 => 7#32
  | 62 => 9#32
  | 63 => 7#32
  | 64 => 11#32
  | 65 => 11#32
  | 66 => 7#32
  | 67 => 11#32
  | 68 => 9#32
  | 69 => 7#32
  | 70 => 11#32
  | 71 => 7#32
  | 72 => 9#32
  | 73 => 11#32
  | 74 => 7#32
  | 75 => 11#32
  | 76 => 7#32
  | 77 => 9#32
  | 78 => 7#32
  | 79 => 11#32
  | 80 => 9#32
  | 81 => 11#32
  | 82 => 11#32
  | 83 => 11#32
  | 84 => 9#32
  | 85 => 9#32
  | 86 => 7#32
  | 87 => 11#32
  | 88 => 11#32
  | 89 => 7#32
  | 90 => 11#32
  | 91 => 7#32
  | 92 => 9#32
  | 93 => 7#32
  | 94 => 7#32
  | 95 => 11#32
  | 96 => 11#32
  | 97 => 7#32
  | 98 => 7#32
  | 99 => 9#32
  | 100 => 11#32
  | 101 => 11#32
  | 102 => 7#32
  | 103 => 7#32
  | 104 => 7#32
  | 105 => 9#32
  | 106 => 11#32
  | 107 => 7#32
  | 108 => 9#32
  | 109 => 7#32
  | 110 => 7#32
  | 111 => 9#32
  | 112 => 11#32
  | 113 => 11#32
  | 114 => 7#32
  | 115 => 9#32
  | 116 => 7#32
  | 117 => 7#32
  | 118 => 7#32
  | 119 => 9#32
  | 120 => 9#32
  | 121 => 9#32
  | 122 => 11#32
  | 123 => 9#32
  | 124 => 11#32
  | 125 => 11#32
  | 126 => 11#32
  | 127 => 9#32
  | _ => 0#32

noncomputable abbrev lit1t0_54 (i : Nat) : BitVec 32 := match i % 128 with
  | 0 => 11#32
  | 1 => 7#32
  | 2 => 9#32
  | 3 => 7#32
  | 4 => 11#32
  | 5 => 7#32
  | 6 => 9#32
  | 7 => 9#32
  | 8 => 11#32
  | 9 => 11#32
  | 10 => 7#32
  | 11 => 9#32
  | 12 => 11#32
  | 13 => 9#32
  | 14 => 7#32
  | 15 => 11#32
  | 16 => 9#32
  | 17 => 7#32
  | 18 => 9#32
  | 19 => 11#32
  | 20 => 7#32
  | 21 => 9#32
  | 22 => 9#32
  | 23 => 11#32
  | 24 => 9#32
  | 25 => 11#32
  | 26 => 11#32
  | 27 => 11#32
  | 28 => 7#32
  | 29 => 7#32
  | 30 => 9#32
  | 31 => 7#32
  | 32 => 11#32
  | 33 => 9#32
  | 34 => 9#32
  | 35 => 7#32
  | 36 => 7#32
  | 37 => 9#32
  | 38 => 11#32
  | 39 => 11#32
  | 40 => 7#32
  | 41 => 11#32
  | 42 => 9#32
  | 43 => 7#32
  | 44 => 11#32
  | 45 => 7#32
  | 46 => 9#32
  | 47 => 11#32
  | 48 => 9#32
  | 49 => 7#32
  | 50 => 11#32
  | 51 => 11#32
  | 52 => 11#32
  | 53 => 11#32
  | 54 => 7#32
  | 55 => 7#32
  | 56 => 9#32
  | 57 => 11#32
  | 58 => 11#32
  | 59 => 11#32
  | 60 => 7#32
  | 61 => 11#32
  | 62 => 9#32
  | 63 => 11#32
  | 64 => 9#32
  | 65 => 11#32
  | 66 => 9#32
  | 67 => 11#32
  | 68 => 9#32
  | 69 => 11#32
  | 70 => 11#32
  | 71 => 7#32
  | 72 => 7#32
  | 73 => 9#32
  | 74 => 9#32
  | 75 => 11#32
  | 76 => 11#32
  | 77 => 11#32
  | 78 => 7#32
  | 79 => 11#32
  | 80 => 11#32
  | 81 => 11#32
  | 82 => 7#32
  | 83 => 9#32
  | 84 => 9#32
  | 85 => 9#32
  | 86 => 11#32
  | 87 => 7#32
  | 88 => 7#32
  | 89 => 9#32
  | 90 => 11#32
  | 91 => 11#32
  | 92 => 11#32
  | 93 => 7#32
  | 94 => 11#32
  | 95 => 11#32
  | 96 => 7#32
  | 97 => 7#32
  | 98 => 7#32
  | 99 => 11#32
  | 100 => 7#32
  | 101 => 7#32
  | 102 => 7#32
  | 103 => 7#32
  | 104 => 11#32
  | 105 => 7#32
  | 106 => 9#32
  | 107 => 9#32
  | 108 => 7#32
  | 109 => 11#32
  | 110 => 7#32
  | 111 => 7#32
  | 112 => 11#32
  | 113 => 11#32
  | 114 => 9#32
  | 115 => 9#32
  | 116 => 9#32
  | 117 => 7#32
  | 118 => 9#32
  | 119 => 11#32
  | 120 => 9#32
  | 121 => 11#32
  | 122 => 9#32
  | 123 => 9#32
  | 124 => 11#32
  | 125 => 9#32
  | 126 => 7#32
  | 127 => 11#32
  | _ => 0#32

noncomputable abbrev lit1t0_55 (i : Nat) : BitVec 32 := match i % 128 with
  | 0 => 7#32
  | 1 => 9#32
  | 2 => 11#32
  | 3 => 9#32
  | 4 => 7#32
  | 5 => 9#32
  | 6 => 7#32
  | 7 => 9#32
  | 8 => 11#32
  | 9 => 11#32
  | 10 => 9#32
  | 11 => 9#32
  | 12 => 7#32
  | 13 => 9#32
  | 14 => 11#32
  | 15 => 11#32
  | 16 => 7#32
  | 17 => 7#32
  | 18 => 7#32
  | 19 => 9#32
  | 20 => 9#32
  | 21 => 9#32
  | 22 => 7#32
  | 23 => 7#32
  | 24 => 7#32
  | 25 => 11#32
  | 26 => 7#32
  | 27 => 9#32
  | 28 => 9#32
  | 29 => 7#32
  | 30 => 7#32
  | 31 => 7#32
  | 32 => 9#32
  | 33 => 7#32
  | 34 => 11#32
  | 35 => 9#32
  | 36 => 7#32
  | 37 => 7#32
  | 38 => 9#32
  | 39 => 11#32
  | 40 => 11#32
  | 41 => 11#32
  | 42 => 9#32
  | 43 => 7#32
  | 44 => 11#32
  | 45 => 7#32
  | 46 => 11#32
  | 47 => 9#32
  | 48 => 7#32
  | 49 => 7#32
  | 50 => 7#32
  | 51 => 7#32
  | 52 => 9#32
  | 53 => 7#32
  | 54 => 11#32
  | 55 => 9#32
  | 56 => 7#32
  | 57 => 11#32
  | 58 => 11#32
  | 59 => 11#32
  | 60 => 7#32
  | 61 => 9#32
  | 62 => 11#32
  | 63 => 9#32
  | 64 => 7#32
  | 65 => 9#32
  | 66 => 9#32
  | 67 => 9#32
  | 68 => 11#32
  | 69 => 11#32
  | 70 => 7#32
  | 71 => 11#32
  | 72 => 11#32
  | 73 => 9#32
  | 74 => 11#32
  | 75 => 9#32
  | 76 => 7#32
  | 77 => 11#32
  | 78 => 9#32
  | 79 => 9#32
  | 80 => 9#32
  | 81 => 9#32
  | 82 => 7#32
  | 83 => 9#32
  | 84 => 9#32
  | 85 => 7#32
  | 86 => 9#32
  | 87 => 7#32
  | 88 => 9#32
  | 89 => 11#32
  | 90 => 11#32
  | 91 => 9#32
  | 92 => 9#32
  | 93 => 11#32
  | 94 => 9#32
  | 95 => 7#32
  | 96 => 11#32
  | 97 => 7#32
  | 98 => 7#32
  | 99 => 11#32
  | 100 => 11#32
  | 101 => 9#32
  | 102 => 9#32
  | 103 => 11#32
  | 104 => 7#32
  | 105 => 7#32
  | 106 => 11#32
  | 107 => 11#32
  | 108 => 9#32
  | 109 => 9#32
  | 110 => 11#32
  | 111 => 9#32
  | 112 => 7#32
  | 113 => 9#32
  | 114 => 9#32
  | 115 => 7#32
  | 116 => 11#32
  | 117 => 11#32
  | 118 => 7#32
  | 119 => 9#32
  | 120 => 9#32
  | 121 => 9#32
  | 122 => 9#32
  | 123 => 9#32
  | 124 => 9#32
  | 125 => 11#32
  | 126 => 7#32
  | 127 => 11#32
  | _ => 0#32

noncomputable abbrev lit1t0_56 (i : Nat) : BitVec 32 := match i % 128 with
  | 0 => 7#32
  | 1 => 9#32
  | 2 => 11#32
  | 3 => 7#32
  | 4 => 11#32
  | 5 => 9#32
  | 6 => 11#32
  | 7 => 11#32
  | 8 => 11#32
  | 9 => 7#32
  | 10 => 9#32
  | 11 => 7#32
  | 12 => 9#32
  | 13 => 11#32
  | 14 => 11#32
  | 15 => 11#32
  | 16 => 9#32
  | 17 => 7#32
  | 18 => 11#32
  | 19 => 11#32
  | 20 => 11#32
  | 21 => 11#32
  | 22 => 11#32
  | 23 => 9#32
  | 24 => 9#32
  | 25 => 11#32
  | 26 => 9#32
  | 27 => 11#32
  | 28 => 11#32
  | 29 => 11#32
  | 30 => 11#32
  | 31 => 7#32
  | 32 => 11#32
  | 33 => 7#32
  | 34 => 7#32
  | 35 => 7#32
  | 36 => 9#32
  | 37 => 9#32
  | 38 => 11#32
  | 39 => 7#32
  | 40 => 9#32
  | 41 => 7#32
  | 42 => 7#32
  | 43 => 11#32
  | 44 => 11#32
  | 45 => 7#32
  | 46 => 11#32
  | 47 => 7#32
  | 48 => 11#32
  | 49 => 7#32
  | 50 => 9#32
  | 51 => 7#32
  | 52 => 7#32
  | 53 => 7#32
  | 54 => 7#32
  | 55 => 7#32
  | 56 => 7#32
  | 57 => 7#32
  | 58 => 7#32
  | 59 => 11#32
  | 60 => 11#32
  | 61 => 9#32
  | 62 => 9#32
  | 63 => 11#32
  | 64 => 9#32
  | 65 => 11#32
  | 66 => 11#32
  | 67 => 9#32
  | 68 => 9#32
  | 69 => 7#32
  | 70 => 9#32
  | 71 => 11#32
  | 72 => 11#32
  | 73 => 9#32
  | 74 => 9#32
  | 75 => 7#32
  | 76 => 11#32
  | 77 => 11#32
  | 78 => 9#32
  | 79 => 7#32
  | 80 => 11#32
  | 81 => 9#32
  | 82 => 9#32
  | 83 => 11#32
  | 84 => 7#32
  | 85 => 7#32
  | 86 => 11#32
  | 87 => 9#32
  | 88 => 11#32
  | 89 => 7#32
  | 90 => 11#32
  | 91 => 11#32
  | 92 => 9#32
  | 93 => 11#32
  | 94 => 9#32
  | 95 => 7#32
  | 96 => 11#32
  | 97 => 7#32
  | 98 => 11#32
  | 99 => 7#32
  | 100 => 9#32
  | 101 => 9#32
  | 102 => 11#32
  | 103 => 9#32
  | 104 => 11#32
  | 105 => 7#32
  | 106 => 11#32
  | 107 => 11#32
  | 108 => 7#32
  | 109 => 7#32
  | 110 => 7#32
  | 111 => 7#32
  | 112 => 11#32
  | 113 => 11#32
  | 114 => 7#32
  | 115 => 7#32
  | 116 => 11#32
  | 117 => 11#32
  | 118 => 11#32
  | 119 => 11#32
  | 120 => 9#32
  | 121 => 9#32
  | 122 => 7#32
  | 123 => 7#32
  | 124 => 11#32
  | 125 => 9#32
  | 126 => 11#32
  | 127 => 7#32
  | _ => 0#32

noncomputable abbrev lit1t0_57 (i : Nat) : BitVec 32 := match i % 128 with
  | 0 => 7#32
  | 1 => 7#32
  | 2 => 7#32
  | 3 => 7#32
  | 4 => 11#32
  | 5 => 7#32
  | 6 => 7#32
  | 7 => 9#32
  | 8 => 7#32
  | 9 => 11#32
  | 10 => 11#32
  | 11 => 11#32
  | 12 => 7#32
  | 13 => 7#32
  | 14 => 7#32
  | 15 => 11#32
  | 16 => 11#32
  | 17 => 11#32
  | 18 => 7#32
  | 19 => 11#32
  | 20 => 9#32
  | 21 => 9#32
  | 22 => 11#32
  | 23 => 9#32
  | 24 => 9#32
  | 25 => 7#32
  | 26 => 11#32
  | 27 => 11#32
  | 28 => 7#32
  | 29 => 9#32
  | 30 => 9#32
  | 31 => 9#32
  | 32 => 7#32
  | 33 => 9#32
  | 34 => 11#32
  | 35 => 9#32
  | 36 => 9#32
  | 37 => 9#32
  | 38 => 9#32
  | 39 => 7#32
  | 40 => 11#32
  | 41 => 7#32
  | 42 => 11#32
  | 43 => 7#32
  | 44 => 11#32
  | 45 => 11#32
  | 46 => 9#32
  | 47 => 7#32
  | 48 => 9#32
  | 49 => 9#32
  | 50 => 11#32
  | 51 => 7#32
  | 52 => 11#32
  | 53 => 7#32
  | 54 => 9#32
  | 55 => 9#32
  | 56 => 11#32
  | 57 => 7#32
  | 58 => 11#32
  | 59 => 7#32
  | 60 => 11#32
  | 61 => 9#32
  | 62 => 9#32
  | 63 => 9#32
  | 64 => 11#32
  | 65 => 7#32
  | 66 => 11#32
  | 67 => 7#32
  | 68 => 9#32
  | 69 => 7#32
  | 70 => 7#32
  | 71 => 9#32
  | 72 => 9#32
  | 73 => 9#32
  | 74 => 7#32
  | 75 => 9#32
  | 76 => 11#32
  | 77 => 9#32
  | 78 => 11#32
  | 79 => 11#32
  | 80 => 7#32
  | 81 => 9#32
  | 82 => 11#32
  | 83 => 9#32
  | 84 => 11#32
  | 85 => 7#32
  | 86 => 11#32
  | 87 => 7#32
  | 88 => 7#32
  | 89 => 9#32
  | 90 => 11#32
  | 91 => 9#32
  | 92 => 7#32
  | 93 => 11#32
  | 94 => 9#32
  | 95 => 9#32
  | 96 => 11#32
  | 97 => 7#32
  | 98 => 11#32
  | 99 => 7#32
  | 100 => 11#32
  | 101 => 9#32
  | 102 => 9#32
  | 103 => 9#32
  | 104 => 9#32
  | 105 => 9#32
  | 106 => 7#32
  | 107 => 9#32
  | 108 => 11#32
  | 109 => 11#32
  | 110 => 11#32
  | 111 => 9#32
  | 112 => 11#32
  | 113 => 11#32
  | 114 => 11#32
  | 115 => 7#32
  | 116 => 9#32
  | 117 => 7#32
  | 118 => 11#32
  | 119 => 9#32
  | 120 => 9#32
  | 121 => 9#32
  | 122 => 7#32
  | 123 => 7#32
  | 124 => 7#32
  | 125 => 11#32
  | 126 => 11#32
  | 127 => 7#32
  | _ => 0#32

noncomputable abbrev lit1t0_58 (i : Nat) : BitVec 32 := match i % 128 with
  | 0 => 9#32
  | 1 => 11#32
  | 2 => 11#32
  | 3 => 9#32
  | 4 => 11#32
  | 5 => 7#32
  | 6 => 7#32
  | 7 => 11#32
  | 8 => 7#32
  | 9 => 11#32
  | 10 => 7#32
  | 11 => 11#32
  | 12 => 7#32
  | 13 => 9#32
  | 14 => 9#32
  | 15 => 7#32
  | 16 => 9#32
  | 17 => 9#32
  | 18 => 11#32
  | 19 => 9#32
  | 20 => 11#32
  | 21 => 9#32
  | 22 => 7#32
  | 23 => 7#32
  | 24 => 11#32
  | 25 => 7#32
  | 26 => 7#32
  | 27 => 9#32
  | 28 => 7#32
  | 29 => 11#32
  | 30 => 7#32
  | 31 => 7#32
  | 32 => 11#32
  | 33 => 11#32
  | 34 => 9#32
  | 35 => 9#32
  | 36 => 9#32
  | 37 => 11#32
  | 38 => 11#32
  | 39 => 9#32
  | 40 => 11#32
  | 41 => 11#32
  | 42 => 9#32
  | 43 => 9#32
  | 44 => 9#32
  | 45 => 7#32
  | 46 => 7#32
  | 47 => 7#32
  | 48 => 11#32
  | 49 => 11#32
  | 50 => 9#32
  | 51 => 7#32
  | 52 => 7#32
  | 53 => 7#32
  | 54 => 7#32
  | 55 => 9#32
  | 56 => 9#32
  | 57 => 9#32
  | 58 => 11#32
  | 59 => 11#32
  | 60 => 11#32
  | 61 => 7#32
  | 62 => 11#32
  | 63 => 7#32
  | 64 => 11#32
  | 65 => 7#32
  | 66 => 9#32
  | 67 => 7#32
  | 68 => 11#32
  | 69 => 9#32
  | 70 => 11#32
  | 71 => 7#32
  | 72 => 11#32
  | 73 => 7#32
  | 74 => 9#32
  | 75 => 11#32
  | 76 => 9#32
  | 77 => 9#32
  | 78 => 9#32
  | 79 => 9#32
  | 80 => 7#32
  | 81 => 11#32
  | 82 => 11#32
  | 83 => 7#32
  | 84 => 11#32
  | 85 => 7#32
  | 86 => 9#32
  | 87 => 9#32
  | 88 => 9#32
  | 89 => 11#32
  | 90 => 9#32
  | 91 => 9#32
  | 92 => 11#32
  | 93 => 11#32
  | 94 => 11#32
  | 95 => 9#32
  | 96 => 7#32
  | 97 => 11#32
  | 98 => 7#32
  | 99 => 9#32
  | 100 => 9#32
  | 101 => 7#32
  | 102 => 7#32
  | 103 => 11#32
  | 104 => 9#32
  | 105 => 7#32
  | 106 => 9#32
  | 107 => 9#32
  | 108 => 7#32
  | 109 => 11#32
  | 110 => 7#32
  | 111 => 11#32
  | 112 => 7#32
  | 113 => 7#32
  | 114 => 7#32
  | 115 => 11#32
  | 116 => 7#32
  | 117 => 7#32
  | 118 => 9#32
  | 119 => 11#32
  | 120 => 9#32
  | 121 => 9#32
  | 122 => 9#32
  | 123 => 7#32
  | 124 => 11#32
  | 125 => 9#32
  | 126 => 7#32
  | 127 => 11#32
  | _ => 0#32

noncomputable abbrev lit1t0_59 (i : Nat) : BitVec 32 := match i % 128 with
  | 0 => 7#32
  | 1 => 7#32
  | 2 => 7#32
  | 3 => 11#32
  | 4 => 9#32
  | 5 => 11#32
  | 6 => 7#32
  | 7 => 9#32
  | 8 => 11#32
  | 9 => 9#32
  | 10 => 7#32
  | 11 => 7#32
  | 12 => 11#32
  | 13 => 7#32
  | 14 => 7#32
  | 15 => 9#32
  | 16 => 7#32
  | 17 => 11#32
  | 18 => 7#32
  | 19 => 9#32
  | 20 => 7#32
  | 21 => 7#32
  | 22 => 9#32
  | 23 => 7#32
  | 24 => 11#32
  | 25 => 9#32
  | 26 => 9#32
  | 27 => 11#32
  | 28 => 9#32
  | 29 => 7#32
  | 30 => 11#32
  | 31 => 7#32
  | 32 => 7#32
  | 33 => 9#32
  | 34 => 7#32
  | 35 => 11#32
  | 36 => 9#32
  | 37 => 11#32
  | 38 => 9#32
  | 39 => 9#32
  | 40 => 7#32
  | 41 => 11#32
  | 42 => 7#32
  | 43 => 7#32
  | 44 => 9#32
  | 45 => 9#32
  | 46 => 11#32
  | 47 => 9#32
  | 48 => 7#32
  | 49 => 11#32
  | 50 => 11#32
  | 51 => 11#32
  | 52 => 7#32
  | 53 => 11#32
  | 54 => 11#32
  | 55 => 9#32
  | 56 => 9#32
  | 57 => 11#32
  | 58 => 9#32
  | 59 => 7#32
  | 60 => 7#32
  | 61 => 9#32
  | 62 => 7#32
  | 63 => 11#32
  | 64 => 11#32
  | 65 => 9#32
  | 66 => 7#32
  | 67 => 9#32
  | 68 => 7#32
  | 69 => 9#32
  | 70 => 7#32
  | 71 => 7#32
  | 72 => 11#32
  | 73 => 7#32
  | 74 => 9#32
  | 75 => 11#32
  | 76 => 7#32
  | 77 => 7#32
  | 78 => 11#32
  | 79 => 11#32
  | 80 => 7#32
  | 81 => 7#32
  | 82 => 9#32
  | 83 => 11#32
  | 84 => 9#32
  | 85 => 9#32
  | 86 => 9#32
  | 87 => 11#32
  | 88 => 7#32
  | 89 => 7#32
  | 90 => 11#32
  | 91 => 11#32
  | 92 => 9#32
  | 93 => 9#32
  | 94 => 11#32
  | 95 => 11#32
  | 96 => 9#32
  | 97 => 7#32
  | 98 => 9#32
  | 99 => 9#32
  | 100 => 11#32
  | 101 => 9#32
  | 102 => 7#32
  | 103 => 11#32
  | 104 => 11#32
  | 105 => 11#32
  | 106 => 7#32
  | 107 => 11#32
  | 108 => 7#32
  | 109 => 11#32
  | 110 => 9#32
  | 111 => 11#32
  | 112 => 9#32
  | 113 => 9#32
  | 114 => 11#32
  | 115 => 11#32
  | 116 => 9#32
  | 117 => 11#32
  | 118 => 11#32
  | 119 => 7#32
  | 120 => 7#32
  | 121 => 11#32
  | 122 => 7#32
  | 123 => 9#32
  | 124 => 7#32
  | 125 => 11#32
  | 126 => 9#32
  | 127 => 7#32
  | _ => 0#32

noncomputable abbrev lit1t0_60 (i : Nat) : BitVec 32 := match i % 128 with
  | 0 => 7#32
  | 1 => 7#32
  | 2 => 9#32
  | 3 => 11#32
  | 4 => 7#32
  | 5 => 11#32
  | 6 => 9#32
  | 7 => 9#32
  | 8 => 7#32
  | 9 => 7#32
  | 10 => 9#32
  | 11 => 9#32
  | 12 => 7#32
  | 13 => 7#32
  | 14 => 11#32
  | 15 => 7#32
  | 16 => 11#32
  | 17 => 7#32
  | 18 => 9#32
  | 19 => 9#32
  | 20 => 9#32
  | 21 => 7#32
  | 22 => 9#32
  | 23 => 11#32
  | 24 => 7#32
  | 25 => 11#32
  | 26 => 9#32
  | 27 => 7#32
  | 28 => 7#32
  | 29 => 11#32
  | 30 => 11#32
  | 31 => 7#32
  | 32 => 7#32
  | 33 => 9#32
  | 34 => 9#32
  | 35 => 9#32
  | 36 => 7#32
  | 37 => 9#32
  | 38 => 11#32
  | 39 => 7#32
  | 40 => 9#32
  | 41 => 11#32
  | 42 => 9#32
  | 43 => 11#32
  | 44 => 9#32
  | 45 => 11#32
  | 46 => 11#32
  | 47 => 9#32
  | 48 => 11#32
  | 49 => 7#32
  | 50 => 11#32
  | 51 => 9#32
  | 52 => 7#32
  | 53 => 7#32
  | 54 => 9#32
  | 55 => 7#32
  | 56 => 9#32
  | 57 => 9#32
  | 58 => 9#32
  | 59 => 9#32
  | 60 => 7#32
  | 61 => 7#32
  | 62 => 7#32
  | 63 => 9#32
  | 64 => 11#32
  | 65 => 9#32
  | 66 => 9#32
  | 67 => 9#32
  | 68 => 9#32
  | 69 => 7#32
  | 70 => 7#32
  | 71 => 11#32
  | 72 => 7#32
  | 73 => 11#32
  | 74 => 7#32
  | 75 => 11#32
  | 76 => 7#32
  | 77 => 9#32
  | 78 => 7#32
  | 79 => 11#32
  | 80 => 11#32
  | 81 => 11#32
  | 82 => 9#32
  | 83 => 9#32
  | 84 => 11#32
  | 85 => 7#32
  | 86 => 7#32
  | 87 => 9#32
  | 88 => 11#32
  | 89 => 11#32
  | 90 => 9#32
  | 91 => 11#32
  | 92 => 9#32
  | 93 => 7#32
  | 94 => 9#32
  | 95 => 7#32
  | 96 => 11#32
  | 97 => 9#32
  | 98 => 11#32
  | 99 => 11#32
  | 100 => 9#32
  | 101 => 7#32
  | 102 => 11#32
  | 103 => 7#32
  | 104 => 7#32
  | 105 => 7#32
  | 106 => 9#32
  | 107 => 11#32
  | 108 => 9#32
  | 109 => 11#32
  | 110 => 11#32
  | 111 => 7#32
  | 112 => 11#32
  | 113 => 7#32
  | 114 => 7#32
  | 115 => 11#32
  | 116 => 9#32
  | 117 => 9#32
  | 118 => 9#32
  | 119 => 7#32
  | 120 => 9#32
  | 121 => 11#32
  | 122 => 7#32
  | 123 => 7#32
  | 124 => 9#32
  | 125 => 9#32
  | 126 => 9#32
  | 127 => 7#32
  | _ => 0#32

noncomputable abbrev lit1t0_61 (i : Nat) : BitVec 32 := match i % 128 with
  | 0 => 11#32
  | 1 => 11#32
  | 2 => 11#32
  | 3 => 9#32
  | 4 => 11#32
  | 5 => 11#32
  | 6 => 11#32
  | 7 => 11#32
  | 8 => 11#32
  | 9 => 7#32
  | 10 => 7#32
  | 11 => 9#32
  | 12 => 9#32
  | 13 => 11#32
  | 14 => 7#32
  | 15 => 7#32
  | 16 => 9#32
  | 17 => 11#32
  | 18 => 11#32
  | 19 => 11#32
  | 20 => 9#32
  | 21 => 7#32
  | 22 => 11#32
  | 23 => 7#32
  | 24 => 7#32
  | 25 => 9#32
  | 26 => 11#32
  | 27 => 7#32
  | 28 => 11#32
  | 29 => 11#32
  | 30 => 7#32
  | 31 => 7#32
  | 32 => 7#32
  | 33 => 9#32
  | 34 => 11#32
  | 35 => 7#32
  | 36 => 11#32
  | 37 => 7#32
  | 38 => 11#32
  | 39 => 11#32
  | 40 => 7#32
  | 41 => 9#32
  | 42 => 9#32
  | 43 => 7#32
  | 44 => 11#32
  | 45 => 7#32
  | 46 => 11#32
  | 47 => 11#32
  | 48 => 9#32
  | 49 => 11#32
  | 50 => 9#32
  | 51 => 7#32
  | 52 => 11#32
  | 53 => 11#32
  | 54 => 11#32
  | 55 => 7#32
  | 56 => 7#32
  | 57 => 9#32
  | 58 => 11#32
  | 59 => 11#32
  | 60 => 7#32
  | 61 => 9#32
  | 62 => 11#32
  | 63 => 9#32
  | 64 => 7#32
  | 65 => 11#32
  | 66 => 11#32
  | 67 => 9#32
  | 68 => 9#32
  | 69 => 9#32
  | 70 => 7#32
  | 71 => 11#32
  | 72 => 11#32
  | 73 => 11#32
  | 74 => 9#32
  | 75 => 9#32
  | 76 => 11#32
  | 77 => 11#32
  | 78 => 9#32
  | 79 => 9#32
  | 80 => 7#32
  | 81 => 9#32
  | 82 => 7#32
  | 83 => 7#32
  | 84 => 9#32
  | 85 => 9#32
  | 86 => 11#32
  | 87 => 7#32
  | 88 => 7#32
  | 89 => 11#32
  | 90 => 9#32
  | 91 => 11#32
  | 92 => 9#32
  | 93 => 9#32
  | 94 => 11#32
  | 95 => 7#32
  | 96 => 7#32
  | 97 => 9#32
  | 98 => 7#32
  | 99 => 11#32
  | 100 => 7#32
  | 101 => 9#32
  | 102 => 9#32
  | 103 => 7#32
  | 104 => 7#32
  | 105 => 11#32
  | 106 => 9#32
  | 107 => 11#32
  | 108 => 11#32
  | 109 => 9#32
  | 110 => 9#32
  | 111 => 9#32
  | 112 => 9#32
  | 113 => 9#32
  | 114 => 9#32
  | 115 => 9#32
  | 116 => 11#32
  | 117 => 11#32
  | 118 => 9#32
  | 119 => 9#32
  | 120 => 9#32
  | 121 => 9#32
  | 122 => 11#32
  | 123 => 7#32
  | 124 => 11#32
  | 125 => 9#32
  | 126 => 11#32
  | 127 => 11#32
  | _ => 0#32

noncomputable abbrev lit1t0_62 (i : Nat) : BitVec 32 := match i % 128 with
  | 0 => 9#32
  | 1 => 7#32
  | 2 => 11#32
  | 3 => 11#32
  | 4 => 7#32
  | 5 => 7#32
  | 6 => 9#32
  | 7 => 9#32
  | 8 => 9#32
  | 9 => 9#32
  | 10 => 9#32
  | 11 => 11#32
  | 12 => 7#32
  | 13 => 11#32
  | 14 => 7#32
  | 15 => 9#32
  | 16 => 9#32
  | 17 => 9#32
  | 18 => 11#32
  | 19 => 9#32
  | 20 => 11#32
  | 21 => 11#32
  | 22 => 7#32
  | 23 => 11#32
  | 24 => 7#32
  | 25 => 7#32
  | 26 => 9#32
  | 27 => 7#32
  | 28 => 9#32
  | 29 => 7#32
  | 30 => 9#32
  | 31 => 7#32
  | 32 => 11#32
  | 33 => 11#32
  | 34 => 11#32
  | 35 => 9#32
  | 36 => 7#32
  | 37 => 11#32
  | 38 => 11#32
  | 39 => 9#32
  | 40 => 7#32
  | 41 => 7#32
  | 42 => 11#32
  | 43 => 11#32
  | 44 => 11#32
  | 45 => 7#32
  | 46 => 9#32
  | 47 => 11#32
  | 48 => 7#32
  | 49 => 7#32
  | 50 => 9#32
  | 51 => 7#32
  | 52 => 11#32
  | 53 => 9#32
  | 54 => 11#32
  | 55 => 9#32
  | 56 => 11#32
  | 57 => 11#32
  | 58 => 11#32
  | 59 => 11#32
  | 60 => 9#32
  | 61 => 7#32
  | 62 => 7#32
  | 63 => 7#32
  | 64 => 9#32
  | 65 => 9#32
  | 66 => 9#32
  | 67 => 9#32
  | 68 => 11#32
  | 69 => 9#32
  | 70 => 11#32
  | 71 => 11#32
  | 72 => 9#32
  | 73 => 11#32
  | 74 => 7#32
  | 75 => 9#32
  | 76 => 11#32
  | 77 => 7#32
  | 78 => 9#32
  | 79 => 7#32
  | 80 => 11#32
  | 81 => 9#32
  | 82 => 7#32
  | 83 => 11#32
  | 84 => 9#32
  | 85 => 7#32
  | 86 => 7#32
  | 87 => 11#32
  | 88 => 11#32
  | 89 => 7#32
  | 90 => 11#32
  | 91 => 11#32
  | 92 => 7#32
  | 93 => 7#32
  | 94 => 7#32
  | 95 => 7#32
  | 96 => 7#32
  | 97 => 7#32
  | 98 => 11#32
  | 99 => 11#32
  | 100 => 11#32
  | 101 => 9#32
  | 102 => 7#32
  | 103 => 11#32
  | 104 => 7#32
  | 105 => 9#32
  | 106 => 11#32
  | 107 => 9#32
  | 108 => 7#32
  | 109 => 9#32
  | 110 => 7#32
  | 111 => 9#32
  | 112 => 9#32
  | 113 => 7#32
  | 114 => 9#32
  | 115 => 7#32
  | 116 => 7#32
  | 117 => 11#32
  | 118 => 11#32
  | 119 => 9#32
  | 120 => 11#32
  | 121 => 9#32
  | 122 => 11#32
  | 123 => 9#32
  | 124 => 11#32
  | 125 => 11#32
  | 126 => 9#32
  | 127 => 7#32
  | _ => 0#32

noncomputable abbrev lit1t0_63 (i : Nat) : BitVec 32 := match i % 128 with
  | 0 => 9#32
  | 1 => 7#32
  | 2 => 7#32
  | 3 => 11#32
  | 4 => 7#32
  | 5 => 9#32
  | 6 => 7#32
  | 7 => 9#32
  | 8 => 9#32
  | 9 => 7#32
  | 10 => 11#32
  | 11 => 11#32
  | 12 => 11#32
  | 13 => 11#32
  | 14 => 11#32
  | 15 => 11#32
  | 16 => 9#32
  | 17 => 7#32
  | 18 => 11#32
  | 19 => 7#32
  | 20 => 9#32
  | 21 => 7#32
  | 22 => 11#32
  | 23 => 9#32
  | 24 => 7#32
  | 25 => 7#32
  | 26 => 7#32
  | 27 => 11#32
  | 28 => 9#32
  | 29 => 11#32
  | 30 => 11#32
  | 31 => 11#32
  | 32 => 7#32
  | 33 => 9#32
  | 34 => 7#32
  | 35 => 9#32
  | 36 => 9#32
  | 37 => 9#32
  | 38 => 9#32
  | 39 => 9#32
  | 40 => 9#32
  | 41 => 7#32
  | 42 => 11#32
  | 43 => 11#32
  | 44 => 11#32
  | 45 => 9#32
  | 46 => 11#32
  | 47 => 9#32
  | 48 => 7#32
  | 49 => 9#32
  | 50 => 11#32
  | 51 => 7#32
  | 52 => 7#32
  | 53 => 11#32
  | 54 => 7#32
  | 55 => 11#32
  | 56 => 9#32
  | 57 => 9#32
  | 58 => 7#32
  | 59 => 9#32
  | 60 => 7#32
  | 61 => 7#32
  | 62 => 9#32
  | 63 => 11#32
  | 64 => 9#32
  | 65 => 9#32
  | 66 => 11#32
  | 67 => 11#32
  | 68 => 7#32
  | 69 => 11#32
  | 70 => 7#32
  | 71 => 9#32
  | 72 => 11#32
  | 73 => 9#32
  | 74 => 11#32
  | 75 => 11#32
  | 76 => 7#32
  | 77 => 7#32
  | 78 => 9#32
  | 79 => 9#32
  | 80 => 7#32
  | 81 => 9#32
  | 82 => 9#32
  | 83 => 7#32
  | 84 => 9#32
  | 85 => 9#32
  | 86 => 9#32
  | 87 => 7#32
  | 88 => 11#32
  | 89 => 11#32
  | 90 => 9#32
  | 91 => 7#32
  | 92 => 11#32
  | 93 => 7#32
  | 94 => 9#32
  | 95 => 11#32
  | 96 => 11#32
  | 97 => 7#32
  | 98 => 11#32
  | 99 => 7#32
  | 100 => 9#32
  | 101 => 11#32
  | 102 => 11#32
  | 103 => 11#32
  | 104 => 9#32
  | 105 => 9#32
  | 106 => 7#32
  | 107 => 9#32
  | 108 => 9#32
  | 109 => 7#32
  | 110 => 9#32
  | 111 => 11#32
  | 112 => 9#32
  | 113 => 7#32
  | 114 => 11#32
  | 115 => 9#32
  | 116 => 9#32
  | 117 => 9#32
  | 118 => 9#32
  | 119 => 7#32
  | 120 => 11#32
  | 121 => 11#32
  | 122 => 7#32
  | 123 => 9#32
  | 124 => 11#32
  | 125 => 9#32
  | 126 => 9#32
  | 127 => 7#32
  | _ => 0#32

noncomputable abbrev lit1t0_64 (i : Nat) : BitVec 32 := match i % 128 with
  | 0 => 11#32
  | 1 => 7#32
  | 2 => 9#32
  | 3 => 9#32
  | 4 => 9#32
  | 5 => 9#32
  | 6 => 9#32
  | 7 => 11#32
  | 8 => 7#32
  | 9 => 11#32
  | 10 => 11#32
  | 11 => 9#32
  | 12 => 7#32
  | 13 => 7#32
  | 14 => 7#32
  | 15 => 7#32
  | 16 => 11#32
  | 17 => 7#32
  | 18 => 7#32
  | 19 => 7#32
  | 20 => 9#32
  | 21 => 11#32
  | 22 => 9#32
  | 23 => 7#32
  | 24 => 11#32
  | 25 => 9#32
  | 26 => 11#32
  | 27 => 9#32
  | 28 => 11#32
  | 29 => 9#32
  | 30 => 11#32
  | 31 => 11#32
  | 32 => 7#32
  | 33 => 9#32
  | 34 => 7#32
  | 35 => 7#32
  | 36 => 9#32
  | 37 => 7#32
  | 38 => 9#32
  | 39 => 9#32
  | 40 => 11#32
  | 41 => 7#32
  | 42 => 9#32
  | 43 => 9#32
  | 44 => 11#32
  | 45 => 9#32
  | 46 => 11#32
  | 47 => 11#32
  | 48 => 9#32
  | 49 => 9#32
  | 50 => 9#32
  | 51 => 11#32
  | 52 => 7#32
  | 53 => 9#32
  | 54 => 11#32
  | 55 => 11#32
  | 56 => 7#32
  | 57 => 9#32
  | 58 => 7#32
  | 59 => 9#32
  | 60 => 7#32
  | 61 => 11#32
  | 62 => 9#32
  | 63 => 11#32
  | 64 => 9#32
  | 65 => 9#32
  | 66 => 9#32
  | 67 => 11#32
  | 68 => 9#32
  | 69 => 9#32
  | 70 => 9#32
  | 71 => 11#32
  | 72 => 9#32
  | 73 => 7#32
  | 74 => 7#32
  | 75 => 11#32
  | 76 => 9#32
  | 77 => 7#32
  | 78 => 11#32
  | 79 => 9#32
  | 80 => 7#32
  | 81 => 11#32
  | 82 => 7#32
  | 83 => 7#32
  | 84 => 11#32
  | 85 => 7#32
  | 86 => 7#32
  | 87 => 7#32
  | 88 => 11#32
  | 89 => 9#32
  | 90 => 9#32
  | 91 => 7#32
  | 92 => 9#32
  | 93 => 11#32
  | 94 => 11#32
  | 95 => 11#32
  | 96 => 9#32
  | 97 => 9#32
  | 98 => 7#32
  | 99 => 9#32
  | 100 => 11#32
  | 101 => 11#32
  | 102 => 9#32
  | 103 => 9#32
  | 104 => 7#32
  | 105 => 7#32
  | 106 => 9#32
  | 107 => 7#32
  | 108 => 7#32
  | 109 => 7#32
  | 110 => 7#32
  | 111 => 11#32
  | 112 => 9#32
  | 113 => 11#32
  | 114 => 7#32
  | 115 => 11#32
  | 116 => 7#32
  | 117 => 11#32
  | 118 => 11#32
  | 119 => 7#32
  | 120 => 11#32
  | 121 => 9#32
  | 122 => 11#32
  | 123 => 9#32
  | 124 => 9#32
  | 125 => 7#32
  | 126 => 7#32
  | 127 => 11#32
  | _ => 0#32

noncomputable abbrev lit1t0_65 (i : Nat) : BitVec 32 := match i % 128 with
  | 0 => 7#32
  | 1 => 7#32
  | 2 => 11#32
  | 3 => 7#32
  | 4 => 7#32
  | 5 => 11#32
  | 6 => 7#32
  | 7 => 7#32
  | 8 => 7#32
  | 9 => 7#32
  | 10 => 7#32
  | 11 => 9#32
  | 12 => 9#32
  | 13 => 9#32
  | 14 => 9#32
  | 15 => 7#32
  | 16 => 7#32
  | 17 => 7#32
  | 18 => 11#32
  | 19 => 11#32
  | 20 => 11#32
  | 21 => 11#32
  | 22 => 11#32
  | 23 => 11#32
  | 24 => 7#32
  | 25 => 11#32
  | 26 => 7#32
  | 27 => 7#32
  | 28 => 11#32
  | 29 => 7#32
  | 30 => 7#32
  | 31 => 11#32
  | 32 => 7#32
  | 33 => 9#32
  | 34 => 11#32
  | 35 => 7#32
  | 36 => 11#32
  | 37 => 9#32
  | 38 => 9#32
  | 39 => 9#32
  | 40 => 11#32
  | 41 => 9#32
  | 42 => 7#32
  | 43 => 7#32
  | 44 => 7#32
  | 45 => 7#32
  | 46 => 11#32
  | 47 => 7#32
  | 48 => 7#32
  | 49 => 11#32
  | 50 => 11#32
  | 51 => 9#32
  | 52 => 9#32
  | 53 => 11#32
  | 54 => 7#32
  | 55 => 11#32
  | 56 => 7#32
  | 57 => 7#32
  | 58 => 11#32
  | 59 => 9#32
  | 60 => 9#32
  | 61 => 7#32
  | 62 => 7#32
  | 63 => 7#32
  | 64 => 9#32
  | 65 => 11#32
  | 66 => 11#32
  | 67 => 7#32
  | 68 => 11#32
  | 69 => 11#32
  | 70 => 7#32
  | 71 => 7#32
  | 72 => 11#32
  | 73 => 11#32
  | 74 => 7#32
  | 75 => 11#32
  | 76 => 11#32
  | 77 => 11#32
  | 78 => 11#32
  | 79 => 11#32
  | 80 => 7#32
  | 81 => 9#32
  | 82 => 9#32
  | 83 => 7#32
  | 84 => 11#32
  | 85 => 9#32
  | 86 => 7#32
  | 87 => 7#32
  | 88 => 9#32
  | 89 => 9#32
  | 90 => 11#32
  | 91 => 9#32
  | 92 => 9#32
  | 93 => 7#32
  | 94 => 11#32
  | 95 => 7#32
  | 96 => 11#32
  | 97 => 9#32
  | 98 => 9#32
  | 99 => 7#32
  | 100 => 11#32
  | 101 => 9#32
  | 102 => 7#32
  | 103 => 7#32
  | 104 => 7#32
  | 105 => 7#32
  | 106 => 9#32
  | 107 => 7#32
  | 108 => 11#32
  | 109 => 11#32
  | 110 => 9#32
  | 111 => 11#32
  | 112 => 11#32
  | 113 => 7#32
  | 114 => 9#32
  | 115 => 11#32
  | 116 => 11#32
  | 117 => 7#32
  | 118 => 7#32
  | 119 => 11#32
  | 120 => 7#32
  | 121 => 7#32
  | 122 => 7#32
  | 123 => 9#32
  | 124 => 11#32
  | 125 => 11#32
  | 126 => 7#32
  | 127 => 11#32
  | _ => 0#32

noncomputable abbrev lit1t0_66 (i : Nat) : BitVec 32 := match i % 128 with
  | 0 => 11#32
  | 1 => 7#32
  | 2 => 7#32
  | 3 => 9#32
  | 4 => 7#32
  | 5 => 9#32
  | 6 => 7#32
  | 7 => 7#32
  | 8 => 11#32
  | 9 => 11#32
  | 10 => 11#32
  | 11 => 9#32
  | 12 => 9#32
  | 13 => 9#32
  | 14 => 11#32
  | 15 => 7#32
  | 16 => 9#32
  | 17 => 7#32
  | 18 => 7#32
  | 19 => 11#32
  | 20 => 7#32
  | 21 => 11#32
  | 22 => 7#32
  | 23 => 9#32
  | 24 => 7#32
  | 25 => 11#32
  | 26 => 7#32
  | 27 => 7#32
  | 28 => 11#32
  | 29 => 7#32
  | 30 => 11#32
  | 31 => 11#32
  | 32 => 11#32
  | 33 => 7#32
  | 34 => 7#32
  | 35 => 11#32
  | 36 => 11#32
  | 37 => 7#32
  | 38 => 11#32
  | 39 => 9#32
  | 40 => 11#32
  | 41 => 11#32
  | 42 => 7#32
  | 43 => 11#32
  | 44 => 11#32
  | 45 => 11#32
  | 46 => 7#32
  | 47 => 7#32
  | 48 => 7#32
  | 49 => 9#32
  | 50 => 7#32
  | 51 => 7#32
  | 52 => 7#32
  | 53 => 7#32
  | 54 => 9#32
  | 55 => 11#32
  | 56 => 11#32
  | 57 => 11#32
  | 58 => 7#32
  | 59 => 11#32
  | 60 => 11#32
  | 61 => 11#32
  | 62 => 11#32
  | 63 => 7#32
  | 64 => 11#32
  | 65 => 11#32
  | 66 => 11#32
  | 67 => 11#32
  | 68 => 9#32
  | 69 => 7#32
  | 70 => 11#32
  | 71 => 9#32
  | 72 => 9#32
  | 73 => 7#32
  | 74 => 11#32
  | 75 => 7#32
  | 76 => 7#32
  | 77 => 11#32
  | 78 => 11#32
  | 79 => 11#32
  | 80 => 11#32
  | 81 => 7#32
  | 82 => 11#32
  | 83 => 9#32
  | 84 => 7#32
  | 85 => 11#32
  | 86 => 7#32
  | 87 => 11#32
  | 88 => 7#32
  | 89 => 7#32
  | 90 => 7#32
  | 91 => 11#32
  | 92 => 9#32
  | 93 => 9#32
  | 94 => 7#32
  | 95 => 7#32
  | 96 => 7#32
  | 97 => 7#32
  | 98 => 7#32
  | 99 => 7#32
  | 100 => 7#32
  | 101 => 9#32
  | 102 => 11#32
  | 103 => 11#32
  | 104 => 11#32
  | 105 => 11#32
  | 106 => 7#32
  | 107 => 11#32
  | 108 => 7#32
  | 109 => 11#32
  | 110 => 7#32
  | 111 => 11#32
  | 112 => 7#32
  | 113 => 11#32
  | 114 => 9#32
  | 115 => 9#32
  | 116 => 11#32
  | 117 => 11#32
  | 118 => 11#32
  | 119 => 11#32
  | 120 => 9#32
  | 121 => 9#32
  | 122 => 9#32
  | 123 => 7#32
  | 124 => 7#32
  | 125 => 9#32
  | 126 => 7#32
  | 127 => 11#32
  | _ => 0#32

noncomputable abbrev lit1t0_67 (i : Nat) : BitVec 32 := match i % 128 with
  | 0 => 11#32
  | 1 => 7#32
  | 2 => 11#32
  | 3 => 7#32
  | 4 => 7#32
  | 5 => 11#32
  | 6 => 9#32
  | 7 => 7#32
  | 8 => 11#32
  | 9 => 7#32
  | 10 => 7#32
  | 11 => 9#32
  | 12 => 9#32
  | 13 => 9#32
  | 14 => 7#32
  | 15 => 11#32
  | 16 => 7#32
  | 17 => 11#32
  | 18 => 11#32
  | 19 => 7#32
  | 20 => 7#32
  | 21 => 9#32
  | 22 => 7#32
  | 23 => 11#32
  | 24 => 11#32
  | 25 => 11#32
  | 26 => 7#32
  | 27 => 11#32
  | 28 => 11#32
  | 29 => 11#32
  | 30 => 7#32
  | 31 => 7#32
  | 32 => 9#32
  | 33 => 9#32
  | 34 => 7#32
  | 35 => 7#32
  | 36 => 11#32
  | 37 => 11#32
  | 38 => 7#32
  | 39 => 9#32
  | 40 => 9#32
  | 41 => 11#32
  | 42 => 9#32
  | 43 => 11#32
  | 44 => 11#32
  | 45 => 11#32
  | 46 => 9#32
  | 47 => 7#32
  | 48 => 7#32
  | 49 => 7#32
  | 50 => 11#32
  | 51 => 9#32
  | 52 => 7#32
  | 53 => 11#32
  | 54 => 7#32
  | 55 => 7#32
  | 56 => 9#32
  | 57 => 11#32
  | 58 => 7#32
  | 59 => 9#32
  | 60 => 11#32
  | 61 => 11#32
  | 62 => 7#32
  | 63 => 9#32
  | 64 => 9#32
  | 65 => 7#32
  | 66 => 7#32
  | 67 => 7#32
  | 68 => 9#32
  | 69 => 7#32
  | 70 => 9#32
  | 71 => 7#32
  | 72 => 9#32
  | 73 => 7#32
  | 74 => 9#32
  | 75 => 9#32
  | 76 => 11#32
  | 77 => 9#32
  | 78 => 11#32
  | 79 => 11#32
  | 80 => 7#32
  | 81 => 11#32
  | 82 => 11#32
  | 83 => 7#32
  | 84 => 9#32
  | 85 => 7#32
  | 86 => 11#32
  | 87 => 9#32
  | 88 => 11#32
  | 89 => 7#32
  | 90 => 7#32
  | 91 => 9#32
  | 92 => 11#32
  | 93 => 11#32
  | 94 => 7#32
  | 95 => 11#32
  | 96 => 11#32
  | 97 => 7#32
  | 98 => 11#32
  | 99 => 9#32
  | 100 => 9#32
  | 101 => 11#32
  | 102 => 9#32
  | 103 => 7#32
  | 104 => 7#32
  | 105 => 9#32
  | 106 => 7#32
  | 107 => 9#32
  | 108 => 7#32
  | 109 => 7#32
  | 110 => 9#32
  | 111 => 11#32
  | 112 => 9#32
  | 113 => 11#32
  | 114 => 11#32
  | 115 => 11#32
  | 116 => 9#32
  | 117 => 9#32
  | 118 => 7#32
  | 119 => 7#32
  | 120 => 11#32
  | 121 => 9#32
  | 122 => 7#32
  | 123 => 9#32
  | 124 => 11#32
  | 125 => 9#32
  | 126 => 7#32
  | 127 => 11#32
  | _ => 0#32

noncomputable abbrev lit1t0_68 (i : Nat) : BitVec 32 := match i % 128 with
  | 0 => 9#32
  | 1 => 9#32
  | 2 => 11#32
  | 3 => 11#32
  | 4 => 7#32
  | 5 => 9#32
  | 6 => 9#32
  | 7 => 11#32
  | 8 => 11#32
  | 9 => 11#32
  | 10 => 11#32
  | 11 => 7#32
  | 12 => 7#32
  | 13 => 7#32
  | 14 => 11#32
  | 15 => 9#32
  | 16 => 9#32
  | 17 => 11#32
  | 18 => 7#32
  | 19 => 7#32
  | 20 => 11#32
  | 21 => 11#32
  | 22 => 11#32
  | 23 => 9#32
  | 24 => 7#32
  | 25 => 9#32
  | 26 => 9#32
  | 27 => 11#32
  | 28 => 9#32
  | 29 => 7#32
  | 30 => 9#32
  | 31 => 11#32
  | 32 => 11#32
  | 33 => 11#32
  | 34 => 7#32
  | 35 => 11#32
  | 36 => 11#32
  | 37 => 9#32
  | 38 => 9#32
  | 39 => 11#32
  | 40 => 9#32
  | 41 => 9#32
  | 42 => 7#32
  | 43 => 7#32
  | 44 => 11#32
  | 45 => 11#32
  | 46 => 11#32
  | 47 => 9#32
  | 48 => 7#32
  | 49 => 7#32
  | 50 => 11#32
  | 51 => 7#32
  | 52 => 7#32
  | 53 => 9#32
  | 54 => 7#32
  | 55 => 7#32
  | 56 => 9#32
  | 57 => 7#32
  | 58 => 9#32
  | 59 => 7#32
  | 60 => 9#32
  | 61 => 7#32
  | 62 => 7#32
  | 63 => 11#32
  | 64 => 7#32
  | 65 => 11#32
  | 66 => 7#32
  | 67 => 7#32
  | 68 => 7#32
  | 69 => 11#32
  | 70 => 7#32
  | 71 => 11#32
  | 72 => 9#32
  | 73 => 11#32
  | 74 => 11#32
  | 75 => 9#32
  | 76 => 9#32
  | 77 => 9#32
  | 78 => 11#32
  | 79 => 7#32
  | 80 => 7#32
  | 81 => 11#32
  | 82 => 7#32
  | 83 => 11#32
  | 84 => 7#32
  | 85 => 7#32
  | 86 => 7#32
  | 87 => 11#32
  | 88 => 11#32
  | 89 => 7#32
  | 90 => 7#32
  | 91 => 11#32
  | 92 => 11#32
  | 93 => 7#32
  | 94 => 11#32
  | 95 => 7#32
  | 96 => 7#32
  | 97 => 11#32
  | 98 => 11#32
  | 99 => 7#32
  | 100 => 9#32
  | 101 => 7#32
  | 102 => 9#32
  | 103 => 7#32
  | 104 => 11#32
  | 105 => 7#32
  | 106 => 9#32
  | 107 => 9#32
  | 108 => 7#32
  | 109 => 9#32
  | 110 => 11#32
  | 111 => 9#32
  | 112 => 11#32
  | 113 => 11#32
  | 114 => 9#32
  | 115 => 11#32
  | 116 => 11#32
  | 117 => 9#32
  | 118 => 7#32
  | 119 => 9#32
  | 120 => 9#32
  | 121 => 11#32
  | 122 => 9#32
  | 123 => 7#32
  | 124 => 11#32
  | 125 => 9#32
  | 126 => 11#32
  | 127 => 11#32
  | _ => 0#32

noncomputable abbrev lit1t0_69 (i : Nat) : BitVec 32 := match i % 128 with
  | 0 => 11#32
  | 1 => 11#32
  | 2 => 7#32
  | 3 => 7#32
  | 4 => 9#32
  | 5 => 11#32
  | 6 => 7#32
  | 7 => 7#32
  | 8 => 11#32
  | 9 => 7#32
  | 10 => 7#32
  | 11 => 7#32
  | 12 => 7#32
  | 13 => 9#32
  | 14 => 9#32
  | 15 => 9#32
  | 16 => 7#32
  | 17 => 7#32
  | 18 => 7#32
  | 19 => 7#32
  | 20 => 7#32
  | 21 => 7#32
  | 22 => 7#32
  | 23 => 11#32
  | 24 => 9#32
  | 25 => 11#32
  | 26 => 7#32
  | 27 => 11#32
  | 28 => 9#32
  | 29 => 7#32
  | 30 => 9#32
  | 31 => 9#32
  | 32 => 11#32
  | 33 => 7#32
  | 34 => 7#32
  | 35 => 11#32
  | 36 => 7#32
  | 37 => 11#32
  | 38 => 7#32
  | 39 => 11#32
  | 40 => 9#32
  | 41 => 11#32
  | 42 => 11#32
  | 43 => 9#32
  | 44 => 11#32
  | 45 => 11#32
  | 46 => 9#32
  | 47 => 7#32
  | 48 => 9#32
  | 49 => 11#32
  | 50 => 7#32
  | 51 => 9#32
  | 52 => 9#32
  | 53 => 9#32
  | 54 => 9#32
  | 55 => 11#32
  | 56 => 9#32
  | 57 => 9#32
  | 58 => 9#32
  | 59 => 7#32
  | 60 => 11#32
  | 61 => 11#32
  | 62 => 9#32
  | 63 => 9#32
  | 64 => 7#32
  | 65 => 9#32
  | 66 => 11#32
  | 67 => 11#32
  | 68 => 9#32
  | 69 => 11#32
  | 70 => 7#32
  | 71 => 7#32
  | 72 => 11#32
  | 73 => 9#32
  | 74 => 11#32
  | 75 => 7#32
  | 76 => 7#32
  | 77 => 9#32
  | 78 => 9#32
  | 79 => 9#32
  | 80 => 11#32
  | 81 => 11#32
  | 82 => 9#32
  | 83 => 11#32
  | 84 => 7#32
  | 85 => 9#32
  | 86 => 9#32
  | 87 => 11#32
  | 88 => 11#32
  | 89 => 7#32
  | 90 => 7#32
  | 91 => 11#32
  | 92 => 11#32
  | 93 => 9#32
  | 94 => 11#32
  | 95 => 9#32
  | 96 => 9#32
  | 97 => 7#32
  | 98 => 11#32
  | 99 => 9#32
  | 100 => 7#32
  | 101 => 11#32
  | 102 => 7#32
  | 103 => 9#32
  | 104 => 11#32
  | 105 => 7#32
  | 106 => 7#32
  | 107 => 9#32
  | 108 => 7#32
  | 109 => 11#32
  | 110 => 7#32
  | 111 => 11#32
  | 112 => 9#32
  | 113 => 11#32
  | 114 => 7#32
  | 115 => 7#32
  | 116 => 11#32
  | 117 => 7#32
  | 118 => 7#32
  | 119 => 9#32
  | 120 => 11#32
  | 121 => 7#32
  | 122 => 7#32
  | 123 => 11#32
  | 124 => 11#32
  | 125 => 9#32
  | 126 => 7#32
  | 127 => 9#32
  | _ => 0#32

noncomputable abbrev lit1t0_70 (i : Nat) : BitVec 32 := match i % 128 with
  | 0 => 7#32
  | 1 => 9#32
  | 2 => 7#32
  | 3 => 11#32
  | 4 => 11#32
  | 5 => 9#32
  | 6 => 11#32
  | 7 => 7#32
  | 8 => 11#32
  | 9 => 9#32
  | 10 => 7#32
  | 11 => 9#32
  | 12 => 9#32
  | 13 => 7#32
  | 14 => 7#32
  | 15 => 9#32
  | 16 => 7#32
  | 17 => 11#32
  | 18 => 11#32
  | 19 => 9#32
  | 20 => 9#32
  | 21 => 7#32
  | 22 => 11#32
  | 23 => 11#32
  | 24 => 7#32
  | 25 => 9#32
  | 26 => 7#32
  | 27 => 9#32
  | 28 => 7#32
  | 29 => 7#32
  | 30 => 11#32
  | 31 => 11#32
  | 32 => 9#32
  | 33 => 7#32
  | 34 => 7#32
  | 35 => 7#32
  | 36 => 9#32
  | 37 => 9#32
  | 38 => 9#32
  | 39 => 11#32
  | 40 => 7#32
  | 41 => 7#32
  | 42 => 11#32
  | 43 => 11#32
  | 44 => 11#32
  | 45 => 11#32
  | 46 => 11#32
  | 47 => 11#32
  | 48 => 7#32
  | 49 => 9#32
  | 50 => 11#32
  | 51 => 9#32
  | 52 => 11#32
  | 53 => 11#32
  | 54 => 11#32
  | 55 => 11#32
  | 56 => 11#32
  | 57 => 11#32
  | 58 => 9#32
  | 59 => 11#32
  | 60 => 11#32
  | 61 => 7#32
  | 62 => 7#32
  | 63 => 7#32
  | 64 => 9#32
  | 65 => 9#32
  | 66 => 9#32
  | 67 => 11#32
  | 68 => 9#32
  | 69 => 11#32
  | 70 => 9#32
  | 71 => 9#32
  | 72 => 9#32
  | 73 => 7#32
  | 74 => 9#32
  | 75 => 9#32
  | 76 => 9#32
  | 77 => 9#32
  | 78 => 9#32
  | 79 => 9#32
  | 80 => 7#32
  | 81 => 9#32
  | 82 => 7#32
  | 83 => 11#32
  | 84 => 11#32
  | 85 => 11#32
  | 86 => 9#32
  | 87 => 7#32
  | 88 => 9#32
  | 89 => 9#32
  | 90 => 9#32
  | 91 => 11#32
  | 92 => 7#32
  | 93 => 9#32
  | 94 => 9#32
  | 95 => 11#32
  | 96 => 9#32
  | 97 => 7#32
  | 98 => 7#32
  | 99 => 7#32
  | 100 => 9#32
  | 101 => 9#32
  | 102 => 7#32
  | 103 => 7#32
  | 104 => 7#32
  | 105 => 11#32
  | 106 => 7#32
  | 107 => 11#32
  | 108 => 7#32
  | 109 => 11#32
  | 110 => 9#32
  | 111 => 11#32
  | 112 => 11#32
  | 113 => 11#32
  | 114 => 7#32
  | 115 => 11#32
  | 116 => 7#32
  | 117 => 11#32
  | 118 => 9#32
  | 119 => 7#32
  | 120 => 7#32
  | 121 => 7#32
  | 122 => 11#32
  | 123 => 11#32
  | 124 => 9#32
  | 125 => 11#32
  | 126 => 9#32
  | 127 => 11#32
  | _ => 0#32

noncomputable abbrev lit1t0_71 (i : Nat) : BitVec 32 := match i % 128 with
  | 0 => 11#32
  | 1 => 11#32
  | 2 => 7#32
  | 3 => 7#32
  | 4 => 11#32
  | 5 => 9#32
  | 6 => 11#32
  | 7 => 11#32
  | 8 => 11#32
  | 9 => 9#32
  | 10 => 7#32
  | 11 => 7#32
  | 12 => 7#32
  | 13 => 7#32
  | 14 => 11#32
  | 15 => 9#32
  | 16 => 11#32
  | 17 => 9#32
  | 18 => 7#32
  | 19 => 11#32
  | 20 => 11#32
  | 21 => 9#32
  | 22 => 9#32
  | 23 => 7#32
  | 24 => 11#32
  | 25 => 9#32
  | 26 => 7#32
  | 27 => 11#32
  | 28 => 9#32
  | 29 => 7#32
  | 30 => 9#32
  | 31 => 11#32
  | 32 => 11#32
  | 33 => 11#32
  | 34 => 9#32
  | 35 => 7#32
  | 36 => 7#32
  | 37 => 11#32
  | 38 => 9#32
  | 39 => 11#32
  | 40 => 7#32
  | 41 => 11#32
  | 42 => 11#32
  | 43 => 11#32
  | 44 => 11#32
  | 45 => 7#32
  | 46 => 7#32
  | 47 => 11#32
  | 48 => 7#32
  | 49 => 7#32
  | 50 => 11#32
  | 51 => 9#32
  | 52 => 9#32
  | 53 => 9#32
  | 54 => 11#32
  | 55 => 7#32
  | 56 => 7#32
  | 57 => 11#32
  | 58 => 7#32
  | 59 => 7#32
  | 60 => 9#32
  | 61 => 11#32
  | 62 => 11#32
  | 63 => 7#32
  | 64 => 11#32
  | 65 => 11#32
  | 66 => 9#32
  | 67 => 7#32
  | 68 => 9#32
  | 69 => 11#32
  | 70 => 7#32
  | 71 => 7#32
  | 72 => 11#32
  | 73 => 7#32
  | 74 => 11#32
  | 75 => 9#32
  | 76 => 9#32
  | 77 => 7#32
  | 78 => 7#32
  | 79 => 7#32
  | 80 => 11#32
  | 81 => 7#32
  | 82 => 11#32
  | 83 => 7#32
  | 84 => 9#32
  | 85 => 11#32
  | 86 => 11#32
  | 87 => 11#32
  | 88 => 7#32
  | 89 => 7#32
  | 90 => 11#32
  | 91 => 9#32
  | 92 => 7#32
  | 93 => 7#32
  | 94 => 11#32
  | 95 => 9#32
  | 96 => 7#32
  | 97 => 9#32
  | 98 => 9#32
  | 99 => 11#32
  | 100 => 7#32
  | 101 => 11#32
  | 102 => 11#32
  | 103 => 7#32
  | 104 => 11#32
  | 105 => 9#32
  | 106 => 9#32
  | 107 => 11#32
  | 108 => 9#32
  | 109 => 7#32
  | 110 => 9#32
  | 111 => 7#32
  | 112 => 11#32
  | 113 => 11#32
  | 114 => 9#32
  | 115 => 11#32
  | 116 => 11#32
  | 117 => 7#32
  | 118 => 9#32
  | 119 => 7#32
  | 120 => 9#32
  | 121 => 9#32
  | 122 => 9#32
  | 123 => 11#32
  | 124 => 11#32
  | 125 => 11#32
  | 126 => 11#32
  | 127 => 9#32
  | _ => 0#32

noncomputable abbrev lit1t0_72 (i : Nat) : BitVec 32 := match i % 128 with
  | 0 => 11#32
  | 1 => 7#32
  | 2 => 7#32
  | 3 => 7#32
  | 4 => 7#32
  | 5 => 11#32
  | 6 => 7#32
  | 7 => 11#32
  | 8 => 7#32
  | 9 => 9#32
  | 10 => 11#32
  | 11 => 9#32
  | 12 => 11#32
  | 13 => 7#32
  | 14 => 9#32
  | 15 => 9#32
  | 16 => 9#32
  | 17 => 11#32
  | 18 => 9#32
  | 19 => 7#32
  | 20 => 11#32
  | 21 => 9#32
  | 22 => 11#32
  | 23 => 9#32
  | 24 => 9#32
  | 25 => 7#32
  | 26 => 11#32
  | 27 => 9#32
  | 28 => 7#32
  | 29 => 7#32
  | 30 => 9#32
  | 31 => 11#32
  | 32 => 7#32
  | 33 => 11#32
  | 34 => 11#32
  | 35 => 7#32
  | 36 => 7#32
  | 37 => 11#32
  | 38 => 7#32
  | 39 => 7#32
  | 40 => 11#32
  | 41 => 9#32
  | 42 => 9#32
  | 43 => 11#32
  | 44 => 7#32
  | 45 => 11#32
  | 46 => 7#32
  | 47 => 9#32
  | 48 => 11#32
  | 49 => 7#32
  | 50 => 9#32
  | 51 => 7#32
  | 52 => 7#32
  | 53 => 11#32
  | 54 => 9#32
  | 55 => 9#32
  | 56 => 9#32
  | 57 => 11#32
  | 58 => 11#32
  | 59 => 11#32
  | 60 => 9#32
  | 61 => 9#32
  | 62 => 9#32
  | 63 => 7#32
  | 64 => 9#32
  | 65 => 9#32
  | 66 => 11#32
  | 67 => 9#32
  | 68 => 7#32
  | 69 => 9#32
  | 70 => 9#32
  | 71 => 11#32
  | 72 => 11#32
  | 73 => 11#32
  | 74 => 9#32
  | 75 => 7#32
  | 76 => 7#32
  | 77 => 7#32
  | 78 => 9#32
  | 79 => 9#32
  | 80 => 7#32
  | 81 => 7#32
  | 82 => 9#32
  | 83 => 9#32
  | 84 => 7#32
  | 85 => 9#32
  | 86 => 11#32
  | 87 => 7#32
  | 88 => 9#32
  | 89 => 9#32
  | 90 => 9#32
  | 91 => 9#32
  | 92 => 11#32
  | 93 => 7#32
  | 94 => 9#32
  | 95 => 11#32
  | 96 => 7#32
  | 97 => 9#32
  | 98 => 11#32
  | 99 => 9#32
  | 100 => 9#32
  | 101 => 9#32
  | 102 => 11#32
  | 103 => 7#32
  | 104 => 11#32
  | 105 => 9#32
  | 106 => 11#32
  | 107 => 7#32
  | 108 => 7#32
  | 109 => 7#32
  | 110 => 9#32
  | 111 => 11#32
  | 112 => 11#32
  | 113 => 9#32
  | 114 => 7#32
  | 115 => 11#32
  | 116 => 11#32
  | 117 => 7#32
  | 118 => 11#32
  | 119 => 7#32
  | 120 => 11#32
  | 121 => 9#32
  | 122 => 9#32
  | 123 => 7#32
  | 124 => 7#32
  | 125 => 7#32
  | 126 => 9#32
  | 127 => 7#32
  | _ => 0#32

noncomputable abbrev lit1t0_73 (i : Nat) : BitVec 32 := match i % 128 with
  | 0 => 7#32
  | 1 => 9#32
  | 2 => 9#32
  | 3 => 7#32
  | 4 => 9#32
  | 5 => 11#32
  | 6 => 9#32
  | 7 => 7#32
  | 8 => 11#32
  | 9 => 9#32
  | 10 => 7#32
  | 11 => 9#32
  | 12 => 9#32
  | 13 => 7#32
  | 14 => 7#32
  | 15 => 11#32
  | 16 => 9#32
  | 17 => 11#32
  | 18 => 11#32
  | 19 => 7#32
  | 20 => 7#32
  | 21 => 7#32
  | 22 => 11#32
  | 23 => 7#32
  | 24 => 7#32
  | 25 => 7#32
  | 26 => 7#32
  | 27 => 11#32
  | 28 => 11#32
  | 29 => 7#32
  | 30 => 9#32
  | 31 => 9#32
  | 32 => 9#32
  | 33 => 7#32
  | 34 => 7#32
  | 35 => 7#32
  | 36 => 7#32
  | 37 => 9#32
  | 38 => 9#32
  | 39 => 11#32
  | 40 => 9#32
  | 41 => 11#32
  | 42 => 11#32
  | 43 => 7#32
  | 44 => 7#32
  | 45 => 7#32
  | 46 => 7#32
  | 47 => 7#32
  | 48 => 7#32
  | 49 => 9#32
  | 50 => 7#32
  | 51 => 11#32
  | 52 => 9#32
  | 53 => 11#32
  | 54 => 7#32
  | 55 => 7#32
  | 56 => 11#32
  | 57 => 9#32
  | 58 => 11#32
  | 59 => 9#32
  | 60 => 9#32
  | 61 => 9#32
  | 62 => 7#32
  | 63 => 9#32
  | 64 => 9#32
  | 65 => 11#32
  | 66 => 9#32
  | 67 => 7#32
  | 68 => 11#32
  | 69 => 11#32
  | 70 => 7#32
  | 71 => 9#32
  | 72 => 9#32
  | 73 => 11#32
  | 74 => 11#32
  | 75 => 9#32
  | 76 => 7#32
  | 77 => 7#32
  | 78 => 9#32
  | 79 => 7#32
  | 80 => 11#32
  | 81 => 7#32
  | 82 => 9#32
  | 83 => 9#32
  | 84 => 7#32
  | 85 => 9#32
  | 86 => 7#32
  | 87 => 9#32
  | 88 => 11#32
  | 89 => 9#32
  | 90 => 11#32
  | 91 => 11#32
  | 92 => 9#32
  | 93 => 11#32
  | 94 => 7#32
  | 95 => 11#32
  | 96 => 9#32
  | 97 => 9#32
  | 98 => 9#32
  | 99 => 11#32
  | 100 => 9#32
  | 101 => 11#32
  | 102 => 11#32
  | 103 => 7#32
  | 104 => 7#32
  | 105 => 9#32
  | 106 => 11#32
  | 107 => 7#32
  | 108 => 11#32
  | 109 => 11#32
  | 110 => 11#32
  | 111 => 7#32
  | 112 => 9#32
  | 113 => 11#32
  | 114 => 9#32
  | 115 => 9#32
  | 116 => 9#32
  | 117 => 7#32
  | 118 => 11#32
  | 119 => 9#32
  | 120 => 7#32
  | 121 => 11#32
  | 122 => 9#32
  | 123 => 9#32
  | 124 => 9#32
  | 125 => 9#32
  | 126 => 9#32
  | 127 => 7#32
  | _ => 0#32

noncomputable abbrev lit1t0_74 (i : Nat) : BitVec 32 := match i % 128 with
  | 0 => 11#32
  | 1 => 11#32
  | 2 => 11#32
  | 3 => 11#32
  | 4 => 9#32
  | 5 => 11#32
  | 6 => 9#32
  | 7 => 7#32
  | 8 => 9#32
  | 9 => 11#32
  | 10 => 7#32
  | 11 => 7#32
  | 12 => 7#32
  | 13 => 9#32
  | 14 => 11#32
  | 15 => 7#32
  | 16 => 9#32
  | 17 => 9#32
  | 18 => 9#32
  | 19 => 11#32
  | 20 => 11#32
  | 21 => 11#32
  | 22 => 7#32
  | 23 => 11#32
  | 24 => 11#32
  | 25 => 11#32
  | 26 => 9#32
  | 27 => 7#32
  | 28 => 11#32
  | 29 => 11#32
  | 30 => 11#32
  | 31 => 7#32
  | 32 => 7#32
  | 33 => 7#32
  | 34 => 9#32
  | 35 => 11#32
  | 36 => 9#32
  | 37 => 11#32
  | 38 => 9#32
  | 39 => 11#32
  | 40 => 9#32
  | 41 => 7#32
  | 42 => 9#32
  | 43 => 11#32
  | 44 => 11#32
  | 45 => 9#32
  | 46 => 11#32
  | 47 => 7#32
  | 48 => 7#32
  | 49 => 11#32
  | 50 => 7#32
  | 51 => 9#32
  | 52 => 11#32
  | 53 => 7#32
  | 54 => 11#32
  | 55 => 9#32
  | 56 => 7#32
  | 57 => 11#32
  | 58 => 9#32
  | 59 => 9#32
  | 60 => 7#32
  | 61 => 11#32
  | 62 => 11#32
  | 63 => 9#32
  | 64 => 9#32
  | 65 => 11#32
  | 66 => 11#32
  | 67 => 7#32
  | 68 => 11#32
  | 69 => 9#32
  | 70 => 7#32
  | 71 => 9#32
  | 72 => 7#32
  | 73 => 7#32
  | 74 => 9#32
  | 75 => 11#32
  | 76 => 9#32
  | 77 => 11#32
  | 78 => 11#32
  | 79 => 7#32
  | 80 => 9#32
  | 81 => 9#32
  | 82 => 11#32
  | 83 => 11#32
  | 84 => 11#32
  | 85 => 11#32
  | 86 => 11#32
  | 87 => 9#32
  | 88 => 9#32
  | 89 => 9#32
  | 90 => 11#32
  | 91 => 9#32
  | 92 => 11#32
  | 93 => 11#32
  | 94 => 9#32
  | 95 => 9#32
  | 96 => 11#32
  | 97 => 11#32
  | 98 => 11#32
  | 99 => 9#32
  | 100 => 7#32
  | 101 => 7#32
  | 102 => 11#32
  | 103 => 7#32
  | 104 => 9#32
  | 105 => 7#32
  | 106 => 7#32
  | 107 => 7#32
  | 108 => 11#32
  | 109 => 7#32
  | 110 => 9#32
  | 111 => 11#32
  | 112 => 7#32
  | 113 => 11#32
  | 114 => 9#32
  | 115 => 7#32
  | 116 => 7#32
  | 117 => 7#32
  | 118 => 9#32
  | 119 => 9#32
  | 120 => 7#32
  | 121 => 9#32
  | 122 => 11#32
  | 123 => 11#32
  | 124 => 9#32
  | 125 => 9#32
  | 126 => 7#32
  | 127 => 11#32
  | _ => 0#32

noncomputable abbrev lit1t0_75 (i : Nat) : BitVec 32 := match i % 128 with
  | 0 => 11#32
  | 1 => 11#32
  | 2 => 9#32
  | 3 => 9#32
  | 4 => 11#32
  | 5 => 11#32
  | 6 => 11#32
  | 7 => 9#32
  | 8 => 11#32
  | 9 => 11#32
  | 10 => 7#32
  | 11 => 11#32
  | 12 => 11#32
  | 13 => 7#32
  | 14 => 11#32
  | 15 => 7#32
  | 16 => 11#32
  | 17 => 7#32
  | 18 => 7#32
  | 19 => 7#32
  | 20 => 9#32
  | 21 => 9#32
  | 22 => 11#32
  | 23 => 7#32
  | 24 => 7#32
  | 25 => 11#32
  | 26 => 7#32
  | 27 => 9#32
  | 28 => 7#32
  | 29 => 9#32
  | 30 => 9#32
  | 31 => 11#32
  | 32 => 9#32
  | 33 => 11#32
  | 34 => 11#32
  | 35 => 7#32
  | 36 => 11#32
  | 37 => 7#32
  | 38 => 9#32
  | 39 => 9#32
  | 40 => 11#32
  | 41 => 11#32
  | 42 => 11#32
  | 43 => 11#32
  | 44 => 7#32
  | 45 => 7#32
  | 46 => 11#32
  | 47 => 11#32
  | 48 => 11#32
  | 49 => 11#32
  | 50 => 9#32
  | 51 => 9#32
  | 52 => 7#32
  | 53 => 11#32
  | 54 => 7#32
  | 55 => 9#32
  | 56 => 11#32
  | 57 => 7#32
  | 58 => 9#32
  | 59 => 11#32
  | 60 => 9#32
  | 61 => 7#32
  | 62 => 11#32
  | 63 => 7#32
  | 64 => 11#32
  | 65 => 11#32
  | 66 => 11#32
  | 67 => 7#32
  | 68 => 9#32
  | 69 => 7#32
  | 70 => 9#32
  | 71 => 9#32
  | 72 => 11#32
  | 73 => 9#32
  | 74 => 11#32
  | 75 => 11#32
  | 76 => 9#32
  | 77 => 7#32
  | 78 => 11#32
  | 79 => 11#32
  | 80 => 11#32
  | 81 => 11#32
  | 82 => 9#32
  | 83 => 9#32
  | 84 => 9#32
  | 85 => 7#32
  | 86 => 11#32
  | 87 => 9#32
  | 88 => 11#32
  | 89 => 7#32
  | 90 => 7#32
  | 91 => 9#32
  | 92 => 9#32
  | 93 => 11#32
  | 94 => 9#32
  | 95 => 7#32
  | 96 => 9#32
  | 97 => 11#32
  | 98 => 7#32
  | 99 => 9#32
  | 100 => 9#32
  | 101 => 11#32
  | 102 => 7#32
  | 103 => 9#32
  | 104 => 7#32
  | 105 => 7#32
  | 106 => 9#32
  | 107 => 11#32
  | 108 => 9#32
  | 109 => 11#32
  | 110 => 9#32
  | 111 => 9#32
  | 112 => 11#32
  | 113 => 11#32
  | 114 => 9#32
  | 115 => 11#32
  | 116 => 11#32
  | 117 => 9#32
  | 118 => 9#32
  | 119 => 9#32
  | 120 => 11#32
  | 121 => 9#32
  | 122 => 9#32
  | 123 => 9#32
  | 124 => 11#32
  | 125 => 7#32
  | 126 => 9#32
  | 127 => 7#32
  | _ => 0#32

noncomputable abbrev lit1t0_76 (i : Nat) : BitVec 32 := match i % 128 with
  | 0 => 9#32
  | 1 => 9#32
  | 2 => 9#32
  | 3 => 7#32
  | 4 => 7#32
  | 5 => 9#32
  | 6 => 9#32
  | 7 => 11#32
  | 8 => 9#32
  | 9 => 7#32
  | 10 => 9#32
  | 11 => 11#32
  | 12 => 9#32
  | 13 => 11#32
  | 14 => 7#32
  | 15 => 7#32
  | 16 => 9#32
  | 17 => 7#32
  | 18 => 7#32
  | 19 => 7#32
  | 20 => 9#32
  | 21 => 9#32
  | 22 => 7#32
  | 23 => 9#32
  | 24 => 11#32
  | 25 => 11#32
  | 26 => 7#32
  | 27 => 7#32
  | 28 => 9#32
  | 29 => 11#32
  | 30 => 7#32
  | 31 => 9#32
  | 32 => 9#32
  | 33 => 11#32
  | 34 => 11#32
  | 35 => 11#32
  | 36 => 11#32
  | 37 => 9#32
  | 38 => 11#32
  | 39 => 9#32
  | 40 => 11#32
  | 41 => 9#32
  | 42 => 7#32
  | 43 => 7#32
  | 44 => 9#32
  | 45 => 11#32
  | 46 => 7#32
  | 47 => 9#32
  | 48 => 7#32
  | 49 => 7#32
  | 50 => 7#32
  | 51 => 7#32
  | 52 => 7#32
  | 53 => 7#32
  | 54 => 9#32
  | 55 => 7#32
  | 56 => 11#32
  | 57 => 11#32
  | 58 => 9#32
  | 59 => 9#32
  | 60 => 7#32
  | 61 => 9#32
  | 62 => 9#32
  | 63 => 9#32
  | 64 => 11#32
  | 65 => 11#32
  | 66 => 7#32
  | 67 => 9#32
  | 68 => 7#32
  | 69 => 11#32
  | 70 => 9#32
  | 71 => 9#32
  | 72 => 9#32
  | 73 => 7#32
  | 74 => 11#32
  | 75 => 11#32
  | 76 => 9#32
  | 77 => 11#32
  | 78 => 9#32
  | 79 => 7#32
  | 80 => 9#32
  | 81 => 9#32
  | 82 => 11#32
  | 83 => 9#32
  | 84 => 7#32
  | 85 => 7#32
  | 86 => 9#32
  | 87 => 9#32
  | 88 => 9#32
  | 89 => 11#32
  | 90 => 9#32
  | 91 => 11#32
  | 92 => 7#32
  | 93 => 11#32
  | 94 => 7#32
  | 95 => 11#32
  | 96 => 9#32
  | 97 => 11#32
  | 98 => 9#32
  | 99 => 11#32
  | 100 => 11#32
  | 101 => 11#32
  | 102 => 7#32
  | 103 => 7#32
  | 104 => 9#32
  | 105 => 9#32
  | 106 => 7#32
  | 107 => 7#32
  | 108 => 9#32
  | 109 => 9#32
  | 110 => 7#32
  | 111 => 7#32
  | 112 => 9#32
  | 113 => 7#32
  | 114 => 11#32
  | 115 => 9#32
  | 116 => 7#32
  | 117 => 9#32
  | 118 => 11#32
  | 119 => 11#32
  | 120 => 11#32
  | 121 => 7#32
  | 122 => 7#32
  | 123 => 7#32
  | 124 => 11#32
  | 125 => 7#32
  | 126 => 9#32
  | 127 => 9#32
  | _ => 0#32

noncomputable abbrev lit1t0_77 (i : Nat) : BitVec 32 := match i % 128 with
  | 0 => 9#32
  | 1 => 7#32
  | 2 => 7#32
  | 3 => 7#32
  | 4 => 7#32
  | 5 => 11#32
  | 6 => 9#32
  | 7 => 9#32
  | 8 => 9#32
  | 9 => 7#32
  | 10 => 7#32
  | 11 => 9#32
  | 12 => 7#32
  | 13 => 7#32
  | 14 => 7#32
  | 15 => 7#32
  | 16 => 11#32
  | 17 => 11#32
  | 18 => 7#32
  | 19 => 11#32
  | 20 => 11#32
  | 21 => 11#32
  | 22 => 9#32
  | 23 => 9#32
  | 24 => 9#32
  | 25 => 7#32
  | 26 => 11#32
  | 27 => 7#32
  | 28 => 9#32
  | 29 => 9#32
  | 30 => 7#32
  | 31 => 7#32
  | 32 => 7#32
  | 33 => 7#32
  | 34 => 11#32
  | 35 => 9#32
  | 36 => 7#32
  | 37 => 7#32
  | 38 => 9#32
  | 39 => 7#32
  | 40 => 9#32
  | 41 => 7#32
  | 42 => 7#32
  | 43 => 11#32
  | 44 => 11#32
  | 45 => 9#32
  | 46 => 7#32
  | 47 => 7#32
  | 48 => 7#32
  | 49 => 7#32
  | 50 => 7#32
  | 51 => 11#32
  | 52 => 11#32
  | 53 => 7#32
  | 54 => 9#32
  | 55 => 9#32
  | 56 => 9#32
  | 57 => 7#32
  | 58 => 7#32
  | 59 => 9#32
  | 60 => 9#32
  | 61 => 11#32
  | 62 => 11#32
  | 63 => 9#32
  | 64 => 11#32
  | 65 => 9#32
  | 66 => 11#32
  | 67 => 7#32
  | 68 => 11#32
  | 69 => 7#32
  | 70 => 9#32
  | 71 => 9#32
  | 72 => 9#32
  | 73 => 11#32
  | 74 => 7#32
  | 75 => 11#32
  | 76 => 9#32
  | 77 => 9#32
  | 78 => 9#32
  | 79 => 11#32
  | 80 => 9#32
  | 81 => 9#32
  | 82 => 9#32
  | 83 => 11#32
  | 84 => 7#32
  | 85 => 9#32
  | 86 => 11#32
  | 87 => 7#32
  | 88 => 7#32
  | 89 => 9#32
  | 90 => 9#32
  | 91 => 11#32
  | 92 => 9#32
  | 93 => 9#32
  | 94 => 9#32
  | 95 => 11#32
  | 96 => 7#32
  | 97 => 9#32
  | 98 => 7#32
  | 99 => 7#32
  | 100 => 7#32
  | 101 => 7#32
  | 102 => 9#32
  | 103 => 7#32
  | 104 => 11#32
  | 105 => 9#32
  | 106 => 11#32
  | 107 => 7#32
  | 108 => 11#32
  | 109 => 9#32
  | 110 => 7#32
  | 111 => 11#32
  | 112 => 11#32
  | 113 => 7#32
  | 114 => 11#32
  | 115 => 9#32
  | 116 => 11#32
  | 117 => 7#32
  | 118 => 9#32
  | 119 => 9#32
  | 120 => 7#32
  | 121 => 7#32
  | 122 => 9#32
  | 123 => 11#32
  | 124 => 9#32
  | 125 => 11#32
  | 126 => 7#32
  | 127 => 11#32
  | _ => 0#32

noncomputable abbrev lit1t0_78 (i : Nat) : BitVec 32 := match i % 128 with
  | 0 => 9#32
  | 1 => 7#32
  | 2 => 7#32
  | 3 => 9#32
  | 4 => 11#32
  | 5 => 7#32
  | 6 => 9#32
  | 7 => 11#32
  | 8 => 7#32
  | 9 => 9#32
  | 10 => 11#32
  | 11 => 11#32
  | 12 => 11#32
  | 13 => 7#32
  | 14 => 11#32
  | 15 => 11#32
  | _ => 0#32

noncomputable abbrev lit1t (i : Nat) : BitVec 32 := match i / 128 with
  | 0 => lit1t0_0 i
  | 1 => lit1t0_1 i
  | 2 => lit1t0_2 i
  | 3 => lit1t0_3 i
  | 4 => lit1t0_4 i
  | 5 => lit1t0_5 i
  | 6 => lit1t0_6 i
  | 7 => lit1t0_7 i
  | 8 => lit1t0_8 i
  | 9 => lit1t0_9 i
  | 10 => lit1t0_10 i
  | 11 => lit1t0_11 i
  | 12 => lit1t0_12 i
  | 13 => lit1t0_13 i
  | 14 => lit1t0_14 i
  | 15 => lit1t0_15 i
  | 16 => lit1t0_16 i
  | 17 => lit1t0_17 i
  | 18 => lit1t0_18 i
  | 19 => lit1t0_19 i
  | 20 => lit1t0_20 i
  | 21 => lit1t0_21 i
  | 22 => lit1t0_22 i
  | 23 => lit1t0_23 i
  | 24 => lit1t0_24 i
  | 25 => lit1t0_25 i
  | 26 => lit1t0_26 i
  | 27 => lit1t0_27 i
  | 28 => lit1t0_28 i
  | 29 => lit1t0_29 i
  | 30 => lit1t0_30 i
  | 31 => lit1t0_31 i
  | 32 => lit1t0_32 i
  | 33 => lit1t0_33 i
  | 34 => lit1t0_34 i
  | 35 => lit1t0_35 i
  | 36 => lit1t0_36 i
  | 37 => lit1t0_37 i
  | 38 => lit1t0_38 i
  | 39 => lit1t0_39 i
  | 40 => lit1t0_40 i
  | 41 => lit1t0_41 i
  | 42 => lit1t0_42 i
  | 43 => lit1t0_43 i
  | 44 => lit1t0_44 i
  | 45 => lit1t0_45 i
  | 46 => lit1t0_46 i
  | 47 => lit1t0_47 i
  | 48 => lit1t0_48 i
  | 49 => lit1t0_49 i
  | 50 => lit1t0_50 i
  | 51 => lit1t0_51 i
  | 52 => lit1t0_52 i
  | 53 => lit1t0_53 i
  | 54 => lit1t0_54 i
  | 55 => lit1t0_55 i
  | 56 => lit1t0_56 i
  | 57 => lit1t0_57 i
  | 58 => lit1t0_58 i
  | 59 => lit1t0_59 i
  | 60 => lit1t0_60 i
  | 61 => lit1t0_61 i
  | 62 => lit1t0_62 i
  | 63 => lit1t0_63 i
  | 64 => lit1t0_64 i
  | 65 => lit1t0_65 i
  | 66 => lit1t0_66 i
  | 67 => lit1t0_67 i
  | 68 => lit1t0_68 i
  | 69 => lit1t0_69 i
  | 70 => lit1t0_70 i
  | 71 => lit1t0_71 i
  | 72 => lit1t0_72 i
  | 73 => lit1t0_73 i
  | 74 => lit1t0_74 i
  | 75 => lit1t0_75 i
  | 76 => lit1t0_76 i
  | 77 => lit1t0_77 i
  | 78 => lit1t0_78 i
  | _ => 0#32

noncomputable abbrev lit1 : Fin 10000 → BitVec 32 := fun ⟨i, _⟩ => lit1t i

noncomputable abbrev lit2t0_0 (i : Nat) : BitVec 32 := match i % 128 with
  | 0 => 5#32
  | 1 => 4#32
  | 2 => 4#32
  | 3 => 3#32
  | 4 => 3#32
  | 5 => 3#32
  | 6 => 3#32
  | 7 => 3#32
  | 8 => 3#32
  | 9 => 5#32
  | 10 => 4#32
  | 11 => 5#32
  | 12 => 4#32
  | 13 => 4#32
  | 14 => 5#32
  | 15 => 5#32
  | 16 => 4#32
  | 17 => 4#32
  | 18 => 4#32
  | 19 => 5#32
  | 20 => 3#32
  | 21 => 5#32
  | 22 => 5#32
  | 23 => 3#32
  | 24 => 4#32
  | 25 => 5#32
  | 26 => 4#32
  | 27 => 3#32
  | 28 => 5#32
  | 29 => 5#32
  | 30 => 5#32
  | 31 => 3#32
  | 32 => 3#32
  | 33 => 5#32
  | 34 => 3#32
  | 35 => 4#32
  | 36 => 3#32
  | 37 => 3#32
  | 38 => 4#32
  | 39 => 4#32
  | 40 => 4#32
  | 41 => 3#32
  | 42 => 3#32
  | 43 => 3#32
  | 44 => 3#32
  | 45 => 5#32
  | 46 => 4#32
  | 47 => 4#32
  | 48 => 3#32
  | 49 => 4#32
  | 50 => 5#32
  | 51 => 4#32
  | 52 => 4#32
  | 53 => 5#32
  | 54 => 5#32
  | 55 => 5#32
  | 56 => 4#32
  | 57 => 5#32
  | 58 => 5#32
  | 59 => 4#32
  | 60 => 5#32
  | 61 => 5#32
  | 62 => 5#32
  | 63 => 4#32
  | 64 => 5#32
  | 65 => 3#32
  | 66 => 4#32
  | 67 => 5#32
  | 68 => 5#32
  | 69 => 4#32
  | 70 => 4#32
  | 71 => 3#32
  | 72 => 4#32
  | 73 => 4#32
  | 74 => 5#32
  | 75 => 5#32
  | 76 => 3#32
  | 77 => 5#32
  | 78 => 4#32
  | 79 => 4#32
  | 80 => 5#32
  | 81 => 4#32
  | 82 => 3#32
  | 83 => 3#32
  | 84 => 5#32
  | 85 => 4#32
  | 86 => 4#32
  | 87 => 4#32
  | 88 => 5#32
  | 89 => 4#32
  | 90 => 3#32
  | 91 => 5#32
  | 92 => 3#32
  | 93 => 3#32
  | 94 => 5#32
  | 95 => 4#32
  | 96 => 3#32
  | 97 => 3#32
  | 98 => 4#32
  | 99 => 5#32
  | 100 => 4#32
  | 101 => 5#32
  | 102 => 3#32
  | 103 => 3#32
  | 104 => 5#32
  | 105 => 5#32
  | 106 => 3#32
  | 107 => 3#32
  | 108 => 5#32
  | 109 => 4#32
  | 110 => 4#32
  | 111 => 3#32
  | 112 => 5#32
  | 113 => 4#32
  | 114 => 5#32
  | 115 => 5#32
  | 116 => 5#32
  | 117 => 3#32
  | 118 => 5#32
  | 119 => 3#32
  | 120 => 4#32
  | 121 => 4#32
  | 122 => 5#32
  | 123 => 3#32
  | 124 => 5#32
  | 125 => 3#32
  | 126 => 4#32
  | 127 => 4#32
  | _ => 0#32

noncomputable abbrev lit2t0_1 (i : Nat) : BitVec 32 := match i % 128 with
  | 0 => 5#32
  | 1 => 3#32
  | 2 => 5#32
  | 3 => 5#32
  | 4 => 5#32
  | 5 => 3#32
  | 6 => 5#32
  | 7 => 5#32
  | 8 => 3#32
  | 9 => 4#32
  | 10 => 4#32
  | 11 => 3#32
  | 12 => 4#32
  | 13 => 4#32
  | 14 => 5#32
  | 15 => 5#32
  | 16 => 4#32
  | 17 => 4#32
  | 18 => 4#32
  | 19 => 5#32
  | 20 => 3#32
  | 21 => 4#32
  | 22 => 3#32
  | 23 => 4#32
  | 24 => 5#32
  | 25 => 4#32
  | 26 => 4#32
  | 27 => 5#32
  | 28 => 4#32
  | 29 => 5#32
  | 30 => 3#32
  | 31 => 4#32
  | 32 => 5#32
  | 33 => 5#32
  | 34 => 4#32
  | 35 => 4#32
  | 36 => 4#32
  | 37 => 4#32
  | 38 => 3#32
  | 39 => 5#32
  | 40 => 3#32
  | 41 => 4#32
  | 42 => 3#32
  | 43 => 5#32
  | 44 => 5#32
  | 45 => 5#32
  | 46 => 5#32
  | 47 => 5#32
  | 48 => 3#32
  | 49 => 3#32
  | 50 => 3#32
  | 51 => 5#32
  | 52 => 5#32
  | 53 => 5#32
  | 54 => 5#32
  | 55 => 5#32
  | 56 => 5#32
  | 57 => 3#32
  | 58 => 3#32
  | 59 => 5#32
  | 60 => 3#32
  | 61 => 5#32
  | 62 => 5#32
  | 63 => 5#32
  | 64 => 4#32
  | 65 => 3#32
  | 66 => 4#32
  | 67 => 5#32
  | 68 => 4#32
  | 69 => 5#32
  | 70 => 4#32
  | 71 => 5#32
  | 72 => 3#32
  | 73 => 4#32
  | 74 => 3#32
  | 75 => 3#32
  | 76 => 5#32
  | 77 => 5#32
  | 78 => 3#32
  | 79 => 5#32
  | 80 => 5#32
  | 81 => 3#32
  | 82 => 4#32
  | 83 => 4#32
  | 84 => 4#32
  | 85 => 4#32
  | 86 => 3#32
  | 87 => 5#32
  | 88 => 5#32
  | 89 => 3#32
  | 90 => 5#32
  | 91 => 5#32
  | 92 => 3#32
  | 93 => 4#32
  | 94 => 4#32
  | 95 => 3#32
  | 96 => 5#32
  | 97 => 5#32
  | 98 => 3#32
  | 99 => 3#32
  | 100 => 3#32
  | 101 => 5#32
  | 102 => 3#32
  | 103 => 4#32
  | 104 => 5#32
  | 105 => 5#32
  | 106 => 3#32
  | 107 => 3#32
  | 108 => 4#32
  | 109 => 5#32
  | 110 => 4#32
  | 111 => 3#32
  | 112 => 4#32
  | 113 => 4#32
  | 114 => 3#32
  | 115 => 4#32
  | 116 => 5#32
  | 117 => 5#32
  | 118 => 3#32
  | 119 => 4#32
  | 120 => 5#32
  | 121 => 3#32
  | 122 => 3#32
  | 123 => 3#32
  | 124 => 3#32
  | 125 => 5#32
  | 126 => 3#32
  | 127 => 3#32
  | _ => 0#32

noncomputable abbrev lit2t0_2 (i : Nat) : BitVec 32 := match i % 128 with
  | 0 => 3#32
  | 1 => 3#32
  | 2 => 5#32
  | 3 => 3#32
  | 4 => 5#32
  | 5 => 4#32
  | 6 => 5#32
  | 7 => 4#32
  | 8 => 5#32
  | 9 => 5#32
  | 10 => 3#32
  | 11 => 4#32
  | 12 => 4#32
  | 13 => 3#32
  | 14 => 4#32
  | 15 => 4#32
  | 16 => 4#32
  | 17 => 5#32
  | 18 => 5#32
  | 19 => 4#32
  | 20 => 5#32
  | 21 => 5#32
  | 22 => 4#32
  | 23 => 4#32
  | 24 => 3#32
  | 25 => 4#32
  | 26 => 3#32
  | 27 => 4#32
  | 28 => 3#32
  | 29 => 5#32
  | 30 => 5#32
  | 31 => 3#32
  | 32 => 5#32
  | 33 => 4#32
  | 34 => 3#32
  | 35 => 5#32
  | 36 => 5#32
  | 37 => 3#32
  | 38 => 4#32
  | 39 => 5#32
  | 40 => 5#32
  | 41 => 4#32
  | 42 => 5#32
  | 43 => 5#32
  | 44 => 3#32
  | 45 => 3#32
  | 46 => 3#32
  | 47 => 4#32
  | 48 => 3#32
  | 49 => 3#32
  | 50 => 3#32
  | 51 => 4#32
  | 52 => 4#32
  | 53 => 3#32
  | 54 => 5#32
  | 55 => 5#32
  | 56 => 4#32
  | 57 => 5#32
  | 58 => 5#32
  | 59 => 3#32
  | 60 => 3#32
  | 61 => 5#32
  | 62 => 4#32
  | 63 => 3#32
  | 64 => 4#32
  | 65 => 4#32
  | 66 => 4#32
  | 67 => 4#32
  | 68 => 3#32
  | 69 => 4#32
  | 70 => 4#32
  | 71 => 5#32
  | 72 => 5#32
  | 73 => 5#32
  | 74 => 3#32
  | 75 => 3#32
  | 76 => 5#32
  | 77 => 3#32
  | 78 => 4#32
  | 79 => 5#32
  | 80 => 4#32
  | 81 => 5#32
  | 82 => 3#32
  | 83 => 4#32
  | 84 => 4#32
  | 85 => 4#32
  | 86 => 4#32
  | 87 => 5#32
  | 88 => 5#32
  | 89 => 3#32
  | 90 => 3#32
  | 91 => 3#32
  | 92 => 3#32
  | 93 => 5#32
  | 94 => 3#32
  | 95 => 5#32
  | 96 => 3#32
  | 97 => 5#32
  | 98 => 4#32
  | 99 => 5#32
  | 100 => 4#32
  | 101 => 5#32
  | 102 => 5#32
  | 103 => 5#32
  | 104 => 4#32
  | 105 => 5#32
  | 106 => 5#32
  | 107 => 3#32
  | 108 => 4#32
  | 109 => 3#32
  | 110 => 3#32
  | 111 => 5#32
  | 112 => 3#32
  | 113 => 5#32
  | 114 => 5#32
  | 115 => 3#32
  | 116 => 5#32
  | 117 => 4#32
  | 118 => 5#32
  | 119 => 5#32
  | 120 => 4#32
  | 121 => 4#32
  | 122 => 5#32
  | 123 => 4#32
  | 124 => 5#32
  | 125 => 3#32
  | 126 => 5#32
  | 127 => 4#32
  | _ => 0#32

noncomputable abbrev lit2t0_3 (i : Nat) : BitVec 32 := match i % 128 with
  | 0 => 5#32
  | 1 => 4#32
  | 2 => 3#32
  | 3 => 3#32
  | 4 => 4#32
  | 5 => 5#32
  | 6 => 3#32
  | 7 => 4#32
  | 8 => 4#32
  | 9 => 3#32
  | 10 => 4#32
  | 11 => 5#32
  | 12 => 5#32
  | 13 => 5#32
  | 14 => 4#32
  | 15 => 4#32
  | 16 => 5#32
  | 17 => 3#32
  | 18 => 5#32
  | 19 => 3#32
  | 20 => 4#32
  | 21 => 5#32
  | 22 => 4#32
  | 23 => 3#32
  | 24 => 4#32
  | 25 => 4#32
  | 26 => 5#32
  | 27 => 4#32
  | 28 => 5#32
  | 29 => 5#32
  | 30 => 3#32
  | 31 => 3#32
  | 32 => 4#32
  | 33 => 4#32
  | 34 => 4#32
  | 35 => 5#32
  | 36 => 3#32
  | 37 => 3#32
  | 38 => 5#32
  | 39 => 4#32
  | 40 => 5#32
  | 41 => 3#32
  | 42 => 5#32
  | 43 => 5#32
  | 44 => 3#32
  | 45 => 3#32
  | 46 => 3#32
  | 47 => 4#32
  | 48 => 5#32
  | 49 => 5#32
  | 50 => 3#32
  | 51 => 4#32
  | 52 => 4#32
  | 53 => 5#32
  | 54 => 3#32
  | 55 => 5#32
  | 56 => 5#32
  | 57 => 5#32
  | 58 => 3#32
  | 59 => 3#32
  | 60 => 4#32
  | 61 => 3#32
  | 62 => 3#32
  | 63 => 3#32
  | 64 => 3#32
  | 65 => 5#32
  | 66 => 5#32
  | 67 => 4#32
  | 68 => 5#32
  | 69 => 4#32
  | 70 => 3#32
  | 71 => 3#32
  | 72 => 3#32
  | 73 => 5#32
  | 74 => 4#32
  | 75 => 3#32
  | 76 => 3#32
  | 77 => 5#32
  | 78 => 3#32
  | 79 => 4#32
  | 80 => 5#32
  | 81 => 4#32
  | 82 => 5#32
  | 83 => 5#32
  | 84 => 3#32
  | 85 => 3#32
  | 86 => 3#32
  | 87 => 4#32
  | 88 => 3#32
  | 89 => 3#32
  | 90 => 5#32
  | 91 => 5#32
  | 92 => 5#32
  | 93 => 4#32
  | 94 => 4#32
  | 95 => 5#32
  | 96 => 4#32
  | 97 => 3#32
  | 98 => 3#32
  | 99 => 5#32
  | 100 => 3#32
  | 101 => 5#32
  | 102 => 4#32
  | 103 => 4#32
  | 104 => 5#32
  | 105 => 5#32
  | 106 => 4#32
  | 107 => 4#32
  | 108 => 5#32
  | 109 => 4#32
  | 110 => 4#32
  | 111 => 5#32
  | 112 => 5#32
  | 113 => 3#32
  | 114 => 4#32
  | 115 => 5#32
  | 116 => 3#32
  | 117 => 4#32
  | 118 => 4#32
  | 119 => 3#32
  | 120 => 5#32
  | 121 => 5#32
  | 122 => 4#32
  | 123 => 5#32
  | 124 => 3#32
  | 125 => 4#32
  | 126 => 3#32
  | 127 => 4#32
  | _ => 0#32

noncomputable abbrev lit2t0_4 (i : Nat) : BitVec 32 := match i % 128 with
  | 0 => 3#32
  | 1 => 5#32
  | 2 => 5#32
  | 3 => 3#32
  | 4 => 5#32
  | 5 => 5#32
  | 6 => 3#32
  | 7 => 5#32
  | 8 => 5#32
  | 9 => 5#32
  | 10 => 5#32
  | 11 => 3#32
  | 12 => 4#32
  | 13 => 5#32
  | 14 => 5#32
  | 15 => 3#32
  | 16 => 4#32
  | 17 => 4#32
  | 18 => 5#32
  | 19 => 4#32
  | 20 => 4#32
  | 21 => 4#32
  | 22 => 4#32
  | 23 => 3#32
  | 24 => 5#32
  | 25 => 4#32
  | 26 => 3#32
  | 27 => 3#32
  | 28 => 4#32
  | 29 => 5#32
  | 30 => 3#32
  | 31 => 5#32
  | 32 => 3#32
  | 33 => 3#32
  | 34 => 4#32
  | 35 => 5#32
  | 36 => 3#32
  | 37 => 5#32
  | 38 => 3#32
  | 39 => 5#32
  | 40 => 3#32
  | 41 => 5#32
  | 42 => 3#32
  | 43 => 4#32
  | 44 => 3#32
  | 45 => 5#32
  | 46 => 4#32
  | 47 => 5#32
  | 48 => 4#32
  | 49 => 4#32
  | 50 => 4#32
  | 51 => 5#32
  | 52 => 4#32
  | 53 => 5#32
  | 54 => 3#32
  | 55 => 4#32
  | 56 => 3#32
  | 57 => 5#32
  | 58 => 3#32
  | 59 => 5#32
  | 60 => 5#32
  | 61 => 3#32
  | 62 => 3#32
  | 63 => 5#32
  | 64 => 4#32
  | 65 => 4#32
  | 66 => 5#32
  | 67 => 3#32
  | 68 => 3#32
  | 69 => 4#32
  | 70 => 5#32
  | 71 => 3#32
  | 72 => 4#32
  | 73 => 4#32
  | 74 => 3#32
  | 75 => 4#32
  | 76 => 4#32
  | 77 => 4#32
  | 78 => 3#32
  | 79 => 4#32
  | 80 => 5#32
  | 81 => 3#32
  | 82 => 3#32
  | 83 => 5#32
  | 84 => 3#32
  | 85 => 5#32
  | 86 => 4#32
  | 87 => 5#32
  | 88 => 4#32
  | 89 => 5#32
  | 90 => 4#32
  | 91 => 4#32
  | 92 => 4#32
  | 93 => 3#32
  | 94 => 3#32
  | 95 => 5#32
  | 96 => 4#32
  | 97 => 4#32
  | 98 => 3#32
  | 99 => 5#32
  | 100 => 5#32
  | 101 => 4#32
  | 102 => 3#32
  | 103 => 5#32
  | 104 => 4#32
  | 105 => 5#32
  | 106 => 3#32
  | 107 => 4#32
  | 108 => 5#32
  | 109 => 3#32
  | 110 => 3#32
  | 111 => 4#32
  | 112 => 5#32
  | 113 => 5#32
  | 114 => 5#32
  | 115 => 4#32
  | 116 => 4#32
  | 117 => 4#32
  | 118 => 5#32
  | 119 => 3#32
  | 120 => 3#32
  | 121 => 5#32
  | 122 => 3#32
  | 123 => 3#32
  | 124 => 5#32
  | 125 => 3#32
  | 126 => 5#32
  | 127 => 5#32
  | _ => 0#32

noncomputable abbrev lit2t0_5 (i : Nat) : BitVec 32 := match i % 128 with
  | 0 => 3#32
  | 1 => 4#32
  | 2 => 3#32
  | 3 => 4#32
  | 4 => 4#32
  | 5 => 5#32
  | 6 => 5#32
  | 7 => 3#32
  | 8 => 3#32
  | 9 => 5#32
  | 10 => 3#32
  | 11 => 3#32
  | 12 => 4#32
  | 13 => 3#32
  | 14 => 5#32
  | 15 => 5#32
  | 16 => 3#32
  | 17 => 4#32
  | 18 => 4#32
  | 19 => 3#32
  | 20 => 4#32
  | 21 => 5#32
  | 22 => 4#32
  | 23 => 3#32
  | 24 => 3#32
  | 25 => 4#32
  | 26 => 4#32
  | 27 => 3#32
  | 28 => 4#32
  | 29 => 3#32
  | 30 => 4#32
  | 31 => 5#32
  | 32 => 3#32
  | 33 => 5#32
  | 34 => 3#32
  | 35 => 4#32
  | 36 => 5#32
  | 37 => 3#32
  | 38 => 5#32
  | 39 => 4#32
  | 40 => 4#32
  | 41 => 3#32
  | 42 => 3#32
  | 43 => 5#32
  | 44 => 4#32
  | 45 => 5#32
  | 46 => 5#32
  | 47 => 4#32
  | 48 => 5#32
  | 49 => 4#32
  | 50 => 3#32
  | 51 => 3#32
  | 52 => 4#32
  | 53 => 3#32
  | 54 => 3#32
  | 55 => 4#32
  | 56 => 4#32
  | 57 => 4#32
  | 58 => 4#32
  | 59 => 5#32
  | 60 => 5#32
  | 61 => 5#32
  | 62 => 3#32
  | 63 => 3#32
  | 64 => 4#32
  | 65 => 4#32
  | 66 => 5#32
  | 67 => 5#32
  | 68 => 5#32
  | 69 => 3#32
  | 70 => 3#32
  | 71 => 3#32
  | 72 => 3#32
  | 73 => 5#32
  | 74 => 4#32
  | 75 => 5#32
  | 76 => 3#32
  | 77 => 4#32
  | 78 => 3#32
  | 79 => 3#32
  | 80 => 5#32
  | 81 => 5#32
  | 82 => 3#32
  | 83 => 4#32
  | 84 => 5#32
  | 85 => 4#32
  | 86 => 5#32
  | 87 => 3#32
  | 88 => 3#32
  | 89 => 3#32
  | 90 => 4#32
  | 91 => 3#32
  | 92 => 3#32
  | 93 => 4#32
  | 94 => 4#32
  | 95 => 3#32
  | 96 => 4#32
  | 97 => 5#32
  | 98 => 5#32
  | 99 => 3#32
  | 100 => 5#32
  | 101 => 4#32
  | 102 => 4#32
  | 103 => 4#32
  | 104 => 5#32
  | 105 => 3#32
  | 106 => 4#32
  | 107 => 5#32
  | 108 => 4#32
  | 109 => 4#32
  | 110 => 3#32
  | 111 => 5#32
  | 112 => 3#32
  | 113 => 3#32
  | 114 => 3#32
  | 115 => 4#32
  | 116 => 4#32
  | 117 => 4#32
  | 118 => 5#32
  | 119 => 4#32
  | 120 => 5#32
  | 121 => 3#32
  | 122 => 3#32
  | 123 => 3#32
  | 124 => 4#32
  | 125 => 5#32
  | 126 => 3#32
  | 127 => 3#32
  | _ => 0#32

noncomputable abbrev lit2t0_6 (i : Nat) : BitVec 32 := match i % 128 with
  | 0 => 4#32
  | 1 => 5#32
  | 2 => 3#32
  | 3 => 5#32
  | 4 => 5#32
  | 5 => 4#32
  | 6 => 3#32
  | 7 => 4#32
  | 8 => 5#32
  | 9 => 5#32
  | 10 => 3#32
  | 11 => 5#32
  | 12 => 4#32
  | 13 => 5#32
  | 14 => 5#32
  | 15 => 5#32
  | 16 => 5#32
  | 17 => 5#32
  | 18 => 4#32
  | 19 => 5#32
  | 20 => 4#32
  | 21 => 5#32
  | 22 => 3#32
  | 23 => 3#32
  | 24 => 4#32
  | 25 => 5#32
  | 26 => 5#32
  | 27 => 3#32
  | 28 => 5#32
  | 29 => 4#32
  | 30 => 5#32
  | 31 => 4#32
  | 32 => 5#32
  | 33 => 3#32
  | 34 => 4#32
  | 35 => 5#32
  | 36 => 5#32
  | 37 => 3#32
  | 38 => 3#32
  | 39 => 3#32
  | 40 => 5#32
  | 41 => 3#32
  | 42 => 4#32
  | 43 => 5#32
  | 44 => 5#32
  | 45 => 3#32
  | 46 => 4#32
  | 47 => 5#32
  | 48 => 4#32
  | 49 => 3#32
  | 50 => 5#32
  | 51 => 4#32
  | 52 => 5#32
  | 53 => 5#32
  | 54 => 4#32
  | 55 => 5#32
  | 56 => 5#32
  | 57 => 5#32
  | 58 => 4#32
  | 59 => 4#32
  | 60 => 5#32
  | 61 => 5#32
  | 62 => 4#32
  | 63 => 5#32
  | 64 => 3#32
  | 65 => 5#32
  | 66 => 3#32
  | 67 => 5#32
  | 68 => 4#32
  | 69 => 4#32
  | 70 => 3#32
  | 71 => 4#32
  | 72 => 3#32
  | 73 => 4#32
  | 74 => 5#32
  | 75 => 3#32
  | 76 => 3#32
  | 77 => 5#32
  | 78 => 3#32
  | 79 => 3#32
  | 80 => 3#32
  | 81 => 4#32
  | 82 => 4#32
  | 83 => 4#32
  | 84 => 3#32
  | 85 => 5#32
  | 86 => 3#32
  | 87 => 5#32
  | 88 => 5#32
  | 89 => 3#32
  | 90 => 3#32
  | 91 => 4#32
  | 92 => 3#32
  | 93 => 4#32
  | 94 => 4#32
  | 95 => 4#32
  | 96 => 5#32
  | 97 => 5#32
  | 98 => 3#32
  | 99 => 4#32
  | 100 => 5#32
  | 101 => 5#32
  | 102 => 5#32
  | 103 => 4#32
  | 104 => 4#32
  | 105 => 4#32
  | 106 => 4#32
  | 107 => 3#32
  | 108 => 4#32
  | 109 => 3#32
  | 110 => 4#32
  | 111 => 5#32
  | 112 => 5#32
  | 113 => 5#32
  | 114 => 3#32
  | 115 => 3#32
  | 116 => 4#32
  | 117 => 5#32
  | 118 => 3#32
  | 119 => 5#32
  | 120 => 3#32
  | 121 => 4#32
  | 122 => 3#32
  | 123 => 5#32
  | 124 => 5#32
  | 125 => 4#32
  | 126 => 5#32
  | 127 => 4#32
  | _ => 0#32

noncomputable abbrev lit2t0_7 (i : Nat) : BitVec 32 := match i % 128 with
  | 0 => 5#32
  | 1 => 3#32
  | 2 => 3#32
  | 3 => 3#32
  | 4 => 4#32
  | 5 => 5#32
  | 6 => 5#32
  | 7 => 5#32
  | 8 => 3#32
  | 9 => 5#32
  | 10 => 3#32
  | 11 => 4#32
  | 12 => 4#32
  | 13 => 4#32
  | 14 => 4#32
  | 15 => 4#32
  | 16 => 3#32
  | 17 => 5#32
  | 18 => 5#32
  | 19 => 4#32
  | 20 => 4#32
  | 21 => 3#32
  | 22 => 4#32
  | 23 => 5#32
  | 24 => 5#32
  | 25 => 5#32
  | 26 => 3#32
  | 27 => 3#32
  | 28 => 5#32
  | 29 => 3#32
  | 30 => 3#32
  | 31 => 4#32
  | 32 => 3#32
  | 33 => 5#32
  | 34 => 3#32
  | 35 => 4#32
  | 36 => 4#32
  | 37 => 3#32
  | 38 => 4#32
  | 39 => 3#32
  | 40 => 5#32
  | 41 => 4#32
  | 42 => 3#32
  | 43 => 5#32
  | 44 => 5#32
  | 45 => 3#32
  | 46 => 4#32
  | 47 => 3#32
  | 48 => 4#32
  | 49 => 4#32
  | 50 => 3#32
  | 51 => 3#32
  | 52 => 4#32
  | 53 => 3#32
  | 54 => 5#32
  | 55 => 5#32
  | 56 => 5#32
  | 57 => 5#32
  | 58 => 5#32
  | 59 => 4#32
  | 60 => 4#32
  | 61 => 3#32
  | 62 => 3#32
  | 63 => 3#32
  | 64 => 5#32
  | 65 => 4#32
  | 66 => 5#32
  | 67 => 4#32
  | 68 => 4#32
  | 69 => 4#32
  | 70 => 5#32
  | 71 => 4#32
  | 72 => 4#32
  | 73 => 4#32
  | 74 => 5#32
  | 75 => 5#32
  | 76 => 4#32
  | 77 => 4#32
  | 78 => 3#32
  | 79 => 4#32
  | 80 => 3#32
  | 81 => 4#32
  | 82 => 3#32
  | 83 => 4#32
  | 84 => 4#32
  | 85 => 4#32
  | 86 => 4#32
  | 87 => 3#32
  | 88 => 3#32
  | 89 => 4#32
  | 90 => 5#32
  | 91 => 4#32
  | 92 => 4#32
  | 93 => 4#32
  | 94 => 5#32
  | 95 => 4#32
  | 96 => 4#32
  | 97 => 4#32
  | 98 => 4#32
  | 99 => 5#32
  | 100 => 3#32
  | 101 => 4#32
  | 102 => 3#32
  | 103 => 5#32
  | 104 => 4#32
  | 105 => 3#32
  | 106 => 3#32
  | 107 => 5#32
  | 108 => 4#32
  | 109 => 5#32
  | 110 => 3#32
  | 111 => 3#32
  | 112 => 4#32
  | 113 => 3#32
  | 114 => 4#32
  | 115 => 4#32
  | 116 => 3#32
  | 117 => 3#32
  | 118 => 5#32
  | 119 => 5#32
  | 120 => 4#32
  | 121 => 5#32
  | 122 => 4#32
  | 123 => 5#32
  | 124 => 3#32
  | 125 => 4#32
  | 126 => 3#32
  | 127 => 4#32
  | _ => 0#32

noncomputable abbrev lit2t0_8 (i : Nat) : BitVec 32 := match i % 128 with
  | 0 => 5#32
  | 1 => 5#32
  | 2 => 3#32
  | 3 => 4#32
  | 4 => 3#32
  | 5 => 3#32
  | 6 => 4#32
  | 7 => 5#32
  | 8 => 5#32
  | 9 => 4#32
  | 10 => 3#32
  | 11 => 5#32
  | 12 => 4#32
  | 13 => 4#32
  | 14 => 4#32
  | 15 => 3#32
  | 16 => 5#32
  | 17 => 3#32
  | 18 => 4#32
  | 19 => 4#32
  | 20 => 3#32
  | 21 => 3#32
  | 22 => 4#32
  | 23 => 3#32
  | 24 => 4#32
  | 25 => 4#32
  | 26 => 3#32
  | 27 => 5#32
  | 28 => 3#32
  | 29 => 4#32
  | 30 => 3#32
  | 31 => 3#32
  | 32 => 4#32
  | 33 => 5#32
  | 34 => 4#32
  | 35 => 4#32
  | 36 => 3#32
  | 37 => 5#32
  | 38 => 5#32
  | 39 => 5#32
  | 40 => 3#32
  | 41 => 5#32
  | 42 => 4#32
  | 43 => 3#32
  | 44 => 5#32
  | 45 => 3#32
  | 46 => 4#32
  | 47 => 3#32
  | 48 => 3#32
  | 49 => 4#32
  | 50 => 4#32
  | 51 => 4#32
  | 52 => 3#32
  | 53 => 3#32
  | 54 => 3#32
  | 55 => 5#32
  | 56 => 3#32
  | 57 => 5#32
  | 58 => 3#32
  | 59 => 3#32
  | 60 => 4#32
  | 61 => 4#32
  | 62 => 4#32
  | 63 => 4#32
  | 64 => 4#32
  | 65 => 5#32
  | 66 => 5#32
  | 67 => 3#32
  | 68 => 3#32
  | 69 => 3#32
  | 70 => 3#32
  | 71 => 5#32
  | 72 => 5#32
  | 73 => 4#32
  | 74 => 5#32
  | 75 => 5#32
  | 76 => 5#32
  | 77 => 4#32
  | 78 => 4#32
  | 79 => 4#32
  | 80 => 3#32
  | 81 => 3#32
  | 82 => 5#32
  | 83 => 3#32
  | 84 => 3#32
  | 85 => 4#32
  | 86 => 4#32
  | 87 => 3#32
  | 88 => 3#32
  | 89 => 5#32
  | 90 => 3#32
  | 91 => 3#32
  | 92 => 4#32
  | 93 => 5#32
  | 94 => 4#32
  | 95 => 4#32
  | 96 => 5#32
  | 97 => 4#32
  | 98 => 4#32
  | 99 => 5#32
  | 100 => 5#32
  | 101 => 3#32
  | 102 => 5#32
  | 103 => 3#32
  | 104 => 5#32
  | 105 => 3#32
  | 106 => 5#32
  | 107 => 3#32
  | 108 => 5#32
  | 109 => 4#32
  | 110 => 4#32
  | 111 => 3#32
  | 112 => 3#32
  | 113 => 5#32
  | 114 => 3#32
  | 115 => 3#32
  | 116 => 4#32
  | 117 => 4#32
  | 118 => 4#32
  | 119 => 4#32
  | 120 => 3#32
  | 121 => 3#32
  | 122 => 3#32
  | 123 => 4#32
  | 124 => 4#32
  | 125 => 3#32
  | 126 => 5#32
  | 127 => 3#32
  | _ => 0#32

noncomputable abbrev lit2t0_9 (i : Nat) : BitVec 32 := match i % 128 with
  | 0 => 4#32
  | 1 => 5#32
  | 2 => 5#32
  | 3 => 4#32
  | 4 => 4#32
  | 5 => 4#32
  | 6 => 4#32
  | 7 => 4#32
  | 8 => 4#32
  | 9 => 4#32
  | 10 => 5#32
  | 11 => 4#32
  | 12 => 3#32
  | 13 => 3#32
  | 14 => 4#32
  | 15 => 4#32
  | 16 => 5#32
  | 17 => 5#32
  | 18 => 3#32
  | 19 => 5#32
  | 20 => 4#32
  | 21 => 4#32
  | 22 => 5#32
  | 23 => 3#32
  | 24 => 4#32
  | 25 => 3#32
  | 26 => 5#32
  | 27 => 3#32
  | 28 => 5#32
  | 29 => 5#32
  | 30 => 5#32
  | 31 => 4#32
  | 32 => 4#32
  | 33 => 5#32
  | 34 => 3#32
  | 35 => 4#32
  | 36 => 3#32
  | 37 => 5#32
  | 38 => 5#32
  | 39 => 4#32
  | 40 => 4#32
  | 41 => 5#32
  | 42 => 3#32
  | 43 => 3#32
  | 44 => 3#32
  | 45 => 5#32
  | 46 => 4#32
  | 47 => 3#32
  | 48 => 4#32
  | 49 => 3#32
  | 50 => 4#32
  | 51 => 5#32
  | 52 => 5#32
  | 53 => 5#32
  | 54 => 3#32
  | 55 => 4#32
  | 56 => 5#32
  | 57 => 5#32
  | 58 => 3#32
  | 59 => 4#32
  | 60 => 4#32
  | 61 => 3#32
  | 62 => 5#32
  | 63 => 5#32
  | 64 => 5#32
  | 65 => 3#32
  | 66 => 4#32
  | 67 => 3#32
  | 68 => 5#32
  | 69 => 4#32
  | 70 => 4#32
  | 71 => 4#32
  | 72 => 5#32
  | 73 => 3#32
  | 74 => 3#32
  | 75 => 4#32
  | 76 => 4#32
  | 77 => 4#32
  | 78 => 5#32
  | 79 => 4#32
  | 80 => 5#32
  | 81 => 5#32
  | 82 => 4#32
  | 83 => 3#32
  | 84 => 5#32
  | 85 => 3#32
  | 86 => 3#32
  | 87 => 5#32
  | 88 => 3#32
  | 89 => 5#32
  | 90 => 4#32
  | 91 => 4#32
  | 92 => 4#32
  | 93 => 3#32
  | 94 => 3#32
  | 95 => 4#32
  | 96 => 4#32
  | 97 => 5#32
  | 98 => 5#32
  | 99 => 3#32
  | 100 => 3#32
  | 101 => 5#32
  | 102 => 3#32
  | 103 => 4#32
  | 104 => 5#32
  | 105 => 5#32
  | 106 => 5#32
  | 107 => 5#32
  | 108 => 3#32
  | 109 => 3#32
  | 110 => 4#32
  | 111 => 5#32
  | 112 => 3#32
  | 113 => 3#32
  | 114 => 5#32
  | 115 => 3#32
  | 116 => 5#32
  | 117 => 3#32
  | 118 => 3#32
  | 119 => 5#32
  | 120 => 3#32
  | 121 => 4#32
  | 122 => 5#32
  | 123 => 4#32
  | 124 => 3#32
  | 125 => 3#32
  | 126 => 4#32
  | 127 => 5#32
  | _ => 0#32

noncomputable abbrev lit2t0_10 (i : Nat) : BitVec 32 := match i % 128 with
  | 0 => 5#32
  | 1 => 3#32
  | 2 => 4#32
  | 3 => 3#32
  | 4 => 4#32
  | 5 => 5#32
  | 6 => 5#32
  | 7 => 4#32
  | 8 => 3#32
  | 9 => 5#32
  | 10 => 5#32
  | 11 => 4#32
  | 12 => 4#32
  | 13 => 5#32
  | 14 => 4#32
  | 15 => 3#32
  | 16 => 5#32
  | 17 => 3#32
  | 18 => 5#32
  | 19 => 4#32
  | 20 => 5#32
  | 21 => 4#32
  | 22 => 4#32
  | 23 => 4#32
  | 24 => 5#32
  | 25 => 5#32
  | 26 => 4#32
  | 27 => 3#32
  | 28 => 4#32
  | 29 => 5#32
  | 30 => 5#32
  | 31 => 5#32
  | 32 => 5#32
  | 33 => 3#32
  | 34 => 4#32
  | 35 => 3#32
  | 36 => 3#32
  | 37 => 3#32
  | 38 => 4#32
  | 39 => 4#32
  | 40 => 4#32
  | 41 => 5#32
  | 42 => 5#32
  | 43 => 3#32
  | 44 => 4#32
  | 45 => 5#32
  | 46 => 4#32
  | 47 => 4#32
  | 48 => 4#32
  | 49 => 3#32
  | 50 => 4#32
  | 51 => 4#32
  | 52 => 4#32
  | 53 => 4#32
  | 54 => 3#32
  | 55 => 3#32
  | 56 => 5#32
  | 57 => 3#32
  | 58 => 5#32
  | 59 => 4#32
  | 60 => 4#32
  | 61 => 5#32
  | 62 => 3#32
  | 63 => 4#32
  | 64 => 5#32
  | 65 => 5#32
  | 66 => 5#32
  | 67 => 3#32
  | 68 => 4#32
  | 69 => 3#32
  | 70 => 4#32
  | 71 => 3#32
  | 72 => 3#32
  | 73 => 4#32
  | 74 => 5#32
  | 75 => 3#32
  | 76 => 4#32
  | 77 => 4#32
  | 78 => 5#32
  | 79 => 5#32
  | 80 => 5#32
  | 81 => 3#32
  | 82 => 4#32
  | 83 => 3#32
  | 84 => 3#32
  | 85 => 5#32
  | 86 => 4#32
  | 87 => 4#32
  | 88 => 4#32
  | 89 => 3#32
  | 90 => 5#32
  | 91 => 3#32
  | 92 => 3#32
  | 93 => 5#32
  | 94 => 4#32
  | 95 => 5#32
  | 96 => 5#32
  | 97 => 5#32
  | 98 => 3#32
  | 99 => 4#32
  | 100 => 5#32
  | 101 => 3#32
  | 102 => 5#32
  | 103 => 3#32
  | 104 => 3#32
  | 105 => 4#32
  | 106 => 4#32
  | 107 => 5#32
  | 108 => 5#32
  | 109 => 4#32
  | 110 => 4#32
  | 111 => 3#32
  | 112 => 3#32
  | 113 => 5#32
  | 114 => 4#32
  | 115 => 4#32
  | 116 => 3#32
  | 117 => 5#32
  | 118 => 4#32
  | 119 => 4#32
  | 120 => 5#32
  | 121 => 5#32
  | 122 => 3#32
  | 123 => 3#32
  | 124 => 5#32
  | 125 => 5#32
  | 126 => 5#32
  | 127 => 4#32
  | _ => 0#32

noncomputable abbrev lit2t0_11 (i : Nat) : BitVec 32 := match i % 128 with
  | 0 => 3#32
  | 1 => 4#32
  | 2 => 3#32
  | 3 => 3#32
  | 4 => 5#32
  | 5 => 5#32
  | 6 => 3#32
  | 7 => 3#32
  | 8 => 5#32
  | 9 => 4#32
  | 10 => 5#32
  | 11 => 4#32
  | 12 => 5#32
  | 13 => 5#32
  | 14 => 3#32
  | 15 => 4#32
  | 16 => 5#32
  | 17 => 5#32
  | 18 => 5#32
  | 19 => 4#32
  | 20 => 3#32
  | 21 => 5#32
  | 22 => 5#32
  | 23 => 5#32
  | 24 => 4#32
  | 25 => 5#32
  | 26 => 3#32
  | 27 => 5#32
  | 28 => 5#32
  | 29 => 5#32
  | 30 => 5#32
  | 31 => 3#32
  | 32 => 3#32
  | 33 => 3#32
  | 34 => 5#32
  | 35 => 4#32
  | 36 => 5#32
  | 37 => 3#32
  | 38 => 4#32
  | 39 => 4#32
  | 40 => 5#32
  | 41 => 3#32
  | 42 => 5#32
  | 43 => 5#32
  | 44 => 4#32
  | 45 => 5#32
  | 46 => 5#32
  | 47 => 3#32
  | 48 => 5#32
  | 49 => 4#32
  | 50 => 5#32
  | 51 => 4#32
  | 52 => 3#32
  | 53 => 5#32
  | 54 => 3#32
  | 55 => 4#32
  | 56 => 5#32
  | 57 => 5#32
  | 58 => 3#32
  | 59 => 4#32
  | 60 => 3#32
  | 61 => 5#32
  | 62 => 4#32
  | 63 => 4#32
  | 64 => 4#32
  | 65 => 5#32
  | 66 => 5#32
  | 67 => 4#32
  | 68 => 5#32
  | 69 => 3#32
  | 70 => 4#32
  | 71 => 5#32
  | 72 => 5#32
  | 73 => 3#32
  | 74 => 4#32
  | 75 => 4#32
  | 76 => 5#32
  | 77 => 4#32
  | 78 => 4#32
  | 79 => 3#32
  | 80 => 4#32
  | 81 => 3#32
  | 82 => 4#32
  | 83 => 5#32
  | 84 => 4#32
  | 85 => 5#32
  | 86 => 4#32
  | 87 => 3#32
  | 88 => 4#32
  | 89 => 5#32
  | 90 => 4#32
  | 91 => 3#32
  | 92 => 5#32
  | 93 => 3#32
  | 94 => 3#32
  | 95 => 5#32
  | 96 => 3#32
  | 97 => 5#32
  | 98 => 5#32
  | 99 => 5#32
  | 100 => 5#32
  | 101 => 3#32
  | 102 => 4#32
  | 103 => 5#32
  | 104 => 5#32
  | 105 => 4#32
  | 106 => 3#32
  | 107 => 3#32
  | 108 => 4#32
  | 109 => 5#32
  | 110 => 3#32
  | 111 => 5#32
  | 112 => 5#32
  | 113 => 3#32
  | 114 => 5#32
  | 115 => 3#32
  | 116 => 3#32
  | 117 => 5#32
  | 118 => 4#32
  | 119 => 5#32
  | 120 => 4#32
  | 121 => 3#32
  | 122 => 3#32
  | 123 => 5#32
  | 124 => 3#32
  | 125 => 3#32
  | 126 => 4#32
  | 127 => 5#32
  | _ => 0#32

noncomputable abbrev lit2t0_12 (i : Nat) : BitVec 32 := match i % 128 with
  | 0 => 3#32
  | 1 => 5#32
  | 2 => 5#32
  | 3 => 3#32
  | 4 => 5#32
  | 5 => 3#32
  | 6 => 4#32
  | 7 => 4#32
  | 8 => 3#32
  | 9 => 4#32
  | 10 => 5#32
  | 11 => 5#32
  | 12 => 3#32
  | 13 => 4#32
  | 14 => 3#32
  | 15 => 3#32
  | 16 => 5#32
  | 17 => 4#32
  | 18 => 5#32
  | 19 => 3#32
  | 20 => 3#32
  | 21 => 3#32
  | 22 => 3#32
  | 23 => 3#32
  | 24 => 4#32
  | 25 => 4#32
  | 26 => 5#32
  | 27 => 3#32
  | 28 => 4#32
  | 29 => 5#32
  | 30 => 5#32
  | 31 => 3#32
  | 32 => 3#32
  | 33 => 3#32
  | 34 => 5#32
  | 35 => 4#32
  | 36 => 3#32
  | 37 => 5#32
  | 38 => 5#32
  | 39 => 4#32
  | 40 => 4#32
  | 41 => 4#32
  | 42 => 3#32
  | 43 => 3#32
  | 44 => 4#32
  | 45 => 5#32
  | 46 => 4#32
  | 47 => 4#32
  | 48 => 3#32
  | 49 => 3#32
  | 50 => 4#32
  | 51 => 4#32
  | 52 => 4#32
  | 53 => 5#32
  | 54 => 3#32
  | 55 => 4#32
  | 56 => 4#32
  | 57 => 3#32
  | 58 => 5#32
  | 59 => 4#32
  | 60 => 5#32
  | 61 => 4#32
  | 62 => 3#32
  | 63 => 5#32
  | 64 => 5#32
  | 65 => 5#32
  | 66 => 4#32
  | 67 => 4#32
  | 68 => 3#32
  | 69 => 3#32
  | 70 => 5#32
  | 71 => 5#32
  | 72 => 4#32
  | 73 => 5#32
  | 74 => 3#32
  | 75 => 3#32
  | 76 => 4#32
  | 77 => 4#32
  | 78 => 3#32
  | 79 => 3#32
  | 80 => 3#32
  | 81 => 4#32
  | 82 => 4#32
  | 83 => 4#32
  | 84 => 3#32
  | 85 => 3#32
  | 86 => 4#32
  | 87 => 4#32
  | 88 => 5#32
  | 89 => 5#32
  | 90 => 3#32
  | 91 => 3#32
  | 92 => 5#32
  | 93 => 4#32
  | 94 => 5#32
  | 95 => 4#32
  | 96 => 5#32
  | 97 => 4#32
  | 98 => 3#32
  | 99 => 5#32
  | 100 => 3#32
  | 101 => 4#32
  | 102 => 3#32
  | 103 => 5#32
  | 104 => 4#32
  | 105 => 4#32
  | 106 => 3#32
  | 107 => 4#32
  | 108 => 3#32
  | 109 => 3#32
  | 110 => 3#32
  | 111 => 5#32
  | 112 => 5#32
  | 113 => 4#32
  | 114 => 4#32
  | 115 => 3#32
  | 116 => 4#32
  | 117 => 3#32
  | 118 => 4#32
  | 119 => 3#32
  | 120 => 3#32
  | 121 => 5#32
  | 122 => 4#32
  | 123 => 4#32
  | 124 => 4#32
  | 125 => 5#32
  | 126 => 4#32
  | 127 => 5#32
  | _ => 0#32

noncomputable abbrev lit2t0_13 (i : Nat) : BitVec 32 := match i % 128 with
  | 0 => 3#32
  | 1 => 3#32
  | 2 => 3#32
  | 3 => 3#32
  | 4 => 3#32
  | 5 => 3#32
  | 6 => 3#32
  | 7 => 5#32
  | 8 => 4#32
  | 9 => 3#32
  | 10 => 4#32
  | 11 => 4#32
  | 12 => 3#32
  | 13 => 3#32
  | 14 => 5#32
  | 15 => 5#32
  | 16 => 4#32
  | 17 => 4#32
  | 18 => 3#32
  | 19 => 4#32
  | 20 => 5#32
  | 21 => 3#32
  | 22 => 4#32
  | 23 => 4#32
  | 24 => 5#32
  | 25 => 3#32
  | 26 => 4#32
  | 27 => 5#32
  | 28 => 3#32
  | 29 => 5#32
  | 30 => 4#32
  | 31 => 5#32
  | 32 => 3#32
  | 33 => 4#32
  | 34 => 5#32
  | 35 => 5#32
  | 36 => 4#32
  | 37 => 3#32
  | 38 => 4#32
  | 39 => 4#32
  | 40 => 3#32
  | 41 => 5#32
  | 42 => 5#32
  | 43 => 3#32
  | 44 => 3#32
  | 45 => 5#32
  | 46 => 5#32
  | 47 => 3#32
  | 48 => 3#32
  | 49 => 4#32
  | 50 => 4#32
  | 51 => 3#32
  | 52 => 5#32
  | 53 => 4#32
  | 54 => 4#32
  | 55 => 3#32
  | 56 => 4#32
  | 57 => 3#32
  | 58 => 4#32
  | 59 => 4#32
  | 60 => 5#32
  | 61 => 4#32
  | 62 => 4#32
  | 63 => 3#32
  | 64 => 4#32
  | 65 => 5#32
  | 66 => 4#32
  | 67 => 5#32
  | 68 => 4#32
  | 69 => 4#32
  | 70 => 3#32
  | 71 => 5#32
  | 72 => 5#32
  | 73 => 4#32
  | 74 => 4#32
  | 75 => 5#32
  | 76 => 4#32
  | 77 => 5#32
  | 78 => 4#32
  | 79 => 5#32
  | 80 => 5#32
  | 81 => 3#32
  | 82 => 5#32
  | 83 => 3#32
  | 84 => 5#32
  | 85 => 4#32
  | 86 => 3#32
  | 87 => 4#32
  | 88 => 5#32
  | 89 => 5#32
  | 90 => 4#32
  | 91 => 5#32
  | 92 => 5#32
  | 93 => 4#32
  | 94 => 3#32
  | 95 => 4#32
  | 96 => 4#32
  | 97 => 5#32
  | 98 => 5#32
  | 99 => 5#32
  | 100 => 4#32
  | 101 => 5#32
  | 102 => 5#32
  | 103 => 5#32
  | 104 => 5#32
  | 105 => 4#32
  | 106 => 3#32
  | 107 => 4#32
  | 108 => 5#32
  | 109 => 4#32
  | 110 => 5#32
  | 111 => 5#32
  | 112 => 5#32
  | 113 => 4#32
  | 114 => 5#32
  | 115 => 5#32
  | 116 => 4#32
  | 117 => 4#32
  | 118 => 4#32
  | 119 => 3#32
  | 120 => 3#32
  | 121 => 4#32
  | 122 => 4#32
  | 123 => 3#32
  | 124 => 5#32
  | 125 => 4#32
  | 126 => 3#32
  | 127 => 5#32
  | _ => 0#32

noncomputable abbrev lit2t0_14 (i : Nat) : BitVec 32 := match i % 128 with
  | 0 => 4#32
  | 1 => 3#32
  | 2 => 4#32
  | 3 => 4#32
  | 4 => 3#32
  | 5 => 4#32
  | 6 => 5#32
  | 7 => 5#32
  | 8 => 3#32
  | 9 => 5#32
  | 10 => 5#32
  | 11 => 4#32
  | 12 => 4#32
  | 13 => 5#32
  | 14 => 4#32
  | 15 => 4#32
  | 16 => 4#32
  | 17 => 5#32
  | 18 => 4#32
  | 19 => 5#32
  | 20 => 4#32
  | 21 => 4#32
  | 22 => 4#32
  | 23 => 3#32
  | 24 => 4#32
  | 25 => 4#32
  | 26 => 5#32
  | 27 => 3#32
  | 28 => 5#32
  | 29 => 5#32
  | 30 => 3#32
  | 31 => 4#32
  | 32 => 5#32
  | 33 => 5#32
  | 34 => 5#32
  | 35 => 3#32
  | 36 => 4#32
  | 37 => 4#32
  | 38 => 4#32
  | 39 => 4#32
  | 40 => 4#32
  | 41 => 4#32
  | 42 => 3#32
  | 43 => 4#32
  | 44 => 5#32
  | 45 => 4#32
  | 46 => 5#32
  | 47 => 3#32
  | 48 => 3#32
  | 49 => 4#32
  | 50 => 3#32
  | 51 => 3#32
  | 52 => 4#32
  | 53 => 4#32
  | 54 => 4#32
  | 55 => 4#32
  | 56 => 5#32
  | 57 => 3#32
  | 58 => 5#32
  | 59 => 3#32
  | 60 => 5#32
  | 61 => 5#32
  | 62 => 5#32
  | 63 => 5#32
  | 64 => 4#32
  | 65 => 4#32
  | 66 => 3#32
  | 67 => 5#32
  | 68 => 3#32
  | 69 => 3#32
  | 70 => 3#32
  | 71 => 5#32
  | 72 => 5#32
  | 73 => 4#32
  | 74 => 5#32
  | 75 => 4#32
  | 76 => 5#32
  | 77 => 4#32
  | 78 => 5#32
  | 79 => 3#32
  | 80 => 5#32
  | 81 => 3#32
  | 82 => 4#32
  | 83 => 3#32
  | 84 => 5#32
  | 85 => 5#32
  | 86 => 3#32
  | 87 => 5#32
  | 88 => 3#32
  | 89 => 5#32
  | 90 => 4#32
  | 91 => 5#32
  | 92 => 5#32
  | 93 => 3#32
  | 94 => 4#32
  | 95 => 3#32
  | 96 => 5#32
  | 97 => 5#32
  | 98 => 5#32
  | 99 => 4#32
  | 100 => 4#32
  | 101 => 4#32
  | 102 => 3#32
  | 103 => 4#32
  | 104 => 4#32
  | 105 => 4#32
  | 106 => 3#32
  | 107 => 3#32
  | 108 => 3#32
  | 109 => 5#32
  | 110 => 5#32
  | 111 => 3#32
  | 112 => 5#32
  | 113 => 5#32
  | 114 => 3#32
  | 115 => 4#32
  | 116 => 5#32
  | 117 => 4#32
  | 118 => 3#32
  | 119 => 5#32
  | 120 => 5#32
  | 121 => 4#32
  | 122 => 5#32
  | 123 => 3#32
  | 124 => 3#32
  | 125 => 5#32
  | 126 => 3#32
  | 127 => 4#32
  | _ => 0#32

noncomputable abbrev lit2t0_15 (i : Nat) : BitVec 32 := match i % 128 with
  | 0 => 3#32
  | 1 => 5#32
  | 2 => 4#32
  | 3 => 4#32
  | 4 => 5#32
  | 5 => 5#32
  | 6 => 5#32
  | 7 => 4#32
  | 8 => 3#32
  | 9 => 3#32
  | 10 => 3#32
  | 11 => 4#32
  | 12 => 5#32
  | 13 => 3#32
  | 14 => 3#32
  | 15 => 5#32
  | 16 => 4#32
  | 17 => 5#32
  | 18 => 3#32
  | 19 => 5#32
  | 20 => 4#32
  | 21 => 4#32
  | 22 => 5#32
  | 23 => 3#32
  | 24 => 5#32
  | 25 => 4#32
  | 26 => 4#32
  | 27 => 5#32
  | 28 => 3#32
  | 29 => 5#32
  | 30 => 5#32
  | 31 => 4#32
  | 32 => 3#32
  | 33 => 4#32
  | 34 => 3#32
  | 35 => 5#32
  | 36 => 3#32
  | 37 => 5#32
  | 38 => 4#32
  | 39 => 4#32
  | 40 => 4#32
  | 41 => 5#32
  | 42 => 3#32
  | 43 => 5#32
  | 44 => 4#32
  | 45 => 5#32
  | 46 => 5#32
  | 47 => 3#32
  | 48 => 3#32
  | 49 => 3#32
  | 50 => 3#32
  | 51 => 5#32
  | 52 => 4#32
  | 53 => 3#32
  | 54 => 5#32
  | 55 => 3#32
  | 56 => 3#32
  | 57 => 5#32
  | 58 => 5#32
  | 59 => 5#32
  | 60 => 4#32
  | 61 => 4#32
  | 62 => 3#32
  | 63 => 4#32
  | 64 => 3#32
  | 65 => 4#32
  | 66 => 5#32
  | 67 => 3#32
  | 68 => 3#32
  | 69 => 4#32
  | 70 => 4#32
  | 71 => 5#32
  | 72 => 5#32
  | 73 => 3#32
  | 74 => 3#32
  | 75 => 4#32
  | 76 => 3#32
  | 77 => 3#32
  | 78 => 3#32
  | 79 => 4#32
  | 80 => 5#32
  | 81 => 3#32
  | 82 => 4#32
  | 83 => 5#32
  | 84 => 5#32
  | 85 => 4#32
  | 86 => 3#32
  | 87 => 4#32
  | 88 => 4#32
  | 89 => 4#32
  | 90 => 5#32
  | 91 => 5#32
  | 92 => 5#32
  | 93 => 3#32
  | 94 => 4#32
  | 95 => 3#32
  | 96 => 4#32
  | 97 => 3#32
  | 98 => 3#32
  | 99 => 3#32
  | 100 => 4#32
  | 101 => 3#32
  | 102 => 3#32
  | 103 => 3#32
  | 104 => 3#32
  | 105 => 4#32
  | 106 => 3#32
  | 107 => 3#32
  | 108 => 5#32
  | 109 => 3#32
  | 110 => 3#32
  | 111 => 5#32
  | 112 => 5#32
  | 113 => 3#32
  | 114 => 5#32
  | 115 => 3#32
  | 116 => 4#32
  | 117 => 5#32
  | 118 => 4#32
  | 119 => 5#32
  | 120 => 5#32
  | 121 => 5#32
  | 122 => 3#32
  | 123 => 4#32
  | 124 => 3#32
  | 125 => 3#32
  | 126 => 5#32
  | 127 => 5#32
  | _ => 0#32

noncomputable abbrev lit2t0_16 (i : Nat) : BitVec 32 := match i % 128 with
  | 0 => 5#32
  | 1 => 4#32
  | 2 => 4#32
  | 3 => 4#32
  | 4 => 5#32
  | 5 => 3#32
  | 6 => 5#32
  | 7 => 3#32
  | 8 => 3#32
  | 9 => 4#32
  | 10 => 3#32
  | 11 => 4#32
  | 12 => 3#32
  | 13 => 4#32
  | 14 => 3#32
  | 15 => 4#32
  | 16 => 4#32
  | 17 => 5#32
  | 18 => 4#32
  | 19 => 4#32
  | 20 => 4#32
  | 21 => 4#32
  | 22 => 4#32
  | 23 => 3#32
  | 24 => 3#32
  | 25 => 3#32
  | 26 => 4#32
  | 27 => 4#32
  | 28 => 4#32
  | 29 => 5#32
  | 30 => 3#32
  | 31 => 4#32
  | 32 => 5#32
  | 33 => 3#32
  | 34 => 3#32
  | 35 => 3#32
  | 36 => 5#32
  | 37 => 3#32
  | 38 => 4#32
  | 39 => 4#32
  | 40 => 4#32
  | 41 => 5#32
  | 42 => 5#32
  | 43 => 4#32
  | 44 => 4#32
  | 45 => 4#32
  | 46 => 3#32
  | 47 => 4#32
  | 48 => 5#32
  | 49 => 3#32
  | 50 => 3#32
  | 51 => 3#32
  | 52 => 4#32
  | 53 => 4#32
  | 54 => 5#32
  | 55 => 4#32
  | 56 => 3#32
  | 57 => 3#32
  | 58 => 4#32
  | 59 => 5#32
  | 60 => 5#32
  | 61 => 4#32
  | 62 => 5#32
  | 63 => 5#32
  | 64 => 4#32
  | 65 => 3#32
  | 66 => 3#32
  | 67 => 5#32
  | 68 => 4#32
  | 69 => 3#32
  | 70 => 4#32
  | 71 => 5#32
  | 72 => 4#32
  | 73 => 3#32
  | 74 => 3#32
  | 75 => 3#32
  | 76 => 4#32
  | 77 => 5#32
  | 78 => 4#32
  | 79 => 4#32
  | 80 => 5#32
  | 81 => 5#32
  | 82 => 3#32
  | 83 => 5#32
  | 84 => 3#32
  | 85 => 5#32
  | 86 => 3#32
  | 87 => 4#32
  | 88 => 4#32
  | 89 => 5#32
  | 90 => 5#32
  | 91 => 4#32
  | 92 => 4#32
  | 93 => 3#32
  | 94 => 3#32
  | 95 => 5#32
  | 96 => 5#32
  | 97 => 5#32
  | 98 => 3#32
  | 99 => 3#32
  | 100 => 4#32
  | 101 => 5#32
  | 102 => 5#32
  | 103 => 4#32
  | 104 => 4#32
  | 105 => 5#32
  | 106 => 5#32
  | 107 => 3#32
  | 108 => 4#32
  | 109 => 3#32
  | 110 => 5#32
  | 111 => 5#32
  | 112 => 3#32
  | 113 => 4#32
  | 114 => 3#32
  | 115 => 3#32
  | 116 => 3#32
  | 117 => 4#32
  | 118 => 4#32
  | 119 => 5#32
  | 120 => 5#32
  | 121 => 4#32
  | 122 => 3#32
  | 123 => 4#32
  | 124 => 3#32
  | 125 => 4#32
  | 126 => 4#32
  | 127 => 5#32
  | _ => 0#32

noncomputable abbrev lit2t0_17 (i : Nat) : BitVec 32 := match i % 128 with
  | 0 => 5#32
  | 1 => 4#32
  | 2 => 3#32
  | 3 => 5#32
  | 4 => 5#32
  | 5 => 3#32
  | 6 => 5#32
  | 7 => 5#32
  | 8 => 4#32
  | 9 => 3#32
  | 10 => 3#32
  | 11 => 5#32
  | 12 => 4#32
  | 13 => 3#32
  | 14 => 3#32
  | 15 => 3#32
  | 16 => 5#32
  | 17 => 3#32
  | 18 => 4#32
  | 19 => 5#32
  | 20 => 4#32
  | 21 => 3#32
  | 22 => 3#32
  | 23 => 4#32
  | 24 => 5#32
  | 25 => 3#32
  | 26 => 5#32
  | 27 => 4#32
  | 28 => 5#32
  | 29 => 3#32
  | 30 => 5#32
  | 31 => 3#32
  | 32 => 4#32
  | 33 => 5#32
  | 34 => 4#32
  | 35 => 3#32
  | 36 => 5#32
  | 37 => 3#32
  | 38 => 4#32
  | 39 => 4#32
  | 40 => 5#32
  | 41 => 3#32
  | 42 => 3#32
  | 43 => 3#32
  | 44 => 3#32
  | 45 => 5#32
  | 46 => 4#32
  | 47 => 4#32
  | 48 => 3#32
  | 49 => 5#32
  | 50 => 4#32
  | 51 => 5#32
  | 52 => 4#32
  | 53 => 3#32
  | 54 => 3#32
  | 55 => 3#32
  | 56 => 3#32
  | 57 => 3#32
  | 58 => 4#32
  | 59 => 4#32
  | 60 => 5#32
  | 61 => 4#32
  | 62 => 3#32
  | 63 => 5#32
  | 64 => 5#32
  | 65 => 4#32
  | 66 => 5#32
  | 67 => 4#32
  | 68 => 5#32
  | 69 => 4#32
  | 70 => 3#32
  | 71 => 5#32
  | 72 => 4#32
  | 73 => 5#32
  | 74 => 4#32
  | 75 => 5#32
  | 76 => 5#32
  | 77 => 5#32
  | 78 => 5#32
  | 79 => 4#32
  | 80 => 4#32
  | 81 => 3#32
  | 82 => 5#32
  | 83 => 5#32
  | 84 => 4#32
  | 85 => 4#32
  | 86 => 4#32
  | 87 => 5#32
  | 88 => 5#32
  | 89 => 5#32
  | 90 => 3#32
  | 91 => 5#32
  | 92 => 5#32
  | 93 => 5#32
  | 94 => 4#32
  | 95 => 3#32
  | 96 => 3#32
  | 97 => 4#32
  | 98 => 3#32
  | 99 => 3#32
  | 100 => 5#32
  | 101 => 5#32
  | 102 => 3#32
  | 103 => 5#32
  | 104 => 4#32
  | 105 => 3#32
  | 106 => 4#32
  | 107 => 3#32
  | 108 => 4#32
  | 109 => 5#32
  | 110 => 5#32
  | 111 => 5#32
  | 112 => 3#32
  | 113 => 5#32
  | 114 => 3#32
  | 115 => 5#32
  | 116 => 5#32
  | 117 => 4#32
  | 118 => 3#32
  | 119 => 4#32
  | 120 => 3#32
  | 121 => 3#32
  | 122 => 5#32
  | 123 => 5#32
  | 124 => 3#32
  | 125 => 4#32
  | 126 => 5#32
  | 127 => 3#32
  | _ => 0#32

noncomputable abbrev lit2t0_18 (i : Nat) : BitVec 32 := match i % 128 with
  | 0 => 5#32
  | 1 => 4#32
  | 2 => 4#32
  | 3 => 4#32
  | 4 => 4#32
  | 5 => 4#32
  | 6 => 3#32
  | 7 => 3#32
  | 8 => 5#32
  | 9 => 3#32
  | 10 => 5#32
  | 11 => 4#32
  | 12 => 3#32
  | 13 => 4#32
  | 14 => 4#32
  | 15 => 3#32
  | 16 => 5#32
  | 17 => 4#32
  | 18 => 5#32
  | 19 => 5#32
  | 20 => 3#32
  | 21 => 3#32
  | 22 => 4#32
  | 23 => 4#32
  | 24 => 3#32
  | 25 => 5#32
  | 26 => 4#32
  | 27 => 5#32
  | 28 => 5#32
  | 29 => 3#32
  | 30 => 5#32
  | 31 => 5#32
  | 32 => 4#32
  | 33 => 4#32
  | 34 => 4#32
  | 35 => 5#32
  | 36 => 3#32
  | 37 => 4#32
  | 38 => 3#32
  | 39 => 5#32
  | 40 => 4#32
  | 41 => 5#32
  | 42 => 4#32
  | 43 => 5#32
  | 44 => 5#32
  | 45 => 5#32
  | 46 => 5#32
  | 47 => 3#32
  | 48 => 3#32
  | 49 => 5#32
  | 50 => 5#32
  | 51 => 3#32
  | 52 => 3#32
  | 53 => 3#32
  | 54 => 3#32
  | 55 => 4#32
  | 56 => 5#32
  | 57 => 5#32
  | 58 => 3#32
  | 59 => 3#32
  | 60 => 5#32
  | 61 => 3#32
  | 62 => 5#32
  | 63 => 4#32
  | 64 => 5#32
  | 65 => 5#32
  | 66 => 5#32
  | 67 => 3#32
  | 68 => 3#32
  | 69 => 5#32
  | 70 => 4#32
  | 71 => 4#32
  | 72 => 5#32
  | 73 => 4#32
  | 74 => 3#32
  | 75 => 5#32
  | 76 => 5#32
  | 77 => 3#32
  | 78 => 5#32
  | 79 => 4#32
  | 80 => 5#32
  | 81 => 3#32
  | 82 => 3#32
  | 83 => 5#32
  | 84 => 3#32
  | 85 => 5#32
  | 86 => 3#32
  | 87 => 3#32
  | 88 => 4#32
  | 89 => 5#32
  | 90 => 5#32
  | 91 => 3#32
  | 92 => 5#32
  | 93 => 4#32
  | 94 => 4#32
  | 95 => 3#32
  | 96 => 4#32
  | 97 => 3#32
  | 98 => 3#32
  | 99 => 4#32
  | 100 => 3#32
  | 101 => 5#32
  | 102 => 5#32
  | 103 => 3#32
  | 104 => 4#32
  | 105 => 4#32
  | 106 => 4#32
  | 107 => 4#32
  | 108 => 5#32
  | 109 => 5#32
  | 110 => 4#32
  | 111 => 3#32
  | 112 => 5#32
  | 113 => 3#32
  | 114 => 4#32
  | 115 => 3#32
  | 116 => 3#32
  | 117 => 4#32
  | 118 => 4#32
  | 119 => 5#32
  | 120 => 4#32
  | 121 => 4#32
  | 122 => 4#32
  | 123 => 4#32
  | 124 => 4#32
  | 125 => 3#32
  | 126 => 4#32
  | 127 => 4#32
  | _ => 0#32

noncomputable abbrev lit2t0_19 (i : Nat) : BitVec 32 := match i % 128 with
  | 0 => 5#32
  | 1 => 3#32
  | 2 => 4#32
  | 3 => 4#32
  | 4 => 4#32
  | 5 => 5#32
  | 6 => 3#32
  | 7 => 3#32
  | 8 => 5#32
  | 9 => 3#32
  | 10 => 4#32
  | 11 => 3#32
  | 12 => 3#32
  | 13 => 4#32
  | 14 => 4#32
  | 15 => 3#32
  | 16 => 4#32
  | 17 => 5#32
  | 18 => 4#32
  | 19 => 5#32
  | 20 => 5#32
  | 21 => 4#32
  | 22 => 4#32
  | 23 => 5#32
  | 24 => 4#32
  | 25 => 3#32
  | 26 => 4#32
  | 27 => 4#32
  | 28 => 4#32
  | 29 => 4#32
  | 30 => 3#32
  | 31 => 3#32
  | 32 => 4#32
  | 33 => 4#32
  | 34 => 3#32
  | 35 => 4#32
  | 36 => 3#32
  | 37 => 5#32
  | 38 => 5#32
  | 39 => 5#32
  | 40 => 5#32
  | 41 => 4#32
  | 42 => 3#32
  | 43 => 3#32
  | 44 => 3#32
  | 45 => 3#32
  | 46 => 5#32
  | 47 => 3#32
  | 48 => 5#32
  | 49 => 4#32
  | 50 => 4#32
  | 51 => 4#32
  | 52 => 4#32
  | 53 => 4#32
  | 54 => 5#32
  | 55 => 4#32
  | 56 => 3#32
  | 57 => 4#32
  | 58 => 5#32
  | 59 => 4#32
  | 60 => 3#32
  | 61 => 3#32
  | 62 => 3#32
  | 63 => 5#32
  | 64 => 5#32
  | 65 => 3#32
  | 66 => 5#32
  | 67 => 3#32
  | 68 => 4#32
  | 69 => 3#32
  | 70 => 4#32
  | 71 => 3#32
  | 72 => 3#32
  | 73 => 5#32
  | 74 => 5#32
  | 75 => 3#32
  | 76 => 5#32
  | 77 => 4#32
  | 78 => 3#32
  | 79 => 3#32
  | 80 => 4#32
  | 81 => 5#32
  | 82 => 4#32
  | 83 => 3#32
  | 84 => 3#32
  | 85 => 5#32
  | 86 => 4#32
  | 87 => 5#32
  | 88 => 5#32
  | 89 => 5#32
  | 90 => 5#32
  | 91 => 3#32
  | 92 => 5#32
  | 93 => 4#32
  | 94 => 3#32
  | 95 => 5#32
  | 96 => 3#32
  | 97 => 5#32
  | 98 => 5#32
  | 99 => 5#32
  | 100 => 5#32
  | 101 => 4#32
  | 102 => 3#32
  | 103 => 4#32
  | 104 => 4#32
  | 105 => 4#32
  | 106 => 5#32
  | 107 => 3#32
  | 108 => 5#32
  | 109 => 5#32
  | 110 => 4#32
  | 111 => 3#32
  | 112 => 5#32
  | 113 => 5#32
  | 114 => 3#32
  | 115 => 3#32
  | 116 => 3#32
  | 117 => 4#32
  | 118 => 4#32
  | 119 => 4#32
  | 120 => 4#32
  | 121 => 3#32
  | 122 => 5#32
  | 123 => 4#32
  | 124 => 3#32
  | 125 => 5#32
  | 126 => 4#32
  | 127 => 4#32
  | _ => 0#32

noncomputable abbrev lit2t0_20 (i : Nat) : BitVec 32 := match i % 128 with
  | 0 => 5#32
  | 1 => 5#32
  | 2 => 5#32
  | 3 => 5#32
  | 4 => 5#32
  | 5 => 3#32
  | 6 => 5#32
  | 7 => 5#32
  | 8 => 5#32
  | 9 => 3#32
  | 10 => 3#32
  | 11 => 4#32
  | 12 => 5#32
  | 13 => 3#32
  | 14 => 5#32
  | 15 => 5#32
  | 16 => 3#32
  | 17 => 4#32
  | 18 => 4#32
  | 19 => 4#32
  | 20 => 5#32
  | 21 => 4#32
  | 22 => 3#32
  | 23 => 3#32
  | 24 => 3#32
  | 25 => 3#32
  | 26 => 5#32
  | 27 => 5#32
  | 28 => 4#32
  | 29 => 3#32
  | 30 => 5#32
  | 31 => 3#32
  | 32 => 5#32
  | 33 => 4#32
  | 34 => 4#32
  | 35 => 5#32
  | 36 => 3#32
  | 37 => 5#32
  | 38 => 3#32
  | 39 => 5#32
  | 40 => 4#32
  | 41 => 5#32
  | 42 => 3#32
  | 43 => 4#32
  | 44 => 5#32
  | 45 => 4#32
  | 46 => 3#32
  | 47 => 5#32
  | 48 => 4#32
  | 49 => 3#32
  | 50 => 5#32
  | 51 => 3#32
  | 52 => 4#32
  | 53 => 4#32
  | 54 => 4#32
  | 55 => 3#32
  | 56 => 3#32
  | 57 => 3#32
  | 58 => 5#32
  | 59 => 4#32
  | 60 => 5#32
  | 61 => 4#32
  | 62 => 5#32
  | 63 => 5#32
  | 64 => 4#32
  | 65 => 4#32
  | 66 => 3#32
  | 67 => 4#32
  | 68 => 4#32
  | 69 => 4#32
  | 70 => 3#32
  | 71 => 3#32
  | 72 => 4#32
  | 73 => 4#32
  | 74 => 4#32
  | 75 => 4#32
  | 76 => 4#32
  | 77 => 3#32
  | 78 => 4#32
  | 79 => 3#32
  | 80 => 5#32
  | 81 => 3#32
  | 82 => 3#32
  | 83 => 3#32
  | 84 => 5#32
  | 85 => 3#32
  | 86 => 5#32
  | 87 => 3#32
  | 88 => 5#32
  | 89 => 3#32
  | 90 => 3#32
  | 91 => 4#32
  | 92 => 5#32
  | 93 => 3#32
  | 94 => 5#32
  | 95 => 3#32
  | 96 => 3#32
  | 97 => 3#32
  | 98 => 3#32
  | 99 => 5#32
  | 100 => 4#32
  | 101 => 3#32
  | 102 => 5#32
  | 103 => 3#32
  | 104 => 3#32
  | 105 => 4#32
  | 106 => 5#32
  | 107 => 4#32
  | 108 => 3#32
  | 109 => 4#32
  | 110 => 5#32
  | 111 => 5#32
  | 112 => 3#32
  | 113 => 5#32
  | 114 => 4#32
  | 115 => 4#32
  | 116 => 5#32
  | 117 => 4#32
  | 118 => 4#32
  | 119 => 4#32
  | 120 => 3#32
  | 121 => 3#32
  | 122 => 4#32
  | 123 => 3#32
  | 124 => 5#32
  | 125 => 4#32
  | 126 => 4#32
  | 127 => 5#32
  | _ => 0#32

noncomputable abbrev lit2t0_21 (i : Nat) : BitVec 32 := match i % 128 with
  | 0 => 3#32
  | 1 => 3#32
  | 2 => 5#32
  | 3 => 3#32
  | 4 => 5#32
  | 5 => 5#32
  | 6 => 3#32
  | 7 => 3#32
  | 8 => 5#32
  | 9 => 4#32
  | 10 => 3#32
  | 11 => 3#32
  | 12 => 3#32
  | 13 => 4#32
  | 14 => 5#32
  | 15 => 3#32
  | 16 => 4#32
  | 17 => 3#32
  | 18 => 5#32
  | 19 => 4#32
  | 20 => 3#32
  | 21 => 4#32
  | 22 => 5#32
  | 23 => 3#32
  | 24 => 3#32
  | 25 => 4#32
  | 26 => 3#32
  | 27 => 5#32
  | 28 => 4#32
  | 29 => 5#32
  | 30 => 4#32
  | 31 => 4#32
  | 32 => 3#32
  | 33 => 4#32
  | 34 => 4#32
  | 35 => 5#32
  | 36 => 5#32
  | 37 => 3#32
  | 38 => 5#32
  | 39 => 3#32
  | 40 => 4#32
  | 41 => 5#32
  | 42 => 4#32
  | 43 => 5#32
  | 44 => 4#32
  | 45 => 5#32
  | 46 => 4#32
  | 47 => 4#32
  | 48 => 4#32
  | 49 => 3#32
  | 50 => 3#32
  | 51 => 5#32
  | 52 => 5#32
  | 53 => 5#32
  | 54 => 4#32
  | 55 => 5#32
  | 56 => 3#32
  | 57 => 3#32
  | 58 => 3#32
  | 59 => 5#32
  | 60 => 3#32
  | 61 => 4#32
  | 62 => 4#32
  | 63 => 4#32
  | 64 => 4#32
  | 65 => 5#32
  | 66 => 5#32
  | 67 => 3#32
  | 68 => 3#32
  | 69 => 5#32
  | 70 => 5#32
  | 71 => 3#32
  | 72 => 3#32
  | 73 => 3#32
  | 74 => 3#32
  | 75 => 4#32
  | 76 => 4#32
  | 77 => 5#32
  | 78 => 3#32
  | 79 => 5#32
  | 80 => 3#32
  | 81 => 5#32
  | 82 => 4#32
  | 83 => 5#32
  | 84 => 3#32
  | 85 => 4#32
  | 86 => 4#32
  | 87 => 4#32
  | 88 => 3#32
  | 89 => 4#32
  | 90 => 5#32
  | 91 => 5#32
  | 92 => 4#32
  | 93 => 5#32
  | 94 => 3#32
  | 95 => 4#32
  | 96 => 5#32
  | 97 => 5#32
  | 98 => 5#32
  | 99 => 4#32
  | 100 => 3#32
  | 101 => 5#32
  | 102 => 5#32
  | 103 => 5#32
  | 104 => 5#32
  | 105 => 3#32
  | 106 => 5#32
  | 107 => 5#32
  | 108 => 5#32
  | 109 => 5#32
  | 110 => 5#32
  | 111 => 5#32
  | 112 => 4#32
  | 113 => 5#32
  | 114 => 5#32
  | 115 => 3#32
  | 116 => 4#32
  | 117 => 4#32
  | 118 => 3#32
  | 119 => 4#32
  | 120 => 5#32
  | 121 => 5#32
  | 122 => 3#32
  | 123 => 3#32
  | 124 => 3#32
  | 125 => 4#32
  | 126 => 5#32
  | 127 => 5#32
  | _ => 0#32

noncomputable abbrev lit2t0_22 (i : Nat) : BitVec 32 := match i % 128 with
  | 0 => 5#32
  | 1 => 3#32
  | 2 => 4#32
  | 3 => 5#32
  | 4 => 3#32
  | 5 => 4#32
  | 6 => 5#32
  | 7 => 5#32
  | 8 => 3#32
  | 9 => 5#32
  | 10 => 3#32
  | 11 => 5#32
  | 12 => 3#32
  | 13 => 3#32
  | 14 => 3#32
  | 15 => 5#32
  | 16 => 4#32
  | 17 => 5#32
  | 18 => 3#32
  | 19 => 5#32
  | 20 => 5#32
  | 21 => 4#32
  | 22 => 4#32
  | 23 => 4#32
  | 24 => 4#32
  | 25 => 4#32
  | 26 => 5#32
  | 27 => 3#32
  | 28 => 5#32
  | 29 => 5#32
  | 30 => 5#32
  | 31 => 5#32
  | 32 => 5#32
  | 33 => 4#32
  | 34 => 4#32
  | 35 => 5#32
  | 36 => 3#32
  | 37 => 5#32
  | 38 => 5#32
  | 39 => 3#32
  | 40 => 4#32
  | 41 => 5#32
  | 42 => 3#32
  | 43 => 3#32
  | 44 => 5#32
  | 45 => 3#32
  | 46 => 5#32
  | 47 => 3#32
  | 48 => 4#32
  | 49 => 5#32
  | 50 => 5#32
  | 51 => 3#32
  | 52 => 4#32
  | 53 => 3#32
  | 54 => 3#32
  | 55 => 4#32
  | 56 => 4#32
  | 57 => 5#32
  | 58 => 5#32
  | 59 => 3#32
  | 60 => 5#32
  | 61 => 5#32
  | 62 => 3#32
  | 63 => 3#32
  | 64 => 5#32
  | 65 => 5#32
  | 66 => 3#32
  | 67 => 3#32
  | 68 => 3#32
  | 69 => 3#32
  | 70 => 5#32
  | 71 => 5#32
  | 72 => 5#32
  | 73 => 4#32
  | 74 => 4#32
  | 75 => 3#32
  | 76 => 4#32
  | 77 => 3#32
  | 78 => 5#32
  | 79 => 4#32
  | 80 => 4#32
  | 81 => 4#32
  | 82 => 5#32
  | 83 => 4#32
  | 84 => 5#32
  | 85 => 5#32
  | 86 => 5#32
  | 87 => 3#32
  | 88 => 4#32
  | 89 => 3#32
  | 90 => 3#32
  | 91 => 3#32
  | 92 => 4#32
  | 93 => 5#32
  | 94 => 5#32
  | 95 => 4#32
  | 96 => 5#32
  | 97 => 5#32
  | 98 => 3#32
  | 99 => 3#32
  | 100 => 4#32
  | 101 => 3#32
  | 102 => 4#32
  | 103 => 3#32
  | 104 => 3#32
  | 105 => 3#32
  | 106 => 4#32
  | 107 => 5#32
  | 108 => 4#32
  | 109 => 5#32
  | 110 => 3#32
  | 111 => 3#32
  | 112 => 3#32
  | 113 => 3#32
  | 114 => 4#32
  | 115 => 5#32
  | 116 => 4#32
  | 117 => 4#32
  | 118 => 3#32
  | 119 => 5#32
  | 120 => 5#32
  | 121 => 4#32
  | 122 => 4#32
  | 123 => 4#32
  | 124 => 3#32
  | 125 => 3#32
  | 126 => 5#32
  | 127 => 5#32
  | _ => 0#32

noncomputable abbrev lit2t0_23 (i : Nat) : BitVec 32 := match i % 128 with
  | 0 => 5#32
  | 1 => 3#32
  | 2 => 4#32
  | 3 => 4#32
  | 4 => 5#32
  | 5 => 4#32
  | 6 => 5#32
  | 7 => 5#32
  | 8 => 3#32
  | 9 => 5#32
  | 10 => 4#32
  | 11 => 3#32
  | 12 => 5#32
  | 13 => 5#32
  | 14 => 5#32
  | 15 => 5#32
  | 16 => 4#32
  | 17 => 4#32
  | 18 => 5#32
  | 19 => 4#32
  | 20 => 5#32
  | 21 => 4#32
  | 22 => 3#32
  | 23 => 3#32
  | 24 => 5#32
  | 25 => 3#32
  | 26 => 3#32
  | 27 => 5#32
  | 28 => 4#32
  | 29 => 4#32
  | 30 => 5#32
  | 31 => 3#32
  | 32 => 5#32
  | 33 => 4#32
  | 34 => 4#32
  | 35 => 4#32
  | 36 => 4#32
  | 37 => 5#32
  | 38 => 5#32
  | 39 => 4#32
  | 40 => 3#32
  | 41 => 3#32
  | 42 => 4#32
  | 43 => 5#32
  | 44 => 3#32
  | 45 => 3#32
  | 46 => 3#32
  | 47 => 5#32
  | 48 => 5#32
  | 49 => 5#32
  | 50 => 5#32
  | 51 => 5#32
  | 52 => 4#32
  | 53 => 5#32
  | 54 => 3#32
  | 55 => 4#32
  | 56 => 3#32
  | 57 => 3#32
  | 58 => 4#32
  | 59 => 4#32
  | 60 => 5#32
  | 61 => 3#32
  | 62 => 3#32
  | 63 => 3#32
  | 64 => 4#32
  | 65 => 3#32
  | 66 => 5#32
  | 67 => 4#32
  | 68 => 3#32
  | 69 => 5#32
  | 70 => 4#32
  | 71 => 3#32
  | 72 => 5#32
  | 73 => 3#32
  | 74 => 3#32
  | 75 => 4#32
  | 76 => 3#32
  | 77 => 5#32
  | 78 => 3#32
  | 79 => 4#32
  | 80 => 5#32
  | 81 => 4#32
  | 82 => 4#32
  | 83 => 5#32
  | 84 => 5#32
  | 85 => 5#32
  | 86 => 4#32
  | 87 => 5#32
  | 88 => 3#32
  | 89 => 5#32
  | 90 => 3#32
  | 91 => 4#32
  | 92 => 4#32
  | 93 => 4#32
  | 94 => 4#32
  | 95 => 5#32
  | 96 => 5#32
  | 97 => 4#32
  | 98 => 4#32
  | 99 => 4#32
  | 100 => 5#32
  | 101 => 3#32
  | 102 => 5#32
  | 103 => 3#32
  | 104 => 4#32
  | 105 => 5#32
  | 106 => 5#32
  | 107 => 5#32
  | 108 => 4#32
  | 109 => 3#32
  | 110 => 4#32
  | 111 => 3#32
  | 112 => 3#32
  | 113 => 5#32
  | 114 => 5#32
  | 115 => 3#32
  | 116 => 5#32
  | 117 => 4#32
  | 118 => 4#32
  | 119 => 3#32
  | 120 => 5#32
  | 121 => 4#32
  | 122 => 4#32
  | 123 => 3#32
  | 124 => 5#32
  | 125 => 3#32
  | 126 => 3#32
  | 127 => 5#32
  | _ => 0#32

noncomputable abbrev lit2t0_24 (i : Nat) : BitVec 32 := match i % 128 with
  | 0 => 5#32
  | 1 => 3#32
  | 2 => 4#32
  | 3 => 5#32
  | 4 => 3#32
  | 5 => 3#32
  | 6 => 4#32
  | 7 => 5#32
  | 8 => 3#32
  | 9 => 3#32
  | 10 => 3#32
  | 11 => 3#32
  | 12 => 3#32
  | 13 => 5#32
  | 14 => 4#32
  | 15 => 3#32
  | 16 => 3#32
  | 17 => 5#32
  | 18 => 5#32
  | 19 => 3#32
  | 20 => 5#32
  | 21 => 4#32
  | 22 => 5#32
  | 23 => 5#32
  | 24 => 4#32
  | 25 => 3#32
  | 26 => 5#32
  | 27 => 4#32
  | 28 => 4#32
  | 29 => 4#32
  | 30 => 4#32
  | 31 => 4#32
  | 32 => 4#32
  | 33 => 4#32
  | 34 => 3#32
  | 35 => 3#32
  | 36 => 3#32
  | 37 => 5#32
  | 38 => 4#32
  | 39 => 3#32
  | 40 => 3#32
  | 41 => 5#32
  | 42 => 5#32
  | 43 => 3#32
  | 44 => 5#32
  | 45 => 3#32
  | 46 => 5#32
  | 47 => 5#32
  | 48 => 3#32
  | 49 => 5#32
  | 50 => 5#32
  | 51 => 4#32
  | 52 => 5#32
  | 53 => 3#32
  | 54 => 5#32
  | 55 => 3#32
  | 56 => 4#32
  | 57 => 3#32
  | 58 => 5#32
  | 59 => 5#32
  | 60 => 3#32
  | 61 => 4#32
  | 62 => 3#32
  | 63 => 5#32
  | 64 => 5#32
  | 65 => 5#32
  | 66 => 4#32
  | 67 => 4#32
  | 68 => 5#32
  | 69 => 5#32
  | 70 => 5#32
  | 71 => 5#32
  | 72 => 4#32
  | 73 => 4#32
  | 74 => 4#32
  | 75 => 4#32
  | 76 => 4#32
  | 77 => 4#32
  | 78 => 3#32
  | 79 => 3#32
  | 80 => 3#32
  | 81 => 3#32
  | 82 => 4#32
  | 83 => 4#32
  | 84 => 3#32
  | 85 => 4#32
  | 86 => 4#32
  | 87 => 3#32
  | 88 => 5#32
  | 89 => 3#32
  | 90 => 3#32
  | 91 => 5#32
  | 92 => 4#32
  | 93 => 4#32
  | 94 => 4#32
  | 95 => 4#32
  | 96 => 3#32
  | 97 => 5#32
  | 98 => 4#32
  | 99 => 4#32
  | 100 => 5#32
  | 101 => 5#32
  | 102 => 3#32
  | 103 => 3#32
  | 104 => 5#32
  | 105 => 3#32
  | 106 => 4#32
  | 107 => 3#32
  | 108 => 5#32
  | 109 => 5#32
  | 110 => 5#32
  | 111 => 5#32
  | 112 => 4#32
  | 113 => 3#32
  | 114 => 3#32
  | 115 => 5#32
  | 116 => 4#32
  | 117 => 5#32
  | 118 => 4#32
  | 119 => 4#32
  | 120 => 3#32
  | 121 => 4#32
  | 122 => 4#32
  | 123 => 5#32
  | 124 => 4#32
  | 125 => 5#32
  | 126 => 3#32
  | 127 => 3#32
  | _ => 0#32

noncomputable abbrev lit2t0_25 (i : Nat) : BitVec 32 := match i % 128 with
  | 0 => 4#32
  | 1 => 4#32
  | 2 => 5#32
  | 3 => 5#32
  | 4 => 4#32
  | 5 => 4#32
  | 6 => 4#32
  | 7 => 4#32
  | 8 => 3#32
  | 9 => 5#32
  | 10 => 5#32
  | 11 => 4#32
  | 12 => 4#32
  | 13 => 4#32
  | 14 => 4#32
  | 15 => 3#32
  | 16 => 4#32
  | 17 => 5#32
  | 18 => 3#32
  | 19 => 5#32
  | 20 => 4#32
  | 21 => 5#32
  | 22 => 5#32
  | 23 => 5#32
  | 24 => 4#32
  | 25 => 4#32
  | 26 => 4#32
  | 27 => 5#32
  | 28 => 5#32
  | 29 => 4#32
  | 30 => 5#32
  | 31 => 3#32
  | 32 => 3#32
  | 33 => 3#32
  | 34 => 4#32
  | 35 => 4#32
  | 36 => 5#32
  | 37 => 5#32
  | 38 => 3#32
  | 39 => 4#32
  | 40 => 5#32
  | 41 => 3#32
  | 42 => 4#32
  | 43 => 3#32
  | 44 => 3#32
  | 45 => 4#32
  | 46 => 5#32
  | 47 => 3#32
  | 48 => 4#32
  | 49 => 4#32
  | 50 => 5#32
  | 51 => 3#32
  | 52 => 4#32
  | 53 => 4#32
  | 54 => 4#32
  | 55 => 3#32
  | 56 => 3#32
  | 57 => 4#32
  | 58 => 3#32
  | 59 => 4#32
  | 60 => 4#32
  | 61 => 4#32
  | 62 => 3#32
  | 63 => 3#32
  | 64 => 3#32
  | 65 => 5#32
  | 66 => 3#32
  | 67 => 5#32
  | 68 => 5#32
  | 69 => 3#32
  | 70 => 5#32
  | 71 => 3#32
  | 72 => 3#32
  | 73 => 3#32
  | 74 => 3#32
  | 75 => 4#32
  | 76 => 3#32
  | 77 => 3#32
  | 78 => 4#32
  | 79 => 3#32
  | 80 => 3#32
  | 81 => 4#32
  | 82 => 4#32
  | 83 => 3#32
  | 84 => 3#32
  | 85 => 3#32
  | 86 => 4#32
  | 87 => 5#32
  | 88 => 4#32
  | 89 => 3#32
  | 90 => 3#32
  | 91 => 3#32
  | 92 => 4#32
  | 93 => 5#32
  | 94 => 3#32
  | 95 => 5#32
  | 96 => 4#32
  | 97 => 4#32
  | 98 => 4#32
  | 99 => 5#32
  | 100 => 4#32
  | 101 => 3#32
  | 102 => 4#32
  | 103 => 4#32
  | 104 => 3#32
  | 105 => 3#32
  | 106 => 5#32
  | 107 => 4#32
  | 108 => 4#32
  | 109 => 3#32
  | 110 => 5#32
  | 111 => 5#32
  | 112 => 5#32
  | 113 => 3#32
  | 114 => 3#32
  | 115 => 5#32
  | 116 => 5#32
  | 117 => 5#32
  | 118 => 3#32
  | 119 => 5#32
  | 120 => 3#32
  | 121 => 5#32
  | 122 => 5#32
  | 123 => 3#32
  | 124 => 4#32
  | 125 => 3#32
  | 126 => 4#32
  | 127 => 5#32
  | _ => 0#32

noncomputable abbrev lit2t0_26 (i : Nat) : BitVec 32 := match i % 128 with
  | 0 => 4#32
  | 1 => 4#32
  | 2 => 5#32
  | 3 => 3#32
  | 4 => 4#32
  | 5 => 5#32
  | 6 => 4#32
  | 7 => 3#32
  | 8 => 4#32
  | 9 => 5#32
  | 10 => 5#32
  | 11 => 5#32
  | 12 => 3#32
  | 13 => 4#32
  | 14 => 5#32
  | 15 => 5#32
  | 16 => 4#32
  | 17 => 4#32
  | 18 => 3#32
  | 19 => 3#32
  | 20 => 5#32
  | 21 => 5#32
  | 22 => 3#32
  | 23 => 4#32
  | 24 => 5#32
  | 25 => 3#32
  | 26 => 3#32
  | 27 => 4#32
  | 28 => 5#32
  | 29 => 3#32
  | 30 => 3#32
  | 31 => 3#32
  | 32 => 5#32
  | 33 => 4#32
  | 34 => 3#32
  | 35 => 4#32
  | 36 => 4#32
  | 37 => 4#32
  | 38 => 3#32
  | 39 => 3#32
  | 40 => 5#32
  | 41 => 5#32
  | 42 => 5#32
  | 43 => 3#32
  | 44 => 3#32
  | 45 => 3#32
  | 46 => 5#32
  | 47 => 4#32
  | 48 => 4#32
  | 49 => 5#32
  | 50 => 4#32
  | 51 => 3#32
  | 52 => 3#32
  | 53 => 5#32
  | 54 => 4#32
  | 55 => 3#32
  | 56 => 5#32
  | 57 => 3#32
  | 58 => 5#32
  | 59 => 5#32
  | 60 => 3#32
  | 61 => 4#32
  | 62 => 3#32
  | 63 => 4#32
  | 64 => 5#32
  | 65 => 5#32
  | 66 => 4#32
  | 67 => 4#32
  | 68 => 4#32
  | 69 => 5#32
  | 70 => 3#32
  | 71 => 3#32
  | 72 => 3#32
  | 73 => 4#32
  | 74 => 3#32
  | 75 => 3#32
  | 76 => 4#32
  | 77 => 3#32
  | 78 => 4#32
  | 79 => 4#32
  | 80 => 5#32
  | 81 => 4#32
  | 82 => 5#32
  | 83 => 4#32
  | 84 => 4#32
  | 85 => 3#32
  | 86 => 5#32
  | 87 => 4#32
  | 88 => 3#32
  | 89 => 3#32
  | 90 => 3#32
  | 91 => 5#32
  | 92 => 4#32
  | 93 => 4#32
  | 94 => 4#32
  | 95 => 5#32
  | 96 => 4#32
  | 97 => 5#32
  | 98 => 5#32
  | 99 => 3#32
  | 100 => 3#32
  | 101 => 4#32
  | 102 => 4#32
  | 103 => 5#32
  | 104 => 5#32
  | 105 => 4#32
  | 106 => 3#32
  | 107 => 3#32
  | 108 => 4#32
  | 109 => 5#32
  | 110 => 4#32
  | 111 => 5#32
  | 112 => 5#32
  | 113 => 5#32
  | 114 => 5#32
  | 115 => 4#32
  | 116 => 5#32
  | 117 => 5#32
  | 118 => 4#32
  | 119 => 4#32
  | 120 => 4#32
  | 121 => 4#32
  | 122 => 3#32
  | 123 => 5#32
  | 124 => 4#32
  | 125 => 3#32
  | 126 => 3#32
  | 127 => 5#32
  | _ => 0#32

noncomputable abbrev lit2t0_27 (i : Nat) : BitVec 32 := match i % 128 with
  | 0 => 5#32
  | 1 => 3#32
  | 2 => 4#32
  | 3 => 4#32
  | 4 => 5#32
  | 5 => 5#32
  | 6 => 3#32
  | 7 => 3#32
  | 8 => 5#32
  | 9 => 4#32
  | 10 => 3#32
  | 11 => 4#32
  | 12 => 5#32
  | 13 => 3#32
  | 14 => 5#32
  | 15 => 5#32
  | 16 => 5#32
  | 17 => 3#32
  | 18 => 5#32
  | 19 => 4#32
  | 20 => 3#32
  | 21 => 4#32
  | 22 => 5#32
  | 23 => 3#32
  | 24 => 4#32
  | 25 => 3#32
  | 26 => 3#32
  | 27 => 5#32
  | 28 => 3#32
  | 29 => 3#32
  | 30 => 4#32
  | 31 => 4#32
  | 32 => 3#32
  | 33 => 5#32
  | 34 => 5#32
  | 35 => 5#32
  | 36 => 4#32
  | 37 => 4#32
  | 38 => 5#32
  | 39 => 3#32
  | 40 => 5#32
  | 41 => 3#32
  | 42 => 5#32
  | 43 => 5#32
  | 44 => 3#32
  | 45 => 4#32
  | 46 => 4#32
  | 47 => 5#32
  | 48 => 5#32
  | 49 => 4#32
  | 50 => 3#32
  | 51 => 5#32
  | 52 => 5#32
  | 53 => 4#32
  | 54 => 4#32
  | 55 => 3#32
  | 56 => 5#32
  | 57 => 4#32
  | 58 => 5#32
  | 59 => 5#32
  | 60 => 5#32
  | 61 => 3#32
  | 62 => 5#32
  | 63 => 3#32
  | 64 => 5#32
  | 65 => 4#32
  | 66 => 4#32
  | 67 => 4#32
  | 68 => 4#32
  | 69 => 5#32
  | 70 => 3#32
  | 71 => 4#32
  | 72 => 3#32
  | 73 => 4#32
  | 74 => 5#32
  | 75 => 5#32
  | 76 => 4#32
  | 77 => 4#32
  | 78 => 5#32
  | 79 => 5#32
  | 80 => 5#32
  | 81 => 3#32
  | 82 => 4#32
  | 83 => 5#32
  | 84 => 4#32
  | 85 => 3#32
  | 86 => 5#32
  | 87 => 4#32
  | 88 => 4#32
  | 89 => 3#32
  | 90 => 4#32
  | 91 => 3#32
  | 92 => 5#32
  | 93 => 5#32
  | 94 => 5#32
  | 95 => 5#32
  | 96 => 3#32
  | 97 => 3#32
  | 98 => 5#32
  | 99 => 5#32
  | 100 => 4#32
  | 101 => 4#32
  | 102 => 4#32
  | 103 => 5#32
  | 104 => 4#32
  | 105 => 5#32
  | 106 => 4#32
  | 107 => 4#32
  | 108 => 4#32
  | 109 => 3#32
  | 110 => 4#32
  | 111 => 4#32
  | 112 => 4#32
  | 113 => 4#32
  | 114 => 4#32
  | 115 => 4#32
  | 116 => 5#32
  | 117 => 3#32
  | 118 => 5#32
  | 119 => 3#32
  | 120 => 3#32
  | 121 => 3#32
  | 122 => 5#32
  | 123 => 5#32
  | 124 => 5#32
  | 125 => 3#32
  | 126 => 3#32
  | 127 => 5#32
  | _ => 0#32

noncomputable abbrev lit2t0_28 (i : Nat) : BitVec 32 := match i % 128 with
  | 0 => 4#32
  | 1 => 3#32
  | 2 => 4#32
  | 3 => 5#32
  | 4 => 3#32
  | 5 => 3#32
  | 6 => 5#32
  | 7 => 3#32
  | 8 => 3#32
  | 9 => 5#32
  | 10 => 5#32
  | 11 => 3#32
  | 12 => 4#32
  | 13 => 3#32
  | 14 => 5#32
  | 15 => 4#32
  | 16 => 5#32
  | 17 => 3#32
  | 18 => 4#32
  | 19 => 4#32
  | 20 => 3#32
  | 21 => 3#32
  | 22 => 5#32
  | 23 => 4#32
  | 24 => 5#32
  | 25 => 4#32
  | 26 => 5#32
  | 27 => 3#32
  | 28 => 5#32
  | 29 => 3#32
  | 30 => 3#32
  | 31 => 4#32
  | 32 => 4#32
  | 33 => 3#32
  | 34 => 5#32
  | 35 => 5#32
  | 36 => 3#32
  | 37 => 4#32
  | 38 => 3#32
  | 39 => 3#32
  | 40 => 4#32
  | 41 => 5#32
  | 42 => 5#32
  | 43 => 3#32
  | 44 => 4#32
  | 45 => 4#32
  | 46 => 3#32
  | 47 => 3#32
  | 48 => 5#32
  | 49 => 4#32
  | 50 => 3#32
  | 51 => 3#32
  | 52 => 4#32
  | 53 => 3#32
  | 54 => 4#32
  | 55 => 5#32
  | 56 => 4#32
  | 57 => 4#32
  | 58 => 4#32
  | 59 => 3#32
  | 60 => 3#32
  | 61 => 5#32
  | 62 => 3#32
  | 63 => 3#32
  | 64 => 4#32
  | 65 => 4#32
  | 66 => 4#32
  | 67 => 3#32
  | 68 => 4#32
  | 69 => 4#32
  | 70 => 5#32
  | 71 => 4#32
  | 72 => 5#32
  | 73 => 5#32
  | 74 => 3#32
  | 75 => 5#32
  | 76 => 3#32
  | 77 => 4#32
  | 78 => 4#32
  | 79 => 3#32
  | 80 => 5#32
  | 81 => 3#32
  | 82 => 4#32
  | 83 => 3#32
  | 84 => 3#32
  | 85 => 3#32
  | 86 => 3#32
  | 87 => 3#32
  | 88 => 4#32
  | 89 => 4#32
  | 90 => 3#32
  | 91 => 3#32
  | 92 => 5#32
  | 93 => 4#32
  | 94 => 3#32
  | 95 => 3#32
  | 96 => 5#32
  | 97 => 5#32
  | 98 => 5#32
  | 99 => 5#32
  | 100 => 4#32
  | 101 => 3#32
  | 102 => 3#32
  | 103 => 5#32
  | 104 => 5#32
  | 105 => 4#32
  | 106 => 5#32
  | 107 => 5#32
  | 108 => 5#32
  | 109 => 3#32
  | 110 => 3#32
  | 111 => 3#32
  | 112 => 4#32
  | 113 => 5#32
  | 114 => 5#32
  | 115 => 3#32
  | 116 => 5#32
  | 117 => 4#32
  | 118 => 5#32
  | 119 => 3#32
  | 120 => 5#32
  | 121 => 3#32
  | 122 => 4#32
  | 123 => 3#32
  | 124 => 5#32
  | 125 => 4#32
  | 126 => 4#32
  | 127 => 4#32
  | _ => 0#32

noncomputable abbrev lit2t0_29 (i : Nat) : BitVec 32 := match i % 128 with
  | 0 => 3#32
  | 1 => 5#32
  | 2 => 5#32
  | 3 => 5#32
  | 4 => 4#32
  | 5 => 5#32
  | 6 => 3#32
  | 7 => 3#32
  | 8 => 3#32
  | 9 => 3#32
  | 10 => 4#32
  | 11 => 4#32
  | 12 => 3#32
  | 13 => 3#32
  | 14 => 4#32
  | 15 => 3#32
  | 16 => 5#32
  | 17 => 3#32
  | 18 => 5#32
  | 19 => 4#32
  | 20 => 4#32
  | 21 => 4#32
  | 22 => 5#32
  | 23 => 5#32
  | 24 => 4#32
  | 25 => 4#32
  | 26 => 3#32
  | 27 => 5#32
  | 28 => 3#32
  | 29 => 3#32
  | 30 => 3#32
  | 31 => 3#32
  | 32 => 3#32
  | 33 => 5#32
  | 34 => 4#32
  | 35 => 4#32
  | 36 => 4#32
  | 37 => 4#32
  | 38 => 4#32
  | 39 => 3#32
  | 40 => 3#32
  | 41 => 4#32
  | 42 => 3#32
  | 43 => 3#32
  | 44 => 3#32
  | 45 => 5#32
  | 46 => 4#32
  | 47 => 4#32
  | 48 => 3#32
  | 49 => 3#32
  | 50 => 3#32
  | 51 => 5#32
  | 52 => 5#32
  | 53 => 4#32
  | 54 => 5#32
  | 55 => 4#32
  | 56 => 4#32
  | 57 => 3#32
  | 58 => 3#32
  | 59 => 4#32
  | 60 => 3#32
  | 61 => 4#32
  | 62 => 3#32
  | 63 => 4#32
  | 64 => 4#32
  | 65 => 5#32
  | 66 => 5#32
  | 67 => 4#32
  | 68 => 3#32
  | 69 => 3#32
  | 70 => 3#32
  | 71 => 3#32
  | 72 => 5#32
  | 73 => 3#32
  | 74 => 4#32
  | 75 => 4#32
  | 76 => 5#32
  | 77 => 3#32
  | 78 => 4#32
  | 79 => 3#32
  | 80 => 3#32
  | 81 => 3#32
  | 82 => 3#32
  | 83 => 4#32
  | 84 => 5#32
  | 85 => 3#32
  | 86 => 3#32
  | 87 => 3#32
  | 88 => 4#32
  | 89 => 3#32
  | 90 => 5#32
  | 91 => 3#32
  | 92 => 3#32
  | 93 => 3#32
  | 94 => 5#32
  | 95 => 3#32
  | 96 => 4#32
  | 97 => 5#32
  | 98 => 4#32
  | 99 => 3#32
  | 100 => 3#32
  | 101 => 5#32
  | 102 => 4#32
  | 103 => 5#32
  | 104 => 3#32
  | 105 => 5#32
  | 106 => 3#32
  | 107 => 5#32
  | 108 => 4#32
  | 109 => 3#32
  | 110 => 4#32
  | 111 => 5#32
  | 112 => 4#32
  | 113 => 5#32
  | 114 => 5#32
  | 115 => 4#32
  | 116 => 3#32
  | 117 => 4#32
  | 118 => 3#32
  | 119 => 3#32
  | 120 => 5#32
  | 121 => 3#32
  | 122 => 5#32
  | 123 => 5#32
  | 124 => 5#32
  | 125 => 3#32
  | 126 => 3#32
  | 127 => 5#32
  | _ => 0#32

noncomputable abbrev lit2t0_30 (i : Nat) : BitVec 32 := match i % 128 with
  | 0 => 4#32
  | 1 => 3#32
  | 2 => 3#32
  | 3 => 5#32
  | 4 => 3#32
  | 5 => 3#32
  | 6 => 3#32
  | 7 => 4#32
  | 8 => 4#32
  | 9 => 4#32
  | 10 => 5#32
  | 11 => 3#32
  | 12 => 3#32
  | 13 => 3#32
  | 14 => 5#32
  | 15 => 3#32
  | 16 => 4#32
  | 17 => 5#32
  | 18 => 3#32
  | 19 => 5#32
  | 20 => 5#32
  | 21 => 3#32
  | 22 => 4#32
  | 23 => 5#32
  | 24 => 5#32
  | 25 => 5#32
  | 26 => 5#32
  | 27 => 5#32
  | 28 => 4#32
  | 29 => 4#32
  | 30 => 4#32
  | 31 => 3#32
  | 32 => 3#32
  | 33 => 5#32
  | 34 => 4#32
  | 35 => 5#32
  | 36 => 4#32
  | 37 => 4#32
  | 38 => 4#32
  | 39 => 3#32
  | 40 => 5#32
  | 41 => 4#32
  | 42 => 3#32
  | 43 => 3#32
  | 44 => 3#32
  | 45 => 5#32
  | 46 => 4#32
  | 47 => 5#32
  | 48 => 4#32
  | 49 => 4#32
  | 50 => 3#32
  | 51 => 3#32
  | 52 => 4#32
  | 53 => 3#32
  | 54 => 4#32
  | 55 => 5#32
  | 56 => 5#32
  | 57 => 5#32
  | 58 => 3#32
  | 59 => 4#32
  | 60 => 4#32
  | 61 => 3#32
  | 62 => 5#32
  | 63 => 4#32
  | 64 => 3#32
  | 65 => 3#32
  | 66 => 4#32
  | 67 => 4#32
  | 68 => 4#32
  | 69 => 4#32
  | 70 => 4#32
  | 71 => 4#32
  | 72 => 3#32
  | 73 => 3#32
  | 74 => 3#32
  | 75 => 5#32
  | 76 => 4#32
  | 77 => 3#32
  | 78 => 3#32
  | 79 => 3#32
  | 80 => 4#32
  | 81 => 4#32
  | 82 => 3#32
  | 83 => 4#32
  | 84 => 3#32
  | 85 => 3#32
  | 86 => 5#32
  | 87 => 3#32
  | 88 => 5#32
  | 89 => 3#32
  | 90 => 5#32
  | 91 => 5#32
  | 92 => 3#32
  | 93 => 3#32
  | 94 => 5#32
  | 95 => 4#32
  | 96 => 3#32
  | 97 => 3#32
  | 98 => 3#32
  | 99 => 4#32
  | 100 => 5#32
  | 101 => 5#32
  | 102 => 3#32
  | 103 => 5#32
  | 104 => 5#32
  | 105 => 4#32
  | 106 => 4#32
  | 107 => 3#32
  | 108 => 5#32
  | 109 => 5#32
  | 110 => 4#32
  | 111 => 4#32
  | 112 => 3#32
  | 113 => 5#32
  | 114 => 5#32
  | 115 => 3#32
  | 116 => 4#32
  | 117 => 3#32
  | 118 => 4#32
  | 119 => 3#32
  | 120 => 3#32
  | 121 => 4#32
  | 122 => 3#32
  | 123 => 4#32
  | 124 => 5#32
  | 125 => 4#32
  | 126 => 4#32
  | 127 => 4#32
  | _ => 0#32

noncomputable abbrev lit2t0_31 (i : Nat) : BitVec 32 := match i % 128 with
  | 0 => 4#32
  | 1 => 4#32
  | 2 => 3#32
  | 3 => 4#32
  | 4 => 3#32
  | 5 => 3#32
  | 6 => 3#32
  | 7 => 4#32
  | 8 => 3#32
  | 9 => 3#32
  | 10 => 5#32
  | 11 => 5#32
  | 12 => 3#32
  | 13 => 5#32
  | 14 => 4#32
  | 15 => 3#32
  | 16 => 5#32
  | 17 => 5#32
  | 18 => 4#32
  | 19 => 3#32
  | 20 => 4#32
  | 21 => 4#32
  | 22 => 3#32
  | 23 => 3#32
  | 24 => 5#32
  | 25 => 5#32
  | 26 => 4#32
  | 27 => 4#32
  | 28 => 4#32
  | 29 => 3#32
  | 30 => 3#32
  | 31 => 3#32
  | 32 => 4#32
  | 33 => 5#32
  | 34 => 4#32
  | 35 => 3#32
  | 36 => 5#32
  | 37 => 5#32
  | 38 => 4#32
  | 39 => 3#32
  | 40 => 3#32
  | 41 => 3#32
  | 42 => 4#32
  | 43 => 4#32
  | 44 => 3#32
  | 45 => 5#32
  | 46 => 5#32
  | 47 => 4#32
  | 48 => 4#32
  | 49 => 4#32
  | 50 => 3#32
  | 51 => 3#32
  | 52 => 4#32
  | 53 => 3#32
  | 54 => 4#32
  | 55 => 3#32
  | 56 => 5#32
  | 57 => 4#32
  | 58 => 5#32
  | 59 => 4#32
  | 60 => 4#32
  | 61 => 3#32
  | 62 => 5#32
  | 63 => 5#32
  | 64 => 5#32
  | 65 => 5#32
  | 66 => 3#32
  | 67 => 5#32
  | 68 => 3#32
  | 69 => 3#32
  | 70 => 4#32
  | 71 => 5#32
  | 72 => 5#32
  | 73 => 4#32
  | 74 => 5#32
  | 75 => 5#32
  | 76 => 5#32
  | 77 => 3#32
  | 78 => 3#32
  | 79 => 5#32
  | 80 => 5#32
  | 81 => 3#32
  | 82 => 3#32
  | 83 => 5#32
  | 84 => 4#32
  | 85 => 5#32
  | 86 => 5#32
  | 87 => 5#32
  | 88 => 4#32
  | 89 => 3#32
  | 90 => 5#32
  | 91 => 5#32
  | 92 => 4#32
  | 93 => 4#32
  | 94 => 3#32
  | 95 => 3#32
  | 96 => 4#32
  | 97 => 3#32
  | 98 => 5#32
  | 99 => 3#32
  | 100 => 5#32
  | 101 => 5#32
  | 102 => 3#32
  | 103 => 4#32
  | 104 => 5#32
  | 105 => 3#32
  | 106 => 5#32
  | 107 => 4#32
  | 108 => 3#32
  | 109 => 3#32
  | 110 => 3#32
  | 111 => 3#32
  | 112 => 5#32
  | 113 => 3#32
  | 114 => 4#32
  | 115 => 4#32
  | 116 => 5#32
  | 117 => 3#32
  | 118 => 3#32
  | 119 => 4#32
  | 120 => 3#32
  | 121 => 4#32
  | 122 => 3#32
  | 123 => 3#32
  | 124 => 4#32
  | 125 => 3#32
  | 126 => 3#32
  | 127 => 4#32
  | _ => 0#32

noncomputable abbrev lit2t0_32 (i : Nat) : BitVec 32 := match i % 128 with
  | 0 => 4#32
  | 1 => 3#32
  | 2 => 3#32
  | 3 => 5#32
  | 4 => 5#32
  | 5 => 3#32
  | 6 => 3#32
  | 7 => 4#32
  | 8 => 5#32
  | 9 => 5#32
  | 10 => 5#32
  | 11 => 5#32
  | 12 => 4#32
  | 13 => 4#32
  | 14 => 3#32
  | 15 => 4#32
  | 16 => 3#32
  | 17 => 3#32
  | 18 => 3#32
  | 19 => 4#32
  | 20 => 3#32
  | 21 => 4#32
  | 22 => 4#32
  | 23 => 4#32
  | 24 => 5#32
  | 25 => 3#32
  | 26 => 3#32
  | 27 => 4#32
  | 28 => 5#32
  | 29 => 3#32
  | 30 => 4#32
  | 31 => 4#32
  | 32 => 3#32
  | 33 => 4#32
  | 34 => 4#32
  | 35 => 5#32
  | 36 => 4#32
  | 37 => 3#32
  | 38 => 4#32
  | 39 => 4#32
  | 40 => 5#32
  | 41 => 3#32
  | 42 => 3#32
  | 43 => 4#32
  | 44 => 3#32
  | 45 => 5#32
  | 46 => 5#32
  | 47 => 4#32
  | 48 => 4#32
  | 49 => 4#32
  | 50 => 5#32
  | 51 => 5#32
  | 52 => 4#32
  | 53 => 5#32
  | 54 => 3#32
  | 55 => 4#32
  | 56 => 4#32
  | 57 => 3#32
  | 58 => 5#32
  | 59 => 4#32
  | 60 => 3#32
  | 61 => 3#32
  | 62 => 5#32
  | 63 => 5#32
  | 64 => 4#32
  | 65 => 4#32
  | 66 => 4#32
  | 67 => 4#32
  | 68 => 5#32
  | 69 => 3#32
  | 70 => 5#32
  | 71 => 5#32
  | 72 => 4#32
  | 73 => 3#32
  | 74 => 5#32
  | 75 => 4#32
  | 76 => 3#32
  | 77 => 4#32
  | 78 => 3#32
  | 79 => 3#32
  | 80 => 4#32
  | 81 => 5#32
  | 82 => 5#32
  | 83 => 4#32
  | 84 => 4#32
  | 85 => 4#32
  | 86 => 5#32
  | 87 => 3#32
  | 88 => 4#32
  | 89 => 3#32
  | 90 => 5#32
  | 91 => 5#32
  | 92 => 4#32
  | 93 => 3#32
  | 94 => 4#32
  | 95 => 3#32
  | 96 => 4#32
  | 97 => 4#32
  | 98 => 4#32
  | 99 => 3#32
  | 100 => 3#32
  | 101 => 5#32
  | 102 => 3#32
  | 103 => 3#32
  | 104 => 5#32
  | 105 => 3#32
  | 106 => 4#32
  | 107 => 4#32
  | 108 => 4#32
  | 109 => 5#32
  | 110 => 5#32
  | 111 => 3#32
  | 112 => 4#32
  | 113 => 3#32
  | 114 => 3#32
  | 115 => 4#32
  | 116 => 4#32
  | 117 => 4#32
  | 118 => 4#32
  | 119 => 4#32
  | 120 => 3#32
  | 121 => 3#32
  | 122 => 3#32
  | 123 => 5#32
  | 124 => 5#32
  | 125 => 5#32
  | 126 => 4#32
  | 127 => 4#32
  | _ => 0#32

noncomputable abbrev lit2t0_33 (i : Nat) : BitVec 32 := match i % 128 with
  | 0 => 3#32
  | 1 => 5#32
  | 2 => 3#32
  | 3 => 5#32
  | 4 => 4#32
  | 5 => 3#32
  | 6 => 3#32
  | 7 => 5#32
  | 8 => 5#32
  | 9 => 4#32
  | 10 => 5#32
  | 11 => 4#32
  | 12 => 3#32
  | 13 => 3#32
  | 14 => 5#32
  | 15 => 4#32
  | 16 => 4#32
  | 17 => 3#32
  | 18 => 5#32
  | 19 => 4#32
  | 20 => 4#32
  | 21 => 3#32
  | 22 => 4#32
  | 23 => 5#32
  | 24 => 3#32
  | 25 => 3#32
  | 26 => 3#32
  | 27 => 4#32
  | 28 => 4#32
  | 29 => 3#32
  | 30 => 4#32
  | 31 => 3#32
  | 32 => 5#32
  | 33 => 5#32
  | 34 => 4#32
  | 35 => 4#32
  | 36 => 3#32
  | 37 => 3#32
  | 38 => 5#32
  | 39 => 5#32
  | 40 => 5#32
  | 41 => 4#32
  | 42 => 4#32
  | 43 => 3#32
  | 44 => 4#32
  | 45 => 4#32
  | 46 => 3#32
  | 47 => 4#32
  | 48 => 5#32
  | 49 => 4#32
  | 50 => 3#32
  | 51 => 4#32
  | 52 => 5#32
  | 53 => 4#32
  | 54 => 4#32
  | 55 => 5#32
  | 56 => 3#32
  | 57 => 5#32
  | 58 => 5#32
  | 59 => 4#32
  | 60 => 3#32
  | 61 => 4#32
  | 62 => 3#32
  | 63 => 5#32
  | 64 => 5#32
  | 65 => 5#32
  | 66 => 5#32
  | 67 => 3#32
  | 68 => 5#32
  | 69 => 3#32
  | 70 => 4#32
  | 71 => 5#32
  | 72 => 5#32
  | 73 => 4#32
  | 74 => 5#32
  | 75 => 3#32
  | 76 => 4#32
  | 77 => 4#32
  | 78 => 4#32
  | 79 => 3#32
  | 80 => 4#32
  | 81 => 3#32
  | 82 => 4#32
  | 83 => 4#32
  | 84 => 5#32
  | 85 => 4#32
  | 86 => 5#32
  | 87 => 5#32
  | 88 => 4#32
  | 89 => 5#32
  | 90 => 3#32
  | 91 => 4#32
  | 92 => 4#32
  | 93 => 5#32
  | 94 => 3#32
  | 95 => 3#32
  | 96 => 4#32
  | 97 => 5#32
  | 98 => 3#32
  | 99 => 3#32
  | 100 => 3#32
  | 101 => 5#32
  | 102 => 4#32
  | 103 => 4#32
  | 104 => 5#32
  | 105 => 3#32
  | 106 => 4#32
  | 107 => 3#32
  | 108 => 4#32
  | 109 => 3#32
  | 110 => 4#32
  | 111 => 3#32
  | 112 => 3#32
  | 113 => 5#32
  | 114 => 5#32
  | 115 => 4#32
  | 116 => 3#32
  | 117 => 4#32
  | 118 => 5#32
  | 119 => 4#32
  | 120 => 3#32
  | 121 => 3#32
  | 122 => 4#32
  | 123 => 4#32
  | 124 => 3#32
  | 125 => 5#32
  | 126 => 3#32
  | 127 => 5#32
  | _ => 0#32

noncomputable abbrev lit2t0_34 (i : Nat) : BitVec 32 := match i % 128 with
  | 0 => 3#32
  | 1 => 5#32
  | 2 => 5#32
  | 3 => 4#32
  | 4 => 3#32
  | 5 => 4#32
  | 6 => 5#32
  | 7 => 5#32
  | 8 => 3#32
  | 9 => 3#32
  | 10 => 5#32
  | 11 => 5#32
  | 12 => 4#32
  | 13 => 4#32
  | 14 => 3#32
  | 15 => 5#32
  | 16 => 4#32
  | 17 => 3#32
  | 18 => 3#32
  | 19 => 5#32
  | 20 => 3#32
  | 21 => 5#32
  | 22 => 4#32
  | 23 => 4#32
  | 24 => 5#32
  | 25 => 3#32
  | 26 => 5#32
  | 27 => 4#32
  | 28 => 3#32
  | 29 => 4#32
  | 30 => 4#32
  | 31 => 4#32
  | 32 => 3#32
  | 33 => 5#32
  | 34 => 3#32
  | 35 => 4#32
  | 36 => 3#32
  | 37 => 3#32
  | 38 => 3#32
  | 39 => 5#32
  | 40 => 5#32
  | 41 => 3#32
  | 42 => 5#32
  | 43 => 3#32
  | 44 => 4#32
  | 45 => 4#32
  | 46 => 3#32
  | 47 => 5#32
  | 48 => 3#32
  | 49 => 3#32
  | 50 => 4#32
  | 51 => 4#32
  | 52 => 4#32
  | 53 => 5#32
  | 54 => 3#32
  | 55 => 4#32
  | 56 => 4#32
  | 57 => 4#32
  | 58 => 3#32
  | 59 => 4#32
  | 60 => 4#32
  | 61 => 5#32
  | 62 => 4#32
  | 63 => 4#32
  | 64 => 3#32
  | 65 => 3#32
  | 66 => 3#32
  | 67 => 5#32
  | 68 => 5#32
  | 69 => 4#32
  | 70 => 5#32
  | 71 => 5#32
  | 72 => 4#32
  | 73 => 4#32
  | 74 => 3#32
  | 75 => 3#32
  | 76 => 3#32
  | 77 => 5#32
  | 78 => 3#32
  | 79 => 5#32
  | 80 => 5#32
  | 81 => 5#32
  | 82 => 4#32
  | 83 => 3#32
  | 84 => 4#32
  | 85 => 3#32
  | 86 => 3#32
  | 87 => 3#32
  | 88 => 5#32
  | 89 => 4#32
  | 90 => 5#32
  | 91 => 3#32
  | 92 => 3#32
  | 93 => 4#32
  | 94 => 4#32
  | 95 => 5#32
  | 96 => 5#32
  | 97 => 4#32
  | 98 => 4#32
  | 99 => 3#32
  | 100 => 3#32
  | 101 => 3#32
  | 102 => 5#32
  | 103 => 3#32
  | 104 => 4#32
  | 105 => 3#32
  | 106 => 3#32
  | 107 => 4#32
  | 108 => 3#32
  | 109 => 4#32
  | 110 => 3#32
  | 111 => 4#32
  | 112 => 5#32
  | 113 => 4#32
  | 114 => 4#32
  | 115 => 4#32
  | 116 => 4#32
  | 117 => 4#32
  | 118 => 4#32
  | 119 => 3#32
  | 120 => 3#32
  | 121 => 5#32
  | 122 => 5#32
  | 123 => 4#32
  | 124 => 4#32
  | 125 => 3#32
  | 126 => 5#32
  | 127 => 4#32
  | _ => 0#32

noncomputable abbrev lit2t0_35 (i : Nat) : BitVec 32 := match i % 128 with
  | 0 => 3#32
  | 1 => 3#32
  | 2 => 5#32
  | 3 => 4#32
  | 4 => 5#32
  | 5 => 5#32
  | 6 => 3#32
  | 7 => 5#32
  | 8 => 3#32
  | 9 => 3#32
  | 10 => 5#32
  | 11 => 4#32
  | 12 => 4#32
  | 13 => 4#32
  | 14 => 3#32
  | 15 => 4#32
  | 16 => 5#32
  | 17 => 4#32
  | 18 => 3#32
  | 19 => 5#32
  | 20 => 5#32
  | 21 => 3#32
  | 22 => 5#32
  | 23 => 3#32
  | 24 => 3#32
  | 25 => 4#32
  | 26 => 4#32
  | 27 => 3#32
  | 28 => 3#32
  | 29 => 4#32
  | 30 => 5#32
  | 31 => 5#32
  | 32 => 4#32
  | 33 => 3#32
  | 34 => 5#32
  | 35 => 5#32
  | 36 => 5#32
  | 37 => 4#32
  | 38 => 5#32
  | 39 => 3#32
  | 40 => 5#32
  | 41 => 5#32
  | 42 => 3#32
  | 43 => 4#32
  | 44 => 5#32
  | 45 => 3#32
  | 46 => 5#32
  | 47 => 5#32
  | 48 => 5#32
  | 49 => 4#32
  | 50 => 3#32
  | 51 => 4#32
  | 52 => 3#32
  | 53 => 4#32
  | 54 => 5#32
  | 55 => 3#32
  | 56 => 3#32
  | 57 => 5#32
  | 58 => 5#32
  | 59 => 5#32
  | 60 => 4#32
  | 61 => 3#32
  | 62 => 5#32
  | 63 => 4#32
  | 64 => 3#32
  | 65 => 3#32
  | 66 => 3#32
  | 67 => 5#32
  | 68 => 3#32
  | 69 => 3#32
  | 70 => 3#32
  | 71 => 3#32
  | 72 => 4#32
  | 73 => 5#32
  | 74 => 5#32
  | 75 => 3#32
  | 76 => 4#32
  | 77 => 5#32
  | 78 => 3#32
  | 79 => 3#32
  | 80 => 4#32
  | 81 => 4#32
  | 82 => 3#32
  | 83 => 5#32
  | 84 => 3#32
  | 85 => 4#32
  | 86 => 4#32
  | 87 => 5#32
  | 88 => 3#32
  | 89 => 4#32
  | 90 => 3#32
  | 91 => 4#32
  | 92 => 5#32
  | 93 => 3#32
  | 94 => 5#32
  | 95 => 4#32
  | 96 => 4#32
  | 97 => 5#32
  | 98 => 5#32
  | 99 => 4#32
  | 100 => 4#32
  | 101 => 5#32
  | 102 => 4#32
  | 103 => 5#32
  | 104 => 4#32
  | 105 => 4#32
  | 106 => 3#32
  | 107 => 3#32
  | 108 => 5#32
  | 109 => 5#32
  | 110 => 4#32
  | 111 => 3#32
  | 112 => 4#32
  | 113 => 4#32
  | 114 => 4#32
  | 115 => 4#32
  | 116 => 3#32
  | 117 => 4#32
  | 118 => 4#32
  | 119 => 4#32
  | 120 => 5#32
  | 121 => 5#32
  | 122 => 3#32
  | 123 => 5#32
  | 124 => 5#32
  | 125 => 3#32
  | 126 => 5#32
  | 127 => 3#32
  | _ => 0#32

noncomputable abbrev lit2t0_36 (i : Nat) : BitVec 32 := match i % 128 with
  | 0 => 5#32
  | 1 => 4#32
  | 2 => 5#32
  | 3 => 5#32
  | 4 => 3#32
  | 5 => 5#32
  | 6 => 3#32
  | 7 => 4#32
  | 8 => 4#32
  | 9 => 4#32
  | 10 => 5#32
  | 11 => 5#32
  | 12 => 4#32
  | 13 => 3#32
  | 14 => 5#32
  | 15 => 4#32
  | 16 => 4#32
  | 17 => 5#32
  | 18 => 5#32
  | 19 => 4#32
  | 20 => 4#32
  | 21 => 4#32
  | 22 => 5#32
  | 23 => 3#32
  | 24 => 3#32
  | 25 => 4#32
  | 26 => 5#32
  | 27 => 4#32
  | 28 => 3#32
  | 29 => 3#32
  | 30 => 4#32
  | 31 => 3#32
  | 32 => 3#32
  | 33 => 4#32
  | 34 => 5#32
  | 35 => 3#32
  | 36 => 4#32
  | 37 => 3#32
  | 38 => 5#32
  | 39 => 4#32
  | 40 => 3#32
  | 41 => 4#32
  | 42 => 3#32
  | 43 => 5#32
  | 44 => 5#32
  | 45 => 3#32
  | 46 => 3#32
  | 47 => 5#32
  | 48 => 4#32
  | 49 => 5#32
  | 50 => 4#32
  | 51 => 4#32
  | 52 => 5#32
  | 53 => 3#32
  | 54 => 4#32
  | 55 => 4#32
  | 56 => 3#32
  | 57 => 3#32
  | 58 => 4#32
  | 59 => 5#32
  | 60 => 5#32
  | 61 => 3#32
  | 62 => 4#32
  | 63 => 5#32
  | 64 => 3#32
  | 65 => 4#32
  | 66 => 5#32
  | 67 => 3#32
  | 68 => 5#32
  | 69 => 3#32
  | 70 => 3#32
  | 71 => 4#32
  | 72 => 3#32
  | 73 => 4#32
  | 74 => 3#32
  | 75 => 3#32
  | 76 => 3#32
  | 77 => 3#32
  | 78 => 4#32
  | 79 => 4#32
  | 80 => 3#32
  | 81 => 3#32
  | 82 => 3#32
  | 83 => 3#32
  | 84 => 4#32
  | 85 => 5#32
  | 86 => 5#32
  | 87 => 5#32
  | 88 => 4#32
  | 89 => 5#32
  | 90 => 5#32
  | 91 => 5#32
  | 92 => 3#32
  | 93 => 3#32
  | 94 => 4#32
  | 95 => 5#32
  | 96 => 5#32
  | 97 => 3#32
  | 98 => 4#32
  | 99 => 5#32
  | 100 => 4#32
  | 101 => 3#32
  | 102 => 4#32
  | 103 => 5#32
  | 104 => 5#32
  | 105 => 5#32
  | 106 => 4#32
  | 107 => 4#32
  | 108 => 3#32
  | 109 => 4#32
  | 110 => 3#32
  | 111 => 4#32
  | 112 => 5#32
  | 113 => 5#32
  | 114 => 5#32
  | 115 => 5#32
  | 116 => 3#32
  | 117 => 5#32
  | 118 => 4#32
  | 119 => 5#32
  | 120 => 5#32
  | 121 => 3#32
  | 122 => 5#32
  | 123 => 4#32
  | 124 => 5#32
  | 125 => 5#32
  | 126 => 3#32
  | 127 => 3#32
  | _ => 0#32

noncomputable abbrev lit2t0_37 (i : Nat) : BitVec 32 := match i % 128 with
  | 0 => 5#32
  | 1 => 4#32
  | 2 => 5#32
  | 3 => 5#32
  | 4 => 3#32
  | 5 => 3#32
  | 6 => 4#32
  | 7 => 5#32
  | 8 => 3#32
  | 9 => 3#32
  | 10 => 3#32
  | 11 => 4#32
  | 12 => 3#32
  | 13 => 3#32
  | 14 => 5#32
  | 15 => 5#32
  | 16 => 4#32
  | 17 => 5#32
  | 18 => 4#32
  | 19 => 4#32
  | 20 => 5#32
  | 21 => 5#32
  | 22 => 5#32
  | 23 => 4#32
  | 24 => 3#32
  | 25 => 5#32
  | 26 => 3#32
  | 27 => 5#32
  | 28 => 4#32
  | 29 => 5#32
  | 30 => 3#32
  | 31 => 3#32
  | 32 => 3#32
  | 33 => 5#32
  | 34 => 3#32
  | 35 => 5#32
  | 36 => 3#32
  | 37 => 4#32
  | 38 => 5#32
  | 39 => 4#32
  | 40 => 4#32
  | 41 => 3#32
  | 42 => 4#32
  | 43 => 3#32
  | 44 => 4#32
  | 45 => 4#32
  | 46 => 3#32
  | 47 => 4#32
  | 48 => 4#32
  | 49 => 5#32
  | 50 => 4#32
  | 51 => 5#32
  | 52 => 3#32
  | 53 => 4#32
  | 54 => 5#32
  | 55 => 3#32
  | 56 => 4#32
  | 57 => 5#32
  | 58 => 5#32
  | 59 => 3#32
  | 60 => 3#32
  | 61 => 4#32
  | 62 => 5#32
  | 63 => 4#32
  | 64 => 4#32
  | 65 => 4#32
  | 66 => 4#32
  | 67 => 3#32
  | 68 => 5#32
  | 69 => 4#32
  | 70 => 3#32
  | 71 => 5#32
  | 72 => 5#32
  | 73 => 3#32
  | 74 => 4#32
  | 75 => 5#32
  | 76 => 3#32
  | 77 => 4#32
  | 78 => 3#32
  | 79 => 5#32
  | 80 => 4#32
  | 81 => 4#32
  | 82 => 4#32
  | 83 => 3#32
  | 84 => 5#32
  | 85 => 3#32
  | 86 => 3#32
  | 87 => 3#32
  | 88 => 3#32
  | 89 => 3#32
  | 90 => 4#32
  | 91 => 4#32
  | 92 => 3#32
  | 93 => 4#32
  | 94 => 4#32
  | 95 => 5#32
  | 96 => 4#32
  | 97 => 4#32
  | 98 => 3#32
  | 99 => 4#32
  | 100 => 4#32
  | 101 => 3#32
  | 102 => 3#32
  | 103 => 5#32
  | 104 => 3#32
  | 105 => 3#32
  | 106 => 4#32
  | 107 => 5#32
  | 108 => 4#32
  | 109 => 5#32
  | 110 => 5#32
  | 111 => 4#32
  | 112 => 3#32
  | 113 => 3#32
  | 114 => 4#32
  | 115 => 5#32
  | 116 => 3#32
  | 117 => 4#32
  | 118 => 5#32
  | 119 => 4#32
  | 120 => 4#32
  | 121 => 5#32
  | 122 => 5#32
  | 123 => 3#32
  | 124 => 3#32
  | 125 => 4#32
  | 126 => 5#32
  | 127 => 5#32
  | _ => 0#32

noncomputable abbrev lit2t0_38 (i : Nat) : BitVec 32 := match i % 128 with
  | 0 => 4#32
  | 1 => 5#32
  | 2 => 3#32
  | 3 => 5#32
  | 4 => 5#32
  | 5 => 4#32
  | 6 => 4#32
  | 7 => 3#32
  | 8 => 4#32
  | 9 => 4#32
  | 10 => 5#32
  | 11 => 5#32
  | 12 => 4#32
  | 13 => 3#32
  | 14 => 4#32
  | 15 => 4#32
  | 16 => 3#32
  | 17 => 3#32
  | 18 => 4#32
  | 19 => 3#32
  | 20 => 3#32
  | 21 => 5#32
  | 22 => 5#32
  | 23 => 5#32
  | 24 => 3#32
  | 25 => 4#32
  | 26 => 4#32
  | 27 => 5#32
  | 28 => 4#32
  | 29 => 3#32
  | 30 => 5#32
  | 31 => 5#32
  | 32 => 3#32
  | 33 => 5#32
  | 34 => 3#32
  | 35 => 5#32
  | 36 => 4#32
  | 37 => 5#32
  | 38 => 4#32
  | 39 => 5#32
  | 40 => 4#32
  | 41 => 4#32
  | 42 => 4#32
  | 43 => 4#32
  | 44 => 5#32
  | 45 => 3#32
  | 46 => 4#32
  | 47 => 5#32
  | 48 => 3#32
  | 49 => 5#32
  | 50 => 3#32
  | 51 => 4#32
  | 52 => 3#32
  | 53 => 5#32
  | 54 => 3#32
  | 55 => 5#32
  | 56 => 3#32
  | 57 => 5#32
  | 58 => 5#32
  | 59 => 4#32
  | 60 => 5#32
  | 61 => 5#32
  | 62 => 3#32
  | 63 => 4#32
  | 64 => 5#32
  | 65 => 5#32
  | 66 => 3#32
  | 67 => 3#32
  | 68 => 4#32
  | 69 => 5#32
  | 70 => 3#32
  | 71 => 4#32
  | 72 => 5#32
  | 73 => 3#32
  | 74 => 4#32
  | 75 => 3#32
  | 76 => 4#32
  | 77 => 5#32
  | 78 => 5#32
  | 79 => 3#32
  | 80 => 4#32
  | 81 => 5#32
  | 82 => 5#32
  | 83 => 4#32
  | 84 => 3#32
  | 85 => 5#32
  | 86 => 4#32
  | 87 => 3#32
  | 88 => 5#32
  | 89 => 4#32
  | 90 => 5#32
  | 91 => 4#32
  | 92 => 5#32
  | 93 => 4#32
  | 94 => 4#32
  | 95 => 4#32
  | 96 => 4#32
  | 97 => 5#32
  | 98 => 5#32
  | 99 => 3#32
  | 100 => 4#32
  | 101 => 3#32
  | 102 => 5#32
  | 103 => 3#32
  | 104 => 5#32
  | 105 => 3#32
  | 106 => 3#32
  | 107 => 3#32
  | 108 => 3#32
  | 109 => 5#32
  | 110 => 5#32
  | 111 => 5#32
  | 112 => 3#32
  | 113 => 4#32
  | 114 => 5#32
  | 115 => 5#32
  | 116 => 3#32
  | 117 => 3#32
  | 118 => 5#32
  | 119 => 3#32
  | 120 => 4#32
  | 121 => 4#32
  | 122 => 5#32
  | 123 => 5#32
  | 124 => 3#32
  | 125 => 3#32
  | 126 => 4#32
  | 127 => 5#32
  | _ => 0#32

noncomputable abbrev lit2t0_39 (i : Nat) : BitVec 32 := match i % 128 with
  | 0 => 5#32
  | 1 => 4#32
  | 2 => 5#32
  | 3 => 5#32
  | 4 => 5#32
  | 5 => 4#32
  | 6 => 3#32
  | 7 => 3#32
  | 8 => 5#32
  | 9 => 5#32
  | 10 => 5#32
  | 11 => 3#32
  | 12 => 4#32
  | 13 => 5#32
  | 14 => 3#32
  | 15 => 4#32
  | 16 => 3#32
  | 17 => 4#32
  | 18 => 5#32
  | 19 => 3#32
  | 20 => 4#32
  | 21 => 3#32
  | 22 => 5#32
  | 23 => 5#32
  | 24 => 5#32
  | 25 => 3#32
  | 26 => 5#32
  | 27 => 3#32
  | 28 => 5#32
  | 29 => 3#32
  | 30 => 4#32
  | 31 => 3#32
  | 32 => 3#32
  | 33 => 5#32
  | 34 => 3#32
  | 35 => 4#32
  | 36 => 5#32
  | 37 => 5#32
  | 38 => 4#32
  | 39 => 5#32
  | 40 => 5#32
  | 41 => 3#32
  | 42 => 3#32
  | 43 => 3#32
  | 44 => 5#32
  | 45 => 5#32
  | 46 => 3#32
  | 47 => 4#32
  | 48 => 4#32
  | 49 => 5#32
  | 50 => 4#32
  | 51 => 5#32
  | 52 => 4#32
  | 53 => 5#32
  | 54 => 3#32
  | 55 => 5#32
  | 56 => 4#32
  | 57 => 4#32
  | 58 => 5#32
  | 59 => 4#32
  | 60 => 3#32
  | 61 => 3#32
  | 62 => 3#32
  | 63 => 3#32
  | 64 => 4#32
  | 65 => 4#32
  | 66 => 3#32
  | 67 => 3#32
  | 68 => 3#32
  | 69 => 4#32
  | 70 => 4#32
  | 71 => 3#32
  | 72 => 5#32
  | 73 => 4#32
  | 74 => 5#32
  | 75 => 5#32
  | 76 => 4#32
  | 77 => 3#32
  | 78 => 3#32
  | 79 => 3#32
  | 80 => 3#32
  | 81 => 5#32
  | 82 => 4#32
  | 83 => 4#32
  | 84 => 3#32
  | 85 => 4#32
  | 86 => 5#32
  | 87 => 4#32
  | 88 => 4#32
  | 89 => 3#32
  | 90 => 4#32
  | 91 => 3#32
  | 92 => 5#32
  | 93 => 3#32
  | 94 => 4#32
  | 95 => 3#32
  | 96 => 4#32
  | 97 => 4#32
  | 98 => 5#32
  | 99 => 3#32
  | 100 => 4#32
  | 101 => 3#32
  | 102 => 3#32
  | 103 => 4#32
  | 104 => 4#32
  | 105 => 5#32
  | 106 => 5#32
  | 107 => 3#32
  | 108 => 3#32
  | 109 => 4#32
  | 110 => 4#32
  | 111 => 3#32
  | 112 => 5#32
  | 113 => 3#32
  | 114 => 5#32
  | 115 => 5#32
  | 116 => 5#32
  | 117 => 4#32
  | 118 => 5#32
  | 119 => 5#32
  | 120 => 4#32
  | 121 => 3#32
  | 122 => 3#32
  | 123 => 4#32
  | 124 => 3#32
  | 125 => 4#32
  | 126 => 3#32
  | 127 => 4#32
  | _ => 0#32

noncomputable abbrev lit2t0_40 (i : Nat) : BitVec 32 := match i % 128 with
  | 0 => 4#32
  | 1 => 5#32
  | 2 => 4#32
  | 3 => 4#32
  | 4 => 5#32
  | 5 => 3#32
  | 6 => 4#32
  | 7 => 5#32
  | 8 => 4#32
  | 9 => 4#32
  | 10 => 5#32
  | 11 => 3#32
  | 12 => 3#32
  | 13 => 4#32
  | 14 => 5#32
  | 15 => 3#32
  | 16 => 3#32
  | 17 => 5#32
  | 18 => 4#32
  | 19 => 5#32
  | 20 => 5#32
  | 21 => 4#32
  | 22 => 5#32
  | 23 => 3#32
  | 24 => 3#32
  | 25 => 4#32
  | 26 => 5#32
  | 27 => 4#32
  | 28 => 3#32
  | 29 => 5#32
  | 30 => 4#32
  | 31 => 4#32
  | 32 => 3#32
  | 33 => 5#32
  | 34 => 5#32
  | 35 => 4#32
  | 36 => 4#32
  | 37 => 3#32
  | 38 => 3#32
  | 39 => 4#32
  | 40 => 3#32
  | 41 => 5#32
  | 42 => 3#32
  | 43 => 3#32
  | 44 => 3#32
  | 45 => 3#32
  | 46 => 4#32
  | 47 => 5#32
  | 48 => 4#32
  | 49 => 3#32
  | 50 => 3#32
  | 51 => 4#32
  | 52 => 5#32
  | 53 => 4#32
  | 54 => 5#32
  | 55 => 4#32
  | 56 => 5#32
  | 57 => 4#32
  | 58 => 4#32
  | 59 => 5#32
  | 60 => 3#32
  | 61 => 4#32
  | 62 => 3#32
  | 63 => 3#32
  | 64 => 3#32
  | 65 => 4#32
  | 66 => 3#32
  | 67 => 3#32
  | 68 => 4#32
  | 69 => 4#32
  | 70 => 4#32
  | 71 => 5#32
  | 72 => 4#32
  | 73 => 3#32
  | 74 => 5#32
  | 75 => 4#32
  | 76 => 3#32
  | 77 => 5#32
  | 78 => 4#32
  | 79 => 5#32
  | 80 => 4#32
  | 81 => 5#32
  | 82 => 5#32
  | 83 => 5#32
  | 84 => 4#32
  | 85 => 3#32
  | 86 => 4#32
  | 87 => 4#32
  | 88 => 5#32
  | 89 => 5#32
  | 90 => 5#32
  | 91 => 5#32
  | 92 => 3#32
  | 93 => 4#32
  | 94 => 5#32
  | 95 => 4#32
  | 96 => 3#32
  | 97 => 4#32
  | 98 => 4#32
  | 99 => 5#32
  | 100 => 4#32
  | 101 => 4#32
  | 102 => 5#32
  | 103 => 5#32
  | 104 => 3#32
  | 105 => 5#32
  | 106 => 3#32
  | 107 => 5#32
  | 108 => 4#32
  | 109 => 4#32
  | 110 => 4#32
  | 111 => 4#32
  | 112 => 3#32
  | 113 => 4#32
  | 114 => 3#32
  | 115 => 3#32
  | 116 => 4#32
  | 117 => 4#32
  | 118 => 4#32
  | 119 => 4#32
  | 120 => 4#32
  | 121 => 3#32
  | 122 => 5#32
  | 123 => 4#32
  | 124 => 3#32
  | 125 => 5#32
  | 126 => 5#32
  | 127 => 5#32
  | _ => 0#32

noncomputable abbrev lit2t0_41 (i : Nat) : BitVec 32 := match i % 128 with
  | 0 => 4#32
  | 1 => 5#32
  | 2 => 4#32
  | 3 => 4#32
  | 4 => 3#32
  | 5 => 5#32
  | 6 => 3#32
  | 7 => 3#32
  | 8 => 3#32
  | 9 => 4#32
  | 10 => 3#32
  | 11 => 3#32
  | 12 => 3#32
  | 13 => 5#32
  | 14 => 4#32
  | 15 => 5#32
  | 16 => 3#32
  | 17 => 3#32
  | 18 => 4#32
  | 19 => 5#32
  | 20 => 5#32
  | 21 => 4#32
  | 22 => 4#32
  | 23 => 5#32
  | 24 => 5#32
  | 25 => 5#32
  | 26 => 3#32
  | 27 => 4#32
  | 28 => 3#32
  | 29 => 5#32
  | 30 => 4#32
  | 31 => 5#32
  | 32 => 3#32
  | 33 => 5#32
  | 34 => 4#32
  | 35 => 3#32
  | 36 => 5#32
  | 37 => 5#32
  | 38 => 5#32
  | 39 => 4#32
  | 40 => 5#32
  | 41 => 3#32
  | 42 => 3#32
  | 43 => 3#32
  | 44 => 3#32
  | 45 => 3#32
  | 46 => 5#32
  | 47 => 5#32
  | 48 => 5#32
  | 49 => 4#32
  | 50 => 4#32
  | 51 => 3#32
  | 52 => 4#32
  | 53 => 4#32
  | 54 => 5#32
  | 55 => 3#32
  | 56 => 3#32
  | 57 => 4#32
  | 58 => 3#32
  | 59 => 4#32
  | 60 => 3#32
  | 61 => 5#32
  | 62 => 4#32
  | 63 => 4#32
  | 64 => 3#32
  | 65 => 5#32
  | 66 => 5#32
  | 67 => 4#32
  | 68 => 4#32
  | 69 => 4#32
  | 70 => 3#32
  | 71 => 3#32
  | 72 => 5#32
  | 73 => 5#32
  | 74 => 5#32
  | 75 => 5#32
  | 76 => 3#32
  | 77 => 3#32
  | 78 => 4#32
  | 79 => 4#32
  | 80 => 4#32
  | 81 => 4#32
  | 82 => 3#32
  | 83 => 5#32
  | 84 => 5#32
  | 85 => 4#32
  | 86 => 4#32
  | 87 => 4#32
  | 88 => 4#32
  | 89 => 3#32
  | 90 => 4#32
  | 91 => 4#32
  | 92 => 5#32
  | 93 => 5#32
  | 94 => 3#32
  | 95 => 3#32
  | 96 => 5#32
  | 97 => 5#32
  | 98 => 4#32
  | 99 => 3#32
  | 100 => 4#32
  | 101 => 5#32
  | 102 => 4#32
  | 103 => 4#32
  | 104 => 5#32
  | 105 => 4#32
  | 106 => 3#32
  | 107 => 4#32
  | 108 => 5#32
  | 109 => 4#32
  | 110 => 5#32
  | 111 => 3#32
  | 112 => 3#32
  | 113 => 5#32
  | 114 => 3#32
  | 115 => 3#32
  | 116 => 3#32
  | 117 => 4#32
  | 118 => 5#32
  | 119 => 5#32
  | 120 => 4#32
  | 121 => 3#32
  | 122 => 3#32
  | 123 => 3#32
  | 124 => 5#32
  | 125 => 3#32
  | 126 => 4#32
  | 127 => 3#32
  | _ => 0#32

noncomputable abbrev lit2t0_42 (i : Nat) : BitVec 32 := match i % 128 with
  | 0 => 5#32
  | 1 => 4#32
  | 2 => 5#32
  | 3 => 4#32
  | 4 => 3#32
  | 5 => 3#32
  | 6 => 5#32
  | 7 => 5#32
  | 8 => 3#32
  | 9 => 3#32
  | 10 => 4#32
  | 11 => 3#32
  | 12 => 4#32
  | 13 => 3#32
  | 14 => 4#32
  | 15 => 3#32
  | 16 => 3#32
  | 17 => 4#32
  | 18 => 3#32
  | 19 => 3#32
  | 20 => 4#32
  | 21 => 4#32
  | 22 => 3#32
  | 23 => 4#32
  | 24 => 3#32
  | 25 => 3#32
  | 26 => 4#32
  | 27 => 3#32
  | 28 => 5#32
  | 29 => 3#32
  | 30 => 4#32
  | 31 => 4#32
  | 32 => 4#32
  | 33 => 4#32
  | 34 => 5#32
  | 35 => 3#32
  | 36 => 4#32
  | 37 => 3#32
  | 38 => 3#32
  | 39 => 5#32
  | 40 => 4#32
  | 41 => 3#32
  | 42 => 5#32
  | 43 => 4#32
  | 44 => 4#32
  | 45 => 3#32
  | 46 => 5#32
  | 47 => 3#32
  | 48 => 3#32
  | 49 => 5#32
  | 50 => 5#32
  | 51 => 3#32
  | 52 => 5#32
  | 53 => 4#32
  | 54 => 3#32
  | 55 => 4#32
  | 56 => 4#32
  | 57 => 4#32
  | 58 => 4#32
  | 59 => 5#32
  | 60 => 5#32
  | 61 => 4#32
  | 62 => 4#32
  | 63 => 5#32
  | 64 => 3#32
  | 65 => 4#32
  | 66 => 3#32
  | 67 => 5#32
  | 68 => 3#32
  | 69 => 4#32
  | 70 => 3#32
  | 71 => 4#32
  | 72 => 5#32
  | 73 => 5#32
  | 74 => 3#32
  | 75 => 4#32
  | 76 => 5#32
  | 77 => 5#32
  | 78 => 3#32
  | 79 => 3#32
  | 80 => 4#32
  | 81 => 3#32
  | 82 => 4#32
  | 83 => 5#32
  | 84 => 4#32
  | 85 => 3#32
  | 86 => 4#32
  | 87 => 3#32
  | 88 => 3#32
  | 89 => 4#32
  | 90 => 4#32
  | 91 => 5#32
  | 92 => 5#32
  | 93 => 3#32
  | 94 => 4#32
  | 95 => 3#32
  | 96 => 5#32
  | 97 => 4#32
  | 98 => 3#32
  | 99 => 5#32
  | 100 => 4#32
  | 101 => 3#32
  | 102 => 5#32
  | 103 => 4#32
  | 104 => 5#32
  | 105 => 5#32
  | 106 => 3#32
  | 107 => 4#32
  | 108 => 5#32
  | 109 => 5#32
  | 110 => 5#32
  | 111 => 4#32
  | 112 => 3#32
  | 113 => 5#32
  | 114 => 4#32
  | 115 => 3#32
  | 116 => 4#32
  | 117 => 3#32
  | 118 => 3#32
  | 119 => 4#32
  | 120 => 4#32
  | 121 => 4#32
  | 122 => 5#32
  | 123 => 4#32
  | 124 => 3#32
  | 125 => 4#32
  | 126 => 5#32
  | 127 => 3#32
  | _ => 0#32

noncomputable abbrev lit2t0_43 (i : Nat) : BitVec 32 := match i % 128 with
  | 0 => 5#32
  | 1 => 4#32
  | 2 => 5#32
  | 3 => 5#32
  | 4 => 5#32
  | 5 => 3#32
  | 6 => 5#32
  | 7 => 4#32
  | 8 => 3#32
  | 9 => 5#32
  | 10 => 4#32
  | 11 => 3#32
  | 12 => 5#32
  | 13 => 5#32
  | 14 => 5#32
  | 15 => 3#32
  | 16 => 4#32
  | 17 => 3#32
  | 18 => 5#32
  | 19 => 3#32
  | 20 => 3#32
  | 21 => 4#32
  | 22 => 3#32
  | 23 => 5#32
  | 24 => 4#32
  | 25 => 3#32
  | 26 => 3#32
  | 27 => 5#32
  | 28 => 4#32
  | 29 => 4#32
  | 30 => 5#32
  | 31 => 4#32
  | 32 => 4#32
  | 33 => 3#32
  | 34 => 5#32
  | 35 => 5#32
  | 36 => 3#32
  | 37 => 3#32
  | 38 => 4#32
  | 39 => 5#32
  | 40 => 5#32
  | 41 => 4#32
  | 42 => 4#32
  | 43 => 3#32
  | 44 => 3#32
  | 45 => 5#32
  | 46 => 4#32
  | 47 => 5#32
  | 48 => 3#32
  | 49 => 5#32
  | 50 => 5#32
  | 51 => 3#32
  | 52 => 3#32
  | 53 => 3#32
  | 54 => 3#32
  | 55 => 3#32
  | 56 => 3#32
  | 57 => 3#32
  | 58 => 5#32
  | 59 => 3#32
  | 60 => 3#32
  | 61 => 3#32
  | 62 => 5#32
  | 63 => 3#32
  | 64 => 3#32
  | 65 => 5#32
  | 66 => 3#32
  | 67 => 4#32
  | 68 => 5#32
  | 69 => 4#32
  | 70 => 3#32
  | 71 => 4#32
  | 72 => 3#32
  | 73 => 5#32
  | 74 => 5#32
  | 75 => 4#32
  | 76 => 4#32
  | 77 => 5#32
  | 78 => 5#32
  | 79 => 4#32
  | 80 => 4#32
  | 81 => 3#32
  | 82 => 3#32
  | 83 => 4#32
  | 84 => 5#32
  | 85 => 3#32
  | 86 => 3#32
  | 87 => 3#32
  | 88 => 3#32
  | 89 => 4#32
  | 90 => 4#32
  | 91 => 5#32
  | 92 => 4#32
  | 93 => 5#32
  | 94 => 3#32
  | 95 => 3#32
  | 96 => 3#32
  | 97 => 4#32
  | 98 => 4#32
  | 99 => 3#32
  | 100 => 4#32
  | 101 => 4#32
  | 102 => 5#32
  | 103 => 4#32
  | 104 => 4#32
  | 105 => 5#32
  | 106 => 3#32
  | 107 => 3#32
  | 108 => 4#32
  | 109 => 4#32
  | 110 => 3#32
  | 111 => 5#32
  | 112 => 3#32
  | 113 => 4#32
  | 114 => 3#32
  | 115 => 4#32
  | 116 => 5#32
  | 117 => 5#32
  | 118 => 3#32
  | 119 => 5#32
  | 120 => 4#32
  | 121 => 5#32
  | 122 => 4#32
  | 123 => 5#32
  | 124 => 5#32
  | 125 => 4#32
  | 126 => 3#32
  | 127 => 3#32
  | _ => 0#32

noncomputable abbrev lit2t0_44 (i : Nat) : BitVec 32 := match i % 128 with
  | 0 => 4#32
  | 1 => 3#32
  | 2 => 3#32
  | 3 => 5#32
  | 4 => 3#32
  | 5 => 3#32
  | 6 => 5#32
  | 7 => 5#32
  | 8 => 3#32
  | 9 => 4#32
  | 10 => 5#32
  | 11 => 4#32
  | 12 => 3#32
  | 13 => 3#32
  | 14 => 3#32
  | 15 => 3#32
  | 16 => 4#32
  | 17 => 5#32
  | 18 => 3#32
  | 19 => 4#32
  | 20 => 5#32
  | 21 => 5#32
  | 22 => 4#32
  | 23 => 4#32
  | 24 => 5#32
  | 25 => 5#32
  | 26 => 4#32
  | 27 => 3#32
  | 28 => 3#32
  | 29 => 5#32
  | 30 => 3#32
  | 31 => 5#32
  | 32 => 5#32
  | 33 => 4#32
  | 34 => 3#32
  | 35 => 3#32
  | 36 => 4#32
  | 37 => 4#32
  | 38 => 3#32
  | 39 => 3#32
  | 40 => 5#32
  | 41 => 5#32
  | 42 => 3#32
  | 43 => 5#32
  | 44 => 4#32
  | 45 => 5#32
  | 46 => 3#32
  | 47 => 4#32
  | 48 => 3#32
  | 49 => 5#32
  | 50 => 5#32
  | 51 => 3#32
  | 52 => 4#32
  | 53 => 4#32
  | 54 => 4#32
  | 55 => 4#32
  | 56 => 4#32
  | 57 => 5#32
  | 58 => 5#32
  | 59 => 4#32
  | 60 => 5#32
  | 61 => 4#32
  | 62 => 5#32
  | 63 => 5#32
  | 64 => 3#32
  | 65 => 5#32
  | 66 => 5#32
  | 67 => 5#32
  | 68 => 4#32
  | 69 => 4#32
  | 70 => 4#32
  | 71 => 5#32
  | 72 => 3#32
  | 73 => 4#32
  | 74 => 4#32
  | 75 => 4#32
  | 76 => 3#32
  | 77 => 5#32
  | 78 => 4#32
  | 79 => 3#32
  | 80 => 4#32
  | 81 => 5#32
  | 82 => 3#32
  | 83 => 5#32
  | 84 => 3#32
  | 85 => 5#32
  | 86 => 3#32
  | 87 => 3#32
  | 88 => 3#32
  | 89 => 4#32
  | 90 => 3#32
  | 91 => 5#32
  | 92 => 4#32
  | 93 => 3#32
  | 94 => 5#32
  | 95 => 5#32
  | 96 => 5#32
  | 97 => 5#32
  | 98 => 3#32
  | 99 => 4#32
  | 100 => 4#32
  | 101 => 4#32
  | 102 => 3#32
  | 103 => 5#32
  | 104 => 3#32
  | 105 => 4#32
  | 106 => 5#32
  | 107 => 4#32
  | 108 => 4#32
  | 109 => 4#32
  | 110 => 4#32
  | 111 => 4#32
  | 112 => 3#32
  | 113 => 5#32
  | 114 => 5#32
  | 115 => 4#32
  | 116 => 5#32
  | 117 => 4#32
  | 118 => 5#32
  | 119 => 3#32
  | 120 => 3#32
  | 121 => 4#32
  | 122 => 4#32
  | 123 => 3#32
  | 124 => 4#32
  | 125 => 4#32
  | 126 => 3#32
  | 127 => 5#32
  | _ => 0#32

noncomputable abbrev lit2t0_45 (i : Nat) : BitVec 32 := match i % 128 with
  | 0 => 3#32
  | 1 => 4#32
  | 2 => 5#32
  | 3 => 3#32
  | 4 => 5#32
  | 5 => 5#32
  | 6 => 5#32
  | 7 => 4#32
  | 8 => 5#32
  | 9 => 4#32
  | 10 => 3#32
  | 11 => 5#32
  | 12 => 3#32
  | 13 => 5#32
  | 14 => 4#32
  | 15 => 4#32
  | 16 => 3#32
  | 17 => 5#32
  | 18 => 4#32
  | 19 => 3#32
  | 20 => 3#32
  | 21 => 3#32
  | 22 => 3#32
  | 23 => 4#32
  | 24 => 4#32
  | 25 => 4#32
  | 26 => 4#32
  | 27 => 4#32
  | 28 => 3#32
  | 29 => 5#32
  | 30 => 5#32
  | 31 => 4#32
  | 32 => 5#32
  | 33 => 5#32
  | 34 => 5#32
  | 35 => 3#32
  | 36 => 3#32
  | 37 => 5#32
  | 38 => 4#32
  | 39 => 5#32
  | 40 => 5#32
  | 41 => 3#32
  | 42 => 4#32
  | 43 => 4#32
  | 44 => 5#32
  | 45 => 5#32
  | 46 => 5#32
  | 47 => 4#32
  | 48 => 4#32
  | 49 => 4#32
  | 50 => 3#32
  | 51 => 5#32
  | 52 => 3#32
  | 53 => 5#32
  | 54 => 5#32
  | 55 => 4#32
  | 56 => 5#32
  | 57 => 5#32
  | 58 => 3#32
  | 59 => 5#32
  | 60 => 4#32
  | 61 => 3#32
  | 62 => 4#32
  | 63 => 5#32
  | 64 => 4#32
  | 65 => 5#32
  | 66 => 3#32
  | 67 => 5#32
  | 68 => 3#32
  | 69 => 4#32
  | 70 => 5#32
  | 71 => 3#32
  | 72 => 5#32
  | 73 => 3#32
  | 74 => 3#32
  | 75 => 5#32
  | 76 => 5#32
  | 77 => 4#32
  | 78 => 5#32
  | 79 => 5#32
  | 80 => 4#32
  | 81 => 4#32
  | 82 => 4#32
  | 83 => 3#32
  | 84 => 5#32
  | 85 => 4#32
  | 86 => 3#32
  | 87 => 5#32
  | 88 => 5#32
  | 89 => 5#32
  | 90 => 4#32
  | 91 => 4#32
  | 92 => 4#32
  | 93 => 5#32
  | 94 => 5#32
  | 95 => 3#32
  | 96 => 5#32
  | 97 => 4#32
  | 98 => 5#32
  | 99 => 3#32
  | 100 => 5#32
  | 101 => 5#32
  | 102 => 5#32
  | 103 => 5#32
  | 104 => 4#32
  | 105 => 4#32
  | 106 => 5#32
  | 107 => 5#32
  | 108 => 4#32
  | 109 => 3#32
  | 110 => 4#32
  | 111 => 4#32
  | 112 => 5#32
  | 113 => 3#32
  | 114 => 4#32
  | 115 => 5#32
  | 116 => 3#32
  | 117 => 3#32
  | 118 => 3#32
  | 119 => 4#32
  | 120 => 5#32
  | 121 => 3#32
  | 122 => 3#32
  | 123 => 5#32
  | 124 => 5#32
  | 125 => 4#32
  | 126 => 3#32
  | 127 => 5#32
  | _ => 0#32

noncomputable abbrev lit2t0_46 (i : Nat) : BitVec 32 := match i % 128 with
  | 0 => 4#32
  | 1 => 5#32
  | 2 => 5#32
  | 3 => 5#32
  | 4 => 3#32
  | 5 => 3#32
  | 6 => 3#32
  | 7 => 3#32
  | 8 => 3#32
  | 9 => 4#32
  | 10 => 4#32
  | 11 => 3#32
  | 12 => 3#32
  | 13 => 3#32
  | 14 => 4#32
  | 15 => 4#32
  | 16 => 3#32
  | 17 => 3#32
  | 18 => 4#32
  | 19 => 3#32
  | 20 => 5#32
  | 21 => 4#32
  | 22 => 5#32
  | 23 => 5#32
  | 24 => 3#32
  | 25 => 3#32
  | 26 => 3#32
  | 27 => 5#32
  | 28 => 3#32
  | 29 => 4#32
  | 30 => 3#32
  | 31 => 4#32
  | 32 => 3#32
  | 33 => 4#32
  | 34 => 4#32
  | 35 => 4#32
  | 36 => 5#32
  | 37 => 4#32
  | 38 => 5#32
  | 39 => 3#32
  | 40 => 3#32
  | 41 => 4#32
  | 42 => 4#32
  | 43 => 5#32
  | 44 => 3#32
  | 45 => 3#32
  | 46 => 4#32
  | 47 => 5#32
  | 48 => 3#32
  | 49 => 3#32
  | 50 => 5#32
  | 51 => 5#32
  | 52 => 4#32
  | 53 => 4#32
  | 54 => 5#32
  | 55 => 3#32
  | 56 => 3#32
  | 57 => 5#32
  | 58 => 4#32
  | 59 => 5#32
  | 60 => 3#32
  | 61 => 4#32
  | 62 => 5#32
  | 63 => 4#32
  | 64 => 4#32
  | 65 => 5#32
  | 66 => 5#32
  | 67 => 3#32
  | 68 => 5#32
  | 69 => 4#32
  | 70 => 4#32
  | 71 => 4#32
  | 72 => 5#32
  | 73 => 3#32
  | 74 => 4#32
  | 75 => 4#32
  | 76 => 5#32
  | 77 => 4#32
  | 78 => 5#32
  | 79 => 3#32
  | 80 => 4#32
  | 81 => 3#32
  | 82 => 5#32
  | 83 => 5#32
  | 84 => 4#32
  | 85 => 3#32
  | 86 => 3#32
  | 87 => 3#32
  | 88 => 5#32
  | 89 => 5#32
  | 90 => 3#32
  | 91 => 5#32
  | 92 => 5#32
  | 93 => 4#32
  | 94 => 4#32
  | 95 => 3#32
  | 96 => 5#32
  | 97 => 4#32
  | 98 => 5#32
  | 99 => 4#32
  | 100 => 5#32
  | 101 => 5#32
  | 102 => 5#32
  | 103 => 3#32
  | 104 => 3#32
  | 105 => 5#32
  | 106 => 3#32
  | 107 => 3#32
  | 108 => 3#32
  | 109 => 3#32
  | 110 => 3#32
  | 111 => 3#32
  | 112 => 5#32
  | 113 => 3#32
  | 114 => 4#32
  | 115 => 5#32
  | 116 => 5#32
  | 117 => 3#32
  | 118 => 5#32
  | 119 => 4#32
  | 120 => 3#32
  | 121 => 3#32
  | 122 => 3#32
  | 123 => 5#32
  | 124 => 4#32
  | 125 => 5#32
  | 126 => 3#32
  | 127 => 3#32
  | _ => 0#32

noncomputable abbrev lit2t0_47 (i : Nat) : BitVec 32 := match i % 128 with
  | 0 => 5#32
  | 1 => 3#32
  | 2 => 3#32
  | 3 => 4#32
  | 4 => 3#32
  | 5 => 4#32
  | 6 => 3#32
  | 7 => 3#32
  | 8 => 4#32
  | 9 => 4#32
  | 10 => 3#32
  | 11 => 5#32
  | 12 => 5#32
  | 13 => 4#32
  | 14 => 3#32
  | 15 => 3#32
  | 16 => 4#32
  | 17 => 4#32
  | 18 => 3#32
  | 19 => 4#32
  | 20 => 4#32
  | 21 => 3#32
  | 22 => 5#32
  | 23 => 5#32
  | 24 => 4#32
  | 25 => 4#32
  | 26 => 5#32
  | 27 => 4#32
  | 28 => 3#32
  | 29 => 4#32
  | 30 => 4#32
  | 31 => 4#32
  | 32 => 5#32
  | 33 => 3#32
  | 34 => 3#32
  | 35 => 5#32
  | 36 => 3#32
  | 37 => 3#32
  | 38 => 3#32
  | 39 => 3#32
  | 40 => 4#32
  | 41 => 4#32
  | 42 => 3#32
  | 43 => 5#32
  | 44 => 3#32
  | 45 => 4#32
  | 46 => 5#32
  | 47 => 3#32
  | 48 => 5#32
  | 49 => 5#32
  | 50 => 4#32
  | 51 => 3#32
  | 52 => 5#32
  | 53 => 3#32
  | 54 => 4#32
  | 55 => 5#32
  | 56 => 4#32
  | 57 => 5#32
  | 58 => 4#32
  | 59 => 5#32
  | 60 => 3#32
  | 61 => 3#32
  | 62 => 3#32
  | 63 => 4#32
  | 64 => 4#32
  | 65 => 3#32
  | 66 => 3#32
  | 67 => 3#32
  | 68 => 4#32
  | 69 => 3#32
  | 70 => 5#32
  | 71 => 5#32
  | 72 => 4#32
  | 73 => 3#32
  | 74 => 4#32
  | 75 => 5#32
  | 76 => 4#32
  | 77 => 4#32
  | 78 => 3#32
  | 79 => 4#32
  | 80 => 3#32
  | 81 => 5#32
  | 82 => 3#32
  | 83 => 5#32
  | 84 => 4#32
  | 85 => 5#32
  | 86 => 5#32
  | 87 => 3#32
  | 88 => 3#32
  | 89 => 4#32
  | 90 => 5#32
  | 91 => 4#32
  | 92 => 4#32
  | 93 => 3#32
  | 94 => 4#32
  | 95 => 5#32
  | 96 => 4#32
  | 97 => 4#32
  | 98 => 4#32
  | 99 => 4#32
  | 100 => 5#32
  | 101 => 5#32
  | 102 => 3#32
  | 103 => 5#32
  | 104 => 5#32
  | 105 => 5#32
  | 106 => 4#32
  | 107 => 3#32
  | 108 => 3#32
  | 109 => 4#32
  | 110 => 3#32
  | 111 => 5#32
  | 112 => 5#32
  | 113 => 4#32
  | 114 => 3#32
  | 115 => 4#32
  | 116 => 4#32
  | 117 => 3#32
  | 118 => 4#32
  | 119 => 5#32
  | 120 => 4#32
  | 121 => 3#32
  | 122 => 4#32
  | 123 => 3#32
  | 124 => 3#32
  | 125 => 5#32
  | 126 => 5#32
  | 127 => 3#32
  | _ => 0#32

noncomputable abbrev lit2t0_48 (i : Nat) : BitVec 32 := match i % 128 with
  | 0 => 3#32
  | 1 => 4#32
  | 2 => 5#32
  | 3 => 3#32
  | 4 => 5#32
  | 5 => 4#32
  | 6 => 3#32
  | 7 => 5#32
  | 8 => 5#32
  | 9 => 5#32
  | 10 => 5#32
  | 11 => 5#32
  | 12 => 3#32
  | 13 => 3#32
  | 14 => 5#32
  | 15 => 3#32
  | 16 => 4#32
  | 17 => 5#32
  | 18 => 3#32
  | 19 => 4#32
  | 20 => 4#32
  | 21 => 5#32
  | 22 => 4#32
  | 23 => 4#32
  | 24 => 4#32
  | 25 => 4#32
  | 26 => 4#32
  | 27 => 3#32
  | 28 => 4#32
  | 29 => 4#32
  | 30 => 3#32
  | 31 => 4#32
  | 32 => 4#32
  | 33 => 3#32
  | 34 => 4#32
  | 35 => 4#32
  | 36 => 3#32
  | 37 => 4#32
  | 38 => 3#32
  | 39 => 3#32
  | 40 => 3#32
  | 41 => 5#32
  | 42 => 3#32
  | 43 => 4#32
  | 44 => 4#32
  | 45 => 4#32
  | 46 => 5#32
  | 47 => 4#32
  | 48 => 4#32
  | 49 => 4#32
  | 50 => 3#32
  | 51 => 3#32
  | 52 => 3#32
  | 53 => 3#32
  | 54 => 3#32
  | 55 => 5#32
  | 56 => 5#32
  | 57 => 3#32
  | 58 => 3#32
  | 59 => 3#32
  | 60 => 5#32
  | 61 => 4#32
  | 62 => 3#32
  | 63 => 3#32
  | 64 => 3#32
  | 65 => 3#32
  | 66 => 4#32
  | 67 => 5#32
  | 68 => 5#32
  | 69 => 5#32
  | 70 => 5#32
  | 71 => 4#32
  | 72 => 3#32
  | 73 => 3#32
  | 74 => 4#32
  | 75 => 4#32
  | 76 => 4#32
  | 77 => 5#32
  | 78 => 5#32
  | 79 => 3#32
  | 80 => 3#32
  | 81 => 3#32
  | 82 => 5#32
  | 83 => 3#32
  | 84 => 4#32
  | 85 => 5#32
  | 86 => 4#32
  | 87 => 5#32
  | 88 => 5#32
  | 89 => 5#32
  | 90 => 5#32
  | 91 => 4#32
  | 92 => 4#32
  | 93 => 5#32
  | 94 => 4#32
  | 95 => 4#32
  | 96 => 3#32
  | 97 => 4#32
  | 98 => 4#32
  | 99 => 4#32
  | 100 => 4#32
  | 101 => 3#32
  | 102 => 5#32
  | 103 => 5#32
  | 104 => 4#32
  | 105 => 5#32
  | 106 => 5#32
  | 107 => 3#32
  | 108 => 3#32
  | 109 => 4#32
  | 110 => 3#32
  | 111 => 3#32
  | 112 => 4#32
  | 113 => 3#32
  | 114 => 5#32
  | 115 => 3#32
  | 116 => 4#32
  | 117 => 4#32
  | 118 => 5#32
  | 119 => 3#32
  | 120 => 5#32
  | 121 => 5#32
  | 122 => 5#32
  | 123 => 4#32
  | 124 => 3#32
  | 125 => 5#32
  | 126 => 3#32
  | 127 => 5#32
  | _ => 0#32

noncomputable abbrev lit2t0_49 (i : Nat) : BitVec 32 := match i % 128 with
  | 0 => 3#32
  | 1 => 3#32
  | 2 => 3#32
  | 3 => 3#32
  | 4 => 3#32
  | 5 => 4#32
  | 6 => 5#32
  | 7 => 4#32
  | 8 => 5#32
  | 9 => 3#32
  | 10 => 4#32
  | 11 => 5#32
  | 12 => 3#32
  | 13 => 3#32
  | 14 => 4#32
  | 15 => 5#32
  | 16 => 5#32
  | 17 => 4#32
  | 18 => 5#32
  | 19 => 4#32
  | 20 => 4#32
  | 21 => 4#32
  | 22 => 5#32
  | 23 => 4#32
  | 24 => 3#32
  | 25 => 3#32
  | 26 => 5#32
  | 27 => 4#32
  | 28 => 4#32
  | 29 => 4#32
  | 30 => 4#32
  | 31 => 5#32
  | 32 => 5#32
  | 33 => 4#32
  | 34 => 5#32
  | 35 => 3#32
  | 36 => 5#32
  | 37 => 3#32
  | 38 => 4#32
  | 39 => 3#32
  | 40 => 5#32
  | 41 => 3#32
  | 42 => 3#32
  | 43 => 5#32
  | 44 => 3#32
  | 45 => 3#32
  | 46 => 3#32
  | 47 => 4#32
  | 48 => 4#32
  | 49 => 5#32
  | 50 => 4#32
  | 51 => 3#32
  | 52 => 4#32
  | 53 => 5#32
  | 54 => 3#32
  | 55 => 3#32
  | 56 => 5#32
  | 57 => 5#32
  | 58 => 3#32
  | 59 => 5#32
  | 60 => 5#32
  | 61 => 5#32
  | 62 => 5#32
  | 63 => 4#32
  | 64 => 4#32
  | 65 => 3#32
  | 66 => 5#32
  | 67 => 4#32
  | 68 => 4#32
  | 69 => 4#32
  | 70 => 5#32
  | 71 => 5#32
  | 72 => 3#32
  | 73 => 3#32
  | 74 => 5#32
  | 75 => 4#32
  | 76 => 4#32
  | 77 => 3#32
  | 78 => 5#32
  | 79 => 4#32
  | 80 => 4#32
  | 81 => 3#32
  | 82 => 4#32
  | 83 => 3#32
  | 84 => 4#32
  | 85 => 3#32
  | 86 => 4#32
  | 87 => 5#32
  | 88 => 5#32
  | 89 => 5#32
  | 90 => 4#32
  | 91 => 4#32
  | 92 => 3#32
  | 93 => 5#32
  | 94 => 4#32
  | 95 => 4#32
  | 96 => 5#32
  | 97 => 4#32
  | 98 => 4#32
  | 99 => 4#32
  | 100 => 3#32
  | 101 => 3#32
  | 102 => 3#32
  | 103 => 5#32
  | 104 => 4#32
  | 105 => 4#32
  | 106 => 3#32
  | 107 => 5#32
  | 108 => 3#32
  | 109 => 4#32
  | 110 => 5#32
  | 111 => 5#32
  | 112 => 4#32
  | 113 => 4#32
  | 114 => 3#32
  | 115 => 3#32
  | 116 => 3#32
  | 117 => 4#32
  | 118 => 4#32
  | 119 => 5#32
  | 120 => 4#32
  | 121 => 3#32
  | 122 => 4#32
  | 123 => 3#32
  | 124 => 3#32
  | 125 => 5#32
  | 126 => 4#32
  | 127 => 4#32
  | _ => 0#32

noncomputable abbrev lit2t0_50 (i : Nat) : BitVec 32 := match i % 128 with
  | 0 => 3#32
  | 1 => 4#32
  | 2 => 4#32
  | 3 => 4#32
  | 4 => 4#32
  | 5 => 4#32
  | 6 => 3#32
  | 7 => 5#32
  | 8 => 3#32
  | 9 => 4#32
  | 10 => 3#32
  | 11 => 4#32
  | 12 => 4#32
  | 13 => 3#32
  | 14 => 5#32
  | 15 => 5#32
  | 16 => 3#32
  | 17 => 5#32
  | 18 => 3#32
  | 19 => 4#32
  | 20 => 3#32
  | 21 => 3#32
  | 22 => 5#32
  | 23 => 4#32
  | 24 => 4#32
  | 25 => 3#32
  | 26 => 4#32
  | 27 => 4#32
  | 28 => 3#32
  | 29 => 4#32
  | 30 => 3#32
  | 31 => 4#32
  | 32 => 3#32
  | 33 => 4#32
  | 34 => 3#32
  | 35 => 5#32
  | 36 => 3#32
  | 37 => 3#32
  | 38 => 5#32
  | 39 => 4#32
  | 40 => 5#32
  | 41 => 3#32
  | 42 => 3#32
  | 43 => 5#32
  | 44 => 4#32
  | 45 => 4#32
  | 46 => 5#32
  | 47 => 5#32
  | 48 => 5#32
  | 49 => 4#32
  | 50 => 5#32
  | 51 => 4#32
  | 52 => 3#32
  | 53 => 4#32
  | 54 => 4#32
  | 55 => 4#32
  | 56 => 4#32
  | 57 => 4#32
  | 58 => 4#32
  | 59 => 4#32
  | 60 => 5#32
  | 61 => 4#32
  | 62 => 3#32
  | 63 => 5#32
  | 64 => 3#32
  | 65 => 5#32
  | 66 => 4#32
  | 67 => 4#32
  | 68 => 3#32
  | 69 => 5#32
  | 70 => 5#32
  | 71 => 4#32
  | 72 => 4#32
  | 73 => 3#32
  | 74 => 3#32
  | 75 => 5#32
  | 76 => 5#32
  | 77 => 3#32
  | 78 => 5#32
  | 79 => 4#32
  | 80 => 5#32
  | 81 => 5#32
  | 82 => 3#32
  | 83 => 5#32
  | 84 => 5#32
  | 85 => 3#32
  | 86 => 4#32
  | 87 => 3#32
  | 88 => 5#32
  | 89 => 5#32
  | 90 => 3#32
  | 91 => 3#32
  | 92 => 4#32
  | 93 => 5#32
  | 94 => 5#32
  | 95 => 4#32
  | 96 => 4#32
  | 97 => 4#32
  | 98 => 3#32
  | 99 => 4#32
  | 100 => 3#32
  | 101 => 4#32
  | 102 => 5#32
  | 103 => 4#32
  | 104 => 3#32
  | 105 => 5#32
  | 106 => 5#32
  | 107 => 3#32
  | 108 => 3#32
  | 109 => 5#32
  | 110 => 3#32
  | 111 => 3#32
  | 112 => 5#32
  | 113 => 4#32
  | 114 => 4#32
  | 115 => 5#32
  | 116 => 4#32
  | 117 => 5#32
  | 118 => 3#32
  | 119 => 4#32
  | 120 => 3#32
  | 121 => 4#32
  | 122 => 3#32
  | 123 => 5#32
  | 124 => 4#32
  | 125 => 4#32
  | 126 => 3#32
  | 127 => 3#32
  | _ => 0#32

noncomputable abbrev lit2t0_51 (i : Nat) : BitVec 32 := match i % 128 with
  | 0 => 4#32
  | 1 => 5#32
  | 2 => 4#32
  | 3 => 4#32
  | 4 => 3#32
  | 5 => 3#32
  | 6 => 3#32
  | 7 => 3#32
  | 8 => 3#32
  | 9 => 3#32
  | 10 => 3#32
  | 11 => 4#32
  | 12 => 4#32
  | 13 => 3#32
  | 14 => 5#32
  | 15 => 5#32
  | 16 => 5#32
  | 17 => 4#32
  | 18 => 5#32
  | 19 => 5#32
  | 20 => 4#32
  | 21 => 3#32
  | 22 => 4#32
  | 23 => 5#32
  | 24 => 4#32
  | 25 => 3#32
  | 26 => 3#32
  | 27 => 3#32
  | 28 => 5#32
  | 29 => 4#32
  | 30 => 5#32
  | 31 => 4#32
  | 32 => 3#32
  | 33 => 3#32
  | 34 => 5#32
  | 35 => 4#32
  | 36 => 4#32
  | 37 => 3#32
  | 38 => 3#32
  | 39 => 4#32
  | 40 => 5#32
  | 41 => 4#32
  | 42 => 5#32
  | 43 => 5#32
  | 44 => 5#32
  | 45 => 5#32
  | 46 => 5#32
  | 47 => 5#32
  | 48 => 4#32
  | 49 => 5#32
  | 50 => 3#32
  | 51 => 4#32
  | 52 => 5#32
  | 53 => 4#32
  | 54 => 3#32
  | 55 => 3#32
  | 56 => 3#32
  | 57 => 4#32
  | 58 => 3#32
  | 59 => 4#32
  | 60 => 4#32
  | 61 => 4#32
  | 62 => 5#32
  | 63 => 5#32
  | 64 => 3#32
  | 65 => 3#32
  | 66 => 4#32
  | 67 => 3#32
  | 68 => 3#32
  | 69 => 4#32
  | 70 => 4#32
  | 71 => 5#32
  | 72 => 3#32
  | 73 => 4#32
  | 74 => 5#32
  | 75 => 5#32
  | 76 => 3#32
  | 77 => 3#32
  | 78 => 3#32
  | 79 => 3#32
  | 80 => 3#32
  | 81 => 3#32
  | 82 => 4#32
  | 83 => 5#32
  | 84 => 5#32
  | 85 => 5#32
  | 86 => 3#32
  | 87 => 4#32
  | 88 => 5#32
  | 89 => 4#32
  | 90 => 4#32
  | 91 => 3#32
  | 92 => 3#32
  | 93 => 5#32
  | 94 => 5#32
  | 95 => 5#32
  | 96 => 4#32
  | 97 => 3#32
  | 98 => 3#32
  | 99 => 5#32
  | 100 => 4#32
  | 101 => 4#32
  | 102 => 4#32
  | 103 => 5#32
  | 104 => 3#32
  | 105 => 4#32
  | 106 => 4#32
  | 107 => 4#32
  | 108 => 3#32
  | 109 => 4#32
  | 110 => 3#32
  | 111 => 3#32
  | 112 => 5#32
  | 113 => 3#32
  | 114 => 4#32
  | 115 => 3#32
  | 116 => 3#32
  | 117 => 3#32
  | 118 => 5#32
  | 119 => 4#32
  | 120 => 4#32
  | 121 => 3#32
  | 122 => 5#32
  | 123 => 3#32
  | 124 => 4#32
  | 125 => 5#32
  | 126 => 4#32
  | 127 => 3#32
  | _ => 0#32

noncomputable abbrev lit2t0_52 (i : Nat) : BitVec 32 := match i % 128 with
  | 0 => 4#32
  | 1 => 4#32
  | 2 => 3#32
  | 3 => 4#32
  | 4 => 3#32
  | 5 => 5#32
  | 6 => 4#32
  | 7 => 5#32
  | 8 => 3#32
  | 9 => 3#32
  | 10 => 4#32
  | 11 => 4#32
  | 12 => 3#32
  | 13 => 4#32
  | 14 => 3#32
  | 15 => 4#32
  | 16 => 5#32
  | 17 => 3#32
  | 18 => 3#32
  | 19 => 4#32
  | 20 => 4#32
  | 21 => 5#32
  | 22 => 4#32
  | 23 => 4#32
  | 24 => 4#32
  | 25 => 4#32
  | 26 => 4#32
  | 27 => 5#32
  | 28 => 3#32
  | 29 => 5#32
  | 30 => 4#32
  | 31 => 5#32
  | 32 => 3#32
  | 33 => 5#32
  | 34 => 5#32
  | 35 => 5#32
  | 36 => 3#32
  | 37 => 3#32
  | 38 => 4#32
  | 39 => 4#32
  | 40 => 3#32
  | 41 => 3#32
  | 42 => 4#32
  | 43 => 3#32
  | 44 => 3#32
  | 45 => 3#32
  | 46 => 4#32
  | 47 => 5#32
  | 48 => 3#32
  | 49 => 5#32
  | 50 => 4#32
  | 51 => 4#32
  | 52 => 5#32
  | 53 => 3#32
  | 54 => 4#32
  | 55 => 4#32
  | 56 => 5#32
  | 57 => 5#32
  | 58 => 4#32
  | 59 => 4#32
  | 60 => 5#32
  | 61 => 3#32
  | 62 => 5#32
  | 63 => 4#32
  | 64 => 4#32
  | 65 => 3#32
  | 66 => 5#32
  | 67 => 3#32
  | 68 => 4#32
  | 69 => 5#32
  | 70 => 3#32
  | 71 => 5#32
  | 72 => 4#32
  | 73 => 3#32
  | 74 => 5#32
  | 75 => 4#32
  | 76 => 4#32
  | 77 => 4#32
  | 78 => 5#32
  | 79 => 5#32
  | 80 => 5#32
  | 81 => 4#32
  | 82 => 5#32
  | 83 => 5#32
  | 84 => 3#32
  | 85 => 5#32
  | 86 => 3#32
  | 87 => 5#32
  | 88 => 5#32
  | 89 => 3#32
  | 90 => 4#32
  | 91 => 3#32
  | 92 => 4#32
  | 93 => 5#32
  | 94 => 3#32
  | 95 => 5#32
  | 96 => 4#32
  | 97 => 5#32
  | 98 => 4#32
  | 99 => 3#32
  | 100 => 3#32
  | 101 => 4#32
  | 102 => 3#32
  | 103 => 4#32
  | 104 => 5#32
  | 105 => 4#32
  | 106 => 4#32
  | 107 => 3#32
  | 108 => 5#32
  | 109 => 3#32
  | 110 => 5#32
  | 111 => 5#32
  | 112 => 3#32
  | 113 => 5#32
  | 114 => 3#32
  | 115 => 3#32
  | 116 => 5#32
  | 117 => 3#32
  | 118 => 5#32
  | 119 => 5#32
  | 120 => 5#32
  | 121 => 3#32
  | 122 => 5#32
  | 123 => 3#32
  | 124 => 3#32
  | 125 => 5#32
  | 126 => 3#32
  | 127 => 5#32
  | _ => 0#32

noncomputable abbrev lit2t0_53 (i : Nat) : BitVec 32 := match i % 128 with
  | 0 => 5#32
  | 1 => 3#32
  | 2 => 5#32
  | 3 => 4#32
  | 4 => 4#32
  | 5 => 4#32
  | 6 => 5#32
  | 7 => 3#32
  | 8 => 4#32
  | 9 => 4#32
  | 10 => 4#32
  | 11 => 3#32
  | 12 => 5#32
  | 13 => 5#32
  | 14 => 4#32
  | 15 => 5#32
  | 16 => 5#32
  | 17 => 4#32
  | 18 => 3#32
  | 19 => 3#32
  | 20 => 4#32
  | 21 => 4#32
  | 22 => 4#32
  | 23 => 4#32
  | 24 => 3#32
  | 25 => 5#32
  | 26 => 3#32
  | 27 => 5#32
  | 28 => 3#32
  | 29 => 4#32
  | 30 => 3#32
  | 31 => 3#32
  | 32 => 3#32
  | 33 => 3#32
  | 34 => 3#32
  | 35 => 3#32
  | 36 => 3#32
  | 37 => 4#32
  | 38 => 4#32
  | 39 => 5#32
  | 40 => 3#32
  | 41 => 3#32
  | 42 => 3#32
  | 43 => 5#32
  | 44 => 3#32
  | 45 => 3#32
  | 46 => 5#32
  | 47 => 4#32
  | 48 => 3#32
  | 49 => 5#32
  | 50 => 4#32
  | 51 => 3#32
  | 52 => 4#32
  | 53 => 5#32
  | 54 => 4#32
  | 55 => 4#32
  | 56 => 4#32
  | 57 => 5#32
  | 58 => 3#32
  | 59 => 5#32
  | 60 => 4#32
  | 61 => 3#32
  | 62 => 4#32
  | 63 => 3#32
  | 64 => 5#32
  | 65 => 5#32
  | 66 => 3#32
  | 67 => 5#32
  | 68 => 4#32
  | 69 => 3#32
  | 70 => 5#32
  | 71 => 3#32
  | 72 => 4#32
  | 73 => 5#32
  | 74 => 3#32
  | 75 => 5#32
  | 76 => 3#32
  | 77 => 4#32
  | 78 => 3#32
  | 79 => 5#32
  | 80 => 4#32
  | 81 => 5#32
  | 82 => 5#32
  | 83 => 5#32
  | 84 => 4#32
  | 85 => 4#32
  | 86 => 3#32
  | 87 => 5#32
  | 88 => 5#32
  | 89 => 3#32
  | 90 => 5#32
  | 91 => 3#32
  | 92 => 4#32
  | 93 => 3#32
  | 94 => 3#32
  | 95 => 5#32
  | 96 => 5#32
  | 97 => 3#32
  | 98 => 3#32
  | 99 => 4#32
  | 100 => 5#32
  | 101 => 5#32
  | 102 => 3#32
  | 103 => 3#32
  | 104 => 3#32
  | 105 => 4#32
  | 106 => 5#32
  | 107 => 3#32
  | 108 => 4#32
  | 109 => 3#32
  | 110 => 3#32
  | 111 => 4#32
  | 112 => 5#32
  | 113 => 5#32
  | 114 => 3#32
  | 115 => 4#32
  | 116 => 3#32
  | 117 => 3#32
  | 118 => 3#32
  | 119 => 4#32
  | 120 => 4#32
  | 121 => 4#32
  | 122 => 5#32
  | 123 => 4#32
  | 124 => 5#32
  | 125 => 5#32
  | 126 => 5#32
  | 127 => 4#32
  | _ => 0#32

noncomputable abbrev lit2t0_54 (i : Nat) : BitVec 32 := match i % 128 with
  | 0 => 5#32
  | 1 => 3#32
  | 2 => 4#32
  | 3 => 3#32
  | 4 => 5#32
  | 5 => 3#32
  | 6 => 4#32
  | 7 => 4#32
  | 8 => 5#32
  | 9 => 5#32
  | 10 => 3#32
  | 11 => 4#32
  | 12 => 5#32
  | 13 => 4#32
  | 14 => 3#32
  | 15 => 5#32
  | 16 => 4#32
  | 17 => 3#32
  | 18 => 4#32
  | 19 => 5#32
  | 20 => 3#32
  | 21 => 4#32
  | 22 => 4#32
  | 23 => 5#32
  | 24 => 4#32
  | 25 => 5#32
  | 26 => 5#32
  | 27 => 5#32
  | 28 => 3#32
  | 29 => 3#32
  | 30 => 4#32
  | 31 => 3#32
  | 32 => 5#32
  | 33 => 4#32
  | 34 => 4#32
  | 35 => 3#32
  | 36 => 3#32
  | 37 => 4#32
  | 38 => 5#32
  | 39 => 5#32
  | 40 => 3#32
  | 41 => 5#32
  | 42 => 4#32
  | 43 => 3#32
  | 44 => 5#32
  | 45 => 3#32
  | 46 => 4#32
  | 47 => 5#32
  | 48 => 4#32
  | 49 => 3#32
  | 50 => 5#32
  | 51 => 5#32
  | 52 => 5#32
  | 53 => 5#32
  | 54 => 3#32
  | 55 => 3#32
  | 56 => 4#32
  | 57 => 5#32
  | 58 => 5#32
  | 59 => 5#32
  | 60 => 3#32
  | 61 => 5#32
  | 62 => 4#32
  | 63 => 5#32
  | 64 => 4#32
  | 65 => 5#32
  | 66 => 4#32
  | 67 => 5#32
  | 68 => 4#32
  | 69 => 5#32
  | 70 => 5#32
  | 71 => 3#32
  | 72 => 3#32
  | 73 => 4#32
  | 74 => 4#32
  | 75 => 5#32
  | 76 => 5#32
  | 77 => 5#32
  | 78 => 3#32
  | 79 => 5#32
  | 80 => 5#32
  | 81 => 5#32
  | 82 => 3#32
  | 83 => 4#32
  | 84 => 4#32
  | 85 => 4#32
  | 86 => 5#32
  | 87 => 3#32
  | 88 => 3#32
  | 89 => 4#32
  | 90 => 5#32
  | 91 => 5#32
  | 92 => 5#32
  | 93 => 3#32
  | 94 => 5#32
  | 95 => 5#32
  | 96 => 3#32
  | 97 => 3#32
  | 98 => 3#32
  | 99 => 5#32
  | 100 => 3#32
  | 101 => 3#32
  | 102 => 3#32
  | 103 => 3#32
  | 104 => 5#32
  | 105 => 3#32
  | 106 => 4#32
  | 107 => 4#32
  | 108 => 3#32
  | 109 => 5#32
  | 110 => 3#32
  | 111 => 3#32
  | 112 => 5#32
  | 113 => 5#32
  | 114 => 4#32
  | 115 => 4#32
  | 116 => 4#32
  | 117 => 3#32
  | 118 => 4#32
  | 119 => 5#32
  | 120 => 4#32
  | 121 => 5#32
  | 122 => 4#32
  | 123 => 4#32
  | 124 => 5#32
  | 125 => 4#32
  | 126 => 3#32
  | 127 => 5#32
  | _ => 0#32

noncomputable abbrev lit2t0_55 (i : Nat) : BitVec 32 := match i % 128 with
  | 0 => 3#32
  | 1 => 4#32
  | 2 => 5#32
  | 3 => 4#32
  | 4 => 3#32
  | 5 => 4#32
  | 6 => 3#32
  | 7 => 4#32
  | 8 => 5#32
  | 9 => 5#32
  | 10 => 4#32
  | 11 => 4#32
  | 12 => 3#32
  | 13 => 4#32
  | 14 => 5#32
  | 15 => 5#32
  | 16 => 3#32
  | 17 => 3#32
  | 18 => 3#32
  | 19 => 4#32
  | 20 => 4#32
  | 21 => 4#32
  | 22 => 3#32
  | 23 => 3#32
  | 24 => 3#32
  | 25 => 5#32
  | 26 => 3#32
  | 27 => 4#32
  | 28 => 4#32
  | 29 => 3#32
  | 30 => 3#32
  | 31 => 3#32
  | 32 => 4#32
  | 33 => 3#32
  | 34 => 5#32
  | 35 => 4#32
  | 36 => 3#32
  | 37 => 3#32
  | 38 => 4#32
  | 39 => 5#32
  | 40 => 5#32
  | 41 => 5#32
  | 42 => 4#32
  | 43 => 3#32
  | 44 => 5#32
  | 45 => 3#32
  | 46 => 5#32
  | 47 => 4#32
  | 48 => 3#32
  | 49 => 3#32
  | 50 => 3#32
  | 51 => 3#32
  | 52 => 4#32
  | 53 => 3#32
  | 54 => 5#32
  | 55 => 4#32
  | 56 => 3#32
  | 57 => 5#32
  | 58 => 5#32
  | 59 => 5#32
  | 60 => 3#32
  | 61 => 4#32
  | 62 => 5#32
  | 63 => 4#32
  | 64 => 3#32
  | 65 => 4#32
  | 66 => 4#32
  | 67 => 4#32
  | 68 => 5#32
  | 69 => 5#32
  | 70 => 3#32
  | 71 => 5#32
  | 72 => 5#32
  | 73 => 4#32
  | 74 => 5#32
  | 75 => 4#32
  | 76 => 3#32
  | 77 => 5#32
  | 78 => 4#32
  | 79 => 4#32
  | 80 => 4#32
  | 81 => 4#32
  | 82 => 3#32
  | 83 => 4#32
  | 84 => 4#32
  | 85 => 3#32
  | 86 => 4#32
  | 87 => 3#32
  | 88 => 4#32
  | 89 => 5#32
  | 90 => 5#32
  | 91 => 4#32
  | 92 => 4#32
  | 93 => 5#32
  | 94 => 4#32
  | 95 => 3#32
  | 96 => 5#32
  | 97 => 3#32
  | 98 => 3#32
  | 99 => 5#32
  | 100 => 5#32
  | 101 => 4#32
  | 102 => 4#32
  | 103 => 5#32
  | 104 => 3#32
  | 105 => 3#32
  | 106 => 5#32
  | 107 => 5#32
  | 108 => 4#32
  | 109 => 4#32
  | 110 => 5#32
  | 111 => 4#32
  | 112 => 3#32
  | 113 => 4#32
  | 114 => 4#32
  | 115 => 3#32
  | 116 => 5#32
  | 117 => 5#32
  | 118 => 3#32
  | 119 => 4#32
  | 120 => 4#32
  | 121 => 4#32
  | 122 => 4#32
  | 123 => 4#32
  | 124 => 4#32
  | 125 => 5#32
  | 126 => 3#32
  | 127 => 5#32
  | _ => 0#32

noncomputable abbrev lit2t0_56 (i : Nat) : BitVec 32 := match i % 128 with
  | 0 => 3#32
  | 1 => 4#32
  | 2 => 5#32
  | 3 => 3#32
  | 4 => 5#32
  | 5 => 4#32
  | 6 => 5#32
  | 7 => 5#32
  | 8 => 5#32
  | 9 => 3#32
  | 10 => 4#32
  | 11 => 3#32
  | 12 => 4#32
  | 13 => 5#32
  | 14 => 5#32
  | 15 => 5#32
  | 16 => 4#32
  | 17 => 3#32
  | 18 => 5#32
  | 19 => 5#32
  | 20 => 5#32
  | 21 => 5#32
  | 22 => 5#32
  | 23 => 4#32
  | 24 => 4#32
  | 25 => 5#32
  | 26 => 4#32
  | 27 => 5#32
  | 28 => 5#32
  | 29 => 5#32
  | 30 => 5#32
  | 31 => 3#32
  | 32 => 5#32
  | 33 => 3#32
  | 34 => 3#32
  | 35 => 3#32
  | 36 => 4#32
  | 37 => 4#32
  | 38 => 5#32
  | 39 => 3#32
  | 40 => 4#32
  | 41 => 3#32
  | 42 => 3#32
  | 43 => 5#32
  | 44 => 5#32
  | 45 => 3#32
  | 46 => 5#32
  | 47 => 3#32
  | 48 => 5#32
  | 49 => 3#32
  | 50 => 4#32
  | 51 => 3#32
  | 52 => 3#32
  | 53 => 3#32
  | 54 => 3#32
  | 55 => 3#32
  | 56 => 3#32
  | 57 => 3#32
  | 58 => 3#32
  | 59 => 5#32
  | 60 => 5#32
  | 61 => 4#32
  | 62 => 4#32
  | 63 => 5#32
  | 64 => 4#32
  | 65 => 5#32
  | 66 => 5#32
  | 67 => 4#32
  | 68 => 4#32
  | 69 => 3#32
  | 70 => 4#32
  | 71 => 5#32
  | 72 => 5#32
  | 73 => 4#32
  | 74 => 4#32
  | 75 => 3#32
  | 76 => 5#32
  | 77 => 5#32
  | 78 => 4#32
  | 79 => 3#32
  | 80 => 5#32
  | 81 => 4#32
  | 82 => 4#32
  | 83 => 5#32
  | 84 => 3#32
  | 85 => 3#32
  | 86 => 5#32
  | 87 => 4#32
  | 88 => 5#32
  | 89 => 3#32
  | 90 => 5#32
  | 91 => 5#32
  | 92 => 4#32
  | 93 => 5#32
  | 94 => 4#32
  | 95 => 3#32
  | 96 => 5#32
  | 97 => 3#32
  | 98 => 5#32
  | 99 => 3#32
  | 100 => 4#32
  | 101 => 4#32
  | 102 => 5#32
  | 103 => 4#32
  | 104 => 5#32
  | 105 => 3#32
  | 106 => 5#32
  | 107 => 5#32
  | 108 => 3#32
  | 109 => 3#32
  | 110 => 3#32
  | 111 => 3#32
  | 112 => 5#32
  | 113 => 5#32
  | 114 => 3#32
  | 115 => 3#32
  | 116 => 5#32
  | 117 => 5#32
  | 118 => 5#32
  | 119 => 5#32
  | 120 => 4#32
  | 121 => 4#32
  | 122 => 3#32
  | 123 => 3#32
  | 124 => 5#32
  | 125 => 4#32
  | 126 => 5#32
  | 127 => 3#32
  | _ => 0#32

noncomputable abbrev lit2t0_57 (i : Nat) : BitVec 32 := match i % 128 with
  | 0 => 3#32
  | 1 => 3#32
  | 2 => 3#32
  | 3 => 3#32
  | 4 => 5#32
  | 5 => 3#32
  | 6 => 3#32
  | 7 => 4#32
  | 8 => 3#32
  | 9 => 5#32
  | 10 => 5#32
  | 11 => 5#32
  | 12 => 3#32
  | 13 => 3#32
  | 14 => 3#32
  | 15 => 5#32
  | 16 => 5#32
  | 17 => 5#32
  | 18 => 3#32
  | 19 => 5#32
  | 20 => 4#32
  | 21 => 4#32
  | 22 => 5#32
  | 23 => 4#32
  | 24 => 4#32
  | 25 => 3#32
  | 26 => 5#32
  | 27 => 5#32
  | 28 => 3#32
  | 29 => 4#32
  | 30 => 4#32
  | 31 => 4#32
  | 32 => 3#32
  | 33 => 4#32
  | 34 => 5#32
  | 35 => 4#32
  | 36 => 4#32
  | 37 => 4#32
  | 38 => 4#32
  | 39 => 3#32
  | 40 => 5#32
  | 41 => 3#32
  | 42 => 5#32
  | 43 => 3#32
  | 44 => 5#32
  | 45 => 5#32
  | 46 => 4#32
  | 47 => 3#32
  | 48 => 4#32
  | 49 => 4#32
  | 50 => 5#32
  | 51 => 3#32
  | 52 => 5#32
  | 53 => 3#32
  | 54 => 4#32
  | 55 => 4#32
  | 56 => 5#32
  | 57 => 3#32
  | 58 => 5#32
  | 59 => 3#32
  | 60 => 5#32
  | 61 => 4#32
  | 62 => 4#32
  | 63 => 4#32
  | 64 => 5#32
  | 65 => 3#32
  | 66 => 5#32
  | 67 => 3#32
  | 68 => 4#32
  | 69 => 3#32
  | 70 => 3#32
  | 71 => 4#32
  | 72 => 4#32
  | 73 => 4#32
  | 74 => 3#32
  | 75 => 4#32
  | 76 => 5#32
  | 77 => 4#32
  | 78 => 5#32
  | 79 => 5#32
  | 80 => 3#32
  | 81 => 4#32
  | 82 => 5#32
  | 83 => 4#32
  | 84 => 5#32
  | 85 => 3#32
  | 86 => 5#32
  | 87 => 3#32
  | 88 => 3#32
  | 89 => 4#32
  | 90 => 5#32
  | 91 => 4#32
  | 92 => 3#32
  | 93 => 5#32
  | 94 => 4#32
  | 95 => 4#32
  | 96 => 5#32
  | 97 => 3#32
  | 98 => 5#32
  | 99 => 3#32
  | 100 => 5#32
  | 101 => 4#32
  | 102 => 4#32
  | 103 => 4#32
  | 104 => 4#32
  | 105 => 4#32
  | 106 => 3#32
  | 107 => 4#32
  | 108 => 5#32
  | 109 => 5#32
  | 110 => 5#32
  | 111 => 4#32
  | 112 => 5#32
  | 113 => 5#32
  | 114 => 5#32
  | 115 => 3#32
  | 116 => 4#32
  | 117 => 3#32
  | 118 => 5#32
  | 119 => 4#32
  | 120 => 4#32
  | 121 => 4#32
  | 122 => 3#32
  | 123 => 3#32
  | 124 => 3#32
  | 125 => 5#32
  | 126 => 5#32
  | 127 => 3#32
  | _ => 0#32

noncomputable abbrev lit2t0_58 (i : Nat) : BitVec 32 := match i % 128 with
  | 0 => 4#32
  | 1 => 5#32
  | 2 => 5#32
  | 3 => 4#32
  | 4 => 5#32
  | 5 => 3#32
  | 6 => 3#32
  | 7 => 5#32
  | 8 => 3#32
  | 9 => 5#32
  | 10 => 3#32
  | 11 => 5#32
  | 12 => 3#32
  | 13 => 4#32
  | 14 => 4#32
  | 15 => 3#32
  | 16 => 4#32
  | 17 => 4#32
  | 18 => 5#32
  | 19 => 4#32
  | 20 => 5#32
  | 21 => 4#32
  | 22 => 3#32
  | 23 => 3#32
  | 24 => 5#32
  | 25 => 3#32
  | 26 => 3#32
  | 27 => 4#32
  | 28 => 3#32
  | 29 => 5#32
  | 30 => 3#32
  | 31 => 3#32
  | 32 => 5#32
  | 33 => 5#32
  | 34 => 4#32
  | 35 => 4#32
  | 36 => 4#32
  | 37 => 5#32
  | 38 => 5#32
  | 39 => 4#32
  | 40 => 5#32
  | 41 => 5#32
  | 42 => 4#32
  | 43 => 4#32
  | 44 => 4#32
  | 45 => 3#32
  | 46 => 3#32
  | 47 => 3#32
  | 48 => 5#32
  | 49 => 5#32
  | 50 => 4#32
  | 51 => 3#32
  | 52 => 3#32
  | 53 => 3#32
  | 54 => 3#32
  | 55 => 4#32
  | 56 => 4#32
  | 57 => 4#32
  | 58 => 5#32
  | 59 => 5#32
  | 60 => 5#32
  | 61 => 3#32
  | 62 => 5#32
  | 63 => 3#32
  | 64 => 5#32
  | 65 => 3#32
  | 66 => 4#32
  | 67 => 3#32
  | 68 => 5#32
  | 69 => 4#32
  | 70 => 5#32
  | 71 => 3#32
  | 72 => 5#32
  | 73 => 3#32
  | 74 => 4#32
  | 75 => 5#32
  | 76 => 4#32
  | 77 => 4#32
  | 78 => 4#32
  | 79 => 4#32
  | 80 => 3#32
  | 81 => 5#32
  | 82 => 5#32
  | 83 => 3#32
  | 84 => 5#32
  | 85 => 3#32
  | 86 => 4#32
  | 87 => 4#32
  | 88 => 4#32
  | 89 => 5#32
  | 90 => 4#32
  | 91 => 4#32
  | 92 => 5#32
  | 93 => 5#32
  | 94 => 5#32
  | 95 => 4#32
  | 96 => 3#32
  | 97 => 5#32
  | 98 => 3#32
  | 99 => 4#32
  | 100 => 4#32
  | 101 => 3#32
  | 102 => 3#32
  | 103 => 5#32
  | 104 => 4#32
  | 105 => 3#32
  | 106 => 4#32
  | 107 => 4#32
  | 108 => 3#32
  | 109 => 5#32
  | 110 => 3#32
  | 111 => 5#32
  | 112 => 3#32
  | 113 => 3#32
  | 114 => 3#32
  | 115 => 5#32
  | 116 => 3#32
  | 117 => 3#32
  | 118 => 4#32
  | 119 => 5#32
  | 120 => 4#32
  | 121 => 4#32
  | 122 => 4#32
  | 123 => 3#32
  | 124 => 5#32
  | 125 => 4#32
  | 126 => 3#32
  | 127 => 5#32
  | _ => 0#32

noncomputable abbrev lit2t0_59 (i : Nat) : BitVec 32 := match i % 128 with
  | 0 => 3#32
  | 1 => 3#32
  | 2 => 3#32
  | 3 => 5#32
  | 4 => 4#32
  | 5 => 5#32
  | 6 => 3#32
  | 7 => 4#32
  | 8 => 5#32
  | 9 => 4#32
  | 10 => 3#32
  | 11 => 3#32
  | 12 => 5#32
  | 13 => 3#32
  | 14 => 3#32
  | 15 => 4#32
  | 16 => 3#32
  | 17 => 5#32
  | 18 => 3#32
  | 19 => 4#32
  | 20 => 3#32
  | 21 => 3#32
  | 22 => 4#32
  | 23 => 3#32
  | 24 => 5#32
  | 25 => 4#32
  | 26 => 4#32
  | 27 => 5#32
  | 28 => 4#32
  | 29 => 3#32
  | 30 => 5#32
  | 31 => 3#32
  | 32 => 3#32
  | 33 => 4#32
  | 34 => 3#32
  | 35 => 5#32
  | 36 => 4#32
  | 37 => 5#32
  | 38 => 4#32
  | 39 => 4#32
  | 40 => 3#32
  | 41 => 5#32
  | 42 => 3#32
  | 43 => 3#32
  | 44 => 4#32
  | 45 => 4#32
  | 46 => 5#32
  | 47 => 4#32
  | 48 => 3#32
  | 49 => 5#32
  | 50 => 5#32
  | 51 => 5#32
  | 52 => 3#32
  | 53 => 5#32
  | 54 => 5#32
  | 55 => 4#32
  | 56 => 4#32
  | 57 => 5#32
  | 58 => 4#32
  | 59 => 3#32
  | 60 => 3#32
  | 61 => 4#32
  | 62 => 3#32
  | 63 => 5#32
  | 64 => 5#32
  | 65 => 4#32
  | 66 => 3#32
  | 67 => 4#32
  | 68 => 3#32
  | 69 => 4#32
  | 70 => 3#32
  | 71 => 3#32
  | 72 => 5#32
  | 73 => 3#32
  | 74 => 4#32
  | 75 => 5#32
  | 76 => 3#32
  | 77 => 3#32
  | 78 => 5#32
  | 79 => 5#32
  | 80 => 3#32
  | 81 => 3#32
  | 82 => 4#32
  | 83 => 5#32
  | 84 => 4#32
  | 85 => 4#32
  | 86 => 4#32
  | 87 => 5#32
  | 88 => 3#32
  | 89 => 3#32
  | 90 => 5#32
  | 91 => 5#32
  | 92 => 4#32
  | 93 => 4#32
  | 94 => 5#32
  | 95 => 5#32
  | 96 => 4#32
  | 97 => 3#32
  | 98 => 4#32
  | 99 => 4#32
  | 100 => 5#32
  | 101 => 4#32
  | 102 => 3#32
  | 103 => 5#32
  | 104 => 5#32
  | 105 => 5#32
  | 106 => 3#32
  | 107 => 5#32
  | 108 => 3#32
  | 109 => 5#32
  | 110 => 4#32
  | 111 => 5#32
  | 112 => 4#32
  | 113 => 4#32
  | 114 => 5#32
  | 115 => 5#32
  | 116 => 4#32
  | 117 => 5#32
  | 118 => 5#32
  | 119 => 3#32
  | 120 => 3#32
  | 121 => 5#32
  | 122 => 3#32
  | 123 => 4#32
  | 124 => 3#32
  | 125 => 5#32
  | 126 => 4#32
  | 127 => 3#32
  | _ => 0#32

noncomputable abbrev lit2t0_60 (i : Nat) : BitVec 32 := match i % 128 with
  | 0 => 3#32
  | 1 => 3#32
  | 2 => 4#32
  | 3 => 5#32
  | 4 => 3#32
  | 5 => 5#32
  | 6 => 4#32
  | 7 => 4#32
  | 8 => 3#32
  | 9 => 3#32
  | 10 => 4#32
  | 11 => 4#32
  | 12 => 3#32
  | 13 => 3#32
  | 14 => 5#32
  | 15 => 3#32
  | 16 => 5#32
  | 17 => 3#32
  | 18 => 4#32
  | 19 => 4#32
  | 20 => 4#32
  | 21 => 3#32
  | 22 => 4#32
  | 23 => 5#32
  | 24 => 3#32
  | 25 => 5#32
  | 26 => 4#32
  | 27 => 3#32
  | 28 => 3#32
  | 29 => 5#32
  | 30 => 5#32
  | 31 => 3#32
  | 32 => 3#32
  | 33 => 4#32
  | 34 => 4#32
  | 35 => 4#32
  | 36 => 3#32
  | 37 => 4#32
  | 38 => 5#32
  | 39 => 3#32
  | 40 => 4#32
  | 41 => 5#32
  | 42 => 4#32
  | 43 => 5#32
  | 44 => 4#32
  | 45 => 5#32
  | 46 => 5#32
  | 47 => 4#32
  | 48 => 5#32
  | 49 => 3#32
  | 50 => 5#32
  | 51 => 4#32
  | 52 => 3#32
  | 53 => 3#32
  | 54 => 4#32
  | 55 => 3#32
  | 56 => 4#32
  | 57 => 4#32
  | 58 => 4#32
  | 59 => 4#32
  | 60 => 3#32
  | 61 => 3#32
  | 62 => 3#32
  | 63 => 4#32
  | 64 => 5#32
  | 65 => 4#32
  | 66 => 4#32
  | 67 => 4#32
  | 68 => 4#32
  | 69 => 3#32
  | 70 => 3#32
  | 71 => 5#32
  | 72 => 3#32
  | 73 => 5#32
  | 74 => 3#32
  | 75 => 5#32
  | 76 => 3#32
  | 77 => 4#32
  | 78 => 3#32
  | 79 => 5#32
  | 80 => 5#32
  | 81 => 5#32
  | 82 => 4#32
  | 83 => 4#32
  | 84 => 5#32
  | 85 => 3#32
  | 86 => 3#32
  | 87 => 4#32
  | 88 => 5#32
  | 89 => 5#32
  | 90 => 4#32
  | 91 => 5#32
  | 92 => 4#32
  | 93 => 3#32
  | 94 => 4#32
  | 95 => 3#32
  | 96 => 5#32
  | 97 => 4#32
  | 98 => 5#32
  | 99 => 5#32
  | 100 => 4#32
  | 101 => 3#32
  | 102 => 5#32
  | 103 => 3#32
  | 104 => 3#32
  | 105 => 3#32
  | 106 => 4#32
  | 107 => 5#32
  | 108 => 4#32
  | 109 => 5#32
  | 110 => 5#32
  | 111 => 3#32
  | 112 => 5#32
  | 113 => 3#32
  | 114 => 3#32
  | 115 => 5#32
  | 116 => 4#32
  | 117 => 4#32
  | 118 => 4#32
  | 119 => 3#32
  | 120 => 4#32
  | 121 => 5#32
  | 122 => 3#32
  | 123 => 3#32
  | 124 => 4#32
  | 125 => 4#32
  | 126 => 4#32
  | 127 => 3#32
  | _ => 0#32

noncomputable abbrev lit2t0_61 (i : Nat) : BitVec 32 := match i % 128 with
  | 0 => 5#32
  | 1 => 5#32
  | 2 => 5#32
  | 3 => 4#32
  | 4 => 5#32
  | 5 => 5#32
  | 6 => 5#32
  | 7 => 5#32
  | 8 => 5#32
  | 9 => 3#32
  | 10 => 3#32
  | 11 => 4#32
  | 12 => 4#32
  | 13 => 5#32
  | 14 => 3#32
  | 15 => 3#32
  | 16 => 4#32
  | 17 => 5#32
  | 18 => 5#32
  | 19 => 5#32
  | 20 => 4#32
  | 21 => 3#32
  | 22 => 5#32
  | 23 => 3#32
  | 24 => 3#32
  | 25 => 4#32
  | 26 => 5#32
  | 27 => 3#32
  | 28 => 5#32
  | 29 => 5#32
  | 30 => 3#32
  | 31 => 3#32
  | 32 => 3#32
  | 33 => 4#32
  | 34 => 5#32
  | 35 => 3#32
  | 36 => 5#32
  | 37 => 3#32
  | 38 => 5#32
  | 39 => 5#32
  | 40 => 3#32
  | 41 => 4#32
  | 42 => 4#32
  | 43 => 3#32
  | 44 => 5#32
  | 45 => 3#32
  | 46 => 5#32
  | 47 => 5#32
  | 48 => 4#32
  | 49 => 5#32
  | 50 => 4#32
  | 51 => 3#32
  | 52 => 5#32
  | 53 => 5#32
  | 54 => 5#32
  | 55 => 3#32
  | 56 => 3#32
  | 57 => 4#32
  | 58 => 5#32
  | 59 => 5#32
  | 60 => 3#32
  | 61 => 4#32
  | 62 => 5#32
  | 63 => 4#32
  | 64 => 3#32
  | 65 => 5#32
  | 66 => 5#32
  | 67 => 4#32
  | 68 => 4#32
  | 69 => 4#32
  | 70 => 3#32
  | 71 => 5#32
  | 72 => 5#32
  | 73 => 5#32
  | 74 => 4#32
  | 75 => 4#32
  | 76 => 5#32
  | 77 => 5#32
  | 78 => 4#32
  | 79 => 4#32
  | 80 => 3#32
  | 81 => 4#32
  | 82 => 3#32
  | 83 => 3#32
  | 84 => 4#32
  | 85 => 4#32
  | 86 => 5#32
  | 87 => 3#32
  | 88 => 3#32
  | 89 => 5#32
  | 90 => 4#32
  | 91 => 5#32
  | 92 => 4#32
  | 93 => 4#32
  | 94 => 5#32
  | 95 => 3#32
  | 96 => 3#32
  | 97 => 4#32
  | 98 => 3#32
  | 99 => 5#32
  | 100 => 3#32
  | 101 => 4#32
  | 102 => 4#32
  | 103 => 3#32
  | 104 => 3#32
  | 105 => 5#32
  | 106 => 4#32
  | 107 => 5#32
  | 108 => 5#32
  | 109 => 4#32
  | 110 => 4#32
  | 111 => 4#32
  | 112 => 4#32
  | 113 => 4#32
  | 114 => 4#32
  | 115 => 4#32
  | 116 => 5#32
  | 117 => 5#32
  | 118 => 4#32
  | 119 => 4#32
  | 120 => 4#32
  | 121 => 4#32
  | 122 => 5#32
  | 123 => 3#32
  | 124 => 5#32
  | 125 => 4#32
  | 126 => 5#32
  | 127 => 5#32
  | _ => 0#32

noncomputable abbrev lit2t0_62 (i : Nat) : BitVec 32 := match i % 128 with
  | 0 => 4#32
  | 1 => 3#32
  | 2 => 5#32
  | 3 => 5#32
  | 4 => 3#32
  | 5 => 3#32
  | 6 => 4#32
  | 7 => 4#32
  | 8 => 4#32
  | 9 => 4#32
  | 10 => 4#32
  | 11 => 5#32
  | 12 => 3#32
  | 13 => 5#32
  | 14 => 3#32
  | 15 => 4#32
  | 16 => 4#32
  | 17 => 4#32
  | 18 => 5#32
  | 19 => 4#32
  | 20 => 5#32
  | 21 => 5#32
  | 22 => 3#32
  | 23 => 5#32
  | 24 => 3#32
  | 25 => 3#32
  | 26 => 4#32
  | 27 => 3#32
  | 28 => 4#32
  | 29 => 3#32
  | 30 => 4#32
  | 31 => 3#32
  | 32 => 5#32
  | 33 => 5#32
  | 34 => 5#32
  | 35 => 4#32
  | 36 => 3#32
  | 37 => 5#32
  | 38 => 5#32
  | 39 => 4#32
  | 40 => 3#32
  | 41 => 3#32
  | 42 => 5#32
  | 43 => 5#32
  | 44 => 5#32
  | 45 => 3#32
  | 46 => 4#32
  | 47 => 5#32
  | 48 => 3#32
  | 49 => 3#32
  | 50 => 4#32
  | 51 => 3#32
  | 52 => 5#32
  | 53 => 4#32
  | 54 => 5#32
  | 55 => 4#32
  | 56 => 5#32
  | 57 => 5#32
  | 58 => 5#32
  | 59 => 5#32
  | 60 => 4#32
  | 61 => 3#32
  | 62 => 3#32
  | 63 => 3#32
  | 64 => 4#32
  | 65 => 4#32
  | 66 => 4#32
  | 67 => 4#32
  | 68 => 5#32
  | 69 => 4#32
  | 70 => 5#32
  | 71 => 5#32
  | 72 => 4#32
  | 73 => 5#32
  | 74 => 3#32
  | 75 => 4#32
  | 76 => 5#32
  | 77 => 3#32
  | 78 => 4#32
  | 79 => 3#32
  | 80 => 5#32
  | 81 => 4#32
  | 82 => 3#32
  | 83 => 5#32
  | 84 => 4#32
  | 85 => 3#32
  | 86 => 3#32
  | 87 => 5#32
  | 88 => 5#32
  | 89 => 3#32
  | 90 => 5#32
  | 91 => 5#32
  | 92 => 3#32
  | 93 => 3#32
  | 94 => 3#32
  | 95 => 3#32
  | 96 => 3#32
  | 97 => 3#32
  | 98 => 5#32
  | 99 => 5#32
  | 100 => 5#32
  | 101 => 4#32
  | 102 => 3#32
  | 103 => 5#32
  | 104 => 3#32
  | 105 => 4#32
  | 106 => 5#32
  | 107 => 4#32
  | 108 => 3#32
  | 109 => 4#32
  | 110 => 3#32
  | 111 => 4#32
  | 112 => 4#32
  | 113 => 3#32
  | 114 => 4#32
  | 115 => 3#32
  | 116 => 3#32
  | 117 => 5#32
  | 118 => 5#32
  | 119 => 4#32
  | 120 => 5#32
  | 121 => 4#32
  | 122 => 5#32
  | 123 => 4#32
  | 124 => 5#32
  | 125 => 5#32
  | 126 => 4#32
  | 127 => 3#32
  | _ => 0#32

noncomputable abbrev lit2t0_63 (i : Nat) : BitVec 32 := match i % 128 with
  | 0 => 4#32
  | 1 => 3#32
  | 2 => 3#32
  | 3 => 5#32
  | 4 => 3#32
  | 5 => 4#32
  | 6 => 3#32
  | 7 => 4#32
  | 8 => 4#32
  | 9 => 3#32
  | 10 => 5#32
  | 11 => 5#32
  | 12 => 5#32
  | 13 => 5#32
  | 14 => 5#32
  | 15 => 5#32
  | 16 => 4#32
  | 17 => 3#32
  | 18 => 5#32
  | 19 => 3#32
  | 20 => 4#32
  | 21 => 3#32
  | 22 => 5#32
  | 23 => 4#32
  | 24 => 3#32
  | 25 => 3#32
  | 26 => 3#32
  | 27 => 5#32
  | 28 => 4#32
  | 29 => 5#32
  | 30 => 5#32
  | 31 => 5#32
  | 32 => 3#32
  | 33 => 4#32
  | 34 => 3#32
  | 35 => 4#32
  | 36 => 4#32
  | 37 => 4#32
  | 38 => 4#32
  | 39 => 4#32
  | 40 => 4#32
  | 41 => 3#32
  | 42 => 5#32
  | 43 => 5#32
  | 44 => 5#32
  | 45 => 4#32
  | 46 => 5#32
  | 47 => 4#32
  | 48 => 3#32
  | 49 => 4#32
  | 50 => 5#32
  | 51 => 3#32
  | 52 => 3#32
  | 53 => 5#32
  | 54 => 3#32
  | 55 => 5#32
  | 56 => 4#32
  | 57 => 4#32
  | 58 => 3#32
  | 59 => 4#32
  | 60 => 3#32
  | 61 => 3#32
  | 62 => 4#32
  | 63 => 5#32
  | 64 => 4#32
  | 65 => 4#32
  | 66 => 5#32
  | 67 => 5#32
  | 68 => 3#32
  | 69 => 5#32
  | 70 => 3#32
  | 71 => 4#32
  | 72 => 5#32
  | 73 => 4#32
  | 74 => 5#32
  | 75 => 5#32
  | 76 => 3#32
  | 77 => 3#32
  | 78 => 4#32
  | 79 => 4#32
  | 80 => 3#32
  | 81 => 4#32
  | 82 => 4#32
  | 83 => 3#32
  | 84 => 4#32
  | 85 => 4#32
  | 86 => 4#32
  | 87 => 3#32
  | 88 => 5#32
  | 89 => 5#32
  | 90 => 4#32
  | 91 => 3#32
  | 92 => 5#32
  | 93 => 3#32
  | 94 => 4#32
  | 95 => 5#32
  | 96 => 5#32
  | 97 => 3#32
  | 98 => 5#32
  | 99 => 3#32
  | 100 => 4#32
  | 101 => 5#32
  | 102 => 5#32
  | 103 => 5#32
  | 104 => 4#32
  | 105 => 4#32
  | 106 => 3#32
  | 107 => 4#32
  | 108 => 4#32
  | 109 => 3#32
  | 110 => 4#32
  | 111 => 5#32
  | 112 => 4#32
  | 113 => 3#32
  | 114 => 5#32
  | 115 => 4#32
  | 116 => 4#32
  | 117 => 4#32
  | 118 => 4#32
  | 119 => 3#32
  | 120 => 5#32
  | 121 => 5#32
  | 122 => 3#32
  | 123 => 4#32
  | 124 => 5#32
  | 125 => 4#32
  | 126 => 4#32
  | 127 => 3#32
  | _ => 0#32

noncomputable abbrev lit2t0_64 (i : Nat) : BitVec 32 := match i % 128 with
  | 0 => 5#32
  | 1 => 3#32
  | 2 => 4#32
  | 3 => 4#32
  | 4 => 4#32
  | 5 => 4#32
  | 6 => 4#32
  | 7 => 5#32
  | 8 => 3#32
  | 9 => 5#32
  | 10 => 5#32
  | 11 => 4#32
  | 12 => 3#32
  | 13 => 3#32
  | 14 => 3#32
  | 15 => 3#32
  | 16 => 5#32
  | 17 => 3#32
  | 18 => 3#32
  | 19 => 3#32
  | 20 => 4#32
  | 21 => 5#32
  | 22 => 4#32
  | 23 => 3#32
  | 24 => 5#32
  | 25 => 4#32
  | 26 => 5#32
  | 27 => 4#32
  | 28 => 5#32
  | 29 => 4#32
  | 30 => 5#32
  | 31 => 5#32
  | 32 => 3#32
  | 33 => 4#32
  | 34 => 3#32
  | 35 => 3#32
  | 36 => 4#32
  | 37 => 3#32
  | 38 => 4#32
  | 39 => 4#32
  | 40 => 5#32
  | 41 => 3#32
  | 42 => 4#32
  | 43 => 4#32
  | 44 => 5#32
  | 45 => 4#32
  | 46 => 5#32
  | 47 => 5#32
  | 48 => 4#32
  | 49 => 4#32
  | 50 => 4#32
  | 51 => 5#32
  | 52 => 3#32
  | 53 => 4#32
  | 54 => 5#32
  | 55 => 5#32
  | 56 => 3#32
  | 57 => 4#32
  | 58 => 3#32
  | 59 => 4#32
  | 60 => 3#32
  | 61 => 5#32
  | 62 => 4#32
  | 63 => 5#32
  | 64 => 4#32
  | 65 => 4#32
  | 66 => 4#32
  | 67 => 5#32
  | 68 => 4#32
  | 69 => 4#32
  | 70 => 4#32
  | 71 => 5#32
  | 72 => 4#32
  | 73 => 3#32
  | 74 => 3#32
  | 75 => 5#32
  | 76 => 4#32
  | 77 => 3#32
  | 78 => 5#32
  | 79 => 4#32
  | 80 => 3#32
  | 81 => 5#32
  | 82 => 3#32
  | 83 => 3#32
  | 84 => 5#32
  | 85 => 3#32
  | 86 => 3#32
  | 87 => 3#32
  | 88 => 5#32
  | 89 => 4#32
  | 90 => 4#32
  | 91 => 3#32
  | 92 => 4#32
  | 93 => 5#32
  | 94 => 5#32
  | 95 => 5#32
  | 96 => 4#32
  | 97 => 4#32
  | 98 => 3#32
  | 99 => 4#32
  | 100 => 5#32
  | 101 => 5#32
  | 102 => 4#32
  | 103 => 4#32
  | 104 => 3#32
  | 105 => 3#32
  | 106 => 4#32
  | 107 => 3#32
  | 108 => 3#32
  | 109 => 3#32
  | 110 => 3#32
  | 111 => 5#32
  | 112 => 4#32
  | 113 => 5#32
  | 114 => 3#32
  | 115 => 5#32
  | 116 => 3#32
  | 117 => 5#32
  | 118 => 5#32
  | 119 => 3#32
  | 120 => 5#32
  | 121 => 4#32
  | 122 => 5#32
  | 123 => 4#32
  | 124 => 4#32
  | 125 => 3#32
  | 126 => 3#32
  | 127 => 5#32
  | _ => 0#32

noncomputable abbrev lit2t0_65 (i : Nat) : BitVec 32 := match i % 128 with
  | 0 => 3#32
  | 1 => 3#32
  | 2 => 5#32
  | 3 => 3#32
  | 4 => 3#32
  | 5 => 5#32
  | 6 => 3#32
  | 7 => 3#32
  | 8 => 3#32
  | 9 => 3#32
  | 10 => 3#32
  | 11 => 4#32
  | 12 => 4#32
  | 13 => 4#32
  | 14 => 4#32
  | 15 => 3#32
  | 16 => 3#32
  | 17 => 3#32
  | 18 => 5#32
  | 19 => 5#32
  | 20 => 5#32
  | 21 => 5#32
  | 22 => 5#32
  | 23 => 5#32
  | 24 => 3#32
  | 25 => 5#32
  | 26 => 3#32
  | 27 => 3#32
  | 28 => 5#32
  | 29 => 3#32
  | 30 => 3#32
  | 31 => 5#32
  | 32 => 3#32
  | 33 => 4#32
  | 34 => 5#32
  | 35 => 3#32
  | 36 => 5#32
  | 37 => 4#32
  | 38 => 4#32
  | 39 => 4#32
  | 40 => 5#32
  | 41 => 4#32
  | 42 => 3#32
  | 43 => 3#32
  | 44 => 3#32
  | 45 => 3#32
  | 46 => 5#32
  | 47 => 3#32
  | 48 => 3#32
  | 49 => 5#32
  | 50 => 5#32
  | 51 => 4#32
  | 52 => 4#32
  | 53 => 5#32
  | 54 => 3#32
  | 55 => 5#32
  | 56 => 3#32
  | 57 => 3#32
  | 58 => 5#32
  | 59 => 4#32
  | 60 => 4#32
  | 61 => 3#32
  | 62 => 3#32
  | 63 => 3#32
  | 64 => 4#32
  | 65 => 5#32
  | 66 => 5#32
  | 67 => 3#32
  | 68 => 5#32
  | 69 => 5#32
  | 70 => 3#32
  | 71 => 3#32
  | 72 => 5#32
  | 73 => 5#32
  | 74 => 3#32
  | 75 => 5#32
  | 76 => 5#32
  | 77 => 5#32
  | 78 => 5#32
  | 79 => 5#32
  | 80 => 3#32
  | 81 => 4#32
  | 82 => 4#32
  | 83 => 3#32
  | 84 => 5#32
  | 85 => 4#32
  | 86 => 3#32
  | 87 => 3#32
  | 88 => 4#32
  | 89 => 4#32
  | 90 => 5#32
  | 91 => 4#32
  | 92 => 4#32
  | 93 => 3#32
  | 94 => 5#32
  | 95 => 3#32
  | 96 => 5#32
  | 97 => 4#32
  | 98 => 4#32
  | 99 => 3#32
  | 100 => 5#32
  | 101 => 4#32
  | 102 => 3#32
  | 103 => 3#32
  | 104 => 3#32
  | 105 => 3#32
  | 106 => 4#32
  | 107 => 3#32
  | 108 => 5#32
  | 109 => 5#32
  | 110 => 4#32
  | 111 => 5#32
  | 112 => 5#32
  | 113 => 3#32
  | 114 => 4#32
  | 115 => 5#32
  | 116 => 5#32
  | 117 => 3#32
  | 118 => 3#32
  | 119 => 5#32
  | 120 => 3#32
  | 121 => 3#32
  | 122 => 3#32
  | 123 => 4#32
  | 124 => 5#32
  | 125 => 5#32
  | 126 => 3#32
  | 127 => 5#32
  | _ => 0#32

noncomputable abbrev lit2t0_66 (i : Nat) : BitVec 32 := match i % 128 with
  | 0 => 5#32
  | 1 => 3#32
  | 2 => 3#32
  | 3 => 4#32
  | 4 => 3#32
  | 5 => 4#32
  | 6 => 3#32
  | 7 => 3#32
  | 8 => 5#32
  | 9 => 5#32
  | 10 => 5#32
  | 11 => 4#32
  | 12 => 4#32
  | 13 => 4#32
  | 14 => 5#32
  | 15 => 3#32
  | 16 => 4#32
  | 17 => 3#32
  | 18 => 3#32
  | 19 => 5#32
  | 20 => 3#32
  | 21 => 5#32
  | 22 => 3#32
  | 23 => 4#32
  | 24 => 3#32
  | 25 => 5#32
  | 26 => 3#32
  | 27 => 3#32
  | 28 => 5#32
  | 29 => 3#32
  | 30 => 5#32
  | 31 => 5#32
  | 32 => 5#32
  | 33 => 3#32
  | 34 => 3#32
  | 35 => 5#32
  | 36 => 5#32
  | 37 => 3#32
  | 38 => 5#32
  | 39 => 4#32
  | 40 => 5#32
  | 41 => 5#32
  | 42 => 3#32
  | 43 => 5#32
  | 44 => 5#32
  | 45 => 5#32
  | 46 => 3#32
  | 47 => 3#32
  | 48 => 3#32
  | 49 => 4#32
  | 50 => 3#32
  | 51 => 3#32
  | 52 => 3#32
  | 53 => 3#32
  | 54 => 4#32
  | 55 => 5#32
  | 56 => 5#32
  | 57 => 5#32
  | 58 => 3#32
  | 59 => 5#32
  | 60 => 5#32
  | 61 => 5#32
  | 62 => 5#32
  | 63 => 3#32
  | 64 => 5#32
  | 65 => 5#32
  | 66 => 5#32
  | 67 => 5#32
  | 68 => 4#32
  | 69 => 3#32
  | 70 => 5#32
  | 71 => 4#32
  | 72 => 4#32
  | 73 => 3#32
  | 74 => 5#32
  | 75 => 3#32
  | 76 => 3#32
  | 77 => 5#32
  | 78 => 5#32
  | 79 => 5#32
  | 80 => 5#32
  | 81 => 3#32
  | 82 => 5#32
  | 83 => 4#32
  | 84 => 3#32
  | 85 => 5#32
  | 86 => 3#32
  | 87 => 5#32
  | 88 => 3#32
  | 89 => 3#32
  | 90 => 3#32
  | 91 => 5#32
  | 92 => 4#32
  | 93 => 4#32
  | 94 => 3#32
  | 95 => 3#32
  | 96 => 3#32
  | 97 => 3#32
  | 98 => 3#32
  | 99 => 3#32
  | 100 => 3#32
  | 101 => 4#32
  | 102 => 5#32
  | 103 => 5#32
  | 104 => 5#32
  | 105 => 5#32
  | 106 => 3#32
  | 107 => 5#32
  | 108 => 3#32
  | 109 => 5#32
  | 110 => 3#32
  | 111 => 5#32
  | 112 => 3#32
  | 113 => 5#32
  | 114 => 4#32
  | 115 => 4#32
  | 116 => 5#32
  | 117 => 5#32
  | 118 => 5#32
  | 119 => 5#32
  | 120 => 4#32
  | 121 => 4#32
  | 122 => 4#32
  | 123 => 3#32
  | 124 => 3#32
  | 125 => 4#32
  | 126 => 3#32
  | 127 => 5#32
  | _ => 0#32

noncomputable abbrev lit2t0_67 (i : Nat) : BitVec 32 := match i % 128 with
  | 0 => 5#32
  | 1 => 3#32
  | 2 => 5#32
  | 3 => 3#32
  | 4 => 3#32
  | 5 => 5#32
  | 6 => 4#32
  | 7 => 3#32
  | 8 => 5#32
  | 9 => 3#32
  | 10 => 3#32
  | 11 => 4#32
  | 12 => 4#32
  | 13 => 4#32
  | 14 => 3#32
  | 15 => 5#32
  | 16 => 3#32
  | 17 => 5#32
  | 18 => 5#32
  | 19 => 3#32
  | 20 => 3#32
  | 21 => 4#32
  | 22 => 3#32
  | 23 => 5#32
  | 24 => 5#32
  | 25 => 5#32
  | 26 => 3#32
  | 27 => 5#32
  | 28 => 5#32
  | 29 => 5#32
  | 30 => 3#32
  | 31 => 3#32
  | 32 => 4#32
  | 33 => 4#32
  | 34 => 3#32
  | 35 => 3#32
  | 36 => 5#32
  | 37 => 5#32
  | 38 => 3#32
  | 39 => 4#32
  | 40 => 4#32
  | 41 => 5#32
  | 42 => 4#32
  | 43 => 5#32
  | 44 => 5#32
  | 45 => 5#32
  | 46 => 4#32
  | 47 => 3#32
  | 48 => 3#32
  | 49 => 3#32
  | 50 => 5#32
  | 51 => 4#32
  | 52 => 3#32
  | 53 => 5#32
  | 54 => 3#32
  | 55 => 3#32
  | 56 => 4#32
  | 57 => 5#32
  | 58 => 3#32
  | 59 => 4#32
  | 60 => 5#32
  | 61 => 5#32
  | 62 => 3#32
  | 63 => 4#32
  | 64 => 4#32
  | 65 => 3#32
  | 66 => 3#32
  | 67 => 3#32
  | 68 => 4#32
  | 69 => 3#32
  | 70 => 4#32
  | 71 => 3#32
  | 72 => 4#32
  | 73 => 3#32
  | 74 => 4#32
  | 75 => 4#32
  | 76 => 5#32
  | 77 => 4#32
  | 78 => 5#32
  | 79 => 5#32
  | 80 => 3#32
  | 81 => 5#32
  | 82 => 5#32
  | 83 => 3#32
  | 84 => 4#32
  | 85 => 3#32
  | 86 => 5#32
  | 87 => 4#32
  | 88 => 5#32
  | 89 => 3#32
  | 90 => 3#32
  | 91 => 4#32
  | 92 => 5#32
  | 93 => 5#32
  | 94 => 3#32
  | 95 => 5#32
  | 96 => 5#32
  | 97 => 3#32
  | 98 => 5#32
  | 99 => 4#32
  | 100 => 4#32
  | 101 => 5#32
  | 102 => 4#32
  | 103 => 3#32
  | 104 => 3#32
  | 105 => 4#32
  | 106 => 3#32
  | 107 => 4#32
  | 108 => 3#32
  | 109 => 3#32
  | 110 => 4#32
  | 111 => 5#32
  | 112 => 4#32
  | 113 => 5#32
  | 114 => 5#32
  | 115 => 5#32
  | 116 => 4#32
  | 117 => 4#32
  | 118 => 3#32
  | 119 => 3#32
  | 120 => 5#32
  | 121 => 4#32
  | 122 => 3#32
  | 123 => 4#32
  | 124 => 5#32
  | 125 => 4#32
  | 126 => 3#32
  | 127 => 5#32
  | _ => 0#32

noncomputable abbrev lit2t0_68 (i : Nat) : BitVec 32 := match i % 128 with
  | 0 => 4#32
  | 1 => 4#32
  | 2 => 5#32
  | 3 => 5#32
  | 4 => 3#32
  | 5 => 4#32
  | 6 => 4#32
  | 7 => 5#32
  | 8 => 5#32
  | 9 => 5#32
  | 10 => 5#32
  | 11 => 3#32
  | 12 => 3#32
  | 13 => 3#32
  | 14 => 5#32
  | 15 => 4#32
  | 16 => 4#32
  | 17 => 5#32
  | 18 => 3#32
  | 19 => 3#32
  | 20 => 5#32
  | 21 => 5#32
  | 22 => 5#32
  | 23 => 4#32
  | 24 => 3#32
  | 25 => 4#32
  | 26 => 4#32
  | 27 => 5#32
  | 28 => 4#32
  | 29 => 3#32
  | 30 => 4#32
  | 31 => 5#32
  | 32 => 5#32
  | 33 => 5#32
  | 34 => 3#32
  | 35 => 5#32
  | 36 => 5#32
  | 37 => 4#32
  | 38 => 4#32
  | 39 => 5#32
  | 40 => 4#32
  | 41 => 4#32
  | 42 => 3#32
  | 43 => 3#32
  | 44 => 5#32
  | 45 => 5#32
  | 46 => 5#32
  | 47 => 4#32
  | 48 => 3#32
  | 49 => 3#32
  | 50 => 5#32
  | 51 => 3#32
  | 52 => 3#32
  | 53 => 4#32
  | 54 => 3#32
  | 55 => 3#32
  | 56 => 4#32
  | 57 => 3#32
  | 58 => 4#32
  | 59 => 3#32
  | 60 => 4#32
  | 61 => 3#32
  | 62 => 3#32
  | 63 => 5#32
  | 64 => 3#32
  | 65 => 5#32
  | 66 => 3#32
  | 67 => 3#32
  | 68 => 3#32
  | 69 => 5#32
  | 70 => 3#32
  | 71 => 5#32
  | 72 => 4#32
  | 73 => 5#32
  | 74 => 5#32
  | 75 => 4#32
  | 76 => 4#32
  | 77 => 4#32
  | 78 => 5#32
  | 79 => 3#32
  | 80 => 3#32
  | 81 => 5#32
  | 82 => 3#32
  | 83 => 5#32
  | 84 => 3#32
  | 85 => 3#32
  | 86 => 3#32
  | 87 => 5#32
  | 88 => 5#32
  | 89 => 3#32
  | 90 => 3#32
  | 91 => 5#32
  | 92 => 5#32
  | 93 => 3#32
  | 94 => 5#32
  | 95 => 3#32
  | 96 => 3#32
  | 97 => 5#32
  | 98 => 5#32
  | 99 => 3#32
  | 100 => 4#32
  | 101 => 3#32
  | 102 => 4#32
  | 103 => 3#32
  | 104 => 5#32
  | 105 => 3#32
  | 106 => 4#32
  | 107 => 4#32
  | 108 => 3#32
  | 109 => 4#32
  | 110 => 5#32
  | 111 => 4#32
  | 112 => 5#32
  | 113 => 5#32
  | 114 => 4#32
  | 115 => 5#32
  | 116 => 5#32
  | 117 => 4#32
  | 118 => 3#32
  | 119 => 4#32
  | 120 => 4#32
  | 121 => 5#32
  | 122 => 4#32
  | 123 => 3#32
  | 124 => 5#32
  | 125 => 4#32
  | 126 => 5#32
  | 127 => 5#32
  | _ => 0#32

noncomputable abbrev lit2t0_69 (i : Nat) : BitVec 32 := match i % 128 with
  | 0 => 5#32
  | 1 => 5#32
  | 2 => 3#32
  | 3 => 3#32
  | 4 => 4#32
  | 5 => 5#32
  | 6 => 3#32
  | 7 => 3#32
  | 8 => 5#32
  | 9 => 3#32
  | 10 => 3#32
  | 11 => 3#32
  | 12 => 3#32
  | 13 => 4#32
  | 14 => 4#32
  | 15 => 4#32
  | 16 => 3#32
  | 17 => 3#32
  | 18 => 3#32
  | 19 => 3#32
  | 20 => 3#32
  | 21 => 3#32
  | 22 => 3#32
  | 23 => 5#32
  | 24 => 4#32
  | 25 => 5#32
  | 26 => 3#32
  | 27 => 5#32
  | 28 => 4#32
  | 29 => 3#32
  | 30 => 4#32
  | 31 => 4#32
  | 32 => 5#32
  | 33 => 3#32
  | 34 => 3#32
  | 35 => 5#32
  | 36 => 3#32
  | 37 => 5#32
  | 38 => 3#32
  | 39 => 5#32
  | 40 => 4#32
  | 41 => 5#32
  | 42 => 5#32
  | 43 => 4#32
  | 44 => 5#32
  | 45 => 5#32
  | 46 => 4#32
  | 47 => 3#32
  | 48 => 4#32
  | 49 => 5#32
  | 50 => 3#32
  | 51 => 4#32
  | 52 => 4#32
  | 53 => 4#32
  | 54 => 4#32
  | 55 => 5#32
  | 56 => 4#32
  | 57 => 4#32
  | 58 => 4#32
  | 59 => 3#32
  | 60 => 5#32
  | 61 => 5#32
  | 62 => 4#32
  | 63 => 4#32
  | 64 => 3#32
  | 65 => 4#32
  | 66 => 5#32
  | 67 => 5#32
  | 68 => 4#32
  | 69 => 5#32
  | 70 => 3#32
  | 71 => 3#32
  | 72 => 5#32
  | 73 => 4#32
  | 74 => 5#32
  | 75 => 3#32
  | 76 => 3#32
  | 77 => 4#32
  | 78 => 4#32
  | 79 => 4#32
  | 80 => 5#32
  | 81 => 5#32
  | 82 => 4#32
  | 83 => 5#32
  | 84 => 3#32
  | 85 => 4#32
  | 86 => 4#32
  | 87 => 5#32
  | 88 => 5#32
  | 89 => 3#32
  | 90 => 3#32
  | 91 => 5#32
  | 92 => 5#32
  | 93 => 4#32
  | 94 => 5#32
  | 95 => 4#32
  | 96 => 4#32
  | 97 => 3#32
  | 98 => 5#32
  | 99 => 4#32
  | 100 => 3#32
  | 101 => 5#32
  | 102 => 3#32
  | 103 => 4#32
  | 104 => 5#32
  | 105 => 3#32
  | 106 => 3#32
  | 107 => 4#32
  | 108 => 3#32
  | 109 => 5#32
  | 110 => 3#32
  | 111 => 5#32
  | 112 => 4#32
  | 113 => 5#32
  | 114 => 3#32
  | 115 => 3#32
  | 116 => 5#32
  | 117 => 3#32
  | 118 => 3#32
  | 119 => 4#32
  | 120 => 5#32
  | 121 => 3#32
  | 122 => 3#32
  | 123 => 5#32
  | 124 => 5#32
  | 125 => 4#32
  | 126 => 3#32
  | 127 => 4#32
  | _ => 0#32

noncomputable abbrev lit2t0_70 (i : Nat) : BitVec 32 := match i % 128 with
  | 0 => 3#32
  | 1 => 4#32
  | 2 => 3#32
  | 3 => 5#32
  | 4 => 5#32
  | 5 => 4#32
  | 6 => 5#32
  | 7 => 3#32
  | 8 => 5#32
  | 9 => 4#32
  | 10 => 3#32
  | 11 => 4#32
  | 12 => 4#32
  | 13 => 3#32
  | 14 => 3#32
  | 15 => 4#32
  | 16 => 3#32
  | 17 => 5#32
  | 18 => 5#32
  | 19 => 4#32
  | 20 => 4#32
  | 21 => 3#32
  | 22 => 5#32
  | 23 => 5#32
  | 24 => 3#32
  | 25 => 4#32
  | 26 => 3#32
  | 27 => 4#32
  | 28 => 3#32
  | 29 => 3#32
  | 30 => 5#32
  | 31 => 5#32
  | 32 => 4#32
  | 33 => 3#32
  | 34 => 3#32
  | 35 => 3#32
  | 36 => 4#32
  | 37 => 4#32
  | 38 => 4#32
  | 39 => 5#32
  | 40 => 3#32
  | 41 => 3#32
  | 42 => 5#32
  | 43 => 5#32
  | 44 => 5#32
  | 45 => 5#32
  | 46 => 5#32
  | 47 => 5#32
  | 48 => 3#32
  | 49 => 4#32
  | 50 => 5#32
  | 51 => 4#32
  | 52 => 5#32
  | 53 => 5#32
  | 54 => 5#32
  | 55 => 5#32
  | 56 => 5#32
  | 57 => 5#32
  | 58 => 4#32
  | 59 => 5#32
  | 60 => 5#32
  | 61 => 3#32
  | 62 => 3#32
  | 63 => 3#32
  | 64 => 4#32
  | 65 => 4#32
  | 66 => 4#32
  | 67 => 5#32
  | 68 => 4#32
  | 69 => 5#32
  | 70 => 4#32
  | 71 => 4#32
  | 72 => 4#32
  | 73 => 3#32
  | 74 => 4#32
  | 75 => 4#32
  | 76 => 4#32
  | 77 => 4#32
  | 78 => 4#32
  | 79 => 4#32
  | 80 => 3#32
  | 81 => 4#32
  | 82 => 3#32
  | 83 => 5#32
  | 84 => 5#32
  | 85 => 5#32
  | 86 => 4#32
  | 87 => 3#32
  | 88 => 4#32
  | 89 => 4#32
  | 90 => 4#32
  | 91 => 5#32
  | 92 => 3#32
  | 93 => 4#32
  | 94 => 4#32
  | 95 => 5#32
  | 96 => 4#32
  | 97 => 3#32
  | 98 => 3#32
  | 99 => 3#32
  | 100 => 4#32
  | 101 => 4#32
  | 102 => 3#32
  | 103 => 3#32
  | 104 => 3#32
  | 105 => 5#32
  | 106 => 3#32
  | 107 => 5#32
  | 108 => 3#32
  | 109 => 5#32
  | 110 => 4#32
  | 111 => 5#32
  | 112 => 5#32
  | 113 => 5#32
  | 114 => 3#32
  | 115 => 5#32
  | 116 => 3#32
  | 117 => 5#32
  | 118 => 4#32
  | 119 => 3#32
  | 120 => 3#32
  | 121 => 3#32
  | 122 => 5#32
  | 123 => 5#32
  | 124 => 4#32
  | 125 => 5#32
  | 126 => 4#32
  | 127 => 5#32
  | _ => 0#32

noncomputable abbrev lit2t0_71 (i : Nat) : BitVec 32 := match i % 128 with
  | 0 => 5#32
  | 1 => 5#32
  | 2 => 3#32
  | 3 => 3#32
  | 4 => 5#32
  | 5 => 4#32
  | 6 => 5#32
  | 7 => 5#32
  | 8 => 5#32
  | 9 => 4#32
  | 10 => 3#32
  | 11 => 3#32
  | 12 => 3#32
  | 13 => 3#32
  | 14 => 5#32
  | 15 => 4#32
  | 16 => 5#32
  | 17 => 4#32
  | 18 => 3#32
  | 19 => 5#32
  | 20 => 5#32
  | 21 => 4#32
  | 22 => 4#32
  | 23 => 3#32
  | 24 => 5#32
  | 25 => 4#32
  | 26 => 3#32
  | 27 => 5#32
  | 28 => 4#32
  | 29 => 3#32
  | 30 => 4#32
  | 31 => 5#32
  | 32 => 5#32
  | 33 => 5#32
  | 34 => 4#32
  | 35 => 3#32
  | 36 => 3#32
  | 37 => 5#32
  | 38 => 4#32
  | 39 => 5#32
  | 40 => 3#32
  | 41 => 5#32
  | 42 => 5#32
  | 43 => 5#32
  | 44 => 5#32
  | 45 => 3#32
  | 46 => 3#32
  | 47 => 5#32
  | 48 => 3#32
  | 49 => 3#32
  | 50 => 5#32
  | 51 => 4#32
  | 52 => 4#32
  | 53 => 4#32
  | 54 => 5#32
  | 55 => 3#32
  | 56 => 3#32
  | 57 => 5#32
  | 58 => 3#32
  | 59 => 3#32
  | 60 => 4#32
  | 61 => 5#32
  | 62 => 5#32
  | 63 => 3#32
  | 64 => 5#32
  | 65 => 5#32
  | 66 => 4#32
  | 67 => 3#32
  | 68 => 4#32
  | 69 => 5#32
  | 70 => 3#32
  | 71 => 3#32
  | 72 => 5#32
  | 73 => 3#32
  | 74 => 5#32
  | 75 => 4#32
  | 76 => 4#32
  | 77 => 3#32
  | 78 => 3#32
  | 79 => 3#32
  | 80 => 5#32
  | 81 => 3#32
  | 82 => 5#32
  | 83 => 3#32
  | 84 => 4#32
  | 85 => 5#32
  | 86 => 5#32
  | 87 => 5#32
  | 88 => 3#32
  | 89 => 3#32
  | 90 => 5#32
  | 91 => 4#32
  | 92 => 3#32
  | 93 => 3#32
  | 94 => 5#32
  | 95 => 4#32
  | 96 => 3#32
  | 97 => 4#32
  | 98 => 4#32
  | 99 => 5#32
  | 100 => 3#32
  | 101 => 5#32
  | 102 => 5#32
  | 103 => 3#32
  | 104 => 5#32
  | 105 => 4#32
  | 106 => 4#32
  | 107 => 5#32
  | 108 => 4#32
  | 109 => 3#32
  | 110 => 4#32
  | 111 => 3#32
  | 112 => 5#32
  | 113 => 5#32
  | 114 => 4#32
  | 115 => 5#32
  | 116 => 5#32
  | 117 => 3#32
  | 118 => 4#32
  | 119 => 3#32
  | 120 => 4#32
  | 121 => 4#32
  | 122 => 4#32
  | 123 => 5#32
  | 124 => 5#32
  | 125 => 5#32
  | 126 => 5#32
  | 127 => 4#32
  | _ => 0#32

noncomputable abbrev lit2t0_72 (i : Nat) : BitVec 32 := match i % 128 with
  | 0 => 5#32
  | 1 => 3#32
  | 2 => 3#32
  | 3 => 3#32
  | 4 => 3#32
  | 5 => 5#32
  | 6 => 3#32
  | 7 => 5#32
  | 8 => 3#32
  | 9 => 4#32
  | 10 => 5#32
  | 11 => 4#32
  | 12 => 5#32
  | 13 => 3#32
  | 14 => 4#32
  | 15 => 4#32
  | 16 => 4#32
  | 17 => 5#32
  | 18 => 4#32
  | 19 => 3#32
  | 20 => 5#32
  | 21 => 4#32
  | 22 => 5#32
  | 23 => 4#32
  | 24 => 4#32
  | 25 => 3#32
  | 26 => 5#32
  | 27 => 4#32
  | 28 => 3#32
  | 29 => 3#32
  | 30 => 4#32
  | 31 => 5#32
  | 32 => 3#32
  | 33 => 5#32
  | 34 => 5#32
  | 35 => 3#32
  | 36 => 3#32
  | 37 => 5#32
  | 38 => 3#32
  | 39 => 3#32
  | 40 => 5#32
  | 41 => 4#32
  | 42 => 4#32
  | 43 => 5#32
  | 44 => 3#32
  | 45 => 5#32
  | 46 => 3#32
  | 47 => 4#32
  | 48 => 5#32
  | 49 => 3#32
  | 50 => 4#32
  | 51 => 3#32
  | 52 => 3#32
  | 53 => 5#32
  | 54 => 4#32
  | 55 => 4#32
  | 56 => 4#32
  | 57 => 5#32
  | 58 => 5#32
  | 59 => 5#32
  | 60 => 4#32
  | 61 => 4#32
  | 62 => 4#32
  | 63 => 3#32
  | 64 => 4#32
  | 65 => 4#32
  | 66 => 5#32
  | 67 => 4#32
  | 68 => 3#32
  | 69 => 4#32
  | 70 => 4#32
  | 71 => 5#32
  | 72 => 5#32
  | 73 => 5#32
  | 74 => 4#32
  | 75 => 3#32
  | 76 => 3#32
  | 77 => 3#32
  | 78 => 4#32
  | 79 => 4#32
  | 80 => 3#32
  | 81 => 3#32
  | 82 => 4#32
  | 83 => 4#32
  | 84 => 3#32
  | 85 => 4#32
  | 86 => 5#32
  | 87 => 3#32
  | 88 => 4#32
  | 89 => 4#32
  | 90 => 4#32
  | 91 => 4#32
  | 92 => 5#32
  | 93 => 3#32
  | 94 => 4#32
  | 95 => 5#32
  | 96 => 3#32
  | 97 => 4#32
  | 98 => 5#32
  | 99 => 4#32
  | 100 => 4#32
  | 101 => 4#32
  | 102 => 5#32
  | 103 => 3#32
  | 104 => 5#32
  | 105 => 4#32
  | 106 => 5#32
  | 107 => 3#32
  | 108 => 3#32
  | 109 => 3#32
  | 110 => 4#32
  | 111 => 5#32
  | 112 => 5#32
  | 113 => 4#32
  | 114 => 3#32
  | 115 => 5#32
  | 116 => 5#32
  | 117 => 3#32
  | 118 => 5#32
  | 119 => 3#32
  | 120 => 5#32
  | 121 => 4#32
  | 122 => 4#32
  | 123 => 3#32
  | 124 => 3#32
  | 125 => 3#32
  | 126 => 4#32
  | 127 => 3#32
  | _ => 0#32

noncomputable abbrev lit2t0_73 (i : Nat) : BitVec 32 := match i % 128 with
  | 0 => 3#32
  | 1 => 4#32
  | 2 => 4#32
  | 3 => 3#32
  | 4 => 4#32
  | 5 => 5#32
  | 6 => 4#32
  | 7 => 3#32
  | 8 => 5#32
  | 9 => 4#32
  | 10 => 3#32
  | 11 => 4#32
  | 12 => 4#32
  | 13 => 3#32
  | 14 => 3#32
  | 15 => 5#32
  | 16 => 4#32
  | 17 => 5#32
  | 18 => 5#32
  | 19 => 3#32
  | 20 => 3#32
  | 21 => 3#32
  | 22 => 5#32
  | 23 => 3#32
  | 24 => 3#32
  | 25 => 3#32
  | 26 => 3#32
  | 27 => 5#32
  | 28 => 5#32
  | 29 => 3#32
  | 30 => 4#32
  | 31 => 4#32
  | 32 => 4#32
  | 33 => 3#32
  | 34 => 3#32
  | 35 => 3#32
  | 36 => 3#32
  | 37 => 4#32
  | 38 => 4#32
  | 39 => 5#32
  | 40 => 4#32
  | 41 => 5#32
  | 42 => 5#32
  | 43 => 3#32
  | 44 => 3#32
  | 45 => 3#32
  | 46 => 3#32
  | 47 => 3#32
  | 48 => 3#32
  | 49 => 4#32
  | 50 => 3#32
  | 51 => 5#32
  | 52 => 4#32
  | 53 => 5#32
  | 54 => 3#32
  | 55 => 3#32
  | 56 => 5#32
  | 57 => 4#32
  | 58 => 5#32
  | 59 => 4#32
  | 60 => 4#32
  | 61 => 4#32
  | 62 => 3#32
  | 63 => 4#32
  | 64 => 4#32
  | 65 => 5#32
  | 66 => 4#32
  | 67 => 3#32
  | 68 => 5#32
  | 69 => 5#32
  | 70 => 3#32
  | 71 => 4#32
  | 72 => 4#32
  | 73 => 5#32
  | 74 => 5#32
  | 75 => 4#32
  | 76 => 3#32
  | 77 => 3#32
  | 78 => 4#32
  | 79 => 3#32
  | 80 => 5#32
  | 81 => 3#32
  | 82 => 4#32
  | 83 => 4#32
  | 84 => 3#32
  | 85 => 4#32
  | 86 => 3#32
  | 87 => 4#32
  | 88 => 5#32
  | 89 => 4#32
  | 90 => 5#32
  | 91 => 5#32
  | 92 => 4#32
  | 93 => 5#32
  | 94 => 3#32
  | 95 => 5#32
  | 96 => 4#32
  | 97 => 4#32
  | 98 => 4#32
  | 99 => 5#32
  | 100 => 4#32
  | 101 => 5#32
  | 102 => 5#32
  | 103 => 3#32
  | 104 => 3#32
  | 105 => 4#32
  | 106 => 5#32
  | 107 => 3#32
  | 108 => 5#32
  | 109 => 5#32
  | 110 => 5#32
  | 111 => 3#32
  | 112 => 4#32
  | 113 => 5#32
  | 114 => 4#32
  | 115 => 4#32
  | 116 => 4#32
  | 117 => 3#32
  | 118 => 5#32
  | 119 => 4#32
  | 120 => 3#32
  | 121 => 5#32
  | 122 => 4#32
  | 123 => 4#32
  | 124 => 4#32
  | 125 => 4#32
  | 126 => 4#32
  | 127 => 3#32
  | _ => 0#32

noncomputable abbrev lit2t0_74 (i : Nat) : BitVec 32 := match i % 128 with
  | 0 => 5#32
  | 1 => 5#32
  | 2 => 5#32
  | 3 => 5#32
  | 4 => 4#32
  | 5 => 5#32
  | 6 => 4#32
  | 7 => 3#32
  | 8 => 4#32
  | 9 => 5#32
  | 10 => 3#32
  | 11 => 3#32
  | 12 => 3#32
  | 13 => 4#32
  | 14 => 5#32
  | 15 => 3#32
  | 16 => 4#32
  | 17 => 4#32
  | 18 => 4#32
  | 19 => 5#32
  | 20 => 5#32
  | 21 => 5#32
  | 22 => 3#32
  | 23 => 5#32
  | 24 => 5#32
  | 25 => 5#32
  | 26 => 4#32
  | 27 => 3#32
  | 28 => 5#32
  | 29 => 5#32
  | 30 => 5#32
  | 31 => 3#32
  | 32 => 3#32
  | 33 => 3#32
  | 34 => 4#32
  | 35 => 5#32
  | 36 => 4#32
  | 37 => 5#32
  | 38 => 4#32
  | 39 => 5#32
  | 40 => 4#32
  | 41 => 3#32
  | 42 => 4#32
  | 43 => 5#32
  | 44 => 5#32
  | 45 => 4#32
  | 46 => 5#32
  | 47 => 3#32
  | 48 => 3#32
  | 49 => 5#32
  | 50 => 3#32
  | 51 => 4#32
  | 52 => 5#32
  | 53 => 3#32
  | 54 => 5#32
  | 55 => 4#32
  | 56 => 3#32
  | 57 => 5#32
  | 58 => 4#32
  | 59 => 4#32
  | 60 => 3#32
  | 61 => 5#32
  | 62 => 5#32
  | 63 => 4#32
  | 64 => 4#32
  | 65 => 5#32
  | 66 => 5#32
  | 67 => 3#32
  | 68 => 5#32
  | 69 => 4#32
  | 70 => 3#32
  | 71 => 4#32
  | 72 => 3#32
  | 73 => 3#32
  | 74 => 4#32
  | 75 => 5#32
  | 76 => 4#32
  | 77 => 5#32
  | 78 => 5#32
  | 79 => 3#32
  | 80 => 4#32
  | 81 => 4#32
  | 82 => 5#32
  | 83 => 5#32
  | 84 => 5#32
  | 85 => 5#32
  | 86 => 5#32
  | 87 => 4#32
  | 88 => 4#32
  | 89 => 4#32
  | 90 => 5#32
  | 91 => 4#32
  | 92 => 5#32
  | 93 => 5#32
  | 94 => 4#32
  | 95 => 4#32
  | 96 => 5#32
  | 97 => 5#32
  | 98 => 5#32
  | 99 => 4#32
  | 100 => 3#32
  | 101 => 3#32
  | 102 => 5#32
  | 103 => 3#32
  | 104 => 4#32
  | 105 => 3#32
  | 106 => 3#32
  | 107 => 3#32
  | 108 => 5#32
  | 109 => 3#32
  | 110 => 4#32
  | 111 => 5#32
  | 112 => 3#32
  | 113 => 5#32
  | 114 => 4#32
  | 115 => 3#32
  | 116 => 3#32
  | 117 => 3#32
  | 118 => 4#32
  | 119 => 4#32
  | 120 => 3#32
  | 121 => 4#32
  | 122 => 5#32
  | 123 => 5#32
  | 124 => 4#32
  | 125 => 4#32
  | 126 => 3#32
  | 127 => 5#32
  | _ => 0#32

noncomputable abbrev lit2t0_75 (i : Nat) : BitVec 32 := match i % 128 with
  | 0 => 5#32
  | 1 => 5#32
  | 2 => 4#32
  | 3 => 4#32
  | 4 => 5#32
  | 5 => 5#32
  | 6 => 5#32
  | 7 => 4#32
  | 8 => 5#32
  | 9 => 5#32
  | 10 => 3#32
  | 11 => 5#32
  | 12 => 5#32
  | 13 => 3#32
  | 14 => 5#32
  | 15 => 3#32
  | 16 => 5#32
  | 17 => 3#32
  | 18 => 3#32
  | 19 => 3#32
  | 20 => 4#32
  | 21 => 4#32
  | 22 => 5#32
  | 23 => 3#32
  | 24 => 3#32
  | 25 => 5#32
  | 26 => 3#32
  | 27 => 4#32
  | 28 => 3#32
  | 29 => 4#32
  | 30 => 4#32
  | 31 => 5#32
  | 32 => 4#32
  | 33 => 5#32
  | 34 => 5#32
  | 35 => 3#32
  | 36 => 5#32
  | 37 => 3#32
  | 38 => 4#32
  | 39 => 4#32
  | 40 => 5#32
  | 41 => 5#32
  | 42 => 5#32
  | 43 => 5#32
  | 44 => 3#32
  | 45 => 3#32
  | 46 => 5#32
  | 47 => 5#32
  | 48 => 5#32
  | 49 => 5#32
  | 50 => 4#32
  | 51 => 4#32
  | 52 => 3#32
  | 53 => 5#32
  | 54 => 3#32
  | 55 => 4#32
  | 56 => 5#32
  | 57 => 3#32
  | 58 => 4#32
  | 59 => 5#32
  | 60 => 4#32
  | 61 => 3#32
  | 62 => 5#32
  | 63 => 3#32
  | 64 => 5#32
  | 65 => 5#32
  | 66 => 5#32
  | 67 => 3#32
  | 68 => 4#32
  | 69 => 3#32
  | 70 => 4#32
  | 71 => 4#32
  | 72 => 5#32
  | 73 => 4#32
  | 74 => 5#32
  | 75 => 5#32
  | 76 => 4#32
  | 77 => 3#32
  | 78 => 5#32
  | 79 => 5#32
  | 80 => 5#32
  | 81 => 5#32
  | 82 => 4#32
  | 83 => 4#32
  | 84 => 4#32
  | 85 => 3#32
  | 86 => 5#32
  | 87 => 4#32
  | 88 => 5#32
  | 89 => 3#32
  | 90 => 3#32
  | 91 => 4#32
  | 92 => 4#32
  | 93 => 5#32
  | 94 => 4#32
  | 95 => 3#32
  | 96 => 4#32
  | 97 => 5#32
  | 98 => 3#32
  | 99 => 4#32
  | 100 => 4#32
  | 101 => 5#32
  | 102 => 3#32
  | 103 => 4#32
  | 104 => 3#32
  | 105 => 3#32
  | 106 => 4#32
  | 107 => 5#32
  | 108 => 4#32
  | 109 => 5#32
  | 110 => 4#32
  | 111 => 4#32
  | 112 => 5#32
  | 113 => 5#32
  | 114 => 4#32
  | 115 => 5#32
  | 116 => 5#32
  | 117 => 4#32
  | 118 => 4#32
  | 119 => 4#32
  | 120 => 5#32
  | 121 => 4#32
  | 122 => 4#32
  | 123 => 4#32
  | 124 => 5#32
  | 125 => 3#32
  | 126 => 4#32
  | 127 => 3#32
  | _ => 0#32

noncomputable abbrev lit2t0_76 (i : Nat) : BitVec 32 := match i % 128 with
  | 0 => 4#32
  | 1 => 4#32
  | 2 => 4#32
  | 3 => 3#32
  | 4 => 3#32
  | 5 => 4#32
  | 6 => 4#32
  | 7 => 5#32
  | 8 => 4#32
  | 9 => 3#32
  | 10 => 4#32
  | 11 => 5#32
  | 12 => 4#32
  | 13 => 5#32
  | 14 => 3#32
  | 15 => 3#32
  | 16 => 4#32
  | 17 => 3#32
  | 18 => 3#32
  | 19 => 3#32
  | 20 => 4#32
  | 21 => 4#32
  | 22 => 3#32
  | 23 => 4#32
  | 24 => 5#32
  | 25 => 5#32
  | 26 => 3#32
  | 27 => 3#32
  | 28 => 4#32
  | 29 => 5#32
  | 30 => 3#32
  | 31 => 4#32
  | 32 => 4#32
  | 33 => 5#32
  | 34 => 5#32
  | 35 => 5#32
  | 36 => 5#32
  | 37 => 4#32
  | 38 => 5#32
  | 39 => 4#32
  | 40 => 5#32
  | 41 => 4#32
  | 42 => 3#32
  | 43 => 3#32
  | 44 => 4#32
  | 45 => 5#32
  | 46 => 3#32
  | 47 => 4#32
  | 48 => 3#32
  | 49 => 3#32
  | 50 => 3#32
  | 51 => 3#32
  | 52 => 3#32
  | 53 => 3#32
  | 54 => 4#32
  | 55 => 3#32
  | 56 => 5#32
  | 57 => 5#32
  | 58 => 4#32
  | 59 => 4#32
  | 60 => 3#32
  | 61 => 4#32
  | 62 => 4#32
  | 63 => 4#32
  | 64 => 5#32
  | 65 => 5#32
  | 66 => 3#32
  | 67 => 4#32
  | 68 => 3#32
  | 69 => 5#32
  | 70 => 4#32
  | 71 => 4#32
  | 72 => 4#32
  | 73 => 3#32
  | 74 => 5#32
  | 75 => 5#32
  | 76 => 4#32
  | 77 => 5#32
  | 78 => 4#32
  | 79 => 3#32
  | 80 => 4#32
  | 81 => 4#32
  | 82 => 5#32
  | 83 => 4#32
  | 84 => 3#32
  | 85 => 3#32
  | 86 => 4#32
  | 87 => 4#32
  | 88 => 4#32
  | 89 => 5#32
  | 90 => 4#32
  | 91 => 5#32
  | 92 => 3#32
  | 93 => 5#32
  | 94 => 3#32
  | 95 => 5#32
  | 96 => 4#32
  | 97 => 5#32
  | 98 => 4#32
  | 99 => 5#32
  | 100 => 5#32
  | 101 => 5#32
  | 102 => 3#32
  | 103 => 3#32
  | 104 => 4#32
  | 105 => 4#32
  | 106 => 3#32
  | 107 => 3#32
  | 108 => 4#32
  | 109 => 4#32
  | 110 => 3#32
  | 111 => 3#32
  | 112 => 4#32
  | 113 => 3#32
  | 114 => 5#32
  | 115 => 4#32
  | 116 => 3#32
  | 117 => 4#32
  | 118 => 5#32
  | 119 => 5#32
  | 120 => 5#32
  | 121 => 3#32
  | 122 => 3#32
  | 123 => 3#32
  | 124 => 5#32
  | 125 => 3#32
  | 126 => 4#32
  | 127 => 4#32
  | _ => 0#32

noncomputable abbrev lit2t0_77 (i : Nat) : BitVec 32 := match i % 128 with
  | 0 => 4#32
  | 1 => 3#32
  | 2 => 3#32
  | 3 => 3#32
  | 4 => 3#32
  | 5 => 5#32
  | 6 => 4#32
  | 7 => 4#32
  | 8 => 4#32
  | 9 => 3#32
  | 10 => 3#32
  | 11 => 4#32
  | 12 => 3#32
  | 13 => 3#32
  | 14 => 3#32
  | 15 => 3#32
  | 16 => 5#32
  | 17 => 5#32
  | 18 => 3#32
  | 19 => 5#32
  | 20 => 5#32
  | 21 => 5#32
  | 22 => 4#32
  | 23 => 4#32
  | 24 => 4#32
  | 25 => 3#32
  | 26 => 5#32
  | 27 => 3#32
  | 28 => 4#32
  | 29 => 4#32
  | 30 => 3#32
  | 31 => 3#32
  | 32 => 3#32
  | 33 => 3#32
  | 34 => 5#32
  | 35 => 4#32
  | 36 => 3#32
  | 37 => 3#32
  | 38 => 4#32
  | 39 => 3#32
  | 40 => 4#32
  | 41 => 3#32
  | 42 => 3#32
  | 43 => 5#32
  | 44 => 5#32
  | 45 => 4#32
  | 46 => 3#32
  | 47 => 3#32
  | 48 => 3#32
  | 49 => 3#32
  | 50 => 3#32
  | 51 => 5#32
  | 52 => 5#32
  | 53 => 3#32
  | 54 => 4#32
  | 55 => 4#32
  | 56 => 4#32
  | 57 => 3#32
  | 58 => 3#32
  | 59 => 4#32
  | 60 => 4#32
  | 61 => 5#32
  | 62 => 5#32
  | 63 => 4#32
  | 64 => 5#32
  | 65 => 4#32
  | 66 => 5#32
  | 67 => 3#32
  | 68 => 5#32
  | 69 => 3#32
  | 70 => 4#32
  | 71 => 4#32
  | 72 => 4#32
  | 73 => 5#32
  | 74 => 3#32
  | 75 => 5#32
  | 76 => 4#32
  | 77 => 4#32
  | 78 => 4#32
  | 79 => 5#32
  | 80 => 4#32
  | 81 => 4#32
  | 82 => 4#32
  | 83 => 5#32
  | 84 => 3#32
  | 85 => 4#32
  | 86 => 5#32
  | 87 => 3#32
  | 88 => 3#32
  | 89 => 4#32
  | 90 => 4#32
  | 91 => 5#32
  | 92 => 4#32
  | 93 => 4#32
  | 94 => 4#32
  | 95 => 5#32
  | 96 => 3#32
  | 97 => 4#32
  | 98 => 3#32
  | 99 => 3#32
  | 100 => 3#32
  | 101 => 3#32
  | 102 => 4#32
  | 103 => 3#32
  | 104 => 5#32
  | 105 => 4#32
  | 106 => 5#32
  | 107 => 3#32
  | 108 => 5#32
  | 109 => 4#32
  | 110 => 3#32
  | 111 => 5#32
  | 112 => 5#32
  | 113 => 3#32
  | 114 => 5#32
  | 115 => 4#32
  | 116 => 5#32
  | 117 => 3#32
  | 118 => 4#32
  | 119 => 4#32
  | 120 => 3#32
  | 121 => 3#32
  | 122 => 4#32
  | 123 => 5#32
  | 124 => 4#32
  | 125 => 5#32
  | 126 => 3#32
  | 127 => 5#32
  | _ => 0#32

noncomputable abbrev lit2t0_78 (i : Nat) : BitVec 32 := match i % 128 with
  | 0 => 4#32
  | 1 => 3#32
  | 2 => 3#32
  | 3 => 4#32
  | 4 => 5#32
  | 5 => 3#32
  | 6 => 4#32
  | 7 => 5#32
  | 8 => 3#32
  | 9 => 4#32
  | 10 => 5#32
  | 11 => 5#32
  | 12 => 5#32
  | 13 => 3#32
  | 14 => 5#32
  | 15 => 5#32
  | _ => 0#32

noncomputable abbrev lit2t (i : Nat) : BitVec 32 := match i / 128 with
  | 0 => lit2t0_0 i
  | 1 => lit2t0_1 i
  | 2 => lit2t0_2 i
  | 3 => lit2t0_3 i
  | 4 => lit2t0_4 i
  | 5 => lit2t0_5 i
  | 6 => lit2t0_6 i
  | 7 => lit2t0_7 i
  | 8 => lit2t0_8 i
  | 9 => lit2t0_9 i
  | 10 => lit2t0_10 i
  | 11 => lit2t0_11 i
  | 12 => lit2t0_12 i
  | 13 => lit2t0_13 i
  | 14 => lit2t0_14 i
  | 15 => lit2t0_15 i
  | 16 => lit2t0_16 i
  | 17 => lit2t0_17 i
  | 18 => lit2t0_18 i
  | 19 => lit2t0_19 i
  | 20 => lit2t0_20 i
  | 21 => lit2t0_21 i
  | 22 => lit2t0_22 i
  | 23 => lit2t0_23 i
  | 24 => lit2t0_24 i
  | 25 => lit2t0_25 i
  | 26 => lit2t0_26 i
  | 27 => lit2t0_27 i
  | 28 => lit2t0_28 i
  | 29 => lit2t0_29 i
  | 30 => lit2t0_30 i
  | 31 => lit2t0_31 i
  | 32 => lit2t0_32 i
  | 33 => lit2t0_33 i
  | 34 => lit2t0_34 i
  | 35 => lit2t0_35 i
  | 36 => lit2t0_36 i
  | 37 => lit2t0_37 i
  | 38 => lit2t0_38 i
  | 39 => lit2t0_39 i
  | 40 => lit2t0_40 i
  | 41 => lit2t0_41 i
  | 42 => lit2t0_42 i
  | 43 => lit2t0_43 i
  | 44 => lit2t0_44 i
  | 45 => lit2t0_45 i
  | 46 => lit2t0_46 i
  | 47 => lit2t0_47 i
  | 48 => lit2t0_48 i
  | 49 => lit2t0_49 i
  | 50 => lit2t0_50 i
  | 51 => lit2t0_51 i
  | 52 => lit2t0_52 i
  | 53 => lit2t0_53 i
  | 54 => lit2t0_54 i
  | 55 => lit2t0_55 i
  | 56 => lit2t0_56 i
  | 57 => lit2t0_57 i
  | 58 => lit2t0_58 i
  | 59 => lit2t0_59 i
  | 60 => lit2t0_60 i
  | 61 => lit2t0_61 i
  | 62 => lit2t0_62 i
  | 63 => lit2t0_63 i
  | 64 => lit2t0_64 i
  | 65 => lit2t0_65 i
  | 66 => lit2t0_66 i
  | 67 => lit2t0_67 i
  | 68 => lit2t0_68 i
  | 69 => lit2t0_69 i
  | 70 => lit2t0_70 i
  | 71 => lit2t0_71 i
  | 72 => lit2t0_72 i
  | 73 => lit2t0_73 i
  | 74 => lit2t0_74 i
  | 75 => lit2t0_75 i
  | 76 => lit2t0_76 i
  | 77 => lit2t0_77 i
  | 78 => lit2t0_78 i
  | _ => 0#32

noncomputable abbrev lit2 : Fin 10000 → BitVec 32 := fun ⟨i, _⟩ => lit2t i

noncomputable abbrev lit3t0_0 (i : Nat) : BitVec 32 := match i % 128 with
  | 0 => 8#32
  | 1 => 16#32
  | 2 => 4#32
  | 3 => 8#32
  | 4 => 8#32
  | 5 => 4#32
  | 6 => 1#32
  | 7 => 8#32
  | 8 => 2#32
  | 9 => 16#32
  | 10 => 8#32
  | 11 => 1#32
  | 12 => 1#32
  | 13 => 8#32
  | 14 => 2#32
  | 15 => 4#32
  | 16 => 4#32
  | 17 => 8#32
  | 18 => 16#32
  | 19 => 2#32
  | 20 => 8#32
  | 21 => 16#32
  | 22 => 4#32
  | 23 => 4#32
  | 24 => 4#32
  | 25 => 4#32
  | 26 => 1#32
  | 27 => 4#32
  | 28 => 1#32
  | 29 => 2#32
  | 30 => 16#32
  | 31 => 1#32
  | 32 => 16#32
  | 33 => 8#32
  | 34 => 16#32
  | 35 => 2#32
  | 36 => 8#32
  | 37 => 1#32
  | 38 => 2#32
  | 39 => 4#32
  | 40 => 4#32
  | 41 => 16#32
  | 42 => 8#32
  | 43 => 16#32
  | 44 => 2#32
  | 45 => 4#32
  | 46 => 2#32
  | 47 => 8#32
  | 48 => 4#32
  | 49 => 2#32
  | 50 => 8#32
  | 51 => 2#32
  | 52 => 8#32
  | 53 => 4#32
  | 54 => 2#32
  | 55 => 16#32
  | 56 => 8#32
  | 57 => 16#32
  | 58 => 4#32
  | 59 => 16#32
  | 60 => 2#32
  | 61 => 2#32
  | 62 => 2#32
  | 63 => 16#32
  | 64 => 8#32
  | 65 => 2#32
  | 66 => 1#32
  | 67 => 8#32
  | 68 => 4#32
  | 69 => 8#32
  | 70 => 1#32
  | 71 => 2#32
  | 72 => 8#32
  | 73 => 8#32
  | 74 => 8#32
  | 75 => 4#32
  | 76 => 1#32
  | 77 => 8#32
  | 78 => 2#32
  | 79 => 8#32
  | 80 => 1#32
  | 81 => 4#32
  | 82 => 2#32
  | 83 => 8#32
  | 84 => 16#32
  | 85 => 8#32
  | 86 => 2#32
  | 87 => 1#32
  | 88 => 16#32
  | 89 => 2#32
  | 90 => 4#32
  | 91 => 1#32
  | 92 => 4#32
  | 93 => 8#32
  | 94 => 8#32
  | 95 => 4#32
  | 96 => 8#32
  | 97 => 2#32
  | 98 => 8#32
  | 99 => 1#32
  | 100 => 16#32
  | 101 => 4#32
  | 102 => 4#32
  | 103 => 4#32
  | 104 => 4#32
  | 105 => 4#32
  | 106 => 8#32
  | 107 => 16#32
  | 108 => 2#32
  | 109 => 1#32
  | 110 => 4#32
  | 111 => 16#32
  | 112 => 16#32
  | 113 => 16#32
  | 114 => 8#32
  | 115 => 1#32
  | 116 => 16#32
  | 117 => 16#32
  | 118 => 1#32
  | 119 => 8#32
  | 120 => 16#32
  | 121 => 16#32
  | 122 => 16#32
  | 123 => 8#32
  | 124 => 4#32
  | 125 => 8#32
  | 126 => 1#32
  | 127 => 8#32
  | _ => 0#32

noncomputable abbrev lit3t0_1 (i : Nat) : BitVec 32 := match i % 128 with
  | 0 => 4#32
  | 1 => 2#32
  | 2 => 4#32
  | 3 => 4#32
  | 4 => 16#32
  | 5 => 4#32
  | 6 => 16#32
  | 7 => 1#32
  | 8 => 16#32
  | 9 => 2#32
  | 10 => 8#32
  | 11 => 1#32
  | 12 => 2#32
  | 13 => 16#32
  | 14 => 16#32
  | 15 => 1#32
  | 16 => 16#32
  | 17 => 1#32
  | 18 => 2#32
  | 19 => 8#32
  | 20 => 4#32
  | 21 => 16#32
  | 22 => 4#32
  | 23 => 8#32
  | 24 => 4#32
  | 25 => 8#32
  | 26 => 16#32
  | 27 => 2#32
  | 28 => 4#32
  | 29 => 8#32
  | 30 => 1#32
  | 31 => 8#32
  | 32 => 4#32
  | 33 => 2#32
  | 34 => 8#32
  | 35 => 16#32
  | 36 => 1#32
  | 37 => 4#32
  | 38 => 16#32
  | 39 => 8#32
  | 40 => 8#32
  | 41 => 4#32
  | 42 => 4#32
  | 43 => 4#32
  | 44 => 8#32
  | 45 => 1#32
  | 46 => 8#32
  | 47 => 4#32
  | 48 => 2#32
  | 49 => 8#32
  | 50 => 4#32
  | 51 => 16#32
  | 52 => 1#32
  | 53 => 2#32
  | 54 => 1#32
  | 55 => 1#32
  | 56 => 4#32
  | 57 => 1#32
  | 58 => 2#32
  | 59 => 2#32
  | 60 => 4#32
  | 61 => 4#32
  | 62 => 2#32
  | 63 => 2#32
  | 64 => 1#32
  | 65 => 2#32
  | 66 => 8#32
  | 67 => 1#32
  | 68 => 2#32
  | 69 => 4#32
  | 70 => 16#32
  | 71 => 8#32
  | 72 => 4#32
  | 73 => 4#32
  | 74 => 2#32
  | 75 => 1#32
  | 76 => 4#32
  | 77 => 16#32
  | 78 => 4#32
  | 79 => 1#32
  | 80 => 8#32
  | 81 => 16#32
  | 82 => 16#32
  | 83 => 1#32
  | 84 => 8#32
  | 85 => 1#32
  | 86 => 8#32
  | 87 => 4#32
  | 88 => 16#32
  | 89 => 8#32
  | 90 => 16#32
  | 91 => 4#32
  | 92 => 16#32
  | 93 => 4#32
  | 94 => 4#32
  | 95 => 8#32
  | 96 => 2#32
  | 97 => 4#32
  | 98 => 8#32
  | 99 => 16#32
  | 100 => 1#32
  | 101 => 1#32
  | 102 => 4#32
  | 103 => 2#32
  | 104 => 1#32
  | 105 => 1#32
  | 106 => 1#32
  | 107 => 1#32
  | 108 => 2#32
  | 109 => 8#32
  | 110 => 16#32
  | 111 => 16#32
  | 112 => 4#32
  | 113 => 2#32
  | 114 => 2#32
  | 115 => 16#32
  | 116 => 1#32
  | 117 => 2#32
  | 118 => 2#32
  | 119 => 8#32
  | 120 => 4#32
  | 121 => 1#32
  | 122 => 2#32
  | 123 => 4#32
  | 124 => 8#32
  | 125 => 1#32
  | 126 => 2#32
  | 127 => 1#32
  | _ => 0#32

noncomputable abbrev lit3t0_2 (i : Nat) : BitVec 32 := match i % 128 with
  | 0 => 16#32
  | 1 => 2#32
  | 2 => 1#32
  | 3 => 1#32
  | 4 => 1#32
  | 5 => 16#32
  | 6 => 8#32
  | 7 => 16#32
  | 8 => 8#32
  | 9 => 16#32
  | 10 => 4#32
  | 11 => 2#32
  | 12 => 1#32
  | 13 => 4#32
  | 14 => 4#32
  | 15 => 16#32
  | 16 => 8#32
  | 17 => 2#32
  | 18 => 8#32
  | 19 => 8#32
  | 20 => 4#32
  | 21 => 2#32
  | 22 => 4#32
  | 23 => 2#32
  | 24 => 1#32
  | 25 => 8#32
  | 26 => 8#32
  | 27 => 16#32
  | 28 => 16#32
  | 29 => 16#32
  | 30 => 16#32
  | 31 => 2#32
  | 32 => 2#32
  | 33 => 1#32
  | 34 => 4#32
  | 35 => 16#32
  | 36 => 16#32
  | 37 => 2#32
  | 38 => 1#32
  | 39 => 8#32
  | 40 => 1#32
  | 41 => 1#32
  | 42 => 2#32
  | 43 => 1#32
  | 44 => 8#32
  | 45 => 8#32
  | 46 => 4#32
  | 47 => 16#32
  | 48 => 4#32
  | 49 => 4#32
  | 50 => 8#32
  | 51 => 8#32
  | 52 => 4#32
  | 53 => 8#32
  | 54 => 1#32
  | 55 => 16#32
  | 56 => 4#32
  | 57 => 1#32
  | 58 => 1#32
  | 59 => 4#32
  | 60 => 16#32
  | 61 => 4#32
  | 62 => 8#32
  | 63 => 2#32
  | 64 => 2#32
  | 65 => 2#32
  | 66 => 1#32
  | 67 => 4#32
  | 68 => 16#32
  | 69 => 1#32
  | 70 => 16#32
  | 71 => 16#32
  | 72 => 1#32
  | 73 => 2#32
  | 74 => 1#32
  | 75 => 2#32
  | 76 => 4#32
  | 77 => 4#32
  | 78 => 1#32
  | 79 => 8#32
  | 80 => 4#32
  | 81 => 4#32
  | 82 => 8#32
  | 83 => 4#32
  | 84 => 1#32
  | 85 => 2#32
  | 86 => 8#32
  | 87 => 4#32
  | 88 => 4#32
  | 89 => 2#32
  | 90 => 8#32
  | 91 => 1#32
  | 92 => 1#32
  | 93 => 16#32
  | 94 => 4#32
  | 95 => 1#32
  | 96 => 4#32
  | 97 => 4#32
  | 98 => 8#32
  | 99 => 4#32
  | 100 => 2#32
  | 101 => 2#32
  | 102 => 16#32
  | 103 => 4#32
  | 104 => 2#32
  | 105 => 2#32
  | 106 => 16#32
  | 107 => 4#32
  | 108 => 2#32
  | 109 => 8#32
  | 110 => 4#32
  | 111 => 4#32
  | 112 => 4#32
  | 113 => 16#32
  | 114 => 2#32
  | 115 => 8#32
  | 116 => 8#32
  | 117 => 4#32
  | 118 => 8#32
  | 119 => 2#32
  | 120 => 2#32
  | 121 => 1#32
  | 122 => 2#32
  | 123 => 2#32
  | 124 => 4#32
  | 125 => 8#32
  | 126 => 16#32
  | 127 => 4#32
  | _ => 0#32

noncomputable abbrev lit3t0_3 (i : Nat) : BitVec 32 := match i % 128 with
  | 0 => 2#32
  | 1 => 1#32
  | 2 => 2#32
  | 3 => 4#32
  | 4 => 1#32
  | 5 => 2#32
  | 6 => 4#32
  | 7 => 2#32
  | 8 => 2#32
  | 9 => 2#32
  | 10 => 2#32
  | 11 => 8#32
  | 12 => 8#32
  | 13 => 8#32
  | 14 => 1#32
  | 15 => 1#32
  | 16 => 8#32
  | 17 => 2#32
  | 18 => 8#32
  | 19 => 4#32
  | 20 => 16#32
  | 21 => 1#32
  | 22 => 16#32
  | 23 => 8#32
  | 24 => 4#32
  | 25 => 8#32
  | 26 => 1#32
  | 27 => 1#32
  | 28 => 4#32
  | 29 => 16#32
  | 30 => 4#32
  | 31 => 16#32
  | 32 => 4#32
  | 33 => 1#32
  | 34 => 8#32
  | 35 => 16#32
  | 36 => 16#32
  | 37 => 2#32
  | 38 => 16#32
  | 39 => 4#32
  | 40 => 8#32
  | 41 => 1#32
  | 42 => 4#32
  | 43 => 4#32
  | 44 => 4#32
  | 45 => 16#32
  | 46 => 1#32
  | 47 => 4#32
  | 48 => 8#32
  | 49 => 1#32
  | 50 => 8#32
  | 51 => 2#32
  | 52 => 2#32
  | 53 => 4#32
  | 54 => 1#32
  | 55 => 4#32
  | 56 => 2#32
  | 57 => 4#32
  | 58 => 16#32
  | 59 => 16#32
  | 60 => 4#32
  | 61 => 4#32
  | 62 => 1#32
  | 63 => 16#32
  | 64 => 8#32
  | 65 => 1#32
  | 66 => 8#32
  | 67 => 16#32
  | 68 => 2#32
  | 69 => 4#32
  | 70 => 2#32
  | 71 => 16#32
  | 72 => 8#32
  | 73 => 16#32
  | 74 => 1#32
  | 75 => 4#32
  | 76 => 16#32
  | 77 => 1#32
  | 78 => 1#32
  | 79 => 2#32
  | 80 => 4#32
  | 81 => 1#32
  | 82 => 4#32
  | 83 => 16#32
  | 84 => 2#32
  | 85 => 16#32
  | 86 => 2#32
  | 87 => 8#32
  | 88 => 2#32
  | 89 => 2#32
  | 90 => 16#32
  | 91 => 8#32
  | 92 => 16#32
  | 93 => 16#32
  | 94 => 4#32
  | 95 => 4#32
  | 96 => 1#32
  | 97 => 1#32
  | 98 => 8#32
  | 99 => 4#32
  | 100 => 8#32
  | 101 => 16#32
  | 102 => 1#32
  | 103 => 8#32
  | 104 => 2#32
  | 105 => 8#32
  | 106 => 2#32
  | 107 => 4#32
  | 108 => 1#32
  | 109 => 8#32
  | 110 => 16#32
  | 111 => 8#32
  | 112 => 2#32
  | 113 => 1#32
  | 114 => 1#32
  | 115 => 16#32
  | 116 => 16#32
  | 117 => 2#32
  | 118 => 2#32
  | 119 => 8#32
  | 120 => 8#32
  | 121 => 4#32
  | 122 => 16#32
  | 123 => 16#32
  | 124 => 16#32
  | 125 => 2#32
  | 126 => 8#32
  | 127 => 1#32
  | _ => 0#32

noncomputable abbrev lit3t0_4 (i : Nat) : BitVec 32 := match i % 128 with
  | 0 => 2#32
  | 1 => 2#32
  | 2 => 16#32
  | 3 => 1#32
  | 4 => 16#32
  | 5 => 16#32
  | 6 => 2#32
  | 7 => 4#32
  | 8 => 2#32
  | 9 => 4#32
  | 10 => 4#32
  | 11 => 16#32
  | 12 => 1#32
  | 13 => 16#32
  | 14 => 16#32
  | 15 => 8#32
  | 16 => 16#32
  | 17 => 4#32
  | 18 => 16#32
  | 19 => 8#32
  | 20 => 2#32
  | 21 => 16#32
  | 22 => 8#32
  | 23 => 2#32
  | 24 => 16#32
  | 25 => 16#32
  | 26 => 16#32
  | 27 => 16#32
  | 28 => 4#32
  | 29 => 2#32
  | 30 => 1#32
  | 31 => 8#32
  | 32 => 1#32
  | 33 => 16#32
  | 34 => 16#32
  | 35 => 4#32
  | 36 => 4#32
  | 37 => 8#32
  | 38 => 16#32
  | 39 => 1#32
  | 40 => 16#32
  | 41 => 1#32
  | 42 => 1#32
  | 43 => 1#32
  | 44 => 4#32
  | 45 => 16#32
  | 46 => 1#32
  | 47 => 2#32
  | 48 => 4#32
  | 49 => 8#32
  | 50 => 16#32
  | 51 => 2#32
  | 52 => 16#32
  | 53 => 16#32
  | 54 => 16#32
  | 55 => 2#32
  | 56 => 8#32
  | 57 => 8#32
  | 58 => 4#32
  | 59 => 16#32
  | 60 => 4#32
  | 61 => 4#32
  | 62 => 2#32
  | 63 => 16#32
  | 64 => 4#32
  | 65 => 8#32
  | 66 => 4#32
  | 67 => 1#32
  | 68 => 16#32
  | 69 => 4#32
  | 70 => 1#32
  | 71 => 16#32
  | 72 => 4#32
  | 73 => 16#32
  | 74 => 16#32
  | 75 => 2#32
  | 76 => 4#32
  | 77 => 2#32
  | 78 => 2#32
  | 79 => 1#32
  | 80 => 4#32
  | 81 => 8#32
  | 82 => 16#32
  | 83 => 4#32
  | 84 => 16#32
  | 85 => 8#32
  | 86 => 4#32
  | 87 => 1#32
  | 88 => 1#32
  | 89 => 8#32
  | 90 => 1#32
  | 91 => 8#32
  | 92 => 1#32
  | 93 => 16#32
  | 94 => 8#32
  | 95 => 1#32
  | 96 => 2#32
  | 97 => 8#32
  | 98 => 1#32
  | 99 => 16#32
  | 100 => 4#32
  | 101 => 8#32
  | 102 => 4#32
  | 103 => 2#32
  | 104 => 2#32
  | 105 => 4#32
  | 106 => 2#32
  | 107 => 8#32
  | 108 => 16#32
  | 109 => 16#32
  | 110 => 1#32
  | 111 => 4#32
  | 112 => 16#32
  | 113 => 8#32
  | 114 => 4#32
  | 115 => 16#32
  | 116 => 2#32
  | 117 => 8#32
  | 118 => 8#32
  | 119 => 4#32
  | 120 => 1#32
  | 121 => 1#32
  | 122 => 4#32
  | 123 => 8#32
  | 124 => 8#32
  | 125 => 16#32
  | 126 => 8#32
  | 127 => 4#32
  | _ => 0#32

noncomputable abbrev lit3t0_5 (i : Nat) : BitVec 32 := match i % 128 with
  | 0 => 16#32
  | 1 => 2#32
  | 2 => 8#32
  | 3 => 1#32
  | 4 => 4#32
  | 5 => 4#32
  | 6 => 2#32
  | 7 => 16#32
  | 8 => 16#32
  | 9 => 4#32
  | 10 => 4#32
  | 11 => 4#32
  | 12 => 8#32
  | 13 => 1#32
  | 14 => 16#32
  | 15 => 4#32
  | 16 => 16#32
  | 17 => 2#32
  | 18 => 2#32
  | 19 => 2#32
  | 20 => 8#32
  | 21 => 2#32
  | 22 => 1#32
  | 23 => 8#32
  | 24 => 16#32
  | 25 => 4#32
  | 26 => 16#32
  | 27 => 2#32
  | 28 => 1#32
  | 29 => 16#32
  | 30 => 1#32
  | 31 => 4#32
  | 32 => 1#32
  | 33 => 8#32
  | 34 => 8#32
  | 35 => 2#32
  | 36 => 4#32
  | 37 => 16#32
  | 38 => 2#32
  | 39 => 4#32
  | 40 => 8#32
  | 41 => 4#32
  | 42 => 8#32
  | 43 => 2#32
  | 44 => 2#32
  | 45 => 8#32
  | 46 => 4#32
  | 47 => 16#32
  | 48 => 1#32
  | 49 => 16#32
  | 50 => 8#32
  | 51 => 2#32
  | 52 => 1#32
  | 53 => 8#32
  | 54 => 1#32
  | 55 => 2#32
  | 56 => 16#32
  | 57 => 16#32
  | 58 => 2#32
  | 59 => 16#32
  | 60 => 1#32
  | 61 => 8#32
  | 62 => 1#32
  | 63 => 16#32
  | 64 => 1#32
  | 65 => 1#32
  | 66 => 2#32
  | 67 => 8#32
  | 68 => 8#32
  | 69 => 8#32
  | 70 => 2#32
  | 71 => 16#32
  | 72 => 2#32
  | 73 => 16#32
  | 74 => 8#32
  | 75 => 8#32
  | 76 => 2#32
  | 77 => 1#32
  | 78 => 1#32
  | 79 => 16#32
  | 80 => 2#32
  | 81 => 2#32
  | 82 => 2#32
  | 83 => 8#32
  | 84 => 8#32
  | 85 => 1#32
  | 86 => 2#32
  | 87 => 2#32
  | 88 => 8#32
  | 89 => 4#32
  | 90 => 8#32
  | 91 => 16#32
  | 92 => 1#32
  | 93 => 1#32
  | 94 => 1#32
  | 95 => 1#32
  | 96 => 4#32
  | 97 => 8#32
  | 98 => 2#32
  | 99 => 1#32
  | 100 => 8#32
  | 101 => 1#32
  | 102 => 2#32
  | 103 => 8#32
  | 104 => 1#32
  | 105 => 2#32
  | 106 => 8#32
  | 107 => 4#32
  | 108 => 1#32
  | 109 => 2#32
  | 110 => 2#32
  | 111 => 1#32
  | 112 => 2#32
  | 113 => 16#32
  | 114 => 1#32
  | 115 => 2#32
  | 116 => 8#32
  | 117 => 4#32
  | 118 => 4#32
  | 119 => 8#32
  | 120 => 4#32
  | 121 => 16#32
  | 122 => 4#32
  | 123 => 1#32
  | 124 => 16#32
  | 125 => 2#32
  | 126 => 1#32
  | 127 => 16#32
  | _ => 0#32

noncomputable abbrev lit3t0_6 (i : Nat) : BitVec 32 := match i % 128 with
  | 0 => 16#32
  | 1 => 8#32
  | 2 => 8#32
  | 3 => 2#32
  | 4 => 8#32
  | 5 => 16#32
  | 6 => 2#32
  | 7 => 4#32
  | 8 => 16#32
  | 9 => 8#32
  | 10 => 1#32
  | 11 => 4#32
  | 12 => 2#32
  | 13 => 1#32
  | 14 => 16#32
  | 15 => 1#32
  | 16 => 4#32
  | 17 => 4#32
  | 18 => 4#32
  | 19 => 2#32
  | 20 => 2#32
  | 21 => 16#32
  | 22 => 4#32
  | 23 => 16#32
  | 24 => 2#32
  | 25 => 16#32
  | 26 => 2#32
  | 27 => 2#32
  | 28 => 1#32
  | 29 => 2#32
  | 30 => 2#32
  | 31 => 8#32
  | 32 => 4#32
  | 33 => 2#32
  | 34 => 1#32
  | 35 => 8#32
  | 36 => 16#32
  | 37 => 16#32
  | 38 => 8#32
  | 39 => 16#32
  | 40 => 8#32
  | 41 => 2#32
  | 42 => 8#32
  | 43 => 1#32
  | 44 => 1#32
  | 45 => 8#32
  | 46 => 16#32
  | 47 => 8#32
  | 48 => 8#32
  | 49 => 1#32
  | 50 => 1#32
  | 51 => 4#32
  | 52 => 4#32
  | 53 => 4#32
  | 54 => 4#32
  | 55 => 8#32
  | 56 => 1#32
  | 57 => 16#32
  | 58 => 16#32
  | 59 => 16#32
  | 60 => 4#32
  | 61 => 1#32
  | 62 => 8#32
  | 63 => 8#32
  | 64 => 16#32
  | 65 => 4#32
  | 66 => 1#32
  | 67 => 8#32
  | 68 => 1#32
  | 69 => 1#32
  | 70 => 1#32
  | 71 => 2#32
  | 72 => 8#32
  | 73 => 2#32
  | 74 => 1#32
  | 75 => 2#32
  | 76 => 16#32
  | 77 => 8#32
  | 78 => 4#32
  | 79 => 8#32
  | 80 => 1#32
  | 81 => 4#32
  | 82 => 2#32
  | 83 => 2#32
  | 84 => 16#32
  | 85 => 16#32
  | 86 => 16#32
  | 87 => 2#32
  | 88 => 4#32
  | 89 => 16#32
  | 90 => 16#32
  | 91 => 1#32
  | 92 => 2#32
  | 93 => 4#32
  | 94 => 1#32
  | 95 => 2#32
  | 96 => 8#32
  | 97 => 8#32
  | 98 => 8#32
  | 99 => 8#32
  | 100 => 8#32
  | 101 => 1#32
  | 102 => 8#32
  | 103 => 16#32
  | 104 => 2#32
  | 105 => 4#32
  | 106 => 4#32
  | 107 => 16#32
  | 108 => 16#32
  | 109 => 16#32
  | 110 => 1#32
  | 111 => 8#32
  | 112 => 8#32
  | 113 => 8#32
  | 114 => 1#32
  | 115 => 8#32
  | 116 => 16#32
  | 117 => 1#32
  | 118 => 16#32
  | 119 => 2#32
  | 120 => 1#32
  | 121 => 8#32
  | 122 => 16#32
  | 123 => 8#32
  | 124 => 8#32
  | 125 => 1#32
  | 126 => 2#32
  | 127 => 16#32
  | _ => 0#32

noncomputable abbrev lit3t0_7 (i : Nat) : BitVec 32 := match i % 128 with
  | 0 => 8#32
  | 1 => 16#32
  | 2 => 8#32
  | 3 => 1#32
  | 4 => 1#32
  | 5 => 4#32
  | 6 => 1#32
  | 7 => 1#32
  | 8 => 16#32
  | 9 => 4#32
  | 10 => 8#32
  | 11 => 8#32
  | 12 => 1#32
  | 13 => 1#32
  | 14 => 16#32
  | 15 => 16#32
  | 16 => 16#32
  | 17 => 1#32
  | 18 => 16#32
  | 19 => 8#32
  | 20 => 2#32
  | 21 => 16#32
  | 22 => 2#32
  | 23 => 4#32
  | 24 => 1#32
  | 25 => 16#32
  | 26 => 2#32
  | 27 => 16#32
  | 28 => 1#32
  | 29 => 2#32
  | 30 => 1#32
  | 31 => 8#32
  | 32 => 16#32
  | 33 => 4#32
  | 34 => 2#32
  | 35 => 2#32
  | 36 => 2#32
  | 37 => 1#32
  | 38 => 4#32
  | 39 => 16#32
  | 40 => 1#32
  | 41 => 1#32
  | 42 => 8#32
  | 43 => 4#32
  | 44 => 16#32
  | 45 => 16#32
  | 46 => 1#32
  | 47 => 16#32
  | 48 => 4#32
  | 49 => 4#32
  | 50 => 8#32
  | 51 => 16#32
  | 52 => 1#32
  | 53 => 4#32
  | 54 => 2#32
  | 55 => 2#32
  | 56 => 2#32
  | 57 => 16#32
  | 58 => 16#32
  | 59 => 4#32
  | 60 => 4#32
  | 61 => 2#32
  | 62 => 2#32
  | 63 => 8#32
  | 64 => 4#32
  | 65 => 1#32
  | 66 => 16#32
  | 67 => 2#32
  | 68 => 2#32
  | 69 => 1#32
  | 70 => 8#32
  | 71 => 4#32
  | 72 => 8#32
  | 73 => 2#32
  | 74 => 1#32
  | 75 => 2#32
  | 76 => 1#32
  | 77 => 1#32
  | 78 => 1#32
  | 79 => 2#32
  | 80 => 2#32
  | 81 => 2#32
  | 82 => 1#32
  | 83 => 4#32
  | 84 => 8#32
  | 85 => 8#32
  | 86 => 16#32
  | 87 => 16#32
  | 88 => 1#32
  | 89 => 4#32
  | 90 => 16#32
  | 91 => 2#32
  | 92 => 8#32
  | 93 => 2#32
  | 94 => 1#32
  | 95 => 1#32
  | 96 => 4#32
  | 97 => 8#32
  | 98 => 1#32
  | 99 => 4#32
  | 100 => 1#32
  | 101 => 1#32
  | 102 => 8#32
  | 103 => 4#32
  | 104 => 2#32
  | 105 => 16#32
  | 106 => 1#32
  | 107 => 1#32
  | 108 => 16#32
  | 109 => 4#32
  | 110 => 4#32
  | 111 => 8#32
  | 112 => 1#32
  | 113 => 1#32
  | 114 => 4#32
  | 115 => 1#32
  | 116 => 4#32
  | 117 => 2#32
  | 118 => 8#32
  | 119 => 2#32
  | 120 => 1#32
  | 121 => 1#32
  | 122 => 1#32
  | 123 => 2#32
  | 124 => 4#32
  | 125 => 2#32
  | 126 => 16#32
  | 127 => 1#32
  | _ => 0#32

noncomputable abbrev lit3t0_8 (i : Nat) : BitVec 32 := match i % 128 with
  | 0 => 4#32
  | 1 => 1#32
  | 2 => 16#32
  | 3 => 4#32
  | 4 => 4#32
  | 5 => 16#32
  | 6 => 8#32
  | 7 => 2#32
  | 8 => 16#32
  | 9 => 16#32
  | 10 => 4#32
  | 11 => 16#32
  | 12 => 1#32
  | 13 => 8#32
  | 14 => 2#32
  | 15 => 8#32
  | 16 => 1#32
  | 17 => 16#32
  | 18 => 8#32
  | 19 => 1#32
  | 20 => 8#32
  | 21 => 2#32
  | 22 => 4#32
  | 23 => 16#32
  | 24 => 4#32
  | 25 => 16#32
  | 26 => 8#32
  | 27 => 8#32
  | 28 => 4#32
  | 29 => 4#32
  | 30 => 4#32
  | 31 => 2#32
  | 32 => 16#32
  | 33 => 2#32
  | 34 => 4#32
  | 35 => 1#32
  | 36 => 2#32
  | 37 => 4#32
  | 38 => 4#32
  | 39 => 1#32
  | 40 => 2#32
  | 41 => 8#32
  | 42 => 8#32
  | 43 => 16#32
  | 44 => 8#32
  | 45 => 16#32
  | 46 => 8#32
  | 47 => 8#32
  | 48 => 8#32
  | 49 => 1#32
  | 50 => 16#32
  | 51 => 8#32
  | 52 => 2#32
  | 53 => 16#32
  | 54 => 1#32
  | 55 => 2#32
  | 56 => 2#32
  | 57 => 2#32
  | 58 => 8#32
  | 59 => 8#32
  | 60 => 2#32
  | 61 => 8#32
  | 62 => 2#32
  | 63 => 1#32
  | 64 => 1#32
  | 65 => 1#32
  | 66 => 8#32
  | 67 => 8#32
  | 68 => 1#32
  | 69 => 2#32
  | 70 => 2#32
  | 71 => 16#32
  | 72 => 16#32
  | 73 => 1#32
  | 74 => 1#32
  | 75 => 2#32
  | 76 => 1#32
  | 77 => 8#32
  | 78 => 2#32
  | 79 => 1#32
  | 80 => 16#32
  | 81 => 1#32
  | 82 => 16#32
  | 83 => 4#32
  | 84 => 2#32
  | 85 => 1#32
  | 86 => 8#32
  | 87 => 4#32
  | 88 => 2#32
  | 89 => 4#32
  | 90 => 8#32
  | 91 => 1#32
  | 92 => 4#32
  | 93 => 2#32
  | 94 => 1#32
  | 95 => 2#32
  | 96 => 1#32
  | 97 => 1#32
  | 98 => 1#32
  | 99 => 1#32
  | 100 => 1#32
  | 101 => 4#32
  | 102 => 16#32
  | 103 => 8#32
  | 104 => 8#32
  | 105 => 1#32
  | 106 => 2#32
  | 107 => 8#32
  | 108 => 8#32
  | 109 => 1#32
  | 110 => 1#32
  | 111 => 1#32
  | 112 => 8#32
  | 113 => 8#32
  | 114 => 2#32
  | 115 => 16#32
  | 116 => 8#32
  | 117 => 8#32
  | 118 => 1#32
  | 119 => 1#32
  | 120 => 8#32
  | 121 => 4#32
  | 122 => 16#32
  | 123 => 2#32
  | 124 => 16#32
  | 125 => 2#32
  | 126 => 8#32
  | 127 => 8#32
  | _ => 0#32

noncomputable abbrev lit3t0_9 (i : Nat) : BitVec 32 := match i % 128 with
  | 0 => 1#32
  | 1 => 4#32
  | 2 => 2#32
  | 3 => 8#32
  | 4 => 1#32
  | 5 => 4#32
  | 6 => 8#32
  | 7 => 2#32
  | 8 => 4#32
  | 9 => 8#32
  | 10 => 1#32
  | 11 => 16#32
  | 12 => 4#32
  | 13 => 1#32
  | 14 => 4#32
  | 15 => 8#32
  | 16 => 8#32
  | 17 => 8#32
  | 18 => 16#32
  | 19 => 8#32
  | 20 => 1#32
  | 21 => 8#32
  | 22 => 2#32
  | 23 => 4#32
  | 24 => 8#32
  | 25 => 8#32
  | 26 => 1#32
  | 27 => 2#32
  | 28 => 2#32
  | 29 => 16#32
  | 30 => 8#32
  | 31 => 8#32
  | 32 => 4#32
  | 33 => 4#32
  | 34 => 4#32
  | 35 => 8#32
  | 36 => 2#32
  | 37 => 1#32
  | 38 => 1#32
  | 39 => 16#32
  | 40 => 1#32
  | 41 => 1#32
  | 42 => 8#32
  | 43 => 8#32
  | 44 => 4#32
  | 45 => 1#32
  | 46 => 1#32
  | 47 => 2#32
  | 48 => 2#32
  | 49 => 4#32
  | 50 => 1#32
  | 51 => 1#32
  | 52 => 16#32
  | 53 => 4#32
  | 54 => 4#32
  | 55 => 2#32
  | 56 => 2#32
  | 57 => 16#32
  | 58 => 16#32
  | 59 => 1#32
  | 60 => 4#32
  | 61 => 16#32
  | 62 => 8#32
  | 63 => 2#32
  | 64 => 8#32
  | 65 => 1#32
  | 66 => 1#32
  | 67 => 16#32
  | 68 => 1#32
  | 69 => 1#32
  | 70 => 8#32
  | 71 => 1#32
  | 72 => 2#32
  | 73 => 4#32
  | 74 => 16#32
  | 75 => 8#32
  | 76 => 1#32
  | 77 => 16#32
  | 78 => 8#32
  | 79 => 2#32
  | 80 => 16#32
  | 81 => 4#32
  | 82 => 2#32
  | 83 => 8#32
  | 84 => 1#32
  | 85 => 2#32
  | 86 => 8#32
  | 87 => 16#32
  | 88 => 2#32
  | 89 => 4#32
  | 90 => 4#32
  | 91 => 2#32
  | 92 => 1#32
  | 93 => 8#32
  | 94 => 16#32
  | 95 => 8#32
  | 96 => 4#32
  | 97 => 16#32
  | 98 => 2#32
  | 99 => 2#32
  | 100 => 2#32
  | 101 => 16#32
  | 102 => 2#32
  | 103 => 4#32
  | 104 => 16#32
  | 105 => 4#32
  | 106 => 2#32
  | 107 => 4#32
  | 108 => 4#32
  | 109 => 16#32
  | 110 => 4#32
  | 111 => 8#32
  | 112 => 1#32
  | 113 => 16#32
  | 114 => 8#32
  | 115 => 8#32
  | 116 => 1#32
  | 117 => 16#32
  | 118 => 4#32
  | 119 => 1#32
  | 120 => 16#32
  | 121 => 1#32
  | 122 => 8#32
  | 123 => 4#32
  | 124 => 2#32
  | 125 => 2#32
  | 126 => 16#32
  | 127 => 2#32
  | _ => 0#32

noncomputable abbrev lit3t0_10 (i : Nat) : BitVec 32 := match i % 128 with
  | 0 => 16#32
  | 1 => 4#32
  | 2 => 8#32
  | 3 => 2#32
  | 4 => 16#32
  | 5 => 16#32
  | 6 => 1#32
  | 7 => 4#32
  | 8 => 4#32
  | 9 => 2#32
  | 10 => 4#32
  | 11 => 4#32
  | 12 => 4#32
  | 13 => 1#32
  | 14 => 8#32
  | 15 => 2#32
  | 16 => 2#32
  | 17 => 16#32
  | 18 => 4#32
  | 19 => 2#32
  | 20 => 8#32
  | 21 => 1#32
  | 22 => 4#32
  | 23 => 8#32
  | 24 => 8#32
  | 25 => 16#32
  | 26 => 4#32
  | 27 => 4#32
  | 28 => 8#32
  | 29 => 8#32
  | 30 => 16#32
  | 31 => 8#32
  | 32 => 16#32
  | 33 => 2#32
  | 34 => 8#32
  | 35 => 8#32
  | 36 => 4#32
  | 37 => 1#32
  | 38 => 16#32
  | 39 => 16#32
  | 40 => 8#32
  | 41 => 8#32
  | 42 => 1#32
  | 43 => 1#32
  | 44 => 1#32
  | 45 => 2#32
  | 46 => 1#32
  | 47 => 1#32
  | 48 => 8#32
  | 49 => 1#32
  | 50 => 16#32
  | 51 => 4#32
  | 52 => 16#32
  | 53 => 16#32
  | 54 => 2#32
  | 55 => 4#32
  | 56 => 2#32
  | 57 => 4#32
  | 58 => 16#32
  | 59 => 8#32
  | 60 => 4#32
  | 61 => 4#32
  | 62 => 2#32
  | 63 => 1#32
  | 64 => 1#32
  | 65 => 4#32
  | 66 => 4#32
  | 67 => 2#32
  | 68 => 4#32
  | 69 => 1#32
  | 70 => 1#32
  | 71 => 1#32
  | 72 => 4#32
  | 73 => 2#32
  | 74 => 16#32
  | 75 => 16#32
  | 76 => 2#32
  | 77 => 1#32
  | 78 => 1#32
  | 79 => 16#32
  | 80 => 8#32
  | 81 => 2#32
  | 82 => 2#32
  | 83 => 2#32
  | 84 => 4#32
  | 85 => 4#32
  | 86 => 4#32
  | 87 => 1#32
  | 88 => 1#32
  | 89 => 1#32
  | 90 => 8#32
  | 91 => 8#32
  | 92 => 1#32
  | 93 => 4#32
  | 94 => 1#32
  | 95 => 2#32
  | 96 => 1#32
  | 97 => 4#32
  | 98 => 16#32
  | 99 => 2#32
  | 100 => 1#32
  | 101 => 8#32
  | 102 => 4#32
  | 103 => 4#32
  | 104 => 4#32
  | 105 => 8#32
  | 106 => 16#32
  | 107 => 1#32
  | 108 => 2#32
  | 109 => 8#32
  | 110 => 8#32
  | 111 => 4#32
  | 112 => 16#32
  | 113 => 16#32
  | 114 => 8#32
  | 115 => 16#32
  | 116 => 16#32
  | 117 => 4#32
  | 118 => 2#32
  | 119 => 8#32
  | 120 => 2#32
  | 121 => 4#32
  | 122 => 1#32
  | 123 => 8#32
  | 124 => 8#32
  | 125 => 2#32
  | 126 => 16#32
  | 127 => 4#32
  | _ => 0#32

noncomputable abbrev lit3t0_11 (i : Nat) : BitVec 32 := match i % 128 with
  | 0 => 1#32
  | 1 => 1#32
  | 2 => 2#32
  | 3 => 4#32
  | 4 => 16#32
  | 5 => 4#32
  | 6 => 8#32
  | 7 => 2#32
  | 8 => 1#32
  | 9 => 16#32
  | 10 => 16#32
  | 11 => 16#32
  | 12 => 2#32
  | 13 => 4#32
  | 14 => 4#32
  | 15 => 16#32
  | 16 => 8#32
  | 17 => 4#32
  | 18 => 2#32
  | 19 => 4#32
  | 20 => 1#32
  | 21 => 8#32
  | 22 => 2#32
  | 23 => 8#32
  | 24 => 2#32
  | 25 => 2#32
  | 26 => 4#32
  | 27 => 16#32
  | 28 => 1#32
  | 29 => 16#32
  | 30 => 8#32
  | 31 => 1#32
  | 32 => 1#32
  | 33 => 1#32
  | 34 => 4#32
  | 35 => 8#32
  | 36 => 8#32
  | 37 => 4#32
  | 38 => 2#32
  | 39 => 1#32
  | 40 => 4#32
  | 41 => 2#32
  | 42 => 4#32
  | 43 => 4#32
  | 44 => 4#32
  | 45 => 4#32
  | 46 => 1#32
  | 47 => 8#32
  | 48 => 8#32
  | 49 => 2#32
  | 50 => 1#32
  | 51 => 8#32
  | 52 => 2#32
  | 53 => 8#32
  | 54 => 1#32
  | 55 => 4#32
  | 56 => 16#32
  | 57 => 4#32
  | 58 => 8#32
  | 59 => 1#32
  | 60 => 2#32
  | 61 => 4#32
  | 62 => 4#32
  | 63 => 4#32
  | 64 => 16#32
  | 65 => 4#32
  | 66 => 1#32
  | 67 => 4#32
  | 68 => 1#32
  | 69 => 1#32
  | 70 => 4#32
  | 71 => 4#32
  | 72 => 8#32
  | 73 => 4#32
  | 74 => 1#32
  | 75 => 2#32
  | 76 => 16#32
  | 77 => 4#32
  | 78 => 1#32
  | 79 => 1#32
  | 80 => 8#32
  | 81 => 16#32
  | 82 => 8#32
  | 83 => 16#32
  | 84 => 2#32
  | 85 => 16#32
  | 86 => 1#32
  | 87 => 8#32
  | 88 => 8#32
  | 89 => 16#32
  | 90 => 2#32
  | 91 => 8#32
  | 92 => 1#32
  | 93 => 8#32
  | 94 => 1#32
  | 95 => 4#32
  | 96 => 16#32
  | 97 => 8#32
  | 98 => 16#32
  | 99 => 1#32
  | 100 => 8#32
  | 101 => 4#32
  | 102 => 4#32
  | 103 => 2#32
  | 104 => 2#32
  | 105 => 1#32
  | 106 => 16#32
  | 107 => 4#32
  | 108 => 1#32
  | 109 => 8#32
  | 110 => 8#32
  | 111 => 16#32
  | 112 => 16#32
  | 113 => 1#32
  | 114 => 1#32
  | 115 => 1#32
  | 116 => 4#32
  | 117 => 2#32
  | 118 => 8#32
  | 119 => 2#32
  | 120 => 8#32
  | 121 => 16#32
  | 122 => 4#32
  | 123 => 4#32
  | 124 => 2#32
  | 125 => 8#32
  | 126 => 8#32
  | 127 => 1#32
  | _ => 0#32

noncomputable abbrev lit3t0_12 (i : Nat) : BitVec 32 := match i % 128 with
  | 0 => 1#32
  | 1 => 1#32
  | 2 => 8#32
  | 3 => 16#32
  | 4 => 1#32
  | 5 => 1#32
  | 6 => 2#32
  | 7 => 8#32
  | 8 => 16#32
  | 9 => 4#32
  | 10 => 1#32
  | 11 => 4#32
  | 12 => 4#32
  | 13 => 16#32
  | 14 => 1#32
  | 15 => 8#32
  | 16 => 2#32
  | 17 => 16#32
  | 18 => 1#32
  | 19 => 2#32
  | 20 => 16#32
  | 21 => 1#32
  | 22 => 16#32
  | 23 => 2#32
  | 24 => 4#32
  | 25 => 16#32
  | 26 => 8#32
  | 27 => 2#32
  | 28 => 2#32
  | 29 => 2#32
  | 30 => 4#32
  | 31 => 2#32
  | 32 => 16#32
  | 33 => 4#32
  | 34 => 8#32
  | 35 => 8#32
  | 36 => 2#32
  | 37 => 1#32
  | 38 => 16#32
  | 39 => 4#32
  | 40 => 2#32
  | 41 => 8#32
  | 42 => 8#32
  | 43 => 2#32
  | 44 => 8#32
  | 45 => 4#32
  | 46 => 1#32
  | 47 => 1#32
  | 48 => 8#32
  | 49 => 2#32
  | 50 => 4#32
  | 51 => 4#32
  | 52 => 2#32
  | 53 => 2#32
  | 54 => 2#32
  | 55 => 4#32
  | 56 => 1#32
  | 57 => 16#32
  | 58 => 16#32
  | 59 => 1#32
  | 60 => 16#32
  | 61 => 8#32
  | 62 => 2#32
  | 63 => 4#32
  | 64 => 4#32
  | 65 => 1#32
  | 66 => 2#32
  | 67 => 2#32
  | 68 => 2#32
  | 69 => 1#32
  | 70 => 16#32
  | 71 => 2#32
  | 72 => 2#32
  | 73 => 4#32
  | 74 => 1#32
  | 75 => 8#32
  | 76 => 2#32
  | 77 => 8#32
  | 78 => 8#32
  | 79 => 4#32
  | 80 => 16#32
  | 81 => 16#32
  | 82 => 2#32
  | 83 => 8#32
  | 84 => 4#32
  | 85 => 1#32
  | 86 => 16#32
  | 87 => 4#32
  | 88 => 1#32
  | 89 => 4#32
  | 90 => 4#32
  | 91 => 4#32
  | 92 => 16#32
  | 93 => 2#32
  | 94 => 8#32
  | 95 => 2#32
  | 96 => 8#32
  | 97 => 2#32
  | 98 => 4#32
  | 99 => 16#32
  | 100 => 2#32
  | 101 => 1#32
  | 102 => 16#32
  | 103 => 8#32
  | 104 => 4#32
  | 105 => 4#32
  | 106 => 16#32
  | 107 => 2#32
  | 108 => 8#32
  | 109 => 4#32
  | 110 => 16#32
  | 111 => 16#32
  | 112 => 8#32
  | 113 => 2#32
  | 114 => 16#32
  | 115 => 4#32
  | 116 => 4#32
  | 117 => 1#32
  | 118 => 2#32
  | 119 => 8#32
  | 120 => 1#32
  | 121 => 1#32
  | 122 => 16#32
  | 123 => 1#32
  | 124 => 16#32
  | 125 => 2#32
  | 126 => 16#32
  | 127 => 4#32
  | _ => 0#32

noncomputable abbrev lit3t0_13 (i : Nat) : BitVec 32 := match i % 128 with
  | 0 => 4#32
  | 1 => 8#32
  | 2 => 4#32
  | 3 => 1#32
  | 4 => 4#32
  | 5 => 16#32
  | 6 => 16#32
  | 7 => 8#32
  | 8 => 1#32
  | 9 => 2#32
  | 10 => 1#32
  | 11 => 4#32
  | 12 => 8#32
  | 13 => 2#32
  | 14 => 2#32
  | 15 => 16#32
  | 16 => 1#32
  | 17 => 4#32
  | 18 => 16#32
  | 19 => 1#32
  | 20 => 8#32
  | 21 => 8#32
  | 22 => 4#32
  | 23 => 2#32
  | 24 => 16#32
  | 25 => 2#32
  | 26 => 2#32
  | 27 => 16#32
  | 28 => 16#32
  | 29 => 1#32
  | 30 => 4#32
  | 31 => 4#32
  | 32 => 1#32
  | 33 => 16#32
  | 34 => 4#32
  | 35 => 4#32
  | 36 => 1#32
  | 37 => 2#32
  | 38 => 8#32
  | 39 => 8#32
  | 40 => 16#32
  | 41 => 16#32
  | 42 => 1#32
  | 43 => 2#32
  | 44 => 4#32
  | 45 => 16#32
  | 46 => 2#32
  | 47 => 16#32
  | 48 => 1#32
  | 49 => 1#32
  | 50 => 8#32
  | 51 => 4#32
  | 52 => 8#32
  | 53 => 4#32
  | 54 => 16#32
  | 55 => 2#32
  | 56 => 2#32
  | 57 => 16#32
  | 58 => 8#32
  | 59 => 8#32
  | 60 => 8#32
  | 61 => 16#32
  | 62 => 1#32
  | 63 => 1#32
  | 64 => 16#32
  | 65 => 4#32
  | 66 => 8#32
  | 67 => 4#32
  | 68 => 4#32
  | 69 => 8#32
  | 70 => 4#32
  | 71 => 2#32
  | 72 => 2#32
  | 73 => 16#32
  | 74 => 8#32
  | 75 => 16#32
  | 76 => 4#32
  | 77 => 1#32
  | 78 => 1#32
  | 79 => 2#32
  | 80 => 4#32
  | 81 => 2#32
  | 82 => 16#32
  | 83 => 2#32
  | 84 => 4#32
  | 85 => 8#32
  | 86 => 8#32
  | 87 => 1#32
  | 88 => 8#32
  | 89 => 1#32
  | 90 => 2#32
  | 91 => 4#32
  | 92 => 2#32
  | 93 => 8#32
  | 94 => 4#32
  | 95 => 1#32
  | 96 => 8#32
  | 97 => 16#32
  | 98 => 8#32
  | 99 => 1#32
  | 100 => 8#32
  | 101 => 1#32
  | 102 => 2#32
  | 103 => 4#32
  | 104 => 4#32
  | 105 => 8#32
  | 106 => 4#32
  | 107 => 1#32
  | 108 => 4#32
  | 109 => 2#32
  | 110 => 1#32
  | 111 => 1#32
  | 112 => 2#32
  | 113 => 4#32
  | 114 => 1#32
  | 115 => 8#32
  | 116 => 1#32
  | 117 => 4#32
  | 118 => 4#32
  | 119 => 2#32
  | 120 => 16#32
  | 121 => 2#32
  | 122 => 16#32
  | 123 => 8#32
  | 124 => 2#32
  | 125 => 16#32
  | 126 => 16#32
  | 127 => 4#32
  | _ => 0#32

noncomputable abbrev lit3t0_14 (i : Nat) : BitVec 32 := match i % 128 with
  | 0 => 2#32
  | 1 => 8#32
  | 2 => 2#32
  | 3 => 4#32
  | 4 => 8#32
  | 5 => 8#32
  | 6 => 8#32
  | 7 => 16#32
  | 8 => 2#32
  | 9 => 16#32
  | 10 => 8#32
  | 11 => 1#32
  | 12 => 8#32
  | 13 => 4#32
  | 14 => 16#32
  | 15 => 4#32
  | 16 => 4#32
  | 17 => 1#32
  | 18 => 4#32
  | 19 => 16#32
  | 20 => 16#32
  | 21 => 4#32
  | 22 => 2#32
  | 23 => 8#32
  | 24 => 8#32
  | 25 => 2#32
  | 26 => 4#32
  | 27 => 16#32
  | 28 => 1#32
  | 29 => 2#32
  | 30 => 8#32
  | 31 => 8#32
  | 32 => 16#32
  | 33 => 2#32
  | 34 => 4#32
  | 35 => 1#32
  | 36 => 1#32
  | 37 => 1#32
  | 38 => 1#32
  | 39 => 16#32
  | 40 => 16#32
  | 41 => 4#32
  | 42 => 4#32
  | 43 => 4#32
  | 44 => 16#32
  | 45 => 1#32
  | 46 => 8#32
  | 47 => 2#32
  | 48 => 2#32
  | 49 => 8#32
  | 50 => 4#32
  | 51 => 2#32
  | 52 => 4#32
  | 53 => 4#32
  | 54 => 2#32
  | 55 => 2#32
  | 56 => 8#32
  | 57 => 1#32
  | 58 => 1#32
  | 59 => 4#32
  | 60 => 1#32
  | 61 => 16#32
  | 62 => 1#32
  | 63 => 1#32
  | 64 => 1#32
  | 65 => 1#32
  | 66 => 16#32
  | 67 => 16#32
  | 68 => 4#32
  | 69 => 8#32
  | 70 => 16#32
  | 71 => 8#32
  | 72 => 16#32
  | 73 => 16#32
  | 74 => 2#32
  | 75 => 16#32
  | 76 => 16#32
  | 77 => 2#32
  | 78 => 1#32
  | 79 => 4#32
  | 80 => 2#32
  | 81 => 16#32
  | 82 => 2#32
  | 83 => 2#32
  | 84 => 8#32
  | 85 => 4#32
  | 86 => 1#32
  | 87 => 8#32
  | 88 => 16#32
  | 89 => 8#32
  | 90 => 1#32
  | 91 => 4#32
  | 92 => 8#32
  | 93 => 4#32
  | 94 => 1#32
  | 95 => 8#32
  | 96 => 8#32
  | 97 => 2#32
  | 98 => 2#32
  | 99 => 2#32
  | 100 => 4#32
  | 101 => 1#32
  | 102 => 16#32
  | 103 => 8#32
  | 104 => 8#32
  | 105 => 2#32
  | 106 => 16#32
  | 107 => 16#32
  | 108 => 8#32
  | 109 => 1#32
  | 110 => 2#32
  | 111 => 1#32
  | 112 => 8#32
  | 113 => 2#32
  | 114 => 4#32
  | 115 => 2#32
  | 116 => 4#32
  | 117 => 8#32
  | 118 => 16#32
  | 119 => 2#32
  | 120 => 8#32
  | 121 => 16#32
  | 122 => 4#32
  | 123 => 8#32
  | 124 => 2#32
  | 125 => 16#32
  | 126 => 4#32
  | 127 => 16#32
  | _ => 0#32

noncomputable abbrev lit3t0_15 (i : Nat) : BitVec 32 := match i % 128 with
  | 0 => 1#32
  | 1 => 16#32
  | 2 => 4#32
  | 3 => 16#32
  | 4 => 2#32
  | 5 => 2#32
  | 6 => 8#32
  | 7 => 4#32
  | 8 => 8#32
  | 9 => 16#32
  | 10 => 1#32
  | 11 => 4#32
  | 12 => 8#32
  | 13 => 2#32
  | 14 => 1#32
  | 15 => 1#32
  | 16 => 16#32
  | 17 => 2#32
  | 18 => 16#32
  | 19 => 2#32
  | 20 => 2#32
  | 21 => 2#32
  | 22 => 16#32
  | 23 => 8#32
  | 24 => 16#32
  | 25 => 8#32
  | 26 => 8#32
  | 27 => 4#32
  | 28 => 2#32
  | 29 => 1#32
  | 30 => 4#32
  | 31 => 1#32
  | 32 => 8#32
  | 33 => 1#32
  | 34 => 8#32
  | 35 => 1#32
  | 36 => 8#32
  | 37 => 16#32
  | 38 => 16#32
  | 39 => 2#32
  | 40 => 4#32
  | 41 => 4#32
  | 42 => 2#32
  | 43 => 1#32
  | 44 => 16#32
  | 45 => 16#32
  | 46 => 16#32
  | 47 => 1#32
  | 48 => 2#32
  | 49 => 1#32
  | 50 => 16#32
  | 51 => 2#32
  | 52 => 8#32
  | 53 => 16#32
  | 54 => 16#32
  | 55 => 2#32
  | 56 => 1#32
  | 57 => 2#32
  | 58 => 4#32
  | 59 => 1#32
  | 60 => 2#32
  | 61 => 2#32
  | 62 => 4#32
  | 63 => 8#32
  | 64 => 2#32
  | 65 => 16#32
  | 66 => 16#32
  | 67 => 8#32
  | 68 => 16#32
  | 69 => 8#32
  | 70 => 2#32
  | 71 => 1#32
  | 72 => 16#32
  | 73 => 8#32
  | 74 => 1#32
  | 75 => 4#32
  | 76 => 16#32
  | 77 => 2#32
  | 78 => 2#32
  | 79 => 16#32
  | 80 => 2#32
  | 81 => 8#32
  | 82 => 16#32
  | 83 => 16#32
  | 84 => 4#32
  | 85 => 1#32
  | 86 => 16#32
  | 87 => 1#32
  | 88 => 1#32
  | 89 => 16#32
  | 90 => 16#32
  | 91 => 16#32
  | 92 => 8#32
  | 93 => 2#32
  | 94 => 16#32
  | 95 => 8#32
  | 96 => 16#32
  | 97 => 1#32
  | 98 => 1#32
  | 99 => 4#32
  | 100 => 8#32
  | 101 => 1#32
  | 102 => 8#32
  | 103 => 4#32
  | 104 => 2#32
  | 105 => 1#32
  | 106 => 16#32
  | 107 => 8#32
  | 108 => 2#32
  | 109 => 2#32
  | 110 => 4#32
  | 111 => 16#32
  | 112 => 4#32
  | 113 => 1#32
  | 114 => 16#32
  | 115 => 16#32
  | 116 => 1#32
  | 117 => 1#32
  | 118 => 16#32
  | 119 => 16#32
  | 120 => 4#32
  | 121 => 8#32
  | 122 => 16#32
  | 123 => 4#32
  | 124 => 4#32
  | 125 => 2#32
  | 126 => 4#32
  | 127 => 16#32
  | _ => 0#32

noncomputable abbrev lit3t0_16 (i : Nat) : BitVec 32 := match i % 128 with
  | 0 => 2#32
  | 1 => 1#32
  | 2 => 2#32
  | 3 => 16#32
  | 4 => 2#32
  | 5 => 16#32
  | 6 => 8#32
  | 7 => 2#32
  | 8 => 1#32
  | 9 => 8#32
  | 10 => 2#32
  | 11 => 16#32
  | 12 => 16#32
  | 13 => 4#32
  | 14 => 8#32
  | 15 => 1#32
  | 16 => 4#32
  | 17 => 2#32
  | 18 => 1#32
  | 19 => 8#32
  | 20 => 4#32
  | 21 => 1#32
  | 22 => 8#32
  | 23 => 1#32
  | 24 => 8#32
  | 25 => 16#32
  | 26 => 8#32
  | 27 => 1#32
  | 28 => 16#32
  | 29 => 1#32
  | 30 => 4#32
  | 31 => 1#32
  | 32 => 4#32
  | 33 => 8#32
  | 34 => 4#32
  | 35 => 1#32
  | 36 => 2#32
  | 37 => 8#32
  | 38 => 4#32
  | 39 => 16#32
  | 40 => 1#32
  | 41 => 16#32
  | 42 => 4#32
  | 43 => 1#32
  | 44 => 16#32
  | 45 => 2#32
  | 46 => 2#32
  | 47 => 1#32
  | 48 => 16#32
  | 49 => 4#32
  | 50 => 2#32
  | 51 => 16#32
  | 52 => 4#32
  | 53 => 1#32
  | 54 => 8#32
  | 55 => 4#32
  | 56 => 1#32
  | 57 => 2#32
  | 58 => 2#32
  | 59 => 4#32
  | 60 => 1#32
  | 61 => 8#32
  | 62 => 1#32
  | 63 => 4#32
  | 64 => 2#32
  | 65 => 4#32
  | 66 => 16#32
  | 67 => 4#32
  | 68 => 8#32
  | 69 => 1#32
  | 70 => 1#32
  | 71 => 1#32
  | 72 => 1#32
  | 73 => 4#32
  | 74 => 4#32
  | 75 => 1#32
  | 76 => 1#32
  | 77 => 4#32
  | 78 => 2#32
  | 79 => 8#32
  | 80 => 4#32
  | 81 => 16#32
  | 82 => 1#32
  | 83 => 1#32
  | 84 => 4#32
  | 85 => 1#32
  | 86 => 8#32
  | 87 => 1#32
  | 88 => 4#32
  | 89 => 4#32
  | 90 => 2#32
  | 91 => 1#32
  | 92 => 4#32
  | 93 => 16#32
  | 94 => 16#32
  | 95 => 2#32
  | 96 => 8#32
  | 97 => 4#32
  | 98 => 1#32
  | 99 => 2#32
  | 100 => 4#32
  | 101 => 1#32
  | 102 => 8#32
  | 103 => 16#32
  | 104 => 16#32
  | 105 => 1#32
  | 106 => 2#32
  | 107 => 8#32
  | 108 => 1#32
  | 109 => 2#32
  | 110 => 16#32
  | 111 => 1#32
  | 112 => 8#32
  | 113 => 1#32
  | 114 => 1#32
  | 115 => 2#32
  | 116 => 2#32
  | 117 => 8#32
  | 118 => 2#32
  | 119 => 8#32
  | 120 => 16#32
  | 121 => 1#32
  | 122 => 4#32
  | 123 => 4#32
  | 124 => 8#32
  | 125 => 1#32
  | 126 => 2#32
  | 127 => 1#32
  | _ => 0#32

noncomputable abbrev lit3t0_17 (i : Nat) : BitVec 32 := match i % 128 with
  | 0 => 1#32
  | 1 => 2#32
  | 2 => 1#32
  | 3 => 16#32
  | 4 => 2#32
  | 5 => 2#32
  | 6 => 4#32
  | 7 => 1#32
  | 8 => 2#32
  | 9 => 16#32
  | 10 => 2#32
  | 11 => 8#32
  | 12 => 16#32
  | 13 => 4#32
  | 14 => 4#32
  | 15 => 16#32
  | 16 => 4#32
  | 17 => 16#32
  | 18 => 1#32
  | 19 => 16#32
  | 20 => 16#32
  | 21 => 8#32
  | 22 => 8#32
  | 23 => 2#32
  | 24 => 4#32
  | 25 => 16#32
  | 26 => 4#32
  | 27 => 16#32
  | 28 => 8#32
  | 29 => 8#32
  | 30 => 16#32
  | 31 => 16#32
  | 32 => 2#32
  | 33 => 4#32
  | 34 => 4#32
  | 35 => 2#32
  | 36 => 4#32
  | 37 => 16#32
  | 38 => 1#32
  | 39 => 2#32
  | 40 => 4#32
  | 41 => 16#32
  | 42 => 16#32
  | 43 => 16#32
  | 44 => 1#32
  | 45 => 8#32
  | 46 => 8#32
  | 47 => 16#32
  | 48 => 8#32
  | 49 => 1#32
  | 50 => 2#32
  | 51 => 8#32
  | 52 => 16#32
  | 53 => 8#32
  | 54 => 8#32
  | 55 => 2#32
  | 56 => 8#32
  | 57 => 1#32
  | 58 => 1#32
  | 59 => 1#32
  | 60 => 1#32
  | 61 => 2#32
  | 62 => 16#32
  | 63 => 4#32
  | 64 => 2#32
  | 65 => 8#32
  | 66 => 4#32
  | 67 => 2#32
  | 68 => 16#32
  | 69 => 8#32
  | 70 => 1#32
  | 71 => 2#32
  | 72 => 4#32
  | 73 => 16#32
  | 74 => 1#32
  | 75 => 8#32
  | 76 => 16#32
  | 77 => 16#32
  | 78 => 8#32
  | 79 => 4#32
  | 80 => 16#32
  | 81 => 2#32
  | 82 => 2#32
  | 83 => 8#32
  | 84 => 4#32
  | 85 => 8#32
  | 86 => 16#32
  | 87 => 8#32
  | 88 => 16#32
  | 89 => 2#32
  | 90 => 16#32
  | 91 => 1#32
  | 92 => 2#32
  | 93 => 8#32
  | 94 => 4#32
  | 95 => 1#32
  | 96 => 16#32
  | 97 => 2#32
  | 98 => 16#32
  | 99 => 4#32
  | 100 => 1#32
  | 101 => 16#32
  | 102 => 8#32
  | 103 => 2#32
  | 104 => 8#32
  | 105 => 16#32
  | 106 => 1#32
  | 107 => 4#32
  | 108 => 8#32
  | 109 => 4#32
  | 110 => 16#32
  | 111 => 4#32
  | 112 => 16#32
  | 113 => 8#32
  | 114 => 8#32
  | 115 => 16#32
  | 116 => 16#32
  | 117 => 4#32
  | 118 => 4#32
  | 119 => 4#32
  | 120 => 4#32
  | 121 => 1#32
  | 122 => 1#32
  | 123 => 1#32
  | 124 => 16#32
  | 125 => 2#32
  | 126 => 1#32
  | 127 => 16#32
  | _ => 0#32

noncomputable abbrev lit3t0_18 (i : Nat) : BitVec 32 := match i % 128 with
  | 0 => 2#32
  | 1 => 8#32
  | 2 => 2#32
  | 3 => 1#32
  | 4 => 2#32
  | 5 => 8#32
  | 6 => 16#32
  | 7 => 2#32
  | 8 => 2#32
  | 9 => 8#32
  | 10 => 16#32
  | 11 => 1#32
  | 12 => 1#32
  | 13 => 4#32
  | 14 => 2#32
  | 15 => 4#32
  | 16 => 8#32
  | 17 => 16#32
  | 18 => 8#32
  | 19 => 8#32
  | 20 => 16#32
  | 21 => 2#32
  | 22 => 2#32
  | 23 => 16#32
  | 24 => 1#32
  | 25 => 4#32
  | 26 => 8#32
  | 27 => 2#32
  | 28 => 8#32
  | 29 => 2#32
  | 30 => 2#32
  | 31 => 8#32
  | 32 => 8#32
  | 33 => 2#32
  | 34 => 8#32
  | 35 => 16#32
  | 36 => 2#32
  | 37 => 8#32
  | 38 => 2#32
  | 39 => 8#32
  | 40 => 2#32
  | 41 => 2#32
  | 42 => 1#32
  | 43 => 1#32
  | 44 => 16#32
  | 45 => 1#32
  | 46 => 4#32
  | 47 => 16#32
  | 48 => 2#32
  | 49 => 4#32
  | 50 => 16#32
  | 51 => 8#32
  | 52 => 16#32
  | 53 => 8#32
  | 54 => 16#32
  | 55 => 2#32
  | 56 => 4#32
  | 57 => 4#32
  | 58 => 1#32
  | 59 => 2#32
  | 60 => 8#32
  | 61 => 1#32
  | 62 => 16#32
  | 63 => 8#32
  | 64 => 8#32
  | 65 => 16#32
  | 66 => 1#32
  | 67 => 2#32
  | 68 => 1#32
  | 69 => 2#32
  | 70 => 1#32
  | 71 => 4#32
  | 72 => 1#32
  | 73 => 2#32
  | 74 => 1#32
  | 75 => 1#32
  | 76 => 16#32
  | 77 => 2#32
  | 78 => 8#32
  | 79 => 16#32
  | 80 => 2#32
  | 81 => 16#32
  | 82 => 4#32
  | 83 => 2#32
  | 84 => 8#32
  | 85 => 2#32
  | 86 => 16#32
  | 87 => 16#32
  | 88 => 8#32
  | 89 => 1#32
  | 90 => 16#32
  | 91 => 4#32
  | 92 => 4#32
  | 93 => 8#32
  | 94 => 4#32
  | 95 => 8#32
  | 96 => 8#32
  | 97 => 8#32
  | 98 => 4#32
  | 99 => 1#32
  | 100 => 2#32
  | 101 => 2#32
  | 102 => 8#32
  | 103 => 8#32
  | 104 => 16#32
  | 105 => 16#32
  | 106 => 4#32
  | 107 => 4#32
  | 108 => 8#32
  | 109 => 4#32
  | 110 => 4#32
  | 111 => 16#32
  | 112 => 1#32
  | 113 => 1#32
  | 114 => 8#32
  | 115 => 8#32
  | 116 => 4#32
  | 117 => 2#32
  | 118 => 2#32
  | 119 => 4#32
  | 120 => 4#32
  | 121 => 8#32
  | 122 => 2#32
  | 123 => 2#32
  | 124 => 1#32
  | 125 => 8#32
  | 126 => 4#32
  | 127 => 2#32
  | _ => 0#32

noncomputable abbrev lit3t0_19 (i : Nat) : BitVec 32 := match i % 128 with
  | 0 => 16#32
  | 1 => 2#32
  | 2 => 8#32
  | 3 => 8#32
  | 4 => 8#32
  | 5 => 16#32
  | 6 => 2#32
  | 7 => 4#32
  | 8 => 8#32
  | 9 => 1#32
  | 10 => 16#32
  | 11 => 4#32
  | 12 => 16#32
  | 13 => 8#32
  | 14 => 2#32
  | 15 => 1#32
  | 16 => 16#32
  | 17 => 1#32
  | 18 => 8#32
  | 19 => 16#32
  | 20 => 4#32
  | 21 => 8#32
  | 22 => 16#32
  | 23 => 8#32
  | 24 => 16#32
  | 25 => 16#32
  | 26 => 8#32
  | 27 => 8#32
  | 28 => 1#32
  | 29 => 1#32
  | 30 => 4#32
  | 31 => 16#32
  | 32 => 16#32
  | 33 => 16#32
  | 34 => 16#32
  | 35 => 1#32
  | 36 => 1#32
  | 37 => 8#32
  | 38 => 16#32
  | 39 => 2#32
  | 40 => 1#32
  | 41 => 2#32
  | 42 => 16#32
  | 43 => 8#32
  | 44 => 4#32
  | 45 => 1#32
  | 46 => 2#32
  | 47 => 4#32
  | 48 => 16#32
  | 49 => 16#32
  | 50 => 4#32
  | 51 => 8#32
  | 52 => 1#32
  | 53 => 2#32
  | 54 => 8#32
  | 55 => 16#32
  | 56 => 2#32
  | 57 => 2#32
  | 58 => 8#32
  | 59 => 2#32
  | 60 => 2#32
  | 61 => 2#32
  | 62 => 8#32
  | 63 => 4#32
  | 64 => 2#32
  | 65 => 2#32
  | 66 => 4#32
  | 67 => 1#32
  | 68 => 4#32
  | 69 => 8#32
  | 70 => 8#32
  | 71 => 1#32
  | 72 => 16#32
  | 73 => 4#32
  | 74 => 1#32
  | 75 => 1#32
  | 76 => 16#32
  | 77 => 16#32
  | 78 => 4#32
  | 79 => 4#32
  | 80 => 16#32
  | 81 => 4#32
  | 82 => 1#32
  | 83 => 8#32
  | 84 => 16#32
  | 85 => 8#32
  | 86 => 8#32
  | 87 => 16#32
  | 88 => 2#32
  | 89 => 2#32
  | 90 => 2#32
  | 91 => 2#32
  | 92 => 16#32
  | 93 => 2#32
  | 94 => 16#32
  | 95 => 2#32
  | 96 => 4#32
  | 97 => 8#32
  | 98 => 2#32
  | 99 => 8#32
  | 100 => 1#32
  | 101 => 16#32
  | 102 => 8#32
  | 103 => 8#32
  | 104 => 4#32
  | 105 => 16#32
  | 106 => 4#32
  | 107 => 16#32
  | 108 => 16#32
  | 109 => 16#32
  | 110 => 1#32
  | 111 => 1#32
  | 112 => 2#32
  | 113 => 2#32
  | 114 => 1#32
  | 115 => 2#32
  | 116 => 4#32
  | 117 => 1#32
  | 118 => 8#32
  | 119 => 16#32
  | 120 => 16#32
  | 121 => 1#32
  | 122 => 1#32
  | 123 => 8#32
  | 124 => 16#32
  | 125 => 2#32
  | 126 => 2#32
  | 127 => 1#32
  | _ => 0#32

noncomputable abbrev lit3t0_20 (i : Nat) : BitVec 32 := match i % 128 with
  | 0 => 2#32
  | 1 => 16#32
  | 2 => 1#32
  | 3 => 8#32
  | 4 => 8#32
  | 5 => 1#32
  | 6 => 2#32
  | 7 => 16#32
  | 8 => 1#32
  | 9 => 4#32
  | 10 => 8#32
  | 11 => 4#32
  | 12 => 1#32
  | 13 => 1#32
  | 14 => 2#32
  | 15 => 1#32
  | 16 => 2#32
  | 17 => 1#32
  | 18 => 16#32
  | 19 => 2#32
  | 20 => 8#32
  | 21 => 4#32
  | 22 => 2#32
  | 23 => 4#32
  | 24 => 8#32
  | 25 => 16#32
  | 26 => 1#32
  | 27 => 1#32
  | 28 => 4#32
  | 29 => 4#32
  | 30 => 1#32
  | 31 => 16#32
  | 32 => 8#32
  | 33 => 1#32
  | 34 => 8#32
  | 35 => 4#32
  | 36 => 4#32
  | 37 => 2#32
  | 38 => 8#32
  | 39 => 16#32
  | 40 => 2#32
  | 41 => 1#32
  | 42 => 4#32
  | 43 => 2#32
  | 44 => 2#32
  | 45 => 1#32
  | 46 => 16#32
  | 47 => 4#32
  | 48 => 2#32
  | 49 => 8#32
  | 50 => 4#32
  | 51 => 1#32
  | 52 => 1#32
  | 53 => 4#32
  | 54 => 16#32
  | 55 => 16#32
  | 56 => 2#32
  | 57 => 2#32
  | 58 => 16#32
  | 59 => 16#32
  | 60 => 4#32
  | 61 => 1#32
  | 62 => 16#32
  | 63 => 1#32
  | 64 => 8#32
  | 65 => 8#32
  | 66 => 16#32
  | 67 => 2#32
  | 68 => 1#32
  | 69 => 1#32
  | 70 => 1#32
  | 71 => 4#32
  | 72 => 8#32
  | 73 => 4#32
  | 74 => 2#32
  | 75 => 2#32
  | 76 => 16#32
  | 77 => 1#32
  | 78 => 4#32
  | 79 => 1#32
  | 80 => 4#32
  | 81 => 2#32
  | 82 => 8#32
  | 83 => 2#32
  | 84 => 8#32
  | 85 => 1#32
  | 86 => 2#32
  | 87 => 2#32
  | 88 => 4#32
  | 89 => 16#32
  | 90 => 1#32
  | 91 => 4#32
  | 92 => 16#32
  | 93 => 2#32
  | 94 => 16#32
  | 95 => 8#32
  | 96 => 8#32
  | 97 => 8#32
  | 98 => 8#32
  | 99 => 8#32
  | 100 => 2#32
  | 101 => 8#32
  | 102 => 4#32
  | 103 => 1#32
  | 104 => 16#32
  | 105 => 1#32
  | 106 => 2#32
  | 107 => 16#32
  | 108 => 16#32
  | 109 => 16#32
  | 110 => 4#32
  | 111 => 4#32
  | 112 => 2#32
  | 113 => 16#32
  | 114 => 2#32
  | 115 => 8#32
  | 116 => 16#32
  | 117 => 8#32
  | 118 => 8#32
  | 119 => 4#32
  | 120 => 2#32
  | 121 => 2#32
  | 122 => 4#32
  | 123 => 2#32
  | 124 => 16#32
  | 125 => 2#32
  | 126 => 1#32
  | 127 => 2#32
  | _ => 0#32

noncomputable abbrev lit3t0_21 (i : Nat) : BitVec 32 := match i % 128 with
  | 0 => 8#32
  | 1 => 16#32
  | 2 => 8#32
  | 3 => 2#32
  | 4 => 8#32
  | 5 => 4#32
  | 6 => 8#32
  | 7 => 4#32
  | 8 => 2#32
  | 9 => 4#32
  | 10 => 16#32
  | 11 => 1#32
  | 12 => 16#32
  | 13 => 2#32
  | 14 => 16#32
  | 15 => 4#32
  | 16 => 4#32
  | 17 => 2#32
  | 18 => 1#32
  | 19 => 1#32
  | 20 => 2#32
  | 21 => 1#32
  | 22 => 2#32
  | 23 => 16#32
  | 24 => 4#32
  | 25 => 1#32
  | 26 => 1#32
  | 27 => 2#32
  | 28 => 1#32
  | 29 => 16#32
  | 30 => 2#32
  | 31 => 4#32
  | 32 => 8#32
  | 33 => 2#32
  | 34 => 1#32
  | 35 => 2#32
  | 36 => 2#32
  | 37 => 4#32
  | 38 => 8#32
  | 39 => 8#32
  | 40 => 1#32
  | 41 => 4#32
  | 42 => 8#32
  | 43 => 4#32
  | 44 => 16#32
  | 45 => 1#32
  | 46 => 8#32
  | 47 => 4#32
  | 48 => 8#32
  | 49 => 2#32
  | 50 => 16#32
  | 51 => 8#32
  | 52 => 1#32
  | 53 => 16#32
  | 54 => 1#32
  | 55 => 16#32
  | 56 => 16#32
  | 57 => 1#32
  | 58 => 8#32
  | 59 => 2#32
  | 60 => 2#32
  | 61 => 2#32
  | 62 => 1#32
  | 63 => 1#32
  | 64 => 16#32
  | 65 => 16#32
  | 66 => 4#32
  | 67 => 2#32
  | 68 => 8#32
  | 69 => 1#32
  | 70 => 8#32
  | 71 => 8#32
  | 72 => 8#32
  | 73 => 1#32
  | 74 => 1#32
  | 75 => 2#32
  | 76 => 16#32
  | 77 => 1#32
  | 78 => 4#32
  | 79 => 8#32
  | 80 => 2#32
  | 81 => 8#32
  | 82 => 1#32
  | 83 => 8#32
  | 84 => 1#32
  | 85 => 2#32
  | 86 => 1#32
  | 87 => 8#32
  | 88 => 8#32
  | 89 => 16#32
  | 90 => 2#32
  | 91 => 2#32
  | 92 => 16#32
  | 93 => 2#32
  | 94 => 4#32
  | 95 => 16#32
  | 96 => 16#32
  | 97 => 2#32
  | 98 => 8#32
  | 99 => 16#32
  | 100 => 2#32
  | 101 => 8#32
  | 102 => 1#32
  | 103 => 1#32
  | 104 => 8#32
  | 105 => 1#32
  | 106 => 8#32
  | 107 => 8#32
  | 108 => 8#32
  | 109 => 4#32
  | 110 => 2#32
  | 111 => 1#32
  | 112 => 2#32
  | 113 => 16#32
  | 114 => 4#32
  | 115 => 1#32
  | 116 => 16#32
  | 117 => 8#32
  | 118 => 16#32
  | 119 => 4#32
  | 120 => 4#32
  | 121 => 4#32
  | 122 => 8#32
  | 123 => 16#32
  | 124 => 2#32
  | 125 => 8#32
  | 126 => 4#32
  | 127 => 8#32
  | _ => 0#32

noncomputable abbrev lit3t0_22 (i : Nat) : BitVec 32 := match i % 128 with
  | 0 => 16#32
  | 1 => 16#32
  | 2 => 8#32
  | 3 => 16#32
  | 4 => 8#32
  | 5 => 8#32
  | 6 => 16#32
  | 7 => 16#32
  | 8 => 4#32
  | 9 => 4#32
  | 10 => 1#32
  | 11 => 1#32
  | 12 => 2#32
  | 13 => 1#32
  | 14 => 4#32
  | 15 => 1#32
  | 16 => 1#32
  | 17 => 16#32
  | 18 => 4#32
  | 19 => 1#32
  | 20 => 4#32
  | 21 => 1#32
  | 22 => 16#32
  | 23 => 16#32
  | 24 => 2#32
  | 25 => 4#32
  | 26 => 8#32
  | 27 => 16#32
  | 28 => 8#32
  | 29 => 8#32
  | 30 => 8#32
  | 31 => 2#32
  | 32 => 1#32
  | 33 => 4#32
  | 34 => 2#32
  | 35 => 2#32
  | 36 => 8#32
  | 37 => 16#32
  | 38 => 2#32
  | 39 => 2#32
  | 40 => 8#32
  | 41 => 4#32
  | 42 => 4#32
  | 43 => 1#32
  | 44 => 16#32
  | 45 => 1#32
  | 46 => 2#32
  | 47 => 4#32
  | 48 => 4#32
  | 49 => 2#32
  | 50 => 8#32
  | 51 => 2#32
  | 52 => 4#32
  | 53 => 2#32
  | 54 => 2#32
  | 55 => 8#32
  | 56 => 2#32
  | 57 => 1#32
  | 58 => 8#32
  | 59 => 16#32
  | 60 => 2#32
  | 61 => 1#32
  | 62 => 2#32
  | 63 => 2#32
  | 64 => 1#32
  | 65 => 1#32
  | 66 => 4#32
  | 67 => 4#32
  | 68 => 2#32
  | 69 => 1#32
  | 70 => 8#32
  | 71 => 1#32
  | 72 => 16#32
  | 73 => 2#32
  | 74 => 1#32
  | 75 => 1#32
  | 76 => 16#32
  | 77 => 16#32
  | 78 => 1#32
  | 79 => 1#32
  | 80 => 2#32
  | 81 => 2#32
  | 82 => 8#32
  | 83 => 16#32
  | 84 => 8#32
  | 85 => 2#32
  | 86 => 2#32
  | 87 => 4#32
  | 88 => 4#32
  | 89 => 8#32
  | 90 => 1#32
  | 91 => 4#32
  | 92 => 4#32
  | 93 => 2#32
  | 94 => 1#32
  | 95 => 8#32
  | 96 => 4#32
  | 97 => 1#32
  | 98 => 1#32
  | 99 => 16#32
  | 100 => 1#32
  | 101 => 2#32
  | 102 => 1#32
  | 103 => 4#32
  | 104 => 4#32
  | 105 => 8#32
  | 106 => 4#32
  | 107 => 2#32
  | 108 => 4#32
  | 109 => 8#32
  | 110 => 8#32
  | 111 => 1#32
  | 112 => 4#32
  | 113 => 2#32
  | 114 => 2#32
  | 115 => 2#32
  | 116 => 16#32
  | 117 => 1#32
  | 118 => 2#32
  | 119 => 2#32
  | 120 => 8#32
  | 121 => 1#32
  | 122 => 4#32
  | 123 => 1#32
  | 124 => 1#32
  | 125 => 4#32
  | 126 => 2#32
  | 127 => 16#32
  | _ => 0#32

noncomputable abbrev lit3t0_23 (i : Nat) : BitVec 32 := match i % 128 with
  | 0 => 8#32
  | 1 => 4#32
  | 2 => 16#32
  | 3 => 16#32
  | 4 => 16#32
  | 5 => 4#32
  | 6 => 16#32
  | 7 => 4#32
  | 8 => 1#32
  | 9 => 1#32
  | 10 => 2#32
  | 11 => 4#32
  | 12 => 8#32
  | 13 => 1#32
  | 14 => 2#32
  | 15 => 8#32
  | 16 => 1#32
  | 17 => 8#32
  | 18 => 16#32
  | 19 => 8#32
  | 20 => 16#32
  | 21 => 1#32
  | 22 => 4#32
  | 23 => 4#32
  | 24 => 8#32
  | 25 => 2#32
  | 26 => 8#32
  | 27 => 16#32
  | 28 => 4#32
  | 29 => 8#32
  | 30 => 2#32
  | 31 => 2#32
  | 32 => 4#32
  | 33 => 8#32
  | 34 => 2#32
  | 35 => 1#32
  | 36 => 4#32
  | 37 => 2#32
  | 38 => 4#32
  | 39 => 1#32
  | 40 => 16#32
  | 41 => 1#32
  | 42 => 1#32
  | 43 => 8#32
  | 44 => 16#32
  | 45 => 8#32
  | 46 => 8#32
  | 47 => 4#32
  | 48 => 2#32
  | 49 => 8#32
  | 50 => 4#32
  | 51 => 4#32
  | 52 => 4#32
  | 53 => 16#32
  | 54 => 16#32
  | 55 => 16#32
  | 56 => 2#32
  | 57 => 2#32
  | 58 => 8#32
  | 59 => 1#32
  | 60 => 8#32
  | 61 => 4#32
  | 62 => 2#32
  | 63 => 1#32
  | 64 => 16#32
  | 65 => 2#32
  | 66 => 8#32
  | 67 => 16#32
  | 68 => 4#32
  | 69 => 1#32
  | 70 => 8#32
  | 71 => 1#32
  | 72 => 1#32
  | 73 => 4#32
  | 74 => 2#32
  | 75 => 8#32
  | 76 => 16#32
  | 77 => 4#32
  | 78 => 2#32
  | 79 => 8#32
  | 80 => 2#32
  | 81 => 4#32
  | 82 => 16#32
  | 83 => 4#32
  | 84 => 16#32
  | 85 => 4#32
  | 86 => 4#32
  | 87 => 16#32
  | 88 => 1#32
  | 89 => 2#32
  | 90 => 8#32
  | 91 => 1#32
  | 92 => 1#32
  | 93 => 8#32
  | 94 => 4#32
  | 95 => 8#32
  | 96 => 4#32
  | 97 => 1#32
  | 98 => 16#32
  | 99 => 8#32
  | 100 => 1#32
  | 101 => 16#32
  | 102 => 4#32
  | 103 => 1#32
  | 104 => 2#32
  | 105 => 4#32
  | 106 => 2#32
  | 107 => 1#32
  | 108 => 8#32
  | 109 => 2#32
  | 110 => 8#32
  | 111 => 4#32
  | 112 => 4#32
  | 113 => 16#32
  | 114 => 4#32
  | 115 => 4#32
  | 116 => 4#32
  | 117 => 1#32
  | 118 => 8#32
  | 119 => 8#32
  | 120 => 8#32
  | 121 => 4#32
  | 122 => 4#32
  | 123 => 1#32
  | 124 => 2#32
  | 125 => 16#32
  | 126 => 4#32
  | 127 => 4#32
  | _ => 0#32

noncomputable abbrev lit3t0_24 (i : Nat) : BitVec 32 := match i % 128 with
  | 0 => 4#32
  | 1 => 2#32
  | 2 => 2#32
  | 3 => 4#32
  | 4 => 16#32
  | 5 => 2#32
  | 6 => 4#32
  | 7 => 16#32
  | 8 => 1#32
  | 9 => 4#32
  | 10 => 2#32
  | 11 => 8#32
  | 12 => 2#32
  | 13 => 8#32
  | 14 => 4#32
  | 15 => 16#32
  | 16 => 16#32
  | 17 => 1#32
  | 18 => 8#32
  | 19 => 1#32
  | 20 => 1#32
  | 21 => 8#32
  | 22 => 1#32
  | 23 => 1#32
  | 24 => 1#32
  | 25 => 16#32
  | 26 => 1#32
  | 27 => 2#32
  | 28 => 16#32
  | 29 => 2#32
  | 30 => 8#32
  | 31 => 16#32
  | 32 => 1#32
  | 33 => 8#32
  | 34 => 16#32
  | 35 => 1#32
  | 36 => 2#32
  | 37 => 4#32
  | 38 => 1#32
  | 39 => 2#32
  | 40 => 1#32
  | 41 => 2#32
  | 42 => 1#32
  | 43 => 1#32
  | 44 => 1#32
  | 45 => 4#32
  | 46 => 8#32
  | 47 => 2#32
  | 48 => 4#32
  | 49 => 16#32
  | 50 => 16#32
  | 51 => 16#32
  | 52 => 4#32
  | 53 => 4#32
  | 54 => 2#32
  | 55 => 1#32
  | 56 => 8#32
  | 57 => 4#32
  | 58 => 4#32
  | 59 => 2#32
  | 60 => 16#32
  | 61 => 4#32
  | 62 => 2#32
  | 63 => 2#32
  | 64 => 16#32
  | 65 => 2#32
  | 66 => 1#32
  | 67 => 4#32
  | 68 => 2#32
  | 69 => 2#32
  | 70 => 16#32
  | 71 => 2#32
  | 72 => 4#32
  | 73 => 4#32
  | 74 => 16#32
  | 75 => 2#32
  | 76 => 4#32
  | 77 => 2#32
  | 78 => 1#32
  | 79 => 1#32
  | 80 => 4#32
  | 81 => 1#32
  | 82 => 2#32
  | 83 => 16#32
  | 84 => 4#32
  | 85 => 1#32
  | 86 => 16#32
  | 87 => 2#32
  | 88 => 2#32
  | 89 => 2#32
  | 90 => 16#32
  | 91 => 8#32
  | 92 => 8#32
  | 93 => 2#32
  | 94 => 1#32
  | 95 => 4#32
  | 96 => 8#32
  | 97 => 4#32
  | 98 => 4#32
  | 99 => 1#32
  | 100 => 8#32
  | 101 => 8#32
  | 102 => 8#32
  | 103 => 2#32
  | 104 => 16#32
  | 105 => 16#32
  | 106 => 1#32
  | 107 => 8#32
  | 108 => 2#32
  | 109 => 8#32
  | 110 => 2#32
  | 111 => 2#32
  | 112 => 1#32
  | 113 => 4#32
  | 114 => 4#32
  | 115 => 4#32
  | 116 => 4#32
  | 117 => 16#32
  | 118 => 4#32
  | 119 => 2#32
  | 120 => 16#32
  | 121 => 1#32
  | 122 => 16#32
  | 123 => 4#32
  | 124 => 1#32
  | 125 => 4#32
  | 126 => 1#32
  | 127 => 4#32
  | _ => 0#32

noncomputable abbrev lit3t0_25 (i : Nat) : BitVec 32 := match i % 128 with
  | 0 => 2#32
  | 1 => 16#32
  | 2 => 2#32
  | 3 => 1#32
  | 4 => 8#32
  | 5 => 8#32
  | 6 => 8#32
  | 7 => 4#32
  | 8 => 16#32
  | 9 => 4#32
  | 10 => 16#32
  | 11 => 16#32
  | 12 => 4#32
  | 13 => 2#32
  | 14 => 2#32
  | 15 => 1#32
  | 16 => 2#32
  | 17 => 2#32
  | 18 => 8#32
  | 19 => 4#32
  | 20 => 4#32
  | 21 => 8#32
  | 22 => 16#32
  | 23 => 16#32
  | 24 => 8#32
  | 25 => 1#32
  | 26 => 8#32
  | 27 => 1#32
  | 28 => 16#32
  | 29 => 16#32
  | 30 => 2#32
  | 31 => 16#32
  | 32 => 8#32
  | 33 => 2#32
  | 34 => 2#32
  | 35 => 1#32
  | 36 => 2#32
  | 37 => 8#32
  | 38 => 4#32
  | 39 => 8#32
  | 40 => 4#32
  | 41 => 4#32
  | 42 => 8#32
  | 43 => 2#32
  | 44 => 8#32
  | 45 => 1#32
  | 46 => 2#32
  | 47 => 8#32
  | 48 => 4#32
  | 49 => 2#32
  | 50 => 16#32
  | 51 => 1#32
  | 52 => 16#32
  | 53 => 1#32
  | 54 => 1#32
  | 55 => 16#32
  | 56 => 2#32
  | 57 => 4#32
  | 58 => 1#32
  | 59 => 8#32
  | 60 => 4#32
  | 61 => 16#32
  | 62 => 4#32
  | 63 => 2#32
  | 64 => 4#32
  | 65 => 8#32
  | 66 => 8#32
  | 67 => 8#32
  | 68 => 8#32
  | 69 => 8#32
  | 70 => 1#32
  | 71 => 2#32
  | 72 => 4#32
  | 73 => 16#32
  | 74 => 1#32
  | 75 => 4#32
  | 76 => 4#32
  | 77 => 16#32
  | 78 => 16#32
  | 79 => 4#32
  | 80 => 8#32
  | 81 => 2#32
  | 82 => 1#32
  | 83 => 2#32
  | 84 => 8#32
  | 85 => 2#32
  | 86 => 2#32
  | 87 => 8#32
  | 88 => 2#32
  | 89 => 16#32
  | 90 => 2#32
  | 91 => 1#32
  | 92 => 4#32
  | 93 => 2#32
  | 94 => 8#32
  | 95 => 2#32
  | 96 => 16#32
  | 97 => 1#32
  | 98 => 4#32
  | 99 => 8#32
  | 100 => 4#32
  | 101 => 1#32
  | 102 => 2#32
  | 103 => 1#32
  | 104 => 4#32
  | 105 => 4#32
  | 106 => 16#32
  | 107 => 16#32
  | 108 => 8#32
  | 109 => 8#32
  | 110 => 16#32
  | 111 => 16#32
  | 112 => 2#32
  | 113 => 8#32
  | 114 => 1#32
  | 115 => 16#32
  | 116 => 2#32
  | 117 => 16#32
  | 118 => 8#32
  | 119 => 8#32
  | 120 => 2#32
  | 121 => 1#32
  | 122 => 16#32
  | 123 => 8#32
  | 124 => 1#32
  | 125 => 8#32
  | 126 => 4#32
  | 127 => 8#32
  | _ => 0#32

noncomputable abbrev lit3t0_26 (i : Nat) : BitVec 32 := match i % 128 with
  | 0 => 1#32
  | 1 => 16#32
  | 2 => 16#32
  | 3 => 4#32
  | 4 => 1#32
  | 5 => 2#32
  | 6 => 4#32
  | 7 => 2#32
  | 8 => 16#32
  | 9 => 8#32
  | 10 => 16#32
  | 11 => 4#32
  | 12 => 1#32
  | 13 => 8#32
  | 14 => 8#32
  | 15 => 16#32
  | 16 => 8#32
  | 17 => 16#32
  | 18 => 8#32
  | 19 => 16#32
  | 20 => 4#32
  | 21 => 8#32
  | 22 => 4#32
  | 23 => 4#32
  | 24 => 4#32
  | 25 => 16#32
  | 26 => 16#32
  | 27 => 2#32
  | 28 => 1#32
  | 29 => 8#32
  | 30 => 8#32
  | 31 => 16#32
  | 32 => 2#32
  | 33 => 4#32
  | 34 => 4#32
  | 35 => 2#32
  | 36 => 4#32
  | 37 => 1#32
  | 38 => 1#32
  | 39 => 8#32
  | 40 => 16#32
  | 41 => 4#32
  | 42 => 4#32
  | 43 => 1#32
  | 44 => 8#32
  | 45 => 2#32
  | 46 => 1#32
  | 47 => 16#32
  | 48 => 8#32
  | 49 => 16#32
  | 50 => 1#32
  | 51 => 16#32
  | 52 => 2#32
  | 53 => 1#32
  | 54 => 16#32
  | 55 => 2#32
  | 56 => 16#32
  | 57 => 2#32
  | 58 => 8#32
  | 59 => 8#32
  | 60 => 8#32
  | 61 => 1#32
  | 62 => 8#32
  | 63 => 2#32
  | 64 => 8#32
  | 65 => 16#32
  | 66 => 4#32
  | 67 => 4#32
  | 68 => 4#32
  | 69 => 8#32
  | 70 => 4#32
  | 71 => 8#32
  | 72 => 16#32
  | 73 => 2#32
  | 74 => 4#32
  | 75 => 16#32
  | 76 => 4#32
  | 77 => 16#32
  | 78 => 1#32
  | 79 => 16#32
  | 80 => 1#32
  | 81 => 2#32
  | 82 => 2#32
  | 83 => 16#32
  | 84 => 1#32
  | 85 => 4#32
  | 86 => 8#32
  | 87 => 1#32
  | 88 => 2#32
  | 89 => 4#32
  | 90 => 16#32
  | 91 => 16#32
  | 92 => 1#32
  | 93 => 4#32
  | 94 => 2#32
  | 95 => 1#32
  | 96 => 16#32
  | 97 => 4#32
  | 98 => 1#32
  | 99 => 2#32
  | 100 => 2#32
  | 101 => 16#32
  | 102 => 1#32
  | 103 => 2#32
  | 104 => 2#32
  | 105 => 8#32
  | 106 => 4#32
  | 107 => 2#32
  | 108 => 8#32
  | 109 => 2#32
  | 110 => 1#32
  | 111 => 1#32
  | 112 => 16#32
  | 113 => 1#32
  | 114 => 4#32
  | 115 => 1#32
  | 116 => 16#32
  | 117 => 1#32
  | 118 => 8#32
  | 119 => 2#32
  | 120 => 4#32
  | 121 => 8#32
  | 122 => 8#32
  | 123 => 2#32
  | 124 => 4#32
  | 125 => 16#32
  | 126 => 4#32
  | 127 => 1#32
  | _ => 0#32

noncomputable abbrev lit3t0_27 (i : Nat) : BitVec 32 := match i % 128 with
  | 0 => 1#32
  | 1 => 4#32
  | 2 => 16#32
  | 3 => 1#32
  | 4 => 16#32
  | 5 => 4#32
  | 6 => 8#32
  | 7 => 1#32
  | 8 => 4#32
  | 9 => 2#32
  | 10 => 1#32
  | 11 => 16#32
  | 12 => 1#32
  | 13 => 4#32
  | 14 => 2#32
  | 15 => 16#32
  | 16 => 4#32
  | 17 => 2#32
  | 18 => 16#32
  | 19 => 2#32
  | 20 => 1#32
  | 21 => 2#32
  | 22 => 1#32
  | 23 => 1#32
  | 24 => 16#32
  | 25 => 4#32
  | 26 => 16#32
  | 27 => 8#32
  | 28 => 8#32
  | 29 => 8#32
  | 30 => 8#32
  | 31 => 4#32
  | 32 => 8#32
  | 33 => 1#32
  | 34 => 4#32
  | 35 => 8#32
  | 36 => 16#32
  | 37 => 8#32
  | 38 => 16#32
  | 39 => 4#32
  | 40 => 8#32
  | 41 => 1#32
  | 42 => 8#32
  | 43 => 8#32
  | 44 => 8#32
  | 45 => 16#32
  | 46 => 2#32
  | 47 => 8#32
  | 48 => 2#32
  | 49 => 4#32
  | 50 => 1#32
  | 51 => 16#32
  | 52 => 4#32
  | 53 => 2#32
  | 54 => 8#32
  | 55 => 4#32
  | 56 => 4#32
  | 57 => 16#32
  | 58 => 8#32
  | 59 => 1#32
  | 60 => 1#32
  | 61 => 8#32
  | 62 => 4#32
  | 63 => 4#32
  | 64 => 2#32
  | 65 => 8#32
  | 66 => 1#32
  | 67 => 16#32
  | 68 => 16#32
  | 69 => 4#32
  | 70 => 4#32
  | 71 => 8#32
  | 72 => 8#32
  | 73 => 2#32
  | 74 => 1#32
  | 75 => 2#32
  | 76 => 1#32
  | 77 => 8#32
  | 78 => 16#32
  | 79 => 1#32
  | 80 => 1#32
  | 81 => 8#32
  | 82 => 4#32
  | 83 => 4#32
  | 84 => 2#32
  | 85 => 1#32
  | 86 => 16#32
  | 87 => 2#32
  | 88 => 2#32
  | 89 => 16#32
  | 90 => 2#32
  | 91 => 16#32
  | 92 => 16#32
  | 93 => 4#32
  | 94 => 1#32
  | 95 => 2#32
  | 96 => 1#32
  | 97 => 8#32
  | 98 => 1#32
  | 99 => 1#32
  | 100 => 1#32
  | 101 => 8#32
  | 102 => 2#32
  | 103 => 4#32
  | 104 => 2#32
  | 105 => 8#32
  | 106 => 4#32
  | 107 => 16#32
  | 108 => 8#32
  | 109 => 8#32
  | 110 => 2#32
  | 111 => 16#32
  | 112 => 1#32
  | 113 => 4#32
  | 114 => 1#32
  | 115 => 16#32
  | 116 => 8#32
  | 117 => 16#32
  | 118 => 8#32
  | 119 => 16#32
  | 120 => 8#32
  | 121 => 1#32
  | 122 => 4#32
  | 123 => 1#32
  | 124 => 4#32
  | 125 => 16#32
  | 126 => 1#32
  | 127 => 8#32
  | _ => 0#32

noncomputable abbrev lit3t0_28 (i : Nat) : BitVec 32 := match i % 128 with
  | 0 => 16#32
  | 1 => 1#32
  | 2 => 4#32
  | 3 => 1#32
  | 4 => 1#32
  | 5 => 16#32
  | 6 => 8#32
  | 7 => 2#32
  | 8 => 16#32
  | 9 => 2#32
  | 10 => 8#32
  | 11 => 2#32
  | 12 => 4#32
  | 13 => 1#32
  | 14 => 8#32
  | 15 => 4#32
  | 16 => 8#32
  | 17 => 1#32
  | 18 => 16#32
  | 19 => 8#32
  | 20 => 4#32
  | 21 => 1#32
  | 22 => 2#32
  | 23 => 16#32
  | 24 => 4#32
  | 25 => 16#32
  | 26 => 2#32
  | 27 => 8#32
  | 28 => 4#32
  | 29 => 1#32
  | 30 => 8#32
  | 31 => 4#32
  | 32 => 8#32
  | 33 => 2#32
  | 34 => 2#32
  | 35 => 2#32
  | 36 => 2#32
  | 37 => 4#32
  | 38 => 16#32
  | 39 => 8#32
  | 40 => 8#32
  | 41 => 4#32
  | 42 => 4#32
  | 43 => 1#32
  | 44 => 8#32
  | 45 => 1#32
  | 46 => 2#32
  | 47 => 4#32
  | 48 => 2#32
  | 49 => 2#32
  | 50 => 1#32
  | 51 => 8#32
  | 52 => 8#32
  | 53 => 1#32
  | 54 => 1#32
  | 55 => 16#32
  | 56 => 2#32
  | 57 => 4#32
  | 58 => 2#32
  | 59 => 4#32
  | 60 => 8#32
  | 61 => 8#32
  | 62 => 1#32
  | 63 => 8#32
  | 64 => 4#32
  | 65 => 16#32
  | 66 => 2#32
  | 67 => 2#32
  | 68 => 1#32
  | 69 => 16#32
  | 70 => 1#32
  | 71 => 8#32
  | 72 => 8#32
  | 73 => 2#32
  | 74 => 2#32
  | 75 => 1#32
  | 76 => 2#32
  | 77 => 1#32
  | 78 => 1#32
  | 79 => 4#32
  | 80 => 4#32
  | 81 => 4#32
  | 82 => 2#32
  | 83 => 2#32
  | 84 => 16#32
  | 85 => 4#32
  | 86 => 16#32
  | 87 => 4#32
  | 88 => 4#32
  | 89 => 8#32
  | 90 => 1#32
  | 91 => 16#32
  | 92 => 2#32
  | 93 => 1#32
  | 94 => 2#32
  | 95 => 16#32
  | 96 => 16#32
  | 97 => 2#32
  | 98 => 16#32
  | 99 => 1#32
  | 100 => 16#32
  | 101 => 4#32
  | 102 => 1#32
  | 103 => 1#32
  | 104 => 16#32
  | 105 => 8#32
  | 106 => 16#32
  | 107 => 1#32
  | 108 => 8#32
  | 109 => 2#32
  | 110 => 2#32
  | 111 => 8#32
  | 112 => 16#32
  | 113 => 16#32
  | 114 => 2#32
  | 115 => 2#32
  | 116 => 2#32
  | 117 => 8#32
  | 118 => 8#32
  | 119 => 8#32
  | 120 => 16#32
  | 121 => 8#32
  | 122 => 4#32
  | 123 => 4#32
  | 124 => 16#32
  | 125 => 1#32
  | 126 => 4#32
  | 127 => 8#32
  | _ => 0#32

noncomputable abbrev lit3t0_29 (i : Nat) : BitVec 32 := match i % 128 with
  | 0 => 4#32
  | 1 => 16#32
  | 2 => 4#32
  | 3 => 1#32
  | 4 => 4#32
  | 5 => 2#32
  | 6 => 2#32
  | 7 => 2#32
  | 8 => 16#32
  | 9 => 2#32
  | 10 => 2#32
  | 11 => 8#32
  | 12 => 8#32
  | 13 => 2#32
  | 14 => 2#32
  | 15 => 4#32
  | 16 => 1#32
  | 17 => 16#32
  | 18 => 1#32
  | 19 => 1#32
  | 20 => 2#32
  | 21 => 8#32
  | 22 => 2#32
  | 23 => 1#32
  | 24 => 2#32
  | 25 => 2#32
  | 26 => 1#32
  | 27 => 1#32
  | 28 => 2#32
  | 29 => 8#32
  | 30 => 4#32
  | 31 => 1#32
  | 32 => 16#32
  | 33 => 4#32
  | 34 => 4#32
  | 35 => 4#32
  | 36 => 2#32
  | 37 => 8#32
  | 38 => 16#32
  | 39 => 2#32
  | 40 => 4#32
  | 41 => 16#32
  | 42 => 2#32
  | 43 => 1#32
  | 44 => 16#32
  | 45 => 2#32
  | 46 => 4#32
  | 47 => 1#32
  | 48 => 2#32
  | 49 => 1#32
  | 50 => 8#32
  | 51 => 4#32
  | 52 => 8#32
  | 53 => 2#32
  | 54 => 2#32
  | 55 => 4#32
  | 56 => 8#32
  | 57 => 4#32
  | 58 => 4#32
  | 59 => 1#32
  | 60 => 16#32
  | 61 => 2#32
  | 62 => 2#32
  | 63 => 16#32
  | 64 => 2#32
  | 65 => 1#32
  | 66 => 4#32
  | 67 => 8#32
  | 68 => 16#32
  | 69 => 4#32
  | 70 => 2#32
  | 71 => 2#32
  | 72 => 2#32
  | 73 => 2#32
  | 74 => 8#32
  | 75 => 16#32
  | 76 => 8#32
  | 77 => 8#32
  | 78 => 2#32
  | 79 => 16#32
  | 80 => 2#32
  | 81 => 4#32
  | 82 => 4#32
  | 83 => 1#32
  | 84 => 1#32
  | 85 => 2#32
  | 86 => 16#32
  | 87 => 8#32
  | 88 => 1#32
  | 89 => 4#32
  | 90 => 16#32
  | 91 => 8#32
  | 92 => 2#32
  | 93 => 1#32
  | 94 => 16#32
  | 95 => 8#32
  | 96 => 16#32
  | 97 => 2#32
  | 98 => 1#32
  | 99 => 8#32
  | 100 => 4#32
  | 101 => 8#32
  | 102 => 1#32
  | 103 => 1#32
  | 104 => 2#32
  | 105 => 16#32
  | 106 => 2#32
  | 107 => 16#32
  | 108 => 4#32
  | 109 => 4#32
  | 110 => 16#32
  | 111 => 1#32
  | 112 => 4#32
  | 113 => 2#32
  | 114 => 1#32
  | 115 => 4#32
  | 116 => 1#32
  | 117 => 2#32
  | 118 => 8#32
  | 119 => 2#32
  | 120 => 4#32
  | 121 => 16#32
  | 122 => 1#32
  | 123 => 4#32
  | 124 => 8#32
  | 125 => 4#32
  | 126 => 2#32
  | 127 => 2#32
  | _ => 0#32

noncomputable abbrev lit3t0_30 (i : Nat) : BitVec 32 := match i % 128 with
  | 0 => 2#32
  | 1 => 8#32
  | 2 => 16#32
  | 3 => 1#32
  | 4 => 16#32
  | 5 => 1#32
  | 6 => 2#32
  | 7 => 4#32
  | 8 => 8#32
  | 9 => 4#32
  | 10 => 4#32
  | 11 => 8#32
  | 12 => 4#32
  | 13 => 16#32
  | 14 => 4#32
  | 15 => 4#32
  | 16 => 2#32
  | 17 => 1#32
  | 18 => 16#32
  | 19 => 1#32
  | 20 => 2#32
  | 21 => 16#32
  | 22 => 4#32
  | 23 => 4#32
  | 24 => 8#32
  | 25 => 1#32
  | 26 => 2#32
  | 27 => 2#32
  | 28 => 4#32
  | 29 => 2#32
  | 30 => 8#32
  | 31 => 4#32
  | 32 => 16#32
  | 33 => 2#32
  | 34 => 2#32
  | 35 => 8#32
  | 36 => 2#32
  | 37 => 16#32
  | 38 => 4#32
  | 39 => 8#32
  | 40 => 1#32
  | 41 => 16#32
  | 42 => 2#32
  | 43 => 8#32
  | 44 => 8#32
  | 45 => 1#32
  | 46 => 1#32
  | 47 => 16#32
  | 48 => 8#32
  | 49 => 16#32
  | 50 => 2#32
  | 51 => 16#32
  | 52 => 1#32
  | 53 => 16#32
  | 54 => 4#32
  | 55 => 2#32
  | 56 => 2#32
  | 57 => 8#32
  | 58 => 16#32
  | 59 => 8#32
  | 60 => 8#32
  | 61 => 8#32
  | 62 => 1#32
  | 63 => 16#32
  | 64 => 8#32
  | 65 => 1#32
  | 66 => 2#32
  | 67 => 2#32
  | 68 => 1#32
  | 69 => 1#32
  | 70 => 1#32
  | 71 => 2#32
  | 72 => 2#32
  | 73 => 8#32
  | 74 => 2#32
  | 75 => 2#32
  | 76 => 1#32
  | 77 => 8#32
  | 78 => 4#32
  | 79 => 4#32
  | 80 => 1#32
  | 81 => 1#32
  | 82 => 16#32
  | 83 => 8#32
  | 84 => 8#32
  | 85 => 2#32
  | 86 => 4#32
  | 87 => 2#32
  | 88 => 16#32
  | 89 => 4#32
  | 90 => 4#32
  | 91 => 8#32
  | 92 => 16#32
  | 93 => 8#32
  | 94 => 4#32
  | 95 => 4#32
  | 96 => 16#32
  | 97 => 2#32
  | 98 => 4#32
  | 99 => 16#32
  | 100 => 4#32
  | 101 => 16#32
  | 102 => 1#32
  | 103 => 2#32
  | 104 => 1#32
  | 105 => 1#32
  | 106 => 1#32
  | 107 => 16#32
  | 108 => 1#32
  | 109 => 8#32
  | 110 => 8#32
  | 111 => 16#32
  | 112 => 8#32
  | 113 => 4#32
  | 114 => 8#32
  | 115 => 16#32
  | 116 => 2#32
  | 117 => 1#32
  | 118 => 2#32
  | 119 => 16#32
  | 120 => 16#32
  | 121 => 1#32
  | 122 => 16#32
  | 123 => 16#32
  | 124 => 1#32
  | 125 => 2#32
  | 126 => 2#32
  | 127 => 16#32
  | _ => 0#32

noncomputable abbrev lit3t0_31 (i : Nat) : BitVec 32 := match i % 128 with
  | 0 => 4#32
  | 1 => 1#32
  | 2 => 2#32
  | 3 => 2#32
  | 4 => 1#32
  | 5 => 8#32
  | 6 => 2#32
  | 7 => 8#32
  | 8 => 4#32
  | 9 => 2#32
  | 10 => 8#32
  | 11 => 2#32
  | 12 => 4#32
  | 13 => 8#32
  | 14 => 16#32
  | 15 => 16#32
  | 16 => 2#32
  | 17 => 4#32
  | 18 => 4#32
  | 19 => 4#32
  | 20 => 16#32
  | 21 => 8#32
  | 22 => 16#32
  | 23 => 8#32
  | 24 => 8#32
  | 25 => 16#32
  | 26 => 1#32
  | 27 => 1#32
  | 28 => 2#32
  | 29 => 1#32
  | 30 => 4#32
  | 31 => 4#32
  | 32 => 1#32
  | 33 => 2#32
  | 34 => 16#32
  | 35 => 16#32
  | 36 => 8#32
  | 37 => 16#32
  | 38 => 2#32
  | 39 => 16#32
  | 40 => 16#32
  | 41 => 1#32
  | 42 => 8#32
  | 43 => 1#32
  | 44 => 2#32
  | 45 => 8#32
  | 46 => 2#32
  | 47 => 2#32
  | 48 => 16#32
  | 49 => 8#32
  | 50 => 8#32
  | 51 => 1#32
  | 52 => 1#32
  | 53 => 16#32
  | 54 => 2#32
  | 55 => 8#32
  | 56 => 16#32
  | 57 => 16#32
  | 58 => 16#32
  | 59 => 2#32
  | 60 => 2#32
  | 61 => 8#32
  | 62 => 16#32
  | 63 => 4#32
  | 64 => 16#32
  | 65 => 2#32
  | 66 => 4#32
  | 67 => 4#32
  | 68 => 1#32
  | 69 => 2#32
  | 70 => 4#32
  | 71 => 1#32
  | 72 => 1#32
  | 73 => 16#32
  | 74 => 1#32
  | 75 => 8#32
  | 76 => 4#32
  | 77 => 4#32
  | 78 => 1#32
  | 79 => 8#32
  | 80 => 4#32
  | 81 => 2#32
  | 82 => 1#32
  | 83 => 4#32
  | 84 => 4#32
  | 85 => 1#32
  | 86 => 2#32
  | 87 => 1#32
  | 88 => 2#32
  | 89 => 4#32
  | 90 => 4#32
  | 91 => 16#32
  | 92 => 1#32
  | 93 => 2#32
  | 94 => 2#32
  | 95 => 1#32
  | 96 => 1#32
  | 97 => 1#32
  | 98 => 1#32
  | 99 => 2#32
  | 100 => 1#32
  | 101 => 16#32
  | 102 => 16#32
  | 103 => 8#32
  | 104 => 8#32
  | 105 => 8#32
  | 106 => 16#32
  | 107 => 8#32
  | 108 => 16#32
  | 109 => 2#32
  | 110 => 16#32
  | 111 => 2#32
  | 112 => 8#32
  | 113 => 2#32
  | 114 => 1#32
  | 115 => 1#32
  | 116 => 16#32
  | 117 => 1#32
  | 118 => 4#32
  | 119 => 2#32
  | 120 => 1#32
  | 121 => 8#32
  | 122 => 1#32
  | 123 => 2#32
  | 124 => 2#32
  | 125 => 4#32
  | 126 => 8#32
  | 127 => 1#32
  | _ => 0#32

noncomputable abbrev lit3t0_32 (i : Nat) : BitVec 32 := match i % 128 with
  | 0 => 2#32
  | 1 => 4#32
  | 2 => 1#32
  | 3 => 16#32
  | 4 => 4#32
  | 5 => 2#32
  | 6 => 2#32
  | 7 => 1#32
  | 8 => 4#32
  | 9 => 8#32
  | 10 => 16#32
  | 11 => 2#32
  | 12 => 8#32
  | 13 => 16#32
  | 14 => 4#32
  | 15 => 8#32
  | 16 => 8#32
  | 17 => 4#32
  | 18 => 8#32
  | 19 => 2#32
  | 20 => 1#32
  | 21 => 8#32
  | 22 => 16#32
  | 23 => 8#32
  | 24 => 1#32
  | 25 => 16#32
  | 26 => 16#32
  | 27 => 2#32
  | 28 => 16#32
  | 29 => 4#32
  | 30 => 8#32
  | 31 => 16#32
  | 32 => 4#32
  | 33 => 4#32
  | 34 => 16#32
  | 35 => 8#32
  | 36 => 16#32
  | 37 => 2#32
  | 38 => 2#32
  | 39 => 16#32
  | 40 => 2#32
  | 41 => 1#32
  | 42 => 2#32
  | 43 => 16#32
  | 44 => 2#32
  | 45 => 2#32
  | 46 => 4#32
  | 47 => 1#32
  | 48 => 16#32
  | 49 => 16#32
  | 50 => 2#32
  | 51 => 8#32
  | 52 => 4#32
  | 53 => 16#32
  | 54 => 8#32
  | 55 => 8#32
  | 56 => 1#32
  | 57 => 4#32
  | 58 => 2#32
  | 59 => 8#32
  | 60 => 1#32
  | 61 => 4#32
  | 62 => 16#32
  | 63 => 8#32
  | 64 => 8#32
  | 65 => 8#32
  | 66 => 1#32
  | 67 => 8#32
  | 68 => 16#32
  | 69 => 16#32
  | 70 => 2#32
  | 71 => 16#32
  | 72 => 1#32
  | 73 => 8#32
  | 74 => 2#32
  | 75 => 4#32
  | 76 => 2#32
  | 77 => 2#32
  | 78 => 1#32
  | 79 => 1#32
  | 80 => 2#32
  | 81 => 8#32
  | 82 => 2#32
  | 83 => 8#32
  | 84 => 1#32
  | 85 => 1#32
  | 86 => 8#32
  | 87 => 8#32
  | 88 => 2#32
  | 89 => 16#32
  | 90 => 8#32
  | 91 => 2#32
  | 92 => 1#32
  | 93 => 4#32
  | 94 => 4#32
  | 95 => 8#32
  | 96 => 16#32
  | 97 => 16#32
  | 98 => 8#32
  | 99 => 8#32
  | 100 => 4#32
  | 101 => 2#32
  | 102 => 1#32
  | 103 => 16#32
  | 104 => 1#32
  | 105 => 16#32
  | 106 => 1#32
  | 107 => 1#32
  | 108 => 8#32
  | 109 => 2#32
  | 110 => 1#32
  | 111 => 4#32
  | 112 => 4#32
  | 113 => 1#32
  | 114 => 2#32
  | 115 => 4#32
  | 116 => 2#32
  | 117 => 16#32
  | 118 => 8#32
  | 119 => 8#32
  | 120 => 4#32
  | 121 => 2#32
  | 122 => 2#32
  | 123 => 2#32
  | 124 => 1#32
  | 125 => 8#32
  | 126 => 8#32
  | 127 => 1#32
  | _ => 0#32

noncomputable abbrev lit3t0_33 (i : Nat) : BitVec 32 := match i % 128 with
  | 0 => 16#32
  | 1 => 4#32
  | 2 => 1#32
  | 3 => 16#32
  | 4 => 1#32
  | 5 => 1#32
  | 6 => 16#32
  | 7 => 16#32
  | 8 => 1#32
  | 9 => 8#32
  | 10 => 4#32
  | 11 => 1#32
  | 12 => 1#32
  | 13 => 1#32
  | 14 => 8#32
  | 15 => 2#32
  | 16 => 4#32
  | 17 => 2#32
  | 18 => 1#32
  | 19 => 1#32
  | 20 => 1#32
  | 21 => 16#32
  | 22 => 8#32
  | 23 => 1#32
  | 24 => 2#32
  | 25 => 16#32
  | 26 => 4#32
  | 27 => 1#32
  | 28 => 8#32
  | 29 => 16#32
  | 30 => 8#32
  | 31 => 2#32
  | 32 => 8#32
  | 33 => 1#32
  | 34 => 16#32
  | 35 => 2#32
  | 36 => 8#32
  | 37 => 8#32
  | 38 => 4#32
  | 39 => 2#32
  | 40 => 1#32
  | 41 => 8#32
  | 42 => 16#32
  | 43 => 2#32
  | 44 => 8#32
  | 45 => 16#32
  | 46 => 16#32
  | 47 => 16#32
  | 48 => 4#32
  | 49 => 8#32
  | 50 => 2#32
  | 51 => 8#32
  | 52 => 1#32
  | 53 => 8#32
  | 54 => 2#32
  | 55 => 2#32
  | 56 => 16#32
  | 57 => 2#32
  | 58 => 8#32
  | 59 => 4#32
  | 60 => 2#32
  | 61 => 4#32
  | 62 => 4#32
  | 63 => 1#32
  | 64 => 16#32
  | 65 => 16#32
  | 66 => 8#32
  | 67 => 4#32
  | 68 => 1#32
  | 69 => 16#32
  | 70 => 16#32
  | 71 => 8#32
  | 72 => 16#32
  | 73 => 1#32
  | 74 => 8#32
  | 75 => 4#32
  | 76 => 2#32
  | 77 => 2#32
  | 78 => 4#32
  | 79 => 2#32
  | 80 => 2#32
  | 81 => 16#32
  | 82 => 4#32
  | 83 => 16#32
  | 84 => 1#32
  | 85 => 8#32
  | 86 => 4#32
  | 87 => 8#32
  | 88 => 1#32
  | 89 => 1#32
  | 90 => 1#32
  | 91 => 8#32
  | 92 => 4#32
  | 93 => 8#32
  | 94 => 16#32
  | 95 => 8#32
  | 96 => 2#32
  | 97 => 2#32
  | 98 => 2#32
  | 99 => 1#32
  | 100 => 2#32
  | 101 => 8#32
  | 102 => 1#32
  | 103 => 2#32
  | 104 => 2#32
  | 105 => 16#32
  | 106 => 16#32
  | 107 => 4#32
  | 108 => 8#32
  | 109 => 16#32
  | 110 => 8#32
  | 111 => 8#32
  | 112 => 2#32
  | 113 => 1#32
  | 114 => 2#32
  | 115 => 16#32
  | 116 => 4#32
  | 117 => 16#32
  | 118 => 1#32
  | 119 => 4#32
  | 120 => 1#32
  | 121 => 1#32
  | 122 => 4#32
  | 123 => 16#32
  | 124 => 8#32
  | 125 => 8#32
  | 126 => 4#32
  | 127 => 8#32
  | _ => 0#32

noncomputable abbrev lit3t0_34 (i : Nat) : BitVec 32 := match i % 128 with
  | 0 => 2#32
  | 1 => 8#32
  | 2 => 2#32
  | 3 => 8#32
  | 4 => 16#32
  | 5 => 4#32
  | 6 => 16#32
  | 7 => 1#32
  | 8 => 16#32
  | 9 => 8#32
  | 10 => 1#32
  | 11 => 4#32
  | 12 => 1#32
  | 13 => 8#32
  | 14 => 16#32
  | 15 => 16#32
  | 16 => 2#32
  | 17 => 4#32
  | 18 => 1#32
  | 19 => 1#32
  | 20 => 8#32
  | 21 => 4#32
  | 22 => 2#32
  | 23 => 2#32
  | 24 => 16#32
  | 25 => 4#32
  | 26 => 1#32
  | 27 => 16#32
  | 28 => 4#32
  | 29 => 8#32
  | 30 => 8#32
  | 31 => 1#32
  | 32 => 8#32
  | 33 => 8#32
  | 34 => 8#32
  | 35 => 16#32
  | 36 => 1#32
  | 37 => 1#32
  | 38 => 2#32
  | 39 => 8#32
  | 40 => 4#32
  | 41 => 1#32
  | 42 => 8#32
  | 43 => 4#32
  | 44 => 4#32
  | 45 => 2#32
  | 46 => 8#32
  | 47 => 8#32
  | 48 => 16#32
  | 49 => 2#32
  | 50 => 1#32
  | 51 => 4#32
  | 52 => 2#32
  | 53 => 2#32
  | 54 => 4#32
  | 55 => 4#32
  | 56 => 1#32
  | 57 => 2#32
  | 58 => 2#32
  | 59 => 1#32
  | 60 => 1#32
  | 61 => 2#32
  | 62 => 16#32
  | 63 => 1#32
  | 64 => 16#32
  | 65 => 2#32
  | 66 => 1#32
  | 67 => 1#32
  | 68 => 1#32
  | 69 => 4#32
  | 70 => 1#32
  | 71 => 2#32
  | 72 => 2#32
  | 73 => 2#32
  | 74 => 2#32
  | 75 => 1#32
  | 76 => 4#32
  | 77 => 2#32
  | 78 => 4#32
  | 79 => 2#32
  | 80 => 1#32
  | 81 => 16#32
  | 82 => 2#32
  | 83 => 8#32
  | 84 => 8#32
  | 85 => 1#32
  | 86 => 2#32
  | 87 => 4#32
  | 88 => 2#32
  | 89 => 16#32
  | 90 => 1#32
  | 91 => 8#32
  | 92 => 1#32
  | 93 => 1#32
  | 94 => 4#32
  | 95 => 8#32
  | 96 => 8#32
  | 97 => 8#32
  | 98 => 8#32
  | 99 => 2#32
  | 100 => 16#32
  | 101 => 16#32
  | 102 => 1#32
  | 103 => 2#32
  | 104 => 2#32
  | 105 => 1#32
  | 106 => 8#32
  | 107 => 4#32
  | 108 => 8#32
  | 109 => 4#32
  | 110 => 16#32
  | 111 => 4#32
  | 112 => 8#32
  | 113 => 2#32
  | 114 => 1#32
  | 115 => 1#32
  | 116 => 2#32
  | 117 => 2#32
  | 118 => 4#32
  | 119 => 16#32
  | 120 => 2#32
  | 121 => 8#32
  | 122 => 2#32
  | 123 => 2#32
  | 124 => 4#32
  | 125 => 2#32
  | 126 => 2#32
  | 127 => 1#32
  | _ => 0#32

noncomputable abbrev lit3t0_35 (i : Nat) : BitVec 32 := match i % 128 with
  | 0 => 8#32
  | 1 => 4#32
  | 2 => 16#32
  | 3 => 1#32
  | 4 => 2#32
  | 5 => 8#32
  | 6 => 2#32
  | 7 => 16#32
  | 8 => 16#32
  | 9 => 2#32
  | 10 => 16#32
  | 11 => 16#32
  | 12 => 1#32
  | 13 => 8#32
  | 14 => 1#32
  | 15 => 4#32
  | 16 => 4#32
  | 17 => 16#32
  | 18 => 2#32
  | 19 => 4#32
  | 20 => 1#32
  | 21 => 4#32
  | 22 => 2#32
  | 23 => 4#32
  | 24 => 1#32
  | 25 => 16#32
  | 26 => 8#32
  | 27 => 1#32
  | 28 => 2#32
  | 29 => 4#32
  | 30 => 4#32
  | 31 => 1#32
  | 32 => 8#32
  | 33 => 4#32
  | 34 => 8#32
  | 35 => 1#32
  | 36 => 8#32
  | 37 => 1#32
  | 38 => 2#32
  | 39 => 1#32
  | 40 => 1#32
  | 41 => 1#32
  | 42 => 2#32
  | 43 => 2#32
  | 44 => 1#32
  | 45 => 4#32
  | 46 => 4#32
  | 47 => 2#32
  | 48 => 8#32
  | 49 => 1#32
  | 50 => 8#32
  | 51 => 2#32
  | 52 => 4#32
  | 53 => 4#32
  | 54 => 2#32
  | 55 => 8#32
  | 56 => 2#32
  | 57 => 16#32
  | 58 => 16#32
  | 59 => 4#32
  | 60 => 16#32
  | 61 => 8#32
  | 62 => 4#32
  | 63 => 2#32
  | 64 => 16#32
  | 65 => 4#32
  | 66 => 2#32
  | 67 => 2#32
  | 68 => 16#32
  | 69 => 4#32
  | 70 => 4#32
  | 71 => 1#32
  | 72 => 1#32
  | 73 => 8#32
  | 74 => 8#32
  | 75 => 4#32
  | 76 => 4#32
  | 77 => 16#32
  | 78 => 16#32
  | 79 => 16#32
  | 80 => 16#32
  | 81 => 4#32
  | 82 => 2#32
  | 83 => 2#32
  | 84 => 1#32
  | 85 => 16#32
  | 86 => 2#32
  | 87 => 16#32
  | 88 => 8#32
  | 89 => 16#32
  | 90 => 1#32
  | 91 => 16#32
  | 92 => 1#32
  | 93 => 1#32
  | 94 => 2#32
  | 95 => 8#32
  | 96 => 16#32
  | 97 => 4#32
  | 98 => 1#32
  | 99 => 2#32
  | 100 => 1#32
  | 101 => 8#32
  | 102 => 16#32
  | 103 => 2#32
  | 104 => 1#32
  | 105 => 2#32
  | 106 => 4#32
  | 107 => 1#32
  | 108 => 1#32
  | 109 => 4#32
  | 110 => 1#32
  | 111 => 16#32
  | 112 => 16#32
  | 113 => 16#32
  | 114 => 2#32
  | 115 => 4#32
  | 116 => 16#32
  | 117 => 8#32
  | 118 => 4#32
  | 119 => 8#32
  | 120 => 2#32
  | 121 => 1#32
  | 122 => 16#32
  | 123 => 8#32
  | 124 => 4#32
  | 125 => 2#32
  | 126 => 16#32
  | 127 => 8#32
  | _ => 0#32

noncomputable abbrev lit3t0_36 (i : Nat) : BitVec 32 := match i % 128 with
  | 0 => 2#32
  | 1 => 2#32
  | 2 => 2#32
  | 3 => 8#32
  | 4 => 1#32
  | 5 => 16#32
  | 6 => 2#32
  | 7 => 2#32
  | 8 => 8#32
  | 9 => 4#32
  | 10 => 1#32
  | 11 => 8#32
  | 12 => 16#32
  | 13 => 2#32
  | 14 => 4#32
  | 15 => 8#32
  | 16 => 2#32
  | 17 => 16#32
  | 18 => 4#32
  | 19 => 4#32
  | 20 => 2#32
  | 21 => 16#32
  | 22 => 1#32
  | 23 => 16#32
  | 24 => 4#32
  | 25 => 8#32
  | 26 => 16#32
  | 27 => 8#32
  | 28 => 4#32
  | 29 => 1#32
  | 30 => 1#32
  | 31 => 2#32
  | 32 => 2#32
  | 33 => 16#32
  | 34 => 1#32
  | 35 => 4#32
  | 36 => 1#32
  | 37 => 8#32
  | 38 => 1#32
  | 39 => 4#32
  | 40 => 2#32
  | 41 => 8#32
  | 42 => 16#32
  | 43 => 4#32
  | 44 => 4#32
  | 45 => 1#32
  | 46 => 8#32
  | 47 => 2#32
  | 48 => 8#32
  | 49 => 1#32
  | 50 => 1#32
  | 51 => 4#32
  | 52 => 16#32
  | 53 => 4#32
  | 54 => 2#32
  | 55 => 4#32
  | 56 => 4#32
  | 57 => 1#32
  | 58 => 1#32
  | 59 => 4#32
  | 60 => 8#32
  | 61 => 1#32
  | 62 => 16#32
  | 63 => 16#32
  | 64 => 8#32
  | 65 => 8#32
  | 66 => 2#32
  | 67 => 8#32
  | 68 => 1#32
  | 69 => 2#32
  | 70 => 4#32
  | 71 => 1#32
  | 72 => 8#32
  | 73 => 4#32
  | 74 => 1#32
  | 75 => 1#32
  | 76 => 16#32
  | 77 => 8#32
  | 78 => 16#32
  | 79 => 16#32
  | 80 => 1#32
  | 81 => 8#32
  | 82 => 8#32
  | 83 => 16#32
  | 84 => 8#32
  | 85 => 4#32
  | 86 => 2#32
  | 87 => 2#32
  | 88 => 16#32
  | 89 => 1#32
  | 90 => 1#32
  | 91 => 2#32
  | 92 => 1#32
  | 93 => 16#32
  | 94 => 2#32
  | 95 => 2#32
  | 96 => 4#32
  | 97 => 16#32
  | 98 => 8#32
  | 99 => 16#32
  | 100 => 1#32
  | 101 => 4#32
  | 102 => 2#32
  | 103 => 2#32
  | 104 => 2#32
  | 105 => 8#32
  | 106 => 4#32
  | 107 => 4#32
  | 108 => 2#32
  | 109 => 2#32
  | 110 => 4#32
  | 111 => 16#32
  | 112 => 1#32
  | 113 => 4#32
  | 114 => 16#32
  | 115 => 8#32
  | 116 => 16#32
  | 117 => 16#32
  | 118 => 16#32
  | 119 => 1#32
  | 120 => 2#32
  | 121 => 8#32
  | 122 => 2#32
  | 123 => 1#32
  | 124 => 1#32
  | 125 => 4#32
  | 126 => 1#32
  | 127 => 1#32
  | _ => 0#32

noncomputable abbrev lit3t0_37 (i : Nat) : BitVec 32 := match i % 128 with
  | 0 => 16#32
  | 1 => 16#32
  | 2 => 16#32
  | 3 => 2#32
  | 4 => 16#32
  | 5 => 2#32
  | 6 => 1#32
  | 7 => 16#32
  | 8 => 16#32
  | 9 => 16#32
  | 10 => 16#32
  | 11 => 8#32
  | 12 => 1#32
  | 13 => 16#32
  | 14 => 8#32
  | 15 => 16#32
  | 16 => 1#32
  | 17 => 1#32
  | 18 => 2#32
  | 19 => 2#32
  | 20 => 2#32
  | 21 => 2#32
  | 22 => 8#32
  | 23 => 8#32
  | 24 => 1#32
  | 25 => 8#32
  | 26 => 8#32
  | 27 => 1#32
  | 28 => 8#32
  | 29 => 16#32
  | 30 => 4#32
  | 31 => 1#32
  | 32 => 2#32
  | 33 => 1#32
  | 34 => 8#32
  | 35 => 4#32
  | 36 => 4#32
  | 37 => 8#32
  | 38 => 1#32
  | 39 => 1#32
  | 40 => 4#32
  | 41 => 1#32
  | 42 => 4#32
  | 43 => 1#32
  | 44 => 4#32
  | 45 => 8#32
  | 46 => 4#32
  | 47 => 8#32
  | 48 => 8#32
  | 49 => 16#32
  | 50 => 2#32
  | 51 => 2#32
  | 52 => 2#32
  | 53 => 1#32
  | 54 => 2#32
  | 55 => 1#32
  | 56 => 4#32
  | 57 => 4#32
  | 58 => 1#32
  | 59 => 2#32
  | 60 => 4#32
  | 61 => 8#32
  | 62 => 4#32
  | 63 => 16#32
  | 64 => 16#32
  | 65 => 16#32
  | 66 => 2#32
  | 67 => 4#32
  | 68 => 16#32
  | 69 => 2#32
  | 70 => 8#32
  | 71 => 1#32
  | 72 => 1#32
  | 73 => 16#32
  | 74 => 2#32
  | 75 => 2#32
  | 76 => 1#32
  | 77 => 1#32
  | 78 => 4#32
  | 79 => 1#32
  | 80 => 16#32
  | 81 => 4#32
  | 82 => 1#32
  | 83 => 1#32
  | 84 => 2#32
  | 85 => 1#32
  | 86 => 4#32
  | 87 => 4#32
  | 88 => 2#32
  | 89 => 4#32
  | 90 => 16#32
  | 91 => 16#32
  | 92 => 2#32
  | 93 => 1#32
  | 94 => 16#32
  | 95 => 2#32
  | 96 => 4#32
  | 97 => 4#32
  | 98 => 16#32
  | 99 => 4#32
  | 100 => 4#32
  | 101 => 8#32
  | 102 => 4#32
  | 103 => 8#32
  | 104 => 1#32
  | 105 => 16#32
  | 106 => 16#32
  | 107 => 1#32
  | 108 => 16#32
  | 109 => 1#32
  | 110 => 8#32
  | 111 => 2#32
  | 112 => 8#32
  | 113 => 16#32
  | 114 => 2#32
  | 115 => 1#32
  | 116 => 16#32
  | 117 => 4#32
  | 118 => 4#32
  | 119 => 2#32
  | 120 => 16#32
  | 121 => 8#32
  | 122 => 16#32
  | 123 => 8#32
  | 124 => 8#32
  | 125 => 4#32
  | 126 => 1#32
  | 127 => 8#32
  | _ => 0#32

noncomputable abbrev lit3t0_38 (i : Nat) : BitVec 32 := match i % 128 with
  | 0 => 8#32
  | 1 => 16#32
  | 2 => 8#32
  | 3 => 2#32
  | 4 => 16#32
  | 5 => 4#32
  | 6 => 16#32
  | 7 => 4#32
  | 8 => 16#32
  | 9 => 2#32
  | 10 => 2#32
  | 11 => 4#32
  | 12 => 2#32
  | 13 => 8#32
  | 14 => 8#32
  | 15 => 16#32
  | 16 => 2#32
  | 17 => 8#32
  | 18 => 16#32
  | 19 => 4#32
  | 20 => 4#32
  | 21 => 1#32
  | 22 => 8#32
  | 23 => 1#32
  | 24 => 4#32
  | 25 => 16#32
  | 26 => 8#32
  | 27 => 16#32
  | 28 => 8#32
  | 29 => 16#32
  | 30 => 4#32
  | 31 => 2#32
  | 32 => 4#32
  | 33 => 4#32
  | 34 => 8#32
  | 35 => 4#32
  | 36 => 4#32
  | 37 => 4#32
  | 38 => 2#32
  | 39 => 2#32
  | 40 => 1#32
  | 41 => 16#32
  | 42 => 1#32
  | 43 => 4#32
  | 44 => 8#32
  | 45 => 16#32
  | 46 => 8#32
  | 47 => 2#32
  | 48 => 8#32
  | 49 => 1#32
  | 50 => 4#32
  | 51 => 8#32
  | 52 => 8#32
  | 53 => 8#32
  | 54 => 8#32
  | 55 => 2#32
  | 56 => 16#32
  | 57 => 1#32
  | 58 => 8#32
  | 59 => 2#32
  | 60 => 1#32
  | 61 => 2#32
  | 62 => 1#32
  | 63 => 8#32
  | 64 => 4#32
  | 65 => 4#32
  | 66 => 2#32
  | 67 => 8#32
  | 68 => 4#32
  | 69 => 4#32
  | 70 => 8#32
  | 71 => 2#32
  | 72 => 4#32
  | 73 => 8#32
  | 74 => 8#32
  | 75 => 16#32
  | 76 => 1#32
  | 77 => 4#32
  | 78 => 4#32
  | 79 => 16#32
  | 80 => 2#32
  | 81 => 8#32
  | 82 => 4#32
  | 83 => 16#32
  | 84 => 16#32
  | 85 => 1#32
  | 86 => 2#32
  | 87 => 4#32
  | 88 => 8#32
  | 89 => 16#32
  | 90 => 8#32
  | 91 => 4#32
  | 92 => 16#32
  | 93 => 4#32
  | 94 => 1#32
  | 95 => 2#32
  | 96 => 2#32
  | 97 => 2#32
  | 98 => 8#32
  | 99 => 4#32
  | 100 => 8#32
  | 101 => 2#32
  | 102 => 16#32
  | 103 => 1#32
  | 104 => 4#32
  | 105 => 8#32
  | 106 => 8#32
  | 107 => 2#32
  | 108 => 1#32
  | 109 => 2#32
  | 110 => 4#32
  | 111 => 2#32
  | 112 => 4#32
  | 113 => 1#32
  | 114 => 4#32
  | 115 => 2#32
  | 116 => 1#32
  | 117 => 1#32
  | 118 => 4#32
  | 119 => 8#32
  | 120 => 2#32
  | 121 => 2#32
  | 122 => 2#32
  | 123 => 16#32
  | 124 => 8#32
  | 125 => 4#32
  | 126 => 16#32
  | 127 => 16#32
  | _ => 0#32

noncomputable abbrev lit3t0_39 (i : Nat) : BitVec 32 := match i % 128 with
  | 0 => 1#32
  | 1 => 1#32
  | 2 => 4#32
  | 3 => 8#32
  | 4 => 16#32
  | 5 => 1#32
  | 6 => 8#32
  | 7 => 1#32
  | 8 => 1#32
  | 9 => 4#32
  | 10 => 2#32
  | 11 => 4#32
  | 12 => 8#32
  | 13 => 2#32
  | 14 => 2#32
  | 15 => 16#32
  | 16 => 4#32
  | 17 => 4#32
  | 18 => 8#32
  | 19 => 16#32
  | 20 => 16#32
  | 21 => 1#32
  | 22 => 2#32
  | 23 => 1#32
  | 24 => 16#32
  | 25 => 2#32
  | 26 => 4#32
  | 27 => 1#32
  | 28 => 8#32
  | 29 => 16#32
  | 30 => 16#32
  | 31 => 4#32
  | 32 => 1#32
  | 33 => 1#32
  | 34 => 4#32
  | 35 => 4#32
  | 36 => 8#32
  | 37 => 16#32
  | 38 => 4#32
  | 39 => 4#32
  | 40 => 8#32
  | 41 => 16#32
  | 42 => 2#32
  | 43 => 1#32
  | 44 => 8#32
  | 45 => 8#32
  | 46 => 4#32
  | 47 => 8#32
  | 48 => 8#32
  | 49 => 4#32
  | 50 => 8#32
  | 51 => 2#32
  | 52 => 4#32
  | 53 => 4#32
  | 54 => 1#32
  | 55 => 4#32
  | 56 => 1#32
  | 57 => 16#32
  | 58 => 16#32
  | 59 => 4#32
  | 60 => 2#32
  | 61 => 16#32
  | 62 => 8#32
  | 63 => 2#32
  | 64 => 16#32
  | 65 => 2#32
  | 66 => 2#32
  | 67 => 8#32
  | 68 => 1#32
  | 69 => 16#32
  | 70 => 2#32
  | 71 => 1#32
  | 72 => 8#32
  | 73 => 16#32
  | 74 => 1#32
  | 75 => 1#32
  | 76 => 1#32
  | 77 => 16#32
  | 78 => 2#32
  | 79 => 4#32
  | 80 => 4#32
  | 81 => 4#32
  | 82 => 2#32
  | 83 => 4#32
  | 84 => 4#32
  | 85 => 2#32
  | 86 => 8#32
  | 87 => 4#32
  | 88 => 16#32
  | 89 => 16#32
  | 90 => 1#32
  | 91 => 8#32
  | 92 => 8#32
  | 93 => 1#32
  | 94 => 4#32
  | 95 => 2#32
  | 96 => 1#32
  | 97 => 16#32
  | 98 => 8#32
  | 99 => 8#32
  | 100 => 1#32
  | 101 => 16#32
  | 102 => 2#32
  | 103 => 16#32
  | 104 => 8#32
  | 105 => 16#32
  | 106 => 2#32
  | 107 => 4#32
  | 108 => 1#32
  | 109 => 8#32
  | 110 => 2#32
  | 111 => 2#32
  | 112 => 8#32
  | 113 => 4#32
  | 114 => 4#32
  | 115 => 8#32
  | 116 => 8#32
  | 117 => 1#32
  | 118 => 8#32
  | 119 => 4#32
  | 120 => 2#32
  | 121 => 8#32
  | 122 => 16#32
  | 123 => 1#32
  | 124 => 2#32
  | 125 => 2#32
  | 126 => 8#32
  | 127 => 1#32
  | _ => 0#32

noncomputable abbrev lit3t0_40 (i : Nat) : BitVec 32 := match i % 128 with
  | 0 => 2#32
  | 1 => 4#32
  | 2 => 1#32
  | 3 => 4#32
  | 4 => 1#32
  | 5 => 4#32
  | 6 => 1#32
  | 7 => 16#32
  | 8 => 16#32
  | 9 => 4#32
  | 10 => 16#32
  | 11 => 16#32
  | 12 => 1#32
  | 13 => 1#32
  | 14 => 16#32
  | 15 => 2#32
  | 16 => 16#32
  | 17 => 2#32
  | 18 => 4#32
  | 19 => 1#32
  | 20 => 8#32
  | 21 => 16#32
  | 22 => 2#32
  | 23 => 8#32
  | 24 => 16#32
  | 25 => 8#32
  | 26 => 8#32
  | 27 => 4#32
  | 28 => 8#32
  | 29 => 1#32
  | 30 => 1#32
  | 31 => 16#32
  | 32 => 16#32
  | 33 => 1#32
  | 34 => 2#32
  | 35 => 1#32
  | 36 => 2#32
  | 37 => 4#32
  | 38 => 4#32
  | 39 => 4#32
  | 40 => 8#32
  | 41 => 16#32
  | 42 => 1#32
  | 43 => 2#32
  | 44 => 4#32
  | 45 => 8#32
  | 46 => 8#32
  | 47 => 1#32
  | 48 => 16#32
  | 49 => 1#32
  | 50 => 2#32
  | 51 => 16#32
  | 52 => 4#32
  | 53 => 16#32
  | 54 => 4#32
  | 55 => 16#32
  | 56 => 16#32
  | 57 => 1#32
  | 58 => 8#32
  | 59 => 4#32
  | 60 => 8#32
  | 61 => 8#32
  | 62 => 2#32
  | 63 => 8#32
  | 64 => 8#32
  | 65 => 4#32
  | 66 => 2#32
  | 67 => 8#32
  | 68 => 2#32
  | 69 => 1#32
  | 70 => 2#32
  | 71 => 4#32
  | 72 => 16#32
  | 73 => 1#32
  | 74 => 2#32
  | 75 => 4#32
  | 76 => 2#32
  | 77 => 4#32
  | 78 => 1#32
  | 79 => 16#32
  | 80 => 4#32
  | 81 => 1#32
  | 82 => 1#32
  | 83 => 16#32
  | 84 => 2#32
  | 85 => 16#32
  | 86 => 16#32
  | 87 => 16#32
  | 88 => 1#32
  | 89 => 16#32
  | 90 => 1#32
  | 91 => 1#32
  | 92 => 1#32
  | 93 => 16#32
  | 94 => 2#32
  | 95 => 4#32
  | 96 => 1#32
  | 97 => 8#32
  | 98 => 1#32
  | 99 => 2#32
  | 100 => 2#32
  | 101 => 8#32
  | 102 => 1#32
  | 103 => 1#32
  | 104 => 16#32
  | 105 => 4#32
  | 106 => 16#32
  | 107 => 8#32
  | 108 => 8#32
  | 109 => 8#32
  | 110 => 1#32
  | 111 => 16#32
  | 112 => 8#32
  | 113 => 1#32
  | 114 => 4#32
  | 115 => 2#32
  | 116 => 1#32
  | 117 => 16#32
  | 118 => 2#32
  | 119 => 2#32
  | 120 => 1#32
  | 121 => 4#32
  | 122 => 16#32
  | 123 => 16#32
  | 124 => 4#32
  | 125 => 2#32
  | 126 => 16#32
  | 127 => 2#32
  | _ => 0#32

noncomputable abbrev lit3t0_41 (i : Nat) : BitVec 32 := match i % 128 with
  | 0 => 1#32
  | 1 => 2#32
  | 2 => 4#32
  | 3 => 1#32
  | 4 => 16#32
  | 5 => 8#32
  | 6 => 2#32
  | 7 => 8#32
  | 8 => 4#32
  | 9 => 8#32
  | 10 => 16#32
  | 11 => 4#32
  | 12 => 8#32
  | 13 => 2#32
  | 14 => 4#32
  | 15 => 1#32
  | 16 => 16#32
  | 17 => 4#32
  | 18 => 1#32
  | 19 => 1#32
  | 20 => 4#32
  | 21 => 8#32
  | 22 => 4#32
  | 23 => 4#32
  | 24 => 4#32
  | 25 => 1#32
  | 26 => 4#32
  | 27 => 1#32
  | 28 => 8#32
  | 29 => 16#32
  | 30 => 2#32
  | 31 => 1#32
  | 32 => 8#32
  | 33 => 1#32
  | 34 => 4#32
  | 35 => 2#32
  | 36 => 2#32
  | 37 => 2#32
  | 38 => 8#32
  | 39 => 16#32
  | 40 => 8#32
  | 41 => 4#32
  | 42 => 2#32
  | 43 => 2#32
  | 44 => 4#32
  | 45 => 8#32
  | 46 => 16#32
  | 47 => 4#32
  | 48 => 8#32
  | 49 => 4#32
  | 50 => 16#32
  | 51 => 8#32
  | 52 => 2#32
  | 53 => 1#32
  | 54 => 4#32
  | 55 => 16#32
  | 56 => 1#32
  | 57 => 16#32
  | 58 => 8#32
  | 59 => 1#32
  | 60 => 8#32
  | 61 => 8#32
  | 62 => 16#32
  | 63 => 16#32
  | 64 => 2#32
  | 65 => 8#32
  | 66 => 4#32
  | 67 => 4#32
  | 68 => 16#32
  | 69 => 2#32
  | 70 => 16#32
  | 71 => 16#32
  | 72 => 16#32
  | 73 => 16#32
  | 74 => 1#32
  | 75 => 8#32
  | 76 => 4#32
  | 77 => 1#32
  | 78 => 8#32
  | 79 => 1#32
  | 80 => 4#32
  | 81 => 4#32
  | 82 => 2#32
  | 83 => 1#32
  | 84 => 1#32
  | 85 => 8#32
  | 86 => 4#32
  | 87 => 1#32
  | 88 => 8#32
  | 89 => 8#32
  | 90 => 4#32
  | 91 => 2#32
  | 92 => 16#32
  | 93 => 1#32
  | 94 => 16#32
  | 95 => 4#32
  | 96 => 1#32
  | 97 => 16#32
  | 98 => 1#32
  | 99 => 8#32
  | 100 => 1#32
  | 101 => 8#32
  | 102 => 16#32
  | 103 => 2#32
  | 104 => 2#32
  | 105 => 8#32
  | 106 => 1#32
  | 107 => 1#32
  | 108 => 2#32
  | 109 => 16#32
  | 110 => 2#32
  | 111 => 16#32
  | 112 => 4#32
  | 113 => 1#32
  | 114 => 16#32
  | 115 => 16#32
  | 116 => 4#32
  | 117 => 2#32
  | 118 => 4#32
  | 119 => 4#32
  | 120 => 16#32
  | 121 => 1#32
  | 122 => 8#32
  | 123 => 8#32
  | 124 => 8#32
  | 125 => 8#32
  | 126 => 4#32
  | 127 => 8#32
  | _ => 0#32

noncomputable abbrev lit3t0_42 (i : Nat) : BitVec 32 := match i % 128 with
  | 0 => 2#32
  | 1 => 1#32
  | 2 => 16#32
  | 3 => 2#32
  | 4 => 1#32
  | 5 => 8#32
  | 6 => 16#32
  | 7 => 2#32
  | 8 => 16#32
  | 9 => 1#32
  | 10 => 4#32
  | 11 => 4#32
  | 12 => 2#32
  | 13 => 8#32
  | 14 => 2#32
  | 15 => 16#32
  | 16 => 16#32
  | 17 => 1#32
  | 18 => 1#32
  | 19 => 16#32
  | 20 => 8#32
  | 21 => 1#32
  | 22 => 1#32
  | 23 => 4#32
  | 24 => 8#32
  | 25 => 8#32
  | 26 => 1#32
  | 27 => 2#32
  | 28 => 2#32
  | 29 => 8#32
  | 30 => 8#32
  | 31 => 2#32
  | 32 => 4#32
  | 33 => 16#32
  | 34 => 2#32
  | 35 => 1#32
  | 36 => 16#32
  | 37 => 2#32
  | 38 => 4#32
  | 39 => 1#32
  | 40 => 2#32
  | 41 => 4#32
  | 42 => 16#32
  | 43 => 16#32
  | 44 => 8#32
  | 45 => 16#32
  | 46 => 1#32
  | 47 => 2#32
  | 48 => 8#32
  | 49 => 1#32
  | 50 => 1#32
  | 51 => 2#32
  | 52 => 8#32
  | 53 => 2#32
  | 54 => 1#32
  | 55 => 1#32
  | 56 => 16#32
  | 57 => 2#32
  | 58 => 16#32
  | 59 => 2#32
  | 60 => 8#32
  | 61 => 16#32
  | 62 => 2#32
  | 63 => 4#32
  | 64 => 16#32
  | 65 => 8#32
  | 66 => 2#32
  | 67 => 1#32
  | 68 => 1#32
  | 69 => 8#32
  | 70 => 1#32
  | 71 => 1#32
  | 72 => 8#32
  | 73 => 4#32
  | 74 => 16#32
  | 75 => 4#32
  | 76 => 8#32
  | 77 => 16#32
  | 78 => 8#32
  | 79 => 16#32
  | 80 => 8#32
  | 81 => 4#32
  | 82 => 16#32
  | 83 => 4#32
  | 84 => 4#32
  | 85 => 1#32
  | 86 => 16#32
  | 87 => 16#32
  | 88 => 2#32
  | 89 => 2#32
  | 90 => 4#32
  | 91 => 4#32
  | 92 => 1#32
  | 93 => 8#32
  | 94 => 16#32
  | 95 => 2#32
  | 96 => 16#32
  | 97 => 1#32
  | 98 => 16#32
  | 99 => 2#32
  | 100 => 16#32
  | 101 => 4#32
  | 102 => 8#32
  | 103 => 16#32
  | 104 => 1#32
  | 105 => 8#32
  | 106 => 1#32
  | 107 => 4#32
  | 108 => 2#32
  | 109 => 2#32
  | 110 => 4#32
  | 111 => 4#32
  | 112 => 8#32
  | 113 => 1#32
  | 114 => 16#32
  | 115 => 4#32
  | 116 => 1#32
  | 117 => 4#32
  | 118 => 2#32
  | 119 => 2#32
  | 120 => 1#32
  | 121 => 1#32
  | 122 => 16#32
  | 123 => 2#32
  | 124 => 8#32
  | 125 => 1#32
  | 126 => 1#32
  | 127 => 8#32
  | _ => 0#32

noncomputable abbrev lit3t0_43 (i : Nat) : BitVec 32 := match i % 128 with
  | 0 => 16#32
  | 1 => 16#32
  | 2 => 4#32
  | 3 => 4#32
  | 4 => 4#32
  | 5 => 1#32
  | 6 => 2#32
  | 7 => 8#32
  | 8 => 1#32
  | 9 => 2#32
  | 10 => 16#32
  | 11 => 8#32
  | 12 => 1#32
  | 13 => 4#32
  | 14 => 2#32
  | 15 => 2#32
  | 16 => 4#32
  | 17 => 4#32
  | 18 => 16#32
  | 19 => 4#32
  | 20 => 16#32
  | 21 => 8#32
  | 22 => 16#32
  | 23 => 4#32
  | 24 => 16#32
  | 25 => 8#32
  | 26 => 16#32
  | 27 => 16#32
  | 28 => 16#32
  | 29 => 8#32
  | 30 => 4#32
  | 31 => 1#32
  | 32 => 4#32
  | 33 => 16#32
  | 34 => 4#32
  | 35 => 2#32
  | 36 => 8#32
  | 37 => 2#32
  | 38 => 4#32
  | 39 => 16#32
  | 40 => 16#32
  | 41 => 16#32
  | 42 => 1#32
  | 43 => 8#32
  | 44 => 16#32
  | 45 => 16#32
  | 46 => 4#32
  | 47 => 8#32
  | 48 => 2#32
  | 49 => 16#32
  | 50 => 2#32
  | 51 => 1#32
  | 52 => 1#32
  | 53 => 2#32
  | 54 => 2#32
  | 55 => 2#32
  | 56 => 2#32
  | 57 => 16#32
  | 58 => 4#32
  | 59 => 16#32
  | 60 => 16#32
  | 61 => 2#32
  | 62 => 16#32
  | 63 => 8#32
  | 64 => 1#32
  | 65 => 16#32
  | 66 => 16#32
  | 67 => 2#32
  | 68 => 1#32
  | 69 => 2#32
  | 70 => 8#32
  | 71 => 16#32
  | 72 => 1#32
  | 73 => 8#32
  | 74 => 4#32
  | 75 => 1#32
  | 76 => 4#32
  | 77 => 1#32
  | 78 => 4#32
  | 79 => 1#32
  | 80 => 2#32
  | 81 => 16#32
  | 82 => 4#32
  | 83 => 2#32
  | 84 => 1#32
  | 85 => 4#32
  | 86 => 2#32
  | 87 => 8#32
  | 88 => 4#32
  | 89 => 4#32
  | 90 => 4#32
  | 91 => 16#32
  | 92 => 16#32
  | 93 => 8#32
  | 94 => 1#32
  | 95 => 4#32
  | 96 => 8#32
  | 97 => 2#32
  | 98 => 2#32
  | 99 => 2#32
  | 100 => 8#32
  | 101 => 2#32
  | 102 => 4#32
  | 103 => 4#32
  | 104 => 4#32
  | 105 => 2#32
  | 106 => 8#32
  | 107 => 1#32
  | 108 => 4#32
  | 109 => 8#32
  | 110 => 2#32
  | 111 => 2#32
  | 112 => 1#32
  | 113 => 16#32
  | 114 => 1#32
  | 115 => 2#32
  | 116 => 2#32
  | 117 => 4#32
  | 118 => 1#32
  | 119 => 2#32
  | 120 => 16#32
  | 121 => 8#32
  | 122 => 4#32
  | 123 => 8#32
  | 124 => 2#32
  | 125 => 1#32
  | 126 => 8#32
  | 127 => 4#32
  | _ => 0#32

noncomputable abbrev lit3t0_44 (i : Nat) : BitVec 32 := match i % 128 with
  | 0 => 1#32
  | 1 => 8#32
  | 2 => 8#32
  | 3 => 2#32
  | 4 => 8#32
  | 5 => 4#32
  | 6 => 1#32
  | 7 => 8#32
  | 8 => 8#32
  | 9 => 16#32
  | 10 => 1#32
  | 11 => 16#32
  | 12 => 4#32
  | 13 => 8#32
  | 14 => 2#32
  | 15 => 8#32
  | 16 => 1#32
  | 17 => 1#32
  | 18 => 1#32
  | 19 => 2#32
  | 20 => 4#32
  | 21 => 16#32
  | 22 => 4#32
  | 23 => 8#32
  | 24 => 4#32
  | 25 => 16#32
  | 26 => 8#32
  | 27 => 8#32
  | 28 => 2#32
  | 29 => 16#32
  | 30 => 16#32
  | 31 => 2#32
  | 32 => 2#32
  | 33 => 16#32
  | 34 => 8#32
  | 35 => 16#32
  | 36 => 2#32
  | 37 => 8#32
  | 38 => 16#32
  | 39 => 4#32
  | 40 => 1#32
  | 41 => 8#32
  | 42 => 2#32
  | 43 => 2#32
  | 44 => 2#32
  | 45 => 1#32
  | 46 => 2#32
  | 47 => 4#32
  | 48 => 1#32
  | 49 => 8#32
  | 50 => 4#32
  | 51 => 4#32
  | 52 => 16#32
  | 53 => 16#32
  | 54 => 8#32
  | 55 => 2#32
  | 56 => 4#32
  | 57 => 8#32
  | 58 => 2#32
  | 59 => 1#32
  | 60 => 8#32
  | 61 => 8#32
  | 62 => 2#32
  | 63 => 4#32
  | 64 => 2#32
  | 65 => 4#32
  | 66 => 8#32
  | 67 => 8#32
  | 68 => 1#32
  | 69 => 4#32
  | 70 => 4#32
  | 71 => 2#32
  | 72 => 16#32
  | 73 => 2#32
  | 74 => 4#32
  | 75 => 16#32
  | 76 => 4#32
  | 77 => 2#32
  | 78 => 16#32
  | 79 => 16#32
  | 80 => 4#32
  | 81 => 16#32
  | 82 => 1#32
  | 83 => 2#32
  | 84 => 1#32
  | 85 => 2#32
  | 86 => 16#32
  | 87 => 8#32
  | 88 => 4#32
  | 89 => 1#32
  | 90 => 16#32
  | 91 => 4#32
  | 92 => 8#32
  | 93 => 2#32
  | 94 => 8#32
  | 95 => 4#32
  | 96 => 2#32
  | 97 => 4#32
  | 98 => 2#32
  | 99 => 8#32
  | 100 => 8#32
  | 101 => 8#32
  | 102 => 4#32
  | 103 => 16#32
  | 104 => 2#32
  | 105 => 2#32
  | 106 => 1#32
  | 107 => 4#32
  | 108 => 2#32
  | 109 => 8#32
  | 110 => 4#32
  | 111 => 2#32
  | 112 => 8#32
  | 113 => 16#32
  | 114 => 2#32
  | 115 => 2#32
  | 116 => 4#32
  | 117 => 1#32
  | 118 => 2#32
  | 119 => 8#32
  | 120 => 8#32
  | 121 => 2#32
  | 122 => 4#32
  | 123 => 2#32
  | 124 => 4#32
  | 125 => 16#32
  | 126 => 2#32
  | 127 => 8#32
  | _ => 0#32

noncomputable abbrev lit3t0_45 (i : Nat) : BitVec 32 := match i % 128 with
  | 0 => 8#32
  | 1 => 1#32
  | 2 => 2#32
  | 3 => 2#32
  | 4 => 2#32
  | 5 => 2#32
  | 6 => 4#32
  | 7 => 4#32
  | 8 => 16#32
  | 9 => 16#32
  | 10 => 4#32
  | 11 => 16#32
  | 12 => 4#32
  | 13 => 16#32
  | 14 => 1#32
  | 15 => 1#32
  | 16 => 16#32
  | 17 => 1#32
  | 18 => 4#32
  | 19 => 4#32
  | 20 => 2#32
  | 21 => 1#32
  | 22 => 4#32
  | 23 => 4#32
  | 24 => 1#32
  | 25 => 2#32
  | 26 => 2#32
  | 27 => 8#32
  | 28 => 8#32
  | 29 => 1#32
  | 30 => 8#32
  | 31 => 2#32
  | 32 => 4#32
  | 33 => 4#32
  | 34 => 16#32
  | 35 => 8#32
  | 36 => 1#32
  | 37 => 4#32
  | 38 => 2#32
  | 39 => 16#32
  | 40 => 1#32
  | 41 => 16#32
  | 42 => 1#32
  | 43 => 16#32
  | 44 => 8#32
  | 45 => 2#32
  | 46 => 8#32
  | 47 => 1#32
  | 48 => 1#32
  | 49 => 4#32
  | 50 => 8#32
  | 51 => 2#32
  | 52 => 1#32
  | 53 => 8#32
  | 54 => 1#32
  | 55 => 2#32
  | 56 => 4#32
  | 57 => 1#32
  | 58 => 4#32
  | 59 => 8#32
  | 60 => 16#32
  | 61 => 4#32
  | 62 => 8#32
  | 63 => 4#32
  | 64 => 16#32
  | 65 => 4#32
  | 66 => 16#32
  | 67 => 1#32
  | 68 => 8#32
  | 69 => 16#32
  | 70 => 1#32
  | 71 => 4#32
  | 72 => 8#32
  | 73 => 8#32
  | 74 => 1#32
  | 75 => 2#32
  | 76 => 16#32
  | 77 => 4#32
  | 78 => 16#32
  | 79 => 8#32
  | 80 => 8#32
  | 81 => 8#32
  | 82 => 8#32
  | 83 => 4#32
  | 84 => 2#32
  | 85 => 4#32
  | 86 => 1#32
  | 87 => 8#32
  | 88 => 8#32
  | 89 => 2#32
  | 90 => 2#32
  | 91 => 4#32
  | 92 => 8#32
  | 93 => 16#32
  | 94 => 2#32
  | 95 => 4#32
  | 96 => 8#32
  | 97 => 2#32
  | 98 => 8#32
  | 99 => 16#32
  | 100 => 1#32
  | 101 => 2#32
  | 102 => 4#32
  | 103 => 8#32
  | 104 => 2#32
  | 105 => 4#32
  | 106 => 8#32
  | 107 => 4#32
  | 108 => 4#32
  | 109 => 2#32
  | 110 => 4#32
  | 111 => 8#32
  | 112 => 1#32
  | 113 => 8#32
  | 114 => 16#32
  | 115 => 1#32
  | 116 => 8#32
  | 117 => 16#32
  | 118 => 16#32
  | 119 => 2#32
  | 120 => 1#32
  | 121 => 2#32
  | 122 => 2#32
  | 123 => 2#32
  | 124 => 2#32
  | 125 => 16#32
  | 126 => 4#32
  | 127 => 1#32
  | _ => 0#32

noncomputable abbrev lit3t0_46 (i : Nat) : BitVec 32 := match i % 128 with
  | 0 => 2#32
  | 1 => 1#32
  | 2 => 1#32
  | 3 => 4#32
  | 4 => 4#32
  | 5 => 1#32
  | 6 => 16#32
  | 7 => 16#32
  | 8 => 2#32
  | 9 => 16#32
  | 10 => 2#32
  | 11 => 8#32
  | 12 => 4#32
  | 13 => 1#32
  | 14 => 8#32
  | 15 => 2#32
  | 16 => 16#32
  | 17 => 4#32
  | 18 => 8#32
  | 19 => 16#32
  | 20 => 4#32
  | 21 => 1#32
  | 22 => 4#32
  | 23 => 1#32
  | 24 => 2#32
  | 25 => 16#32
  | 26 => 16#32
  | 27 => 2#32
  | 28 => 16#32
  | 29 => 4#32
  | 30 => 1#32
  | 31 => 16#32
  | 32 => 4#32
  | 33 => 1#32
  | 34 => 1#32
  | 35 => 16#32
  | 36 => 8#32
  | 37 => 8#32
  | 38 => 16#32
  | 39 => 16#32
  | 40 => 4#32
  | 41 => 16#32
  | 42 => 4#32
  | 43 => 1#32
  | 44 => 2#32
  | 45 => 2#32
  | 46 => 4#32
  | 47 => 8#32
  | 48 => 16#32
  | 49 => 8#32
  | 50 => 8#32
  | 51 => 4#32
  | 52 => 4#32
  | 53 => 1#32
  | 54 => 8#32
  | 55 => 8#32
  | 56 => 1#32
  | 57 => 4#32
  | 58 => 1#32
  | 59 => 1#32
  | 60 => 16#32
  | 61 => 16#32
  | 62 => 4#32
  | 63 => 1#32
  | 64 => 4#32
  | 65 => 16#32
  | 66 => 2#32
  | 67 => 16#32
  | 68 => 2#32
  | 69 => 8#32
  | 70 => 16#32
  | 71 => 16#32
  | 72 => 8#32
  | 73 => 4#32
  | 74 => 2#32
  | 75 => 8#32
  | 76 => 1#32
  | 77 => 8#32
  | 78 => 16#32
  | 79 => 4#32
  | 80 => 4#32
  | 81 => 8#32
  | 82 => 2#32
  | 83 => 8#32
  | 84 => 4#32
  | 85 => 4#32
  | 86 => 16#32
  | 87 => 1#32
  | 88 => 4#32
  | 89 => 8#32
  | 90 => 4#32
  | 91 => 1#32
  | 92 => 4#32
  | 93 => 4#32
  | 94 => 8#32
  | 95 => 4#32
  | 96 => 16#32
  | 97 => 2#32
  | 98 => 16#32
  | 99 => 1#32
  | 100 => 16#32
  | 101 => 16#32
  | 102 => 1#32
  | 103 => 8#32
  | 104 => 4#32
  | 105 => 8#32
  | 106 => 2#32
  | 107 => 2#32
  | 108 => 16#32
  | 109 => 1#32
  | 110 => 4#32
  | 111 => 8#32
  | 112 => 4#32
  | 113 => 8#32
  | 114 => 8#32
  | 115 => 8#32
  | 116 => 2#32
  | 117 => 8#32
  | 118 => 4#32
  | 119 => 2#32
  | 120 => 1#32
  | 121 => 16#32
  | 122 => 2#32
  | 123 => 4#32
  | 124 => 4#32
  | 125 => 8#32
  | 126 => 2#32
  | 127 => 8#32
  | _ => 0#32

noncomputable abbrev lit3t0_47 (i : Nat) : BitVec 32 := match i % 128 with
  | 0 => 8#32
  | 1 => 16#32
  | 2 => 2#32
  | 3 => 8#32
  | 4 => 8#32
  | 5 => 8#32
  | 6 => 4#32
  | 7 => 1#32
  | 8 => 1#32
  | 9 => 4#32
  | 10 => 4#32
  | 11 => 8#32
  | 12 => 8#32
  | 13 => 2#32
  | 14 => 1#32
  | 15 => 2#32
  | 16 => 8#32
  | 17 => 8#32
  | 18 => 1#32
  | 19 => 1#32
  | 20 => 1#32
  | 21 => 16#32
  | 22 => 1#32
  | 23 => 1#32
  | 24 => 2#32
  | 25 => 1#32
  | 26 => 2#32
  | 27 => 4#32
  | 28 => 2#32
  | 29 => 8#32
  | 30 => 4#32
  | 31 => 1#32
  | 32 => 1#32
  | 33 => 1#32
  | 34 => 1#32
  | 35 => 16#32
  | 36 => 1#32
  | 37 => 2#32
  | 38 => 1#32
  | 39 => 16#32
  | 40 => 8#32
  | 41 => 4#32
  | 42 => 4#32
  | 43 => 4#32
  | 44 => 16#32
  | 45 => 4#32
  | 46 => 1#32
  | 47 => 2#32
  | 48 => 8#32
  | 49 => 1#32
  | 50 => 4#32
  | 51 => 16#32
  | 52 => 16#32
  | 53 => 4#32
  | 54 => 1#32
  | 55 => 4#32
  | 56 => 4#32
  | 57 => 1#32
  | 58 => 2#32
  | 59 => 16#32
  | 60 => 1#32
  | 61 => 4#32
  | 62 => 8#32
  | 63 => 1#32
  | 64 => 2#32
  | 65 => 8#32
  | 66 => 8#32
  | 67 => 16#32
  | 68 => 4#32
  | 69 => 8#32
  | 70 => 4#32
  | 71 => 1#32
  | 72 => 2#32
  | 73 => 16#32
  | 74 => 2#32
  | 75 => 4#32
  | 76 => 1#32
  | 77 => 8#32
  | 78 => 8#32
  | 79 => 1#32
  | 80 => 4#32
  | 81 => 4#32
  | 82 => 16#32
  | 83 => 2#32
  | 84 => 1#32
  | 85 => 2#32
  | 86 => 1#32
  | 87 => 2#32
  | 88 => 16#32
  | 89 => 1#32
  | 90 => 8#32
  | 91 => 1#32
  | 92 => 1#32
  | 93 => 4#32
  | 94 => 1#32
  | 95 => 4#32
  | 96 => 2#32
  | 97 => 4#32
  | 98 => 16#32
  | 99 => 1#32
  | 100 => 16#32
  | 101 => 16#32
  | 102 => 1#32
  | 103 => 8#32
  | 104 => 8#32
  | 105 => 8#32
  | 106 => 4#32
  | 107 => 1#32
  | 108 => 8#32
  | 109 => 4#32
  | 110 => 2#32
  | 111 => 16#32
  | 112 => 4#32
  | 113 => 2#32
  | 114 => 1#32
  | 115 => 2#32
  | 116 => 8#32
  | 117 => 2#32
  | 118 => 1#32
  | 119 => 1#32
  | 120 => 1#32
  | 121 => 2#32
  | 122 => 8#32
  | 123 => 8#32
  | 124 => 4#32
  | 125 => 1#32
  | 126 => 1#32
  | 127 => 8#32
  | _ => 0#32

noncomputable abbrev lit3t0_48 (i : Nat) : BitVec 32 := match i % 128 with
  | 0 => 2#32
  | 1 => 1#32
  | 2 => 2#32
  | 3 => 4#32
  | 4 => 16#32
  | 5 => 2#32
  | 6 => 2#32
  | 7 => 1#32
  | 8 => 8#32
  | 9 => 2#32
  | 10 => 4#32
  | 11 => 1#32
  | 12 => 16#32
  | 13 => 2#32
  | 14 => 16#32
  | 15 => 4#32
  | 16 => 8#32
  | 17 => 8#32
  | 18 => 16#32
  | 19 => 16#32
  | 20 => 1#32
  | 21 => 1#32
  | 22 => 4#32
  | 23 => 2#32
  | 24 => 8#32
  | 25 => 8#32
  | 26 => 4#32
  | 27 => 8#32
  | 28 => 2#32
  | 29 => 4#32
  | 30 => 1#32
  | 31 => 8#32
  | 32 => 4#32
  | 33 => 4#32
  | 34 => 16#32
  | 35 => 16#32
  | 36 => 16#32
  | 37 => 4#32
  | 38 => 1#32
  | 39 => 16#32
  | 40 => 16#32
  | 41 => 1#32
  | 42 => 16#32
  | 43 => 8#32
  | 44 => 2#32
  | 45 => 4#32
  | 46 => 16#32
  | 47 => 8#32
  | 48 => 1#32
  | 49 => 2#32
  | 50 => 16#32
  | 51 => 2#32
  | 52 => 4#32
  | 53 => 4#32
  | 54 => 4#32
  | 55 => 4#32
  | 56 => 8#32
  | 57 => 2#32
  | 58 => 4#32
  | 59 => 4#32
  | 60 => 4#32
  | 61 => 2#32
  | 62 => 4#32
  | 63 => 4#32
  | 64 => 1#32
  | 65 => 1#32
  | 66 => 16#32
  | 67 => 2#32
  | 68 => 8#32
  | 69 => 16#32
  | 70 => 8#32
  | 71 => 2#32
  | 72 => 16#32
  | 73 => 1#32
  | 74 => 4#32
  | 75 => 2#32
  | 76 => 1#32
  | 77 => 1#32
  | 78 => 4#32
  | 79 => 8#32
  | 80 => 8#32
  | 81 => 1#32
  | 82 => 4#32
  | 83 => 4#32
  | 84 => 8#32
  | 85 => 4#32
  | 86 => 4#32
  | 87 => 2#32
  | 88 => 8#32
  | 89 => 8#32
  | 90 => 8#32
  | 91 => 16#32
  | 92 => 2#32
  | 93 => 1#32
  | 94 => 1#32
  | 95 => 8#32
  | 96 => 1#32
  | 97 => 4#32
  | 98 => 8#32
  | 99 => 16#32
  | 100 => 1#32
  | 101 => 4#32
  | 102 => 4#32
  | 103 => 4#32
  | 104 => 2#32
  | 105 => 16#32
  | 106 => 2#32
  | 107 => 2#32
  | 108 => 2#32
  | 109 => 2#32
  | 110 => 8#32
  | 111 => 2#32
  | 112 => 4#32
  | 113 => 1#32
  | 114 => 1#32
  | 115 => 16#32
  | 116 => 4#32
  | 117 => 1#32
  | 118 => 1#32
  | 119 => 4#32
  | 120 => 16#32
  | 121 => 2#32
  | 122 => 16#32
  | 123 => 2#32
  | 124 => 16#32
  | 125 => 2#32
  | 126 => 8#32
  | 127 => 1#32
  | _ => 0#32

noncomputable abbrev lit3t0_49 (i : Nat) : BitVec 32 := match i % 128 with
  | 0 => 2#32
  | 1 => 4#32
  | 2 => 16#32
  | 3 => 2#32
  | 4 => 8#32
  | 5 => 16#32
  | 6 => 8#32
  | 7 => 4#32
  | 8 => 2#32
  | 9 => 8#32
  | 10 => 8#32
  | 11 => 1#32
  | 12 => 2#32
  | 13 => 2#32
  | 14 => 4#32
  | 15 => 1#32
  | 16 => 4#32
  | 17 => 8#32
  | 18 => 8#32
  | 19 => 16#32
  | 20 => 2#32
  | 21 => 2#32
  | 22 => 4#32
  | 23 => 8#32
  | 24 => 4#32
  | 25 => 1#32
  | 26 => 2#32
  | 27 => 4#32
  | 28 => 2#32
  | 29 => 8#32
  | 30 => 8#32
  | 31 => 16#32
  | 32 => 4#32
  | 33 => 8#32
  | 34 => 4#32
  | 35 => 1#32
  | 36 => 1#32
  | 37 => 16#32
  | 38 => 8#32
  | 39 => 4#32
  | 40 => 8#32
  | 41 => 8#32
  | 42 => 4#32
  | 43 => 16#32
  | 44 => 2#32
  | 45 => 8#32
  | 46 => 2#32
  | 47 => 16#32
  | 48 => 1#32
  | 49 => 16#32
  | 50 => 8#32
  | 51 => 1#32
  | 52 => 1#32
  | 53 => 2#32
  | 54 => 1#32
  | 55 => 1#32
  | 56 => 1#32
  | 57 => 4#32
  | 58 => 2#32
  | 59 => 16#32
  | 60 => 16#32
  | 61 => 16#32
  | 62 => 16#32
  | 63 => 1#32
  | 64 => 2#32
  | 65 => 1#32
  | 66 => 2#32
  | 67 => 2#32
  | 68 => 2#32
  | 69 => 1#32
  | 70 => 16#32
  | 71 => 8#32
  | 72 => 8#32
  | 73 => 2#32
  | 74 => 1#32
  | 75 => 8#32
  | 76 => 8#32
  | 77 => 4#32
  | 78 => 2#32
  | 79 => 16#32
  | 80 => 8#32
  | 81 => 2#32
  | 82 => 1#32
  | 83 => 16#32
  | 84 => 1#32
  | 85 => 16#32
  | 86 => 8#32
  | 87 => 1#32
  | 88 => 4#32
  | 89 => 16#32
  | 90 => 1#32
  | 91 => 1#32
  | 92 => 8#32
  | 93 => 1#32
  | 94 => 8#32
  | 95 => 2#32
  | 96 => 16#32
  | 97 => 2#32
  | 98 => 8#32
  | 99 => 8#32
  | 100 => 8#32
  | 101 => 1#32
  | 102 => 16#32
  | 103 => 2#32
  | 104 => 4#32
  | 105 => 1#32
  | 106 => 8#32
  | 107 => 4#32
  | 108 => 1#32
  | 109 => 8#32
  | 110 => 8#32
  | 111 => 4#32
  | 112 => 16#32
  | 113 => 2#32
  | 114 => 2#32
  | 115 => 8#32
  | 116 => 2#32
  | 117 => 4#32
  | 118 => 2#32
  | 119 => 2#32
  | 120 => 2#32
  | 121 => 4#32
  | 122 => 4#32
  | 123 => 16#32
  | 124 => 16#32
  | 125 => 8#32
  | 126 => 8#32
  | 127 => 8#32
  | _ => 0#32

noncomputable abbrev lit3t0_50 (i : Nat) : BitVec 32 := match i % 128 with
  | 0 => 4#32
  | 1 => 16#32
  | 2 => 16#32
  | 3 => 16#32
  | 4 => 1#32
  | 5 => 8#32
  | 6 => 16#32
  | 7 => 4#32
  | 8 => 1#32
  | 9 => 1#32
  | 10 => 1#32
  | 11 => 8#32
  | 12 => 4#32
  | 13 => 16#32
  | 14 => 1#32
  | 15 => 4#32
  | 16 => 1#32
  | 17 => 4#32
  | 18 => 8#32
  | 19 => 4#32
  | 20 => 16#32
  | 21 => 1#32
  | 22 => 16#32
  | 23 => 8#32
  | 24 => 1#32
  | 25 => 4#32
  | 26 => 1#32
  | 27 => 8#32
  | 28 => 16#32
  | 29 => 8#32
  | 30 => 16#32
  | 31 => 8#32
  | 32 => 16#32
  | 33 => 16#32
  | 34 => 8#32
  | 35 => 1#32
  | 36 => 8#32
  | 37 => 16#32
  | 38 => 4#32
  | 39 => 8#32
  | 40 => 16#32
  | 41 => 1#32
  | 42 => 1#32
  | 43 => 1#32
  | 44 => 1#32
  | 45 => 1#32
  | 46 => 8#32
  | 47 => 4#32
  | 48 => 4#32
  | 49 => 4#32
  | 50 => 8#32
  | 51 => 1#32
  | 52 => 1#32
  | 53 => 8#32
  | 54 => 1#32
  | 55 => 8#32
  | 56 => 2#32
  | 57 => 2#32
  | 58 => 16#32
  | 59 => 16#32
  | 60 => 16#32
  | 61 => 4#32
  | 62 => 4#32
  | 63 => 1#32
  | 64 => 8#32
  | 65 => 8#32
  | 66 => 1#32
  | 67 => 4#32
  | 68 => 16#32
  | 69 => 4#32
  | 70 => 16#32
  | 71 => 4#32
  | 72 => 1#32
  | 73 => 8#32
  | 74 => 4#32
  | 75 => 2#32
  | 76 => 4#32
  | 77 => 2#32
  | 78 => 2#32
  | 79 => 4#32
  | 80 => 16#32
  | 81 => 8#32
  | 82 => 4#32
  | 83 => 2#32
  | 84 => 2#32
  | 85 => 2#32
  | 86 => 2#32
  | 87 => 8#32
  | 88 => 1#32
  | 89 => 4#32
  | 90 => 2#32
  | 91 => 8#32
  | 92 => 1#32
  | 93 => 1#32
  | 94 => 16#32
  | 95 => 2#32
  | 96 => 16#32
  | 97 => 4#32
  | 98 => 2#32
  | 99 => 4#32
  | 100 => 2#32
  | 101 => 4#32
  | 102 => 16#32
  | 103 => 16#32
  | 104 => 16#32
  | 105 => 16#32
  | 106 => 2#32
  | 107 => 4#32
  | 108 => 8#32
  | 109 => 4#32
  | 110 => 8#32
  | 111 => 4#32
  | 112 => 2#32
  | 113 => 8#32
  | 114 => 2#32
  | 115 => 8#32
  | 116 => 4#32
  | 117 => 16#32
  | 118 => 16#32
  | 119 => 16#32
  | 120 => 16#32
  | 121 => 1#32
  | 122 => 1#32
  | 123 => 8#32
  | 124 => 4#32
  | 125 => 16#32
  | 126 => 1#32
  | 127 => 1#32
  | _ => 0#32

noncomputable abbrev lit3t0_51 (i : Nat) : BitVec 32 := match i % 128 with
  | 0 => 8#32
  | 1 => 16#32
  | 2 => 1#32
  | 3 => 2#32
  | 4 => 16#32
  | 5 => 2#32
  | 6 => 1#32
  | 7 => 1#32
  | 8 => 4#32
  | 9 => 16#32
  | 10 => 8#32
  | 11 => 1#32
  | 12 => 2#32
  | 13 => 2#32
  | 14 => 4#32
  | 15 => 8#32
  | 16 => 2#32
  | 17 => 16#32
  | 18 => 1#32
  | 19 => 16#32
  | 20 => 1#32
  | 21 => 16#32
  | 22 => 8#32
  | 23 => 1#32
  | 24 => 16#32
  | 25 => 8#32
  | 26 => 1#32
  | 27 => 1#32
  | 28 => 1#32
  | 29 => 2#32
  | 30 => 2#32
  | 31 => 2#32
  | 32 => 4#32
  | 33 => 16#32
  | 34 => 2#32
  | 35 => 4#32
  | 36 => 16#32
  | 37 => 8#32
  | 38 => 1#32
  | 39 => 4#32
  | 40 => 2#32
  | 41 => 2#32
  | 42 => 16#32
  | 43 => 8#32
  | 44 => 8#32
  | 45 => 1#32
  | 46 => 2#32
  | 47 => 16#32
  | 48 => 16#32
  | 49 => 1#32
  | 50 => 8#32
  | 51 => 16#32
  | 52 => 8#32
  | 53 => 4#32
  | 54 => 1#32
  | 55 => 16#32
  | 56 => 4#32
  | 57 => 2#32
  | 58 => 16#32
  | 59 => 1#32
  | 60 => 2#32
  | 61 => 1#32
  | 62 => 16#32
  | 63 => 8#32
  | 64 => 8#32
  | 65 => 2#32
  | 66 => 2#32
  | 67 => 4#32
  | 68 => 8#32
  | 69 => 4#32
  | 70 => 1#32
  | 71 => 8#32
  | 72 => 2#32
  | 73 => 2#32
  | 74 => 1#32
  | 75 => 8#32
  | 76 => 4#32
  | 77 => 4#32
  | 78 => 4#32
  | 79 => 8#32
  | 80 => 2#32
  | 81 => 8#32
  | 82 => 2#32
  | 83 => 2#32
  | 84 => 2#32
  | 85 => 4#32
  | 86 => 1#32
  | 87 => 1#32
  | 88 => 16#32
  | 89 => 16#32
  | 90 => 8#32
  | 91 => 4#32
  | 92 => 1#32
  | 93 => 2#32
  | 94 => 8#32
  | 95 => 16#32
  | 96 => 8#32
  | 97 => 8#32
  | 98 => 4#32
  | 99 => 1#32
  | 100 => 16#32
  | 101 => 16#32
  | 102 => 1#32
  | 103 => 1#32
  | 104 => 2#32
  | 105 => 4#32
  | 106 => 2#32
  | 107 => 4#32
  | 108 => 8#32
  | 109 => 1#32
  | 110 => 4#32
  | 111 => 1#32
  | 112 => 8#32
  | 113 => 1#32
  | 114 => 4#32
  | 115 => 1#32
  | 116 => 1#32
  | 117 => 16#32
  | 118 => 16#32
  | 119 => 8#32
  | 120 => 8#32
  | 121 => 8#32
  | 122 => 2#32
  | 123 => 8#32
  | 124 => 4#32
  | 125 => 16#32
  | 126 => 4#32
  | 127 => 8#32
  | _ => 0#32

noncomputable abbrev lit3t0_52 (i : Nat) : BitVec 32 := match i % 128 with
  | 0 => 16#32
  | 1 => 16#32
  | 2 => 16#32
  | 3 => 2#32
  | 4 => 1#32
  | 5 => 16#32
  | 6 => 4#32
  | 7 => 16#32
  | 8 => 4#32
  | 9 => 4#32
  | 10 => 1#32
  | 11 => 4#32
  | 12 => 1#32
  | 13 => 2#32
  | 14 => 4#32
  | 15 => 16#32
  | 16 => 1#32
  | 17 => 1#32
  | 18 => 16#32
  | 19 => 2#32
  | 20 => 8#32
  | 21 => 16#32
  | 22 => 4#32
  | 23 => 16#32
  | 24 => 2#32
  | 25 => 8#32
  | 26 => 8#32
  | 27 => 8#32
  | 28 => 16#32
  | 29 => 2#32
  | 30 => 1#32
  | 31 => 4#32
  | 32 => 1#32
  | 33 => 4#32
  | 34 => 16#32
  | 35 => 8#32
  | 36 => 8#32
  | 37 => 2#32
  | 38 => 8#32
  | 39 => 4#32
  | 40 => 1#32
  | 41 => 4#32
  | 42 => 8#32
  | 43 => 8#32
  | 44 => 1#32
  | 45 => 16#32
  | 46 => 1#32
  | 47 => 16#32
  | 48 => 2#32
  | 49 => 16#32
  | 50 => 4#32
  | 51 => 2#32
  | 52 => 8#32
  | 53 => 1#32
  | 54 => 16#32
  | 55 => 8#32
  | 56 => 2#32
  | 57 => 16#32
  | 58 => 16#32
  | 59 => 1#32
  | 60 => 2#32
  | 61 => 16#32
  | 62 => 2#32
  | 63 => 2#32
  | 64 => 2#32
  | 65 => 1#32
  | 66 => 4#32
  | 67 => 1#32
  | 68 => 16#32
  | 69 => 4#32
  | 70 => 4#32
  | 71 => 4#32
  | 72 => 1#32
  | 73 => 4#32
  | 74 => 4#32
  | 75 => 1#32
  | 76 => 4#32
  | 77 => 1#32
  | 78 => 2#32
  | 79 => 8#32
  | 80 => 8#32
  | 81 => 4#32
  | 82 => 1#32
  | 83 => 1#32
  | 84 => 8#32
  | 85 => 8#32
  | 86 => 1#32
  | 87 => 2#32
  | 88 => 2#32
  | 89 => 2#32
  | 90 => 8#32
  | 91 => 8#32
  | 92 => 1#32
  | 93 => 1#32
  | 94 => 16#32
  | 95 => 8#32
  | 96 => 16#32
  | 97 => 8#32
  | 98 => 2#32
  | 99 => 2#32
  | 100 => 8#32
  | 101 => 2#32
  | 102 => 4#32
  | 103 => 2#32
  | 104 => 16#32
  | 105 => 8#32
  | 106 => 2#32
  | 107 => 1#32
  | 108 => 16#32
  | 109 => 16#32
  | 110 => 2#32
  | 111 => 2#32
  | 112 => 2#32
  | 113 => 1#32
  | 114 => 1#32
  | 115 => 16#32
  | 116 => 8#32
  | 117 => 4#32
  | 118 => 4#32
  | 119 => 1#32
  | 120 => 2#32
  | 121 => 16#32
  | 122 => 8#32
  | 123 => 8#32
  | 124 => 4#32
  | 125 => 4#32
  | 126 => 16#32
  | 127 => 8#32
  | _ => 0#32

noncomputable abbrev lit3t0_53 (i : Nat) : BitVec 32 := match i % 128 with
  | 0 => 2#32
  | 1 => 1#32
  | 2 => 4#32
  | 3 => 4#32
  | 4 => 2#32
  | 5 => 1#32
  | 6 => 4#32
  | 7 => 2#32
  | 8 => 1#32
  | 9 => 2#32
  | 10 => 1#32
  | 11 => 4#32
  | 12 => 8#32
  | 13 => 2#32
  | 14 => 4#32
  | 15 => 4#32
  | 16 => 2#32
  | 17 => 2#32
  | 18 => 1#32
  | 19 => 1#32
  | 20 => 16#32
  | 21 => 16#32
  | 22 => 16#32
  | 23 => 2#32
  | 24 => 1#32
  | 25 => 1#32
  | 26 => 2#32
  | 27 => 16#32
  | 28 => 16#32
  | 29 => 1#32
  | 30 => 2#32
  | 31 => 8#32
  | 32 => 8#32
  | 33 => 16#32
  | 34 => 8#32
  | 35 => 2#32
  | 36 => 2#32
  | 37 => 16#32
  | 38 => 16#32
  | 39 => 16#32
  | 40 => 1#32
  | 41 => 1#32
  | 42 => 1#32
  | 43 => 8#32
  | 44 => 2#32
  | 45 => 4#32
  | 46 => 16#32
  | 47 => 8#32
  | 48 => 2#32
  | 49 => 4#32
  | 50 => 16#32
  | 51 => 2#32
  | 52 => 2#32
  | 53 => 1#32
  | 54 => 2#32
  | 55 => 8#32
  | 56 => 4#32
  | 57 => 16#32
  | 58 => 2#32
  | 59 => 16#32
  | 60 => 16#32
  | 61 => 16#32
  | 62 => 8#32
  | 63 => 16#32
  | 64 => 16#32
  | 65 => 2#32
  | 66 => 8#32
  | 67 => 16#32
  | 68 => 4#32
  | 69 => 16#32
  | 70 => 16#32
  | 71 => 1#32
  | 72 => 16#32
  | 73 => 4#32
  | 74 => 4#32
  | 75 => 4#32
  | 76 => 1#32
  | 77 => 16#32
  | 78 => 4#32
  | 79 => 2#32
  | 80 => 8#32
  | 81 => 1#32
  | 82 => 4#32
  | 83 => 1#32
  | 84 => 8#32
  | 85 => 16#32
  | 86 => 2#32
  | 87 => 4#32
  | 88 => 8#32
  | 89 => 1#32
  | 90 => 2#32
  | 91 => 4#32
  | 92 => 16#32
  | 93 => 8#32
  | 94 => 2#32
  | 95 => 8#32
  | 96 => 2#32
  | 97 => 4#32
  | 98 => 16#32
  | 99 => 8#32
  | 100 => 1#32
  | 101 => 4#32
  | 102 => 2#32
  | 103 => 1#32
  | 104 => 8#32
  | 105 => 16#32
  | 106 => 16#32
  | 107 => 1#32
  | 108 => 8#32
  | 109 => 2#32
  | 110 => 8#32
  | 111 => 1#32
  | 112 => 16#32
  | 113 => 4#32
  | 114 => 8#32
  | 115 => 8#32
  | 116 => 1#32
  | 117 => 2#32
  | 118 => 4#32
  | 119 => 1#32
  | 120 => 16#32
  | 121 => 8#32
  | 122 => 2#32
  | 123 => 2#32
  | 124 => 16#32
  | 125 => 1#32
  | 126 => 16#32
  | 127 => 2#32
  | _ => 0#32

noncomputable abbrev lit3t0_54 (i : Nat) : BitVec 32 := match i % 128 with
  | 0 => 2#32
  | 1 => 4#32
  | 2 => 16#32
  | 3 => 8#32
  | 4 => 8#32
  | 5 => 2#32
  | 6 => 4#32
  | 7 => 4#32
  | 8 => 8#32
  | 9 => 4#32
  | 10 => 8#32
  | 11 => 1#32
  | 12 => 2#32
  | 13 => 16#32
  | 14 => 4#32
  | 15 => 4#32
  | 16 => 2#32
  | 17 => 8#32
  | 18 => 8#32
  | 19 => 4#32
  | 20 => 1#32
  | 21 => 8#32
  | 22 => 2#32
  | 23 => 8#32
  | 24 => 8#32
  | 25 => 1#32
  | 26 => 1#32
  | 27 => 8#32
  | 28 => 16#32
  | 29 => 1#32
  | 30 => 8#32
  | 31 => 4#32
  | 32 => 4#32
  | 33 => 8#32
  | 34 => 16#32
  | 35 => 8#32
  | 36 => 4#32
  | 37 => 1#32
  | 38 => 4#32
  | 39 => 2#32
  | 40 => 8#32
  | 41 => 4#32
  | 42 => 16#32
  | 43 => 8#32
  | 44 => 16#32
  | 45 => 1#32
  | 46 => 8#32
  | 47 => 4#32
  | 48 => 4#32
  | 49 => 4#32
  | 50 => 4#32
  | 51 => 1#32
  | 52 => 2#32
  | 53 => 8#32
  | 54 => 4#32
  | 55 => 2#32
  | 56 => 2#32
  | 57 => 16#32
  | 58 => 1#32
  | 59 => 16#32
  | 60 => 4#32
  | 61 => 2#32
  | 62 => 1#32
  | 63 => 1#32
  | 64 => 4#32
  | 65 => 1#32
  | 66 => 16#32
  | 67 => 16#32
  | 68 => 16#32
  | 69 => 8#32
  | 70 => 2#32
  | 71 => 8#32
  | 72 => 2#32
  | 73 => 1#32
  | 74 => 8#32
  | 75 => 16#32
  | 76 => 16#32
  | 77 => 2#32
  | 78 => 16#32
  | 79 => 4#32
  | 80 => 8#32
  | 81 => 8#32
  | 82 => 16#32
  | 83 => 8#32
  | 84 => 2#32
  | 85 => 1#32
  | 86 => 8#32
  | 87 => 4#32
  | 88 => 8#32
  | 89 => 4#32
  | 90 => 4#32
  | 91 => 1#32
  | 92 => 4#32
  | 93 => 8#32
  | 94 => 4#32
  | 95 => 2#32
  | 96 => 4#32
  | 97 => 4#32
  | 98 => 2#32
  | 99 => 8#32
  | 100 => 16#32
  | 101 => 16#32
  | 102 => 2#32
  | 103 => 2#32
  | 104 => 2#32
  | 105 => 1#32
  | 106 => 2#32
  | 107 => 8#32
  | 108 => 4#32
  | 109 => 2#32
  | 110 => 1#32
  | 111 => 4#32
  | 112 => 8#32
  | 113 => 4#32
  | 114 => 16#32
  | 115 => 8#32
  | 116 => 4#32
  | 117 => 4#32
  | 118 => 4#32
  | 119 => 16#32
  | 120 => 4#32
  | 121 => 16#32
  | 122 => 16#32
  | 123 => 16#32
  | 124 => 16#32
  | 125 => 1#32
  | 126 => 4#32
  | 127 => 2#32
  | _ => 0#32

noncomputable abbrev lit3t0_55 (i : Nat) : BitVec 32 := match i % 128 with
  | 0 => 1#32
  | 1 => 16#32
  | 2 => 16#32
  | 3 => 16#32
  | 4 => 16#32
  | 5 => 1#32
  | 6 => 16#32
  | 7 => 4#32
  | 8 => 8#32
  | 9 => 16#32
  | 10 => 16#32
  | 11 => 4#32
  | 12 => 16#32
  | 13 => 1#32
  | 14 => 4#32
  | 15 => 8#32
  | 16 => 2#32
  | 17 => 2#32
  | 18 => 4#32
  | 19 => 4#32
  | 20 => 1#32
  | 21 => 8#32
  | 22 => 2#32
  | 23 => 8#32
  | 24 => 4#32
  | 25 => 1#32
  | 26 => 4#32
  | 27 => 2#32
  | 28 => 2#32
  | 29 => 1#32
  | 30 => 1#32
  | 31 => 1#32
  | 32 => 1#32
  | 33 => 2#32
  | 34 => 1#32
  | 35 => 16#32
  | 36 => 1#32
  | 37 => 1#32
  | 38 => 2#32
  | 39 => 4#32
  | 40 => 1#32
  | 41 => 1#32
  | 42 => 2#32
  | 43 => 2#32
  | 44 => 16#32
  | 45 => 2#32
  | 46 => 2#32
  | 47 => 2#32
  | 48 => 4#32
  | 49 => 2#32
  | 50 => 8#32
  | 51 => 1#32
  | 52 => 2#32
  | 53 => 4#32
  | 54 => 4#32
  | 55 => 8#32
  | 56 => 1#32
  | 57 => 16#32
  | 58 => 2#32
  | 59 => 4#32
  | 60 => 8#32
  | 61 => 1#32
  | 62 => 4#32
  | 63 => 8#32
  | 64 => 8#32
  | 65 => 2#32
  | 66 => 8#32
  | 67 => 1#32
  | 68 => 16#32
  | 69 => 4#32
  | 70 => 8#32
  | 71 => 4#32
  | 72 => 1#32
  | 73 => 8#32
  | 74 => 4#32
  | 75 => 4#32
  | 76 => 16#32
  | 77 => 16#32
  | 78 => 2#32
  | 79 => 2#32
  | 80 => 16#32
  | 81 => 2#32
  | 82 => 2#32
  | 83 => 16#32
  | 84 => 2#32
  | 85 => 8#32
  | 86 => 1#32
  | 87 => 2#32
  | 88 => 16#32
  | 89 => 8#32
  | 90 => 8#32
  | 91 => 4#32
  | 92 => 4#32
  | 93 => 16#32
  | 94 => 16#32
  | 95 => 4#32
  | 96 => 4#32
  | 97 => 2#32
  | 98 => 16#32
  | 99 => 2#32
  | 100 => 1#32
  | 101 => 2#32
  | 102 => 8#32
  | 103 => 16#32
  | 104 => 4#32
  | 105 => 8#32
  | 106 => 2#32
  | 107 => 1#32
  | 108 => 8#32
  | 109 => 2#32
  | 110 => 16#32
  | 111 => 8#32
  | 112 => 16#32
  | 113 => 8#32
  | 114 => 16#32
  | 115 => 1#32
  | 116 => 4#32
  | 117 => 4#32
  | 118 => 16#32
  | 119 => 2#32
  | 120 => 8#32
  | 121 => 1#32
  | 122 => 4#32
  | 123 => 8#32
  | 124 => 4#32
  | 125 => 16#32
  | 126 => 16#32
  | 127 => 8#32
  | _ => 0#32

noncomputable abbrev lit3t0_56 (i : Nat) : BitVec 32 := match i % 128 with
  | 0 => 1#32
  | 1 => 4#32
  | 2 => 4#32
  | 3 => 16#32
  | 4 => 16#32
  | 5 => 2#32
  | 6 => 4#32
  | 7 => 1#32
  | 8 => 8#32
  | 9 => 4#32
  | 10 => 8#32
  | 11 => 8#32
  | 12 => 1#32
  | 13 => 2#32
  | 14 => 2#32
  | 15 => 8#32
  | 16 => 4#32
  | 17 => 4#32
  | 18 => 4#32
  | 19 => 1#32
  | 20 => 16#32
  | 21 => 2#32
  | 22 => 4#32
  | 23 => 16#32
  | 24 => 16#32
  | 25 => 1#32
  | 26 => 1#32
  | 27 => 8#32
  | 28 => 8#32
  | 29 => 2#32
  | 30 => 4#32
  | 31 => 8#32
  | 32 => 8#32
  | 33 => 8#32
  | 34 => 16#32
  | 35 => 2#32
  | 36 => 2#32
  | 37 => 1#32
  | 38 => 8#32
  | 39 => 16#32
  | 40 => 8#32
  | 41 => 16#32
  | 42 => 1#32
  | 43 => 16#32
  | 44 => 8#32
  | 45 => 2#32
  | 46 => 8#32
  | 47 => 16#32
  | 48 => 8#32
  | 49 => 1#32
  | 50 => 16#32
  | 51 => 1#32
  | 52 => 4#32
  | 53 => 16#32
  | 54 => 8#32
  | 55 => 8#32
  | 56 => 1#32
  | 57 => 8#32
  | 58 => 1#32
  | 59 => 4#32
  | 60 => 2#32
  | 61 => 4#32
  | 62 => 8#32
  | 63 => 2#32
  | 64 => 4#32
  | 65 => 16#32
  | 66 => 16#32
  | 67 => 16#32
  | 68 => 8#32
  | 69 => 4#32
  | 70 => 16#32
  | 71 => 16#32
  | 72 => 16#32
  | 73 => 16#32
  | 74 => 8#32
  | 75 => 1#32
  | 76 => 2#32
  | 77 => 8#32
  | 78 => 4#32
  | 79 => 4#32
  | 80 => 4#32
  | 81 => 8#32
  | 82 => 4#32
  | 83 => 16#32
  | 84 => 4#32
  | 85 => 8#32
  | 86 => 2#32
  | 87 => 1#32
  | 88 => 1#32
  | 89 => 4#32
  | 90 => 1#32
  | 91 => 1#32
  | 92 => 16#32
  | 93 => 16#32
  | 94 => 4#32
  | 95 => 2#32
  | 96 => 16#32
  | 97 => 8#32
  | 98 => 2#32
  | 99 => 16#32
  | 100 => 4#32
  | 101 => 8#32
  | 102 => 2#32
  | 103 => 8#32
  | 104 => 1#32
  | 105 => 16#32
  | 106 => 1#32
  | 107 => 16#32
  | 108 => 1#32
  | 109 => 8#32
  | 110 => 8#32
  | 111 => 2#32
  | 112 => 2#32
  | 113 => 16#32
  | 114 => 2#32
  | 115 => 2#32
  | 116 => 16#32
  | 117 => 16#32
  | 118 => 1#32
  | 119 => 16#32
  | 120 => 8#32
  | 121 => 4#32
  | 122 => 1#32
  | 123 => 8#32
  | 124 => 1#32
  | 125 => 4#32
  | 126 => 8#32
  | 127 => 1#32
  | _ => 0#32

noncomputable abbrev lit3t0_57 (i : Nat) : BitVec 32 := match i % 128 with
  | 0 => 1#32
  | 1 => 16#32
  | 2 => 1#32
  | 3 => 2#32
  | 4 => 1#32
  | 5 => 1#32
  | 6 => 16#32
  | 7 => 8#32
  | 8 => 1#32
  | 9 => 16#32
  | 10 => 16#32
  | 11 => 2#32
  | 12 => 1#32
  | 13 => 4#32
  | 14 => 4#32
  | 15 => 2#32
  | 16 => 2#32
  | 17 => 16#32
  | 18 => 16#32
  | 19 => 1#32
  | 20 => 16#32
  | 21 => 2#32
  | 22 => 16#32
  | 23 => 16#32
  | 24 => 2#32
  | 25 => 16#32
  | 26 => 16#32
  | 27 => 1#32
  | 28 => 2#32
  | 29 => 4#32
  | 30 => 16#32
  | 31 => 8#32
  | 32 => 16#32
  | 33 => 1#32
  | 34 => 4#32
  | 35 => 16#32
  | 36 => 8#32
  | 37 => 8#32
  | 38 => 8#32
  | 39 => 8#32
  | 40 => 16#32
  | 41 => 1#32
  | 42 => 4#32
  | 43 => 2#32
  | 44 => 8#32
  | 45 => 16#32
  | 46 => 4#32
  | 47 => 2#32
  | 48 => 4#32
  | 49 => 1#32
  | 50 => 1#32
  | 51 => 16#32
  | 52 => 8#32
  | 53 => 2#32
  | 54 => 1#32
  | 55 => 1#32
  | 56 => 8#32
  | 57 => 2#32
  | 58 => 4#32
  | 59 => 2#32
  | 60 => 2#32
  | 61 => 8#32
  | 62 => 2#32
  | 63 => 8#32
  | 64 => 16#32
  | 65 => 16#32
  | 66 => 2#32
  | 67 => 16#32
  | 68 => 2#32
  | 69 => 1#32
  | 70 => 4#32
  | 71 => 1#32
  | 72 => 2#32
  | 73 => 16#32
  | 74 => 8#32
  | 75 => 16#32
  | 76 => 2#32
  | 77 => 2#32
  | 78 => 8#32
  | 79 => 16#32
  | 80 => 2#32
  | 81 => 8#32
  | 82 => 8#32
  | 83 => 2#32
  | 84 => 1#32
  | 85 => 8#32
  | 86 => 4#32
  | 87 => 4#32
  | 88 => 1#32
  | 89 => 2#32
  | 90 => 16#32
  | 91 => 2#32
  | 92 => 16#32
  | 93 => 4#32
  | 94 => 8#32
  | 95 => 4#32
  | 96 => 4#32
  | 97 => 8#32
  | 98 => 16#32
  | 99 => 4#32
  | 100 => 4#32
  | 101 => 16#32
  | 102 => 16#32
  | 103 => 1#32
  | 104 => 8#32
  | 105 => 2#32
  | 106 => 4#32
  | 107 => 4#32
  | 108 => 16#32
  | 109 => 2#32
  | 110 => 8#32
  | 111 => 2#32
  | 112 => 4#32
  | 113 => 1#32
  | 114 => 4#32
  | 115 => 16#32
  | 116 => 8#32
  | 117 => 2#32
  | 118 => 2#32
  | 119 => 4#32
  | 120 => 1#32
  | 121 => 8#32
  | 122 => 4#32
  | 123 => 16#32
  | 124 => 16#32
  | 125 => 8#32
  | 126 => 2#32
  | 127 => 16#32
  | _ => 0#32

noncomputable abbrev lit3t0_58 (i : Nat) : BitVec 32 := match i % 128 with
  | 0 => 4#32
  | 1 => 4#32
  | 2 => 16#32
  | 3 => 4#32
  | 4 => 8#32
  | 5 => 4#32
  | 6 => 2#32
  | 7 => 4#32
  | 8 => 8#32
  | 9 => 4#32
  | 10 => 2#32
  | 11 => 16#32
  | 12 => 8#32
  | 13 => 8#32
  | 14 => 8#32
  | 15 => 16#32
  | 16 => 2#32
  | 17 => 8#32
  | 18 => 4#32
  | 19 => 4#32
  | 20 => 2#32
  | 21 => 2#32
  | 22 => 1#32
  | 23 => 8#32
  | 24 => 4#32
  | 25 => 1#32
  | 26 => 1#32
  | 27 => 2#32
  | 28 => 8#32
  | 29 => 8#32
  | 30 => 1#32
  | 31 => 2#32
  | 32 => 2#32
  | 33 => 1#32
  | 34 => 4#32
  | 35 => 1#32
  | 36 => 8#32
  | 37 => 16#32
  | 38 => 2#32
  | 39 => 8#32
  | 40 => 1#32
  | 41 => 1#32
  | 42 => 4#32
  | 43 => 1#32
  | 44 => 16#32
  | 45 => 1#32
  | 46 => 4#32
  | 47 => 16#32
  | 48 => 1#32
  | 49 => 4#32
  | 50 => 8#32
  | 51 => 16#32
  | 52 => 1#32
  | 53 => 1#32
  | 54 => 2#32
  | 55 => 16#32
  | 56 => 4#32
  | 57 => 8#32
  | 58 => 1#32
  | 59 => 4#32
  | 60 => 4#32
  | 61 => 4#32
  | 62 => 1#32
  | 63 => 4#32
  | 64 => 16#32
  | 65 => 1#32
  | 66 => 8#32
  | 67 => 4#32
  | 68 => 8#32
  | 69 => 8#32
  | 70 => 4#32
  | 71 => 1#32
  | 72 => 4#32
  | 73 => 1#32
  | 74 => 16#32
  | 75 => 1#32
  | 76 => 4#32
  | 77 => 16#32
  | 78 => 16#32
  | 79 => 4#32
  | 80 => 1#32
  | 81 => 4#32
  | 82 => 16#32
  | 83 => 1#32
  | 84 => 1#32
  | 85 => 8#32
  | 86 => 4#32
  | 87 => 2#32
  | 88 => 2#32
  | 89 => 4#32
  | 90 => 2#32
  | 91 => 8#32
  | 92 => 16#32
  | 93 => 8#32
  | 94 => 8#32
  | 95 => 2#32
  | 96 => 8#32
  | 97 => 1#32
  | 98 => 4#32
  | 99 => 2#32
  | 100 => 16#32
  | 101 => 1#32
  | 102 => 1#32
  | 103 => 8#32
  | 104 => 4#32
  | 105 => 8#32
  | 106 => 16#32
  | 107 => 4#32
  | 108 => 4#32
  | 109 => 1#32
  | 110 => 1#32
  | 111 => 1#32
  | 112 => 4#32
  | 113 => 1#32
  | 114 => 16#32
  | 115 => 2#32
  | 116 => 1#32
  | 117 => 1#32
  | 118 => 4#32
  | 119 => 2#32
  | 120 => 16#32
  | 121 => 2#32
  | 122 => 4#32
  | 123 => 4#32
  | 124 => 4#32
  | 125 => 4#32
  | 126 => 2#32
  | 127 => 8#32
  | _ => 0#32

noncomputable abbrev lit3t0_59 (i : Nat) : BitVec 32 := match i % 128 with
  | 0 => 4#32
  | 1 => 4#32
  | 2 => 16#32
  | 3 => 4#32
  | 4 => 16#32
  | 5 => 16#32
  | 6 => 2#32
  | 7 => 4#32
  | 8 => 1#32
  | 9 => 8#32
  | 10 => 1#32
  | 11 => 16#32
  | 12 => 16#32
  | 13 => 4#32
  | 14 => 4#32
  | 15 => 1#32
  | 16 => 2#32
  | 17 => 2#32
  | 18 => 16#32
  | 19 => 1#32
  | 20 => 16#32
  | 21 => 2#32
  | 22 => 8#32
  | 23 => 4#32
  | 24 => 4#32
  | 25 => 16#32
  | 26 => 1#32
  | 27 => 2#32
  | 28 => 16#32
  | 29 => 2#32
  | 30 => 16#32
  | 31 => 1#32
  | 32 => 1#32
  | 33 => 4#32
  | 34 => 16#32
  | 35 => 4#32
  | 36 => 8#32
  | 37 => 1#32
  | 38 => 1#32
  | 39 => 8#32
  | 40 => 16#32
  | 41 => 8#32
  | 42 => 4#32
  | 43 => 4#32
  | 44 => 16#32
  | 45 => 8#32
  | 46 => 2#32
  | 47 => 1#32
  | 48 => 1#32
  | 49 => 2#32
  | 50 => 4#32
  | 51 => 1#32
  | 52 => 16#32
  | 53 => 8#32
  | 54 => 2#32
  | 55 => 1#32
  | 56 => 2#32
  | 57 => 1#32
  | 58 => 8#32
  | 59 => 16#32
  | 60 => 4#32
  | 61 => 1#32
  | 62 => 2#32
  | 63 => 8#32
  | 64 => 16#32
  | 65 => 4#32
  | 66 => 2#32
  | 67 => 1#32
  | 68 => 1#32
  | 69 => 8#32
  | 70 => 8#32
  | 71 => 16#32
  | 72 => 2#32
  | 73 => 1#32
  | 74 => 4#32
  | 75 => 4#32
  | 76 => 4#32
  | 77 => 16#32
  | 78 => 2#32
  | 79 => 2#32
  | 80 => 1#32
  | 81 => 4#32
  | 82 => 2#32
  | 83 => 16#32
  | 84 => 4#32
  | 85 => 4#32
  | 86 => 4#32
  | 87 => 1#32
  | 88 => 8#32
  | 89 => 4#32
  | 90 => 16#32
  | 91 => 16#32
  | 92 => 1#32
  | 93 => 1#32
  | 94 => 2#32
  | 95 => 1#32
  | 96 => 16#32
  | 97 => 2#32
  | 98 => 1#32
  | 99 => 8#32
  | 100 => 4#32
  | 101 => 4#32
  | 102 => 1#32
  | 103 => 16#32
  | 104 => 4#32
  | 105 => 4#32
  | 106 => 16#32
  | 107 => 4#32
  | 108 => 8#32
  | 109 => 16#32
  | 110 => 8#32
  | 111 => 4#32
  | 112 => 8#32
  | 113 => 4#32
  | 114 => 1#32
  | 115 => 2#32
  | 116 => 4#32
  | 117 => 16#32
  | 118 => 4#32
  | 119 => 8#32
  | 120 => 8#32
  | 121 => 1#32
  | 122 => 1#32
  | 123 => 8#32
  | 124 => 8#32
  | 125 => 1#32
  | 126 => 1#32
  | 127 => 4#32
  | _ => 0#32

noncomputable abbrev lit3t0_60 (i : Nat) : BitVec 32 := match i % 128 with
  | 0 => 4#32
  | 1 => 16#32
  | 2 => 1#32
  | 3 => 8#32
  | 4 => 1#32
  | 5 => 8#32
  | 6 => 8#32
  | 7 => 8#32
  | 8 => 4#32
  | 9 => 8#32
  | 10 => 4#32
  | 11 => 8#32
  | 12 => 1#32
  | 13 => 8#32
  | 14 => 4#32
  | 15 => 16#32
  | 16 => 1#32
  | 17 => 16#32
  | 18 => 1#32
  | 19 => 16#32
  | 20 => 1#32
  | 21 => 1#32
  | 22 => 16#32
  | 23 => 8#32
  | 24 => 1#32
  | 25 => 16#32
  | 26 => 16#32
  | 27 => 8#32
  | 28 => 16#32
  | 29 => 4#32
  | 30 => 16#32
  | 31 => 16#32
  | 32 => 16#32
  | 33 => 4#32
  | 34 => 8#32
  | 35 => 8#32
  | 36 => 4#32
  | 37 => 4#32
  | 38 => 4#32
  | 39 => 2#32
  | 40 => 2#32
  | 41 => 16#32
  | 42 => 16#32
  | 43 => 4#32
  | 44 => 2#32
  | 45 => 2#32
  | 46 => 8#32
  | 47 => 2#32
  | 48 => 1#32
  | 49 => 4#32
  | 50 => 2#32
  | 51 => 4#32
  | 52 => 16#32
  | 53 => 2#32
  | 54 => 1#32
  | 55 => 2#32
  | 56 => 8#32
  | 57 => 8#32
  | 58 => 2#32
  | 59 => 8#32
  | 60 => 2#32
  | 61 => 8#32
  | 62 => 2#32
  | 63 => 2#32
  | 64 => 16#32
  | 65 => 16#32
  | 66 => 8#32
  | 67 => 16#32
  | 68 => 4#32
  | 69 => 1#32
  | 70 => 2#32
  | 71 => 1#32
  | 72 => 4#32
  | 73 => 2#32
  | 74 => 4#32
  | 75 => 1#32
  | 76 => 4#32
  | 77 => 4#32
  | 78 => 1#32
  | 79 => 16#32
  | 80 => 2#32
  | 81 => 1#32
  | 82 => 8#32
  | 83 => 8#32
  | 84 => 4#32
  | 85 => 16#32
  | 86 => 1#32
  | 87 => 8#32
  | 88 => 8#32
  | 89 => 8#32
  | 90 => 1#32
  | 91 => 8#32
  | 92 => 1#32
  | 93 => 16#32
  | 94 => 2#32
  | 95 => 16#32
  | 96 => 1#32
  | 97 => 4#32
  | 98 => 8#32
  | 99 => 8#32
  | 100 => 8#32
  | 101 => 2#32
  | 102 => 8#32
  | 103 => 8#32
  | 104 => 4#32
  | 105 => 16#32
  | 106 => 2#32
  | 107 => 2#32
  | 108 => 1#32
  | 109 => 1#32
  | 110 => 16#32
  | 111 => 16#32
  | 112 => 8#32
  | 113 => 8#32
  | 114 => 4#32
  | 115 => 4#32
  | 116 => 4#32
  | 117 => 8#32
  | 118 => 16#32
  | 119 => 2#32
  | 120 => 1#32
  | 121 => 2#32
  | 122 => 16#32
  | 123 => 8#32
  | 124 => 16#32
  | 125 => 2#32
  | 126 => 2#32
  | 127 => 1#32
  | _ => 0#32

noncomputable abbrev lit3t0_61 (i : Nat) : BitVec 32 := match i % 128 with
  | 0 => 1#32
  | 1 => 2#32
  | 2 => 1#32
  | 3 => 2#32
  | 4 => 1#32
  | 5 => 2#32
  | 6 => 1#32
  | 7 => 1#32
  | 8 => 1#32
  | 9 => 2#32
  | 10 => 2#32
  | 11 => 8#32
  | 12 => 4#32
  | 13 => 4#32
  | 14 => 2#32
  | 15 => 8#32
  | 16 => 8#32
  | 17 => 2#32
  | 18 => 2#32
  | 19 => 16#32
  | 20 => 1#32
  | 21 => 8#32
  | 22 => 2#32
  | 23 => 16#32
  | 24 => 8#32
  | 25 => 16#32
  | 26 => 8#32
  | 27 => 1#32
  | 28 => 4#32
  | 29 => 8#32
  | 30 => 4#32
  | 31 => 16#32
  | 32 => 2#32
  | 33 => 4#32
  | 34 => 1#32
  | 35 => 4#32
  | 36 => 8#32
  | 37 => 16#32
  | 38 => 8#32
  | 39 => 1#32
  | 40 => 8#32
  | 41 => 4#32
  | 42 => 8#32
  | 43 => 8#32
  | 44 => 4#32
  | 45 => 4#32
  | 46 => 16#32
  | 47 => 1#32
  | 48 => 1#32
  | 49 => 4#32
  | 50 => 16#32
  | 51 => 4#32
  | 52 => 4#32
  | 53 => 16#32
  | 54 => 2#32
  | 55 => 2#32
  | 56 => 4#32
  | 57 => 2#32
  | 58 => 16#32
  | 59 => 2#32
  | 60 => 8#32
  | 61 => 16#32
  | 62 => 4#32
  | 63 => 8#32
  | 64 => 8#32
  | 65 => 4#32
  | 66 => 4#32
  | 67 => 8#32
  | 68 => 8#32
  | 69 => 1#32
  | 70 => 16#32
  | 71 => 4#32
  | 72 => 16#32
  | 73 => 1#32
  | 74 => 1#32
  | 75 => 4#32
  | 76 => 4#32
  | 77 => 1#32
  | 78 => 1#32
  | 79 => 4#32
  | 80 => 2#32
  | 81 => 16#32
  | 82 => 4#32
  | 83 => 2#32
  | 84 => 1#32
  | 85 => 1#32
  | 86 => 4#32
  | 87 => 16#32
  | 88 => 1#32
  | 89 => 8#32
  | 90 => 4#32
  | 91 => 16#32
  | 92 => 8#32
  | 93 => 2#32
  | 94 => 16#32
  | 95 => 8#32
  | 96 => 1#32
  | 97 => 4#32
  | 98 => 2#32
  | 99 => 8#32
  | 100 => 16#32
  | 101 => 1#32
  | 102 => 16#32
  | 103 => 2#32
  | 104 => 8#32
  | 105 => 4#32
  | 106 => 1#32
  | 107 => 8#32
  | 108 => 16#32
  | 109 => 1#32
  | 110 => 1#32
  | 111 => 1#32
  | 112 => 16#32
  | 113 => 2#32
  | 114 => 4#32
  | 115 => 8#32
  | 116 => 1#32
  | 117 => 16#32
  | 118 => 8#32
  | 119 => 1#32
  | 120 => 1#32
  | 121 => 8#32
  | 122 => 1#32
  | 123 => 4#32
  | 124 => 2#32
  | 125 => 16#32
  | 126 => 4#32
  | 127 => 4#32
  | _ => 0#32

noncomputable abbrev lit3t0_62 (i : Nat) : BitVec 32 := match i % 128 with
  | 0 => 2#32
  | 1 => 4#32
  | 2 => 2#32
  | 3 => 2#32
  | 4 => 8#32
  | 5 => 2#32
  | 6 => 4#32
  | 7 => 16#32
  | 8 => 1#32
  | 9 => 1#32
  | 10 => 8#32
  | 11 => 16#32
  | 12 => 8#32
  | 13 => 8#32
  | 14 => 1#32
  | 15 => 4#32
  | 16 => 16#32
  | 17 => 8#32
  | 18 => 16#32
  | 19 => 4#32
  | 20 => 8#32
  | 21 => 1#32
  | 22 => 16#32
  | 23 => 2#32
  | 24 => 2#32
  | 25 => 8#32
  | 26 => 2#32
  | 27 => 8#32
  | 28 => 1#32
  | 29 => 2#32
  | 30 => 1#32
  | 31 => 16#32
  | 32 => 8#32
  | 33 => 16#32
  | 34 => 2#32
  | 35 => 4#32
  | 36 => 2#32
  | 37 => 16#32
  | 38 => 2#32
  | 39 => 1#32
  | 40 => 8#32
  | 41 => 1#32
  | 42 => 4#32
  | 43 => 2#32
  | 44 => 16#32
  | 45 => 1#32
  | 46 => 2#32
  | 47 => 16#32
  | 48 => 2#32
  | 49 => 8#32
  | 50 => 16#32
  | 51 => 8#32
  | 52 => 16#32
  | 53 => 8#32
  | 54 => 1#32
  | 55 => 2#32
  | 56 => 8#32
  | 57 => 4#32
  | 58 => 8#32
  | 59 => 2#32
  | 60 => 16#32
  | 61 => 16#32
  | 62 => 8#32
  | 63 => 1#32
  | 64 => 8#32
  | 65 => 4#32
  | 66 => 4#32
  | 67 => 4#32
  | 68 => 8#32
  | 69 => 16#32
  | 70 => 1#32
  | 71 => 8#32
  | 72 => 2#32
  | 73 => 1#32
  | 74 => 16#32
  | 75 => 8#32
  | 76 => 2#32
  | 77 => 4#32
  | 78 => 16#32
  | 79 => 4#32
  | 80 => 1#32
  | 81 => 2#32
  | 82 => 4#32
  | 83 => 2#32
  | 84 => 1#32
  | 85 => 8#32
  | 86 => 1#32
  | 87 => 8#32
  | 88 => 1#32
  | 89 => 4#32
  | 90 => 2#32
  | 91 => 4#32
  | 92 => 1#32
  | 93 => 8#32
  | 94 => 2#32
  | 95 => 2#32
  | 96 => 2#32
  | 97 => 4#32
  | 98 => 16#32
  | 99 => 2#32
  | 100 => 1#32
  | 101 => 1#32
  | 102 => 2#32
  | 103 => 1#32
  | 104 => 16#32
  | 105 => 16#32
  | 106 => 4#32
  | 107 => 8#32
  | 108 => 1#32
  | 109 => 8#32
  | 110 => 1#32
  | 111 => 16#32
  | 112 => 4#32
  | 113 => 8#32
  | 114 => 1#32
  | 115 => 1#32
  | 116 => 8#32
  | 117 => 16#32
  | 118 => 8#32
  | 119 => 16#32
  | 120 => 4#32
  | 121 => 16#32
  | 122 => 1#32
  | 123 => 16#32
  | 124 => 2#32
  | 125 => 16#32
  | 126 => 4#32
  | 127 => 4#32
  | _ => 0#32

noncomputable abbrev lit3t0_63 (i : Nat) : BitVec 32 := match i % 128 with
  | 0 => 8#32
  | 1 => 2#32
  | 2 => 8#32
  | 3 => 16#32
  | 4 => 16#32
  | 5 => 2#32
  | 6 => 1#32
  | 7 => 8#32
  | 8 => 4#32
  | 9 => 1#32
  | 10 => 4#32
  | 11 => 16#32
  | 12 => 8#32
  | 13 => 4#32
  | 14 => 2#32
  | 15 => 8#32
  | 16 => 1#32
  | 17 => 16#32
  | 18 => 1#32
  | 19 => 2#32
  | 20 => 16#32
  | 21 => 4#32
  | 22 => 1#32
  | 23 => 16#32
  | 24 => 1#32
  | 25 => 4#32
  | 26 => 1#32
  | 27 => 8#32
  | 28 => 1#32
  | 29 => 4#32
  | 30 => 8#32
  | 31 => 2#32
  | 32 => 8#32
  | 33 => 8#32
  | 34 => 16#32
  | 35 => 8#32
  | 36 => 2#32
  | 37 => 16#32
  | 38 => 2#32
  | 39 => 16#32
  | 40 => 8#32
  | 41 => 4#32
  | 42 => 8#32
  | 43 => 2#32
  | 44 => 16#32
  | 45 => 4#32
  | 46 => 8#32
  | 47 => 2#32
  | 48 => 8#32
  | 49 => 4#32
  | 50 => 4#32
  | 51 => 8#32
  | 52 => 1#32
  | 53 => 8#32
  | 54 => 16#32
  | 55 => 8#32
  | 56 => 8#32
  | 57 => 16#32
  | 58 => 2#32
  | 59 => 2#32
  | 60 => 4#32
  | 61 => 8#32
  | 62 => 1#32
  | 63 => 16#32
  | 64 => 16#32
  | 65 => 1#32
  | 66 => 16#32
  | 67 => 2#32
  | 68 => 2#32
  | 69 => 4#32
  | 70 => 16#32
  | 71 => 1#32
  | 72 => 16#32
  | 73 => 16#32
  | 74 => 2#32
  | 75 => 16#32
  | 76 => 1#32
  | 77 => 4#32
  | 78 => 1#32
  | 79 => 1#32
  | 80 => 1#32
  | 81 => 2#32
  | 82 => 4#32
  | 83 => 8#32
  | 84 => 1#32
  | 85 => 16#32
  | 86 => 16#32
  | 87 => 1#32
  | 88 => 1#32
  | 89 => 8#32
  | 90 => 16#32
  | 91 => 16#32
  | 92 => 2#32
  | 93 => 16#32
  | 94 => 2#32
  | 95 => 4#32
  | 96 => 2#32
  | 97 => 8#32
  | 98 => 8#32
  | 99 => 2#32
  | 100 => 4#32
  | 101 => 8#32
  | 102 => 1#32
  | 103 => 2#32
  | 104 => 4#32
  | 105 => 16#32
  | 106 => 8#32
  | 107 => 8#32
  | 108 => 4#32
  | 109 => 8#32
  | 110 => 4#32
  | 111 => 4#32
  | 112 => 1#32
  | 113 => 8#32
  | 114 => 2#32
  | 115 => 8#32
  | 116 => 4#32
  | 117 => 16#32
  | 118 => 16#32
  | 119 => 16#32
  | 120 => 16#32
  | 121 => 16#32
  | 122 => 2#32
  | 123 => 2#32
  | 124 => 1#32
  | 125 => 16#32
  | 126 => 16#32
  | 127 => 16#32
  | _ => 0#32

noncomputable abbrev lit3t0_64 (i : Nat) : BitVec 32 := match i % 128 with
  | 0 => 4#32
  | 1 => 1#32
  | 2 => 4#32
  | 3 => 16#32
  | 4 => 1#32
  | 5 => 4#32
  | 6 => 1#32
  | 7 => 4#32
  | 8 => 1#32
  | 9 => 8#32
  | 10 => 2#32
  | 11 => 16#32
  | 12 => 16#32
  | 13 => 2#32
  | 14 => 4#32
  | 15 => 4#32
  | 16 => 8#32
  | 17 => 2#32
  | 18 => 1#32
  | 19 => 4#32
  | 20 => 4#32
  | 21 => 2#32
  | 22 => 2#32
  | 23 => 1#32
  | 24 => 1#32
  | 25 => 8#32
  | 26 => 16#32
  | 27 => 16#32
  | 28 => 4#32
  | 29 => 8#32
  | 30 => 1#32
  | 31 => 2#32
  | 32 => 1#32
  | 33 => 1#32
  | 34 => 2#32
  | 35 => 1#32
  | 36 => 1#32
  | 37 => 16#32
  | 38 => 16#32
  | 39 => 1#32
  | 40 => 1#32
  | 41 => 4#32
  | 42 => 8#32
  | 43 => 16#32
  | 44 => 2#32
  | 45 => 2#32
  | 46 => 1#32
  | 47 => 16#32
  | 48 => 8#32
  | 49 => 2#32
  | 50 => 8#32
  | 51 => 2#32
  | 52 => 2#32
  | 53 => 2#32
  | 54 => 2#32
  | 55 => 16#32
  | 56 => 4#32
  | 57 => 1#32
  | 58 => 2#32
  | 59 => 8#32
  | 60 => 1#32
  | 61 => 16#32
  | 62 => 4#32
  | 63 => 1#32
  | 64 => 16#32
  | 65 => 16#32
  | 66 => 2#32
  | 67 => 4#32
  | 68 => 8#32
  | 69 => 2#32
  | 70 => 4#32
  | 71 => 1#32
  | 72 => 16#32
  | 73 => 4#32
  | 74 => 4#32
  | 75 => 8#32
  | 76 => 1#32
  | 77 => 2#32
  | 78 => 4#32
  | 79 => 2#32
  | 80 => 16#32
  | 81 => 16#32
  | 82 => 4#32
  | 83 => 4#32
  | 84 => 4#32
  | 85 => 4#32
  | 86 => 16#32
  | 87 => 2#32
  | 88 => 16#32
  | 89 => 16#32
  | 90 => 8#32
  | 91 => 8#32
  | 92 => 2#32
  | 93 => 4#32
  | 94 => 4#32
  | 95 => 2#32
  | 96 => 2#32
  | 97 => 8#32
  | 98 => 8#32
  | 99 => 16#32
  | 100 => 1#32
  | 101 => 16#32
  | 102 => 4#32
  | 103 => 8#32
  | 104 => 4#32
  | 105 => 8#32
  | 106 => 8#32
  | 107 => 8#32
  | 108 => 4#32
  | 109 => 1#32
  | 110 => 2#32
  | 111 => 16#32
  | 112 => 8#32
  | 113 => 8#32
  | 114 => 8#32
  | 115 => 2#32
  | 116 => 4#32
  | 117 => 2#32
  | 118 => 8#32
  | 119 => 4#32
  | 120 => 2#32
  | 121 => 1#32
  | 122 => 8#32
  | 123 => 16#32
  | 124 => 16#32
  | 125 => 2#32
  | 126 => 1#32
  | 127 => 1#32
  | _ => 0#32

noncomputable abbrev lit3t0_65 (i : Nat) : BitVec 32 := match i % 128 with
  | 0 => 16#32
  | 1 => 4#32
  | 2 => 8#32
  | 3 => 1#32
  | 4 => 1#32
  | 5 => 1#32
  | 6 => 1#32
  | 7 => 1#32
  | 8 => 2#32
  | 9 => 16#32
  | 10 => 4#32
  | 11 => 8#32
  | 12 => 4#32
  | 13 => 1#32
  | 14 => 16#32
  | 15 => 8#32
  | 16 => 8#32
  | 17 => 16#32
  | 18 => 16#32
  | 19 => 4#32
  | 20 => 1#32
  | 21 => 8#32
  | 22 => 2#32
  | 23 => 8#32
  | 24 => 4#32
  | 25 => 8#32
  | 26 => 1#32
  | 27 => 1#32
  | 28 => 16#32
  | 29 => 16#32
  | 30 => 2#32
  | 31 => 2#32
  | 32 => 8#32
  | 33 => 4#32
  | 34 => 16#32
  | 35 => 1#32
  | 36 => 8#32
  | 37 => 2#32
  | 38 => 8#32
  | 39 => 16#32
  | 40 => 2#32
  | 41 => 16#32
  | 42 => 1#32
  | 43 => 4#32
  | 44 => 1#32
  | 45 => 16#32
  | 46 => 1#32
  | 47 => 4#32
  | 48 => 8#32
  | 49 => 16#32
  | 50 => 2#32
  | 51 => 2#32
  | 52 => 8#32
  | 53 => 2#32
  | 54 => 8#32
  | 55 => 2#32
  | 56 => 1#32
  | 57 => 2#32
  | 58 => 8#32
  | 59 => 8#32
  | 60 => 16#32
  | 61 => 4#32
  | 62 => 1#32
  | 63 => 4#32
  | 64 => 4#32
  | 65 => 2#32
  | 66 => 2#32
  | 67 => 16#32
  | 68 => 1#32
  | 69 => 8#32
  | 70 => 8#32
  | 71 => 2#32
  | 72 => 1#32
  | 73 => 1#32
  | 74 => 4#32
  | 75 => 1#32
  | 76 => 8#32
  | 77 => 4#32
  | 78 => 1#32
  | 79 => 16#32
  | 80 => 16#32
  | 81 => 1#32
  | 82 => 1#32
  | 83 => 2#32
  | 84 => 4#32
  | 85 => 16#32
  | 86 => 2#32
  | 87 => 16#32
  | 88 => 4#32
  | 89 => 2#32
  | 90 => 1#32
  | 91 => 8#32
  | 92 => 2#32
  | 93 => 8#32
  | 94 => 2#32
  | 95 => 16#32
  | 96 => 8#32
  | 97 => 4#32
  | 98 => 4#32
  | 99 => 2#32
  | 100 => 1#32
  | 101 => 1#32
  | 102 => 1#32
  | 103 => 16#32
  | 104 => 4#32
  | 105 => 2#32
  | 106 => 2#32
  | 107 => 16#32
  | 108 => 8#32
  | 109 => 4#32
  | 110 => 4#32
  | 111 => 8#32
  | 112 => 8#32
  | 113 => 16#32
  | 114 => 2#32
  | 115 => 4#32
  | 116 => 4#32
  | 117 => 8#32
  | 118 => 4#32
  | 119 => 4#32
  | 120 => 2#32
  | 121 => 4#32
  | 122 => 16#32
  | 123 => 4#32
  | 124 => 8#32
  | 125 => 4#32
  | 126 => 8#32
  | 127 => 4#32
  | _ => 0#32

noncomputable abbrev lit3t0_66 (i : Nat) : BitVec 32 := match i % 128 with
  | 0 => 8#32
  | 1 => 8#32
  | 2 => 1#32
  | 3 => 1#32
  | 4 => 1#32
  | 5 => 1#32
  | 6 => 1#32
  | 7 => 4#32
  | 8 => 2#32
  | 9 => 8#32
  | 10 => 1#32
  | 11 => 4#32
  | 12 => 16#32
  | 13 => 4#32
  | 14 => 8#32
  | 15 => 4#32
  | 16 => 2#32
  | 17 => 2#32
  | 18 => 8#32
  | 19 => 16#32
  | 20 => 4#32
  | 21 => 16#32
  | 22 => 16#32
  | 23 => 16#32
  | 24 => 2#32
  | 25 => 4#32
  | 26 => 4#32
  | 27 => 1#32
  | 28 => 1#32
  | 29 => 2#32
  | 30 => 4#32
  | 31 => 2#32
  | 32 => 2#32
  | 33 => 16#32
  | 34 => 2#32
  | 35 => 1#32
  | 36 => 2#32
  | 37 => 8#32
  | 38 => 2#32
  | 39 => 16#32
  | 40 => 1#32
  | 41 => 2#32
  | 42 => 4#32
  | 43 => 16#32
  | 44 => 2#32
  | 45 => 16#32
  | 46 => 8#32
  | 47 => 8#32
  | 48 => 4#32
  | 49 => 1#32
  | 50 => 4#32
  | 51 => 4#32
  | 52 => 16#32
  | 53 => 4#32
  | 54 => 8#32
  | 55 => 2#32
  | 56 => 1#32
  | 57 => 4#32
  | 58 => 2#32
  | 59 => 2#32
  | 60 => 16#32
  | 61 => 1#32
  | 62 => 4#32
  | 63 => 8#32
  | 64 => 8#32
  | 65 => 1#32
  | 66 => 4#32
  | 67 => 2#32
  | 68 => 2#32
  | 69 => 8#32
  | 70 => 8#32
  | 71 => 2#32
  | 72 => 8#32
  | 73 => 2#32
  | 74 => 8#32
  | 75 => 16#32
  | 76 => 16#32
  | 77 => 1#32
  | 78 => 1#32
  | 79 => 8#32
  | 80 => 2#32
  | 81 => 1#32
  | 82 => 16#32
  | 83 => 2#32
  | 84 => 16#32
  | 85 => 2#32
  | 86 => 2#32
  | 87 => 1#32
  | 88 => 2#32
  | 89 => 16#32
  | 90 => 16#32
  | 91 => 4#32
  | 92 => 4#32
  | 93 => 4#32
  | 94 => 8#32
  | 95 => 1#32
  | 96 => 1#32
  | 97 => 2#32
  | 98 => 16#32
  | 99 => 2#32
  | 100 => 16#32
  | 101 => 1#32
  | 102 => 1#32
  | 103 => 8#32
  | 104 => 16#32
  | 105 => 2#32
  | 106 => 16#32
  | 107 => 4#32
  | 108 => 8#32
  | 109 => 16#32
  | 110 => 4#32
  | 111 => 1#32
  | 112 => 16#32
  | 113 => 16#32
  | 114 => 2#32
  | 115 => 2#32
  | 116 => 16#32
  | 117 => 2#32
  | 118 => 1#32
  | 119 => 1#32
  | 120 => 1#32
  | 121 => 16#32
  | 122 => 8#32
  | 123 => 1#32
  | 124 => 4#32
  | 125 => 1#32
  | 126 => 8#32
  | 127 => 16#32
  | _ => 0#32

noncomputable abbrev lit3t0_67 (i : Nat) : BitVec 32 := match i % 128 with
  | 0 => 1#32
  | 1 => 16#32
  | 2 => 16#32
  | 3 => 4#32
  | 4 => 16#32
  | 5 => 2#32
  | 6 => 2#32
  | 7 => 8#32
  | 8 => 16#32
  | 9 => 1#32
  | 10 => 16#32
  | 11 => 1#32
  | 12 => 2#32
  | 13 => 8#32
  | 14 => 1#32
  | 15 => 16#32
  | 16 => 16#32
  | 17 => 8#32
  | 18 => 4#32
  | 19 => 16#32
  | 20 => 4#32
  | 21 => 16#32
  | 22 => 2#32
  | 23 => 2#32
  | 24 => 16#32
  | 25 => 4#32
  | 26 => 16#32
  | 27 => 4#32
  | 28 => 2#32
  | 29 => 8#32
  | 30 => 8#32
  | 31 => 1#32
  | 32 => 4#32
  | 33 => 16#32
  | 34 => 4#32
  | 35 => 8#32
  | 36 => 16#32
  | 37 => 8#32
  | 38 => 4#32
  | 39 => 16#32
  | 40 => 2#32
  | 41 => 8#32
  | 42 => 1#32
  | 43 => 16#32
  | 44 => 4#32
  | 45 => 1#32
  | 46 => 8#32
  | 47 => 4#32
  | 48 => 1#32
  | 49 => 1#32
  | 50 => 8#32
  | 51 => 8#32
  | 52 => 4#32
  | 53 => 16#32
  | 54 => 2#32
  | 55 => 1#32
  | 56 => 8#32
  | 57 => 1#32
  | 58 => 1#32
  | 59 => 4#32
  | 60 => 2#32
  | 61 => 1#32
  | 62 => 8#32
  | 63 => 8#32
  | 64 => 8#32
  | 65 => 4#32
  | 66 => 4#32
  | 67 => 4#32
  | 68 => 4#32
  | 69 => 8#32
  | 70 => 2#32
  | 71 => 2#32
  | 72 => 8#32
  | 73 => 16#32
  | 74 => 8#32
  | 75 => 4#32
  | 76 => 4#32
  | 77 => 2#32
  | 78 => 1#32
  | 79 => 2#32
  | 80 => 4#32
  | 81 => 1#32
  | 82 => 1#32
  | 83 => 1#32
  | 84 => 2#32
  | 85 => 1#32
  | 86 => 4#32
  | 87 => 16#32
  | 88 => 8#32
  | 89 => 16#32
  | 90 => 16#32
  | 91 => 2#32
  | 92 => 1#32
  | 93 => 4#32
  | 94 => 16#32
  | 95 => 1#32
  | 96 => 4#32
  | 97 => 16#32
  | 98 => 4#32
  | 99 => 16#32
  | 100 => 8#32
  | 101 => 1#32
  | 102 => 4#32
  | 103 => 16#32
  | 104 => 8#32
  | 105 => 2#32
  | 106 => 1#32
  | 107 => 16#32
  | 108 => 4#32
  | 109 => 8#32
  | 110 => 2#32
  | 111 => 16#32
  | 112 => 8#32
  | 113 => 16#32
  | 114 => 1#32
  | 115 => 4#32
  | 116 => 16#32
  | 117 => 8#32
  | 118 => 8#32
  | 119 => 1#32
  | 120 => 8#32
  | 121 => 1#32
  | 122 => 4#32
  | 123 => 8#32
  | 124 => 8#32
  | 125 => 16#32
  | 126 => 8#32
  | 127 => 8#32
  | _ => 0#32

noncomputable abbrev lit3t0_68 (i : Nat) : BitVec 32 := match i % 128 with
  | 0 => 8#32
  | 1 => 2#32
  | 2 => 16#32
  | 3 => 2#32
  | 4 => 16#32
  | 5 => 2#32
  | 6 => 1#32
  | 7 => 1#32
  | 8 => 4#32
  | 9 => 4#32
  | 10 => 1#32
  | 11 => 1#32
  | 12 => 1#32
  | 13 => 1#32
  | 14 => 2#32
  | 15 => 4#32
  | 16 => 2#32
  | 17 => 8#32
  | 18 => 2#32
  | 19 => 1#32
  | 20 => 1#32
  | 21 => 1#32
  | 22 => 16#32
  | 23 => 8#32
  | 24 => 1#32
  | 25 => 16#32
  | 26 => 1#32
  | 27 => 4#32
  | 28 => 2#32
  | 29 => 2#32
  | 30 => 16#32
  | 31 => 16#32
  | 32 => 4#32
  | 33 => 2#32
  | 34 => 2#32
  | 35 => 16#32
  | 36 => 2#32
  | 37 => 2#32
  | 38 => 2#32
  | 39 => 8#32
  | 40 => 1#32
  | 41 => 4#32
  | 42 => 1#32
  | 43 => 16#32
  | 44 => 2#32
  | 45 => 8#32
  | 46 => 8#32
  | 47 => 4#32
  | 48 => 8#32
  | 49 => 4#32
  | 50 => 1#32
  | 51 => 1#32
  | 52 => 2#32
  | 53 => 4#32
  | 54 => 2#32
  | 55 => 1#32
  | 56 => 2#32
  | 57 => 1#32
  | 58 => 8#32
  | 59 => 2#32
  | 60 => 2#32
  | 61 => 8#32
  | 62 => 16#32
  | 63 => 1#32
  | 64 => 8#32
  | 65 => 8#32
  | 66 => 8#32
  | 67 => 4#32
  | 68 => 1#32
  | 69 => 8#32
  | 70 => 4#32
  | 71 => 2#32
  | 72 => 4#32
  | 73 => 2#32
  | 74 => 1#32
  | 75 => 4#32
  | 76 => 16#32
  | 77 => 8#32
  | 78 => 1#32
  | 79 => 4#32
  | 80 => 16#32
  | 81 => 4#32
  | 82 => 4#32
  | 83 => 2#32
  | 84 => 8#32
  | 85 => 8#32
  | 86 => 4#32
  | 87 => 1#32
  | 88 => 2#32
  | 89 => 4#32
  | 90 => 4#32
  | 91 => 4#32
  | 92 => 1#32
  | 93 => 4#32
  | 94 => 2#32
  | 95 => 16#32
  | 96 => 1#32
  | 97 => 16#32
  | 98 => 8#32
  | 99 => 1#32
  | 100 => 16#32
  | 101 => 1#32
  | 102 => 4#32
  | 103 => 16#32
  | 104 => 2#32
  | 105 => 16#32
  | 106 => 16#32
  | 107 => 1#32
  | 108 => 16#32
  | 109 => 16#32
  | 110 => 1#32
  | 111 => 16#32
  | 112 => 4#32
  | 113 => 8#32
  | 114 => 4#32
  | 115 => 8#32
  | 116 => 2#32
  | 117 => 1#32
  | 118 => 16#32
  | 119 => 1#32
  | 120 => 2#32
  | 121 => 4#32
  | 122 => 4#32
  | 123 => 1#32
  | 124 => 1#32
  | 125 => 2#32
  | 126 => 4#32
  | 127 => 1#32
  | _ => 0#32

noncomputable abbrev lit3t0_69 (i : Nat) : BitVec 32 := match i % 128 with
  | 0 => 1#32
  | 1 => 16#32
  | 2 => 8#32
  | 3 => 4#32
  | 4 => 8#32
  | 5 => 8#32
  | 6 => 4#32
  | 7 => 4#32
  | 8 => 1#32
  | 9 => 4#32
  | 10 => 2#32
  | 11 => 1#32
  | 12 => 8#32
  | 13 => 1#32
  | 14 => 8#32
  | 15 => 4#32
  | 16 => 4#32
  | 17 => 2#32
  | 18 => 8#32
  | 19 => 4#32
  | 20 => 16#32
  | 21 => 16#32
  | 22 => 1#32
  | 23 => 16#32
  | 24 => 1#32
  | 25 => 4#32
  | 26 => 16#32
  | 27 => 16#32
  | 28 => 4#32
  | 29 => 4#32
  | 30 => 4#32
  | 31 => 4#32
  | 32 => 16#32
  | 33 => 1#32
  | 34 => 16#32
  | 35 => 4#32
  | 36 => 8#32
  | 37 => 1#32
  | 38 => 8#32
  | 39 => 4#32
  | 40 => 2#32
  | 41 => 8#32
  | 42 => 2#32
  | 43 => 2#32
  | 44 => 8#32
  | 45 => 16#32
  | 46 => 16#32
  | 47 => 1#32
  | 48 => 4#32
  | 49 => 16#32
  | 50 => 2#32
  | 51 => 2#32
  | 52 => 16#32
  | 53 => 16#32
  | 54 => 8#32
  | 55 => 4#32
  | 56 => 8#32
  | 57 => 16#32
  | 58 => 4#32
  | 59 => 16#32
  | 60 => 2#32
  | 61 => 2#32
  | 62 => 4#32
  | 63 => 1#32
  | 64 => 8#32
  | 65 => 8#32
  | 66 => 16#32
  | 67 => 4#32
  | 68 => 4#32
  | 69 => 1#32
  | 70 => 2#32
  | 71 => 1#32
  | 72 => 4#32
  | 73 => 4#32
  | 74 => 8#32
  | 75 => 2#32
  | 76 => 2#32
  | 77 => 8#32
  | 78 => 16#32
  | 79 => 1#32
  | 80 => 16#32
  | 81 => 1#32
  | 82 => 2#32
  | 83 => 4#32
  | 84 => 1#32
  | 85 => 4#32
  | 86 => 1#32
  | 87 => 16#32
  | 88 => 8#32
  | 89 => 4#32
  | 90 => 8#32
  | 91 => 1#32
  | 92 => 2#32
  | 93 => 1#32
  | 94 => 16#32
  | 95 => 2#32
  | 96 => 16#32
  | 97 => 8#32
  | 98 => 1#32
  | 99 => 1#32
  | 100 => 2#32
  | 101 => 16#32
  | 102 => 16#32
  | 103 => 2#32
  | 104 => 1#32
  | 105 => 16#32
  | 106 => 1#32
  | 107 => 16#32
  | 108 => 16#32
  | 109 => 2#32
  | 110 => 4#32
  | 111 => 16#32
  | 112 => 8#32
  | 113 => 8#32
  | 114 => 2#32
  | 115 => 16#32
  | 116 => 1#32
  | 117 => 1#32
  | 118 => 8#32
  | 119 => 8#32
  | 120 => 16#32
  | 121 => 1#32
  | 122 => 16#32
  | 123 => 4#32
  | 124 => 8#32
  | 125 => 8#32
  | 126 => 16#32
  | 127 => 1#32
  | _ => 0#32

noncomputable abbrev lit3t0_70 (i : Nat) : BitVec 32 := match i % 128 with
  | 0 => 4#32
  | 1 => 4#32
  | 2 => 1#32
  | 3 => 4#32
  | 4 => 16#32
  | 5 => 1#32
  | 6 => 1#32
  | 7 => 1#32
  | 8 => 2#32
  | 9 => 16#32
  | 10 => 16#32
  | 11 => 16#32
  | 12 => 16#32
  | 13 => 4#32
  | 14 => 16#32
  | 15 => 16#32
  | 16 => 1#32
  | 17 => 4#32
  | 18 => 1#32
  | 19 => 1#32
  | 20 => 1#32
  | 21 => 1#32
  | 22 => 16#32
  | 23 => 2#32
  | 24 => 4#32
  | 25 => 2#32
  | 26 => 2#32
  | 27 => 4#32
  | 28 => 4#32
  | 29 => 1#32
  | 30 => 2#32
  | 31 => 4#32
  | 32 => 2#32
  | 33 => 8#32
  | 34 => 8#32
  | 35 => 4#32
  | 36 => 4#32
  | 37 => 8#32
  | 38 => 4#32
  | 39 => 8#32
  | 40 => 2#32
  | 41 => 4#32
  | 42 => 2#32
  | 43 => 8#32
  | 44 => 4#32
  | 45 => 4#32
  | 46 => 1#32
  | 47 => 16#32
  | 48 => 4#32
  | 49 => 4#32
  | 50 => 1#32
  | 51 => 16#32
  | 52 => 16#32
  | 53 => 8#32
  | 54 => 16#32
  | 55 => 1#32
  | 56 => 2#32
  | 57 => 1#32
  | 58 => 8#32
  | 59 => 2#32
  | 60 => 4#32
  | 61 => 1#32
  | 62 => 8#32
  | 63 => 2#32
  | 64 => 16#32
  | 65 => 2#32
  | 66 => 16#32
  | 67 => 8#32
  | 68 => 1#32
  | 69 => 4#32
  | 70 => 4#32
  | 71 => 2#32
  | 72 => 1#32
  | 73 => 1#32
  | 74 => 1#32
  | 75 => 1#32
  | 76 => 2#32
  | 77 => 2#32
  | 78 => 8#32
  | 79 => 1#32
  | 80 => 4#32
  | 81 => 16#32
  | 82 => 8#32
  | 83 => 8#32
  | 84 => 16#32
  | 85 => 4#32
  | 86 => 8#32
  | 87 => 16#32
  | 88 => 4#32
  | 89 => 2#32
  | 90 => 8#32
  | 91 => 4#32
  | 92 => 8#32
  | 93 => 4#32
  | 94 => 2#32
  | 95 => 2#32
  | 96 => 1#32
  | 97 => 2#32
  | 98 => 8#32
  | 99 => 2#32
  | 100 => 1#32
  | 101 => 4#32
  | 102 => 8#32
  | 103 => 4#32
  | 104 => 16#32
  | 105 => 4#32
  | 106 => 16#32
  | 107 => 1#32
  | 108 => 2#32
  | 109 => 8#32
  | 110 => 8#32
  | 111 => 8#32
  | 112 => 2#32
  | 113 => 8#32
  | 114 => 16#32
  | 115 => 4#32
  | 116 => 2#32
  | 117 => 16#32
  | 118 => 1#32
  | 119 => 16#32
  | 120 => 1#32
  | 121 => 2#32
  | 122 => 2#32
  | 123 => 2#32
  | 124 => 1#32
  | 125 => 2#32
  | 126 => 4#32
  | 127 => 2#32
  | _ => 0#32

noncomputable abbrev lit3t0_71 (i : Nat) : BitVec 32 := match i % 128 with
  | 0 => 1#32
  | 1 => 8#32
  | 2 => 4#32
  | 3 => 8#32
  | 4 => 1#32
  | 5 => 4#32
  | 6 => 4#32
  | 7 => 16#32
  | 8 => 8#32
  | 9 => 2#32
  | 10 => 2#32
  | 11 => 2#32
  | 12 => 2#32
  | 13 => 1#32
  | 14 => 4#32
  | 15 => 8#32
  | 16 => 8#32
  | 17 => 1#32
  | 18 => 1#32
  | 19 => 2#32
  | 20 => 8#32
  | 21 => 2#32
  | 22 => 4#32
  | 23 => 2#32
  | 24 => 8#32
  | 25 => 8#32
  | 26 => 2#32
  | 27 => 8#32
  | 28 => 16#32
  | 29 => 8#32
  | 30 => 2#32
  | 31 => 1#32
  | 32 => 1#32
  | 33 => 16#32
  | 34 => 2#32
  | 35 => 4#32
  | 36 => 2#32
  | 37 => 8#32
  | 38 => 16#32
  | 39 => 4#32
  | 40 => 8#32
  | 41 => 2#32
  | 42 => 2#32
  | 43 => 8#32
  | 44 => 4#32
  | 45 => 2#32
  | 46 => 4#32
  | 47 => 4#32
  | 48 => 2#32
  | 49 => 8#32
  | 50 => 2#32
  | 51 => 4#32
  | 52 => 1#32
  | 53 => 1#32
  | 54 => 4#32
  | 55 => 2#32
  | 56 => 1#32
  | 57 => 2#32
  | 58 => 2#32
  | 59 => 16#32
  | 60 => 8#32
  | 61 => 16#32
  | 62 => 16#32
  | 63 => 2#32
  | 64 => 1#32
  | 65 => 16#32
  | 66 => 8#32
  | 67 => 16#32
  | 68 => 2#32
  | 69 => 2#32
  | 70 => 16#32
  | 71 => 1#32
  | 72 => 8#32
  | 73 => 8#32
  | 74 => 16#32
  | 75 => 16#32
  | 76 => 8#32
  | 77 => 4#32
  | 78 => 16#32
  | 79 => 16#32
  | 80 => 16#32
  | 81 => 2#32
  | 82 => 8#32
  | 83 => 8#32
  | 84 => 2#32
  | 85 => 8#32
  | 86 => 4#32
  | 87 => 2#32
  | 88 => 16#32
  | 89 => 16#32
  | 90 => 2#32
  | 91 => 8#32
  | 92 => 8#32
  | 93 => 8#32
  | 94 => 8#32
  | 95 => 2#32
  | 96 => 8#32
  | 97 => 8#32
  | 98 => 16#32
  | 99 => 2#32
  | 100 => 16#32
  | 101 => 2#32
  | 102 => 16#32
  | 103 => 16#32
  | 104 => 1#32
  | 105 => 2#32
  | 106 => 16#32
  | 107 => 16#32
  | 108 => 4#32
  | 109 => 8#32
  | 110 => 1#32
  | 111 => 4#32
  | 112 => 2#32
  | 113 => 2#32
  | 114 => 1#32
  | 115 => 1#32
  | 116 => 4#32
  | 117 => 8#32
  | 118 => 1#32
  | 119 => 16#32
  | 120 => 16#32
  | 121 => 4#32
  | 122 => 4#32
  | 123 => 2#32
  | 124 => 16#32
  | 125 => 2#32
  | 126 => 4#32
  | 127 => 8#32
  | _ => 0#32

noncomputable abbrev lit3t0_72 (i : Nat) : BitVec 32 := match i % 128 with
  | 0 => 2#32
  | 1 => 2#32
  | 2 => 2#32
  | 3 => 16#32
  | 4 => 1#32
  | 5 => 8#32
  | 6 => 16#32
  | 7 => 2#32
  | 8 => 1#32
  | 9 => 1#32
  | 10 => 1#32
  | 11 => 2#32
  | 12 => 1#32
  | 13 => 8#32
  | 14 => 16#32
  | 15 => 16#32
  | 16 => 16#32
  | 17 => 4#32
  | 18 => 16#32
  | 19 => 8#32
  | 20 => 2#32
  | 21 => 16#32
  | 22 => 8#32
  | 23 => 1#32
  | 24 => 1#32
  | 25 => 4#32
  | 26 => 8#32
  | 27 => 16#32
  | 28 => 2#32
  | 29 => 8#32
  | 30 => 4#32
  | 31 => 4#32
  | 32 => 2#32
  | 33 => 2#32
  | 34 => 4#32
  | 35 => 2#32
  | 36 => 2#32
  | 37 => 8#32
  | 38 => 16#32
  | 39 => 4#32
  | 40 => 4#32
  | 41 => 16#32
  | 42 => 8#32
  | 43 => 2#32
  | 44 => 1#32
  | 45 => 1#32
  | 46 => 8#32
  | 47 => 16#32
  | 48 => 4#32
  | 49 => 1#32
  | 50 => 4#32
  | 51 => 8#32
  | 52 => 1#32
  | 53 => 8#32
  | 54 => 1#32
  | 55 => 4#32
  | 56 => 16#32
  | 57 => 16#32
  | 58 => 16#32
  | 59 => 8#32
  | 60 => 2#32
  | 61 => 1#32
  | 62 => 2#32
  | 63 => 1#32
  | 64 => 16#32
  | 65 => 8#32
  | 66 => 8#32
  | 67 => 8#32
  | 68 => 16#32
  | 69 => 4#32
  | 70 => 16#32
  | 71 => 8#32
  | 72 => 1#32
  | 73 => 2#32
  | 74 => 16#32
  | 75 => 2#32
  | 76 => 8#32
  | 77 => 16#32
  | 78 => 1#32
  | 79 => 4#32
  | 80 => 8#32
  | 81 => 2#32
  | 82 => 16#32
  | 83 => 4#32
  | 84 => 16#32
  | 85 => 16#32
  | 86 => 2#32
  | 87 => 4#32
  | 88 => 16#32
  | 89 => 16#32
  | 90 => 4#32
  | 91 => 1#32
  | 92 => 8#32
  | 93 => 2#32
  | 94 => 8#32
  | 95 => 1#32
  | 96 => 16#32
  | 97 => 4#32
  | 98 => 16#32
  | 99 => 4#32
  | 100 => 16#32
  | 101 => 2#32
  | 102 => 1#32
  | 103 => 4#32
  | 104 => 16#32
  | 105 => 1#32
  | 106 => 2#32
  | 107 => 16#32
  | 108 => 1#32
  | 109 => 8#32
  | 110 => 2#32
  | 111 => 8#32
  | 112 => 2#32
  | 113 => 8#32
  | 114 => 16#32
  | 115 => 8#32
  | 116 => 16#32
  | 117 => 4#32
  | 118 => 4#32
  | 119 => 16#32
  | 120 => 2#32
  | 121 => 16#32
  | 122 => 16#32
  | 123 => 4#32
  | 124 => 1#32
  | 125 => 8#32
  | 126 => 4#32
  | 127 => 1#32
  | _ => 0#32

noncomputable abbrev lit3t0_73 (i : Nat) : BitVec 32 := match i % 128 with
  | 0 => 8#32
  | 1 => 2#32
  | 2 => 16#32
  | 3 => 1#32
  | 4 => 1#32
  | 5 => 4#32
  | 6 => 8#32
  | 7 => 4#32
  | 8 => 16#32
  | 9 => 4#32
  | 10 => 1#32
  | 11 => 2#32
  | 12 => 8#32
  | 13 => 4#32
  | 14 => 1#32
  | 15 => 2#32
  | 16 => 8#32
  | 17 => 2#32
  | 18 => 4#32
  | 19 => 2#32
  | 20 => 4#32
  | 21 => 1#32
  | 22 => 8#32
  | 23 => 2#32
  | 24 => 1#32
  | 25 => 4#32
  | 26 => 16#32
  | 27 => 8#32
  | 28 => 16#32
  | 29 => 1#32
  | 30 => 2#32
  | 31 => 16#32
  | 32 => 1#32
  | 33 => 1#32
  | 34 => 16#32
  | 35 => 8#32
  | 36 => 4#32
  | 37 => 2#32
  | 38 => 2#32
  | 39 => 16#32
  | 40 => 2#32
  | 41 => 2#32
  | 42 => 4#32
  | 43 => 1#32
  | 44 => 4#32
  | 45 => 4#32
  | 46 => 2#32
  | 47 => 2#32
  | 48 => 2#32
  | 49 => 1#32
  | 50 => 1#32
  | 51 => 8#32
  | 52 => 2#32
  | 53 => 8#32
  | 54 => 1#32
  | 55 => 2#32
  | 56 => 16#32
  | 57 => 1#32
  | 58 => 1#32
  | 59 => 4#32
  | 60 => 16#32
  | 61 => 8#32
  | 62 => 1#32
  | 63 => 1#32
  | 64 => 1#32
  | 65 => 2#32
  | 66 => 8#32
  | 67 => 16#32
  | 68 => 16#32
  | 69 => 8#32
  | 70 => 2#32
  | 71 => 1#32
  | 72 => 4#32
  | 73 => 16#32
  | 74 => 8#32
  | 75 => 16#32
  | 76 => 16#32
  | 77 => 1#32
  | 78 => 2#32
  | 79 => 2#32
  | 80 => 4#32
  | 81 => 4#32
  | 82 => 16#32
  | 83 => 16#32
  | 84 => 16#32
  | 85 => 4#32
  | 86 => 2#32
  | 87 => 4#32
  | 88 => 4#32
  | 89 => 4#32
  | 90 => 8#32
  | 91 => 2#32
  | 92 => 16#32
  | 93 => 1#32
  | 94 => 2#32
  | 95 => 1#32
  | 96 => 1#32
  | 97 => 16#32
  | 98 => 4#32
  | 99 => 4#32
  | 100 => 16#32
  | 101 => 4#32
  | 102 => 8#32
  | 103 => 4#32
  | 104 => 8#32
  | 105 => 4#32
  | 106 => 16#32
  | 107 => 8#32
  | 108 => 2#32
  | 109 => 8#32
  | 110 => 8#32
  | 111 => 2#32
  | 112 => 2#32
  | 113 => 1#32
  | 114 => 2#32
  | 115 => 2#32
  | 116 => 1#32
  | 117 => 4#32
  | 118 => 16#32
  | 119 => 16#32
  | 120 => 4#32
  | 121 => 2#32
  | 122 => 8#32
  | 123 => 1#32
  | 124 => 4#32
  | 125 => 16#32
  | 126 => 1#32
  | 127 => 1#32
  | _ => 0#32

noncomputable abbrev lit3t0_74 (i : Nat) : BitVec 32 := match i % 128 with
  | 0 => 1#32
  | 1 => 16#32
  | 2 => 16#32
  | 3 => 2#32
  | 4 => 1#32
  | 5 => 4#32
  | 6 => 8#32
  | 7 => 1#32
  | 8 => 16#32
  | 9 => 1#32
  | 10 => 16#32
  | 11 => 2#32
  | 12 => 16#32
  | 13 => 2#32
  | 14 => 16#32
  | 15 => 8#32
  | 16 => 1#32
  | 17 => 8#32
  | 18 => 2#32
  | 19 => 8#32
  | 20 => 2#32
  | 21 => 4#32
  | 22 => 1#32
  | 23 => 8#32
  | 24 => 2#32
  | 25 => 16#32
  | 26 => 1#32
  | 27 => 1#32
  | 28 => 16#32
  | 29 => 8#32
  | 30 => 1#32
  | 31 => 4#32
  | 32 => 2#32
  | 33 => 1#32
  | 34 => 8#32
  | 35 => 8#32
  | 36 => 1#32
  | 37 => 16#32
  | 38 => 4#32
  | 39 => 1#32
  | 40 => 4#32
  | 41 => 16#32
  | 42 => 1#32
  | 43 => 16#32
  | 44 => 16#32
  | 45 => 16#32
  | 46 => 16#32
  | 47 => 4#32
  | 48 => 16#32
  | 49 => 8#32
  | 50 => 4#32
  | 51 => 16#32
  | 52 => 8#32
  | 53 => 8#32
  | 54 => 8#32
  | 55 => 4#32
  | 56 => 1#32
  | 57 => 1#32
  | 58 => 2#32
  | 59 => 4#32
  | 60 => 8#32
  | 61 => 16#32
  | 62 => 8#32
  | 63 => 1#32
  | 64 => 2#32
  | 65 => 1#32
  | 66 => 2#32
  | 67 => 8#32
  | 68 => 16#32
  | 69 => 2#32
  | 70 => 4#32
  | 71 => 16#32
  | 72 => 2#32
  | 73 => 4#32
  | 74 => 16#32
  | 75 => 4#32
  | 76 => 4#32
  | 77 => 4#32
  | 78 => 1#32
  | 79 => 8#32
  | 80 => 2#32
  | 81 => 4#32
  | 82 => 1#32
  | 83 => 4#32
  | 84 => 2#32
  | 85 => 4#32
  | 86 => 4#32
  | 87 => 4#32
  | 88 => 8#32
  | 89 => 2#32
  | 90 => 2#32
  | 91 => 16#32
  | 92 => 1#32
  | 93 => 1#32
  | 94 => 16#32
  | 95 => 8#32
  | 96 => 2#32
  | 97 => 1#32
  | 98 => 1#32
  | 99 => 16#32
  | 100 => 1#32
  | 101 => 16#32
  | 102 => 4#32
  | 103 => 2#32
  | 104 => 2#32
  | 105 => 8#32
  | 106 => 2#32
  | 107 => 8#32
  | 108 => 1#32
  | 109 => 1#32
  | 110 => 4#32
  | 111 => 8#32
  | 112 => 2#32
  | 113 => 4#32
  | 114 => 1#32
  | 115 => 2#32
  | 116 => 8#32
  | 117 => 8#32
  | 118 => 4#32
  | 119 => 1#32
  | 120 => 4#32
  | 121 => 1#32
  | 122 => 4#32
  | 123 => 1#32
  | 124 => 4#32
  | 125 => 8#32
  | 126 => 2#32
  | 127 => 4#32
  | _ => 0#32

noncomputable abbrev lit3t0_75 (i : Nat) : BitVec 32 := match i % 128 with
  | 0 => 1#32
  | 1 => 16#32
  | 2 => 1#32
  | 3 => 1#32
  | 4 => 4#32
  | 5 => 4#32
  | 6 => 8#32
  | 7 => 1#32
  | 8 => 1#32
  | 9 => 16#32
  | 10 => 8#32
  | 11 => 2#32
  | 12 => 1#32
  | 13 => 1#32
  | 14 => 16#32
  | 15 => 4#32
  | 16 => 8#32
  | 17 => 1#32
  | 18 => 1#32
  | 19 => 16#32
  | 20 => 16#32
  | 21 => 8#32
  | 22 => 8#32
  | 23 => 4#32
  | 24 => 8#32
  | 25 => 2#32
  | 26 => 1#32
  | 27 => 1#32
  | 28 => 8#32
  | 29 => 16#32
  | 30 => 16#32
  | 31 => 8#32
  | 32 => 1#32
  | 33 => 16#32
  | 34 => 1#32
  | 35 => 1#32
  | 36 => 1#32
  | 37 => 4#32
  | 38 => 4#32
  | 39 => 1#32
  | 40 => 1#32
  | 41 => 4#32
  | 42 => 2#32
  | 43 => 2#32
  | 44 => 4#32
  | 45 => 4#32
  | 46 => 8#32
  | 47 => 16#32
  | 48 => 4#32
  | 49 => 2#32
  | 50 => 2#32
  | 51 => 2#32
  | 52 => 1#32
  | 53 => 2#32
  | 54 => 1#32
  | 55 => 4#32
  | 56 => 8#32
  | 57 => 8#32
  | 58 => 2#32
  | 59 => 4#32
  | 60 => 4#32
  | 61 => 2#32
  | 62 => 16#32
  | 63 => 2#32
  | 64 => 2#32
  | 65 => 1#32
  | 66 => 2#32
  | 67 => 2#32
  | 68 => 4#32
  | 69 => 8#32
  | 70 => 8#32
  | 71 => 4#32
  | 72 => 8#32
  | 73 => 4#32
  | 74 => 16#32
  | 75 => 2#32
  | 76 => 4#32
  | 77 => 16#32
  | 78 => 4#32
  | 79 => 16#32
  | 80 => 16#32
  | 81 => 4#32
  | 82 => 8#32
  | 83 => 8#32
  | 84 => 4#32
  | 85 => 16#32
  | 86 => 4#32
  | 87 => 1#32
  | 88 => 8#32
  | 89 => 1#32
  | 90 => 8#32
  | 91 => 8#32
  | 92 => 2#32
  | 93 => 2#32
  | 94 => 2#32
  | 95 => 2#32
  | 96 => 4#32
  | 97 => 8#32
  | 98 => 2#32
  | 99 => 16#32
  | 100 => 1#32
  | 101 => 2#32
  | 102 => 4#32
  | 103 => 8#32
  | 104 => 16#32
  | 105 => 16#32
  | 106 => 1#32
  | 107 => 4#32
  | 108 => 4#32
  | 109 => 4#32
  | 110 => 1#32
  | 111 => 4#32
  | 112 => 1#32
  | 113 => 2#32
  | 114 => 16#32
  | 115 => 8#32
  | 116 => 8#32
  | 117 => 1#32
  | 118 => 16#32
  | 119 => 16#32
  | 120 => 8#32
  | 121 => 8#32
  | 122 => 16#32
  | 123 => 1#32
  | 124 => 4#32
  | 125 => 4#32
  | 126 => 2#32
  | 127 => 8#32
  | _ => 0#32

noncomputable abbrev lit3t0_76 (i : Nat) : BitVec 32 := match i % 128 with
  | 0 => 2#32
  | 1 => 2#32
  | 2 => 16#32
  | 3 => 8#32
  | 4 => 1#32
  | 5 => 4#32
  | 6 => 16#32
  | 7 => 1#32
  | 8 => 2#32
  | 9 => 4#32
  | 10 => 16#32
  | 11 => 1#32
  | 12 => 1#32
  | 13 => 8#32
  | 14 => 16#32
  | 15 => 1#32
  | 16 => 4#32
  | 17 => 8#32
  | 18 => 4#32
  | 19 => 2#32
  | 20 => 1#32
  | 21 => 4#32
  | 22 => 4#32
  | 23 => 2#32
  | 24 => 8#32
  | 25 => 2#32
  | 26 => 2#32
  | 27 => 1#32
  | 28 => 4#32
  | 29 => 2#32
  | 30 => 2#32
  | 31 => 1#32
  | 32 => 2#32
  | 33 => 4#32
  | 34 => 2#32
  | 35 => 1#32
  | 36 => 8#32
  | 37 => 4#32
  | 38 => 2#32
  | 39 => 8#32
  | 40 => 8#32
  | 41 => 16#32
  | 42 => 2#32
  | 43 => 1#32
  | 44 => 8#32
  | 45 => 1#32
  | 46 => 2#32
  | 47 => 4#32
  | 48 => 16#32
  | 49 => 1#32
  | 50 => 4#32
  | 51 => 4#32
  | 52 => 8#32
  | 53 => 16#32
  | 54 => 16#32
  | 55 => 4#32
  | 56 => 4#32
  | 57 => 4#32
  | 58 => 8#32
  | 59 => 2#32
  | 60 => 8#32
  | 61 => 16#32
  | 62 => 1#32
  | 63 => 1#32
  | 64 => 1#32
  | 65 => 8#32
  | 66 => 4#32
  | 67 => 16#32
  | 68 => 4#32
  | 69 => 2#32
  | 70 => 4#32
  | 71 => 8#32
  | 72 => 4#32
  | 73 => 8#32
  | 74 => 1#32
  | 75 => 1#32
  | 76 => 2#32
  | 77 => 1#32
  | 78 => 4#32
  | 79 => 1#32
  | 80 => 4#32
  | 81 => 2#32
  | 82 => 16#32
  | 83 => 8#32
  | 84 => 1#32
  | 85 => 16#32
  | 86 => 2#32
  | 87 => 1#32
  | 88 => 8#32
  | 89 => 4#32
  | 90 => 4#32
  | 91 => 8#32
  | 92 => 16#32
  | 93 => 2#32
  | 94 => 2#32
  | 95 => 4#32
  | 96 => 16#32
  | 97 => 2#32
  | 98 => 16#32
  | 99 => 16#32
  | 100 => 16#32
  | 101 => 1#32
  | 102 => 2#32
  | 103 => 4#32
  | 104 => 4#32
  | 105 => 2#32
  | 106 => 2#32
  | 107 => 8#32
  | 108 => 4#32
  | 109 => 16#32
  | 110 => 2#32
  | 111 => 2#32
  | 112 => 4#32
  | 113 => 2#32
  | 114 => 2#32
  | 115 => 16#32
  | 116 => 1#32
  | 117 => 2#32
  | 118 => 8#32
  | 119 => 16#32
  | 120 => 4#32
  | 121 => 1#32
  | 122 => 8#32
  | 123 => 4#32
  | 124 => 4#32
  | 125 => 16#32
  | 126 => 16#32
  | 127 => 16#32
  | _ => 0#32

noncomputable abbrev lit3t0_77 (i : Nat) : BitVec 32 := match i % 128 with
  | 0 => 4#32
  | 1 => 16#32
  | 2 => 2#32
  | 3 => 16#32
  | 4 => 16#32
  | 5 => 16#32
  | 6 => 4#32
  | 7 => 8#32
  | 8 => 1#32
  | 9 => 2#32
  | 10 => 4#32
  | 11 => 1#32
  | 12 => 16#32
  | 13 => 8#32
  | 14 => 1#32
  | 15 => 16#32
  | 16 => 2#32
  | 17 => 1#32
  | 18 => 2#32
  | 19 => 16#32
  | 20 => 4#32
  | 21 => 16#32
  | 22 => 8#32
  | 23 => 16#32
  | 24 => 16#32
  | 25 => 4#32
  | 26 => 2#32
  | 27 => 4#32
  | 28 => 2#32
  | 29 => 2#32
  | 30 => 4#32
  | 31 => 8#32
  | 32 => 2#32
  | 33 => 16#32
  | 34 => 2#32
  | 35 => 8#32
  | 36 => 8#32
  | 37 => 1#32
  | 38 => 2#32
  | 39 => 2#32
  | 40 => 8#32
  | 41 => 2#32
  | 42 => 2#32
  | 43 => 2#32
  | 44 => 4#32
  | 45 => 16#32
  | 46 => 4#32
  | 47 => 1#32
  | 48 => 2#32
  | 49 => 1#32
  | 50 => 16#32
  | 51 => 4#32
  | 52 => 1#32
  | 53 => 8#32
  | 54 => 1#32
  | 55 => 2#32
  | 56 => 16#32
  | 57 => 4#32
  | 58 => 16#32
  | 59 => 1#32
  | 60 => 4#32
  | 61 => 1#32
  | 62 => 4#32
  | 63 => 4#32
  | 64 => 1#32
  | 65 => 16#32
  | 66 => 1#32
  | 67 => 16#32
  | 68 => 8#32
  | 69 => 2#32
  | 70 => 2#32
  | 71 => 2#32
  | 72 => 4#32
  | 73 => 8#32
  | 74 => 2#32
  | 75 => 16#32
  | 76 => 4#32
  | 77 => 16#32
  | 78 => 16#32
  | 79 => 1#32
  | 80 => 4#32
  | 81 => 1#32
  | 82 => 16#32
  | 83 => 8#32
  | 84 => 8#32
  | 85 => 4#32
  | 86 => 2#32
  | 87 => 4#32
  | 88 => 16#32
  | 89 => 2#32
  | 90 => 4#32
  | 91 => 4#32
  | 92 => 2#32
  | 93 => 4#32
  | 94 => 8#32
  | 95 => 16#32
  | 96 => 16#32
  | 97 => 16#32
  | 98 => 2#32
  | 99 => 8#32
  | 100 => 8#32
  | 101 => 1#32
  | 102 => 1#32
  | 103 => 4#32
  | 104 => 1#32
  | 105 => 16#32
  | 106 => 8#32
  | 107 => 4#32
  | 108 => 2#32
  | 109 => 8#32
  | 110 => 1#32
  | 111 => 2#32
  | 112 => 2#32
  | 113 => 8#32
  | 114 => 1#32
  | 115 => 2#32
  | 116 => 8#32
  | 117 => 1#32
  | 118 => 16#32
  | 119 => 4#32
  | 120 => 8#32
  | 121 => 8#32
  | 122 => 2#32
  | 123 => 8#32
  | 124 => 8#32
  | 125 => 16#32
  | 126 => 4#32
  | 127 => 4#32
  | _ => 0#32

noncomputable abbrev lit3t0_78 (i : Nat) : BitVec 32 := match i % 128 with
  | 0 => 1#32
  | 1 => 4#32
  | 2 => 8#32
  | 3 => 8#32
  | 4 => 1#32
  | 5 => 4#32
  | 6 => 16#32
  | 7 => 4#32
  | 8 => 16#32
  | 9 => 8#32
  | 10 => 2#32
  | 11 => 1#32
  | 12 => 8#32
  | 13 => 16#32
  | 14 => 16#32
  | 15 => 1#32
  | _ => 0#32

noncomputable abbrev lit3t (i : Nat) : BitVec 32 := match i / 128 with
  | 0 => lit3t0_0 i
  | 1 => lit3t0_1 i
  | 2 => lit3t0_2 i
  | 3 => lit3t0_3 i
  | 4 => lit3t0_4 i
  | 5 => lit3t0_5 i
  | 6 => lit3t0_6 i
  | 7 => lit3t0_7 i
  | 8 => lit3t0_8 i
  | 9 => lit3t0_9 i
  | 10 => lit3t0_10 i
  | 11 => lit3t0_11 i
  | 12 => lit3t0_12 i
  | 13 => lit3t0_13 i
  | 14 => lit3t0_14 i
  | 15 => lit3t0_15 i
  | 16 => lit3t0_16 i
  | 17 => lit3t0_17 i
  | 18 => lit3t0_18 i
  | 19 => lit3t0_19 i
  | 20 => lit3t0_20 i
  | 21 => lit3t0_21 i
  | 22 => lit3t0_22 i
  | 23 => lit3t0_23 i
  | 24 => lit3t0_24 i
  | 25 => lit3t0_25 i
  | 26 => lit3t0_26 i
  | 27 => lit3t0_27 i
  | 28 => lit3t0_28 i
  | 29 => lit3t0_29 i
  | 30 => lit3t0_30 i
  | 31 => lit3t0_31 i
  | 32 => lit3t0_32 i
  | 33 => lit3t0_33 i
  | 34 => lit3t0_34 i
  | 35 => lit3t0_35 i
  | 36 => lit3t0_36 i
  | 37 => lit3t0_37 i
  | 38 => lit3t0_38 i
  | 39 => lit3t0_39 i
  | 40 => lit3t0_40 i
  | 41 => lit3t0_41 i
  | 42 => lit3t0_42 i
  | 43 => lit3t0_43 i
  | 44 => lit3t0_44 i
  | 45 => lit3t0_45 i
  | 46 => lit3t0_46 i
  | 47 => lit3t0_47 i
  | 48 => lit3t0_48 i
  | 49 => lit3t0_49 i
  | 50 => lit3t0_50 i
  | 51 => lit3t0_51 i
  | 52 => lit3t0_52 i
  | 53 => lit3t0_53 i
  | 54 => lit3t0_54 i
  | 55 => lit3t0_55 i
  | 56 => lit3t0_56 i
  | 57 => lit3t0_57 i
  | 58 => lit3t0_58 i
  | 59 => lit3t0_59 i
  | 60 => lit3t0_60 i
  | 61 => lit3t0_61 i
  | 62 => lit3t0_62 i
  | 63 => lit3t0_63 i
  | 64 => lit3t0_64 i
  | 65 => lit3t0_65 i
  | 66 => lit3t0_66 i
  | 67 => lit3t0_67 i
  | 68 => lit3t0_68 i
  | 69 => lit3t0_69 i
  | 70 => lit3t0_70 i
  | 71 => lit3t0_71 i
  | 72 => lit3t0_72 i
  | 73 => lit3t0_73 i
  | 74 => lit3t0_74 i
  | 75 => lit3t0_75 i
  | 76 => lit3t0_76 i
  | 77 => lit3t0_77 i
  | 78 => lit3t0_78 i
  | _ => 0#32

noncomputable abbrev lit3 : Fin 10000 → BitVec 32 := fun ⟨i, _⟩ => lit3t i

def fn_take {F : FTy → Type} [FloatOps F] (arg0 : FVec F S64x3x1024 .f32) (arg1 : IVec S10000x11x1024 32) : FVec F S64x3x10000x11x1024 .f32 :=
  let v0 : IVec S10000x11x1024x1 32 := broadcastInDim S10000x11x1024x1 ![0, 1, 2] bcast_S10000x11x1024_S10000x11x1024x1_0_1_2 arg1
  let v1 : FVec F S64x3x10000x11x1024 .f32 := (fun x i => Host.gather gather_S64x3x1024_S10000x11x1024x1_S64x3x10000x11x1024_01_2_n_n_2_3_6431 x i) arg0 v0
  v1

def fn_where {F : FTy → Type} [FloatOps F] (arg0 : IVec S10000x11x1024 1) (arg1 : FVec F S64x3x10000x11x1024 .f32) (arg2 : FVec F S_ .f32) : FVec F S64x3x10000x11x1024 .f32 :=
  let v0 : FVec F S_ .f32 := id arg2
  let v1 : IVec S64x3x10000x11x1024 1 := broadcastInDim S64x3x10000x11x1024 ![2, 3, 4] bcast_S10000x11x1024_S64x3x10000x11x1024_2_3_4 arg0
  let v2 : FVec F S64x3x10000x11x1024 .f32 := broadcastInDim S64x3x10000x11x1024 ![] bcast_S_S64x3x10000x11x1024 v0
  let v3 : FVec F S64x3x10000x11x1024 .f32 := select v1 arg1 v2
  v3

def fn_part2 {F : FTy → Type} [FloatOps F] (main_arg2 : FVec F S10000 .f32) (main_v9 : IVec S10000x3x11 1) (main_v36 : FVec F S64x3x10000x11x1024 .f32) (main_v39 : FVec F S64x3x10000x11x1024 .f32) : IVec S10000x3x11 1 × IVec S64x10000x1024 1 :=
  let main_v40 : FVec F S64x3x10000x11x1024 .f32 := mulf main_v36 main_v39
  let main_cst_6 : FVec F S_ .f32 := constant S_ .f32 0x00000000#32
  let main_v41 : FVec F S64x10000x1024 .f32 := (fun x v => Host.reduceAdd x v reducesTo_S64x3x10000x11x1024_S64x10000x1024_d1_3 h_S_) main_v40 main_cst_6
  let main_v42 : FVec F S1x10000x1 .f32 := broadcastInDim S1x10000x1 ![1] bcast_S10000_S1x10000x1_1 main_arg2
  let main_v43 : FVec F S64x10000x1024 .f32 := broadcastInDim S64x10000x1024 ![0, 1, 2] bcast_S1x10000x1_S64x10000x1024_0_1_2 main_v42
  let main_v44 : FVec F S64x10000x1024 .f32 := addf main_v41 main_v43
  let main_cst_7 : FVec F S_ .f32 := constant S_ .f32 0x00000000#32
  let main_v45 : FVec F S64x10000x1024 .f32 := broadcastInDim S64x10000x1024 ![] bcast_S_S64x10000x1024 main_cst_7
  let main_v46 : IVec S64x10000x1024 1 := cmpf .une main_v44 main_v45
  (main_v9, main_v46)

def fn_part1 {F : FTy → Type} [FloatOps F] (main_arg0 : FVec F S64x3x1024 .f32) (main_arg1 : FVec F S10000x3x11 .f32) (main_arg2 : FVec F S10000 .f32) (main_v9 : IVec S10000x3x11 1) (main_v10 : IVec S10000x1x1 32) (main_v12 : IVec S10000x1x1 32) (main_v14 : IVec S1x11x1 32) (main_v16 : IVec S1x1x1024 32) (main_v17 : IVec S10000x11x1 32) (main_v18 : IVec S10000x11x1 32) : IVec S10000x3x11 1 × IVec S64x10000x1024 1 :=
  let main_v19 : IVec S10000x11x1 32 := subi main_v17 main_v18
  let main_v20 : IVec S10000x11x1 32 := broadcastInDim S10000x11x1 ![0, 1, 2] bcast_S10000x1x1_S10000x11x1_0_1_2 main_v12
  let main_v21 : IVec S10000x11x1 32 := muli main_v19 main_v20
  let main_v22 : IVec S10000x11x1024 32 := broadcastInDim S10000x11x1024 ![0, 1, 2] bcast_S1x1x1024_S10000x11x1024_0_1_2 main_v16
  let main_v23 : IVec S10000x11x1024 32 := broadcastInDim S10000x11x1024 ![0, 1, 2] bcast_S10000x11x1_S10000x11x1024_0_1_2 main_v21
  let main_v24 : IVec S10000x11x1024 32 := addi main_v22 main_v23
  let main_v25 : IVec S10000x11x1 32 := broadcastInDim S10000x11x1 ![0, 1, 2] bcast_S1x11x1_S10000x11x1_0_1_2 main_v14
  let main_v26 : IVec S10000x11x1 32 := broadcastInDim S10000x11x1 ![0, 1, 2] bcast_S10000x1x1_S10000x11x1_0_1_2 main_v10
  let main_v27 : IVec S10000x11x1 1 := cmpi .slt main_v25 main_v26
  let main_c_3 : IVec S_ 32 := constantI S_ 32 0#32
  let main_v28 : IVec S10000x11x1024 32 := broadcastInDim S10000x11x1024 ![] bcast_S_S10000x11x1024 main_c_3
  let main_v29 : IVec S10000x11x1024 1 := cmpi .sge main_v24 main_v28
  let main_v30 : IVec S10000x11x1024 1 := broadcastInDim S10000x11x1024 ![0, 1, 2] bcast_S10000x11x1_S10000x11x1024_0_1_2 main_v27
  let main_v31 : IVec S10000x11x1024 1 := andi main_v30 main_v29
  let main_c_4 : IVec S_ 32 := constantI S_ 32 1024#32
  let main_v32 : IVec S10000x11x1024 32 := broadcastInDim S10000x11x1024 ![] bcast_S_S10000x11x1024 main_c_4
  let main_v33 : IVec S10000x11x1024 1 := cmpi .slt main_v24 main_v32
  let main_v34 : IVec S10000x11x1024 1 := andi main_v31 main_v33
  let main_v35 : FVec F S64x3x10000x11x1024 .f32 := fn_take (F := F) main_arg0 main_v24
  let main_cst_5 : FVec F S_ .f32 := constant S_ .f32 0x00000000#32
  let main_v36 : FVec F S64x3x10000x11x1024 .f32 := fn_where (F := F) main_v34 main_v35 main_cst_5
  let main_v37 : FVec F S3x10000x11 .f32 := (transpose S3x10000x11 [1, 0, 2] · transposes_S10000x3x11_S3x10000x11_1_0_2) main_arg1
  let main_v38 : FVec F S1x3x10000x11x1 .f32 := broadcastInDim S1x3x10000x11x1 ![1, 2, 3] bcast_S3x10000x11_S1x3x10000x11x1_1_2_3 main_v37
  let main_v39 : FVec F S64x3x10000x11x1024 .f32 := broadcastInDim S64x3x10000x11x1024 ![0, 1, 2, 3, 4] bcast_S1x3x10000x11x1_S64x3x10000x11x1024_0_1_2_3_4 main_v38
  fn_part2 (F := F) main_arg2 main_v9 main_v36 main_v39

def fn {F : FTy → Type} [FloatOps F] (main_arg0 : FVec F S64x3x1024 .f32) (main_arg1 : FVec F S10000x3x11 .f32) (main_arg2 : FVec F S10000 .f32) : IVec S10000x3x11 1 × IVec S64x10000x1024 1 :=
  let main_c : IVec S10000 32 := fun i => lit0 (S10000.rowMajor i)
  let main_c_0 : IVec S10000 32 := fun i => lit1 (S10000.rowMajor i)
  let main_c_1 : IVec S10000 32 := fun i => lit2 (S10000.rowMajor i)
  let main_c_2 : IVec S10000 32 := fun i => lit3 (S10000.rowMajor i)
  let main_v0 : IVec S10000x1x1 32 := broadcastInDim S10000x1x1 ![0] bcast_S10000_S10000x1x1_0 main_c
  let main_v1 : IVec S11 32 := iotaInDim S11 32 0
  let main_v2 : IVec S1x1x11 32 := broadcastInDim S1x1x11 ![2] bcast_S11_S1x1x11_2 main_v1
  let main_v3 : IVec S10000x1x11 32 := broadcastInDim S10000x1x11 ![0, 1, 2] bcast_S1x1x11_S10000x1x11_0_1_2 main_v2
  let main_v4 : IVec S10000x1x11 32 := broadcastInDim S10000x1x11 ![0, 1, 2] bcast_S10000x1x1_S10000x1x11_0_1_2 main_v0
  let main_v5 : IVec S10000x1x11 1 := cmpi .slt main_v3 main_v4
  let main_cst : FVec F S_ .f32 := constant S_ .f32 0x00000000#32
  let main_v6 : FVec F S10000x3x11 .f32 := broadcastInDim S10000x3x11 ![] bcast_S_S10000x3x11 main_cst
  let main_v7 : IVec S10000x3x11 1 := cmpf .oeq main_arg1 main_v6
  let main_v8 : IVec S10000x3x11 1 := broadcastInDim S10000x3x11 ![0, 1, 2] bcast_S10000x1x11_S10000x3x11_0_1_2 main_v5
  let main_v9 : IVec S10000x3x11 1 := ori main_v8 main_v7
  let main_v10 : IVec S10000x1x1 32 := broadcastInDim S10000x1x1 ![0] bcast_S10000_S10000x1x1_0 main_c_0
  let main_v11 : IVec S10000x1x1 32 := broadcastInDim S10000x1x1 ![0] bcast_S10000_S10000x1x1_0 main_c_1
  let main_v12 : IVec S10000x1x1 32 := broadcastInDim S10000x1x1 ![0] bcast_S10000_S10000x1x1_0 main_c_2
  let main_v13 : IVec S11 32 := iotaInDim S11 32 0
  let main_v14 : IVec S1x11x1 32 := broadcastInDim S1x11x1 ![1] bcast_S11_S1x11x1_1 main_v13
  let main_v15 : IVec S1024 32 := iotaInDim S1024 32 0
  let main_v16 : IVec S1x1x1024 32 := broadcastInDim S1x1x1024 ![2] bcast_S1024_S1x1x1024_2 main_v15
  let main_v17 : IVec S10000x11x1 32 := broadcastInDim S10000x11x1 ![0, 1, 2] bcast_S1x11x1_S10000x11x1_0_1_2 main_v14
  let main_v18 : IVec S10000x11x1 32 := broadcastInDim S10000x11x1 ![0, 1, 2] bcast_S10000x1x1_S10000x11x1_0_1_2 main_v11
  fn_part1 (F := F) main_arg0 main_arg1 main_arg2 main_v9 main_v10 main_v12 main_v14 main_v16 main_v17 main_v18
-- ==== Kernel.lean ====
abbrev S64x3x1024 : Shape := ⟨3, ![64, 3, 1024]⟩
abbrev S10000x3x11 : Shape := ⟨3, ![10000, 3, 11]⟩
abbrev S10000 : Shape := ⟨1, ![10000]⟩
abbrev S5x10000 : Shape := ⟨2, ![5, 10000]⟩
abbrev S128x165 : Shape := ⟨2, ![128, 165]⟩
abbrev S128 : Shape := ⟨1, ![128]⟩
abbrev S3x11x10000 : Shape := ⟨3, ![3, 11, 10000]⟩
abbrev S1x1x10000 : Shape := ⟨3, ![1, 1, 10000]⟩
abbrev S3x0x10000 : Shape := ⟨3, ![3, 0, 10000]⟩
abbrev S_ : Shape := ⟨0, ![]⟩
abbrev S3x1x10000 : Shape := ⟨3, ![3, 1, 10000]⟩
abbrev S3x10x10000 : Shape := ⟨3, ![3, 10, 10000]⟩
abbrev S3x2x10000 : Shape := ⟨3, ![3, 2, 10000]⟩
abbrev S3x9x10000 : Shape := ⟨3, ![3, 9, 10000]⟩
abbrev S5x1x1x10000 : Shape := ⟨4, ![5, 1, 1, 10000]⟩
abbrev S1x3x11x10000 : Shape := ⟨4, ![1, 3, 11, 10000]⟩
abbrev S5x3x11x10000 : Shape := ⟨4, ![5, 3, 11, 10000]⟩
abbrev S165x10000 : Shape := ⟨2, ![165, 10000]⟩
abbrev S128x165x1 : Shape := ⟨3, ![128, 165, 1]⟩
abbrev S1x165x10000 : Shape := ⟨3, ![1, 165, 10000]⟩
abbrev S128x165x10000 : Shape := ⟨3, ![128, 165, 10000]⟩
abbrev S128x10000 : Shape := ⟨2, ![128, 10000]⟩
abbrev S128x1 : Shape := ⟨2, ![128, 1]⟩
abbrev S1x10000 : Shape := ⟨2, ![1, 10000]⟩
abbrev S128x10240 : Shape := ⟨2, ![128, 10240]⟩
abbrev S128x40x256 : Shape := ⟨3, ![128, 40, 256]⟩
abbrev S40x128x256 : Shape := ⟨3, ![40, 128, 256]⟩
abbrev S64x3x1184 : Shape := ⟨3, ![64, 3, 1184]⟩
abbrev S64x1x10240 : Shape := ⟨3, ![64, 1, 10240]⟩
abbrev S1x3x1184 : Shape := ⟨3, ![1, 3, 1184]⟩
abbrev S1x1x10240 : Shape := ⟨3, ![1, 1, 10240]⟩
abbrev S128x1024 : Shape := ⟨2, ![128, 1024]⟩
abbrev S1024x128 : Shape := ⟨2, ![1024, 128]⟩
abbrev S1x1x1024 : Shape := ⟨3, ![1, 1, 1024]⟩
abbrev S1x1024 : Shape := ⟨2, ![1, 1024]⟩
abbrev S22x1024 : Shape := ⟨2, ![22, 1024]⟩
abbrev S1x128x256 : Shape := ⟨3, ![1, 128, 256]⟩
abbrev S128x256 : Shape := ⟨2, ![128, 256]⟩
abbrev S8x256 : Shape := ⟨2, ![8, 256]⟩
abbrev S256x128 : Shape := ⟨2, ![256, 128]⟩
abbrev S256x256 : Shape := ⟨2, ![256, 256]⟩
abbrev S32x8x256 : Shape := ⟨3, ![32, 8, 256]⟩
abbrev S256 : Shape := ⟨1, ![256]⟩
abbrev S1x256 : Shape := ⟨2, ![1, 256]⟩
abbrev S1x1x256 : Shape := ⟨3, ![1, 1, 256]⟩
abbrev S64x1x10000 : Shape := ⟨3, ![64, 1, 10000]⟩
abbrev S64x10000 : Shape := ⟨2, ![64, 10000]⟩
abbrev S64x10000x1 : Shape := ⟨3, ![64, 10000, 1]⟩
abbrev S64x10000x2 : Shape := ⟨3, ![64, 10000, 2]⟩
abbrev S64x20000 : Shape := ⟨2, ![64, 20000]⟩

abbrev nBuf : Space → Nat
  | .hbm => 70
  | .vmem => 9
  | .smem => 0
  | _ => 0

abbrev bufTy : (tb : Table) → Fin (tcTables nBuf tb) → BufTy
  | .hbm, ⟨0, _⟩ => ⟨S64x3x1024, .f32⟩
  | .hbm, ⟨1, _⟩ => ⟨S10000x3x11, .f32⟩
  | .hbm, ⟨2, _⟩ => ⟨S10000, .f32⟩
  | .hbm, ⟨3, _⟩ => ⟨S10000, .f32⟩
  | .hbm, ⟨4, _⟩ => ⟨S10000, .f32⟩
  | .hbm, ⟨5, _⟩ => ⟨S10000, .f32⟩
  | .hbm, ⟨6, _⟩ => ⟨S5x10000, .f32⟩
  | .hbm, ⟨7, _⟩ => ⟨S128x165, .f32⟩
  | .hbm, ⟨8, _⟩ => ⟨S128, .f32⟩
  | .hbm, ⟨9, _⟩ => ⟨S3x11x10000, .f32⟩
  | .hbm, ⟨10, _⟩ => ⟨S1x1x10000, .f32⟩
  | .hbm, ⟨11, _⟩ => ⟨S3x11x10000, .f32⟩
  | .hbm, ⟨12, _⟩ => ⟨S3x0x10000, .f32⟩
  | .hbm, ⟨13, _⟩ => ⟨S3x11x10000, .f32⟩
  | .hbm, ⟨14, _⟩ => ⟨S3x11x10000, .f32⟩
  | .hbm, ⟨15, _⟩ => ⟨S3x11x10000, .f32⟩
  | .hbm, ⟨16, _⟩ => ⟨S_, .f32⟩
  | .hbm, ⟨17, _⟩ => ⟨S3x11x10000, .f32⟩
  | .hbm, ⟨18, _⟩ => ⟨S3x11x10000, .f32⟩
  | .hbm, ⟨19, _⟩ => ⟨S1x1x10000, .f32⟩
  | .hbm, ⟨20, _⟩ => ⟨S3x1x10000, .f32⟩
  | .hbm, ⟨21, _⟩ => ⟨S3x10x10000, .f32⟩
  | .hbm, ⟨22, _⟩ => ⟨S3x11x10000, .f32⟩
  | .hbm, ⟨23, _⟩ => ⟨S3x11x10000, .f32⟩
  | .hbm, ⟨24, _⟩ => ⟨S3x11x10000, .f32⟩
  | .hbm, ⟨25, _⟩ => ⟨S3x11x10000, .f32⟩
  | .hbm, ⟨26, _⟩ => ⟨S1x1x10000, .f32⟩
  | .hbm, ⟨27, _⟩ => ⟨S3x2x10000, .f32⟩
  | .hbm, ⟨28, _⟩ => ⟨S3x9x10000, .f32⟩
  | .hbm, ⟨29, _⟩ => ⟨S3x11x10000, .f32⟩
  | .hbm, ⟨30, _⟩ => ⟨S3x11x10000, .f32⟩
  | .hbm, ⟨31, _⟩ => ⟨S3x11x10000, .f32⟩
  | .hbm, ⟨32, _⟩ => ⟨S3x11x10000, .f32⟩
  | .hbm, ⟨33, _⟩ => ⟨S5x1x1x10000, .f32⟩
  | .hbm, ⟨34, _⟩ => ⟨S1x3x11x10000, .f32⟩
  | .hbm, ⟨35, _⟩ => ⟨S5x3x11x10000, .f32⟩
  | .hbm, ⟨36, _⟩ => ⟨S5x3x11x10000, .f32⟩
  | .hbm, ⟨37, _⟩ => ⟨S5x3x11x10000, .f32⟩
  | .hbm, ⟨38, _⟩ => ⟨S165x10000, .f32⟩
  | .hbm, ⟨39, _⟩ => ⟨S128x165x1, .f32⟩
  | .hbm, ⟨40, _⟩ => ⟨S1x165x10000, .f32⟩
  | .hbm, ⟨41, _⟩ => ⟨S128x165x10000, .f32⟩
  | .hbm, ⟨42, _⟩ => ⟨S128x165x10000, .f32⟩
  | .hbm, ⟨43, _⟩ => ⟨S128x165x10000, .f32⟩
  | .hbm, ⟨44, _⟩ => ⟨S_, .f32⟩
  | .hbm, ⟨45, _⟩ => ⟨S128x10000, .f32⟩
  | .hbm, ⟨46, _⟩ => ⟨S128x1, .f32⟩
  | .hbm, ⟨47, _⟩ => ⟨S1x10000, .f32⟩
  | .hbm, ⟨48, _⟩ => ⟨S128x10000, .f32⟩
  | .hbm, ⟨49, _⟩ => ⟨S128x10000, .f32⟩
  | .hbm, ⟨50, _⟩ => ⟨S128x10000, .f32⟩
  | .hbm, ⟨51, _⟩ => ⟨S128x10000, .f32⟩
  | .hbm, ⟨52, _⟩ => ⟨S_, .i32⟩
  | .hbm, ⟨53, _⟩ => ⟨S_, .f32⟩
  | .hbm, ⟨54, _⟩ => ⟨S128x10240, .f32⟩
  | .hbm, ⟨55, _⟩ => ⟨S128x40x256, .f32⟩
  | .hbm, ⟨56, _⟩ => ⟨S40x128x256, .f32⟩
  | .hbm, ⟨57, _⟩ => ⟨S_, .i32⟩
  | .hbm, ⟨58, _⟩ => ⟨S_, .f32⟩
  | .hbm, ⟨59, _⟩ => ⟨S64x3x1184, .f32⟩
  | .hbm, ⟨60, _⟩ => ⟨S64x1x10240, .f32⟩
  | .hbm, ⟨61, _⟩ => ⟨S64x1x10240, .f32⟩
  | .hbm, ⟨62, _⟩ => ⟨S64x1x10000, .f32⟩
  | .hbm, ⟨63, _⟩ => ⟨S64x10000, .f32⟩
  | .hbm, ⟨64, _⟩ => ⟨S64x1x10000, .f32⟩
  | .hbm, ⟨65, _⟩ => ⟨S64x10000, .f32⟩
  | .hbm, ⟨66, _⟩ => ⟨S64x10000x1, .f32⟩
  | .hbm, ⟨67, _⟩ => ⟨S64x10000x1, .f32⟩
  | .hbm, ⟨68, _⟩ => ⟨S64x10000x2, .f32⟩
  | .hbm, ⟨69, _⟩ => ⟨S64x20000, .f32⟩
  | .local _ .vmem, ⟨0, _⟩ => ⟨S1x3x1184, .f32⟩
  | .local _ .vmem, ⟨1, _⟩ => ⟨S1x3x1184, .f32⟩
  | .local _ .vmem, ⟨2, _⟩ => ⟨S40x128x256, .f32⟩
  | .local _ .vmem, ⟨3, _⟩ => ⟨S1x1x10240, .f32⟩
  | .local _ .vmem, ⟨4, _⟩ => ⟨S1x1x10240, .f32⟩
  | .local _ .vmem, ⟨5, _⟩ => ⟨S1x1x10240, .f32⟩
  | .local _ .vmem, ⟨6, _⟩ => ⟨S1x1x10240, .f32⟩
  | .local _ .vmem, ⟨7, _⟩ => ⟨S128x1024, .f32⟩
  | .local _ .vmem, ⟨8, _⟩ => ⟨S1024x128, .f32⟩
  | _, _ => ⟨S64x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_cst_4 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call2_v0 : Ref sig .tc := ⟨.hbm, 27, rfl⟩
abbrev main_call2_v1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c : Ref sig .tc := ⟨.hbm, 52, rfl⟩
abbrev main_call3_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_call4_v0 : Ref sig .tc := ⟨.hbm, 58, rfl⟩
abbrev main_v38 : Ref sig .tc := ⟨.hbm, 59, rfl⟩
abbrev main_v39_0 : Ref sig .tc := ⟨.hbm, 60, rfl⟩
abbrev main_v39_1 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1184 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x10240 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x10240 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S64x3x1024 : Shape := ⟨3, ![64, 3, 1024]⟩
abbrev S10000x3x11 : Shape := ⟨3, ![10000, 3, 11]⟩
abbrev S10000 : Shape := ⟨1, ![10000]⟩
abbrev S10000x1x1 : Shape := ⟨3, ![10000, 1, 1]⟩
abbrev S11 : Shape := ⟨1, ![11]⟩
abbrev S1x11x1 : Shape := ⟨3, ![1, 11, 1]⟩
abbrev S1024 : Shape := ⟨1, ![1024]⟩
abbrev S1x1x1024 : Shape := ⟨3, ![1, 1, 1024]⟩
abbrev S10000x11x1 : Shape := ⟨3, ![10000, 11, 1]⟩
abbrev S10000x11x1024 : Shape := ⟨3, ![10000, 11, 1024]⟩
abbrev S_ : Shape := ⟨0, ![]⟩
abbrev S10000x11x1024x1 : Shape := ⟨4, ![10000, 11, 1024, 1]⟩
abbrev S64x3x10000x11x1024 : Shape := ⟨5, ![64, 3, 10000, 11, 1024]⟩
abbrev S3x10000x11 : Shape := ⟨3, ![3, 10000, 11]⟩
abbrev S1x3x10000x11x1 : Shape := ⟨5, ![1, 3, 10000, 11, 1]⟩
abbrev S64x10000x1024 : Shape := ⟨3, ![64, 10000, 1024]⟩
abbrev S1x10000x1 : Shape := ⟨3, ![1, 10000, 1]⟩
abbrev S64x10000 : Shape := ⟨2, ![64, 10000]⟩
abbrev S64x10000x1 : Shape := ⟨3, ![64, 10000, 1]⟩
abbrev S64x10000x2 : Shape := ⟨3, ![64, 10000, 2]⟩
abbrev S64x20000 : Shape := ⟨2, ![64, 20000]⟩

abbrev nBuf : Space → Nat
  | .hbm => 64
  | .vmem => 0
  | .smem => 0
  | _ => 0

abbrev bufTy : (tb : Table) → Fin (tcTables nBuf tb) → BufTy
  | .hbm, ⟨0, _⟩ => ⟨S64x3x1024, .f32⟩
  | .hbm, ⟨1, _⟩ => ⟨S10000x3x11, .f32⟩
  | .hbm, ⟨2, _⟩ => ⟨S10000, .f32⟩
  | .hbm, ⟨3, _⟩ => ⟨S10000, .i32⟩
  | .hbm, ⟨4, _⟩ => ⟨S10000, .i32⟩
  | .hbm, ⟨5, _⟩ => ⟨S10000, .i32⟩
  | .hbm, ⟨6, _⟩ => ⟨S10000x1x1, .i32⟩
  | .hbm, ⟨7, _⟩ => ⟨S10000x1x1, .i32⟩
  | .hbm, ⟨8, _⟩ => ⟨S10000x1x1, .i32⟩
  | .hbm, ⟨9, _⟩ => ⟨S11, .i32⟩
  | .hbm, ⟨10, _⟩ => ⟨S1x11x1, .i32⟩
  | .hbm, ⟨11, _⟩ => ⟨S1024, .i32⟩
  | .hbm, ⟨12, _⟩ => ⟨S1x1x1024, .i32⟩
  | .hbm, ⟨13, _⟩ => ⟨S10000x11x1, .i32⟩
  | .hbm, ⟨14, _⟩ => ⟨S10000x11x1, .i32⟩
  | .hbm, ⟨15, _⟩ => ⟨S10000x11x1, .i32⟩
  | .hbm, ⟨16, _⟩ => ⟨S10000x11x1, .i32⟩
  | .hbm, ⟨17, _⟩ => ⟨S10000x11x1, .i32⟩
  | .hbm, ⟨18, _⟩ => ⟨S10000x11x1024, .i32⟩
  | .hbm, ⟨19, _⟩ => ⟨S10000x11x1024, .i32⟩
  | .hbm, ⟨20, _⟩ => ⟨S10000x11x1024, .i32⟩
  | .hbm, ⟨21, _⟩ => ⟨S10000x11x1, .i32⟩
  | .hbm, ⟨22, _⟩ => ⟨S10000x11x1, .i32⟩
  | .hbm, ⟨23, _⟩ => ⟨S10000x11x1, .i1⟩
  | .hbm, ⟨24, _⟩ => ⟨S_, .i32⟩
  | .hbm, ⟨25, _⟩ => ⟨S10000x11x1024, .i32⟩
  | .hbm, ⟨26, _⟩ => ⟨S10000x11x1024, .i1⟩
  | .hbm, ⟨27, _⟩ => ⟨S10000x11x1024, .i1⟩
  | .hbm, ⟨28, _⟩ => ⟨S10000x11x1024, .i1⟩
  | .hbm, ⟨29, _⟩ => ⟨S_, .i32⟩
  | .hbm, ⟨30, _⟩ => ⟨S10000x11x1024, .i32⟩
  | .hbm, ⟨31, _⟩ => ⟨S10000x11x1024, .i1⟩
  | .hbm, ⟨32, _⟩ => ⟨S10000x11x1024, .i1⟩
  | .hbm, ⟨33, _⟩ => ⟨S10000x11x1024x1, .i32⟩
  | .hbm, ⟨34, _⟩ => ⟨S64x3x10000x11x1024, .f32⟩
  | .hbm, ⟨35, _⟩ => ⟨S_, .f32⟩
  | .hbm, ⟨36, _⟩ => ⟨S_, .f32⟩
  | .hbm, ⟨37, _⟩ => ⟨S64x3x10000x11x1024, .i1⟩
  | .hbm, ⟨38, _⟩ => ⟨S64x3x10000x11x1024, .f32⟩
  | .hbm, ⟨39, _⟩ => ⟨S64x3x10000x11x1024, .f32⟩
  | .hbm, ⟨40, _⟩ => ⟨S3x10000x11, .f32⟩
  | .hbm, ⟨41, _⟩ => ⟨S1x3x10000x11x1, .f32⟩
  | .hbm, ⟨42, _⟩ => ⟨S64x3x10000x11x1024, .f32⟩
  | .hbm, ⟨43, _⟩ => ⟨S64x3x10000x11x1024, .f32⟩
  | .hbm, ⟨44, _⟩ => ⟨S_, .f32⟩
  | .hbm, ⟨45, _⟩ => ⟨S64x10000x1024, .f32⟩
  | .hbm, ⟨46, _⟩ => ⟨S1x10000x1, .f32⟩
  | .hbm, ⟨47, _⟩ => ⟨S64x10000x1024, .f32⟩
  | .hbm, ⟨48, _⟩ => ⟨S64x10000x1024, .f32⟩
  | .hbm, ⟨49, _⟩ => ⟨S_, .f32⟩
  | .hbm, ⟨50, _⟩ => ⟨S64x10000, .f32⟩
  | .hbm, ⟨51, _⟩ => ⟨S_, .f32⟩
  | .hbm, ⟨52, _⟩ => ⟨S64x10000x1024, .f32⟩
  | .hbm, ⟨53, _⟩ => ⟨S64x10000x1024, .i1⟩
  | .hbm, ⟨54, _⟩ => ⟨S64x10000x1024, .f32⟩
  | .hbm, ⟨55, _⟩ => ⟨S_, .f32⟩
  | .hbm, ⟨56, _⟩ => ⟨S64x10000, .f32⟩
  | .hbm, ⟨57, _⟩ => ⟨S_, .f32⟩
  | .hbm, ⟨58, _⟩ => ⟨S64x10000, .f32⟩
  | .hbm, ⟨59, _⟩ => ⟨S64x10000, .f32⟩
  | .hbm, ⟨60, _⟩ => ⟨S64x10000x1, .f32⟩
  | .hbm, ⟨61, _⟩ => ⟨S64x10000x1, .f32⟩
  | .hbm, ⟨62, _⟩ => ⟨S64x10000x2, .f32⟩
  | .hbm, ⟨63, _⟩ => ⟨S64x20000, .f32⟩
  | _, _ => ⟨S64x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_v25 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Proof.Entry.lean ====
/- What the two input arrays of the pallas_call hold when it starts: the padded signals, and the packed weights made of the
   weights, the biases and the constant tables. -/
module

public import proofs.«01_k».proof.Proof.Gen.KernelIdeal.Frame
public import Idealize.ShloMosaic.Lib.Pointwise
public import Idealize.ShloMosaic.Lib.Claim

@[expose] public section

set_option maxRecDepth 16384

noncomputable section

namespace Cert.KernelIdeal.Entry

open Idealize.ShloMosaic Idealize.ShloMosaic.TcCoe Idealize.ShloMosaic.Pointwise Idealize.ShloMosaic.Tactic Cert.KernelIdeal.Gen

variable {F : FTy → Type} [FloatOps F]

/-- The zero the host pads with. -/
abbrev padZero : FVec F S_ .f32 := sitofp .f32 (constantI S_ 32 0#32)

/-- The signals with 80 zeros on both sides of each row. -/
def padded (x : FVec F S64x3x1024 .f32) : FVec F S64x3x1184 .f32 :=
  pad S64x3x1184 ![0, 0, 80] ![0, 0, 80] ![0, 0, 0] x padZero pads_S64x3x1024_S64x3x1184_000_000_80800 h_S_

/-- The weights with the kernels on the last axis. -/
def wt (w : FVec F S10000x3x11 .f32) : FVec F S3x11x10000 .f32 :=
  transpose S3x11x10000 [1, 2, 0] w transposes_S10000x3x11_S3x11x10000_1_2_0

/-- The taps rolled by nothing. -/
def roll0 (w : FVec F S10000x3x11 .f32) : FVec F S3x11x10000 .f32 :=
  concatenate S3x11x10000 1
    [⟨S3x11x10000, extractStridedSlice S3x11x10000 ![0, 0, 0] (wt w) slices_S3x11x10000_S3x11x10000_0_0_0⟩,
     ⟨S3x0x10000, extractStridedSlice S3x0x10000 ![0, 0, 0] (wt w) slices_S3x11x10000_S3x0x10000_0_0_0⟩]
    concatenates_S3x11x10000_S3x0x10000_S3x11x10000_d1

/-- The taps rolled by one. -/
def roll1 (w : FVec F S10000x3x11 .f32) : FVec F S3x11x10000 .f32 :=
  concatenate S3x11x10000 1
    [⟨S3x1x10000, extractStridedSlice S3x1x10000 ![0, 10, 0] (wt w) slices_S3x11x10000_S3x1x10000_0_10_0⟩,
     ⟨S3x10x10000, extractStridedSlice S3x10x10000 ![0, 0, 0] (wt w) slices_S3x11x10000_S3x10x10000_0_0_0⟩]
    concatenates_S3x1x10000_S3x10x10000_S3x11x10000_d1

/-- The taps rolled by two. -/
def roll2 (w : FVec F S10000x3x11 .f32) : FVec F S3x11x10000 .f32 :=
  concatenate S3x11x10000 1
    [⟨S3x2x10000, extractStridedSlice S3x2x10000 ![0, 9, 0] (wt w) slices_S3x11x10000_S3x2x10000_0_9_0⟩,
     ⟨S3x9x10000, extractStridedSlice S3x9x10000 ![0, 0, 0] (wt w) slices_S3x11x10000_S3x9x10000_0_0_0⟩]
    concatenates_S3x2x10000_S3x9x10000_S3x11x10000_d1

/-- A row of 10000 numbers, one per kernel, over all channels and taps. -/
def spread (l : FVec F S10000 .f32) : FVec F S3x11x10000 .f32 :=
  broadcastInDim S3x11x10000 ![0, 1, 2] bcast_S1x1x10000_S3x11x10000_0_1_2
    (broadcastInDim S1x1x10000 ![2] bcast_S10000_S1x1x10000_2 l)

/-- The table that says which kernels are rolled by nothing. -/
def tab0 : FVec F S10000 .f32 := fun i => FloatOps.ofBits .f32 (lit0 (S10000.rowMajor i))
/-- The table that says which kernels are rolled by one. -/
def tab1 : FVec F S10000 .f32 := fun i => FloatOps.ofBits .f32 (lit1 (S10000.rowMajor i))
/-- The table that says which kernels are rolled by two. -/
def tab2 : FVec F S10000 .f32 := fun i => FloatOps.ofBits .f32 (lit2 (S10000.rowMajor i))
/-- The table of the dilations, one row per dilation. -/
def tabD : FVec F S5x10000 .f32 := fun i => FloatOps.ofBits .f32 (lit3 (S5x10000.rowMajor i))
/-- The table of the copied rows that each tap of each dilation meets. -/
def tabP : FVec F S128x165 .f32 := fun i => FloatOps.ofBits .f32 (lit4 (S128x165.rowMajor i))
/-- The table of the row that the bias meets. -/
def tabB : FVec F S128 .f32 := fun i => FloatOps.ofBits .f32 (lit5 (S128.rowMajor i))

/-- The weights with each kernel's taps centred among the eleven. -/
def centred (w : FVec F S10000x3x11 .f32) : FVec F S3x11x10000 .f32 :=
  addf (addf (addf (broadcastInDim S3x11x10000 ![] bcast_S_S3x11x10000 (constant S_ .f32 0x00000000#32))
    (mulf (spread tab0) (roll0 w))) (mulf (spread tab1) (roll1 w))) (mulf (spread tab2) (roll2 w))

/-- The centred weights under each dilation, zero under the dilations that are not the kernel's. -/
def dilated (w : FVec F S10000x3x11 .f32) : FVec F S165x10000 .f32 :=
  shapeCast S165x10000
    (mulf (broadcastInDim S5x3x11x10000 ![0, 1, 2, 3] bcast_S5x1x1x10000_S5x3x11x10000_0_1_2_3
        (broadcastInDim S5x1x1x10000 ![0, 3] bcast_S5x10000_S5x1x1x10000_0_3 tabD))
      (broadcastInDim S5x3x11x10000 ![0, 1, 2, 3] bcast_S1x3x11x10000_S5x3x11x10000_0_1_2_3
        (broadcastInDim S1x3x11x10000 ![1, 2, 3] bcast_S3x11x10000_S1x3x11x10000_1_2_3 (centred w))))
    shapeCasts_S5x3x11x10000_S165x10000

/-- The weight of each row of the row scratch for each kernel: the taps that meet the row, and the bias at the row of ones. -/
def packed (w : FVec F S10000x3x11 .f32) (b : FVec F S10000 .f32) : FVec F S128x10000 .f32 :=
  addf
    (Host.reduceAdd (mulf
        (broadcastInDim S128x165x10000 ![0, 1, 2] bcast_S128x165x1_S128x165x10000_0_1_2
          (broadcastInDim S128x165x1 ![0, 1] bcast_S128x165_S128x165x1_0_1 tabP))
        (broadcastInDim S128x165x10000 ![0, 1, 2] bcast_S1x165x10000_S128x165x10000_0_1_2
          (broadcastInDim S1x165x10000 ![1, 2] bcast_S165x10000_S1x165x10000_1_2 (dilated w))))
      (constant S_ .f32 0x00000000#32) reducesTo_S128x165x10000_S128x10000_d1 h_S_)
    (mulf
      (broadcastInDim S128x10000 ![0, 1] bcast_S128x1_S128x10000_0_1 (broadcastInDim S128x1 ![0] bcast_S128_S128x1_0 tabB))
      (broadcastInDim S128x10000 ![0, 1] bcast_S1x10000_S128x10000_0_1 (broadcastInDim S1x10000 ![1] bcast_S10000_S1x10000_1 b)))

/-- The packed weights in forty tiles of 256 kernels, the last filled up with zeros. -/
def tiled (w : FVec F S10000x3x11 .f32) (b : FVec F S10000 .f32) : FVec F S40x128x256 .f32 :=
  transpose S40x128x256 [1, 0, 2]
    (shapeCast S128x40x256 (pad S128x10240 ![0, 0] ![0, 240] ![0, 0] (packed w b) padZero pads_S128x10000_S128x10240_000_02400 h_S_)
      shapeCasts_S128x10240_S128x40x256)
    transposes_S128x40x256_S40x128x256_1_0_2

variable (m : (ℓ : Loc nD τ sig) → Buf (Elt F) ℓ) (c : Dev nD)

/-- The first input array at the start of the pallas_call: the padded signals. -/
theorem entry_x : V m c main_v38 = padded (m ((c : Thread nD τ).loc main_arg0)) := by
  sl_kernel_rfl

/-- The second: the tiled weights. -/
theorem entry_w : V m c main_v37 = tiled (m ((c : Thread nD τ).loc main_arg1)) (m ((c : Thread nD τ).loc main_arg2)) := by
  sl_kernel_rfl

end Cert.KernelIdeal.Entry

end
-- ==== Proof.Consts.lean ====
/- The real numbers named by the float bit patterns of the two programs. -/
module

public import Idealize.ShloMosaic.PureOps.Ideal

@[expose] public section

noncomputable section

namespace Cert.Consts

open Idealize.ShloMosaic

/-- Pattern 0 is zero. -/
theorem ofBits_zero : Ideal.ofBits .f32 0#32 = 0 := by
  simp [Ideal.ofBits, Ideal.ieee]

/-- One. -/
theorem ofBits_one : Ideal.ofBits .f32 0x3F800000#32 = 1 := by
  simp [Ideal.ofBits, Ideal.ieee, -EReal.coe_mul]; norm_num

/-- Minus infinity, from which a maximum starts. -/
theorem ofBits_bot : Ideal.ofBits .f32 0xFF800000#32 = ⊥ := by
  simp [Ideal.ofBits, Ideal.ieee]

/-- The kernel's factor for a mean over 1024 times. -/
theorem ofBits_inv : Ideal.ofBits .f32 0x3A800000#32 = (((1 : ℝ) / 1024 : ℝ) : EReal) := by
  simp [Ideal.ofBits, Ideal.ieee, -EReal.coe_mul]; norm_num

/-- The reference's divisor for a mean over 1024 times. -/
theorem ofBits_1024 : Ideal.ofBits .f32 0x44800000#32 = ((1024 : ℝ) : EReal) := by
  simp [Ideal.ofBits, Ideal.ieee, -EReal.coe_mul]; norm_num

end Cert.Consts

end
-- ==== Proof.KerRead.lean ====
/- The input arrays of the pallas_call at one index, over the extended reals. -/
module

public import proofs.«01_k».proof.Proof.Entry
public import proofs.«01_k».proof.Proof.Consts

@[expose] public section

set_option maxRecDepth 16384

noncomputable section

namespace Cert.KernelIdeal.Entry

open Idealize.ShloMosaic Idealize.ShloMosaic.TcCoe Idealize.ShloMosaic.Pointwise Idealize.ShloMosaic.Tactic Cert.KernelIdeal.Gen

/-- The number that the host pads with is zero. -/
theorem padZero_eq (j : S_.Idx) : (padZero (F := Ideal) j : EReal) = 0 := by
  show (((0#32 : BitVec 32).toInt : ℝ) : EReal) = 0
  simp

/-- The padded signals at one index. -/
theorem padded_at (x : FVec Ideal S64x3x1024 .f32) (b : Fin 64) (c : Fin 3) (j : Fin 1184) :
    (padded x (ix3 b c j) : EReal)
      = if h : 80 ≤ j.val ∧ j.val < 1104 then (x (ix3 b c ⟨j.val - 80, by omega⟩) : EReal) else 0 := by
  unfold padded
  pointwise
  by_cases h : 80 ≤ j.val ∧ j.val < 1104
  · rw [dif_pos h, dif_pos (by omega)]
  · rw [dif_neg h, dif_neg (by omega)]
    exact padZero_eq ix0

/-- Rolled by nothing, a place holds its own tap. -/
theorem roll0_at (w : FVec Ideal S10000x3x11 .f32) (c : Fin 3) (p : Fin 11) (n : Fin 10000) :
    roll0 w (ix3 c p n) = w (ix3 n c (p - 0)) := by
  unfold roll0 wt
  pointwise

/-- Rolled by one, a place holds the tap one before it, cyclically. -/
theorem roll1_at (w : FVec Ideal S10000x3x11 .f32) (c : Fin 3) (p : Fin 11) (n : Fin 10000) :
    roll1 w (ix3 c p n) = w (ix3 n c (p - 1)) := by
  unfold roll1 wt
  pointwise
  have hp : (p - 1 : Fin 11).val = (11 - 1 + p.val) % 11 := Fin.sub_def p 1 ▸ rfl
  split
  · exact congrArg (fun k => w (ix3 n c k)) (Fin.ext (by rw [hp]; show 10 + p.val = _; omega))
  · exact congrArg (fun k => w (ix3 n c k)) (Fin.ext (by rw [hp]; show p.val - 1 = _; omega))

/-- Rolled by two, a place holds the tap two before it, cyclically. -/
theorem roll2_at (w : FVec Ideal S10000x3x11 .f32) (c : Fin 3) (p : Fin 11) (n : Fin 10000) :
    roll2 w (ix3 c p n) = w (ix3 n c (p - 2)) := by
  unfold roll2 wt
  pointwise
  have hp : (p - 2 : Fin 11).val = (11 - 2 + p.val) % 11 := Fin.sub_def p 2 ▸ rfl
  split
  · exact congrArg (fun k => w (ix3 n c k)) (Fin.ext (by rw [hp]; show 9 + p.val = _; omega))
  · exact congrArg (fun k => w (ix3 n c k)) (Fin.ext (by rw [hp]; show p.val - 2 = _; omega))

/-- A spread row at one index is the row at the kernel. -/
theorem spread_at (l : FVec Ideal S10000 .f32) (c : Fin 3) (p : Fin 11) (n : Fin 10000) : spread l (ix3 c p n) = l (ix1 n) := by
  unfold spread
  pointwise

/-- The dilated weights at one index: the dilation, the channel and the tap are the digits of the row number. -/
theorem dilated_at (w : FVec Ideal S10000x3x11 .f32) (q : Fin 165) (n : Fin 10000) :
    (dilated w (ix2 q n) : EReal) = tabD (F := Ideal) (ix2 ⟨q.val / 33, by omega⟩ n)
      * centred w (ix3 ⟨q.val / 11 % 3, by omega⟩ ⟨q.val % 11, by omega⟩ n) := by
  unfold dilated
  pointwise

/-- The packed weights at one index: the table's row times the dilated weights, and the bias at its row. -/
theorem packed_at (w : FVec Ideal S10000x3x11 .f32) (b : FVec Ideal S10000 .f32) (r : Fin 128) (n : Fin 10000) :
    (packed w b (ix2 r n) : EReal) = (∑ q : Fin 165, (tabP (F := Ideal) (ix2 r q) : EReal) * dilated w (ix2 q n))
      + (tabB (F := Ideal) (ix1 r) : EReal) * b (ix1 n) := by
  unfold packed
  pointwise

/-- The tiled weights hold the packed weights, 256 kernels to a tile. -/
theorem tiled_at (w : FVec Ideal S10000x3x11 .f32) (b : FVec Ideal S10000 .f32) (r : Fin 128) (n : Fin 10000) :
    (tiled w b (ix3 ⟨n.val / 256, by omega⟩ r ⟨n.val % 256, by omega⟩) : EReal) = packed w b (ix2 r n) := by
  unfold tiled
  pointwise
  have h : n.val / 256 * 256 + n.val % 256 = n.val := by omega
  rw [dif_pos (by omega)]
  exact congrArg (fun k => (packed w b (ix2 r k) : EReal)) (Fin.ext h)

end Cert.KernelIdeal.Entry

end
-- ==== Proof.RefConv.lean ====
/- The reference's convolution as one function of its tables and arguments, and the result array in terms of it. -/
module

public import proofs.«01_k».proof.Proof.Gen.ReferenceIdeal.Run
public import Idealize.ShloMosaic.Lib.Claim

@[expose] public section

set_option maxRecDepth 16384

noncomputable section

namespace Cert.ReferenceIdeal.Conv

open Cert.ReferenceIdeal Cert.ReferenceIdeal.Gen Idealize.ShloMosaic Idealize.ShloMosaic.TcCoe Idealize.ShloMosaic.Tactic

variable {F : FTy → Type} [FloatOps F]

/-- A table of one number per kernel, over the taps. -/
def perTap (l : IVec S10000 32) : IVec S10000x11x1 32 :=
  broadcastInDim S10000x11x1 ![0, 1, 2] bcast_S10000x1x1_S10000x11x1_0_1_2 (broadcastInDim S10000x1x1 ![0] bcast_S10000_S10000x1x1_0 l)

/-- The number of each tap. -/
def taps : IVec S10000x11x1 32 :=
  broadcastInDim S10000x11x1 ![0, 1, 2] bcast_S1x11x1_S10000x11x1_0_1_2 (broadcastInDim S1x11x1 ![1] bcast_S11_S1x11x1_1 (iotaInDim S11 32 0))

/-- The time that each tap of each kernel reads for each output time. -/
def pos (half dil : IVec S10000 32) : IVec S10000x11x1024 32 :=
  addi (broadcastInDim S10000x11x1024 ![0, 1, 2] bcast_S1x1x1024_S10000x11x1024_0_1_2
      (broadcastInDim S1x1x1024 ![2] bcast_S1024_S1x1x1024_2 (iotaInDim S1024 32 0)))
    (broadcastInDim S10000x11x1024 ![0, 1, 2] bcast_S10000x11x1_S10000x11x1024_0_1_2
      (muli (subi taps (perTap half)) (perTap dil)))

/-- Whether the tap is one of the kernel's and the time it reads is one of the signal's. -/
def inside (ks half dil : IVec S10000 32) : IVec S10000x11x1024 1 :=
  andi (andi (broadcastInDim S10000x11x1024 ![0, 1, 2] bcast_S10000x11x1_S10000x11x1024_0_1_2 (cmpi .slt taps (perTap ks)))
      (cmpi .sge (pos half dil) (broadcastInDim S10000x11x1024 ![] bcast_S_S10000x11x1024 (constantI S_ 32 0#32))))
    (cmpi .slt (pos half dil) (broadcastInDim S10000x11x1024 ![] bcast_S_S10000x11x1024 (constantI S_ 32 1024#32)))

/-- The signal at the times read, zero where the tap is not inside. -/
def seen (ks half dil : IVec S10000 32) (x : FVec F S64x3x1024 .f32) : FVec F S64x3x10000x11x1024 .f32 :=
  select (broadcastInDim S64x3x10000x11x1024 ![2, 3, 4] bcast_S10000x11x1024_S64x3x10000x11x1024_2_3_4 (inside ks half dil))
    (Host.gather gather_S64x3x1024_S10000x11x1024x1_S64x3x10000x11x1024_01_2_n_n_2_3_6431 x
      (broadcastInDim S10000x11x1024x1 ![0, 1, 2] bcast_S10000x11x1024_S10000x11x1024x1_0_1_2 (pos half dil)))
    (broadcastInDim S64x3x10000x11x1024 ![] bcast_S_S64x3x10000x11x1024 (id (constant S_ .f32 0x00000000#32)))

/-- The weights over signals and times. -/
def weights (w : FVec F S10000x3x11 .f32) : FVec F S64x3x10000x11x1024 .f32 :=
  broadcastInDim S64x3x10000x11x1024 ![0, 1, 2, 3, 4] bcast_S1x3x10000x11x1_S64x3x10000x11x1024_0_1_2_3_4
    (broadcastInDim S1x3x10000x11x1 ![1, 2, 3] bcast_S3x10000x11_S1x3x10000x11x1_1_2_3
      (transpose S3x10000x11 [1, 0, 2] w transposes_S10000x3x11_S3x10000x11_1_0_2))

/-- The convolution: the products summed over channels and taps, and the biases added. -/
def conv (ks half dil : IVec S10000 32) (x : FVec F S64x3x1024 .f32) (w : FVec F S10000x3x11 .f32) (b : FVec F S10000 .f32) :
    FVec F S64x10000x1024 .f32 :=
  addf (Host.reduceAdd (mulf (seen ks half dil x) (weights w)) (constant S_ .f32 0x00000000#32)
      reducesTo_S64x3x10000x11x1024_S64x10000x1024_d1_3 h_S_)
    (broadcastInDim S64x10000x1024 ![0, 1, 2] bcast_S1x10000x1_S64x10000x1024_0_1_2
      (broadcastInDim S1x10000x1 ![1] bcast_S10000_S1x10000x1_1 b))

/-- The table of the sizes. -/
def tabK : IVec S10000 32 := fun i => lit0 (S10000.rowMajor i)
/-- The table of half of the sizes. -/
def tabH : IVec S10000 32 := fun i => lit1 (S10000.rowMajor i)
/-- The table of the dilations. -/
def tabD : IVec S10000 32 := fun i => lit2 (S10000.rowMajor i)

/-- The largest convolution value over the times. -/
def top (o : FVec F S64x10000x1024 .f32) : FVec F S64x10000 .f32 :=
  Host.reduce FloatOps.maximumf o (constant S_ .f32 0xFF800000#32) reducesTo_S64x10000x1024_S64x10000_d2 h_S_

/-- The share of the times at which the convolution value is positive. -/
def share (o : FVec F S64x10000x1024 .f32) : FVec F S64x10000 .f32 :=
  Host.divf (Host.reduceAdd (uitofp .f32 (cmpf .ogt o (broadcastInDim S64x10000x1024 ![] bcast_S_S64x10000x1024 (constant S_ .f32 0x00000000#32))))
      (constant S_ .f32 0x00000000#32) reducesTo_S64x10000x1024_S64x10000_d2 h_S_)
    (broadcastInDim S64x10000 ![] bcast_S_S64x10000 (constant S_ .f32 0x44800000#32))

/-- Two arrays of one number per signal and kernel, interleaved. -/
def zip (a b : FVec F S64x10000 .f32) : FVec F S64x20000 .f32 :=
  shapeCast S64x20000 (concatenate S64x10000x2 2
    [⟨S64x10000x1, broadcastInDim S64x10000x1 ![0, 1] bcast_S64x10000_S64x10000x1_0_1 a⟩,
     ⟨S64x10000x1, broadcastInDim S64x10000x1 ![0, 1] bcast_S64x10000_S64x10000x1_0_1 b⟩]
    concatenates_S64x10000x1_S64x10000x1_S64x10000x2_d2) shapeCasts_S64x10000x2_S64x20000

/-- The reference's result: the largest value and the share of positive ones, interleaved. -/
def resultOf (x : FVec F S64x3x1024 .f32) (w : FVec F S10000x3x11 .f32) (b : FVec F S10000 .f32) : FVec F S64x20000 .f32 :=
  zip (top (conv tabK tabH tabD x w b)) (share (conv tabK tabH tabD x w b))

/-- The result array that the reference's run leaves is `resultOf` of the arguments. -/
theorem res_eq (m : (ℓ : Loc nD τ sig) → Buf (Elt F) ℓ) (c : Dev nD) : Value.res_main_v45 m c
    = resultOf (m ((c : Thread nD τ).loc main_arg0)) (m ((c : Thread nD τ).loc main_arg1)) (m ((c : Thread nD τ).loc main_arg2)) := by
  sl_kernel_rfl

end Cert.ReferenceIdeal.Conv

end
-- ==== Proof.RefRead.lean ====
/- The reference's convolution at one index, over the extended reals. -/
module

public import proofs.«01_k».proof.Proof.RefConv
public import proofs.«01_k».proof.Proof.Consts
public import Idealize.ShloMosaic.Lib.Pointwise

@[expose] public section

set_option maxRecDepth 16384

noncomputable section

namespace Cert.ReferenceIdeal.Conv

open Cert.Consts Cert.ReferenceIdeal Cert.ReferenceIdeal.Gen Idealize.ShloMosaic Idealize.ShloMosaic.TcCoe Idealize.ShloMosaic.Pointwise

/-- The gather at one index: the signal of that batch entry and channel at the start index, brought into the signal. -/
theorem gather_at {α : Type} (x : S64x3x1024.Idx → α) (idx : IVec S10000x11x1024x1 32) (b : Fin 64) (c : Fin 3) (n : Fin 10000)
    (p : Fin 11) (t : Fin 1024) :
    Host.gather gather_S64x3x1024_S10000x11x1024x1_S64x3x10000x11x1024_01_2_n_n_2_3_6431 x idx (ix5 b c n p t)
      = x (ix3 b c ⟨min (idx (ix4 n p t 0)).toInt.toNat 1023, by omega⟩) := by
  unfold Host.gather
  congr 1
  funext a
  refine Fin.ext ?_
  match a with
  | ⟨0, _⟩ => show 0 + 0 + b.val = b.val; omega
  | ⟨1, _⟩ => show 0 + 0 + c.val = c.val; omega
  | ⟨2, _⟩ =>
    have hsi : gather_S64x3x1024_S10000x11x1024x1_S64x3x10000x11x1024_01_2_n_n_2_3_6431.siIdx (ix5 b c n p t) ⟨0, by decide⟩
        = ix4 n p t 0 := by
      funext a
      refine Fin.ext ?_
      match a with
      | ⟨0, _⟩ => rfl
      | ⟨1, _⟩ => rfl
      | ⟨2, _⟩ => rfl
      | ⟨3, _⟩ => rfl
    have hread : (gather_S64x3x1024_S10000x11x1024x1_S64x3x10000x11x1024_01_2_n_n_2_3_6431.operandIdx
          (ix5 b c n p t) idx ⟨2, by decide⟩).val
        = min (idx (gather_S64x3x1024_S10000x11x1024x1_S64x3x10000x11x1024_01_2_n_n_2_3_6431.siIdx (ix5 b c n p t)
            ⟨0, by decide⟩)).toInt.toNat 1023 := rfl
    rw [hsi] at hread
    exact hread

/-- A sum over channels and taps of an array over batch entries, channels, kernels, taps and times. -/
theorem sum_at (h : S64x3x10000x11x1024.ReducesTo [1, 3] S64x10000x1024) (v : S64x3x10000x11x1024.Idx → EReal) (init : EReal)
    (b : Fin 64) (n : Fin 10000) (t : Fin 1024) :
    Ideal.hostReduceAdd h v init (ix3 b n t) = init + ∑ c : Fin 3, ∑ p : Fin 11, v (ix5 b c n p t) := by
  refine congrArg (init + ·) ?_
  refine (Finset.sum_filter_eq_sum_of_fiber _ (fun k : Fin 3 × Fin 11 => (ix5 b k.1 n k.2 t : S64x3x10000x11x1024.Idx))
    (fun _ _ e => Prod.ext (congrFun e 1) (congrFun e 3)) (fun i => ?_) v).trans ?_
  · constructor
    · intro e
      refine ⟨(i 1, i 3), ?_⟩
      funext a; apply Fin.ext
      match a with
      | ⟨0, _⟩ => exact (congrArg Fin.val (congrFun e 0)).symm
      | ⟨1, _⟩ => rfl
      | ⟨2, _⟩ => exact (congrArg Fin.val (congrFun e 1)).symm
      | ⟨3, _⟩ => rfl
      | ⟨4, _⟩ => exact (congrArg Fin.val (congrFun e 2)).symm
    · rintro ⟨k, rfl⟩
      funext a; apply Fin.ext
      match a with
      | ⟨0, _⟩ => rfl
      | ⟨1, _⟩ => rfl
      | ⟨2, _⟩ => rfl
  · simp only [Fintype.sum_prod_type]

variable (ks half dil : IVec S10000 32)

/-- The time read, at one index. -/
theorem pos_at (n : Fin 10000) (p : Fin 11) (t : Fin 1024) :
    pos half dil (ix3 n p t)
      = BitVec.ofNat 32 t.val + (BitVec.ofNat 32 p.val - half (ix1 n)) * dil (ix1 n) := by
  unfold pos taps perTap
  pointwise
  rfl

/-- Whether the tap is inside, at one index. -/
theorem inside_at (n : Fin 10000) (p : Fin 11) (t : Fin 1024) :
    inside ks half dil (ix3 n p t)
      = IntOp.andi (IntOp.andi (IntOp.cmpi .slt (BitVec.ofNat 32 p.val) (ks (ix1 n))) (IntOp.cmpi .sge (pos half dil (ix3 n p t)) 0#32))
          (IntOp.cmpi .slt (pos half dil (ix3 n p t)) 1024#32) := by
  unfold inside taps perTap
  pointwise

/-- The convolution at one index. -/
theorem conv_at (x : FVec Ideal S64x3x1024 .f32) (w : FVec Ideal S10000x3x11 .f32) (bias : FVec Ideal S10000 .f32)
    (b : Fin 64) (n : Fin 10000) (t : Fin 1024) :
    (conv ks half dil x w bias (ix3 b n t) : EReal)
      = (∑ c : Fin 3, ∑ p : Fin 11, (if inside ks half dil (ix3 n p t) = 1#1
          then (x (ix3 b c ⟨min (pos half dil (ix3 n p t)).toInt.toNat 1023, by omega⟩) : EReal) else 0) * w (ix3 n c p)) + bias (ix1 n) := by
  have hsum : (Host.reduceAdd (mulf (seen ks half dil x) (weights w)) (constant S_ .f32 0x00000000#32)
      reducesTo_S64x3x10000x11x1024_S64x10000x1024_d1_3 h_S_ (ix3 b n t) : EReal)
      = Ideal.hostReduceAdd reducesTo_S64x3x10000x11x1024_S64x10000x1024_d1_3 (mulf (seen ks half dil x) (weights w))
          (Ideal.ofBits .f32 0x00000000#32) (ix3 b n t) := rfl
  have hb : (broadcastInDim S64x10000x1024 ![0, 1, 2] bcast_S1x10000x1_S64x10000x1024_0_1_2
      (broadcastInDim S1x10000x1 ![1] bcast_S10000_S1x10000x1_1 bias) (ix3 b n t) : EReal) = bias (ix1 n) := by
    pointwise
  show (_ + _ : EReal) = _
  rw [hsum, hb, sum_at, ofBits_zero, zero_add]
  refine congrArg (· + (bias (ix1 n) : EReal)) ?_
  refine Finset.sum_congr rfl fun c _ => Finset.sum_congr rfl fun p _ => ?_
  have hw : (weights w (ix5 b c n p t) : EReal) = w (ix3 n c p) := by
    unfold weights
    pointwise
  have hs : (seen ks half dil x (ix5 b c n p t) : EReal) = if inside ks half dil (ix3 n p t) = 1#1
          then (x (ix3 b c ⟨min (pos half dil (ix3 n p t)).toInt.toNat 1023, by omega⟩) : EReal) else 0 := by
    have hi : broadcastInDim S64x3x10000x11x1024 ![2, 3, 4] bcast_S10000x11x1024_S64x3x10000x11x1024_2_3_4 (inside ks half dil)
        (ix5 b c n p t) = inside ks half dil (ix3 n p t) := by
      pointwise
    have hg : (broadcastInDim S10000x11x1024x1 ![0, 1, 2] bcast_S10000x11x1024_S10000x11x1024x1_0_1_2 (pos half dil)) (ix4 n p t 0)
        = pos half dil (ix3 n p t) := by
      pointwise
    have hz : (broadcastInDim S64x3x10000x11x1024 ![] bcast_S_S64x3x10000x11x1024 (id (constant (F := Ideal) S_ .f32 0x00000000#32))
        (ix5 b c n p t) : EReal) = 0 := by
      exact ofBits_zero
    show Scalar.select _ _ _ = _
    simp only [hi, gather_at, hg, hz]
    rfl
  show (_ * _ : EReal) = _
  rw [hs, hw]

end Cert.ReferenceIdeal.Conv

end
-- ==== Proof.SigPlace.lean ====
/- Where in the signal a padded index and a reference time lie. -/
module

public import proofs.«01_k».proof.Proof.KerRead
public import proofs.«01_k».proof.Proof.RefRead

@[expose] public section

noncomputable section

namespace Cert.Equal

open Cert.ReferenceIdeal Cert.ReferenceIdeal.Gen Idealize.ShloMosaic Idealize.ShloMosaic.TcCoe Idealize.ShloMosaic.Pointwise

/-- A signal at any time: zero outside its 1024 times. -/
def ext (x : FVec Ideal S64x3x1024 .f32) (b : Fin 64) (c : Fin 3) (z : ℤ) : EReal :=
  if h : 0 ≤ z ∧ z < 1024 then (x (ix3 b c ⟨z.toNat, by omega⟩) : EReal) else 0

/-- The padded signal holds the signal 80 places on. -/
theorem padded_ext (x : FVec Ideal S64x3x1024 .f32) (b : Fin 64) (c : Fin 3) (j : Fin 1184) :
    (Cert.KernelIdeal.Entry.padded x (ix3 b c j) : EReal) = ext x b c ((j.val : ℤ) - 80) := by
  rw [Cert.KernelIdeal.Entry.padded_at, ext]
  by_cases h : 80 ≤ j.val ∧ j.val < 1104
  · rw [dif_pos h, dif_pos (by omega)]
    refine congrArg (fun k => (x (ix3 b c k) : EReal)) (Fin.ext ?_)
    show j.val - 80 = ((j.val : ℤ) - 80).toNat
    omega
  · rw [dif_neg h, dif_neg (by omega)]

/-- The time read by a tap, as a number. -/
theorem pos_toInt (half dil : IVec S10000 32) (n : Fin 10000) (p : Fin 11) (t : Fin 1024) (h d : ℕ) (hh : h ≤ 5) (hd : d ≤ 16)
    (eh : half (ix1 n) = BitVec.ofNat 32 h) (ed : dil (ix1 n) = BitVec.ofNat 32 d) :
    (Conv.pos half dil (ix3 n p t)).toInt = (t.val : ℤ) + ((p.val : ℤ) - h) * d := by
  rw [Conv.pos_at, eh, ed]
  have hv : BitVec.ofNat 32 t.val + (BitVec.ofNat 32 p.val - BitVec.ofNat 32 h) * BitVec.ofNat 32 d
      = BitVec.ofInt 32 ((t.val : ℤ) + ((p.val : ℤ) - h) * d) := by
    rw [BitVec.ofInt_add, BitVec.ofInt_mul, Int.sub_eq_add_neg, BitVec.ofInt_add, BitVec.ofInt_neg, BitVec.ofInt_natCast,
      BitVec.ofInt_natCast, BitVec.ofInt_natCast, BitVec.ofInt_natCast, BitVec.sub_eq_add_neg]
  rw [hv]
  have h1 : ((p.val : ℤ) - h) * d ≤ 10 * 16 := by
    refine le_trans (mul_le_mul_of_nonneg_right (by omega : (p.val : ℤ) - h ≤ 10) (by omega)) ?_
    omega
  have h2 : -(5 * 16) ≤ ((p.val : ℤ) - h) * d := by
    refine le_trans ?_ (mul_le_mul_of_nonneg_right (by omega : (-5 : ℤ) ≤ (p.val : ℤ) - h) (by omega))
    omega
  exact BitVec.toInt_ofInt_eq_self (by decide) (by norm_num; omega) (by norm_num; omega)

/-- What a tap of the reference sees: the signal at the time it reads, and zero if it is not one of the kernel's taps. -/
theorem seen_ext (ks half dil : IVec S10000 32) (x : FVec Ideal S64x3x1024 .f32) (b : Fin 64) (c : Fin 3) (n : Fin 10000)
    (p : Fin 11) (t : Fin 1024) (k h d : ℕ) (hk : k ≤ 11) (hh : h ≤ 5) (hd : d ≤ 16)
    (ek : ks (ix1 n) = BitVec.ofNat 32 k) (eh : half (ix1 n) = BitVec.ofNat 32 h) (ed : dil (ix1 n) = BitVec.ofNat 32 d) :
    (if Conv.inside ks half dil (ix3 n p t) = 1#1
        then (x (ix3 b c ⟨min (Conv.pos half dil (ix3 n p t)).toInt.toNat 1023, by omega⟩) : EReal) else 0)
      = if p.val < k then ext x b c ((t.val : ℤ) + ((p.val : ℤ) - h) * d) else 0 := by
  have hpos := pos_toInt half dil n p t h d hh hd eh ed
  have hin : Conv.inside ks half dil (ix3 n p t) = 1#1
      ↔ (p.val < k ∧ 0 ≤ (t.val : ℤ) + ((p.val : ℤ) - h) * d) ∧ (t.val : ℤ) + ((p.val : ℤ) - h) * d < 1024 := by
    have hp : (BitVec.ofNat 32 p.val).toInt = p.val := by
      rw [← BitVec.ofInt_natCast]; exact BitVec.toInt_ofInt_eq_self (by decide) (by omega) (by norm_num; omega)
    have hk' : (BitVec.ofNat 32 k).toInt = k := by
      rw [← BitVec.ofInt_natCast]; exact BitVec.toInt_ofInt_eq_self (by decide) (by omega) (by norm_num; omega)
    rw [Conv.inside_at, ek, IntOp.andi_eq_one, IntOp.andi_eq_one, IntOp.cmpi_slt, IntOp.cmpi_sge, IntOp.cmpi_slt, hpos, hp, hk']
    have e0 : (0#32 : BitVec 32).toInt = 0 := by decide
    have e1 : (1024#32 : BitVec 32).toInt = 1024 := by decide
    rw [e0, e1]
    omega
  by_cases hpk : p.val < k
  · rw [if_pos hpk, ext]
    by_cases hz : 0 ≤ (t.val : ℤ) + ((p.val : ℤ) - h) * d ∧ (t.val : ℤ) + ((p.val : ℤ) - h) * d < 1024
    · rw [if_pos (hin.mpr ⟨⟨hpk, hz.1⟩, hz.2⟩), dif_pos hz]
      refine congrArg (fun k => (x (ix3 b c k) : EReal)) (Fin.ext ?_)
      show min (Conv.pos half dil (ix3 n p t)).toInt.toNat 1023 = _
      rw [hpos]
      show min _ _ = ((t.val : ℤ) + ((p.val : ℤ) - h) * d).toNat
      omega
    · rw [if_neg fun e => hz ⟨(hin.mp e).1.2, (hin.mp e).2⟩, dif_neg hz]
  · rw [if_neg hpk, if_neg fun e => hpk (hin.mp e).1.1]

end Cert.Equal

end
-- ==== Proof.Sums.lean ====
/- Sums of extended reals against tables of zeros and ones. -/
module

public import Mathlib.Data.EReal.Operations
public import Mathlib.Algebra.BigOperators.Fin

@[expose] public section

namespace Cert.Sums

/-- Rows weighted by weights that are gathered from taps, each of which meets its own row, and by a bias that meets a further
    row: the rows of the taps weighted by the taps, and the row of the bias by the bias. -/
theorem sum_scattered {R K : Type} [Fintype R] [DecidableEq R] [Fintype K] (ρ : K → R) (hρ : Function.Injective ρ) (β : R)
    (hβ : ∀ k, ρ k ≠ β) (x : R → EReal) (v : K → EReal) (b : EReal) :
    ∑ r, x r * ((∑ k, (if r = ρ k then 1 else 0) * v k) + (if r = β then 1 else 0) * b) = (∑ k, x (ρ k) * v k) + x β * b := by
  have hterm : ∀ r, x r * ((∑ k, (if r = ρ k then 1 else 0) * v k) + (if r = β then 1 else 0) * b)
      = (∑ k, if r = ρ k then x r * v k else 0) + if r = β then x r * b else 0 := by
    intro r
    by_cases hr : ∃ k, r = ρ k
    · obtain ⟨k, rfl⟩ := hr
      have h1 : ∑ j, (if ρ k = ρ j then (1 : EReal) else 0) * v j = v k := by
        rw [Finset.sum_eq_single k (fun j _ hj => by rw [if_neg fun e => hj (hρ e).symm, zero_mul]) (by simp)]
        simp
      have h2 : (∑ j, if ρ k = ρ j then x (ρ k) * v j else 0) = x (ρ k) * v k := by
        rw [Finset.sum_eq_single k (fun j _ hj => if_neg fun e => hj (hρ e).symm) (by simp)]
        simp
      rw [h1, h2, if_neg (hβ k), if_neg (hβ k), zero_mul, add_zero, add_zero]
    · have h1 : ∑ j, (if r = ρ j then (1 : EReal) else 0) * v j = 0 :=
        Finset.sum_eq_zero fun j _ => by rw [if_neg fun e => hr ⟨j, e⟩, zero_mul]
      have h2 : (∑ j, if r = ρ j then x r * v j else 0) = 0 :=
        Finset.sum_eq_zero fun j _ => if_neg fun e => hr ⟨j, e⟩
      rw [h1, h2, zero_add, zero_add]
      by_cases hb : r = β
      · rw [if_pos hb, if_pos hb, one_mul]
      · rw [if_neg hb, if_neg hb, zero_mul, mul_zero]
  rw [Finset.sum_congr rfl fun r _ => hterm r, Finset.sum_add_distrib, Finset.sum_comm]
  congr 1
  · refine Finset.sum_congr rfl fun k _ => ?_
    rw [Finset.sum_ite_eq' Finset.univ (ρ k) fun r => x r * v k, if_pos (Finset.mem_univ _)]
  · rw [Finset.sum_ite_eq' Finset.univ β fun r => x r * b, if_pos (Finset.mem_univ _)]

/-- A sum over 165 places, as a sum over dilations, channels and taps. -/
theorem sum_165 (f : Fin 5 → Fin 3 → Fin 11 → EReal) :
    ∑ q : Fin 165, f ⟨q.val / 33, by omega⟩ ⟨q.val / 11 % 3, by omega⟩ ⟨q.val % 11, by omega⟩
      = ∑ g, ∑ k : Fin 3 × Fin 11, f g k.1 k.2 := by
  rw [← Fintype.sum_prod_type' fun g (k : Fin 3 × Fin 11) => f g k.1 k.2]
  refine Finset.sum_nbij' (fun q : Fin 165 => ((⟨q.val / 33, by omega⟩, ⟨q.val / 11 % 3, by omega⟩, ⟨q.val % 11, by omega⟩) :
      Fin 5 × Fin 3 × Fin 11)) (fun k => ⟨33 * k.1.val + 11 * k.2.1.val + k.2.2.val, by omega⟩)
    (fun _ _ => Finset.mem_univ _) (fun _ _ => Finset.mem_univ _) (fun q _ => Fin.ext ?_) (fun k _ => ?_) (fun _ _ => rfl)
  · show 33 * (q.val / 33) + 11 * (q.val / 11 % 3) + q.val % 11 = q.val
    omega
  · refine Prod.ext (Fin.ext ?_) (Prod.ext (Fin.ext ?_) (Fin.ext ?_))
    · show (33 * k.1.val + 11 * k.2.1.val + k.2.2.val) / 33 = k.1.val
      omega
    · show (33 * k.1.val + 11 * k.2.1.val + k.2.2.val) / 11 % 3 = k.2.1.val
      omega
    · show (33 * k.1.val + 11 * k.2.1.val + k.2.2.val) % 11 = k.2.2.val
      omega

end Cert.Sums
-- ==== Proof.Tile.lean ====
/- What one column tile of the kernel computes: the largest convolution value of each of its 256 columns over the 1024
   times, and the share of the times at which the value is not negative. The body writes the two of each tile into its two
   result blocks; this module names them and reads them at a column. -/
module

public import proofs.«01_k».proof.Proof.Gen.KernelIdeal.Frame
public import Idealize.ShloMosaic.Lib.Pointwise

@[expose] public section

set_option maxRecDepth 16384

noncomputable section

namespace Cert.KernelIdeal.Tile

open Idealize.ShloMosaic Idealize.ShloMosaic.Pointwise Cert.KernelIdeal.Gen

variable {F : FTy → Type} [FloatOps F]

/-- The products of 256 times with one weight tile, the times cut into 32 groups of 8. -/
def prods (x : Vec F S256x128 .f32) (w : Vec F S1x128x256 .f32) : FVec F S32x8x256 .f32 :=
  shapeCast S32x8x256
    (matmul dot_S256x128_S128x256_S256x256_1_0_0_1_n_n none x (shapeCast S128x256 w shapeCasts_S1x128x256_S128x256)
      (constant S256x256 .f32 0x00000000#32)) shapeCasts_S256x256_S32x8x256

/-- The largest of the 32 groups. -/
def top (x : Vec F S256x128 .f32) (w : Vec F S1x128x256 .f32) : FVec F S8x256 .f32 :=
  multiReduction .maximumf [0] S8x256 (prods x w) 0xFF800000#32 reduces_S32x8x256_S8x256 (.inl rfl) rfl

/-- The number of the 32 groups whose product is negative. -/
def negs (x : Vec F S256x128 .f32) (w : Vec F S1x128x256 .f32) : IVec S8x256 32 :=
  multiReductionI .add [0] S8x256 (extui 32 (cmpf .olt (prods x w) (constant S32x8x256 .f32 0x00000000#32)) natLt_1_32) 0#32
    reduces_S32x8x256_S8x256 rfl

/-- What the body stores of one weight tile into the first result block: the maxima. -/
def tileMx (x0 x1 x2 x3 : Vec F S256x128 .f32) (w : Vec F S1x128x256 .f32) : FVec F S1x1x256 .f32 :=
  shapeCast S1x1x256 (shapeCast S1x256 (multiReduction .maximumf [0] S256
    (maximumf (maximumf (maximumf (maximumf (broadcast S8x256 (Scalar.ofBits .f32 0xFF800000#32)) (top x0 w)) (top x1 w)) (top x2 w)) (top x3 w))
    0xFF800000#32 reduces_S8x256_S256 (.inl rfl) rfl) shapeCasts_S256_S1x256) shapeCasts_S1x256_S1x1x256

/-- What the body stores of one weight tile into the second result block: one minus the share of negative values. -/
def tilePv (x0 x1 x2 x3 : Vec F S256x128 .f32) (w : Vec F S1x128x256 .f32) : FVec F S1x1x256 .f32 :=
  shapeCast S1x1x256 (subf (broadcast S1x256 (Scalar.ofBits .f32 0x3F800000#32))
    (mulf (sitofp .f32 (shapeCast S1x256 (multiReductionI .add [0] S256
      (addi (addi (addi (addi (broadcast S8x256 0#32) (negs x0 w)) (negs x1 w)) (negs x2 w)) (negs x3 w))
      0#32 reduces_S8x256_S256 rfl) shapeCasts_S256_S1x256))
      (broadcast S1x256 (Scalar.ofBits .f32 0x3A800000#32)))) shapeCasts_S1x256_S1x1x256

end Cert.KernelIdeal.Tile

end
-- ==== Proof.Pieces.lean ====
/- The stores of the body, as lists over the tiles and over the copied rows. -/
module

public import proofs.«01_k».proof.Proof.Tile

@[expose] public section

set_option maxRecDepth 16384

noncomputable section

namespace Cert.KernelIdeal.Pieces

open Idealize.ShloMosaic Idealize.ShloMosaic.Tactic Cert.KernelIdeal.Gen Cert.KernelIdeal.Tile

variable {F : FTy → Type} [FloatOps F]

/-- Column tile `j` lies in the result block. -/
theorem inbOut (j : Fin 40) : ∀ a, (![0, 0, 256 * j.val] : Fin 3 → ℕ) a + S1x1x256.size a ≤ S1x1x10240.size a := by
  revert j; decide
/-- Weight tile `j` lies in the weight array. -/
theorem inbW (j : Fin 40) : ∀ a, (![j.val, 0, 0] : Fin 3 → ℕ) a + S1x128x256.size a ≤ S40x128x256.size a := by
  revert j; decide

/-- The rectangle of weight tile `j`. -/
abbrev wrect (j : Fin 40) : Rect S40x128x256 := Rect.unit ![j.val, 0, 0] S1x128x256.size (inbW j)

/-- The stores of the body into a result block, the last tile first: `P j` at column tile `j`. -/
def tiles (P : Fin 40 → Vec F S1x1x256 .f32) : List (View.Piece (Elt F) S1x1x10240 .f32) :=
  (List.finRange 40).reverse.map fun j => ⟨Rect.unit ![0, 0, 256 * j.val] S1x1x256.size (inbOut j), P j⟩

section
variable (c : Dev nD) (i : grid0.Coords) (arg1 : Memref sig .tc .vmem S1x3x1184 .f32) (harg1 : arg1.IsWhole) (arg2 : Memref sig .tc .vmem S40x128x256 .f32) (harg2 : arg2.IsWhole) (arg3 : Memref sig .tc .vmem S1x1x10240 .f32) (harg3 : arg3.IsWhole) (arg4 : Memref sig .tc .vmem S1x1x10240 .f32) (harg4 : arg4.IsWhole) (arg5 : Memref sig .tc .vmem S128x1024 .f32) (harg5 : arg5.IsWhole) (arg6 : Memref sig .tc .vmem S1024x128 .f32) (harg6 : arg6.IsWhole)
  (x0 : Vec F S1x3x1184 .f32) (x1 : Vec F S40x128x256 .f32)

/-- The weight tile `j` as the body loads it. -/
abbrev wtile (j : Fin 40) : Vec F S1x128x256 .f32 :=
  View.readAt (Elt F) arg2.view (wrect j).toLoadRect (harg2.unread x1)

/-- The body's stores into the first result block are the tiles' maxima. -/
theorem mx_pieces : (kernelRun0_A c i arg1 harg1 arg2 harg2 arg3 harg3 arg4 harg4 arg5 harg5 arg6 harg6 x0 x1).1
    = tiles fun j => tileMx (kernelRun0_A.sl.v542 c arg1 harg1 arg5 arg6 x0) (kernelRun0_A.sl.v555 c arg1 harg1 arg5 arg6 x0)
        (kernelRun0_A.sl.v568 c arg1 harg1 arg5 arg6 x0) (kernelRun0_A.sl.v581 c arg1 harg1 arg5 arg6 x0) (wtile arg2 harg2 x1 j) := by
  sl_kernel_rfl

/-- The body's stores into the second result block are the tiles' shares. -/
theorem pv_pieces : (kernelRun0_A c i arg1 harg1 arg2 harg2 arg3 harg3 arg4 harg4 arg5 harg5 arg6 harg6 x0 x1).2.1
    = tiles fun j => tilePv (kernelRun0_A.sl.v542 c arg1 harg1 arg5 arg6 x0) (kernelRun0_A.sl.v555 c arg1 harg1 arg5 arg6 x0)
        (kernelRun0_A.sl.v568 c arg1 harg1 arg5 arg6 x0) (kernelRun0_A.sl.v581 c arg1 harg1 arg5 arg6 x0) (wtile arg2 harg2 x1 j) := by
  sl_kernel_rfl
end

/-- Where in a padded row the shifted copies start: the 35 different shifts, each plus 80, in order. -/
def starts : Fin 35 → ℕ :=
  ![0, 16, 32, 40, 48, 56, 60, 64, 68, 70, 72, 74, 75, 76, 77, 78, 79, 80, 81, 82, 83, 84, 85, 86, 88, 90, 92, 96, 100, 104, 112, 120, 128, 144, 160]

/-- The channel of copied row `r`. -/
abbrev chan (r : Fin 105) : Fin 3 := ⟨r.val / 35, by omega⟩
/-- The start of copied row `r` in its channel. -/
abbrev start (r : Fin 105) : ℕ := starts ⟨r.val % 35, by omega⟩

/-- Row `r` of the copies lies in the scratch. -/
theorem inbRow (r : Fin 105) : ∀ a, (![r.val, 0] : Fin 2 → ℕ) a + S1x1024.size a ≤ S128x1024.size a := by
  revert r; decide
/-- The 1024 elements copied to row `r` lie in the padded block. -/
theorem inbSrc (r : Fin 105) : ∀ a, (![0, (chan r).val, start r] : Fin 3 → ℕ) a + S1x1x1024.size a ≤ S1x3x1184.size a := by
  revert r; decide

/-- The rectangle of the padded block that is copied to row `r`. -/
abbrev srect (r : Fin 105) : Rect S1x3x1184 := Rect.unit ![0, (chan r).val, start r] S1x1x1024.size (inbSrc r)

/-- The body's stores into the row scratch: 22 rows of zeros, a row of ones, and the 105 shifted copies. -/
theorem row_pieces (c : Dev nD) (arg1 : Memref sig .tc .vmem S1x3x1184 .f32) (harg1 : arg1.IsWhole) (x0 : Vec F S1x3x1184 .f32) :
    kernelRun0_A.sl.HS0_107 c arg1 harg1 x0
      = ⟨Rect.unit ![106, 0] S22x1024.size inb_S128x1024_S22x1024_106_0, k0_pay117⟩ ::
        ⟨Rect.unit ![105, 0] S1x1024.size inb_S128x1024_S1x1024_105_0, k0_pay116⟩ ::
        ((List.finRange 105).reverse.map fun r => (⟨Rect.unit ![r.val, 0] S1x1024.size (inbRow r),
          shapeCast S1x1024 (shapeCast S1x1024 (View.readAt (Elt F) arg1.view
            (srect r).toLoadRect (harg1.unread x0))
            shapeCasts_S1x1x1024_S1x1024) shapeCasts_S1x1024_S1x1024⟩ : View.Piece (Elt F) S128x1024 .f32)) := by
  sl_kernel_rfl

end Cert.KernelIdeal.Pieces

end
-- ==== Proof.Places.lean ====
/- Which row of the row scratch each tap meets: the copied row of its channel that starts where the tap does. -/
module

public import proofs.«01_k».proof.Proof.Pieces

@[expose] public section

namespace Cert.Tables

open Cert.KernelIdeal Cert.KernelIdeal.Pieces

/-- The place, among the 35 starts, of the start that tap `p` meets under the dilation `2 ^ g`. -/
def place (g : Fin 5) (p : Fin 11) : Fin 35 :=
  (![![12, 13, 14, 15, 16, 17, 18, 19, 20, 21, 22], ![9, 10, 11, 13, 15, 17, 19, 21, 23, 24, 25],
    ![6, 7, 8, 10, 13, 17, 21, 24, 26, 27, 28], ![3, 4, 5, 7, 10, 17, 24, 27, 29, 30, 31],
    ![0, 1, 2, 4, 7, 17, 27, 30, 32, 33, 34]] : Fin 5 → Fin 11 → Fin 35) g p

/-- The row that tap `p` of channel `c` meets under the dilation `2 ^ g`. -/
def place105 (g : Fin 5) (c : Fin 3) (p : Fin 11) : Fin 105 := ⟨35 * c.val + (place g p).val, by omega⟩

/-- The same among all 128 rows. -/
def rowOf (g : Fin 5) (c : Fin 3) (p : Fin 11) : Fin 128 := ⟨35 * c.val + (place g p).val, by omega⟩

/-- The start of a tap's place: 80, and the tap's distance from the middle tap in steps of the dilation. -/
theorem start_place : ∀ (g : Fin 5) (p : Fin 11), starts (place g p) + 5 * 2 ^ g.val = 80 + p.val * 2 ^ g.val := by
  decide +kernel

/-- A tap's row starts where the tap's place does. -/
theorem start_row (g : Fin 5) (c : Fin 3) (p : Fin 11) : start (place105 g c p) = starts (place g p) := by
  have h : (35 * c.val + (place g p).val) % 35 = (place g p).val := by omega
  show starts ⟨(35 * c.val + (place g p).val) % 35, _⟩ = _
  exact congrArg starts (Fin.ext h)

/-- The channel of a tap's row is the tap's. -/
theorem chan_row (g : Fin 5) (c : Fin 3) (p : Fin 11) : chan (place105 g c p) = c := by
  apply Fin.ext
  show (35 * c.val + (place g p).val) / 35 = c.val
  omega

/-- Under one dilation, taps of different channels or places meet different rows. -/
theorem rowOf_inj (g : Fin 5) {c c' : Fin 3} {p p' : Fin 11} (h : rowOf g c p = rowOf g c' p') : c = c' ∧ p = p' := by
  have h0 : 35 * c.val + (place g p).val = 35 * c'.val + (place g p').val := congrArg Fin.val h
  have hc : c = c' := Fin.ext (by omega)
  have hp : place g p = place g p' := Fin.ext (by omega)
  exact ⟨hc, (by decide +kernel : ∀ g p p', place g p = place g p' → p = p') g p p' hp⟩

/-- No tap meets the row of ones. -/
theorem rowOf_ne (g : Fin 5) (c : Fin 3) (p : Fin 11) : (rowOf g c p).val < 105 := (place105 g c p).isLt

end Cert.Tables
-- ==== Proof.Counts.lean ====
/- A maximum and a count over 1024 times, taken as the kernel takes them: in four runs of 256, each cut into 32 groups of 8,
   the groups first, then the runs, then the eight places in a group. -/
module

public import Idealize.ShloMosaic.Lib.Pointwise
public import Idealize.ShloMosaic.Lib.IndicatorCount

@[expose] public section

noncomputable section

namespace Cert.Counts

open Idealize.ShloMosaic

/-- The grouped maximum, from the bottom, is the maximum over all times. -/
theorem max_grouped (f : Fin 1024 → EReal) :
    Finset.fold max ⊥ (fun b : Fin 8 => max (max (max (max ⊥
        (Finset.fold max ⊥ (fun a : Fin 32 => f ⟨0 + (a.val * 8 + b.val), by omega⟩) Finset.univ))
        (Finset.fold max ⊥ (fun a : Fin 32 => f ⟨256 + (a.val * 8 + b.val), by omega⟩) Finset.univ))
        (Finset.fold max ⊥ (fun a : Fin 32 => f ⟨512 + (a.val * 8 + b.val), by omega⟩) Finset.univ))
        (Finset.fold max ⊥ (fun a : Fin 32 => f ⟨768 + (a.val * 8 + b.val), by omega⟩) Finset.univ)) Finset.univ
      = Finset.fold max ⊥ f Finset.univ := by
  refine eq_of_forall_ge_iff fun c => ?_
  simp only [Finset.fold_max_le, max_le_iff, bot_le, true_and, Finset.mem_univ, forall_true_left]
  constructor
  · intro h t
    obtain ⟨⟨⟨h0, h1⟩, h2⟩, h3⟩ := h ⟨t.val % 8, by omega⟩
    have ht : t.val < 256 ∨ 256 ≤ t.val ∧ t.val < 512 ∨ 512 ≤ t.val ∧ t.val < 768 ∨ 768 ≤ t.val := by omega
    have e (q : ℕ) (hq : q + (t.val % 256 / 8 * 8 + t.val % 8) < 1024) (h : q = t.val / 256 * 256) :
        (⟨q + (t.val % 256 / 8 * 8 + t.val % 8), hq⟩ : Fin 1024) = t := Fin.ext (by dsimp only; omega)
    rcases ht with ht | ht | ht | ht
    · exact e 0 (by omega) (by omega) ▸ h0 ⟨t.val % 256 / 8, by omega⟩
    · exact e 256 (by omega) (by omega) ▸ h1 ⟨t.val % 256 / 8, by omega⟩
    · exact e 512 (by omega) (by omega) ▸ h2 ⟨t.val % 256 / 8, by omega⟩
    · exact e 768 (by omega) (by omega) ▸ h3 ⟨t.val % 256 / 8, by omega⟩
  · intro h b
    exact ⟨⟨⟨fun _ => h _, fun _ => h _⟩, fun _ => h _⟩, fun _ => h _⟩

/-- A sum over 1024 times is the sum over the eight places of the sums over the four runs of the sums over the groups. -/
theorem sum_grouped (g : Fin 1024 → ℕ) :
    ∑ t, g t = ∑ b : Fin 8, ((((∑ a : Fin 32, g ⟨0 + (a.val * 8 + b.val), by omega⟩)
        + ∑ a : Fin 32, g ⟨256 + (a.val * 8 + b.val), by omega⟩)
        + ∑ a : Fin 32, g ⟨512 + (a.val * 8 + b.val), by omega⟩)
        + ∑ a : Fin 32, g ⟨768 + (a.val * 8 + b.val), by omega⟩) := by
  have h : ∑ t, g t = ∑ q : Fin 4, ∑ a : Fin 32, ∑ b : Fin 8, g ⟨256 * q.val + (a.val * 8 + b.val), by omega⟩ := by
    rw [← (finProdFinEquiv (m := 4) (n := 256)).sum_comp, Fintype.sum_prod_type]
    refine Finset.sum_congr rfl fun q _ => ?_
    rw [← (finProdFinEquiv (m := 32) (n := 8)).sum_comp, Fintype.sum_prod_type]
    refine Finset.sum_congr rfl fun a _ => Finset.sum_congr rfl fun b _ => congrArg g (Fin.ext ?_)
    simp only [finProdFinEquiv_apply_val]
    omega
  rw [h, Fin.sum_univ_four, Finset.sum_add_distrib, Finset.sum_add_distrib, Finset.sum_add_distrib]
  simp only [Finset.sum_comm (s := (Finset.univ : Finset (Fin 32)))]
  rfl

/-- A sum of words that hold naturals holds the sum of the naturals. -/
theorem fold_ofNat {ι : Type} (S : Finset ι) (g : ι → ℕ) :
    S.fold IntOp.addi (0#32) (fun k => BitVec.ofNat 32 (g k)) = BitVec.ofNat 32 (∑ k ∈ S, g k) := by
  classical
  induction S using Finset.induction_on with
  | empty => rfl
  | insert a S ha ih =>
    rw [Finset.fold_insert ha, ih, Finset.sum_insert ha]
    exact (BitVec.ofNat_add _ _).symm

/-- The grouped count of the set bits among 1024 is their number, as a word. -/
theorem count_grouped (p : Fin 1024 → BitVec 1) :
    Finset.fold IntOp.addi (0#32) (fun b : Fin 8 => IntOp.addi (IntOp.addi (IntOp.addi (IntOp.addi (0#32)
        (Finset.fold IntOp.addi (0#32) (fun a : Fin 32 => (p ⟨0 + (a.val * 8 + b.val), by omega⟩).setWidth 32) Finset.univ))
        (Finset.fold IntOp.addi (0#32) (fun a : Fin 32 => (p ⟨256 + (a.val * 8 + b.val), by omega⟩).setWidth 32) Finset.univ))
        (Finset.fold IntOp.addi (0#32) (fun a : Fin 32 => (p ⟨512 + (a.val * 8 + b.val), by omega⟩).setWidth 32) Finset.univ))
        (Finset.fold IntOp.addi (0#32) (fun a : Fin 32 => (p ⟨768 + (a.val * 8 + b.val), by omega⟩).setWidth 32) Finset.univ)) Finset.univ
      = BitVec.ofNat 32 (Finset.univ.filter fun t => p t = 1#1).card := by
  have hz (x : BitVec 32) : IntOp.addi (0#32) x = x := BitVec.zero_add x
  have ha (m n : ℕ) : IntOp.addi (BitVec.ofNat 32 m) (BitVec.ofNat 32 n) = BitVec.ofNat 32 (m + n) := (BitVec.ofNat_add m n).symm
  simp only [IndicatorCount.fold_addi_setWidth_eq_card, hz, ha, fold_ofNat, Finset.card_filter]
  rw [← sum_grouped fun t => if p t = 1#1 then 1 else 0]

/-- A word that holds a natural of at most 1024 reads, signed, as that natural. -/
theorem toInt_ofNat {n : ℕ} (h : n ≤ 1024) : (BitVec.ofNat 32 n).toInt = n := by
  rw [BitVec.toInt_eq_toNat_cond, BitVec.toNat_ofNat]
  have : n % 2 ^ 32 = n := Nat.mod_eq_of_lt (by omega)
  rw [this, if_pos (by omega)]

end Cert.Counts

end
-- ==== Proof.TileValue.lean ====
/- What a column tile holds over the extended reals: in each column the largest product over the 1024 times, and one minus the
   share of the times at which the product is negative. -/
module

public import proofs.«01_k».proof.Proof.Tile
public import proofs.«01_k».proof.Proof.Counts
public import proofs.«01_k».proof.Proof.Consts

@[expose] public section

set_option maxRecDepth 16384

noncomputable section

namespace Cert.KernelIdeal.Tile

open Idealize.ShloMosaic Idealize.ShloMosaic.Pointwise Cert.KernelIdeal.Gen

/-- The product of row `t` of the time-major scratch with column `l` of a weight tile. -/
def prodAt (X : Vec Ideal S1024x128 .f32) (w : Vec Ideal S1x128x256 .f32) (l : Fin 256) (t : Fin 1024) : EReal :=
  ∑ k : Fin 128, X (ix2 t k) * w (ix3 0 k l)

/-- The largest of 1024 numbers. -/
def top1024 (f : Fin 1024 → EReal) : EReal := Finset.fold max ⊥ f Finset.univ

/-- One minus the share of the negative ones among 1024 numbers. -/
def share1024 (f : Fin 1024 → EReal) : EReal :=
  1 - (((Finset.univ.filter fun t => f t < 0).card : ℝ) : EReal) * (((1 : ℝ) / 1024 : ℝ) : EReal)

/-- Rows `256 q` to `256 q + 255` of the time-major scratch. -/
def rows (q : ℕ) (hq : q + 256 ≤ 1024) (X : Vec Ideal S1024x128 .f32) : Vec Ideal S256x128 .f32 :=
  fun i => X (ix2 ⟨q + (i 0).val, by have : (i 0).val < 256 := (i 0).isLt; omega⟩ (i 1))

/-- The first result tile at column `l` is the largest product. -/
theorem tileMx_at (X : Vec Ideal S1024x128 .f32) (w : Vec Ideal S1x128x256 .f32) (l : Fin 256) :
    tileMx (rows 0 (by decide) X) (rows 256 (by decide) X) (rows 512 (by decide) X) (rows 768 (by decide) X) w (ix3 0 0 l)
      = top1024 (prodAt X w l) := by
  pointwise [tileMx, top, prods]
  rw [Consts.ofBits_bot]
  exact Counts.max_grouped (prodAt X w l)

/-- The second result tile at column `l` is one minus the share of negative products. -/
theorem tilePv_at (X : Vec Ideal S1024x128 .f32) (w : Vec Ideal S1x128x256 .f32) (l : Fin 256) :
    tilePv (rows 0 (by decide) X) (rows 256 (by decide) X) (rows 512 (by decide) X) (rows 768 (by decide) X) w (ix3 0 0 l)
      = share1024 (prodAt X w l) := by
  pointwise [tilePv, negs, prods]
  rw [Consts.ofBits_inv]
  have hc := Counts.count_grouped fun t => BitVec.ofBool (decide (prodAt X w l t < 0))
  have hf : (Finset.univ.filter fun t => BitVec.ofBool (decide (prodAt X w l t < 0)) = 1#1)
      = Finset.univ.filter fun t => prodAt X w l t < 0 := by
    refine Finset.filter_congr fun t _ => ?_
    by_cases h : prodAt X w l t < 0 <;> simp [h]
  rw [hf] at hc
  have hle : (Finset.univ.filter fun t => prodAt X w l t < 0).card ≤ 1024 := (Finset.card_le_univ _).trans (by simp)
  refine congrArg (fun z : EReal => 1 - z * (((1 : ℝ) / 1024 : ℝ) : EReal)) ?_
  refine (congrArg (fun b : BitVec 32 => FloatOps.sitofp (F := Ideal) FTy.f32 b) hc).trans ?_
  change (((BitVec.ofNat 32 (Finset.univ.filter fun t => prodAt X w l t < 0).card).toInt : ℝ) : EReal) = _
  rw [Counts.toInt_ofNat hle]
  simp

end Cert.KernelIdeal.Tile

end
-- ==== Proof.Body.lean ====
/- What the body leaves over the extended reals. The row scratch holds 105 shifted copies of the padded channels, a row of ones
   and 22 rows of zeros; each column of the two result blocks holds the maximum and the share of the products of those rows
   with the column's weights. -/
module

public import proofs.«01_k».proof.Proof.Pieces
public import proofs.«01_k».proof.Proof.TileValue
public import Idealize.ShloMosaic.Lib.WholeRead
public import Idealize.ShloMosaic.Lib.Pipeline.ValueKit.Tiles

@[expose] public section

set_option maxRecDepth 16384

noncomputable section

namespace Cert.KernelIdeal.Body

open Idealize.ShloMosaic Idealize.ShloMosaic.Pointwise Cert.KernelIdeal.Gen Cert.KernelIdeal.Tile Cert.KernelIdeal.Pieces

/-- No copied row reads past its padded channel. -/
theorem start_le (r : Fin 105) : start r ≤ 160 := by revert r; decide

/-- Row `r` of the row scratch at time `t`. -/
def rowAt (x0 : Vec Ideal S1x3x1184 .f32) (r : Fin 128) (t : Fin 1024) : EReal :=
  if h : r.val < 105 then x0 (ix3 0 (chan ⟨r.val, h⟩) ⟨start ⟨r.val, h⟩ + t.val, by have := start_le ⟨r.val, h⟩; omega⟩)
  else if r.val = 105 then 1 else 0

/-- The row scratch, whole. -/
def rowsOf (x0 : Vec Ideal S1x3x1184 .f32) : Vec Ideal S128x1024 .f32 := fun y => rowAt x0 (y 0) (y 1)

/-- One copied row: the payload of its store at time `t`. -/
theorem copied_row (arg1 : Memref sig .tc .vmem S1x3x1184 .f32) (harg1 : arg1.IsWhole) (x0 : Vec Ideal S1x3x1184 .f32)
    (r : Fin 105) (t : Fin 1024) :
    (shapeCast S1x1024 (shapeCast S1x1024 (View.readAt (Elt Ideal) arg1.view (srect r).toLoadRect (harg1.unread x0))
      shapeCasts_S1x1x1024_S1x1024) shapeCasts_S1x1024_S1x1024 : Vec Ideal S1x1024 .f32) (ix2 0 t)
      = x0 (ix3 0 (chan r) ⟨start r + t.val, by have := start_le r; omega⟩) := by
  pointwise
  rw [Memref.IsWhole.readAt_unread harg1 x0]
  refine congrArg x0 (funext fun a => Fin.ext ?_)
  rw [Rect.idx_unit_val]
  match a with
  | ⟨0, _⟩ => rfl
  | ⟨1, _⟩ => rfl
  | ⟨2, _⟩ => rfl

/-- Index `(i, t)` of a block of whole rows from row `o` on is index `(o + i, t)` of the row scratch. -/
theorem emb_rows {n o : ℕ} (inb : ∀ a, (![o, 0] : Fin 2 → ℕ) a + (⟨2, ![n, 1024]⟩ : Shape).size a ≤ S128x1024.size a)
    (i : Fin n) (t : Fin 1024) (h : o + i.val < 128) :
    (Rect.unit (s := S128x1024) ![o, 0] (⟨2, ![n, 1024]⟩ : Shape).size inb).emb (ix2 i t) = ix2 (⟨o + i.val, h⟩ : Fin 128) t := by
  funext a
  refine Fin.ext ?_
  match a with
  | ⟨0, _⟩ => show o + 1 * i.val = o + i.val; omega
  | ⟨1, _⟩ => show 0 + 1 * t.val = t.val; omega

/-- The row scratch after the stores. -/
theorem scratch_rows (c : Dev nD) (arg1 : Memref sig .tc .vmem S1x3x1184 .f32) (harg1 : arg1.IsWhole)
    (x0 : Vec Ideal S1x3x1184 .f32) : View.canon (kernelRun0_A.sl.HS0_107 c arg1 harg1 x0) = rowsOf x0 := by
  rw [row_pieces]
  funext y
  refine View.canon_apply_of_pieces (rowsOf x0) _ (fun p hp x => ?_) y ?_
  · rcases List.mem_cons.mp hp with rfl | hp
    · obtain ⟨i, t, rfl⟩ : ∃ (i : Fin 22) (t : Fin 1024), x = ix2 i t := ⟨_, _, eq_ix2 (n0 := 22) (n1 := 1024) x⟩
      refine Eq.trans ?_ (congrArg (rowsOf x0) (emb_rows (n := 22) inb_S128x1024_S22x1024_106_0 i t (by omega))).symm
      show _ = rowAt x0 ⟨106 + i.val, _⟩ t
      rw [rowAt, dif_neg (by simp; omega), if_neg (by simp; omega)]
      exact Consts.ofBits_zero
    rcases List.mem_cons.mp hp with rfl | hp
    · obtain ⟨i, t, rfl⟩ : ∃ (i : Fin 1) (t : Fin 1024), x = ix2 i t := ⟨_, _, eq_ix2 (n0 := 1) (n1 := 1024) x⟩
      refine Eq.trans ?_ (congrArg (rowsOf x0) (emb_rows (n := 1) inb_S128x1024_S1x1024_105_0 i t (by omega))).symm
      show _ = rowAt x0 ⟨105 + i.val, _⟩ t
      rw [rowAt, dif_neg (by simp), if_pos (by simp)]
      exact Consts.ofBits_one
    · obtain ⟨r, -, rfl⟩ := List.mem_map.mp hp
      obtain ⟨i, t, rfl⟩ : ∃ (i : Fin 1) (t : Fin 1024), x = ix2 i t := ⟨_, _, eq_ix2 (n0 := 1) (n1 := 1024) x⟩
      obtain rfl : i = 0 := Subsingleton.elim _ _
      refine Eq.trans ?_ (congrArg (rowsOf x0) (emb_rows (n := 1) (inbRow r) 0 t (by simp; omega))).symm
      show _ = rowAt x0 ⟨r.val + 0, _⟩ t
      rw [rowAt, dif_pos (by simp)]
      exact copied_row arg1 harg1 x0 r t
  · have hy0 : (y 0).val < 128 := (y 0).isLt
    have hy1 : (y 1).val < 1024 := (y 1).isLt
    by_cases h : (y 0).val < 105
    · refine ⟨_, List.mem_cons_of_mem _ (List.mem_cons_of_mem _ (List.mem_map.mpr ⟨⟨(y 0).val, h⟩, by simp, rfl⟩)), ?_⟩
      rw [Rect.mem_set_unit]
      intro a
      match a with
      | ⟨0, _⟩ => exact ⟨le_refl _, Nat.lt_succ_self _⟩
      | ⟨1, _⟩ => exact ⟨Nat.zero_le _, by show (y 1).val < 0 + 1024; omega⟩
    by_cases h5 : (y 0).val = 105
    · refine ⟨_, List.mem_cons_of_mem _ List.mem_cons_self, ?_⟩
      rw [Rect.mem_set_unit]
      intro a
      match a with
      | ⟨0, _⟩ => exact ⟨h5.ge, by show (y 0).val < 105 + 1; omega⟩
      | ⟨1, _⟩ => exact ⟨Nat.zero_le _, by show (y 1).val < 0 + 1024; omega⟩
    · refine ⟨_, List.mem_cons_self, ?_⟩
      rw [Rect.mem_set_unit]
      intro a
      match a with
      | ⟨0, _⟩ => exact ⟨by show 106 ≤ (y 0).val; omega, by show (y 0).val < 106 + 22; omega⟩
      | ⟨1, _⟩ => exact ⟨Nat.zero_le _, by show (y 1).val < 0 + 1024; omega⟩

/-- The time-major scratch: the row scratch transposed. -/
def timeMajor (x0 : Vec Ideal S1x3x1184 .f32) : Vec Ideal S1024x128 .f32 := fun y => rowAt x0 (y 1) (y 0)

/-- The store of the time-major scratch writes the transpose of what the row scratch holds. -/
theorem transposed (c : Dev nD) (arg1 : Memref sig .tc .vmem S1x3x1184 .f32) (harg1 : arg1.IsWhole)
    (arg5 : Memref sig .tc .vmem S128x1024 .f32) (x0 : Vec Ideal S1x3x1184 .f32) :
    k0_pay118 (kernelRun0_A.sl.v533 c arg1 harg1 arg5 x0) = timeMajor x0 := by
  have h : kernelRun0_A.sl.v533 c arg1 harg1 arg5 x0 = rowsOf x0 := by
    refine (View.readCov_eq_canon' arg5.view (kernelRun0_A.sl.HS0_107 c arg1 harg1 x0)
      (Rect.unit (s := S128x1024) ![0, 0] S128x1024.size (by decide)).toLoadRect).trans ?_
    rw [scratch_rows]
    exact View.ld_unit_zero (S := S128x1024) (by decide) _ (rowsOf x0)
  rw [h]
  funext y
  rw [eq_ix2 (n0 := 1024) (n1 := 128) y]
  pointwise [k0_pay118, timeMajor, rowsOf]

/-- A load of 256 rows of the time-major scratch. -/
theorem chunk (c : Dev nD) (arg1 : Memref sig .tc .vmem S1x3x1184 .f32) (harg1 : arg1.IsWhole)
    (arg5 : Memref sig .tc .vmem S128x1024 .f32) (arg6 : Memref sig .tc .vmem S1024x128 .f32) (x0 : Vec Ideal S1x3x1184 .f32)
    (q : ℕ) (hq : q + 256 ≤ 1024) (inb : ∀ a, (![q, 0] : Fin 2 → ℕ) a + S256x128.size a ≤ S1024x128.size a) :
    arg6.view.readCov (kernelRun0_A.sl.HS1_1 c arg1 harg1 arg5 x0) (Rect.unit (s := S1024x128) ![q, 0] S256x128.size inb).toLoadRect
      = rows q hq (timeMajor x0) := by
  have h : View.canon (kernelRun0_A.sl.HS1_1 c arg1 harg1 arg5 x0) = timeMajor x0 :=
    (View.canon_unit_zero (Val := Elt Ideal) (e := .f32) (S := S1024x128) (off := ![0, 0]) (by decide) (by decide)
      (k0_pay118 (kernelRun0_A.sl.v533 c arg1 harg1 arg5 x0))).trans (transposed c arg1 harg1 arg5 x0)
  rw [View.readCov_eq_canon', h]
  funext y
  refine congrArg (timeMajor x0) (funext fun a => Fin.ext ?_)
  rw [Rect.idx_unit_val]
  match a with
  | ⟨0, _⟩ => rfl
  | ⟨1, _⟩ => exact Nat.zero_add _

section
variable (c : Dev nD) (i : grid0.Coords) (arg1 : Memref sig .tc .vmem S1x3x1184 .f32) (harg1 : arg1.IsWhole) (arg2 : Memref sig .tc .vmem S40x128x256 .f32) (harg2 : arg2.IsWhole) (arg3 : Memref sig .tc .vmem S1x1x10240 .f32) (harg3 : arg3.IsWhole) (arg4 : Memref sig .tc .vmem S1x1x10240 .f32) (harg4 : arg4.IsWhole) (arg5 : Memref sig .tc .vmem S128x1024 .f32) (harg5 : arg5.IsWhole) (arg6 : Memref sig .tc .vmem S1024x128 .f32) (harg6 : arg6.IsWhole)
  (x0 : Vec Ideal S1x3x1184 .f32) (x1 : Vec Ideal S40x128x256 .f32)

/-- The first load of 256 rows of the time-major scratch, rows 0 to 255. -/
theorem chunk0 : kernelRun0_A.sl.v542 c arg1 harg1 arg5 arg6 x0 = rows 0 (by decide) (timeMajor x0) :=
  chunk c arg1 harg1 arg5 arg6 x0 0 (by decide) (by decide)
/-- The second load, rows 256 to 511. -/
theorem chunk1 : kernelRun0_A.sl.v555 c arg1 harg1 arg5 arg6 x0 = rows 256 (by decide) (timeMajor x0) :=
  chunk c arg1 harg1 arg5 arg6 x0 256 (by decide) (by decide)
/-- The third load, rows 512 to 767. -/
theorem chunk2 : kernelRun0_A.sl.v568 c arg1 harg1 arg5 arg6 x0 = rows 512 (by decide) (timeMajor x0) :=
  chunk c arg1 harg1 arg5 arg6 x0 512 (by decide) (by decide)
/-- The fourth load, rows 768 to 1023. -/
theorem chunk3 : kernelRun0_A.sl.v581 c arg1 harg1 arg5 arg6 x0 = rows 768 (by decide) (timeMajor x0) :=
  chunk c arg1 harg1 arg5 arg6 x0 768 (by decide) (by decide)

/-- The value of column `n` at time `t`: the product of the 128 rows with the column's weights. -/
def colAt (n : Fin 10240) (t : Fin 1024) : EReal :=
  ∑ k : Fin 128, rowAt x0 k t * x1 (ix3 ⟨n.val / 256, by omega⟩ k ⟨n.val % 256, by omega⟩)

/-- The products of column `l` of weight tile `j` are the values of column `256 j + l`. -/
theorem prodAt_wtile (j : Fin 40) (l : Fin 256) (n : Fin 10240) (hn : n.val = 256 * j.val + l.val) :
    prodAt (timeMajor x0) (wtile arg2 harg2 x1 j) l = colAt x0 x1 n := by
  funext t
  refine Finset.sum_congr rfl fun k _ => congrArg (rowAt x0 k t * ·) ?_
  refine (Memref.IsWhole.readAt_unread harg2 x1 _ _).trans (congrArg x1 (funext fun a => Fin.ext ?_))
  rw [Rect.idx_unit_val]
  match a with
  | ⟨0, _⟩ => show j.val + 0 = n.val / 256; omega
  | ⟨1, _⟩ => exact Nat.zero_add _
  | ⟨2, _⟩ => show 0 + l.val = n.val % 256; omega

/-- Forty column tiles that agree with one function of the column leave that function. -/
theorem tiles_canon (P : Fin 40 → Vec Ideal S1x1x256 .f32) (G : Fin 10240 → EReal)
    (hP : ∀ (j : Fin 40) (l : Fin 256) (n : Fin 10240), n.val = 256 * j.val + l.val → P j (ix3 0 0 l) = G n)
    (y : S1x1x10240.Idx) : View.canon (tiles P) y = G (y 2) := by
  refine View.canon_apply_of_pieces (Val := Elt Ideal) (e := .f32) (fun y => G (y 2)) _ (fun p hp x => ?_) y ?_
  · obtain ⟨j, -, rfl⟩ := List.mem_map.mp hp
    obtain ⟨i, i', l, rfl⟩ : ∃ (i : Fin 1) (i' : Fin 1) (l : Fin 256), x = ix3 i i' l :=
      ⟨_, _, _, eq_ix3 (n0 := 1) (n1 := 1) (n2 := 256) x⟩
    obtain rfl : i = 0 := Subsingleton.elim _ _
    obtain rfl : i' = 0 := Subsingleton.elim _ _
    refine hP j l _ ?_
    show 256 * j.val + 1 * l.val = _
    omega
  · have hy : (y 2).val < 10240 := (y 2).isLt
    have hy0 : (y 0).val < 1 := (y 0).isLt
    have hy1 : (y 1).val < 1 := (y 1).isLt
    refine ⟨_, List.mem_map.mpr ⟨⟨(y 2).val / 256, by omega⟩, by simp, rfl⟩, ?_⟩
    rw [Rect.mem_set_unit]
    intro a
    match a with
    | ⟨0, _⟩ => exact ⟨Nat.zero_le _, by show (y 0).val < 0 + 1; omega⟩
    | ⟨1, _⟩ => exact ⟨Nat.zero_le _, by show (y 1).val < 0 + 1; omega⟩
    | ⟨2, _⟩ => exact ⟨by show 256 * ((y 2).val / 256) ≤ (y 2).val; omega, by show (y 2).val < 256 * ((y 2).val / 256) + 256; omega⟩

/-- The first result block holds, in each column, the largest value. -/
theorem out_mx (y : S1x1x10240.Idx) :
    out0_A_2 c i arg1 harg1 arg2 harg2 arg3 harg3 arg4 harg4 arg5 harg5 arg6 harg6 x0 x1 y = top1024 (colAt x0 x1 (y 2)) := by
  rw [out0_A_2, View.read_writes_junk_eq_canon, mx_pieces, chunk0, chunk1, chunk2, chunk3]
  refine tiles_canon _ (fun n => top1024 (colAt x0 x1 n)) (fun j l n hn => ?_) y
  rw [tileMx_at, prodAt_wtile arg2 harg2 x0 x1 j l n hn]

/-- The second result block holds, in each column, one minus the share of negative values. -/
theorem out_pv (y : S1x1x10240.Idx) :
    out0_A_3 c i arg1 harg1 arg2 harg2 arg3 harg3 arg4 harg4 arg5 harg5 arg6 harg6 x0 x1 y = share1024 (colAt x0 x1 (y 2)) := by
  rw [out0_A_3, View.read_writes_junk_eq_canon, pv_pieces, chunk0, chunk1, chunk2, chunk3]
  refine tiles_canon _ (fun n => share1024 (colAt x0 x1 n)) (fun j l n hn => ?_) y
  rw [tilePv_at, prodAt_wtile arg2 harg2 x0 x1 j l n hn]
end

end Cert.KernelIdeal.Body

end
-- ==== Proof.Run.lean ====
/- The run of the kernel program over the extended reals: the result array interleaves, for each signal and kernel, the largest
   value over the 1024 times and one minus the share of negative ones. -/
module

public import proofs.«01_k».proof.Proof.Body
public import proofs.«01_k».proof.Proof.Entry
public import Idealize.ShloMosaic.Lib.Pipeline.ValueKit.Geometry

@[expose] public section

set_option maxRecDepth 16384

noncomputable section

namespace Cert.KernelIdeal.Run

open Idealize.ShloMosaic Idealize.ShloMosaic.TcCoe Idealize.ShloMosaic.Pointwise Idealize.ShloMosaic.Tactic Idealize.SL.Sem
open Cert.KernelIdeal.Gen Cert.KernelIdeal.Tile Cert.KernelIdeal.Body Cert.KernelIdeal.Entry

/-- The two result arrays of the pallas_call, cut to the 10000 kernels and interleaved. -/
def interleave {F : FTy → Type} [FloatOps F] (a b : FVec F S64x1x10240 .f32) : FVec F S64x20000 .f32 :=
  shapeCast S64x20000
    (concatenate S64x10000x2 2
      [⟨S64x10000x1, broadcastInDim S64x10000x1 ![0, 1] bcast_S64x10000_S64x10000x1_0_1
          (shapeCast S64x10000 (extractStridedSlice S64x1x10000 ![0, 0, 0] a slices_S64x1x10240_S64x1x10000_0_0_0)
            shapeCasts_S64x1x10000_S64x10000)⟩,
       ⟨S64x10000x1, broadcastInDim S64x10000x1 ![0, 1] bcast_S64x10000_S64x10000x1_0_1
          (shapeCast S64x10000 (extractStridedSlice S64x1x10000 ![0, 0, 0] b slices_S64x1x10240_S64x1x10000_0_0_0)
            shapeCasts_S64x1x10000_S64x10000)⟩]
      concatenates_S64x10000x1_S64x10000x1_S64x10000x2_d2)
    shapeCasts_S64x10000x2_S64x20000

/-- The host operations after the pallas_call interleave its two result arrays. -/
theorem tail_of {F : FTy → Type} [FloatOps F] (W : Valuation τ sig (Elt F)) :
    StableHlo.after (List.flatten [hostOps1]) W (Proc.devRef .tc main_v47)
      = interleave (W (Proc.devRef .tc main_v39_0)) (W (Proc.devRef .tc main_v39_1)) := by
  sl_kernel_rfl

/-- One signal of the padded array, as a block. -/
def signal (xp : Vec Ideal S64x3x1184 .f32) (b : Fin 64) : Vec Ideal S1x3x1184 .f32 := fun y => xp (ix3 b (y 1) (y 2))

/-- The first result array: the largest value of each signal and column. -/
def mxOf (xp : Vec Ideal S64x3x1184 .f32) (w : Vec Ideal S40x128x256 .f32) : Vec Ideal S64x1x10240 .f32 :=
  fun i => top1024 (colAt (signal xp (i 0)) w (i 2))

/-- The second: one minus the share of negative values. -/
def pvOf (xp : Vec Ideal S64x3x1184 .f32) (w : Vec Ideal S40x128x256 .f32) : Vec Ideal S64x1x10240 .f32 :=
  fun i => share1024 (colAt (signal xp (i 0)) w (i 2))

variable (m : (ℓ : Loc nD τ sig) → Buf (Elt Ideal) ℓ) (ρ : Dev nD → PrngReg) (c : Dev nD)

/-- Point `t` of the grid takes signal `t`. -/
theorem index0 : ∀ t : Fin cfg0.N, win0_0.index t = ![t.val, 0, 0] := (by decide +kernel : ∀ t : Fin grid0.N, _)
/-- Every point takes the whole weight array. -/
theorem index1 : ∀ t : Fin cfg0.N, win0_1.index t = ![0, 0, 0] := (by decide +kernel : ∀ t : Fin grid0.N, _)
/-- Point `t` writes block `t` of the first result. -/
theorem index2 : ∀ t : Fin cfg0.N, win0_2.index t = ![t.val, 0, 0] := (by decide +kernel : ∀ t : Fin grid0.N, _)
/-- Point `t` writes block `t` of the second result. -/
theorem index3 : ∀ t : Fin cfg0.N, win0_3.index t = ![t.val, 0, 0] := (by decide +kernel : ∀ t : Fin grid0.N, _)

/-- The block of signals at point `t`. -/
theorem block_x (t : Fin cfg0.N) : iblk m c 0 t = signal (V m c main_v38) t := by
  funext y
  have hy : (y 0).val < 1 := (y 0).isLt
  blk_simp [iblk]
  refine congrArg (V m c main_v38) (funext fun a => Fin.ext ?_)
  match a with
  | ⟨0, _⟩ => blk_simp [index0]
  | ⟨1, _⟩ => blk_simp [index0]; first | rfl | exact Nat.zero_add _
  | ⟨2, _⟩ => blk_simp [index0]; first | rfl | exact Nat.zero_add _

/-- The weights at every point are the whole array. -/
theorem block_w (t : Fin cfg0.N) : iblk m c 1 t = V m c main_v37 := by
  funext y
  blk_simp [iblk]
  refine congrArg (V m c main_v37) (funext fun a => Fin.ext ?_)
  match a with
  | ⟨0, _⟩ => blk_simp [index1]
  | ⟨1, _⟩ => blk_simp [index1]
  | ⟨2, _⟩ => blk_simp [index1]

/-- What the body leaves in the first result's block at point `t`. -/
theorem outs_mx (t : Fin cfg0.N) (y : S1x1x10240.Idx) :
    (outsAt0 m c t).1 y = top1024 (colAt (signal (V m c main_v38) t) (V m c main_v37) (y 2)) := by
  rw [← block_x m c t, ← block_w m c t]
  dsimp only [outsAt0]
  exact out_mx c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) y

/-- The first result array after the run. -/
theorem final_mx : (dats m 0 c).arrAt 2 cfg0.N = mxOf (V m c main_v38) (V m c main_v37) := by
  refine (dats m 0 c).arrAt_eq_of_covers 2 _ (by decide +kernel) fun t hf y => ?_
  have hy : (y 0).val < 1 := (y 0).isLt
  blk_simp
  rw [after0_2, outs_mx]
  have e0 : ((win0_2.blk t).view.emb y) 0 = t := Fin.ext (by blk_simp [index2])
  have e2 : ((win0_2.blk t).view.emb y) 2 = y 2 := Fin.ext (by blk_simp [index2])
  show _ = top1024 (colAt (signal _ (((win0_2.blk t).view.emb y) 0)) _ (((win0_2.blk t).view.emb y) 2))
  rw [e0, e2]

/-- What the body leaves in the second result's block at point `t`. -/
theorem outs_pv (t : Fin cfg0.N) (y : S1x1x10240.Idx) :
    (outsAt0 m c t).2 y = share1024 (colAt (signal (V m c main_v38) t) (V m c main_v37) (y 2)) := by
  rw [← block_x m c t, ← block_w m c t]
  dsimp only [outsAt0]
  exact out_pv c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) y

/-- The second result array after the run. -/
theorem final_pv : (dats m 0 c).arrAt 3 cfg0.N = pvOf (V m c main_v38) (V m c main_v37) := by
  refine (dats m 0 c).arrAt_eq_of_covers 3 _ (by decide +kernel) fun t hf y => ?_
  have hy : (y 0).val < 1 := (y 0).isLt
  blk_simp
  rw [after0_3, outs_pv]
  have e0 : ((win0_3.blk t).view.emb y) 0 = t := Fin.ext (by blk_simp [index3])
  have e2 : ((win0_3.blk t).view.emb y) 2 = y 2 := Fin.ext (by blk_simp [index3])
  show _ = share1024 (colAt (signal _ (((win0_3.blk t).view.emb y) 0)) _ (((win0_3.blk t).view.emb y) 2))
  rw [e0, e2]

/-- The kernel's result from its three arguments. -/
def resultOf (x : FVec Ideal S64x3x1024 .f32) (w : FVec Ideal S10000x3x11 .f32) (b : FVec Ideal S10000 .f32) :
    FVec Ideal S64x20000 .f32 :=
  interleave (mxOf (padded x) (tiled w b)) (pvOf (padded x) (tiled w b))

/-- The result buffer after the operations that follow the pallas_call. -/
theorem tail_eq : Pipeline.afterTail₀ cfgs (dats m) 0 (V0 m) [hostOps1] c main_v47
    = resultOf (m ((c : Thread nD τ).loc main_arg0)) (m ((c : Thread nD τ).loc main_arg1)) (m ((c : Thread nD τ).loc main_arg2)) := by
  unfold Pipeline.afterTail₀
  rw [tail_of]
  have h2 := Pipeline.withArrays_arr spec0 winFacts0.arr_inj c (V0 m c) (fun w => (dats m 0 c).arrAt w cfg0.N) 2
  have h3 := Pipeline.withArrays_arr spec0 winFacts0.arr_inj c (V0 m c) (fun w => (dats m 0 c).arrAt w cfg0.N) 3
  refine (congrArg₂ interleave (h2.trans (final_mx m c)) (h3.trans (final_pv m c))).trans ?_
  rw [entry_x, entry_w]
  rfl

/-- Every run ends with the result array at `resultOf` of the arguments and the arguments unchanged. -/
theorem run : θ_run defs (onTc (τ := τ) (main (F := Ideal))) ⟨m, fun _ => 0, ρ⟩ fun r => ∀ c : Dev nD,
      r.2.mem ((c : Thread nD τ).loc main_v47)
        = resultOf (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v47 (Pipeline.mem_restRefs_of main_v47 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Run

end
-- ==== Proof.Column.lean ====
/- One column of the kernel's products is the convolution: the rows that the column's weights pick are the signal at the taps'
   times, and the taps stand centred among the eleven. -/
module

public import proofs.«01_k».proof.Proof.SigPlace
public import proofs.«01_k».proof.Proof.Sums
public import proofs.«01_k».proof.Proof.Places
public import proofs.«01_k».proof.Proof.Run

@[expose] public section

set_option maxRecDepth 16384

noncomputable section

namespace Cert.Equal

open Cert.KernelIdeal Cert.KernelIdeal.Gen Cert.KernelIdeal.Entry Cert.KernelIdeal.Body Cert.KernelIdeal.Pieces Cert.KernelIdeal.Run
open Cert.Tables Idealize.ShloMosaic Idealize.ShloMosaic.TcCoe Idealize.ShloMosaic.Pointwise

variable (x : FVec Ideal S64x3x1024 .f32) (w : FVec Ideal S10000x3x11 .f32) (bias : FVec Ideal S10000 .f32)
  (b : Fin 64) (n : Fin 10000) (t : Fin 1024)

/-- The row that a tap meets holds the signal at the time the tap reads. -/
theorem row_tap (g : Fin 5) (c : Fin 3) (p : Fin 11) :
    rowAt (signal (padded x) b) (rowOf g c p) t = ext x b c ((t.val : ℤ) + ((p.val : ℤ) - 5) * (2 ^ g.val : ℕ)) := by
  rw [rowAt, dif_pos (rowOf_ne g c p)]
  have hchan := chan_row g c p
  have hstart := start_row g c p
  have hplace := start_place g p
  have hle := start_le (place105 g c p)
  have e : (padded x (ix3 b (chan (place105 g c p)) ⟨start (place105 g c p) + t.val, by omega⟩) : EReal)
      = ext x b c ((t.val : ℤ) + ((p.val : ℤ) - 5) * (2 ^ g.val : ℕ)) := by
    rw [padded_ext, hchan]
    refine congrArg (ext x b c) ?_
    show ((start (place105 g c p) + t.val : ℕ) : ℤ) - 80 = _
    rw [hstart]
    have : (starts (place g p) : ℤ) + 5 * (2 ^ g.val : ℕ) = 80 + p.val * (2 ^ g.val : ℕ) := by exact_mod_cast hplace
    rw [Int.sub_mul]
    omega
  exact e

/-- The row of ones. -/
theorem row_one : rowAt (signal (padded x) b) ⟨105, by decide⟩ t = 1 := by
  rw [rowAt, dif_neg (by decide), if_pos rfl]

/-- The weight of a row for a kernel whose dilation is `2 ^ g` and whose taps are rolled by `s`. -/
theorem packed_row (g : Fin 5) (s : Fin 11)
    (hD : ∀ g', (tabD (F := Ideal) (ix2 g' n) : EReal) = if g' = g then 1 else 0)
    (hS : ∀ c p, (centred w (ix3 c p n) : EReal) = w (ix3 n c (p - s)))
    (hP : ∀ r (q : Fin 165), (tabP (F := Ideal) (ix2 r q) : EReal)
      = if r = rowOf ⟨q.val / 33, by omega⟩ ⟨q.val / 11 % 3, by omega⟩ ⟨q.val % 11, by omega⟩ then 1 else 0)
    (hB : ∀ r, (tabB (F := Ideal) (ix1 r) : EReal) = if r = ⟨105, by decide⟩ then 1 else 0) (r : Fin 128) :
    (packed w bias (ix2 r n) : EReal)
      = (∑ k : Fin 3 × Fin 11, (if r = rowOf g k.1 k.2 then 1 else 0) * (w (ix3 n k.1 (k.2 - s)) : EReal))
        + (if r = ⟨105, by decide⟩ then 1 else 0) * (bias (ix1 n) : EReal) := by
  rw [packed_at, hB]
  refine congrArg (· + (if r = ⟨105, by decide⟩ then 1 else 0) * (bias (ix1 n) : EReal)) ?_
  have h1 : ∀ q : Fin 165, (tabP (F := Ideal) (ix2 r q) : EReal) * dilated w (ix2 q n)
      = (fun (g' : Fin 5) (c : Fin 3) (p : Fin 11) => (if r = rowOf g' c p then (1 : EReal) else 0)
          * ((if g' = g then 1 else 0) * w (ix3 n c (p - s)))) ⟨q.val / 33, by omega⟩ ⟨q.val / 11 % 3, by omega⟩ ⟨q.val % 11, by omega⟩ := by
    intro q
    rw [hP, dilated_at, hD, hS]
  refine (Finset.sum_congr rfl fun q _ => h1 q).trans ((Sums.sum_165 fun (g' : Fin 5) (c : Fin 3) (p : Fin 11) =>
    (if r = rowOf g' c p then (1 : EReal) else 0) * ((if g' = g then 1 else 0) * w (ix3 n c (p - s)))).trans ?_)
  rw [Finset.sum_eq_single g (fun g' _ hg => Finset.sum_eq_zero fun k _ => by rw [if_neg hg, zero_mul, mul_zero]) (by simp)]
  refine Finset.sum_congr rfl fun k _ => ?_
  rw [if_pos rfl, one_mul]

/-- The column of products, as a sum over channels and taps. -/
theorem column_sum (g : Fin 5) (s : Fin 11)
    (hD : ∀ g', (tabD (F := Ideal) (ix2 g' n) : EReal) = if g' = g then 1 else 0)
    (hS : ∀ c p, (centred w (ix3 c p n) : EReal) = w (ix3 n c (p - s)))
    (hP : ∀ r (q : Fin 165), (tabP (F := Ideal) (ix2 r q) : EReal)
      = if r = rowOf ⟨q.val / 33, by omega⟩ ⟨q.val / 11 % 3, by omega⟩ ⟨q.val % 11, by omega⟩ then 1 else 0)
    (hB : ∀ r, (tabB (F := Ideal) (ix1 r) : EReal) = if r = ⟨105, by decide⟩ then 1 else 0) :
    colAt (signal (padded x) b) (tiled w bias) ⟨n.val, by omega⟩ t
      = (∑ c, ∑ p : Fin 11, ext x b c ((t.val : ℤ) + ((p.val : ℤ) - 5) * (2 ^ g.val : ℕ)) * (w (ix3 n c (p - s)) : EReal))
        + (bias (ix1 n) : EReal) := by
  have h1 : ∀ r : Fin 128, rowAt (signal (padded x) b) r t
        * (tiled w bias (ix3 ⟨n.val / 256, by omega⟩ r ⟨n.val % 256, by omega⟩) : EReal)
      = rowAt (signal (padded x) b) r t
        * ((∑ k : Fin 3 × Fin 11, (if r = rowOf g k.1 k.2 then 1 else 0) * (w (ix3 n k.1 (k.2 - s)) : EReal))
        + (if r = ⟨105, by decide⟩ then 1 else 0) * (bias (ix1 n) : EReal)) := fun r => by
    rw [tiled_at, packed_row w bias n g s hD hS hP hB]
  refine (Finset.sum_congr rfl fun r _ => h1 r).trans ?_
  rw [Sums.sum_scattered (fun k : Fin 3 × Fin 11 => rowOf g k.1 k.2)
    (fun k k' e => Prod.ext (rowOf_inj g e).1 (rowOf_inj g e).2) ⟨105, by decide⟩
    (fun k e => absurd (congrArg Fin.val e) (rowOf_ne g k.1 k.2).ne)
    (fun r => rowAt (signal (padded x) b) r t)]
  rw [row_one, one_mul]
  refine congrArg (· + (bias (ix1 n) : EReal)) ?_
  rw [Fintype.sum_prod_type]
  exact Finset.sum_congr rfl fun c _ => Finset.sum_congr rfl fun p _ => by rw [row_tap]

/-- Rolling eleven taps, of which those from `k` on are zero, by half of the eleven less `k` centres them. -/
theorem centre_sum (c : Fin 3) (s : Fin 11) (k h d : ℕ) (hs : s.val + h = 5) (hk : k + s.val ≤ 11)
    (hw : ∀ p : Fin 11, k ≤ p.val → (w (ix3 n c p) : EReal) = 0) :
    (∑ p : Fin 11, ext x b c ((t.val : ℤ) + ((p.val : ℤ) - 5) * d) * (w (ix3 n c (p - s)) : EReal))
      = ∑ p : Fin 11, (if p.val < k then ext x b c ((t.val : ℤ) + ((p.val : ℤ) - h) * d) else 0) * (w (ix3 n c p) : EReal) := by
  rw [← Equiv.sum_comp (Equiv.addRight s)]
  refine Finset.sum_congr rfl fun p _ => ?_
  rw [Equiv.coe_addRight, add_sub_cancel_right]
  by_cases hp : p.val < k
  · rw [if_pos hp]
    have hv : (p + s).val = p.val + s.val := by
      rw [Fin.val_add, Nat.mod_eq_of_lt (by omega)]
    rw [hv]
    have e : ((p.val + s.val : ℕ) : ℤ) - 5 = (p.val : ℤ) - h := by omega
    rw [e]
  · rw [hw p (by omega), mul_zero, mul_zero]

end Cert.Equal

end
-- ==== Proof.TableSizes.lean ====
/- What the constant tables of the programs hold of each kernel's size. -/
module

public import proofs.«01_k».proof.Proof.Gen.KernelIdeal
public import proofs.«01_k».proof.Proof.Gen.ReferenceIdeal

@[expose] public section

set_option maxRecDepth 100000

namespace Cert.Tables

/-- A size that a kernel may have, and what the tables hold of it: how far the kernel's taps are rolled as three numbers of
    which one is 1, the size, and half of it. -/
def sizeRows : List (BitVec 32 × BitVec 32 × BitVec 32 × BitVec 32 × BitVec 32) :=
  [(0x3F800000#32, 0#32, 0#32, 11#32, 5#32), (0#32, 0x3F800000#32, 0#32, 9#32, 4#32), (0#32, 0#32, 0x3F800000#32, 7#32, 3#32)]

/-- The tables' entries of kernel `n` are those of one of them. -/
abbrev SizeKnown (n : Fin 10000) : Prop := (KernelIdeal.lit0 n, KernelIdeal.lit1 n, KernelIdeal.lit2 n, ReferenceIdeal.lit0 n,
    ReferenceIdeal.lit1 n) ∈ sizeRows

set_option maxHeartbeats 0 in
/-- This is so of each thousand kernels. -/
theorem size_rows_thousand : ∀ (k : Fin 10) (i : Fin 1000), SizeKnown ⟨1000 * k.val + i.val, by omega⟩ := by
  intro k
  fin_cases k <;> decide +kernel

/-- Each kernel's size is one of the three, in both programs' tables. -/
theorem size_rows (n : Fin 10000) : SizeKnown n := by
  have h := size_rows_thousand ⟨n.val / 1000, by omega⟩ ⟨n.val % 1000, by omega⟩
  have e : (⟨1000 * (n.val / 1000) + n.val % 1000, by omega⟩ : Fin 10000) = n := Fin.ext (by show 1000 * (n.val / 1000) + n.val % 1000 = n.val; omega)
  exact Eq.mp (congrArg SizeKnown e) h

end Cert.Tables
-- ==== Proof.TableDils.lean ====
/- What the constant tables of the programs hold of each kernel's dilation. -/
module

public import proofs.«01_k».proof.Proof.Gen.KernelIdeal
public import proofs.«01_k».proof.Proof.Gen.ReferenceIdeal

@[expose] public section

set_option maxRecDepth 100000

namespace Cert.Tables

/-- A dilation that a kernel may have, and what the tables hold of it: five numbers of which one is 1, and the dilation. -/
def dilRows : List (BitVec 32 × BitVec 32 × BitVec 32 × BitVec 32 × BitVec 32 × BitVec 32) :=
  [(0x3F800000#32, 0#32, 0#32, 0#32, 0#32, 1#32), (0#32, 0x3F800000#32, 0#32, 0#32, 0#32, 2#32),
   (0#32, 0#32, 0x3F800000#32, 0#32, 0#32, 4#32), (0#32, 0#32, 0#32, 0x3F800000#32, 0#32, 8#32),
   (0#32, 0#32, 0#32, 0#32, 0x3F800000#32, 16#32)]

/-- The tables' entries of kernel `n` are those of one of them. -/
def DilKnown (n : Fin 10000) : Prop := (KernelIdeal.lit3 ⟨n.val, by omega⟩, KernelIdeal.lit3 ⟨10000 + n.val, by omega⟩,
    KernelIdeal.lit3 ⟨20000 + n.val, by omega⟩, KernelIdeal.lit3 ⟨30000 + n.val, by omega⟩, KernelIdeal.lit3 ⟨40000 + n.val, by omega⟩,
    ReferenceIdeal.lit2 n) ∈ dilRows

/-- Whether this is so can be computed. -/
noncomputable instance (n : Fin 10000) : Decidable (DilKnown n) := inferInstanceAs (Decidable (_ ∈ dilRows))

set_option maxHeartbeats 0 in
/-- This is so of each thousand kernels. -/
theorem dil_rows_thousand : ∀ (k : Fin 10) (i : Fin 1000), DilKnown ⟨1000 * k.val + i.val, by omega⟩ := by
  intro k
  fin_cases k <;> decide +kernel

/-- Each kernel's dilation is one of the five, in both programs' tables. -/
theorem dil_rows (n : Fin 10000) : DilKnown n := by
  have h := dil_rows_thousand ⟨n.val / 1000, by omega⟩ ⟨n.val % 1000, by omega⟩
  have e : (⟨1000 * (n.val / 1000) + n.val % 1000, by omega⟩ : Fin 10000) = n := Fin.ext (by show 1000 * (n.val / 1000) + n.val % 1000 = n.val; omega)
  exact Eq.mp (congrArg DilKnown e) h

end Cert.Tables
-- ==== Proof.TableRows.lean ====
/- What the constant tables of the kernel hold of the rows of the row scratch: which taps meet a row, and which row the bias. -/
module

public import proofs.«01_k».proof.Proof.Places
public import proofs.«01_k».proof.Proof.Gen.KernelIdeal

@[expose] public section

set_option maxRecDepth 100000

namespace Cert.Tables

/-- The table of the taps holds 1 where row `r` is the tap's and 0 elsewhere. -/
abbrev RowKnown (r : Fin 128) : Prop := ∀ q : Fin 165, KernelIdeal.lit4 ⟨r.val * 165 + q.val, by omega⟩
    = if r = rowOf ⟨q.val / 33, by omega⟩ ⟨q.val / 11 % 3, by omega⟩ ⟨q.val % 11, by omega⟩ then 0x3F800000#32 else 0#32

set_option maxHeartbeats 0 in
/-- This is so of each sixteen rows. -/
theorem row_table_sixteen : ∀ (k : Fin 8) (i : Fin 16), RowKnown ⟨16 * k.val + i.val, by omega⟩ := by
  intro k
  fin_cases k <;> decide +kernel

/-- This is so of every row. -/
theorem row_table (r : Fin 128) : RowKnown r := by
  have h := row_table_sixteen ⟨r.val / 16, by omega⟩ ⟨r.val % 16, by omega⟩
  have e : (⟨16 * (r.val / 16) + r.val % 16, by omega⟩ : Fin 128) = r := Fin.ext (by show 16 * (r.val / 16) + r.val % 16 = r.val; omega)
  exact Eq.mp (congrArg RowKnown e) h

/-- The table of the bias holds 1 at the row of ones and 0 elsewhere. -/
theorem bias_table : ∀ r : Fin 128, KernelIdeal.lit5 r = if r.val = 105 then 0x3F800000#32 else 0#32 := by
  decide +kernel

end Cert.Tables
-- ==== Proof.TableVals.lean ====
/- The constant tables of the programs as numbers. -/
module

public import proofs.«01_k».proof.Proof.KerRead
public import proofs.«01_k».proof.Proof.RefConv
public import proofs.«01_k».proof.Proof.TableSizes
public import proofs.«01_k».proof.Proof.TableDils
public import proofs.«01_k».proof.Proof.TableRows

@[expose] public section

set_option maxRecDepth 16384

noncomputable section

namespace Cert.Equal

open Cert.KernelIdeal Cert.KernelIdeal.Gen Cert.KernelIdeal.Entry Cert.ReferenceIdeal.Conv
open Cert.Tables Idealize.ShloMosaic Idealize.ShloMosaic.TcCoe Idealize.ShloMosaic.Pointwise

/-- The table of the kernels not rolled, at one kernel. -/
theorem tab0_at (n : Fin 10000) : (tab0 (F := Ideal) (ix1 n) : EReal) = Ideal.ofBits .f32 (KernelIdeal.lit0 n) :=
  congrArg (fun k => Ideal.ofBits .f32 (KernelIdeal.lit0 k)) (Fin.ext (Shape.rowMajor_val_one _) : S10000.rowMajor (ix1 n) = n)
/-- The table of the kernels rolled by one, at one kernel. -/
theorem tab1_at (n : Fin 10000) : (tab1 (F := Ideal) (ix1 n) : EReal) = Ideal.ofBits .f32 (KernelIdeal.lit1 n) :=
  congrArg (fun k => Ideal.ofBits .f32 (KernelIdeal.lit1 k)) (Fin.ext (Shape.rowMajor_val_one _) : S10000.rowMajor (ix1 n) = n)
/-- The table of the kernels rolled by two, at one kernel. -/
theorem tab2_at (n : Fin 10000) : (tab2 (F := Ideal) (ix1 n) : EReal) = Ideal.ofBits .f32 (KernelIdeal.lit2 n) :=
  congrArg (fun k => Ideal.ofBits .f32 (KernelIdeal.lit2 k)) (Fin.ext (Shape.rowMajor_val_one _) : S10000.rowMajor (ix1 n) = n)
/-- The kernel's table of the dilations at one index. -/
theorem tabD_at (g : Fin 5) (n : Fin 10000) :
    (tabD (F := Ideal) (ix2 g n) : EReal) = Ideal.ofBits .f32 (KernelIdeal.lit3 ⟨g.val * 10000 + n.val, by omega⟩) :=
  congrArg (fun k => Ideal.ofBits .f32 (KernelIdeal.lit3 k))
    (Fin.ext (Shape.rowMajor_val_two _) : S5x10000.rowMajor (ix2 g n) = (⟨g.val * 10000 + n.val, by omega⟩ : Fin 50000))
/-- The table of the taps' rows at one index. -/
theorem tabP_at (r : Fin 128) (q : Fin 165) :
    (tabP (F := Ideal) (ix2 r q) : EReal) = Ideal.ofBits .f32 (KernelIdeal.lit4 ⟨r.val * 165 + q.val, by omega⟩) :=
  congrArg (fun k => Ideal.ofBits .f32 (KernelIdeal.lit4 k))
    (Fin.ext (Shape.rowMajor_val_two _) : S128x165.rowMajor (ix2 r q) = (⟨r.val * 165 + q.val, by omega⟩ : Fin 21120))
/-- The table of the bias's row at one index. -/
theorem tabB_at (r : Fin 128) : (tabB (F := Ideal) (ix1 r) : EReal) = Ideal.ofBits .f32 (KernelIdeal.lit5 r) :=
  congrArg (fun k => Ideal.ofBits .f32 (KernelIdeal.lit5 k)) (Fin.ext (Shape.rowMajor_val_one _) : S128.rowMajor (ix1 r) = r)

/-- The reference's table of the sizes at one kernel. -/
theorem tabK_at (n : Fin 10000) : tabK (ix1 n) = ReferenceIdeal.lit0 n :=
  congrArg ReferenceIdeal.lit0 (Fin.ext (Shape.rowMajor_val_one _) : ReferenceIdeal.S10000.rowMajor (ix1 n) = n)
/-- The reference's table of half of the sizes at one kernel. -/
theorem tabH_at (n : Fin 10000) : tabH (ix1 n) = ReferenceIdeal.lit1 n :=
  congrArg ReferenceIdeal.lit1 (Fin.ext (Shape.rowMajor_val_one _) : ReferenceIdeal.S10000.rowMajor (ix1 n) = n)
/-- The reference's table of the dilations at one kernel. -/
theorem tabDil_at (n : Fin 10000) : ReferenceIdeal.Conv.tabD (ix1 n) = ReferenceIdeal.lit2 n :=
  congrArg ReferenceIdeal.lit2 (Fin.ext (Shape.rowMajor_val_one _) : ReferenceIdeal.S10000.rowMajor (ix1 n) = n)

/-- The table of the taps' rows: one at the row a tap meets, zero elsewhere. -/
theorem rows_known (r : Fin 128) (q : Fin 165) : (tabP (F := Ideal) (ix2 r q) : EReal)
    = if r = rowOf ⟨q.val / 33, by omega⟩ ⟨q.val / 11 % 3, by omega⟩ ⟨q.val % 11, by omega⟩ then 1 else 0 := by
  rw [tabP_at, row_table r q]
  split
  · exact Consts.ofBits_one
  · exact Consts.ofBits_zero

/-- The table of the bias: one at the row of ones, zero elsewhere. -/
theorem bias_known (r : Fin 128) : (tabB (F := Ideal) (ix1 r) : EReal) = if r = ⟨105, by decide⟩ then 1 else 0 := by
  rw [tabB_at, bias_table r]
  by_cases h : r.val = 105
  · rw [if_pos h, if_pos (Fin.ext h)]; exact Consts.ofBits_one
  · rw [if_neg h, if_neg fun e => h (congrArg Fin.val e)]; exact Consts.ofBits_zero

/-- The entries of the dilations' table for one kernel. -/
def dilBits (n : Fin 10000) (g : Fin 5) : BitVec 32 := KernelIdeal.lit3 ⟨g.val * 10000 + n.val, by omega⟩

/-- An entry by its number in the table. -/
theorem entry (n : Fin 10000) (g : Fin 5) (k : ℕ) (hk : g.val * 10000 + n.val = k) :
    dilBits n g = KernelIdeal.lit3 ⟨k, by omega⟩ := by
  subst hk; rfl

/-- If one of the five is 1 and the others are 0, the table says so. -/
theorem one_hot (n : Fin 10000) (g : Fin 5)
    (h : (![dilBits n 0, dilBits n 1, dilBits n 2, dilBits n 3, dilBits n 4] : Fin 5 → BitVec 32)
      = fun g' => if g' = g then 0x3F800000#32 else 0#32) (g' : Fin 5) :
    (tabD (F := Ideal) (ix2 g' n) : EReal) = if g' = g then 1 else 0 := by
  have hg : dilBits n g' = if g' = g then 0x3F800000#32 else 0#32 := by
    rw [← congrFun h g']
    generalize dilBits n = f
    fin_cases g' <;> rfl
  rw [tabD_at]
  refine (congrArg (Ideal.ofBits .f32) hg).trans ?_
  split
  · exact Consts.ofBits_one
  · exact Consts.ofBits_zero

/-- The tables of the dilations: each kernel has one, the same in both programs. -/
theorem dil_known (n : Fin 10000) : ∃ g : Fin 5, (∀ g', (tabD (F := Ideal) (ix2 g' n) : EReal) = if g' = g then 1 else 0)
    ∧ ReferenceIdeal.Conv.tabD (ix1 n) = BitVec.ofNat 32 (2 ^ g.val) := by
  have h : _ ∈ dilRows := dil_rows n
  have e0 := entry n 0 n.val (by show 0 * 10000 + n.val = n.val; omega)
  have e1 := entry n 1 (10000 + n.val) (by show 1 * 10000 + n.val = _; omega)
  have e2 := entry n 2 (20000 + n.val) (by show 2 * 10000 + n.val = _; omega)
  have e3 := entry n 3 (30000 + n.val) (by show 3 * 10000 + n.val = _; omega)
  have e4 := entry n 4 (40000 + n.val) (by show 4 * 10000 + n.val = _; omega)
  rw [tabDil_at]
  simp only [dilRows, List.mem_cons, Prod.mk.injEq, List.mem_nil_iff, or_false] at h
  rcases h with ⟨h0, h1, h2, h3, h4, h5⟩ | ⟨h0, h1, h2, h3, h4, h5⟩ | ⟨h0, h1, h2, h3, h4, h5⟩ | ⟨h0, h1, h2, h3, h4, h5⟩
    | ⟨h0, h1, h2, h3, h4, h5⟩
  · exact ⟨0, one_hot n 0 (by rw [e0, e1, e2, e3, e4, h0, h1, h2, h3, h4]; decide), h5⟩
  · exact ⟨1, one_hot n 1 (by rw [e0, e1, e2, e3, e4, h0, h1, h2, h3, h4]; decide), h5⟩
  · exact ⟨2, one_hot n 2 (by rw [e0, e1, e2, e3, e4, h0, h1, h2, h3, h4]; decide), h5⟩
  · exact ⟨3, one_hot n 3 (by rw [e0, e1, e2, e3, e4, h0, h1, h2, h3, h4]; decide), h5⟩
  · exact ⟨4, one_hot n 4 (by rw [e0, e1, e2, e3, e4, h0, h1, h2, h3, h4]; decide), h5⟩

/-- The tables of the sizes: each kernel of size `k` has its taps rolled by half of what eleven has more than `k`, and the
    reference's half of the size is what the roll leaves of five. -/
theorem size_known (w : FVec Ideal S10000x3x11 .f32) (n : Fin 10000) : ∃ (s : Fin 11) (k h : ℕ),
    (∀ c p, (centred w (ix3 c p n) : EReal) = w (ix3 n c (p - s))) ∧ s.val + h = 5 ∧ k + s.val ≤ 11
      ∧ tabK (ix1 n) = BitVec.ofNat 32 k ∧ tabH (ix1 n) = BitVec.ofNat 32 h := by
  have h : _ ∈ sizeRows := size_rows n
  have e : ∀ c p, (centred w (ix3 c p n) : EReal) = 0 + Ideal.ofBits .f32 (KernelIdeal.lit0 n) * w (ix3 n c (p - 0))
      + Ideal.ofBits .f32 (KernelIdeal.lit1 n) * w (ix3 n c (p - 1)) + Ideal.ofBits .f32 (KernelIdeal.lit2 n) * w (ix3 n c (p - 2)) := by
    intro c p
    rw [← tab0_at, ← tab1_at, ← tab2_at, ← spread_at tab0 c p n, ← spread_at tab1 c p n, ← spread_at tab2 c p n, ← roll0_at w c p n,
      ← roll1_at w c p n, ← roll2_at w c p n]
    exact congrArg (fun z : EReal => z + spread (tab0 (F := Ideal)) (ix3 c p n) * roll0 w (ix3 c p n)
      + spread (tab1 (F := Ideal)) (ix3 c p n) * roll1 w (ix3 c p n) + spread (tab2 (F := Ideal)) (ix3 c p n) * roll2 w (ix3 c p n))
      Consts.ofBits_zero
  simp only [e, tabK_at, tabH_at]
  simp only [sizeRows, List.mem_cons, Prod.mk.injEq, List.mem_nil_iff, or_false] at h
  rcases h with ⟨h0, h1, h2, h3, h4⟩ | ⟨h0, h1, h2, h3, h4⟩ | ⟨h0, h1, h2, h3, h4⟩
  · refine ⟨0, 11, 5, fun c p => ?_, by decide, by decide, h3, h4⟩
    rw [h0, h1, h2, Consts.ofBits_zero, Consts.ofBits_one, one_mul, zero_mul, zero_mul, zero_add, add_zero, add_zero]
  · refine ⟨1, 9, 4, fun c p => ?_, by decide, by decide, h3, h4⟩
    rw [h0, h1, h2, Consts.ofBits_zero, Consts.ofBits_one, one_mul, zero_mul, zero_mul, zero_add, zero_add, add_zero]
  · refine ⟨2, 7, 3, fun c p => ?_, by decide, by decide, h3, h4⟩
    rw [h0, h1, h2, Consts.ofBits_zero, Consts.ofBits_one, one_mul, zero_mul, zero_mul, zero_add, zero_add, zero_add]

end Cert.Equal

end
-- ==== Proof.Drawn.lean ====
/- What the precondition says: the taps beyond each kernel's size are zero, and no convolution value is zero. -/
module

public import proofs.«01_k».proof.Proof.RefConv
public import proofs.«01_k».proof.Proof.Gen.Pre_drawn

@[expose] public section

set_option maxRecDepth 16384

noncomputable section

namespace Cert.Pre_drawn.Read

open Cert.ReferenceIdeal Cert.ReferenceIdeal.Gen Cert.ReferenceIdeal.Conv Idealize.ShloMosaic Idealize.ShloMosaic.TcCoe Idealize.ShloMosaic.Tactic

variable {F : FTy → Type} [FloatOps F]

/-- Whether each tap is one of the kernel's or zero. -/
def known (ks : IVec S10000 32) (w : FVec F S10000x3x11 .f32) : IVec S10000x3x11 1 :=
  ori (broadcastInDim S10000x3x11 ![0, 1, 2] Cert.Pre_drawn.Gen.bcast_S10000x1x11_S10000x3x11_0_1_2
      (cmpi .slt
        (broadcastInDim Cert.Pre_drawn.S10000x1x11 ![0, 1, 2] Cert.Pre_drawn.Gen.bcast_S1x1x11_S10000x1x11_0_1_2
          (broadcastInDim Cert.Pre_drawn.S1x1x11 ![2] Cert.Pre_drawn.Gen.bcast_S11_S1x1x11_2 (iotaInDim S11 32 0)))
        (broadcastInDim Cert.Pre_drawn.S10000x1x11 ![0, 1, 2] Cert.Pre_drawn.Gen.bcast_S10000x1x1_S10000x1x11_0_1_2
          (broadcastInDim S10000x1x1 ![0] bcast_S10000_S10000x1x1_0 ks))))
    (cmpf .oeq w (broadcastInDim S10000x3x11 ![] Cert.Pre_drawn.Gen.bcast_S_S10000x3x11 (constant S_ .f32 0x00000000#32)))

/-- Whether each number is not zero. -/
def nonzero (o : FVec F S64x10000x1024 .f32) : IVec S64x10000x1024 1 :=
  cmpf .une o (broadcastInDim S64x10000x1024 ![] bcast_S_S64x10000x1024 (constant S_ .f32 0x00000000#32))

/-- The precondition's two arrays: its tables are the reference's. -/
theorem fn_eq (x : FVec F S64x3x1024 .f32) (w : FVec F S10000x3x11 .f32) (b : FVec F S10000 .f32) :
    Cert.Pre_drawn.fn x w b = (known tabK w, nonzero (conv tabK tabH tabD x w b)) := by
  sl_kernel_rfl

end Cert.Pre_drawn.Read

end
-- ==== Proof.RefFeatures.lean ====
/- The reference's two features and the precondition at one index, over the extended reals. -/
module

public import proofs.«01_k».proof.Proof.RefConv
public import proofs.«01_k».proof.Proof.Drawn
public import proofs.«01_k».proof.Proof.Consts
public import proofs.«01_k».proof.Proof.TileValue
public import Idealize.ShloMosaic.Lib.Pointwise

@[expose] public section

set_option maxRecDepth 16384

noncomputable section

namespace Cert.ReferenceIdeal.Conv

open Cert.Consts Cert.ReferenceIdeal Cert.ReferenceIdeal.Gen Idealize.ShloMosaic Idealize.ShloMosaic.TcCoe Idealize.ShloMosaic.Pointwise
open Cert.KernelIdeal.Tile Cert.Pre_drawn.Read

/-- The largest value over the times. -/
theorem top_at (o : FVec Ideal S64x10000x1024 .f32) (b : Fin 64) (n : Fin 10000) :
    (top o (ix2 b n) : EReal) = top1024 fun t => o (ix3 b n t) := by
  unfold top
  pointwise
  rw [ofBits_bot]
  rfl

/-- A truth value as a number. -/
theorem truth_number (P : Prop) [Decidable P] :
    (FloatOps.uitofp (F := Ideal) .f32 (BitVec.ofBool (decide P)) : EReal) = if P then 1 else 0 := by
  change (((BitVec.ofBool (decide P)).toNat : ℝ) : EReal) = _
  by_cases h : P <;> simp [h]

/-- A truth value is one if it is true. -/
theorem truth_one (P : Prop) [Decidable P] : BitVec.ofBool (decide P) = 1#1 ↔ P := by
  by_cases h : P <;> simp [h]

/-- The share of the positive values. -/
theorem share_at (o : FVec Ideal S64x10000x1024 .f32) (b : Fin 64) (n : Fin 10000) :
    (share o (ix2 b n) : EReal)
      = (((Finset.univ.filter fun t : Fin 1024 => (0 : EReal) < o (ix3 b n t)).card / 1024 : ℝ) : EReal) := by
  unfold share
  pointwise
  rw [ofBits_1024, Finset.sum_congr rfl fun t _ => truth_number (0 < (o (ix3 b n t) : EReal)), Finset.sum_boole]
  rw [Ideal.div_coe (by norm_num), ← EReal.coe_coe_eq_natCast, ← EReal.coe_mul, mul_one_div]

/-- If no number is zero, the share of the positive ones is one minus the share of the negative ones. -/
theorem share_split (f : Fin 1024 → EReal) (h : ∀ t, f t ≠ 0) :
    share1024 f = (((Finset.univ.filter fun t : Fin 1024 => 0 < f t).card / 1024 : ℝ) : EReal) := by
  have hc : (Finset.univ.filter fun t => f t < 0).card + (Finset.univ.filter fun t => 0 < f t).card = 1024 := by
    have hd := Finset.card_filter_add_card_filter_not (s := (Finset.univ : Finset (Fin 1024))) (fun t => f t < 0)
    have he : (Finset.univ.filter fun t => ¬ f t < 0) = Finset.univ.filter fun t => 0 < f t :=
      Finset.filter_congr fun t _ => ⟨fun e => lt_of_le_of_ne (not_lt.mp e) (h t).symm, fun e => not_lt.mpr e.le⟩
    rw [he] at hd
    simpa using hd
  have hr : ((Finset.univ.filter fun t => f t < 0).card : ℝ) + (Finset.univ.filter fun t => 0 < f t).card = 1024 := by
    exact_mod_cast hc
  unfold share1024
  rw [← EReal.coe_mul, ← EReal.coe_one, ← EReal.coe_sub]
  refine congrArg Real.toEReal ?_
  linarith

/-- A tap is known if it is one of the kernel's or zero. -/
theorem known_at (ks : IVec S10000 32) (w : FVec Ideal S10000x3x11 .f32) (n : Fin 10000) (c : Fin 3) (p : Fin 11) :
    known ks w (ix3 n c p) = 1#1 ↔ ((BitVec.ofNat 32 p.val).toInt < (ks (ix1 n)).toInt ∨ (w (ix3 n c p) : EReal) = 0) := by
  unfold known
  pointwise
  rw [IntOp.ori_eq_one, IntOp.cmpi_slt, truth_one]

/-- The test for being nonzero. -/
theorem nonzero_at (o : FVec Ideal S64x10000x1024 .f32) (b : Fin 64) (n : Fin 10000) (t : Fin 1024) :
    nonzero o (ix3 b n t) = 1#1 ↔ (o (ix3 b n t) : EReal) ≠ 0 := by
  unfold nonzero
  pointwise
  exact truth_one _

end Cert.ReferenceIdeal.Conv

end
-- ==== Proof.Equation.lean ====
/- Under the precondition the kernel's result is the reference's: the convolutions agree value by value, and so the two features
   and their interleaving. -/
module

public import proofs.«01_k».proof.Proof.Column
public import proofs.«01_k».proof.Proof.TableVals
public import proofs.«01_k».proof.Proof.RefFeatures

@[expose] public section

set_option maxRecDepth 16384

noncomputable section

namespace Cert.Equal

open Cert.KernelIdeal Cert.KernelIdeal.Gen Cert.KernelIdeal.Entry Cert.KernelIdeal.Body Cert.KernelIdeal.Tile Cert.KernelIdeal.Run
open Cert.ReferenceIdeal.Conv Cert.Pre_drawn.Read
open Cert.Tables Idealize.ShloMosaic Idealize.ShloMosaic.TcCoe Idealize.ShloMosaic.Pointwise

variable (x : FVec Ideal S64x3x1024 .f32) (w : FVec Ideal S10000x3x11 .f32) (bias : FVec Ideal S10000 .f32)

/-- The reference's convolution of the arguments. -/
abbrev refConv : FVec Ideal ReferenceIdeal.S64x10000x1024 .f32 :=
  conv tabK tabH ReferenceIdeal.Conv.tabD x w bias

/-- If the taps beyond each kernel's size are zero, each column of the kernel's products is the reference's convolution. -/
theorem column_conv (hw : known tabK w = fun _ => 1#1) (b : Fin 64) (n : Fin 10000) (t : Fin 1024) :
    colAt (signal (padded x) b) (tiled w bias) ⟨n.val, by omega⟩ t = refConv x w bias (ix3 b n t) := by
  obtain ⟨g, hD, hdil⟩ := dil_known n
  obtain ⟨s, k, h, hS, hs, hk, eK, eH⟩ := size_known w n
  have hd : 2 ^ g.val ≤ 16 := (by decide : ∀ g : Fin 5, 2 ^ g.val ≤ 16) g
  have small : ∀ j : ℕ, j ≤ 11 → (BitVec.ofNat 32 j).toInt = j := fun j hj => Counts.toInt_ofNat (by omega)
  have hz : ∀ (c : Fin 3) (p : Fin 11), k ≤ p.val → (w (ix3 n c p) : EReal) = 0 := by
    intro c p hp
    rcases (known_at tabK w n c p).mp (congrFun hw _) with e | e
    · rw [eK, small _ (by omega), small _ (by omega)] at e
      omega
    · exact e
  rw [column_sum x w bias b n t g s hD hS rows_known bias_known]
  refine Eq.trans ?_ (conv_at tabK tabH ReferenceIdeal.Conv.tabD x w bias b n t).symm
  refine congrArg (· + (bias (ix1 n) : EReal)) (Finset.sum_congr rfl fun c _ => ?_)
  rw [centre_sum x w b n t c s k h (2 ^ g.val) hs hk (hz c)]
  refine Finset.sum_congr rfl fun p _ => congrArg (· * (w (ix3 n c p) : EReal)) ?_
  exact (seen_ext tabK tabH ReferenceIdeal.Conv.tabD x b c n p t k h (2 ^ g.val) (by omega) (by omega) hd eK eH hdil).symm

/-- The first 10000 columns of a result array. -/
def cut (a : FVec Ideal S64x1x10240 .f32) : FVec Ideal S64x10000 .f32 :=
  shapeCast S64x10000 (extractStridedSlice S64x1x10000 ![0, 0, 0] a slices_S64x1x10240_S64x1x10000_0_0_0)
    shapeCasts_S64x1x10000_S64x10000

/-- The cut array at one index. -/
theorem cut_at (a : FVec Ideal S64x1x10240 .f32) (b : Fin 64) (n : Fin 10000) :
    cut a (ix2 b n) = a (ix3 b 0 ⟨n.val, by omega⟩) := by
  unfold cut
  pointwise

/-- Under the precondition the results agree. -/
theorem result_eq (hw : known tabK w = fun _ => 1#1) (ho : nonzero (refConv x w bias) = fun _ => 1#1) :
    KernelIdeal.Run.resultOf x w bias = ReferenceIdeal.Conv.resultOf x w bias := by
  have htop : cut (mxOf (padded x) (tiled w bias)) = top (refConv x w bias) := by
    funext j
    obtain ⟨b, n, rfl⟩ : ∃ (b : Fin 64) (n : Fin 10000), j = ix2 b n := ⟨_, _, eq_ix2 (n0 := 64) (n1 := 10000) j⟩
    rw [cut_at]
    refine Eq.trans ?_ (top_at _ _ _).symm
    exact congrArg top1024 (funext fun t => column_conv x w bias hw _ _ t)
  have hshare : cut (pvOf (padded x) (tiled w bias)) = share (refConv x w bias) := by
    funext j
    obtain ⟨b, n, rfl⟩ : ∃ (b : Fin 64) (n : Fin 10000), j = ix2 b n := ⟨_, _, eq_ix2 (n0 := 64) (n1 := 10000) j⟩
    rw [cut_at]
    refine Eq.trans ?_ (share_at _ _ _).symm
    rw [← share_split _ fun t => (nonzero_at _ _ _ t).mp (congrFun ho _)]
    exact congrArg share1024 (funext fun t => column_conv x w bias hw _ _ t)
  exact congrArg₂ zip htop hshare

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_drawn
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, leaves its arguments unchanged and every semaphore at zero. -/
theorem reference_frame : quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Of arguments that meet the precondition the two programs compute the same result. -/
theorem algebraic : algebraic_KernelIdeal_ReferenceIdeal_pre_drawn (hKernelIdeal := Cert.KernelIdeal.Gen.facts)
    (hReferenceIdeal := Cert.ReferenceIdeal.Gen.facts) (hPre_drawn := Cert.Pre_drawn.Gen.facts) := by
  intro m ρ m' ρ' hpre hagree
  refine ⟨_, Cert.KernelIdeal.Run.run m ρ, ?_⟩
  refine (θ_run (Cert.ReferenceIdeal.defs (F := Ideal)) _ _).mono (fun _ h c => ⟨(h c).1.trans ?_, (h c).2⟩)
    (Cert.ReferenceIdeal.Value.run (F := Ideal) m' ρ')
  have hp := hpre c
  rw [Cert.Pre_drawn.Read.fn_eq] at hp
  rw [Cert.ReferenceIdeal.Conv.res_eq, (hagree c).1, (hagree c).2.1, (hagree c).2.2]
  exact (Cert.Equal.result_eq _ _ _ hp.1 hp.2).symm

/-- Every claim. -/
theorem claim : Cert.Claim := ⟨Cert.Kernel.Gen.facts, Cert.KernelIdeal.Gen.facts, Cert.ReferenceIdeal.Gen.facts,
  Cert.Pre_drawn.Gen.facts, fun m ρ _ => Cert.Kernel.Gen.frame m ρ, fun m ρ _ => Cert.KernelIdeal.Gen.frame m ρ,
  fun m ρ _ => Cert.KernelIdeal.Gen.frame m ρ, reference_frame, fun m ρ _ => reference_frame m ρ trivial,
  IdealRules.sign_bit.maskStatement _ _, algebraic⟩

end Cert.Proof

end
